-- ==== Defs.lean ====
def Pre_SiluBwd (m : (ℓ : Loc Cert.SiluBwd.nD Cert.SiluBwd.τ Cert.SiluBwd.sig) → Buf (Elt Bits) ℓ) : Prop :=
  True

def Pre_SiluBwdIdeal (m : (ℓ : Loc Cert.SiluBwdIdeal.nD Cert.SiluBwdIdeal.τ Cert.SiluBwdIdeal.sig) → Buf (Elt Ideal) ℓ) : Prop :=
  True

def Pre_SiluBwdIdeal_silu_bwd_finite [hPre_silu_bwd_finite : Cert.Pre_silu_bwd_finite.Facts] (m : (ℓ : Loc Cert.SiluBwdIdeal.nD Cert.SiluBwdIdeal.τ Cert.SiluBwdIdeal.sig) → Buf (Elt Ideal) ℓ) : Prop :=
  ∀ c : Dev Cert.SiluBwdIdeal.nD,
    (Cert.Pre_silu_bwd_finite.fn (F := Ideal) (m ((c.tc : Thread Cert.SiluBwdIdeal.nD Cert.SiluBwdIdeal.τ).loc Cert.SiluBwdIdeal.main_arg0)) (m ((c.tc : Thread Cert.SiluBwdIdeal.nD Cert.SiluBwdIdeal.τ).loc Cert.SiluBwdIdeal.main_arg1))) = (fun _ => 1#1)

def Pre_SiluBwdReferenceIdeal (m : (ℓ : Loc Cert.SiluBwdReferenceIdeal.nD Cert.SiluBwdReferenceIdeal.τ Cert.SiluBwdReferenceIdeal.sig) → Buf (Elt Ideal) ℓ) : Prop :=
  True

def Pre_SiluBwdReferenceIdeal_silu_bwd_finite [hPre_silu_bwd_finite : Cert.Pre_silu_bwd_finite.Facts] (m : (ℓ : Loc Cert.SiluBwdReferenceIdeal.nD Cert.SiluBwdReferenceIdeal.τ Cert.SiluBwdReferenceIdeal.sig) → Buf (Elt Ideal) ℓ) : Prop :=
  ∀ c : Dev Cert.SiluBwdReferenceIdeal.nD,
    (Cert.Pre_silu_bwd_finite.fn (F := Ideal) (m ((c.tc : Thread Cert.SiluBwdReferenceIdeal.nD Cert.SiluBwdReferenceIdeal.τ).loc Cert.SiluBwdReferenceIdeal.main_arg0)) (m ((c.tc : Thread Cert.SiluBwdReferenceIdeal.nD Cert.SiluBwdReferenceIdeal.τ).loc Cert.SiluBwdReferenceIdeal.main_arg1))) = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_mla_bwd_finite [hPre_mla_bwd_finite : Cert.Pre_mla_bwd_finite.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_mla_bwd_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).1 = (fun _ => 1#1)
    ∧ (Cert.Pre_mla_bwd_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.1 = (fun _ => 1#1)
    ∧ (Cert.Pre_mla_bwd_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.1 = (fun _ => 1#1)
    ∧ (Cert.Pre_mla_bwd_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.1 = (fun _ => 1#1)
    ∧ (Cert.Pre_mla_bwd_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.2.1 = (fun _ => 1#1)
    ∧ (Cert.Pre_mla_bwd_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.2.2 = (fun _ => 1#1)

def Pre_MlaBwdReferenceIdeal (m : (ℓ : Loc Cert.MlaBwdReferenceIdeal.nD Cert.MlaBwdReferenceIdeal.τ Cert.MlaBwdReferenceIdeal.sig) → Buf (Elt Ideal) ℓ) : Prop :=
  True

def Pre_MlaBwdReferenceIdeal_mla_bwd_finite [hPre_mla_bwd_finite : Cert.Pre_mla_bwd_finite.Facts] (m : (ℓ : Loc Cert.MlaBwdReferenceIdeal.nD Cert.MlaBwdReferenceIdeal.τ Cert.MlaBwdReferenceIdeal.sig) → Buf (Elt Ideal) ℓ) : Prop :=
  ∀ c : Dev Cert.MlaBwdReferenceIdeal.nD,
    (Cert.Pre_mla_bwd_finite.fn (F := Ideal) (m ((c.tc : Thread Cert.MlaBwdReferenceIdeal.nD Cert.MlaBwdReferenceIdeal.τ).loc Cert.MlaBwdReferenceIdeal.main_arg0)) (m ((c.tc : Thread Cert.MlaBwdReferenceIdeal.nD Cert.MlaBwdReferenceIdeal.τ).loc Cert.MlaBwdReferenceIdeal.main_arg1)) (m ((c.tc : Thread Cert.MlaBwdReferenceIdeal.nD Cert.MlaBwdReferenceIdeal.τ).loc Cert.MlaBwdReferenceIdeal.main_arg2)) (m ((c.tc : Thread Cert.MlaBwdReferenceIdeal.nD Cert.MlaBwdReferenceIdeal.τ).loc Cert.MlaBwdReferenceIdeal.main_arg3)) (m ((c.tc : Thread Cert.MlaBwdReferenceIdeal.nD Cert.MlaBwdReferenceIdeal.τ).loc Cert.MlaBwdReferenceIdeal.main_arg4)) (m ((c.tc : Thread Cert.MlaBwdReferenceIdeal.nD Cert.MlaBwdReferenceIdeal.τ).loc Cert.MlaBwdReferenceIdeal.main_arg5))).1 = (fun _ => 1#1)
    ∧ (Cert.Pre_mla_bwd_finite.fn (F := Ideal) (m ((c.tc : Thread Cert.MlaBwdReferenceIdeal.nD Cert.MlaBwdReferenceIdeal.τ).loc Cert.MlaBwdReferenceIdeal.main_arg0)) (m ((c.tc : Thread Cert.MlaBwdReferenceIdeal.nD Cert.MlaBwdReferenceIdeal.τ).loc Cert.MlaBwdReferenceIdeal.main_arg1)) (m ((c.tc : Thread Cert.MlaBwdReferenceIdeal.nD Cert.MlaBwdReferenceIdeal.τ).loc Cert.MlaBwdReferenceIdeal.main_arg2)) (m ((c.tc : Thread Cert.MlaBwdReferenceIdeal.nD Cert.MlaBwdReferenceIdeal.τ).loc Cert.MlaBwdReferenceIdeal.main_arg3)) (m ((c.tc : Thread Cert.MlaBwdReferenceIdeal.nD Cert.MlaBwdReferenceIdeal.τ).loc Cert.MlaBwdReferenceIdeal.main_arg4)) (m ((c.tc : Thread Cert.MlaBwdReferenceIdeal.nD Cert.MlaBwdReferenceIdeal.τ).loc Cert.MlaBwdReferenceIdeal.main_arg5))).2.1 = (fun _ => 1#1)
    ∧ (Cert.Pre_mla_bwd_finite.fn (F := Ideal) (m ((c.tc : Thread Cert.MlaBwdReferenceIdeal.nD Cert.MlaBwdReferenceIdeal.τ).loc Cert.MlaBwdReferenceIdeal.main_arg0)) (m ((c.tc : Thread Cert.MlaBwdReferenceIdeal.nD Cert.MlaBwdReferenceIdeal.τ).loc Cert.MlaBwdReferenceIdeal.main_arg1)) (m ((c.tc : Thread Cert.MlaBwdReferenceIdeal.nD Cert.MlaBwdReferenceIdeal.τ).loc Cert.MlaBwdReferenceIdeal.main_arg2)) (m ((c.tc : Thread Cert.MlaBwdReferenceIdeal.nD Cert.MlaBwdReferenceIdeal.τ).loc Cert.MlaBwdReferenceIdeal.main_arg3)) (m ((c.tc : Thread Cert.MlaBwdReferenceIdeal.nD Cert.MlaBwdReferenceIdeal.τ).loc Cert.MlaBwdReferenceIdeal.main_arg4)) (m ((c.tc : Thread Cert.MlaBwdReferenceIdeal.nD Cert.MlaBwdReferenceIdeal.τ).loc Cert.MlaBwdReferenceIdeal.main_arg5))).2.2.1 = (fun _ => 1#1)
    ∧ (Cert.Pre_mla_bwd_finite.fn (F := Ideal) (m ((c.tc : Thread Cert.MlaBwdReferenceIdeal.nD Cert.MlaBwdReferenceIdeal.τ).loc Cert.MlaBwdReferenceIdeal.main_arg0)) (m ((c.tc : Thread Cert.MlaBwdReferenceIdeal.nD Cert.MlaBwdReferenceIdeal.τ).loc Cert.MlaBwdReferenceIdeal.main_arg1)) (m ((c.tc : Thread Cert.MlaBwdReferenceIdeal.nD Cert.MlaBwdReferenceIdeal.τ).loc Cert.MlaBwdReferenceIdeal.main_arg2)) (m ((c.tc : Thread Cert.MlaBwdReferenceIdeal.nD Cert.MlaBwdReferenceIdeal.τ).loc Cert.MlaBwdReferenceIdeal.main_arg3)) (m ((c.tc : Thread Cert.MlaBwdReferenceIdeal.nD Cert.MlaBwdReferenceIdeal.τ).loc Cert.MlaBwdReferenceIdeal.main_arg4)) (m ((c.tc : Thread Cert.MlaBwdReferenceIdeal.nD Cert.MlaBwdReferenceIdeal.τ).loc Cert.MlaBwdReferenceIdeal.main_arg5))).2.2.2.1 = (fun _ => 1#1)
    ∧ (Cert.Pre_mla_bwd_finite.fn (F := Ideal) (m ((c.tc : Thread Cert.MlaBwdReferenceIdeal.nD Cert.MlaBwdReferenceIdeal.τ).loc Cert.MlaBwdReferenceIdeal.main_arg0)) (m ((c.tc : Thread Cert.MlaBwdReferenceIdeal.nD Cert.MlaBwdReferenceIdeal.τ).loc Cert.MlaBwdReferenceIdeal.main_arg1)) (m ((c.tc : Thread Cert.MlaBwdReferenceIdeal.nD Cert.MlaBwdReferenceIdeal.τ).loc Cert.MlaBwdReferenceIdeal.main_arg2)) (m ((c.tc : Thread Cert.MlaBwdReferenceIdeal.nD Cert.MlaBwdReferenceIdeal.τ).loc Cert.MlaBwdReferenceIdeal.main_arg3)) (m ((c.tc : Thread Cert.MlaBwdReferenceIdeal.nD Cert.MlaBwdReferenceIdeal.τ).loc Cert.MlaBwdReferenceIdeal.main_arg4)) (m ((c.tc : Thread Cert.MlaBwdReferenceIdeal.nD Cert.MlaBwdReferenceIdeal.τ).loc Cert.MlaBwdReferenceIdeal.main_arg5))).2.2.2.2.1 = (fun _ => 1#1)
    ∧ (Cert.Pre_mla_bwd_finite.fn (F := Ideal) (m ((c.tc : Thread Cert.MlaBwdReferenceIdeal.nD Cert.MlaBwdReferenceIdeal.τ).loc Cert.MlaBwdReferenceIdeal.main_arg0)) (m ((c.tc : Thread Cert.MlaBwdReferenceIdeal.nD Cert.MlaBwdReferenceIdeal.τ).loc Cert.MlaBwdReferenceIdeal.main_arg1)) (m ((c.tc : Thread Cert.MlaBwdReferenceIdeal.nD Cert.MlaBwdReferenceIdeal.τ).loc Cert.MlaBwdReferenceIdeal.main_arg2)) (m ((c.tc : Thread Cert.MlaBwdReferenceIdeal.nD Cert.MlaBwdReferenceIdeal.τ).loc Cert.MlaBwdReferenceIdeal.main_arg3)) (m ((c.tc : Thread Cert.MlaBwdReferenceIdeal.nD Cert.MlaBwdReferenceIdeal.τ).loc Cert.MlaBwdReferenceIdeal.main_arg4)) (m ((c.tc : Thread Cert.MlaBwdReferenceIdeal.nD Cert.MlaBwdReferenceIdeal.τ).loc Cert.MlaBwdReferenceIdeal.main_arg5))).2.2.2.2.2 = (fun _ => 1#1)

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdReferenceIdeal (m : (ℓ : Loc Cert.ModBwdReferenceIdeal.nD Cert.ModBwdReferenceIdeal.τ Cert.ModBwdReferenceIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossReferenceIdeal (m : (ℓ : Loc Cert.FinalLossReferenceIdeal.nD Cert.FinalLossReferenceIdeal.τ Cert.FinalLossReferenceIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdReferenceIdeal (m : (ℓ : Loc Cert.FfnBwdReferenceIdeal.nD Cert.FfnBwdReferenceIdeal.τ Cert.FfnBwdReferenceIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_out_bwd_finite [hPre_out_bwd_finite : Cert.Pre_out_bwd_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).1 = (fun _ => 1#1)
    ∧ (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).2.1 = (fun _ => 1#1)
    ∧ (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).2.2.1 = (fun _ => 1#1)
    ∧ (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).2.2.2.1 = (fun _ => 1#1)
    ∧ (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).2.2.2.2.1 = (fun _ => 1#1)
    ∧ (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).2.2.2.2.2.1 = (fun _ => 1#1)
    ∧ (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).2.2.2.2.2.2.1 = (fun _ => 1#1)
    ∧ (Cert.Pre_out_bwd_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7)) (m ((c.tc : Thread Cert.OutBwdIdeal.nD Cert.OutBwdIdeal.τ).loc Cert.OutBwdIdeal.main_arg8)) (m ((c.tc : Thread Cert.OutBwdIdeal.nD Cert.OutBwdIdeal.τ).loc Cert.OutBwdIdeal.main_arg9)) (m ((c.tc : Thread Cert.OutBwdIdeal.nD Cert.OutBwdIdeal.τ).loc Cert.OutBwdIdeal.main_arg10))).2.2.2.2.2.2.2 = (fun _ => 1#1)

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_OutBwdReferenceIdeal_out_bwd_finite [hPre_out_bwd_finite : Cert.Pre_out_bwd_finite.Facts] (m : (ℓ : Loc Cert.OutBwdReferenceIdeal.nD Cert.OutBwdReferenceIdeal.τ Cert.OutBwdReferenceIdeal.sig) → Buf (Elt Ideal) ℓ) : Prop :=
  ∀ c : Dev Cert.OutBwdReferenceIdeal.nD,
    (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).1 = (fun _ => 1#1)
    ∧ (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).2.1 = (fun _ => 1#1)
    ∧ (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).2.2.1 = (fun _ => 1#1)
    ∧ (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).2.2.2.1 = (fun _ => 1#1)
    ∧ (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).2.2.2.2.1 = (fun _ => 1#1)
    ∧ (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).2.2.2.2.2.1 = (fun _ => 1#1)
    ∧ (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).2.2.2.2.2.2.1 = (fun _ => 1#1)
    ∧ (Cert.Pre_out_bwd_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6)) (m ((c.tc : Thread Cert.OutBwdReferenceIdeal.nD Cert.OutBwdReferenceIdeal.τ).loc Cert.OutBwdReferenceIdeal.main_arg7)) (m ((c.tc : Thread Cert.OutBwdReferenceIdeal.nD Cert.OutBwdReferenceIdeal.τ).loc Cert.OutBwdReferenceIdeal.main_arg8)) (m ((c.tc : Thread Cert.OutBwdReferenceIdeal.nD Cert.OutBwdReferenceIdeal.τ).loc Cert.OutBwdReferenceIdeal.main_arg9)) (m ((c.tc : Thread Cert.OutBwdReferenceIdeal.nD Cert.OutBwdReferenceIdeal.τ).loc Cert.OutBwdReferenceIdeal.main_arg10))).2.2.2.2.2.2.2 = (fun _ => 1#1)

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdReferenceIdeal (m : (ℓ : Loc Cert.ModFwdReferenceIdeal.nD Cert.ModFwdReferenceIdeal.τ Cert.ModFwdReferenceIdeal.sig) → Buf (Elt Ideal) ℓ) : Prop :=
  True

def Pre_OutFfnFwd (m : (ℓ : Loc Cert.OutFfnFwd.nD Cert.OutFfnFwd.τ Cert.OutFfnFwd.sig) → Buf (Elt Bits) ℓ) : Prop :=
  True

def Pre_OutFfnFwdIdeal (m : (ℓ : Loc Cert.OutFfnFwdIdeal.nD Cert.OutFfnFwdIdeal.τ Cert.OutFfnFwdIdeal.sig) → Buf (Elt Ideal) ℓ) : Prop :=
  True

def Pre_OutFfnFwdReferenceIdeal (m : (ℓ : Loc Cert.OutFfnFwdReferenceIdeal.nD Cert.OutFfnFwdReferenceIdeal.τ Cert.OutFfnFwdReferenceIdeal.sig) → Buf (Elt Ideal) ℓ) : Prop :=
  True

def Pre_AdamwMod (m : (ℓ : Loc Cert.AdamwMod.nD Cert.AdamwMod.τ Cert.AdamwMod.sig) → Buf (Elt Bits) ℓ) : Prop :=
  True

def Pre_AdamwModIdeal (m : (ℓ : Loc Cert.AdamwModIdeal.nD Cert.AdamwModIdeal.τ Cert.AdamwModIdeal.sig) → Buf (Elt Ideal) ℓ) : Prop :=
  True

def Pre_AdamwModReferenceIdeal (m : (ℓ : Loc Cert.AdamwModReferenceIdeal.nD Cert.AdamwModReferenceIdeal.τ Cert.AdamwModReferenceIdeal.sig) → Buf (Elt Ideal) ℓ) : Prop :=
  True

def Pre_AdamwFf1 (m : (ℓ : Loc Cert.AdamwFf1.nD Cert.AdamwFf1.τ Cert.AdamwFf1.sig) → Buf (Elt Bits) ℓ) : Prop :=
  True

def Pre_AdamwFf1Ideal (m : (ℓ : Loc Cert.AdamwFf1Ideal.nD Cert.AdamwFf1Ideal.τ Cert.AdamwFf1Ideal.sig) → Buf (Elt Ideal) ℓ) : Prop :=
  True

def Pre_AdamwFf1ReferenceIdeal (m : (ℓ : Loc Cert.AdamwFf1ReferenceIdeal.nD Cert.AdamwFf1ReferenceIdeal.τ Cert.AdamwFf1ReferenceIdeal.sig) → Buf (Elt Ideal) ℓ) : Prop :=
  True

def quiescent_SiluBwd [hSiluBwd : Cert.SiluBwd.Facts] : Prop :=
  ∀ (m : (ℓ : Loc Cert.SiluBwd.nD Cert.SiluBwd.τ Cert.SiluBwd.sig) → Buf (Elt Bits) ℓ) (g : Dev Cert.SiluBwd.nD → PrngReg), Pre_SiluBwd m →
    θ_run (Cert.SiluBwd.defs (F := Bits)) (onTc (τ := Cert.SiluBwd.τ) (Cert.SiluBwd.main (F := Bits))) ⟨m, fun _ => 0, g⟩ (fun r => (∀ c : Dev Cert.SiluBwd.nD,
      r.2.mem ((c.tc : Thread Cert.SiluBwd.nD Cert.SiluBwd.τ).loc Cert.SiluBwd.main_arg0) = m ((c.tc : Thread Cert.SiluBwd.nD Cert.SiluBwd.τ).loc Cert.SiluBwd.main_arg0)
      ∧ r.2.mem ((c.tc : Thread Cert.SiluBwd.nD Cert.SiluBwd.τ).loc Cert.SiluBwd.main_arg1) = m ((c.tc : Thread Cert.SiluBwd.nD Cert.SiluBwd.τ).loc Cert.SiluBwd.main_arg1))
      ∧ r.2.sem = fun _ => 0)

def quiescent_SiluBwdIdeal [hSiluBwdIdeal : Cert.SiluBwdIdeal.Facts] : Prop :=
  ∀ (m : (ℓ : Loc Cert.SiluBwdIdeal.nD Cert.SiluBwdIdeal.τ Cert.SiluBwdIdeal.sig) → Buf (Elt Ideal) ℓ) (g : Dev Cert.SiluBwdIdeal.nD → PrngReg), Pre_SiluBwdIdeal m →
    θ_run (Cert.SiluBwdIdeal.defs (F := Ideal)) (onTc (τ := Cert.SiluBwdIdeal.τ) (Cert.SiluBwdIdeal.main (F := Ideal))) ⟨m, fun _ => 0, g⟩ (fun r => (∀ c : Dev Cert.SiluBwdIdeal.nD,
      r.2.mem ((c.tc : Thread Cert.SiluBwdIdeal.nD Cert.SiluBwdIdeal.τ).loc Cert.SiluBwdIdeal.main_arg0) = m ((c.tc : Thread Cert.SiluBwdIdeal.nD Cert.SiluBwdIdeal.τ).loc Cert.SiluBwdIdeal.main_arg0)
      ∧ r.2.mem ((c.tc : Thread Cert.SiluBwdIdeal.nD Cert.SiluBwdIdeal.τ).loc Cert.SiluBwdIdeal.main_arg1) = m ((c.tc : Thread Cert.SiluBwdIdeal.nD Cert.SiluBwdIdeal.τ).loc Cert.SiluBwdIdeal.main_arg1))
      ∧ r.2.sem = fun _ => 0)

def quiescent_SiluBwdIdeal_pre_silu_bwd_finite [hSiluBwdIdeal : Cert.SiluBwdIdeal.Facts] [hPre_silu_bwd_finite : Cert.Pre_silu_bwd_finite.Facts] : Prop :=
  ∀ (m : (ℓ : Loc Cert.SiluBwdIdeal.nD Cert.SiluBwdIdeal.τ Cert.SiluBwdIdeal.sig) → Buf (Elt Ideal) ℓ) (g : Dev Cert.SiluBwdIdeal.nD → PrngReg), Pre_SiluBwdIdeal_silu_bwd_finite m →
    θ_run (Cert.SiluBwdIdeal.defs (F := Ideal)) (onTc (τ := Cert.SiluBwdIdeal.τ) (Cert.SiluBwdIdeal.main (F := Ideal))) ⟨m, fun _ => 0, g⟩ (fun r => (∀ c : Dev Cert.SiluBwdIdeal.nD,
      r.2.mem ((c.tc : Thread Cert.SiluBwdIdeal.nD Cert.SiluBwdIdeal.τ).loc Cert.SiluBwdIdeal.main_arg0) = m ((c.tc : Thread Cert.SiluBwdIdeal.nD Cert.SiluBwdIdeal.τ).loc Cert.SiluBwdIdeal.main_arg0)
      ∧ r.2.mem ((c.tc : Thread Cert.SiluBwdIdeal.nD Cert.SiluBwdIdeal.τ).loc Cert.SiluBwdIdeal.main_arg1) = m ((c.tc : Thread Cert.SiluBwdIdeal.nD Cert.SiluBwdIdeal.τ).loc Cert.SiluBwdIdeal.main_arg1))
      ∧ r.2.sem = fun _ => 0)

def quiescent_SiluBwdReferenceIdeal [hSiluBwdReferenceIdeal : Cert.SiluBwdReferenceIdeal.Facts] : Prop :=
  ∀ (m : (ℓ : Loc Cert.SiluBwdReferenceIdeal.nD Cert.SiluBwdReferenceIdeal.τ Cert.SiluBwdReferenceIdeal.sig) → Buf (Elt Ideal) ℓ) (g : Dev Cert.SiluBwdReferenceIdeal.nD → PrngReg), Pre_SiluBwdReferenceIdeal m →
    θ_run (Cert.SiluBwdReferenceIdeal.defs (F := Ideal)) (onTc (τ := Cert.SiluBwdReferenceIdeal.τ) (Cert.SiluBwdReferenceIdeal.main (F := Ideal))) ⟨m, fun _ => 0, g⟩ (fun r => (∀ c : Dev Cert.SiluBwdReferenceIdeal.nD,
      r.2.mem ((c.tc : Thread Cert.SiluBwdReferenceIdeal.nD Cert.SiluBwdReferenceIdeal.τ).loc Cert.SiluBwdReferenceIdeal.main_arg0) = m ((c.tc : Thread Cert.SiluBwdReferenceIdeal.nD Cert.SiluBwdReferenceIdeal.τ).loc Cert.SiluBwdReferenceIdeal.main_arg0)
      ∧ r.2.mem ((c.tc : Thread Cert.SiluBwdReferenceIdeal.nD Cert.SiluBwdReferenceIdeal.τ).loc Cert.SiluBwdReferenceIdeal.main_arg1) = m ((c.tc : Thread Cert.SiluBwdReferenceIdeal.nD Cert.SiluBwdReferenceIdeal.τ).loc Cert.SiluBwdReferenceIdeal.main_arg1))
      ∧ r.2.sem = fun _ => 0)

def quiescent_SiluBwdReferenceIdeal_pre_silu_bwd_finite [hSiluBwdReferenceIdeal : Cert.SiluBwdReferenceIdeal.Facts] [hPre_silu_bwd_finite : Cert.Pre_silu_bwd_finite.Facts] : Prop :=
  ∀ (m : (ℓ : Loc Cert.SiluBwdReferenceIdeal.nD Cert.SiluBwdReferenceIdeal.τ Cert.SiluBwdReferenceIdeal.sig) → Buf (Elt Ideal) ℓ) (g : Dev Cert.SiluBwdReferenceIdeal.nD → PrngReg), Pre_SiluBwdReferenceIdeal_silu_bwd_finite m →
    θ_run (Cert.SiluBwdReferenceIdeal.defs (F := Ideal)) (onTc (τ := Cert.SiluBwdReferenceIdeal.τ) (Cert.SiluBwdReferenceIdeal.main (F := Ideal))) ⟨m, fun _ => 0, g⟩ (fun r => (∀ c : Dev Cert.SiluBwdReferenceIdeal.nD,
      r.2.mem ((c.tc : Thread Cert.SiluBwdReferenceIdeal.nD Cert.SiluBwdReferenceIdeal.τ).loc Cert.SiluBwdReferenceIdeal.main_arg0) = m ((c.tc : Thread Cert.SiluBwdReferenceIdeal.nD Cert.SiluBwdReferenceIdeal.τ).loc Cert.SiluBwdReferenceIdeal.main_arg0)
      ∧ r.2.mem ((c.tc : Thread Cert.SiluBwdReferenceIdeal.nD Cert.SiluBwdReferenceIdeal.τ).loc Cert.SiluBwdReferenceIdeal.main_arg1) = m ((c.tc : Thread Cert.SiluBwdReferenceIdeal.nD Cert.SiluBwdReferenceIdeal.τ).loc Cert.SiluBwdReferenceIdeal.main_arg1))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ r.2.sem = fun _ => 0)

def quiescent_MlaBwdIdeal_pre_mla_bwd_finite [hMlaBwdIdeal : Cert.MlaBwdIdeal.Facts] [hPre_mla_bwd_finite : Cert.Pre_mla_bwd_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_mla_bwd_finite m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ r.2.sem = fun _ => 0)

def quiescent_MlaBwdReferenceIdeal [hMlaBwdReferenceIdeal : Cert.MlaBwdReferenceIdeal.Facts] : Prop :=
  ∀ (m : (ℓ : Loc Cert.MlaBwdReferenceIdeal.nD Cert.MlaBwdReferenceIdeal.τ Cert.MlaBwdReferenceIdeal.sig) → Buf (Elt Ideal) ℓ) (g : Dev Cert.MlaBwdReferenceIdeal.nD → PrngReg), Pre_MlaBwdReferenceIdeal m →
    θ_run (Cert.MlaBwdReferenceIdeal.defs (F := Ideal)) (onTc (τ := Cert.MlaBwdReferenceIdeal.τ) (Cert.MlaBwdReferenceIdeal.main (F := Ideal))) ⟨m, fun _ => 0, g⟩ (fun r => (∀ c : Dev Cert.MlaBwdReferenceIdeal.nD,
      r.2.mem ((c.tc : Thread Cert.MlaBwdReferenceIdeal.nD Cert.MlaBwdReferenceIdeal.τ).loc Cert.MlaBwdReferenceIdeal.main_arg0) = m ((c.tc : Thread Cert.MlaBwdReferenceIdeal.nD Cert.MlaBwdReferenceIdeal.τ).loc Cert.MlaBwdReferenceIdeal.main_arg0)
      ∧ r.2.mem ((c.tc : Thread Cert.MlaBwdReferenceIdeal.nD Cert.MlaBwdReferenceIdeal.τ).loc Cert.MlaBwdReferenceIdeal.main_arg1) = m ((c.tc : Thread Cert.MlaBwdReferenceIdeal.nD Cert.MlaBwdReferenceIdeal.τ).loc Cert.MlaBwdReferenceIdeal.main_arg1)
      ∧ r.2.mem ((c.tc : Thread Cert.MlaBwdReferenceIdeal.nD Cert.MlaBwdReferenceIdeal.τ).loc Cert.MlaBwdReferenceIdeal.main_arg2) = m ((c.tc : Thread Cert.MlaBwdReferenceIdeal.nD Cert.MlaBwdReferenceIdeal.τ).loc Cert.MlaBwdReferenceIdeal.main_arg2)
      ∧ r.2.mem ((c.tc : Thread Cert.MlaBwdReferenceIdeal.nD Cert.MlaBwdReferenceIdeal.τ).loc Cert.MlaBwdReferenceIdeal.main_arg3) = m ((c.tc : Thread Cert.MlaBwdReferenceIdeal.nD Cert.MlaBwdReferenceIdeal.τ).loc Cert.MlaBwdReferenceIdeal.main_arg3)
      ∧ r.2.mem ((c.tc : Thread Cert.MlaBwdReferenceIdeal.nD Cert.MlaBwdReferenceIdeal.τ).loc Cert.MlaBwdReferenceIdeal.main_arg4) = m ((c.tc : Thread Cert.MlaBwdReferenceIdeal.nD Cert.MlaBwdReferenceIdeal.τ).loc Cert.MlaBwdReferenceIdeal.main_arg4)
      ∧ r.2.mem ((c.tc : Thread Cert.MlaBwdReferenceIdeal.nD Cert.MlaBwdReferenceIdeal.τ).loc Cert.MlaBwdReferenceIdeal.main_arg5) = m ((c.tc : Thread Cert.MlaBwdReferenceIdeal.nD Cert.MlaBwdReferenceIdeal.τ).loc Cert.MlaBwdReferenceIdeal.main_arg5))
      ∧ r.2.sem = fun _ => 0)

def quiescent_MlaBwdReferenceIdeal_pre_mla_bwd_finite [hMlaBwdReferenceIdeal : Cert.MlaBwdReferenceIdeal.Facts] [hPre_mla_bwd_finite : Cert.Pre_mla_bwd_finite.Facts] : Prop :=
  ∀ (m : (ℓ : Loc Cert.MlaBwdReferenceIdeal.nD Cert.MlaBwdReferenceIdeal.τ Cert.MlaBwdReferenceIdeal.sig) → Buf (Elt Ideal) ℓ) (g : Dev Cert.MlaBwdReferenceIdeal.nD → PrngReg), Pre_MlaBwdReferenceIdeal_mla_bwd_finite m →
    θ_run (Cert.MlaBwdReferenceIdeal.defs (F := Ideal)) (onTc (τ := Cert.MlaBwdReferenceIdeal.τ) (Cert.MlaBwdReferenceIdeal.main (F := Ideal))) ⟨m, fun _ => 0, g⟩ (fun r => (∀ c : Dev Cert.MlaBwdReferenceIdeal.nD,
      r.2.mem ((c.tc : Thread Cert.MlaBwdReferenceIdeal.nD Cert.MlaBwdReferenceIdeal.τ).loc Cert.MlaBwdReferenceIdeal.main_arg0) = m ((c.tc : Thread Cert.MlaBwdReferenceIdeal.nD Cert.MlaBwdReferenceIdeal.τ).loc Cert.MlaBwdReferenceIdeal.main_arg0)
      ∧ r.2.mem ((c.tc : Thread Cert.MlaBwdReferenceIdeal.nD Cert.MlaBwdReferenceIdeal.τ).loc Cert.MlaBwdReferenceIdeal.main_arg1) = m ((c.tc : Thread Cert.MlaBwdReferenceIdeal.nD Cert.MlaBwdReferenceIdeal.τ).loc Cert.MlaBwdReferenceIdeal.main_arg1)
      ∧ r.2.mem ((c.tc : Thread Cert.MlaBwdReferenceIdeal.nD Cert.MlaBwdReferenceIdeal.τ).loc Cert.MlaBwdReferenceIdeal.main_arg2) = m ((c.tc : Thread Cert.MlaBwdReferenceIdeal.nD Cert.MlaBwdReferenceIdeal.τ).loc Cert.MlaBwdReferenceIdeal.main_arg2)
      ∧ r.2.mem ((c.tc : Thread Cert.MlaBwdReferenceIdeal.nD Cert.MlaBwdReferenceIdeal.τ).loc Cert.MlaBwdReferenceIdeal.main_arg3) = m ((c.tc : Thread Cert.MlaBwdReferenceIdeal.nD Cert.MlaBwdReferenceIdeal.τ).loc Cert.MlaBwdReferenceIdeal.main_arg3)
      ∧ r.2.mem ((c.tc : Thread Cert.MlaBwdReferenceIdeal.nD Cert.MlaBwdReferenceIdeal.τ).loc Cert.MlaBwdReferenceIdeal.main_arg4) = m ((c.tc : Thread Cert.MlaBwdReferenceIdeal.nD Cert.MlaBwdReferenceIdeal.τ).loc Cert.MlaBwdReferenceIdeal.main_arg4)
      ∧ r.2.mem ((c.tc : Thread Cert.MlaBwdReferenceIdeal.nD Cert.MlaBwdReferenceIdeal.τ).loc Cert.MlaBwdReferenceIdeal.main_arg5) = m ((c.tc : Thread Cert.MlaBwdReferenceIdeal.nD Cert.MlaBwdReferenceIdeal.τ).loc Cert.MlaBwdReferenceIdeal.main_arg5))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3)
      ∧ r.2.mem ((c.tc : Thread Cert.ModBwd.nD Cert.ModBwd.τ).loc Cert.ModBwd.main_arg4) = m ((c.tc : Thread Cert.ModBwd.nD Cert.ModBwd.τ).loc Cert.ModBwd.main_arg4))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
      ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ r.2.sem = fun _ => 0)

def quiescent_ModBwdReferenceIdeal [hModBwdReferenceIdeal : Cert.ModBwdReferenceIdeal.Facts] : Prop :=
  ∀ (m : (ℓ : Loc Cert.ModBwdReferenceIdeal.nD Cert.ModBwdReferenceIdeal.τ Cert.ModBwdReferenceIdeal.sig) → Buf (Elt Ideal) ℓ) (g : Dev Cert.ModBwdReferenceIdeal.nD → PrngReg), Pre_ModBwdReferenceIdeal m →
    θ_run (Cert.ModBwdReferenceIdeal.defs (F := Ideal)) (onTc (τ := Cert.ModBwdReferenceIdeal.τ) (Cert.ModBwdReferenceIdeal.main (F := Ideal))) ⟨m, fun _ => 0, g⟩ (fun r => (∀ c : Dev Cert.ModBwdReferenceIdeal.nD,
      r.2.mem ((c.tc : Thread Cert.ModBwdReferenceIdeal.nD Cert.ModBwdReferenceIdeal.τ).loc Cert.ModBwdReferenceIdeal.main_arg0) = m ((c.tc : Thread Cert.ModBwdReferenceIdeal.nD Cert.ModBwdReferenceIdeal.τ).loc Cert.ModBwdReferenceIdeal.main_arg0)
      ∧ r.2.mem ((c.tc : Thread Cert.ModBwdReferenceIdeal.nD Cert.ModBwdReferenceIdeal.τ).loc Cert.ModBwdReferenceIdeal.main_arg1) = m ((c.tc : Thread Cert.ModBwdReferenceIdeal.nD Cert.ModBwdReferenceIdeal.τ).loc Cert.ModBwdReferenceIdeal.main_arg1)
      ∧ r.2.mem ((c.tc : Thread Cert.ModBwdReferenceIdeal.nD Cert.ModBwdReferenceIdeal.τ).loc Cert.ModBwdReferenceIdeal.main_arg2) = m ((c.tc : Thread Cert.ModBwdReferenceIdeal.nD Cert.ModBwdReferenceIdeal.τ).loc Cert.ModBwdReferenceIdeal.main_arg2)
      ∧ r.2.mem ((c.tc : Thread Cert.ModBwdReferenceIdeal.nD Cert.ModBwdReferenceIdeal.τ).loc Cert.ModBwdReferenceIdeal.main_arg3) = m ((c.tc : Thread Cert.ModBwdReferenceIdeal.nD Cert.ModBwdReferenceIdeal.τ).loc Cert.ModBwdReferenceIdeal.main_arg3)
      ∧ r.2.mem ((c.tc : Thread Cert.ModBwdReferenceIdeal.nD Cert.ModBwdReferenceIdeal.τ).loc Cert.ModBwdReferenceIdeal.main_arg4) = m ((c.tc : Thread Cert.ModBwdReferenceIdeal.nD Cert.ModBwdReferenceIdeal.τ).loc Cert.ModBwdReferenceIdeal.main_arg4))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossReferenceIdeal [hFinalLossReferenceIdeal : Cert.FinalLossReferenceIdeal.Facts] : Prop :=
  ∀ (m : (ℓ : Loc Cert.FinalLossReferenceIdeal.nD Cert.FinalLossReferenceIdeal.τ Cert.FinalLossReferenceIdeal.sig) → Buf (Elt Ideal) ℓ) (g : Dev Cert.FinalLossReferenceIdeal.nD → PrngReg), Pre_FinalLossReferenceIdeal m →
    θ_run (Cert.FinalLossReferenceIdeal.defs (F := Ideal)) (onTc (τ := Cert.FinalLossReferenceIdeal.τ) (Cert.FinalLossReferenceIdeal.main (F := Ideal))) ⟨m, fun _ => 0, g⟩ (fun r => (∀ c : Dev Cert.FinalLossReferenceIdeal.nD,
      r.2.mem ((c.tc : Thread Cert.FinalLossReferenceIdeal.nD Cert.FinalLossReferenceIdeal.τ).loc Cert.FinalLossReferenceIdeal.main_arg0) = m ((c.tc : Thread Cert.FinalLossReferenceIdeal.nD Cert.FinalLossReferenceIdeal.τ).loc Cert.FinalLossReferenceIdeal.main_arg0)
      ∧ r.2.mem ((c.tc : Thread Cert.FinalLossReferenceIdeal.nD Cert.FinalLossReferenceIdeal.τ).loc Cert.FinalLossReferenceIdeal.main_arg1) = m ((c.tc : Thread Cert.FinalLossReferenceIdeal.nD Cert.FinalLossReferenceIdeal.τ).loc Cert.FinalLossReferenceIdeal.main_arg1)
      ∧ r.2.mem ((c.tc : Thread Cert.FinalLossReferenceIdeal.nD Cert.FinalLossReferenceIdeal.τ).loc Cert.FinalLossReferenceIdeal.main_arg2) = m ((c.tc : Thread Cert.FinalLossReferenceIdeal.nD Cert.FinalLossReferenceIdeal.τ).loc Cert.FinalLossReferenceIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdReferenceIdeal [hFfnBwdReferenceIdeal : Cert.FfnBwdReferenceIdeal.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4)
      ∧ r.2.mem ((c.tc : Thread Cert.FfnBwdReferenceIdeal.nD Cert.FfnBwdReferenceIdeal.τ).loc Cert.FfnBwdReferenceIdeal.main_arg5) = m ((c.tc : Thread Cert.FfnBwdReferenceIdeal.nD Cert.FfnBwdReferenceIdeal.τ).loc Cert.FfnBwdReferenceIdeal.main_arg5)
      ∧ r.2.mem ((c.tc : Thread Cert.FfnBwdReferenceIdeal.nD Cert.FfnBwdReferenceIdeal.τ).loc Cert.FfnBwdReferenceIdeal.main_arg6) = m ((c.tc : Thread Cert.FfnBwdReferenceIdeal.nD Cert.FfnBwdReferenceIdeal.τ).loc Cert.FfnBwdReferenceIdeal.main_arg6))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6)
      ∧ r.2.mem ((c.tc : Thread Cert.OutBwd.nD Cert.OutBwd.τ).loc Cert.OutBwd.main_arg7) = m ((c.tc : Thread Cert.OutBwd.nD Cert.OutBwd.τ).loc Cert.OutBwd.main_arg7)
      ∧ r.2.mem ((c.tc : Thread Cert.OutBwd.nD Cert.OutBwd.τ).loc Cert.OutBwd.main_arg8) = m ((c.tc : Thread Cert.OutBwd.nD Cert.OutBwd.τ).loc Cert.OutBwd.main_arg8)
      ∧ r.2.mem ((c.tc : Thread Cert.OutBwd.nD Cert.OutBwd.τ).loc Cert.OutBwd.main_arg9) = m ((c.tc : Thread Cert.OutBwd.nD Cert.OutBwd.τ).loc Cert.OutBwd.main_arg9)
      ∧ r.2.mem ((c.tc : Thread Cert.OutBwd.nD Cert.OutBwd.τ).loc Cert.OutBwd.main_arg10) = m ((c.tc : Thread Cert.OutBwd.nD Cert.OutBwd.τ).loc Cert.OutBwd.main_arg10))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
      ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7)
      ∧ r.2.mem ((c.tc : Thread Cert.OutBwdIdeal.nD Cert.OutBwdIdeal.τ).loc Cert.OutBwdIdeal.main_arg8) = m ((c.tc : Thread Cert.OutBwdIdeal.nD Cert.OutBwdIdeal.τ).loc Cert.OutBwdIdeal.main_arg8)
      ∧ r.2.mem ((c.tc : Thread Cert.OutBwdIdeal.nD Cert.OutBwdIdeal.τ).loc Cert.OutBwdIdeal.main_arg9) = m ((c.tc : Thread Cert.OutBwdIdeal.nD Cert.OutBwdIdeal.τ).loc Cert.OutBwdIdeal.main_arg9)
      ∧ r.2.mem ((c.tc : Thread Cert.OutBwdIdeal.nD Cert.OutBwdIdeal.τ).loc Cert.OutBwdIdeal.main_arg10) = m ((c.tc : Thread Cert.OutBwdIdeal.nD Cert.OutBwdIdeal.τ).loc Cert.OutBwdIdeal.main_arg10))
      ∧ r.2.sem = fun _ => 0)

def quiescent_OutBwdIdeal_pre_out_bwd_finite [hOutBwdIdeal : Cert.OutBwdIdeal.Facts] [hPre_out_bwd_finite : Cert.Pre_out_bwd_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_out_bwd_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
      ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7)
      ∧ r.2.mem ((c.tc : Thread Cert.OutBwdIdeal.nD Cert.OutBwdIdeal.τ).loc Cert.OutBwdIdeal.main_arg8) = m ((c.tc : Thread Cert.OutBwdIdeal.nD Cert.OutBwdIdeal.τ).loc Cert.OutBwdIdeal.main_arg8)
      ∧ r.2.mem ((c.tc : Thread Cert.OutBwdIdeal.nD Cert.OutBwdIdeal.τ).loc Cert.OutBwdIdeal.main_arg9) = m ((c.tc : Thread Cert.OutBwdIdeal.nD Cert.OutBwdIdeal.τ).loc Cert.OutBwdIdeal.main_arg9)
      ∧ r.2.mem ((c.tc : Thread Cert.OutBwdIdeal.nD Cert.OutBwdIdeal.τ).loc Cert.OutBwdIdeal.main_arg10) = m ((c.tc : Thread Cert.OutBwdIdeal.nD Cert.OutBwdIdeal.τ).loc Cert.OutBwdIdeal.main_arg10))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4)
      ∧ r.2.mem ((c.tc : Thread Cert.OutBwdReferenceIdeal.nD Cert.OutBwdReferenceIdeal.τ).loc Cert.OutBwdReferenceIdeal.main_arg5) = m ((c.tc : Thread Cert.OutBwdReferenceIdeal.nD Cert.OutBwdReferenceIdeal.τ).loc Cert.OutBwdReferenceIdeal.main_arg5)
      ∧ r.2.mem ((c.tc : Thread Cert.OutBwdReferenceIdeal.nD Cert.OutBwdReferenceIdeal.τ).loc Cert.OutBwdReferenceIdeal.main_arg6) = m ((c.tc : Thread Cert.OutBwdReferenceIdeal.nD Cert.OutBwdReferenceIdeal.τ).loc Cert.OutBwdReferenceIdeal.main_arg6)
      ∧ r.2.mem ((c.tc : Thread Cert.OutBwdReferenceIdeal.nD Cert.OutBwdReferenceIdeal.τ).loc Cert.OutBwdReferenceIdeal.main_arg7) = m ((c.tc : Thread Cert.OutBwdReferenceIdeal.nD Cert.OutBwdReferenceIdeal.τ).loc Cert.OutBwdReferenceIdeal.main_arg7)
      ∧ r.2.mem ((c.tc : Thread Cert.OutBwdReferenceIdeal.nD Cert.OutBwdReferenceIdeal.τ).loc Cert.OutBwdReferenceIdeal.main_arg8) = m ((c.tc : Thread Cert.OutBwdReferenceIdeal.nD Cert.OutBwdReferenceIdeal.τ).loc Cert.OutBwdReferenceIdeal.main_arg8)
      ∧ r.2.mem ((c.tc : Thread Cert.OutBwdReferenceIdeal.nD Cert.OutBwdReferenceIdeal.τ).loc Cert.OutBwdReferenceIdeal.main_arg9) = m ((c.tc : Thread Cert.OutBwdReferenceIdeal.nD Cert.OutBwdReferenceIdeal.τ).loc Cert.OutBwdReferenceIdeal.main_arg9)
      ∧ r.2.mem ((c.tc : Thread Cert.OutBwdReferenceIdeal.nD Cert.OutBwdReferenceIdeal.τ).loc Cert.OutBwdReferenceIdeal.main_arg10) = m ((c.tc : Thread Cert.OutBwdReferenceIdeal.nD Cert.OutBwdReferenceIdeal.τ).loc Cert.OutBwdReferenceIdeal.main_arg10))
      ∧ r.2.sem = fun _ => 0)

def quiescent_OutBwdReferenceIdeal_pre_out_bwd_finite [hOutBwdReferenceIdeal : Cert.OutBwdReferenceIdeal.Facts] [hPre_out_bwd_finite : Cert.Pre_out_bwd_finite.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal_out_bwd_finite m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4)
      ∧ r.2.mem ((c.tc : Thread Cert.OutBwdReferenceIdeal.nD Cert.OutBwdReferenceIdeal.τ).loc Cert.OutBwdReferenceIdeal.main_arg5) = m ((c.tc : Thread Cert.OutBwdReferenceIdeal.nD Cert.OutBwdReferenceIdeal.τ).loc Cert.OutBwdReferenceIdeal.main_arg5)
      ∧ r.2.mem ((c.tc : Thread Cert.OutBwdReferenceIdeal.nD Cert.OutBwdReferenceIdeal.τ).loc Cert.OutBwdReferenceIdeal.main_arg6) = m ((c.tc : Thread Cert.OutBwdReferenceIdeal.nD Cert.OutBwdReferenceIdeal.τ).loc Cert.OutBwdReferenceIdeal.main_arg6)
      ∧ r.2.mem ((c.tc : Thread Cert.OutBwdReferenceIdeal.nD Cert.OutBwdReferenceIdeal.τ).loc Cert.OutBwdReferenceIdeal.main_arg7) = m ((c.tc : Thread Cert.OutBwdReferenceIdeal.nD Cert.OutBwdReferenceIdeal.τ).loc Cert.OutBwdReferenceIdeal.main_arg7)
      ∧ r.2.mem ((c.tc : Thread Cert.OutBwdReferenceIdeal.nD Cert.OutBwdReferenceIdeal.τ).loc Cert.OutBwdReferenceIdeal.main_arg8) = m ((c.tc : Thread Cert.OutBwdReferenceIdeal.nD Cert.OutBwdReferenceIdeal.τ).loc Cert.OutBwdReferenceIdeal.main_arg8)
      ∧ r.2.mem ((c.tc : Thread Cert.OutBwdReferenceIdeal.nD Cert.OutBwdReferenceIdeal.τ).loc Cert.OutBwdReferenceIdeal.main_arg9) = m ((c.tc : Thread Cert.OutBwdReferenceIdeal.nD Cert.OutBwdReferenceIdeal.τ).loc Cert.OutBwdReferenceIdeal.main_arg9)
      ∧ r.2.mem ((c.tc : Thread Cert.OutBwdReferenceIdeal.nD Cert.OutBwdReferenceIdeal.τ).loc Cert.OutBwdReferenceIdeal.main_arg10) = m ((c.tc : Thread Cert.OutBwdReferenceIdeal.nD Cert.OutBwdReferenceIdeal.τ).loc Cert.OutBwdReferenceIdeal.main_arg10))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2)
      ∧ r.2.mem ((c.tc : Thread Cert.ModFwd.nD Cert.ModFwd.τ).loc Cert.ModFwd.main_arg3) = m ((c.tc : Thread Cert.ModFwd.nD Cert.ModFwd.τ).loc Cert.ModFwd.main_arg3))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
      ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ r.2.sem = fun _ => 0)

def quiescent_ModFwdReferenceIdeal [hModFwdReferenceIdeal : Cert.ModFwdReferenceIdeal.Facts] : Prop :=
  ∀ (m : (ℓ : Loc Cert.ModFwdReferenceIdeal.nD Cert.ModFwdReferenceIdeal.τ Cert.ModFwdReferenceIdeal.sig) → Buf (Elt Ideal) ℓ) (g : Dev Cert.ModFwdReferenceIdeal.nD → PrngReg), Pre_ModFwdReferenceIdeal m →
    θ_run (Cert.ModFwdReferenceIdeal.defs (F := Ideal)) (onTc (τ := Cert.ModFwdReferenceIdeal.τ) (Cert.ModFwdReferenceIdeal.main (F := Ideal))) ⟨m, fun _ => 0, g⟩ (fun r => (∀ c : Dev Cert.ModFwdReferenceIdeal.nD,
      r.2.mem ((c.tc : Thread Cert.ModFwdReferenceIdeal.nD Cert.ModFwdReferenceIdeal.τ).loc Cert.ModFwdReferenceIdeal.main_arg0) = m ((c.tc : Thread Cert.ModFwdReferenceIdeal.nD Cert.ModFwdReferenceIdeal.τ).loc Cert.ModFwdReferenceIdeal.main_arg0)
      ∧ r.2.mem ((c.tc : Thread Cert.ModFwdReferenceIdeal.nD Cert.ModFwdReferenceIdeal.τ).loc Cert.ModFwdReferenceIdeal.main_arg1) = m ((c.tc : Thread Cert.ModFwdReferenceIdeal.nD Cert.ModFwdReferenceIdeal.τ).loc Cert.ModFwdReferenceIdeal.main_arg1)
      ∧ r.2.mem ((c.tc : Thread Cert.ModFwdReferenceIdeal.nD Cert.ModFwdReferenceIdeal.τ).loc Cert.ModFwdReferenceIdeal.main_arg2) = m ((c.tc : Thread Cert.ModFwdReferenceIdeal.nD Cert.ModFwdReferenceIdeal.τ).loc Cert.ModFwdReferenceIdeal.main_arg2)
      ∧ r.2.mem ((c.tc : Thread Cert.ModFwdReferenceIdeal.nD Cert.ModFwdReferenceIdeal.τ).loc Cert.ModFwdReferenceIdeal.main_arg3) = m ((c.tc : Thread Cert.ModFwdReferenceIdeal.nD Cert.ModFwdReferenceIdeal.τ).loc Cert.ModFwdReferenceIdeal.main_arg3))
      ∧ r.2.sem = fun _ => 0)

def quiescent_OutFfnFwd [hOutFfnFwd : Cert.OutFfnFwd.Facts] : Prop :=
  ∀ (m : (ℓ : Loc Cert.OutFfnFwd.nD Cert.OutFfnFwd.τ Cert.OutFfnFwd.sig) → Buf (Elt Bits) ℓ) (g : Dev Cert.OutFfnFwd.nD → PrngReg), Pre_OutFfnFwd m →
    θ_run (Cert.OutFfnFwd.defs (F := Bits)) (onTc (τ := Cert.OutFfnFwd.τ) (Cert.OutFfnFwd.main (F := Bits))) ⟨m, fun _ => 0, g⟩ (fun r => (∀ c : Dev Cert.OutFfnFwd.nD,
      r.2.mem ((c.tc : Thread Cert.OutFfnFwd.nD Cert.OutFfnFwd.τ).loc Cert.OutFfnFwd.main_arg0) = m ((c.tc : Thread Cert.OutFfnFwd.nD Cert.OutFfnFwd.τ).loc Cert.OutFfnFwd.main_arg0)
      ∧ r.2.mem ((c.tc : Thread Cert.OutFfnFwd.nD Cert.OutFfnFwd.τ).loc Cert.OutFfnFwd.main_arg1) = m ((c.tc : Thread Cert.OutFfnFwd.nD Cert.OutFfnFwd.τ).loc Cert.OutFfnFwd.main_arg1)
      ∧ r.2.mem ((c.tc : Thread Cert.OutFfnFwd.nD Cert.OutFfnFwd.τ).loc Cert.OutFfnFwd.main_arg2) = m ((c.tc : Thread Cert.OutFfnFwd.nD Cert.OutFfnFwd.τ).loc Cert.OutFfnFwd.main_arg2)
      ∧ r.2.mem ((c.tc : Thread Cert.OutFfnFwd.nD Cert.OutFfnFwd.τ).loc Cert.OutFfnFwd.main_arg3) = m ((c.tc : Thread Cert.OutFfnFwd.nD Cert.OutFfnFwd.τ).loc Cert.OutFfnFwd.main_arg3)
      ∧ r.2.mem ((c.tc : Thread Cert.OutFfnFwd.nD Cert.OutFfnFwd.τ).loc Cert.OutFfnFwd.main_arg4) = m ((c.tc : Thread Cert.OutFfnFwd.nD Cert.OutFfnFwd.τ).loc Cert.OutFfnFwd.main_arg4)
      ∧ r.2.mem ((c.tc : Thread Cert.OutFfnFwd.nD Cert.OutFfnFwd.τ).loc Cert.OutFfnFwd.main_arg5) = m ((c.tc : Thread Cert.OutFfnFwd.nD Cert.OutFfnFwd.τ).loc Cert.OutFfnFwd.main_arg5)
      ∧ r.2.mem ((c.tc : Thread Cert.OutFfnFwd.nD Cert.OutFfnFwd.τ).loc Cert.OutFfnFwd.main_arg6) = m ((c.tc : Thread Cert.OutFfnFwd.nD Cert.OutFfnFwd.τ).loc Cert.OutFfnFwd.main_arg6)
      ∧ r.2.mem ((c.tc : Thread Cert.OutFfnFwd.nD Cert.OutFfnFwd.τ).loc Cert.OutFfnFwd.main_arg7) = m ((c.tc : Thread Cert.OutFfnFwd.nD Cert.OutFfnFwd.τ).loc Cert.OutFfnFwd.main_arg7)
      ∧ r.2.mem ((c.tc : Thread Cert.OutFfnFwd.nD Cert.OutFfnFwd.τ).loc Cert.OutFfnFwd.main_arg8) = m ((c.tc : Thread Cert.OutFfnFwd.nD Cert.OutFfnFwd.τ).loc Cert.OutFfnFwd.main_arg8)
      ∧ r.2.mem ((c.tc : Thread Cert.OutFfnFwd.nD Cert.OutFfnFwd.τ).loc Cert.OutFfnFwd.main_arg9) = m ((c.tc : Thread Cert.OutFfnFwd.nD Cert.OutFfnFwd.τ).loc Cert.OutFfnFwd.main_arg9)
      ∧ r.2.mem ((c.tc : Thread Cert.OutFfnFwd.nD Cert.OutFfnFwd.τ).loc Cert.OutFfnFwd.main_arg10) = m ((c.tc : Thread Cert.OutFfnFwd.nD Cert.OutFfnFwd.τ).loc Cert.OutFfnFwd.main_arg10)
      ∧ r.2.mem ((c.tc : Thread Cert.OutFfnFwd.nD Cert.OutFfnFwd.τ).loc Cert.OutFfnFwd.main_arg11) = m ((c.tc : Thread Cert.OutFfnFwd.nD Cert.OutFfnFwd.τ).loc Cert.OutFfnFwd.main_arg11)
      ∧ r.2.mem ((c.tc : Thread Cert.OutFfnFwd.nD Cert.OutFfnFwd.τ).loc Cert.OutFfnFwd.main_arg12) = m ((c.tc : Thread Cert.OutFfnFwd.nD Cert.OutFfnFwd.τ).loc Cert.OutFfnFwd.main_arg12))
      ∧ r.2.sem = fun _ => 0)

def quiescent_OutFfnFwdIdeal [hOutFfnFwdIdeal : Cert.OutFfnFwdIdeal.Facts] : Prop :=
  ∀ (m : (ℓ : Loc Cert.OutFfnFwdIdeal.nD Cert.OutFfnFwdIdeal.τ Cert.OutFfnFwdIdeal.sig) → Buf (Elt Ideal) ℓ) (g : Dev Cert.OutFfnFwdIdeal.nD → PrngReg), Pre_OutFfnFwdIdeal m →
    θ_run (Cert.OutFfnFwdIdeal.defs (F := Ideal)) (onTc (τ := Cert.OutFfnFwdIdeal.τ) (Cert.OutFfnFwdIdeal.main (F := Ideal))) ⟨m, fun _ => 0, g⟩ (fun r => (∀ c : Dev Cert.OutFfnFwdIdeal.nD,
      r.2.mem ((c.tc : Thread Cert.OutFfnFwdIdeal.nD Cert.OutFfnFwdIdeal.τ).loc Cert.OutFfnFwdIdeal.main_arg0) = m ((c.tc : Thread Cert.OutFfnFwdIdeal.nD Cert.OutFfnFwdIdeal.τ).loc Cert.OutFfnFwdIdeal.main_arg0)
      ∧ r.2.mem ((c.tc : Thread Cert.OutFfnFwdIdeal.nD Cert.OutFfnFwdIdeal.τ).loc Cert.OutFfnFwdIdeal.main_arg1) = m ((c.tc : Thread Cert.OutFfnFwdIdeal.nD Cert.OutFfnFwdIdeal.τ).loc Cert.OutFfnFwdIdeal.main_arg1)
      ∧ r.2.mem ((c.tc : Thread Cert.OutFfnFwdIdeal.nD Cert.OutFfnFwdIdeal.τ).loc Cert.OutFfnFwdIdeal.main_arg2) = m ((c.tc : Thread Cert.OutFfnFwdIdeal.nD Cert.OutFfnFwdIdeal.τ).loc Cert.OutFfnFwdIdeal.main_arg2)
      ∧ r.2.mem ((c.tc : Thread Cert.OutFfnFwdIdeal.nD Cert.OutFfnFwdIdeal.τ).loc Cert.OutFfnFwdIdeal.main_arg3) = m ((c.tc : Thread Cert.OutFfnFwdIdeal.nD Cert.OutFfnFwdIdeal.τ).loc Cert.OutFfnFwdIdeal.main_arg3)
      ∧ r.2.mem ((c.tc : Thread Cert.OutFfnFwdIdeal.nD Cert.OutFfnFwdIdeal.τ).loc Cert.OutFfnFwdIdeal.main_arg4) = m ((c.tc : Thread Cert.OutFfnFwdIdeal.nD Cert.OutFfnFwdIdeal.τ).loc Cert.OutFfnFwdIdeal.main_arg4)
      ∧ r.2.mem ((c.tc : Thread Cert.OutFfnFwdIdeal.nD Cert.OutFfnFwdIdeal.τ).loc Cert.OutFfnFwdIdeal.main_arg5) = m ((c.tc : Thread Cert.OutFfnFwdIdeal.nD Cert.OutFfnFwdIdeal.τ).loc Cert.OutFfnFwdIdeal.main_arg5)
      ∧ r.2.mem ((c.tc : Thread Cert.OutFfnFwdIdeal.nD Cert.OutFfnFwdIdeal.τ).loc Cert.OutFfnFwdIdeal.main_arg6) = m ((c.tc : Thread Cert.OutFfnFwdIdeal.nD Cert.OutFfnFwdIdeal.τ).loc Cert.OutFfnFwdIdeal.main_arg6)
      ∧ r.2.mem ((c.tc : Thread Cert.OutFfnFwdIdeal.nD Cert.OutFfnFwdIdeal.τ).loc Cert.OutFfnFwdIdeal.main_arg7) = m ((c.tc : Thread Cert.OutFfnFwdIdeal.nD Cert.OutFfnFwdIdeal.τ).loc Cert.OutFfnFwdIdeal.main_arg7)
      ∧ r.2.mem ((c.tc : Thread Cert.OutFfnFwdIdeal.nD Cert.OutFfnFwdIdeal.τ).loc Cert.OutFfnFwdIdeal.main_arg8) = m ((c.tc : Thread Cert.OutFfnFwdIdeal.nD Cert.OutFfnFwdIdeal.τ).loc Cert.OutFfnFwdIdeal.main_arg8)
      ∧ r.2.mem ((c.tc : Thread Cert.OutFfnFwdIdeal.nD Cert.OutFfnFwdIdeal.τ).loc Cert.OutFfnFwdIdeal.main_arg9) = m ((c.tc : Thread Cert.OutFfnFwdIdeal.nD Cert.OutFfnFwdIdeal.τ).loc Cert.OutFfnFwdIdeal.main_arg9)
      ∧ r.2.mem ((c.tc : Thread Cert.OutFfnFwdIdeal.nD Cert.OutFfnFwdIdeal.τ).loc Cert.OutFfnFwdIdeal.main_arg10) = m ((c.tc : Thread Cert.OutFfnFwdIdeal.nD Cert.OutFfnFwdIdeal.τ).loc Cert.OutFfnFwdIdeal.main_arg10)
      ∧ r.2.mem ((c.tc : Thread Cert.OutFfnFwdIdeal.nD Cert.OutFfnFwdIdeal.τ).loc Cert.OutFfnFwdIdeal.main_arg11) = m ((c.tc : Thread Cert.OutFfnFwdIdeal.nD Cert.OutFfnFwdIdeal.τ).loc Cert.OutFfnFwdIdeal.main_arg11)
      ∧ r.2.mem ((c.tc : Thread Cert.OutFfnFwdIdeal.nD Cert.OutFfnFwdIdeal.τ).loc Cert.OutFfnFwdIdeal.main_arg12) = m ((c.tc : Thread Cert.OutFfnFwdIdeal.nD Cert.OutFfnFwdIdeal.τ).loc Cert.OutFfnFwdIdeal.main_arg12))
      ∧ r.2.sem = fun _ => 0)

def quiescent_OutFfnFwdReferenceIdeal [hOutFfnFwdReferenceIdeal : Cert.OutFfnFwdReferenceIdeal.Facts] : Prop :=
  ∀ (m : (ℓ : Loc Cert.OutFfnFwdReferenceIdeal.nD Cert.OutFfnFwdReferenceIdeal.τ Cert.OutFfnFwdReferenceIdeal.sig) → Buf (Elt Ideal) ℓ) (g : Dev Cert.OutFfnFwdReferenceIdeal.nD → PrngReg), Pre_OutFfnFwdReferenceIdeal m →
    θ_run (Cert.OutFfnFwdReferenceIdeal.defs (F := Ideal)) (onTc (τ := Cert.OutFfnFwdReferenceIdeal.τ) (Cert.OutFfnFwdReferenceIdeal.main (F := Ideal))) ⟨m, fun _ => 0, g⟩ (fun r => (∀ c : Dev Cert.OutFfnFwdReferenceIdeal.nD,
      r.2.mem ((c.tc : Thread Cert.OutFfnFwdReferenceIdeal.nD Cert.OutFfnFwdReferenceIdeal.τ).loc Cert.OutFfnFwdReferenceIdeal.main_arg0) = m ((c.tc : Thread Cert.OutFfnFwdReferenceIdeal.nD Cert.OutFfnFwdReferenceIdeal.τ).loc Cert.OutFfnFwdReferenceIdeal.main_arg0)
      ∧ r.2.mem ((c.tc : Thread Cert.OutFfnFwdReferenceIdeal.nD Cert.OutFfnFwdReferenceIdeal.τ).loc Cert.OutFfnFwdReferenceIdeal.main_arg1) = m ((c.tc : Thread Cert.OutFfnFwdReferenceIdeal.nD Cert.OutFfnFwdReferenceIdeal.τ).loc Cert.OutFfnFwdReferenceIdeal.main_arg1)
      ∧ r.2.mem ((c.tc : Thread Cert.OutFfnFwdReferenceIdeal.nD Cert.OutFfnFwdReferenceIdeal.τ).loc Cert.OutFfnFwdReferenceIdeal.main_arg2) = m ((c.tc : Thread Cert.OutFfnFwdReferenceIdeal.nD Cert.OutFfnFwdReferenceIdeal.τ).loc Cert.OutFfnFwdReferenceIdeal.main_arg2)
      ∧ r.2.mem ((c.tc : Thread Cert.OutFfnFwdReferenceIdeal.nD Cert.OutFfnFwdReferenceIdeal.τ).loc Cert.OutFfnFwdReferenceIdeal.main_arg3) = m ((c.tc : Thread Cert.OutFfnFwdReferenceIdeal.nD Cert.OutFfnFwdReferenceIdeal.τ).loc Cert.OutFfnFwdReferenceIdeal.main_arg3)
      ∧ r.2.mem ((c.tc : Thread Cert.OutFfnFwdReferenceIdeal.nD Cert.OutFfnFwdReferenceIdeal.τ).loc Cert.OutFfnFwdReferenceIdeal.main_arg4) = m ((c.tc : Thread Cert.OutFfnFwdReferenceIdeal.nD Cert.OutFfnFwdReferenceIdeal.τ).loc Cert.OutFfnFwdReferenceIdeal.main_arg4)
      ∧ r.2.mem ((c.tc : Thread Cert.OutFfnFwdReferenceIdeal.nD Cert.OutFfnFwdReferenceIdeal.τ).loc Cert.OutFfnFwdReferenceIdeal.main_arg5) = m ((c.tc : Thread Cert.OutFfnFwdReferenceIdeal.nD Cert.OutFfnFwdReferenceIdeal.τ).loc Cert.OutFfnFwdReferenceIdeal.main_arg5)
      ∧ r.2.mem ((c.tc : Thread Cert.OutFfnFwdReferenceIdeal.nD Cert.OutFfnFwdReferenceIdeal.τ).loc Cert.OutFfnFwdReferenceIdeal.main_arg6) = m ((c.tc : Thread Cert.OutFfnFwdReferenceIdeal.nD Cert.OutFfnFwdReferenceIdeal.τ).loc Cert.OutFfnFwdReferenceIdeal.main_arg6)
      ∧ r.2.mem ((c.tc : Thread Cert.OutFfnFwdReferenceIdeal.nD Cert.OutFfnFwdReferenceIdeal.τ).loc Cert.OutFfnFwdReferenceIdeal.main_arg7) = m ((c.tc : Thread Cert.OutFfnFwdReferenceIdeal.nD Cert.OutFfnFwdReferenceIdeal.τ).loc Cert.OutFfnFwdReferenceIdeal.main_arg7)
      ∧ r.2.mem ((c.tc : Thread Cert.OutFfnFwdReferenceIdeal.nD Cert.OutFfnFwdReferenceIdeal.τ).loc Cert.OutFfnFwdReferenceIdeal.main_arg8) = m ((c.tc : Thread Cert.OutFfnFwdReferenceIdeal.nD Cert.OutFfnFwdReferenceIdeal.τ).loc Cert.OutFfnFwdReferenceIdeal.main_arg8)
      ∧ r.2.mem ((c.tc : Thread Cert.OutFfnFwdReferenceIdeal.nD Cert.OutFfnFwdReferenceIdeal.τ).loc Cert.OutFfnFwdReferenceIdeal.main_arg9) = m ((c.tc : Thread Cert.OutFfnFwdReferenceIdeal.nD Cert.OutFfnFwdReferenceIdeal.τ).loc Cert.OutFfnFwdReferenceIdeal.main_arg9)
      ∧ r.2.mem ((c.tc : Thread Cert.OutFfnFwdReferenceIdeal.nD Cert.OutFfnFwdReferenceIdeal.τ).loc Cert.OutFfnFwdReferenceIdeal.main_arg10) = m ((c.tc : Thread Cert.OutFfnFwdReferenceIdeal.nD Cert.OutFfnFwdReferenceIdeal.τ).loc Cert.OutFfnFwdReferenceIdeal.main_arg10)
      ∧ r.2.mem ((c.tc : Thread Cert.OutFfnFwdReferenceIdeal.nD Cert.OutFfnFwdReferenceIdeal.τ).loc Cert.OutFfnFwdReferenceIdeal.main_arg11) = m ((c.tc : Thread Cert.OutFfnFwdReferenceIdeal.nD Cert.OutFfnFwdReferenceIdeal.τ).loc Cert.OutFfnFwdReferenceIdeal.main_arg11)
      ∧ r.2.mem ((c.tc : Thread Cert.OutFfnFwdReferenceIdeal.nD Cert.OutFfnFwdReferenceIdeal.τ).loc Cert.OutFfnFwdReferenceIdeal.main_arg12) = m ((c.tc : Thread Cert.OutFfnFwdReferenceIdeal.nD Cert.OutFfnFwdReferenceIdeal.τ).loc Cert.OutFfnFwdReferenceIdeal.main_arg12))
      ∧ r.2.sem = fun _ => 0)

def quiescent_AdamwMod [hAdamwMod : Cert.AdamwMod.Facts] : Prop :=
  ∀ (m : (ℓ : Loc Cert.AdamwMod.nD Cert.AdamwMod.τ Cert.AdamwMod.sig) → Buf (Elt Bits) ℓ) (g : Dev Cert.AdamwMod.nD → PrngReg), Pre_AdamwMod m →
    θ_run (Cert.AdamwMod.defs (F := Bits)) (onTc (τ := Cert.AdamwMod.τ) (Cert.AdamwMod.main (F := Bits))) ⟨m, fun _ => 0, g⟩ (fun r => (∀ c : Dev Cert.AdamwMod.nD,
      r.2.mem ((c.tc : Thread Cert.AdamwMod.nD Cert.AdamwMod.τ).loc Cert.AdamwMod.main_arg0) = m ((c.tc : Thread Cert.AdamwMod.nD Cert.AdamwMod.τ).loc Cert.AdamwMod.main_arg0)
      ∧ r.2.mem ((c.tc : Thread Cert.AdamwMod.nD Cert.AdamwMod.τ).loc Cert.AdamwMod.main_arg1) = m ((c.tc : Thread Cert.AdamwMod.nD Cert.AdamwMod.τ).loc Cert.AdamwMod.main_arg1)
      ∧ r.2.mem ((c.tc : Thread Cert.AdamwMod.nD Cert.AdamwMod.τ).loc Cert.AdamwMod.main_arg2) = m ((c.tc : Thread Cert.AdamwMod.nD Cert.AdamwMod.τ).loc Cert.AdamwMod.main_arg2)
      ∧ r.2.mem ((c.tc : Thread Cert.AdamwMod.nD Cert.AdamwMod.τ).loc Cert.AdamwMod.main_arg3) = m ((c.tc : Thread Cert.AdamwMod.nD Cert.AdamwMod.τ).loc Cert.AdamwMod.main_arg3))
      ∧ r.2.sem = fun _ => 0)

def quiescent_AdamwModIdeal [hAdamwModIdeal : Cert.AdamwModIdeal.Facts] : Prop :=
  ∀ (m : (ℓ : Loc Cert.AdamwModIdeal.nD Cert.AdamwModIdeal.τ Cert.AdamwModIdeal.sig) → Buf (Elt Ideal) ℓ) (g : Dev Cert.AdamwModIdeal.nD → PrngReg), Pre_AdamwModIdeal m →
    θ_run (Cert.AdamwModIdeal.defs (F := Ideal)) (onTc (τ := Cert.AdamwModIdeal.τ) (Cert.AdamwModIdeal.main (F := Ideal))) ⟨m, fun _ => 0, g⟩ (fun r => (∀ c : Dev Cert.AdamwModIdeal.nD,
      r.2.mem ((c.tc : Thread Cert.AdamwModIdeal.nD Cert.AdamwModIdeal.τ).loc Cert.AdamwModIdeal.main_arg0) = m ((c.tc : Thread Cert.AdamwModIdeal.nD Cert.AdamwModIdeal.τ).loc Cert.AdamwModIdeal.main_arg0)
      ∧ r.2.mem ((c.tc : Thread Cert.AdamwModIdeal.nD Cert.AdamwModIdeal.τ).loc Cert.AdamwModIdeal.main_arg1) = m ((c.tc : Thread Cert.AdamwModIdeal.nD Cert.AdamwModIdeal.τ).loc Cert.AdamwModIdeal.main_arg1)
      ∧ r.2.mem ((c.tc : Thread Cert.AdamwModIdeal.nD Cert.AdamwModIdeal.τ).loc Cert.AdamwModIdeal.main_arg2) = m ((c.tc : Thread Cert.AdamwModIdeal.nD Cert.AdamwModIdeal.τ).loc Cert.AdamwModIdeal.main_arg2)
      ∧ r.2.mem ((c.tc : Thread Cert.AdamwModIdeal.nD Cert.AdamwModIdeal.τ).loc Cert.AdamwModIdeal.main_arg3) = m ((c.tc : Thread Cert.AdamwModIdeal.nD Cert.AdamwModIdeal.τ).loc Cert.AdamwModIdeal.main_arg3))
      ∧ r.2.sem = fun _ => 0)

def quiescent_AdamwModReferenceIdeal [hAdamwModReferenceIdeal : Cert.AdamwModReferenceIdeal.Facts] : Prop :=
  ∀ (m : (ℓ : Loc Cert.AdamwModReferenceIdeal.nD Cert.AdamwModReferenceIdeal.τ Cert.AdamwModReferenceIdeal.sig) → Buf (Elt Ideal) ℓ) (g : Dev Cert.AdamwModReferenceIdeal.nD → PrngReg), Pre_AdamwModReferenceIdeal m →
    θ_run (Cert.AdamwModReferenceIdeal.defs (F := Ideal)) (onTc (τ := Cert.AdamwModReferenceIdeal.τ) (Cert.AdamwModReferenceIdeal.main (F := Ideal))) ⟨m, fun _ => 0, g⟩ (fun r => (∀ c : Dev Cert.AdamwModReferenceIdeal.nD,
      r.2.mem ((c.tc : Thread Cert.AdamwModReferenceIdeal.nD Cert.AdamwModReferenceIdeal.τ).loc Cert.AdamwModReferenceIdeal.main_arg0) = m ((c.tc : Thread Cert.AdamwModReferenceIdeal.nD Cert.AdamwModReferenceIdeal.τ).loc Cert.AdamwModReferenceIdeal.main_arg0)
      ∧ r.2.mem ((c.tc : Thread Cert.AdamwModReferenceIdeal.nD Cert.AdamwModReferenceIdeal.τ).loc Cert.AdamwModReferenceIdeal.main_arg1) = m ((c.tc : Thread Cert.AdamwModReferenceIdeal.nD Cert.AdamwModReferenceIdeal.τ).loc Cert.AdamwModReferenceIdeal.main_arg1)
      ∧ r.2.mem ((c.tc : Thread Cert.AdamwModReferenceIdeal.nD Cert.AdamwModReferenceIdeal.τ).loc Cert.AdamwModReferenceIdeal.main_arg2) = m ((c.tc : Thread Cert.AdamwModReferenceIdeal.nD Cert.AdamwModReferenceIdeal.τ).loc Cert.AdamwModReferenceIdeal.main_arg2)
      ∧ r.2.mem ((c.tc : Thread Cert.AdamwModReferenceIdeal.nD Cert.AdamwModReferenceIdeal.τ).loc Cert.AdamwModReferenceIdeal.main_arg3) = m ((c.tc : Thread Cert.AdamwModReferenceIdeal.nD Cert.AdamwModReferenceIdeal.τ).loc Cert.AdamwModReferenceIdeal.main_arg3))
      ∧ r.2.sem = fun _ => 0)

def quiescent_AdamwFf1 [hAdamwFf1 : Cert.AdamwFf1.Facts] : Prop :=
  ∀ (m : (ℓ : Loc Cert.AdamwFf1.nD Cert.AdamwFf1.τ Cert.AdamwFf1.sig) → Buf (Elt Bits) ℓ) (g : Dev Cert.AdamwFf1.nD → PrngReg), Pre_AdamwFf1 m →
    θ_run (Cert.AdamwFf1.defs (F := Bits)) (onTc (τ := Cert.AdamwFf1.τ) (Cert.AdamwFf1.main (F := Bits))) ⟨m, fun _ => 0, g⟩ (fun r => (∀ c : Dev Cert.AdamwFf1.nD,
      r.2.mem ((c.tc : Thread Cert.AdamwFf1.nD Cert.AdamwFf1.τ).loc Cert.AdamwFf1.main_arg0) = m ((c.tc : Thread Cert.AdamwFf1.nD Cert.AdamwFf1.τ).loc Cert.AdamwFf1.main_arg0)
      ∧ r.2.mem ((c.tc : Thread Cert.AdamwFf1.nD Cert.AdamwFf1.τ).loc Cert.AdamwFf1.main_arg1) = m ((c.tc : Thread Cert.AdamwFf1.nD Cert.AdamwFf1.τ).loc Cert.AdamwFf1.main_arg1)
      ∧ r.2.mem ((c.tc : Thread Cert.AdamwFf1.nD Cert.AdamwFf1.τ).loc Cert.AdamwFf1.main_arg2) = m ((c.tc : Thread Cert.AdamwFf1.nD Cert.AdamwFf1.τ).loc Cert.AdamwFf1.main_arg2)
      ∧ r.2.mem ((c.tc : Thread Cert.AdamwFf1.nD Cert.AdamwFf1.τ).loc Cert.AdamwFf1.main_arg3) = m ((c.tc : Thread Cert.AdamwFf1.nD Cert.AdamwFf1.τ).loc Cert.AdamwFf1.main_arg3))
      ∧ r.2.sem = fun _ => 0)

def quiescent_AdamwFf1Ideal [hAdamwFf1Ideal : Cert.AdamwFf1Ideal.Facts] : Prop :=
  ∀ (m : (ℓ : Loc Cert.AdamwFf1Ideal.nD Cert.AdamwFf1Ideal.τ Cert.AdamwFf1Ideal.sig) → Buf (Elt Ideal) ℓ) (g : Dev Cert.AdamwFf1Ideal.nD → PrngReg), Pre_AdamwFf1Ideal m →
    θ_run (Cert.AdamwFf1Ideal.defs (F := Ideal)) (onTc (τ := Cert.AdamwFf1Ideal.τ) (Cert.AdamwFf1Ideal.main (F := Ideal))) ⟨m, fun _ => 0, g⟩ (fun r => (∀ c : Dev Cert.AdamwFf1Ideal.nD,
      r.2.mem ((c.tc : Thread Cert.AdamwFf1Ideal.nD Cert.AdamwFf1Ideal.τ).loc Cert.AdamwFf1Ideal.main_arg0) = m ((c.tc : Thread Cert.AdamwFf1Ideal.nD Cert.AdamwFf1Ideal.τ).loc Cert.AdamwFf1Ideal.main_arg0)
      ∧ r.2.mem ((c.tc : Thread Cert.AdamwFf1Ideal.nD Cert.AdamwFf1Ideal.τ).loc Cert.AdamwFf1Ideal.main_arg1) = m ((c.tc : Thread Cert.AdamwFf1Ideal.nD Cert.AdamwFf1Ideal.τ).loc Cert.AdamwFf1Ideal.main_arg1)
      ∧ r.2.mem ((c.tc : Thread Cert.AdamwFf1Ideal.nD Cert.AdamwFf1Ideal.τ).loc Cert.AdamwFf1Ideal.main_arg2) = m ((c.tc : Thread Cert.AdamwFf1Ideal.nD Cert.AdamwFf1Ideal.τ).loc Cert.AdamwFf1Ideal.main_arg2)
      ∧ r.2.mem ((c.tc : Thread Cert.AdamwFf1Ideal.nD Cert.AdamwFf1Ideal.τ).loc Cert.AdamwFf1Ideal.main_arg3) = m ((c.tc : Thread Cert.AdamwFf1Ideal.nD Cert.AdamwFf1Ideal.τ).loc Cert.AdamwFf1Ideal.main_arg3))
      ∧ r.2.sem = fun _ => 0)

def quiescent_AdamwFf1ReferenceIdeal [hAdamwFf1ReferenceIdeal : Cert.AdamwFf1ReferenceIdeal.Facts] : Prop :=
  ∀ (m : (ℓ : Loc Cert.AdamwFf1ReferenceIdeal.nD Cert.AdamwFf1ReferenceIdeal.τ Cert.AdamwFf1ReferenceIdeal.sig) → Buf (Elt Ideal) ℓ) (g : Dev Cert.AdamwFf1ReferenceIdeal.nD → PrngReg), Pre_AdamwFf1ReferenceIdeal m →
    θ_run (Cert.AdamwFf1ReferenceIdeal.defs (F := Ideal)) (onTc (τ := Cert.AdamwFf1ReferenceIdeal.τ) (Cert.AdamwFf1ReferenceIdeal.main (F := Ideal))) ⟨m, fun _ => 0, g⟩ (fun r => (∀ c : Dev Cert.AdamwFf1ReferenceIdeal.nD,
      r.2.mem ((c.tc : Thread Cert.AdamwFf1ReferenceIdeal.nD Cert.AdamwFf1ReferenceIdeal.τ).loc Cert.AdamwFf1ReferenceIdeal.main_arg0) = m ((c.tc : Thread Cert.AdamwFf1ReferenceIdeal.nD Cert.AdamwFf1ReferenceIdeal.τ).loc Cert.AdamwFf1ReferenceIdeal.main_arg0)
      ∧ r.2.mem ((c.tc : Thread Cert.AdamwFf1ReferenceIdeal.nD Cert.AdamwFf1ReferenceIdeal.τ).loc Cert.AdamwFf1ReferenceIdeal.main_arg1) = m ((c.tc : Thread Cert.AdamwFf1ReferenceIdeal.nD Cert.AdamwFf1ReferenceIdeal.τ).loc Cert.AdamwFf1ReferenceIdeal.main_arg1)
      ∧ r.2.mem ((c.tc : Thread Cert.AdamwFf1ReferenceIdeal.nD Cert.AdamwFf1ReferenceIdeal.τ).loc Cert.AdamwFf1ReferenceIdeal.main_arg2) = m ((c.tc : Thread Cert.AdamwFf1ReferenceIdeal.nD Cert.AdamwFf1ReferenceIdeal.τ).loc Cert.AdamwFf1ReferenceIdeal.main_arg2)
      ∧ r.2.mem ((c.tc : Thread Cert.AdamwFf1ReferenceIdeal.nD Cert.AdamwFf1ReferenceIdeal.τ).loc Cert.AdamwFf1ReferenceIdeal.main_arg3) = m ((c.tc : Thread Cert.AdamwFf1ReferenceIdeal.nD Cert.AdamwFf1ReferenceIdeal.τ).loc Cert.AdamwFf1ReferenceIdeal.main_arg3))
      ∧ r.2.sem = fun _ => 0)

def preserves_SiluBwd_SiluBwdIdeal : Prop :=
  True

def algebraic_SiluBwdIdeal_SiluBwdReferenceIdeal_pre_silu_bwd_finite [hSiluBwdIdeal : Cert.SiluBwdIdeal.Facts] [hSiluBwdReferenceIdeal : Cert.SiluBwdReferenceIdeal.Facts] [hPre_silu_bwd_finite : Cert.Pre_silu_bwd_finite.Facts] : Prop :=
  ∀ (m : (ℓ : Loc Cert.SiluBwdIdeal.nD Cert.SiluBwdIdeal.τ Cert.SiluBwdIdeal.sig) → Buf (Elt Ideal) ℓ) (g : Dev Cert.SiluBwdIdeal.nD → PrngReg)
    (m' : (ℓ : Loc Cert.SiluBwdReferenceIdeal.nD Cert.SiluBwdReferenceIdeal.τ Cert.SiluBwdReferenceIdeal.sig) → Buf (Elt Ideal) ℓ) (g' : Dev Cert.SiluBwdReferenceIdeal.nD → PrngReg), Pre_SiluBwdIdeal_silu_bwd_finite m →
    (∀ c : Dev Cert.SiluBwdIdeal.nD,
      m' ((c.tc : Thread Cert.SiluBwdReferenceIdeal.nD Cert.SiluBwdReferenceIdeal.τ).loc Cert.SiluBwdReferenceIdeal.main_arg0) = m ((c.tc : Thread Cert.SiluBwdIdeal.nD Cert.SiluBwdIdeal.τ).loc Cert.SiluBwdIdeal.main_arg0)
      ∧ m' ((c.tc : Thread Cert.SiluBwdReferenceIdeal.nD Cert.SiluBwdReferenceIdeal.τ).loc Cert.SiluBwdReferenceIdeal.main_arg1) = m ((c.tc : Thread Cert.SiluBwdIdeal.nD Cert.SiluBwdIdeal.τ).loc Cert.SiluBwdIdeal.main_arg1)) →
    ∃ (v0 : (c : Dev Cert.SiluBwdIdeal.nD) → Buf (Elt Ideal) ((c.tc : Thread Cert.SiluBwdIdeal.nD Cert.SiluBwdIdeal.τ).loc Cert.SiluBwdIdeal.main_v0)),
      θ_run (Cert.SiluBwdIdeal.defs (F := Ideal)) (onTc (τ := Cert.SiluBwdIdeal.τ) (Cert.SiluBwdIdeal.main (F := Ideal))) ⟨m, fun _ => 0, g⟩ (fun r => ∀ c : Dev Cert.SiluBwdIdeal.nD,
          r.2.mem ((c.tc : Thread Cert.SiluBwdIdeal.nD Cert.SiluBwdIdeal.τ).loc Cert.SiluBwdIdeal.main_v0) = v0 c
          ∧ r.2.mem ((c.tc : Thread Cert.SiluBwdIdeal.nD Cert.SiluBwdIdeal.τ).loc Cert.SiluBwdIdeal.main_arg0) = m ((c.tc : Thread Cert.SiluBwdIdeal.nD Cert.SiluBwdIdeal.τ).loc Cert.SiluBwdIdeal.main_arg0)
          ∧ r.2.mem ((c.tc : Thread Cert.SiluBwdIdeal.nD Cert.SiluBwdIdeal.τ).loc Cert.SiluBwdIdeal.main_arg1) = m ((c.tc : Thread Cert.SiluBwdIdeal.nD Cert.SiluBwdIdeal.τ).loc Cert.SiluBwdIdeal.main_arg1))
      ∧ θ_run (Cert.SiluBwdReferenceIdeal.defs (F := Ideal)) (onTc (τ := Cert.SiluBwdReferenceIdeal.τ) (Cert.SiluBwdReferenceIdeal.main (F := Ideal))) ⟨m', fun _ => 0, g'⟩ (fun r => ∀ c : Dev Cert.SiluBwdReferenceIdeal.nD,
          r.2.mem ((c.tc : Thread Cert.SiluBwdReferenceIdeal.nD Cert.SiluBwdReferenceIdeal.τ).loc Cert.SiluBwdReferenceIdeal.main_v6) = v0 c
          ∧ r.2.mem ((c.tc : Thread Cert.SiluBwdReferenceIdeal.nD Cert.SiluBwdReferenceIdeal.τ).loc Cert.SiluBwdReferenceIdeal.main_arg0) = m' ((c.tc : Thread Cert.SiluBwdReferenceIdeal.nD Cert.SiluBwdReferenceIdeal.τ).loc Cert.SiluBwdReferenceIdeal.main_arg0)
          ∧ r.2.mem ((c.tc : Thread Cert.SiluBwdReferenceIdeal.nD Cert.SiluBwdReferenceIdeal.τ).loc Cert.SiluBwdReferenceIdeal.main_arg1) = m' ((c.tc : Thread Cert.SiluBwdReferenceIdeal.nD Cert.SiluBwdReferenceIdeal.τ).loc Cert.SiluBwdReferenceIdeal.main_arg1))

def preserves_MlaBwd_MlaBwdIdeal : Prop :=
  IdealRules.named_const.Statement Cert.MlaBwdIdeal.κ "ln2" .f32 0x3F317218#32 ((Real.log 2 : ℝ) : EReal)

def algebraic_MlaBwdIdeal_MlaBwdReferenceIdeal_pre_mla_bwd_finite [hMlaBwdIdeal : Cert.MlaBwdIdeal.Facts] [hMlaBwdReferenceIdeal : Cert.MlaBwdReferenceIdeal.Facts] [hPre_mla_bwd_finite : Cert.Pre_mla_bwd_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaBwdReferenceIdeal.nD Cert.MlaBwdReferenceIdeal.τ Cert.MlaBwdReferenceIdeal.sig) → Buf (Elt Ideal) ℓ) (g' : Dev Cert.MlaBwdReferenceIdeal.nD → PrngReg), Pre_MlaBwdIdeal_mla_bwd_finite m →
    (∀ c : Dev Cert.MlaBwdIdeal.nD,
      m' ((c.tc : Thread Cert.MlaBwdReferenceIdeal.nD Cert.MlaBwdReferenceIdeal.τ).loc Cert.MlaBwdReferenceIdeal.main_arg0) = m ((c.tc : Thread Cert.MlaBwdIdeal.nD Cert.MlaBwdIdeal.τ).loc Cert.MlaBwdIdeal.main_arg0)
      ∧ m' ((c.tc : Thread Cert.MlaBwdReferenceIdeal.nD Cert.MlaBwdReferenceIdeal.τ).loc Cert.MlaBwdReferenceIdeal.main_arg1) = m ((c.tc : Thread Cert.MlaBwdIdeal.nD Cert.MlaBwdIdeal.τ).loc Cert.MlaBwdIdeal.main_arg1)
      ∧ m' ((c.tc : Thread Cert.MlaBwdReferenceIdeal.nD Cert.MlaBwdReferenceIdeal.τ).loc Cert.MlaBwdReferenceIdeal.main_arg2) = m ((c.tc : Thread Cert.MlaBwdIdeal.nD Cert.MlaBwdIdeal.τ).loc Cert.MlaBwdIdeal.main_arg2)
      ∧ m' ((c.tc : Thread Cert.MlaBwdReferenceIdeal.nD Cert.MlaBwdReferenceIdeal.τ).loc Cert.MlaBwdReferenceIdeal.main_arg3) = m ((c.tc : Thread Cert.MlaBwdIdeal.nD Cert.MlaBwdIdeal.τ).loc Cert.MlaBwdIdeal.main_arg3)
      ∧ m' ((c.tc : Thread Cert.MlaBwdReferenceIdeal.nD Cert.MlaBwdReferenceIdeal.τ).loc Cert.MlaBwdReferenceIdeal.main_arg4) = m ((c.tc : Thread Cert.MlaBwdIdeal.nD Cert.MlaBwdIdeal.τ).loc Cert.MlaBwdIdeal.main_arg4)
      ∧ m' ((c.tc : Thread Cert.MlaBwdReferenceIdeal.nD Cert.MlaBwdReferenceIdeal.τ).loc Cert.MlaBwdReferenceIdeal.main_arg5) = m ((c.tc : Thread Cert.MlaBwdIdeal.nD Cert.MlaBwdIdeal.τ).loc Cert.MlaBwdIdeal.main_arg5)) →
    ∃ (v0 : (c : Dev Cert.MlaBwdIdeal.nD) → Buf (Elt Ideal) ((c.tc : Thread Cert.MlaBwdIdeal.nD Cert.MlaBwdIdeal.τ).loc Cert.MlaBwdIdeal.main_v72)) (v1 : (c : Dev Cert.MlaBwdIdeal.nD) → Buf (Elt Ideal) ((c.tc : Thread Cert.MlaBwdIdeal.nD Cert.MlaBwdIdeal.τ).loc Cert.MlaBwdIdeal.main_v73)) (v2 : (c : Dev Cert.MlaBwdIdeal.nD) → Buf (Elt Ideal) ((c.tc : Thread Cert.MlaBwdIdeal.nD Cert.MlaBwdIdeal.τ).loc Cert.MlaBwdIdeal.main_v74)) (v3 : (c : Dev Cert.MlaBwdIdeal.nD) → Buf (Elt Ideal) ((c.tc : Thread Cert.MlaBwdIdeal.nD Cert.MlaBwdIdeal.τ).loc Cert.MlaBwdIdeal.main_v76)) (v4 : (c : Dev Cert.MlaBwdIdeal.nD) → Buf (Elt Ideal) ((c.tc : Thread Cert.MlaBwdIdeal.nD Cert.MlaBwdIdeal.τ).loc Cert.MlaBwdIdeal.main_v77)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v72) = v0 c
          ∧ r.2.mem ((c.tc : Thread Cert.MlaBwdIdeal.nD Cert.MlaBwdIdeal.τ).loc Cert.MlaBwdIdeal.main_v73) = v1 c
          ∧ r.2.mem ((c.tc : Thread Cert.MlaBwdIdeal.nD Cert.MlaBwdIdeal.τ).loc Cert.MlaBwdIdeal.main_v74) = v2 c
          ∧ r.2.mem ((c.tc : Thread Cert.MlaBwdIdeal.nD Cert.MlaBwdIdeal.τ).loc Cert.MlaBwdIdeal.main_v76) = v3 c
          ∧ r.2.mem ((c.tc : Thread Cert.MlaBwdIdeal.nD Cert.MlaBwdIdeal.τ).loc Cert.MlaBwdIdeal.main_v77) = v4 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
          ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ θ_run (Cert.MlaBwdReferenceIdeal.defs (F := Ideal)) (onTc (τ := Cert.MlaBwdReferenceIdeal.τ) (Cert.MlaBwdReferenceIdeal.main (F := Ideal))) ⟨m', fun _ => 0, g'⟩ (fun r => ∀ c : Dev Cert.MlaBwdReferenceIdeal.nD,
          r.2.mem ((c.tc : Thread Cert.MlaBwdReferenceIdeal.nD Cert.MlaBwdReferenceIdeal.τ).loc Cert.MlaBwdReferenceIdeal.main_v145) = v0 c
          ∧ r.2.mem ((c.tc : Thread Cert.MlaBwdReferenceIdeal.nD Cert.MlaBwdReferenceIdeal.τ).loc Cert.MlaBwdReferenceIdeal.main_v143) = v1 c
          ∧ r.2.mem ((c.tc : Thread Cert.MlaBwdReferenceIdeal.nD Cert.MlaBwdReferenceIdeal.τ).loc Cert.MlaBwdReferenceIdeal.main_v141) = v2 c
          ∧ r.2.mem ((c.tc : Thread Cert.MlaBwdReferenceIdeal.nD Cert.MlaBwdReferenceIdeal.τ).loc Cert.MlaBwdReferenceIdeal.main_v139) = v3 c
          ∧ r.2.mem ((c.tc : Thread Cert.MlaBwdReferenceIdeal.nD Cert.MlaBwdReferenceIdeal.τ).loc Cert.MlaBwdReferenceIdeal.main_v137) = v4 c
          ∧ r.2.mem ((c.tc : Thread Cert.MlaBwdReferenceIdeal.nD Cert.MlaBwdReferenceIdeal.τ).loc Cert.MlaBwdReferenceIdeal.main_arg0) = m' ((c.tc : Thread Cert.MlaBwdReferenceIdeal.nD Cert.MlaBwdReferenceIdeal.τ).loc Cert.MlaBwdReferenceIdeal.main_arg0)
          ∧ r.2.mem ((c.tc : Thread Cert.MlaBwdReferenceIdeal.nD Cert.MlaBwdReferenceIdeal.τ).loc Cert.MlaBwdReferenceIdeal.main_arg1) = m' ((c.tc : Thread Cert.MlaBwdReferenceIdeal.nD Cert.MlaBwdReferenceIdeal.τ).loc Cert.MlaBwdReferenceIdeal.main_arg1)
          ∧ r.2.mem ((c.tc : Thread Cert.MlaBwdReferenceIdeal.nD Cert.MlaBwdReferenceIdeal.τ).loc Cert.MlaBwdReferenceIdeal.main_arg2) = m' ((c.tc : Thread Cert.MlaBwdReferenceIdeal.nD Cert.MlaBwdReferenceIdeal.τ).loc Cert.MlaBwdReferenceIdeal.main_arg2)
          ∧ r.2.mem ((c.tc : Thread Cert.MlaBwdReferenceIdeal.nD Cert.MlaBwdReferenceIdeal.τ).loc Cert.MlaBwdReferenceIdeal.main_arg3) = m' ((c.tc : Thread Cert.MlaBwdReferenceIdeal.nD Cert.MlaBwdReferenceIdeal.τ).loc Cert.MlaBwdReferenceIdeal.main_arg3)
          ∧ r.2.mem ((c.tc : Thread Cert.MlaBwdReferenceIdeal.nD Cert.MlaBwdReferenceIdeal.τ).loc Cert.MlaBwdReferenceIdeal.main_arg4) = m' ((c.tc : Thread Cert.MlaBwdReferenceIdeal.nD Cert.MlaBwdReferenceIdeal.τ).loc Cert.MlaBwdReferenceIdeal.main_arg4)
          ∧ r.2.mem ((c.tc : Thread Cert.MlaBwdReferenceIdeal.nD Cert.MlaBwdReferenceIdeal.τ).loc Cert.MlaBwdReferenceIdeal.main_arg5) = m' ((c.tc : Thread Cert.MlaBwdReferenceIdeal.nD Cert.MlaBwdReferenceIdeal.τ).loc Cert.MlaBwdReferenceIdeal.main_arg5))

def preserves_ModBwd_ModBwdIdeal : Prop :=
  True

def algebraic_ModBwdIdeal_ModBwdReferenceIdeal [hModBwdIdeal : Cert.ModBwdIdeal.Facts] [hModBwdReferenceIdeal : Cert.ModBwdReferenceIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdReferenceIdeal.nD Cert.ModBwdReferenceIdeal.τ Cert.ModBwdReferenceIdeal.sig) → Buf (Elt Ideal) ℓ) (g' : Dev Cert.ModBwdReferenceIdeal.nD → PrngReg), Pre_ModBwdIdeal m →
    (∀ c : Dev Cert.ModBwdIdeal.nD,
      m' ((c.tc : Thread Cert.ModBwdReferenceIdeal.nD Cert.ModBwdReferenceIdeal.τ).loc Cert.ModBwdReferenceIdeal.main_arg0) = m ((c.tc : Thread Cert.ModBwdIdeal.nD Cert.ModBwdIdeal.τ).loc Cert.ModBwdIdeal.main_arg0)
      ∧ m' ((c.tc : Thread Cert.ModBwdReferenceIdeal.nD Cert.ModBwdReferenceIdeal.τ).loc Cert.ModBwdReferenceIdeal.main_arg1) = m ((c.tc : Thread Cert.ModBwdIdeal.nD Cert.ModBwdIdeal.τ).loc Cert.ModBwdIdeal.main_arg1)
      ∧ m' ((c.tc : Thread Cert.ModBwdReferenceIdeal.nD Cert.ModBwdReferenceIdeal.τ).loc Cert.ModBwdReferenceIdeal.main_arg2) = m ((c.tc : Thread Cert.ModBwdIdeal.nD Cert.ModBwdIdeal.τ).loc Cert.ModBwdIdeal.main_arg2)
      ∧ m' ((c.tc : Thread Cert.ModBwdReferenceIdeal.nD Cert.ModBwdReferenceIdeal.τ).loc Cert.ModBwdReferenceIdeal.main_arg3) = m ((c.tc : Thread Cert.ModBwdIdeal.nD Cert.ModBwdIdeal.τ).loc Cert.ModBwdIdeal.main_arg3)
      ∧ m' ((c.tc : Thread Cert.ModBwdReferenceIdeal.nD Cert.ModBwdReferenceIdeal.τ).loc Cert.ModBwdReferenceIdeal.main_arg4) = m ((c.tc : Thread Cert.ModBwdIdeal.nD Cert.ModBwdIdeal.τ).loc Cert.ModBwdIdeal.main_arg4)) →
    ∃ (v0 : (c : Dev Cert.ModBwdIdeal.nD) → Buf (Elt Ideal) ((c.tc : Thread Cert.ModBwdIdeal.nD Cert.ModBwdIdeal.τ).loc Cert.ModBwdIdeal.main_v3_0)) (v1 : (c : Dev Cert.ModBwdIdeal.nD) → Buf (Elt Ideal) ((c.tc : Thread Cert.ModBwdIdeal.nD Cert.ModBwdIdeal.τ).loc Cert.ModBwdIdeal.main_v3_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v3_0) = v0 c
          ∧ r.2.mem ((c.tc : Thread Cert.ModBwdIdeal.nD Cert.ModBwdIdeal.τ).loc Cert.ModBwdIdeal.main_v3_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
          ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ θ_run (Cert.ModBwdReferenceIdeal.defs (F := Ideal)) (onTc (τ := Cert.ModBwdReferenceIdeal.τ) (Cert.ModBwdReferenceIdeal.main (F := Ideal))) ⟨m', fun _ => 0, g'⟩ (fun r => ∀ c : Dev Cert.ModBwdReferenceIdeal.nD,
          r.2.mem ((c.tc : Thread Cert.ModBwdReferenceIdeal.nD Cert.ModBwdReferenceIdeal.τ).loc Cert.ModBwdReferenceIdeal.main_v62) = v0 c
          ∧ r.2.mem ((c.tc : Thread Cert.ModBwdReferenceIdeal.nD Cert.ModBwdReferenceIdeal.τ).loc Cert.ModBwdReferenceIdeal.main_v64) = v1 c
          ∧ r.2.mem ((c.tc : Thread Cert.ModBwdReferenceIdeal.nD Cert.ModBwdReferenceIdeal.τ).loc Cert.ModBwdReferenceIdeal.main_arg0) = m' ((c.tc : Thread Cert.ModBwdReferenceIdeal.nD Cert.ModBwdReferenceIdeal.τ).loc Cert.ModBwdReferenceIdeal.main_arg0)
          ∧ r.2.mem ((c.tc : Thread Cert.ModBwdReferenceIdeal.nD Cert.ModBwdReferenceIdeal.τ).loc Cert.ModBwdReferenceIdeal.main_arg1) = m' ((c.tc : Thread Cert.ModBwdReferenceIdeal.nD Cert.ModBwdReferenceIdeal.τ).loc Cert.ModBwdReferenceIdeal.main_arg1)
          ∧ r.2.mem ((c.tc : Thread Cert.ModBwdReferenceIdeal.nD Cert.ModBwdReferenceIdeal.τ).loc Cert.ModBwdReferenceIdeal.main_arg2) = m' ((c.tc : Thread Cert.ModBwdReferenceIdeal.nD Cert.ModBwdReferenceIdeal.τ).loc Cert.ModBwdReferenceIdeal.main_arg2)
          ∧ r.2.mem ((c.tc : Thread Cert.ModBwdReferenceIdeal.nD Cert.ModBwdReferenceIdeal.τ).loc Cert.ModBwdReferenceIdeal.main_arg3) = m' ((c.tc : Thread Cert.ModBwdReferenceIdeal.nD Cert.ModBwdReferenceIdeal.τ).loc Cert.ModBwdReferenceIdeal.main_arg3)
          ∧ r.2.mem ((c.tc : Thread Cert.ModBwdReferenceIdeal.nD Cert.ModBwdReferenceIdeal.τ).loc Cert.ModBwdReferenceIdeal.main_arg4) = m' ((c.tc : Thread Cert.ModBwdReferenceIdeal.nD Cert.ModBwdReferenceIdeal.τ).loc Cert.ModBwdReferenceIdeal.main_arg4))

def preserves_FinalLoss_FinalLossIdeal : Prop :=
  True

def algebraic_FinalLossIdeal_FinalLossReferenceIdeal [hFinalLossIdeal : Cert.FinalLossIdeal.Facts] [hFinalLossReferenceIdeal : Cert.FinalLossReferenceIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossReferenceIdeal.nD Cert.FinalLossReferenceIdeal.τ Cert.FinalLossReferenceIdeal.sig) → Buf (Elt Ideal) ℓ) (g' : Dev Cert.FinalLossReferenceIdeal.nD → PrngReg), Pre_FinalLossIdeal m →
    (∀ c : Dev Cert.FinalLossIdeal.nD,
      m' ((c.tc : Thread Cert.FinalLossReferenceIdeal.nD Cert.FinalLossReferenceIdeal.τ).loc Cert.FinalLossReferenceIdeal.main_arg0) = m ((c.tc : Thread Cert.FinalLossIdeal.nD Cert.FinalLossIdeal.τ).loc Cert.FinalLossIdeal.main_arg0)
      ∧ m' ((c.tc : Thread Cert.FinalLossReferenceIdeal.nD Cert.FinalLossReferenceIdeal.τ).loc Cert.FinalLossReferenceIdeal.main_arg1) = m ((c.tc : Thread Cert.FinalLossIdeal.nD Cert.FinalLossIdeal.τ).loc Cert.FinalLossIdeal.main_arg1)
      ∧ m' ((c.tc : Thread Cert.FinalLossReferenceIdeal.nD Cert.FinalLossReferenceIdeal.τ).loc Cert.FinalLossReferenceIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v1_0)) (v1 : (c : Dev Cert.FinalLossIdeal.nD) → Buf (Elt Ideal) ((c.tc : Thread Cert.FinalLossIdeal.nD Cert.FinalLossIdeal.τ).loc Cert.FinalLossIdeal.main_v1_1)) (v2 : (c : Dev Cert.FinalLossIdeal.nD) → Buf (Elt Ideal) ((c.tc : Thread Cert.FinalLossIdeal.nD Cert.FinalLossIdeal.τ).loc Cert.FinalLossIdeal.main_v1_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v1_0) = v0 c
          ∧ r.2.mem ((c.tc : Thread Cert.FinalLossIdeal.nD Cert.FinalLossIdeal.τ).loc Cert.FinalLossIdeal.main_v1_1) = v1 c
          ∧ r.2.mem ((c.tc : Thread Cert.FinalLossIdeal.nD Cert.FinalLossIdeal.τ).loc Cert.FinalLossIdeal.main_v1_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossReferenceIdeal.defs (F := Ideal)) (onTc (τ := Cert.FinalLossReferenceIdeal.τ) (Cert.FinalLossReferenceIdeal.main (F := Ideal))) ⟨m', fun _ => 0, g'⟩ (fun r => ∀ c : Dev Cert.FinalLossReferenceIdeal.nD,
          r.2.mem ((c.tc : Thread Cert.FinalLossReferenceIdeal.nD Cert.FinalLossReferenceIdeal.τ).loc Cert.FinalLossReferenceIdeal.main_v53) = v0 c
          ∧ r.2.mem ((c.tc : Thread Cert.FinalLossReferenceIdeal.nD Cert.FinalLossReferenceIdeal.τ).loc Cert.FinalLossReferenceIdeal.main_v52) = v1 c
          ∧ r.2.mem ((c.tc : Thread Cert.FinalLossReferenceIdeal.nD Cert.FinalLossReferenceIdeal.τ).loc Cert.FinalLossReferenceIdeal.main_v54) = v2 c
          ∧ r.2.mem ((c.tc : Thread Cert.FinalLossReferenceIdeal.nD Cert.FinalLossReferenceIdeal.τ).loc Cert.FinalLossReferenceIdeal.main_arg0) = m' ((c.tc : Thread Cert.FinalLossReferenceIdeal.nD Cert.FinalLossReferenceIdeal.τ).loc Cert.FinalLossReferenceIdeal.main_arg0)
          ∧ r.2.mem ((c.tc : Thread Cert.FinalLossReferenceIdeal.nD Cert.FinalLossReferenceIdeal.τ).loc Cert.FinalLossReferenceIdeal.main_arg1) = m' ((c.tc : Thread Cert.FinalLossReferenceIdeal.nD Cert.FinalLossReferenceIdeal.τ).loc Cert.FinalLossReferenceIdeal.main_arg1)
          ∧ r.2.mem ((c.tc : Thread Cert.FinalLossReferenceIdeal.nD Cert.FinalLossReferenceIdeal.τ).loc Cert.FinalLossReferenceIdeal.main_arg2) = m' ((c.tc : Thread Cert.FinalLossReferenceIdeal.nD Cert.FinalLossReferenceIdeal.τ).loc Cert.FinalLossReferenceIdeal.main_arg2))

def preserves_FfnBwd_FfnBwdIdeal : Prop :=
  True

def algebraic_FfnBwdIdeal_FfnBwdReferenceIdeal [hFfnBwdIdeal : Cert.FfnBwdIdeal.Facts] [hFfnBwdReferenceIdeal : Cert.FfnBwdReferenceIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdReferenceIdeal.nD Cert.FfnBwdReferenceIdeal.τ Cert.FfnBwdReferenceIdeal.sig) → Buf (Elt Ideal) ℓ) (g' : Dev Cert.FfnBwdReferenceIdeal.nD → PrngReg), Pre_FfnBwdIdeal m →
    (∀ c : Dev Cert.FfnBwdIdeal.nD,
      m' ((c.tc : Thread Cert.FfnBwdReferenceIdeal.nD Cert.FfnBwdReferenceIdeal.τ).loc Cert.FfnBwdReferenceIdeal.main_arg0) = m ((c.tc : Thread Cert.FfnBwdIdeal.nD Cert.FfnBwdIdeal.τ).loc Cert.FfnBwdIdeal.main_arg0)
      ∧ m' ((c.tc : Thread Cert.FfnBwdReferenceIdeal.nD Cert.FfnBwdReferenceIdeal.τ).loc Cert.FfnBwdReferenceIdeal.main_arg1) = m ((c.tc : Thread Cert.FfnBwdIdeal.nD Cert.FfnBwdIdeal.τ).loc Cert.FfnBwdIdeal.main_arg1)
      ∧ m' ((c.tc : Thread Cert.FfnBwdReferenceIdeal.nD Cert.FfnBwdReferenceIdeal.τ).loc Cert.FfnBwdReferenceIdeal.main_arg2) = m ((c.tc : Thread Cert.FfnBwdIdeal.nD Cert.FfnBwdIdeal.τ).loc Cert.FfnBwdIdeal.main_arg2)
      ∧ m' ((c.tc : Thread Cert.FfnBwdReferenceIdeal.nD Cert.FfnBwdReferenceIdeal.τ).loc Cert.FfnBwdReferenceIdeal.main_arg3) = m ((c.tc : Thread Cert.FfnBwdIdeal.nD Cert.FfnBwdIdeal.τ).loc Cert.FfnBwdIdeal.main_arg3)
      ∧ m' ((c.tc : Thread Cert.FfnBwdReferenceIdeal.nD Cert.FfnBwdReferenceIdeal.τ).loc Cert.FfnBwdReferenceIdeal.main_arg4) = m ((c.tc : Thread Cert.FfnBwdIdeal.nD Cert.FfnBwdIdeal.τ).loc Cert.FfnBwdIdeal.main_arg4)
      ∧ m' ((c.tc : Thread Cert.FfnBwdReferenceIdeal.nD Cert.FfnBwdReferenceIdeal.τ).loc Cert.FfnBwdReferenceIdeal.main_arg5) = m ((c.tc : Thread Cert.FfnBwdIdeal.nD Cert.FfnBwdIdeal.τ).loc Cert.FfnBwdIdeal.main_arg5)
      ∧ m' ((c.tc : Thread Cert.FfnBwdReferenceIdeal.nD Cert.FfnBwdReferenceIdeal.τ).loc Cert.FfnBwdReferenceIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v70_0)) (v1 : (c : Dev Cert.FfnBwdIdeal.nD) → Buf (Elt Ideal) ((c.tc : Thread Cert.FfnBwdIdeal.nD Cert.FfnBwdIdeal.τ).loc Cert.FfnBwdIdeal.main_v70_1)) (v2 : (c : Dev Cert.FfnBwdIdeal.nD) → Buf (Elt Ideal) ((c.tc : Thread Cert.FfnBwdIdeal.nD Cert.FfnBwdIdeal.τ).loc Cert.FfnBwdIdeal.main_v70_2)) (v3 : (c : Dev Cert.FfnBwdIdeal.nD) → Buf (Elt Ideal) ((c.tc : Thread Cert.FfnBwdIdeal.nD Cert.FfnBwdIdeal.τ).loc Cert.FfnBwdIdeal.main_v70_3)) (v4 : (c : Dev Cert.FfnBwdIdeal.nD) → Buf (Elt Ideal) ((c.tc : Thread Cert.FfnBwdIdeal.nD Cert.FfnBwdIdeal.τ).loc Cert.FfnBwdIdeal.main_v70_4)) (v5 : (c : Dev Cert.FfnBwdIdeal.nD) → Buf (Elt Ideal) ((c.tc : Thread Cert.FfnBwdIdeal.nD Cert.FfnBwdIdeal.τ).loc Cert.FfnBwdIdeal.main_v70_5)) (v6 : (c : Dev Cert.FfnBwdIdeal.nD) → Buf (Elt Ideal) ((c.tc : Thread Cert.FfnBwdIdeal.nD Cert.FfnBwdIdeal.τ).loc Cert.FfnBwdIdeal.main_v70_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v70_0) = v0 c
          ∧ r.2.mem ((c.tc : Thread Cert.FfnBwdIdeal.nD Cert.FfnBwdIdeal.τ).loc Cert.FfnBwdIdeal.main_v70_1) = v1 c
          ∧ r.2.mem ((c.tc : Thread Cert.FfnBwdIdeal.nD Cert.FfnBwdIdeal.τ).loc Cert.FfnBwdIdeal.main_v70_2) = v2 c
          ∧ r.2.mem ((c.tc : Thread Cert.FfnBwdIdeal.nD Cert.FfnBwdIdeal.τ).loc Cert.FfnBwdIdeal.main_v70_3) = v3 c
          ∧ r.2.mem ((c.tc : Thread Cert.FfnBwdIdeal.nD Cert.FfnBwdIdeal.τ).loc Cert.FfnBwdIdeal.main_v70_4) = v4 c
          ∧ r.2.mem ((c.tc : Thread Cert.FfnBwdIdeal.nD Cert.FfnBwdIdeal.τ).loc Cert.FfnBwdIdeal.main_v70_5) = v5 c
          ∧ r.2.mem ((c.tc : Thread Cert.FfnBwdIdeal.nD Cert.FfnBwdIdeal.τ).loc Cert.FfnBwdIdeal.main_v70_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnBwdReferenceIdeal.defs (F := Ideal)) (onTc (τ := Cert.FfnBwdReferenceIdeal.τ) (Cert.FfnBwdReferenceIdeal.main (F := Ideal))) ⟨m', fun _ => 0, g'⟩ (fun r => ∀ c : Dev Cert.FfnBwdReferenceIdeal.nD,
          r.2.mem ((c.tc : Thread Cert.FfnBwdReferenceIdeal.nD Cert.FfnBwdReferenceIdeal.τ).loc Cert.FfnBwdReferenceIdeal.main_v179) = v0 c
          ∧ r.2.mem ((c.tc : Thread Cert.FfnBwdReferenceIdeal.nD Cert.FfnBwdReferenceIdeal.τ).loc Cert.FfnBwdReferenceIdeal.main_v193) = v1 c
          ∧ r.2.mem ((c.tc : Thread Cert.FfnBwdReferenceIdeal.nD Cert.FfnBwdReferenceIdeal.τ).loc Cert.FfnBwdReferenceIdeal.main_v194) = v2 c
          ∧ r.2.mem ((c.tc : Thread Cert.FfnBwdReferenceIdeal.nD Cert.FfnBwdReferenceIdeal.τ).loc Cert.FfnBwdReferenceIdeal.main_v195) = v3 c
          ∧ r.2.mem ((c.tc : Thread Cert.FfnBwdReferenceIdeal.nD Cert.FfnBwdReferenceIdeal.τ).loc Cert.FfnBwdReferenceIdeal.main_v197) = v4 c
          ∧ r.2.mem ((c.tc : Thread Cert.FfnBwdReferenceIdeal.nD Cert.FfnBwdReferenceIdeal.τ).loc Cert.FfnBwdReferenceIdeal.main_v199) = v5 c
          ∧ r.2.mem ((c.tc : Thread Cert.FfnBwdReferenceIdeal.nD Cert.FfnBwdReferenceIdeal.τ).loc Cert.FfnBwdReferenceIdeal.main_v200) = v6 c
          ∧ r.2.mem ((c.tc : Thread Cert.FfnBwdReferenceIdeal.nD Cert.FfnBwdReferenceIdeal.τ).loc Cert.FfnBwdReferenceIdeal.main_arg0) = m' ((c.tc : Thread Cert.FfnBwdReferenceIdeal.nD Cert.FfnBwdReferenceIdeal.τ).loc Cert.FfnBwdReferenceIdeal.main_arg0)
          ∧ r.2.mem ((c.tc : Thread Cert.FfnBwdReferenceIdeal.nD Cert.FfnBwdReferenceIdeal.τ).loc Cert.FfnBwdReferenceIdeal.main_arg1) = m' ((c.tc : Thread Cert.FfnBwdReferenceIdeal.nD Cert.FfnBwdReferenceIdeal.τ).loc Cert.FfnBwdReferenceIdeal.main_arg1)
          ∧ r.2.mem ((c.tc : Thread Cert.FfnBwdReferenceIdeal.nD Cert.FfnBwdReferenceIdeal.τ).loc Cert.FfnBwdReferenceIdeal.main_arg2) = m' ((c.tc : Thread Cert.FfnBwdReferenceIdeal.nD Cert.FfnBwdReferenceIdeal.τ).loc Cert.FfnBwdReferenceIdeal.main_arg2)
          ∧ r.2.mem ((c.tc : Thread Cert.FfnBwdReferenceIdeal.nD Cert.FfnBwdReferenceIdeal.τ).loc Cert.FfnBwdReferenceIdeal.main_arg3) = m' ((c.tc : Thread Cert.FfnBwdReferenceIdeal.nD Cert.FfnBwdReferenceIdeal.τ).loc Cert.FfnBwdReferenceIdeal.main_arg3)
          ∧ r.2.mem ((c.tc : Thread Cert.FfnBwdReferenceIdeal.nD Cert.FfnBwdReferenceIdeal.τ).loc Cert.FfnBwdReferenceIdeal.main_arg4) = m' ((c.tc : Thread Cert.FfnBwdReferenceIdeal.nD Cert.FfnBwdReferenceIdeal.τ).loc Cert.FfnBwdReferenceIdeal.main_arg4)
          ∧ r.2.mem ((c.tc : Thread Cert.FfnBwdReferenceIdeal.nD Cert.FfnBwdReferenceIdeal.τ).loc Cert.FfnBwdReferenceIdeal.main_arg5) = m' ((c.tc : Thread Cert.FfnBwdReferenceIdeal.nD Cert.FfnBwdReferenceIdeal.τ).loc Cert.FfnBwdReferenceIdeal.main_arg5)
          ∧ r.2.mem ((c.tc : Thread Cert.FfnBwdReferenceIdeal.nD Cert.FfnBwdReferenceIdeal.τ).loc Cert.FfnBwdReferenceIdeal.main_arg6) = m' ((c.tc : Thread Cert.FfnBwdReferenceIdeal.nD Cert.FfnBwdReferenceIdeal.τ).loc Cert.FfnBwdReferenceIdeal.main_arg6))

def preserves_OutBwd_OutBwdIdeal : Prop :=
  True

def algebraic_OutBwdIdeal_OutBwdReferenceIdeal_pre_out_bwd_finite [hOutBwdIdeal : Cert.OutBwdIdeal.Facts] [hOutBwdReferenceIdeal : Cert.OutBwdReferenceIdeal.Facts] [hPre_out_bwd_finite : Cert.Pre_out_bwd_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal_out_bwd_finite m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)
      ∧ m' ((c.tc : Thread Cert.OutBwdReferenceIdeal.nD Cert.OutBwdReferenceIdeal.τ).loc Cert.OutBwdReferenceIdeal.main_arg4) = m ((c.tc : Thread Cert.OutBwdIdeal.nD Cert.OutBwdIdeal.τ).loc Cert.OutBwdIdeal.main_arg4)
      ∧ m' ((c.tc : Thread Cert.OutBwdReferenceIdeal.nD Cert.OutBwdReferenceIdeal.τ).loc Cert.OutBwdReferenceIdeal.main_arg5) = m ((c.tc : Thread Cert.OutBwdIdeal.nD Cert.OutBwdIdeal.τ).loc Cert.OutBwdIdeal.main_arg5)
      ∧ m' ((c.tc : Thread Cert.OutBwdReferenceIdeal.nD Cert.OutBwdReferenceIdeal.τ).loc Cert.OutBwdReferenceIdeal.main_arg6) = m ((c.tc : Thread Cert.OutBwdIdeal.nD Cert.OutBwdIdeal.τ).loc Cert.OutBwdIdeal.main_arg6)
      ∧ m' ((c.tc : Thread Cert.OutBwdReferenceIdeal.nD Cert.OutBwdReferenceIdeal.τ).loc Cert.OutBwdReferenceIdeal.main_arg7) = m ((c.tc : Thread Cert.OutBwdIdeal.nD Cert.OutBwdIdeal.τ).loc Cert.OutBwdIdeal.main_arg7)
      ∧ m' ((c.tc : Thread Cert.OutBwdReferenceIdeal.nD Cert.OutBwdReferenceIdeal.τ).loc Cert.OutBwdReferenceIdeal.main_arg8) = m ((c.tc : Thread Cert.OutBwdIdeal.nD Cert.OutBwdIdeal.τ).loc Cert.OutBwdIdeal.main_arg8)
      ∧ m' ((c.tc : Thread Cert.OutBwdReferenceIdeal.nD Cert.OutBwdReferenceIdeal.τ).loc Cert.OutBwdReferenceIdeal.main_arg9) = m ((c.tc : Thread Cert.OutBwdIdeal.nD Cert.OutBwdIdeal.τ).loc Cert.OutBwdIdeal.main_arg9)
      ∧ m' ((c.tc : Thread Cert.OutBwdReferenceIdeal.nD Cert.OutBwdReferenceIdeal.τ).loc Cert.OutBwdReferenceIdeal.main_arg10) = m ((c.tc : Thread Cert.OutBwdIdeal.nD Cert.OutBwdIdeal.τ).loc Cert.OutBwdIdeal.main_arg10)) →
    ∃ (v0 : (c : Dev Cert.OutBwdIdeal.nD) → Buf (Elt Ideal) ((c.tc : Thread Cert.OutBwdIdeal.nD Cert.OutBwdIdeal.τ).loc Cert.OutBwdIdeal.main_v13_0)) (v1 : (c : Dev Cert.OutBwdIdeal.nD) → Buf (Elt Ideal) ((c.tc : Thread Cert.OutBwdIdeal.nD Cert.OutBwdIdeal.τ).loc Cert.OutBwdIdeal.main_v13_1)) (v2 : (c : Dev Cert.OutBwdIdeal.nD) → Buf (Elt Ideal) ((c.tc : Thread Cert.OutBwdIdeal.nD Cert.OutBwdIdeal.τ).loc Cert.OutBwdIdeal.main_v13_2)) (v3 : (c : Dev Cert.OutBwdIdeal.nD) → Buf (Elt Ideal) ((c.tc : Thread Cert.OutBwdIdeal.nD Cert.OutBwdIdeal.τ).loc Cert.OutBwdIdeal.main_v13_3)) (v4 : (c : Dev Cert.OutBwdIdeal.nD) → Buf (Elt Ideal) ((c.tc : Thread Cert.OutBwdIdeal.nD Cert.OutBwdIdeal.τ).loc Cert.OutBwdIdeal.main_v13_4)) (v5 : (c : Dev Cert.OutBwdIdeal.nD) → Buf (Elt Ideal) ((c.tc : Thread Cert.OutBwdIdeal.nD Cert.OutBwdIdeal.τ).loc Cert.OutBwdIdeal.main_v13_5)) (v6 : (c : Dev Cert.OutBwdIdeal.nD) → Buf (Elt Ideal) ((c.tc : Thread Cert.OutBwdIdeal.nD Cert.OutBwdIdeal.τ).loc Cert.OutBwdIdeal.main_v13_6)) (v7 : (c : Dev Cert.OutBwdIdeal.nD) → Buf (Elt Ideal) ((c.tc : Thread Cert.OutBwdIdeal.nD Cert.OutBwdIdeal.τ).loc Cert.OutBwdIdeal.main_v13_7)) (v8 : (c : Dev Cert.OutBwdIdeal.nD) → Buf (Elt Ideal) ((c.tc : Thread Cert.OutBwdIdeal.nD Cert.OutBwdIdeal.τ).loc Cert.OutBwdIdeal.main_v13_8)) (v9 : (c : Dev Cert.OutBwdIdeal.nD) → Buf (Elt Ideal) ((c.tc : Thread Cert.OutBwdIdeal.nD Cert.OutBwdIdeal.τ).loc Cert.OutBwdIdeal.main_v13_9)) (v10 : (c : Dev Cert.OutBwdIdeal.nD) → Buf (Elt Ideal) ((c.tc : Thread Cert.OutBwdIdeal.nD Cert.OutBwdIdeal.τ).loc Cert.OutBwdIdeal.main_v13_10)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v13_0) = v0 c
          ∧ r.2.mem ((c.tc : Thread Cert.OutBwdIdeal.nD Cert.OutBwdIdeal.τ).loc Cert.OutBwdIdeal.main_v13_1) = v1 c
          ∧ r.2.mem ((c.tc : Thread Cert.OutBwdIdeal.nD Cert.OutBwdIdeal.τ).loc Cert.OutBwdIdeal.main_v13_2) = v2 c
          ∧ r.2.mem ((c.tc : Thread Cert.OutBwdIdeal.nD Cert.OutBwdIdeal.τ).loc Cert.OutBwdIdeal.main_v13_3) = v3 c
          ∧ r.2.mem ((c.tc : Thread Cert.OutBwdIdeal.nD Cert.OutBwdIdeal.τ).loc Cert.OutBwdIdeal.main_v13_4) = v4 c
          ∧ r.2.mem ((c.tc : Thread Cert.OutBwdIdeal.nD Cert.OutBwdIdeal.τ).loc Cert.OutBwdIdeal.main_v13_5) = v5 c
          ∧ r.2.mem ((c.tc : Thread Cert.OutBwdIdeal.nD Cert.OutBwdIdeal.τ).loc Cert.OutBwdIdeal.main_v13_6) = v6 c
          ∧ r.2.mem ((c.tc : Thread Cert.OutBwdIdeal.nD Cert.OutBwdIdeal.τ).loc Cert.OutBwdIdeal.main_v13_7) = v7 c
          ∧ r.2.mem ((c.tc : Thread Cert.OutBwdIdeal.nD Cert.OutBwdIdeal.τ).loc Cert.OutBwdIdeal.main_v13_8) = v8 c
          ∧ r.2.mem ((c.tc : Thread Cert.OutBwdIdeal.nD Cert.OutBwdIdeal.τ).loc Cert.OutBwdIdeal.main_v13_9) = v9 c
          ∧ r.2.mem ((c.tc : Thread Cert.OutBwdIdeal.nD Cert.OutBwdIdeal.τ).loc Cert.OutBwdIdeal.main_v13_10) = v10 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
          ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7)
          ∧ r.2.mem ((c.tc : Thread Cert.OutBwdIdeal.nD Cert.OutBwdIdeal.τ).loc Cert.OutBwdIdeal.main_arg8) = m ((c.tc : Thread Cert.OutBwdIdeal.nD Cert.OutBwdIdeal.τ).loc Cert.OutBwdIdeal.main_arg8)
          ∧ r.2.mem ((c.tc : Thread Cert.OutBwdIdeal.nD Cert.OutBwdIdeal.τ).loc Cert.OutBwdIdeal.main_arg9) = m ((c.tc : Thread Cert.OutBwdIdeal.nD Cert.OutBwdIdeal.τ).loc Cert.OutBwdIdeal.main_arg9)
          ∧ r.2.mem ((c.tc : Thread Cert.OutBwdIdeal.nD Cert.OutBwdIdeal.τ).loc Cert.OutBwdIdeal.main_arg10) = m ((c.tc : Thread Cert.OutBwdIdeal.nD Cert.OutBwdIdeal.τ).loc Cert.OutBwdIdeal.main_arg10))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v71) = v0 c
          ∧ r.2.mem ((c.tc : Thread Cert.OutBwdReferenceIdeal.nD Cert.OutBwdReferenceIdeal.τ).loc Cert.OutBwdReferenceIdeal.main_v119) = v1 c
          ∧ r.2.mem ((c.tc : Thread Cert.OutBwdReferenceIdeal.nD Cert.OutBwdReferenceIdeal.τ).loc Cert.OutBwdReferenceIdeal.main_v73) = v2 c
          ∧ r.2.mem ((c.tc : Thread Cert.OutBwdReferenceIdeal.nD Cert.OutBwdReferenceIdeal.τ).loc Cert.OutBwdReferenceIdeal.main_v101) = v3 c
          ∧ r.2.mem ((c.tc : Thread Cert.OutBwdReferenceIdeal.nD Cert.OutBwdReferenceIdeal.τ).loc Cert.OutBwdReferenceIdeal.main_v80) = v4 c
          ∧ r.2.mem ((c.tc : Thread Cert.OutBwdReferenceIdeal.nD Cert.OutBwdReferenceIdeal.τ).loc Cert.OutBwdReferenceIdeal.main_v75) = v5 c
          ∧ r.2.mem ((c.tc : Thread Cert.OutBwdReferenceIdeal.nD Cert.OutBwdReferenceIdeal.τ).loc Cert.OutBwdReferenceIdeal.main_v123) = v6 c
          ∧ r.2.mem ((c.tc : Thread Cert.OutBwdReferenceIdeal.nD Cert.OutBwdReferenceIdeal.τ).loc Cert.OutBwdReferenceIdeal.main_v124) = v7 c
          ∧ r.2.mem ((c.tc : Thread Cert.OutBwdReferenceIdeal.nD Cert.OutBwdReferenceIdeal.τ).loc Cert.OutBwdReferenceIdeal.main_v126) = v8 c
          ∧ r.2.mem ((c.tc : Thread Cert.OutBwdReferenceIdeal.nD Cert.OutBwdReferenceIdeal.τ).loc Cert.OutBwdReferenceIdeal.main_v128) = v9 c
          ∧ r.2.mem ((c.tc : Thread Cert.OutBwdReferenceIdeal.nD Cert.OutBwdReferenceIdeal.τ).loc Cert.OutBwdReferenceIdeal.main_v129) = v10 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3)
          ∧ r.2.mem ((c.tc : Thread Cert.OutBwdReferenceIdeal.nD Cert.OutBwdReferenceIdeal.τ).loc Cert.OutBwdReferenceIdeal.main_arg4) = m' ((c.tc : Thread Cert.OutBwdReferenceIdeal.nD Cert.OutBwdReferenceIdeal.τ).loc Cert.OutBwdReferenceIdeal.main_arg4)
          ∧ r.2.mem ((c.tc : Thread Cert.OutBwdReferenceIdeal.nD Cert.OutBwdReferenceIdeal.τ).loc Cert.OutBwdReferenceIdeal.main_arg5) = m' ((c.tc : Thread Cert.OutBwdReferenceIdeal.nD Cert.OutBwdReferenceIdeal.τ).loc Cert.OutBwdReferenceIdeal.main_arg5)
          ∧ r.2.mem ((c.tc : Thread Cert.OutBwdReferenceIdeal.nD Cert.OutBwdReferenceIdeal.τ).loc Cert.OutBwdReferenceIdeal.main_arg6) = m' ((c.tc : Thread Cert.OutBwdReferenceIdeal.nD Cert.OutBwdReferenceIdeal.τ).loc Cert.OutBwdReferenceIdeal.main_arg6)
          ∧ r.2.mem ((c.tc : Thread Cert.OutBwdReferenceIdeal.nD Cert.OutBwdReferenceIdeal.τ).loc Cert.OutBwdReferenceIdeal.main_arg7) = m' ((c.tc : Thread Cert.OutBwdReferenceIdeal.nD Cert.OutBwdReferenceIdeal.τ).loc Cert.OutBwdReferenceIdeal.main_arg7)
          ∧ r.2.mem ((c.tc : Thread Cert.OutBwdReferenceIdeal.nD Cert.OutBwdReferenceIdeal.τ).loc Cert.OutBwdReferenceIdeal.main_arg8) = m' ((c.tc : Thread Cert.OutBwdReferenceIdeal.nD Cert.OutBwdReferenceIdeal.τ).loc Cert.OutBwdReferenceIdeal.main_arg8)
          ∧ r.2.mem ((c.tc : Thread Cert.OutBwdReferenceIdeal.nD Cert.OutBwdReferenceIdeal.τ).loc Cert.OutBwdReferenceIdeal.main_arg9) = m' ((c.tc : Thread Cert.OutBwdReferenceIdeal.nD Cert.OutBwdReferenceIdeal.τ).loc Cert.OutBwdReferenceIdeal.main_arg9)
          ∧ r.2.mem ((c.tc : Thread Cert.OutBwdReferenceIdeal.nD Cert.OutBwdReferenceIdeal.τ).loc Cert.OutBwdReferenceIdeal.main_arg10) = m' ((c.tc : Thread Cert.OutBwdReferenceIdeal.nD Cert.OutBwdReferenceIdeal.τ).loc Cert.OutBwdReferenceIdeal.main_arg10))

def preserves_ModFwd_ModFwdIdeal : Prop :=
  True

def algebraic_ModFwdIdeal_ModFwdReferenceIdeal [hModFwdIdeal : Cert.ModFwdIdeal.Facts] [hModFwdReferenceIdeal : Cert.ModFwdReferenceIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdReferenceIdeal.nD Cert.ModFwdReferenceIdeal.τ Cert.ModFwdReferenceIdeal.sig) → Buf (Elt Ideal) ℓ) (g' : Dev Cert.ModFwdReferenceIdeal.nD → PrngReg), Pre_ModFwdIdeal m →
    (∀ c : Dev Cert.ModFwdIdeal.nD,
      m' ((c.tc : Thread Cert.ModFwdReferenceIdeal.nD Cert.ModFwdReferenceIdeal.τ).loc Cert.ModFwdReferenceIdeal.main_arg0) = m ((c.tc : Thread Cert.ModFwdIdeal.nD Cert.ModFwdIdeal.τ).loc Cert.ModFwdIdeal.main_arg0)
      ∧ m' ((c.tc : Thread Cert.ModFwdReferenceIdeal.nD Cert.ModFwdReferenceIdeal.τ).loc Cert.ModFwdReferenceIdeal.main_arg1) = m ((c.tc : Thread Cert.ModFwdIdeal.nD Cert.ModFwdIdeal.τ).loc Cert.ModFwdIdeal.main_arg1)
      ∧ m' ((c.tc : Thread Cert.ModFwdReferenceIdeal.nD Cert.ModFwdReferenceIdeal.τ).loc Cert.ModFwdReferenceIdeal.main_arg2) = m ((c.tc : Thread Cert.ModFwdIdeal.nD Cert.ModFwdIdeal.τ).loc Cert.ModFwdIdeal.main_arg2)
      ∧ m' ((c.tc : Thread Cert.ModFwdReferenceIdeal.nD Cert.ModFwdReferenceIdeal.τ).loc Cert.ModFwdReferenceIdeal.main_arg3) = m ((c.tc : Thread Cert.ModFwdIdeal.nD Cert.ModFwdIdeal.τ).loc Cert.ModFwdIdeal.main_arg3)) →
    ∃ (v0 : (c : Dev Cert.ModFwdIdeal.nD) → Buf (Elt Ideal) ((c.tc : Thread Cert.ModFwdIdeal.nD Cert.ModFwdIdeal.τ).loc Cert.ModFwdIdeal.main_v4)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v4) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
          ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ θ_run (Cert.ModFwdReferenceIdeal.defs (F := Ideal)) (onTc (τ := Cert.ModFwdReferenceIdeal.τ) (Cert.ModFwdReferenceIdeal.main (F := Ideal))) ⟨m', fun _ => 0, g'⟩ (fun r => ∀ c : Dev Cert.ModFwdReferenceIdeal.nD,
          r.2.mem ((c.tc : Thread Cert.ModFwdReferenceIdeal.nD Cert.ModFwdReferenceIdeal.τ).loc Cert.ModFwdReferenceIdeal.main_v42) = v0 c
          ∧ r.2.mem ((c.tc : Thread Cert.ModFwdReferenceIdeal.nD Cert.ModFwdReferenceIdeal.τ).loc Cert.ModFwdReferenceIdeal.main_arg0) = m' ((c.tc : Thread Cert.ModFwdReferenceIdeal.nD Cert.ModFwdReferenceIdeal.τ).loc Cert.ModFwdReferenceIdeal.main_arg0)
          ∧ r.2.mem ((c.tc : Thread Cert.ModFwdReferenceIdeal.nD Cert.ModFwdReferenceIdeal.τ).loc Cert.ModFwdReferenceIdeal.main_arg1) = m' ((c.tc : Thread Cert.ModFwdReferenceIdeal.nD Cert.ModFwdReferenceIdeal.τ).loc Cert.ModFwdReferenceIdeal.main_arg1)
          ∧ r.2.mem ((c.tc : Thread Cert.ModFwdReferenceIdeal.nD Cert.ModFwdReferenceIdeal.τ).loc Cert.ModFwdReferenceIdeal.main_arg2) = m' ((c.tc : Thread Cert.ModFwdReferenceIdeal.nD Cert.ModFwdReferenceIdeal.τ).loc Cert.ModFwdReferenceIdeal.main_arg2)
          ∧ r.2.mem ((c.tc : Thread Cert.ModFwdReferenceIdeal.nD Cert.ModFwdReferenceIdeal.τ).loc Cert.ModFwdReferenceIdeal.main_arg3) = m' ((c.tc : Thread Cert.ModFwdReferenceIdeal.nD Cert.ModFwdReferenceIdeal.τ).loc Cert.ModFwdReferenceIdeal.main_arg3))

def preserves_OutFfnFwd_OutFfnFwdIdeal : Prop :=
  True

def algebraic_OutFfnFwdIdeal_OutFfnFwdReferenceIdeal [hOutFfnFwdIdeal : Cert.OutFfnFwdIdeal.Facts] [hOutFfnFwdReferenceIdeal : Cert.OutFfnFwdReferenceIdeal.Facts] : Prop :=
  ∀ (m : (ℓ : Loc Cert.OutFfnFwdIdeal.nD Cert.OutFfnFwdIdeal.τ Cert.OutFfnFwdIdeal.sig) → Buf (Elt Ideal) ℓ) (g : Dev Cert.OutFfnFwdIdeal.nD → PrngReg)
    (m' : (ℓ : Loc Cert.OutFfnFwdReferenceIdeal.nD Cert.OutFfnFwdReferenceIdeal.τ Cert.OutFfnFwdReferenceIdeal.sig) → Buf (Elt Ideal) ℓ) (g' : Dev Cert.OutFfnFwdReferenceIdeal.nD → PrngReg), Pre_OutFfnFwdIdeal m →
    (∀ c : Dev Cert.OutFfnFwdIdeal.nD,
      m' ((c.tc : Thread Cert.OutFfnFwdReferenceIdeal.nD Cert.OutFfnFwdReferenceIdeal.τ).loc Cert.OutFfnFwdReferenceIdeal.main_arg0) = m ((c.tc : Thread Cert.OutFfnFwdIdeal.nD Cert.OutFfnFwdIdeal.τ).loc Cert.OutFfnFwdIdeal.main_arg0)
      ∧ m' ((c.tc : Thread Cert.OutFfnFwdReferenceIdeal.nD Cert.OutFfnFwdReferenceIdeal.τ).loc Cert.OutFfnFwdReferenceIdeal.main_arg1) = m ((c.tc : Thread Cert.OutFfnFwdIdeal.nD Cert.OutFfnFwdIdeal.τ).loc Cert.OutFfnFwdIdeal.main_arg1)
      ∧ m' ((c.tc : Thread Cert.OutFfnFwdReferenceIdeal.nD Cert.OutFfnFwdReferenceIdeal.τ).loc Cert.OutFfnFwdReferenceIdeal.main_arg2) = m ((c.tc : Thread Cert.OutFfnFwdIdeal.nD Cert.OutFfnFwdIdeal.τ).loc Cert.OutFfnFwdIdeal.main_arg2)
      ∧ m' ((c.tc : Thread Cert.OutFfnFwdReferenceIdeal.nD Cert.OutFfnFwdReferenceIdeal.τ).loc Cert.OutFfnFwdReferenceIdeal.main_arg3) = m ((c.tc : Thread Cert.OutFfnFwdIdeal.nD Cert.OutFfnFwdIdeal.τ).loc Cert.OutFfnFwdIdeal.main_arg3)
      ∧ m' ((c.tc : Thread Cert.OutFfnFwdReferenceIdeal.nD Cert.OutFfnFwdReferenceIdeal.τ).loc Cert.OutFfnFwdReferenceIdeal.main_arg4) = m ((c.tc : Thread Cert.OutFfnFwdIdeal.nD Cert.OutFfnFwdIdeal.τ).loc Cert.OutFfnFwdIdeal.main_arg4)
      ∧ m' ((c.tc : Thread Cert.OutFfnFwdReferenceIdeal.nD Cert.OutFfnFwdReferenceIdeal.τ).loc Cert.OutFfnFwdReferenceIdeal.main_arg5) = m ((c.tc : Thread Cert.OutFfnFwdIdeal.nD Cert.OutFfnFwdIdeal.τ).loc Cert.OutFfnFwdIdeal.main_arg5)
      ∧ m' ((c.tc : Thread Cert.OutFfnFwdReferenceIdeal.nD Cert.OutFfnFwdReferenceIdeal.τ).loc Cert.OutFfnFwdReferenceIdeal.main_arg6) = m ((c.tc : Thread Cert.OutFfnFwdIdeal.nD Cert.OutFfnFwdIdeal.τ).loc Cert.OutFfnFwdIdeal.main_arg6)
      ∧ m' ((c.tc : Thread Cert.OutFfnFwdReferenceIdeal.nD Cert.OutFfnFwdReferenceIdeal.τ).loc Cert.OutFfnFwdReferenceIdeal.main_arg7) = m ((c.tc : Thread Cert.OutFfnFwdIdeal.nD Cert.OutFfnFwdIdeal.τ).loc Cert.OutFfnFwdIdeal.main_arg7)
      ∧ m' ((c.tc : Thread Cert.OutFfnFwdReferenceIdeal.nD Cert.OutFfnFwdReferenceIdeal.τ).loc Cert.OutFfnFwdReferenceIdeal.main_arg8) = m ((c.tc : Thread Cert.OutFfnFwdIdeal.nD Cert.OutFfnFwdIdeal.τ).loc Cert.OutFfnFwdIdeal.main_arg8)
      ∧ m' ((c.tc : Thread Cert.OutFfnFwdReferenceIdeal.nD Cert.OutFfnFwdReferenceIdeal.τ).loc Cert.OutFfnFwdReferenceIdeal.main_arg9) = m ((c.tc : Thread Cert.OutFfnFwdIdeal.nD Cert.OutFfnFwdIdeal.τ).loc Cert.OutFfnFwdIdeal.main_arg9)
      ∧ m' ((c.tc : Thread Cert.OutFfnFwdReferenceIdeal.nD Cert.OutFfnFwdReferenceIdeal.τ).loc Cert.OutFfnFwdReferenceIdeal.main_arg10) = m ((c.tc : Thread Cert.OutFfnFwdIdeal.nD Cert.OutFfnFwdIdeal.τ).loc Cert.OutFfnFwdIdeal.main_arg10)
      ∧ m' ((c.tc : Thread Cert.OutFfnFwdReferenceIdeal.nD Cert.OutFfnFwdReferenceIdeal.τ).loc Cert.OutFfnFwdReferenceIdeal.main_arg11) = m ((c.tc : Thread Cert.OutFfnFwdIdeal.nD Cert.OutFfnFwdIdeal.τ).loc Cert.OutFfnFwdIdeal.main_arg11)
      ∧ m' ((c.tc : Thread Cert.OutFfnFwdReferenceIdeal.nD Cert.OutFfnFwdReferenceIdeal.τ).loc Cert.OutFfnFwdReferenceIdeal.main_arg12) = m ((c.tc : Thread Cert.OutFfnFwdIdeal.nD Cert.OutFfnFwdIdeal.τ).loc Cert.OutFfnFwdIdeal.main_arg12)) →
    ∃ (v0 : (c : Dev Cert.OutFfnFwdIdeal.nD) → Buf (Elt Ideal) ((c.tc : Thread Cert.OutFfnFwdIdeal.nD Cert.OutFfnFwdIdeal.τ).loc Cert.OutFfnFwdIdeal.main_v16_0)) (v1 : (c : Dev Cert.OutFfnFwdIdeal.nD) → Buf (Elt Ideal) ((c.tc : Thread Cert.OutFfnFwdIdeal.nD Cert.OutFfnFwdIdeal.τ).loc Cert.OutFfnFwdIdeal.main_v16_1)) (v2 : (c : Dev Cert.OutFfnFwdIdeal.nD) → Buf (Elt Ideal) ((c.tc : Thread Cert.OutFfnFwdIdeal.nD Cert.OutFfnFwdIdeal.τ).loc Cert.OutFfnFwdIdeal.main_v16_2)),
      θ_run (Cert.OutFfnFwdIdeal.defs (F := Ideal)) (onTc (τ := Cert.OutFfnFwdIdeal.τ) (Cert.OutFfnFwdIdeal.main (F := Ideal))) ⟨m, fun _ => 0, g⟩ (fun r => ∀ c : Dev Cert.OutFfnFwdIdeal.nD,
          r.2.mem ((c.tc : Thread Cert.OutFfnFwdIdeal.nD Cert.OutFfnFwdIdeal.τ).loc Cert.OutFfnFwdIdeal.main_v16_0) = v0 c
          ∧ r.2.mem ((c.tc : Thread Cert.OutFfnFwdIdeal.nD Cert.OutFfnFwdIdeal.τ).loc Cert.OutFfnFwdIdeal.main_v16_1) = v1 c
          ∧ r.2.mem ((c.tc : Thread Cert.OutFfnFwdIdeal.nD Cert.OutFfnFwdIdeal.τ).loc Cert.OutFfnFwdIdeal.main_v16_2) = v2 c
          ∧ r.2.mem ((c.tc : Thread Cert.OutFfnFwdIdeal.nD Cert.OutFfnFwdIdeal.τ).loc Cert.OutFfnFwdIdeal.main_arg0) = m ((c.tc : Thread Cert.OutFfnFwdIdeal.nD Cert.OutFfnFwdIdeal.τ).loc Cert.OutFfnFwdIdeal.main_arg0)
          ∧ r.2.mem ((c.tc : Thread Cert.OutFfnFwdIdeal.nD Cert.OutFfnFwdIdeal.τ).loc Cert.OutFfnFwdIdeal.main_arg1) = m ((c.tc : Thread Cert.OutFfnFwdIdeal.nD Cert.OutFfnFwdIdeal.τ).loc Cert.OutFfnFwdIdeal.main_arg1)
          ∧ r.2.mem ((c.tc : Thread Cert.OutFfnFwdIdeal.nD Cert.OutFfnFwdIdeal.τ).loc Cert.OutFfnFwdIdeal.main_arg2) = m ((c.tc : Thread Cert.OutFfnFwdIdeal.nD Cert.OutFfnFwdIdeal.τ).loc Cert.OutFfnFwdIdeal.main_arg2)
          ∧ r.2.mem ((c.tc : Thread Cert.OutFfnFwdIdeal.nD Cert.OutFfnFwdIdeal.τ).loc Cert.OutFfnFwdIdeal.main_arg3) = m ((c.tc : Thread Cert.OutFfnFwdIdeal.nD Cert.OutFfnFwdIdeal.τ).loc Cert.OutFfnFwdIdeal.main_arg3)
          ∧ r.2.mem ((c.tc : Thread Cert.OutFfnFwdIdeal.nD Cert.OutFfnFwdIdeal.τ).loc Cert.OutFfnFwdIdeal.main_arg4) = m ((c.tc : Thread Cert.OutFfnFwdIdeal.nD Cert.OutFfnFwdIdeal.τ).loc Cert.OutFfnFwdIdeal.main_arg4)
          ∧ r.2.mem ((c.tc : Thread Cert.OutFfnFwdIdeal.nD Cert.OutFfnFwdIdeal.τ).loc Cert.OutFfnFwdIdeal.main_arg5) = m ((c.tc : Thread Cert.OutFfnFwdIdeal.nD Cert.OutFfnFwdIdeal.τ).loc Cert.OutFfnFwdIdeal.main_arg5)
          ∧ r.2.mem ((c.tc : Thread Cert.OutFfnFwdIdeal.nD Cert.OutFfnFwdIdeal.τ).loc Cert.OutFfnFwdIdeal.main_arg6) = m ((c.tc : Thread Cert.OutFfnFwdIdeal.nD Cert.OutFfnFwdIdeal.τ).loc Cert.OutFfnFwdIdeal.main_arg6)
          ∧ r.2.mem ((c.tc : Thread Cert.OutFfnFwdIdeal.nD Cert.OutFfnFwdIdeal.τ).loc Cert.OutFfnFwdIdeal.main_arg7) = m ((c.tc : Thread Cert.OutFfnFwdIdeal.nD Cert.OutFfnFwdIdeal.τ).loc Cert.OutFfnFwdIdeal.main_arg7)
          ∧ r.2.mem ((c.tc : Thread Cert.OutFfnFwdIdeal.nD Cert.OutFfnFwdIdeal.τ).loc Cert.OutFfnFwdIdeal.main_arg8) = m ((c.tc : Thread Cert.OutFfnFwdIdeal.nD Cert.OutFfnFwdIdeal.τ).loc Cert.OutFfnFwdIdeal.main_arg8)
          ∧ r.2.mem ((c.tc : Thread Cert.OutFfnFwdIdeal.nD Cert.OutFfnFwdIdeal.τ).loc Cert.OutFfnFwdIdeal.main_arg9) = m ((c.tc : Thread Cert.OutFfnFwdIdeal.nD Cert.OutFfnFwdIdeal.τ).loc Cert.OutFfnFwdIdeal.main_arg9)
          ∧ r.2.mem ((c.tc : Thread Cert.OutFfnFwdIdeal.nD Cert.OutFfnFwdIdeal.τ).loc Cert.OutFfnFwdIdeal.main_arg10) = m ((c.tc : Thread Cert.OutFfnFwdIdeal.nD Cert.OutFfnFwdIdeal.τ).loc Cert.OutFfnFwdIdeal.main_arg10)
          ∧ r.2.mem ((c.tc : Thread Cert.OutFfnFwdIdeal.nD Cert.OutFfnFwdIdeal.τ).loc Cert.OutFfnFwdIdeal.main_arg11) = m ((c.tc : Thread Cert.OutFfnFwdIdeal.nD Cert.OutFfnFwdIdeal.τ).loc Cert.OutFfnFwdIdeal.main_arg11)
          ∧ r.2.mem ((c.tc : Thread Cert.OutFfnFwdIdeal.nD Cert.OutFfnFwdIdeal.τ).loc Cert.OutFfnFwdIdeal.main_arg12) = m ((c.tc : Thread Cert.OutFfnFwdIdeal.nD Cert.OutFfnFwdIdeal.τ).loc Cert.OutFfnFwdIdeal.main_arg12))
      ∧ θ_run (Cert.OutFfnFwdReferenceIdeal.defs (F := Ideal)) (onTc (τ := Cert.OutFfnFwdReferenceIdeal.τ) (Cert.OutFfnFwdReferenceIdeal.main (F := Ideal))) ⟨m', fun _ => 0, g'⟩ (fun r => ∀ c : Dev Cert.OutFfnFwdReferenceIdeal.nD,
          r.2.mem ((c.tc : Thread Cert.OutFfnFwdReferenceIdeal.nD Cert.OutFfnFwdReferenceIdeal.τ).loc Cert.OutFfnFwdReferenceIdeal.main_v45) = v0 c
          ∧ r.2.mem ((c.tc : Thread Cert.OutFfnFwdReferenceIdeal.nD Cert.OutFfnFwdReferenceIdeal.τ).loc Cert.OutFfnFwdReferenceIdeal.main_v107) = v1 c
          ∧ r.2.mem ((c.tc : Thread Cert.OutFfnFwdReferenceIdeal.nD Cert.OutFfnFwdReferenceIdeal.τ).loc Cert.OutFfnFwdReferenceIdeal.main_v94) = v2 c
          ∧ r.2.mem ((c.tc : Thread Cert.OutFfnFwdReferenceIdeal.nD Cert.OutFfnFwdReferenceIdeal.τ).loc Cert.OutFfnFwdReferenceIdeal.main_arg0) = m' ((c.tc : Thread Cert.OutFfnFwdReferenceIdeal.nD Cert.OutFfnFwdReferenceIdeal.τ).loc Cert.OutFfnFwdReferenceIdeal.main_arg0)
          ∧ r.2.mem ((c.tc : Thread Cert.OutFfnFwdReferenceIdeal.nD Cert.OutFfnFwdReferenceIdeal.τ).loc Cert.OutFfnFwdReferenceIdeal.main_arg1) = m' ((c.tc : Thread Cert.OutFfnFwdReferenceIdeal.nD Cert.OutFfnFwdReferenceIdeal.τ).loc Cert.OutFfnFwdReferenceIdeal.main_arg1)
          ∧ r.2.mem ((c.tc : Thread Cert.OutFfnFwdReferenceIdeal.nD Cert.OutFfnFwdReferenceIdeal.τ).loc Cert.OutFfnFwdReferenceIdeal.main_arg2) = m' ((c.tc : Thread Cert.OutFfnFwdReferenceIdeal.nD Cert.OutFfnFwdReferenceIdeal.τ).loc Cert.OutFfnFwdReferenceIdeal.main_arg2)
          ∧ r.2.mem ((c.tc : Thread Cert.OutFfnFwdReferenceIdeal.nD Cert.OutFfnFwdReferenceIdeal.τ).loc Cert.OutFfnFwdReferenceIdeal.main_arg3) = m' ((c.tc : Thread Cert.OutFfnFwdReferenceIdeal.nD Cert.OutFfnFwdReferenceIdeal.τ).loc Cert.OutFfnFwdReferenceIdeal.main_arg3)
          ∧ r.2.mem ((c.tc : Thread Cert.OutFfnFwdReferenceIdeal.nD Cert.OutFfnFwdReferenceIdeal.τ).loc Cert.OutFfnFwdReferenceIdeal.main_arg4) = m' ((c.tc : Thread Cert.OutFfnFwdReferenceIdeal.nD Cert.OutFfnFwdReferenceIdeal.τ).loc Cert.OutFfnFwdReferenceIdeal.main_arg4)
          ∧ r.2.mem ((c.tc : Thread Cert.OutFfnFwdReferenceIdeal.nD Cert.OutFfnFwdReferenceIdeal.τ).loc Cert.OutFfnFwdReferenceIdeal.main_arg5) = m' ((c.tc : Thread Cert.OutFfnFwdReferenceIdeal.nD Cert.OutFfnFwdReferenceIdeal.τ).loc Cert.OutFfnFwdReferenceIdeal.main_arg5)
          ∧ r.2.mem ((c.tc : Thread Cert.OutFfnFwdReferenceIdeal.nD Cert.OutFfnFwdReferenceIdeal.τ).loc Cert.OutFfnFwdReferenceIdeal.main_arg6) = m' ((c.tc : Thread Cert.OutFfnFwdReferenceIdeal.nD Cert.OutFfnFwdReferenceIdeal.τ).loc Cert.OutFfnFwdReferenceIdeal.main_arg6)
          ∧ r.2.mem ((c.tc : Thread Cert.OutFfnFwdReferenceIdeal.nD Cert.OutFfnFwdReferenceIdeal.τ).loc Cert.OutFfnFwdReferenceIdeal.main_arg7) = m' ((c.tc : Thread Cert.OutFfnFwdReferenceIdeal.nD Cert.OutFfnFwdReferenceIdeal.τ).loc Cert.OutFfnFwdReferenceIdeal.main_arg7)
          ∧ r.2.mem ((c.tc : Thread Cert.OutFfnFwdReferenceIdeal.nD Cert.OutFfnFwdReferenceIdeal.τ).loc Cert.OutFfnFwdReferenceIdeal.main_arg8) = m' ((c.tc : Thread Cert.OutFfnFwdReferenceIdeal.nD Cert.OutFfnFwdReferenceIdeal.τ).loc Cert.OutFfnFwdReferenceIdeal.main_arg8)
          ∧ r.2.mem ((c.tc : Thread Cert.OutFfnFwdReferenceIdeal.nD Cert.OutFfnFwdReferenceIdeal.τ).loc Cert.OutFfnFwdReferenceIdeal.main_arg9) = m' ((c.tc : Thread Cert.OutFfnFwdReferenceIdeal.nD Cert.OutFfnFwdReferenceIdeal.τ).loc Cert.OutFfnFwdReferenceIdeal.main_arg9)
          ∧ r.2.mem ((c.tc : Thread Cert.OutFfnFwdReferenceIdeal.nD Cert.OutFfnFwdReferenceIdeal.τ).loc Cert.OutFfnFwdReferenceIdeal.main_arg10) = m' ((c.tc : Thread Cert.OutFfnFwdReferenceIdeal.nD Cert.OutFfnFwdReferenceIdeal.τ).loc Cert.OutFfnFwdReferenceIdeal.main_arg10)
          ∧ r.2.mem ((c.tc : Thread Cert.OutFfnFwdReferenceIdeal.nD Cert.OutFfnFwdReferenceIdeal.τ).loc Cert.OutFfnFwdReferenceIdeal.main_arg11) = m' ((c.tc : Thread Cert.OutFfnFwdReferenceIdeal.nD Cert.OutFfnFwdReferenceIdeal.τ).loc Cert.OutFfnFwdReferenceIdeal.main_arg11)
          ∧ r.2.mem ((c.tc : Thread Cert.OutFfnFwdReferenceIdeal.nD Cert.OutFfnFwdReferenceIdeal.τ).loc Cert.OutFfnFwdReferenceIdeal.main_arg12) = m' ((c.tc : Thread Cert.OutFfnFwdReferenceIdeal.nD Cert.OutFfnFwdReferenceIdeal.τ).loc Cert.OutFfnFwdReferenceIdeal.main_arg12))

def preserves_AdamwMod_AdamwModIdeal : Prop :=
  True

def algebraic_AdamwModIdeal_AdamwModReferenceIdeal [hAdamwModIdeal : Cert.AdamwModIdeal.Facts] [hAdamwModReferenceIdeal : Cert.AdamwModReferenceIdeal.Facts] : Prop :=
  ∀ (m : (ℓ : Loc Cert.AdamwModIdeal.nD Cert.AdamwModIdeal.τ Cert.AdamwModIdeal.sig) → Buf (Elt Ideal) ℓ) (g : Dev Cert.AdamwModIdeal.nD → PrngReg)
    (m' : (ℓ : Loc Cert.AdamwModReferenceIdeal.nD Cert.AdamwModReferenceIdeal.τ Cert.AdamwModReferenceIdeal.sig) → Buf (Elt Ideal) ℓ) (g' : Dev Cert.AdamwModReferenceIdeal.nD → PrngReg), Pre_AdamwModIdeal m →
    (∀ c : Dev Cert.AdamwModIdeal.nD,
      m' ((c.tc : Thread Cert.AdamwModReferenceIdeal.nD Cert.AdamwModReferenceIdeal.τ).loc Cert.AdamwModReferenceIdeal.main_arg0) = m ((c.tc : Thread Cert.AdamwModIdeal.nD Cert.AdamwModIdeal.τ).loc Cert.AdamwModIdeal.main_arg0)
      ∧ m' ((c.tc : Thread Cert.AdamwModReferenceIdeal.nD Cert.AdamwModReferenceIdeal.τ).loc Cert.AdamwModReferenceIdeal.main_arg1) = m ((c.tc : Thread Cert.AdamwModIdeal.nD Cert.AdamwModIdeal.τ).loc Cert.AdamwModIdeal.main_arg1)
      ∧ m' ((c.tc : Thread Cert.AdamwModReferenceIdeal.nD Cert.AdamwModReferenceIdeal.τ).loc Cert.AdamwModReferenceIdeal.main_arg2) = m ((c.tc : Thread Cert.AdamwModIdeal.nD Cert.AdamwModIdeal.τ).loc Cert.AdamwModIdeal.main_arg2)
      ∧ m' ((c.tc : Thread Cert.AdamwModReferenceIdeal.nD Cert.AdamwModReferenceIdeal.τ).loc Cert.AdamwModReferenceIdeal.main_arg3) = m ((c.tc : Thread Cert.AdamwModIdeal.nD Cert.AdamwModIdeal.τ).loc Cert.AdamwModIdeal.main_arg3)) →
    ∃ (v0 : (c : Dev Cert.AdamwModIdeal.nD) → Buf (Elt Ideal) ((c.tc : Thread Cert.AdamwModIdeal.nD Cert.AdamwModIdeal.τ).loc Cert.AdamwModIdeal.main_v1_0)) (v1 : (c : Dev Cert.AdamwModIdeal.nD) → Buf (Elt Ideal) ((c.tc : Thread Cert.AdamwModIdeal.nD Cert.AdamwModIdeal.τ).loc Cert.AdamwModIdeal.main_v1_1)) (v2 : (c : Dev Cert.AdamwModIdeal.nD) → Buf (Elt Ideal) ((c.tc : Thread Cert.AdamwModIdeal.nD Cert.AdamwModIdeal.τ).loc Cert.AdamwModIdeal.main_v1_2)) (v3 : (c : Dev Cert.AdamwModIdeal.nD) → Buf (Elt Ideal) ((c.tc : Thread Cert.AdamwModIdeal.nD Cert.AdamwModIdeal.τ).loc Cert.AdamwModIdeal.main_v1_3)),
      θ_run (Cert.AdamwModIdeal.defs (F := Ideal)) (onTc (τ := Cert.AdamwModIdeal.τ) (Cert.AdamwModIdeal.main (F := Ideal))) ⟨m, fun _ => 0, g⟩ (fun r => ∀ c : Dev Cert.AdamwModIdeal.nD,
          r.2.mem ((c.tc : Thread Cert.AdamwModIdeal.nD Cert.AdamwModIdeal.τ).loc Cert.AdamwModIdeal.main_v1_0) = v0 c
          ∧ r.2.mem ((c.tc : Thread Cert.AdamwModIdeal.nD Cert.AdamwModIdeal.τ).loc Cert.AdamwModIdeal.main_v1_1) = v1 c
          ∧ r.2.mem ((c.tc : Thread Cert.AdamwModIdeal.nD Cert.AdamwModIdeal.τ).loc Cert.AdamwModIdeal.main_v1_2) = v2 c
          ∧ r.2.mem ((c.tc : Thread Cert.AdamwModIdeal.nD Cert.AdamwModIdeal.τ).loc Cert.AdamwModIdeal.main_v1_3) = v3 c
          ∧ r.2.mem ((c.tc : Thread Cert.AdamwModIdeal.nD Cert.AdamwModIdeal.τ).loc Cert.AdamwModIdeal.main_arg0) = m ((c.tc : Thread Cert.AdamwModIdeal.nD Cert.AdamwModIdeal.τ).loc Cert.AdamwModIdeal.main_arg0)
          ∧ r.2.mem ((c.tc : Thread Cert.AdamwModIdeal.nD Cert.AdamwModIdeal.τ).loc Cert.AdamwModIdeal.main_arg1) = m ((c.tc : Thread Cert.AdamwModIdeal.nD Cert.AdamwModIdeal.τ).loc Cert.AdamwModIdeal.main_arg1)
          ∧ r.2.mem ((c.tc : Thread Cert.AdamwModIdeal.nD Cert.AdamwModIdeal.τ).loc Cert.AdamwModIdeal.main_arg2) = m ((c.tc : Thread Cert.AdamwModIdeal.nD Cert.AdamwModIdeal.τ).loc Cert.AdamwModIdeal.main_arg2)
          ∧ r.2.mem ((c.tc : Thread Cert.AdamwModIdeal.nD Cert.AdamwModIdeal.τ).loc Cert.AdamwModIdeal.main_arg3) = m ((c.tc : Thread Cert.AdamwModIdeal.nD Cert.AdamwModIdeal.τ).loc Cert.AdamwModIdeal.main_arg3))
      ∧ θ_run (Cert.AdamwModReferenceIdeal.defs (F := Ideal)) (onTc (τ := Cert.AdamwModReferenceIdeal.τ) (Cert.AdamwModReferenceIdeal.main (F := Ideal))) ⟨m', fun _ => 0, g'⟩ (fun r => ∀ c : Dev Cert.AdamwModReferenceIdeal.nD,
          r.2.mem ((c.tc : Thread Cert.AdamwModReferenceIdeal.nD Cert.AdamwModReferenceIdeal.τ).loc Cert.AdamwModReferenceIdeal.main_arg0) = v0 c
          ∧ r.2.mem ((c.tc : Thread Cert.AdamwModReferenceIdeal.nD Cert.AdamwModReferenceIdeal.τ).loc Cert.AdamwModReferenceIdeal.main_v23) = v1 c
          ∧ r.2.mem ((c.tc : Thread Cert.AdamwModReferenceIdeal.nD Cert.AdamwModReferenceIdeal.τ).loc Cert.AdamwModReferenceIdeal.main_v4) = v2 c
          ∧ r.2.mem ((c.tc : Thread Cert.AdamwModReferenceIdeal.nD Cert.AdamwModReferenceIdeal.τ).loc Cert.AdamwModReferenceIdeal.main_v10) = v3 c
          ∧ r.2.mem ((c.tc : Thread Cert.AdamwModReferenceIdeal.nD Cert.AdamwModReferenceIdeal.τ).loc Cert.AdamwModReferenceIdeal.main_arg0) = m' ((c.tc : Thread Cert.AdamwModReferenceIdeal.nD Cert.AdamwModReferenceIdeal.τ).loc Cert.AdamwModReferenceIdeal.main_arg0)
          ∧ r.2.mem ((c.tc : Thread Cert.AdamwModReferenceIdeal.nD Cert.AdamwModReferenceIdeal.τ).loc Cert.AdamwModReferenceIdeal.main_arg1) = m' ((c.tc : Thread Cert.AdamwModReferenceIdeal.nD Cert.AdamwModReferenceIdeal.τ).loc Cert.AdamwModReferenceIdeal.main_arg1)
          ∧ r.2.mem ((c.tc : Thread Cert.AdamwModReferenceIdeal.nD Cert.AdamwModReferenceIdeal.τ).loc Cert.AdamwModReferenceIdeal.main_arg2) = m' ((c.tc : Thread Cert.AdamwModReferenceIdeal.nD Cert.AdamwModReferenceIdeal.τ).loc Cert.AdamwModReferenceIdeal.main_arg2)
          ∧ r.2.mem ((c.tc : Thread Cert.AdamwModReferenceIdeal.nD Cert.AdamwModReferenceIdeal.τ).loc Cert.AdamwModReferenceIdeal.main_arg3) = m' ((c.tc : Thread Cert.AdamwModReferenceIdeal.nD Cert.AdamwModReferenceIdeal.τ).loc Cert.AdamwModReferenceIdeal.main_arg3))

def preserves_AdamwFf1_AdamwFf1Ideal : Prop :=
  True

def algebraic_AdamwFf1Ideal_AdamwFf1ReferenceIdeal [hAdamwFf1Ideal : Cert.AdamwFf1Ideal.Facts] [hAdamwFf1ReferenceIdeal : Cert.AdamwFf1ReferenceIdeal.Facts] : Prop :=
  ∀ (m : (ℓ : Loc Cert.AdamwFf1Ideal.nD Cert.AdamwFf1Ideal.τ Cert.AdamwFf1Ideal.sig) → Buf (Elt Ideal) ℓ) (g : Dev Cert.AdamwFf1Ideal.nD → PrngReg)
    (m' : (ℓ : Loc Cert.AdamwFf1ReferenceIdeal.nD Cert.AdamwFf1ReferenceIdeal.τ Cert.AdamwFf1ReferenceIdeal.sig) → Buf (Elt Ideal) ℓ) (g' : Dev Cert.AdamwFf1ReferenceIdeal.nD → PrngReg), Pre_AdamwFf1Ideal m →
    (∀ c : Dev Cert.AdamwFf1Ideal.nD,
      m' ((c.tc : Thread Cert.AdamwFf1ReferenceIdeal.nD Cert.AdamwFf1ReferenceIdeal.τ).loc Cert.AdamwFf1ReferenceIdeal.main_arg0) = m ((c.tc : Thread Cert.AdamwFf1Ideal.nD Cert.AdamwFf1Ideal.τ).loc Cert.AdamwFf1Ideal.main_arg0)
      ∧ m' ((c.tc : Thread Cert.AdamwFf1ReferenceIdeal.nD Cert.AdamwFf1ReferenceIdeal.τ).loc Cert.AdamwFf1ReferenceIdeal.main_arg1) = m ((c.tc : Thread Cert.AdamwFf1Ideal.nD Cert.AdamwFf1Ideal.τ).loc Cert.AdamwFf1Ideal.main_arg1)
      ∧ m' ((c.tc : Thread Cert.AdamwFf1ReferenceIdeal.nD Cert.AdamwFf1ReferenceIdeal.τ).loc Cert.AdamwFf1ReferenceIdeal.main_arg2) = m ((c.tc : Thread Cert.AdamwFf1Ideal.nD Cert.AdamwFf1Ideal.τ).loc Cert.AdamwFf1Ideal.main_arg2)
      ∧ m' ((c.tc : Thread Cert.AdamwFf1ReferenceIdeal.nD Cert.AdamwFf1ReferenceIdeal.τ).loc Cert.AdamwFf1ReferenceIdeal.main_arg3) = m ((c.tc : Thread Cert.AdamwFf1Ideal.nD Cert.AdamwFf1Ideal.τ).loc Cert.AdamwFf1Ideal.main_arg3)) →
    ∃ (v0 : (c : Dev Cert.AdamwFf1Ideal.nD) → Buf (Elt Ideal) ((c.tc : Thread Cert.AdamwFf1Ideal.nD Cert.AdamwFf1Ideal.τ).loc Cert.AdamwFf1Ideal.main_v0_0)) (v1 : (c : Dev Cert.AdamwFf1Ideal.nD) → Buf (Elt Ideal) ((c.tc : Thread Cert.AdamwFf1Ideal.nD Cert.AdamwFf1Ideal.τ).loc Cert.AdamwFf1Ideal.main_v0_1)) (v2 : (c : Dev Cert.AdamwFf1Ideal.nD) → Buf (Elt Ideal) ((c.tc : Thread Cert.AdamwFf1Ideal.nD Cert.AdamwFf1Ideal.τ).loc Cert.AdamwFf1Ideal.main_v0_2)) (v3 : (c : Dev Cert.AdamwFf1Ideal.nD) → Buf (Elt Ideal) ((c.tc : Thread Cert.AdamwFf1Ideal.nD Cert.AdamwFf1Ideal.τ).loc Cert.AdamwFf1Ideal.main_v0_3)),
      θ_run (Cert.AdamwFf1Ideal.defs (F := Ideal)) (onTc (τ := Cert.AdamwFf1Ideal.τ) (Cert.AdamwFf1Ideal.main (F := Ideal))) ⟨m, fun _ => 0, g⟩ (fun r => ∀ c : Dev Cert.AdamwFf1Ideal.nD,
          r.2.mem ((c.tc : Thread Cert.AdamwFf1Ideal.nD Cert.AdamwFf1Ideal.τ).loc Cert.AdamwFf1Ideal.main_v0_0) = v0 c
          ∧ r.2.mem ((c.tc : Thread Cert.AdamwFf1Ideal.nD Cert.AdamwFf1Ideal.τ).loc Cert.AdamwFf1Ideal.main_v0_1) = v1 c
          ∧ r.2.mem ((c.tc : Thread Cert.AdamwFf1Ideal.nD Cert.AdamwFf1Ideal.τ).loc Cert.AdamwFf1Ideal.main_v0_2) = v2 c
          ∧ r.2.mem ((c.tc : Thread Cert.AdamwFf1Ideal.nD Cert.AdamwFf1Ideal.τ).loc Cert.AdamwFf1Ideal.main_v0_3) = v3 c
          ∧ r.2.mem ((c.tc : Thread Cert.AdamwFf1Ideal.nD Cert.AdamwFf1Ideal.τ).loc Cert.AdamwFf1Ideal.main_arg0) = m ((c.tc : Thread Cert.AdamwFf1Ideal.nD Cert.AdamwFf1Ideal.τ).loc Cert.AdamwFf1Ideal.main_arg0)
          ∧ r.2.mem ((c.tc : Thread Cert.AdamwFf1Ideal.nD Cert.AdamwFf1Ideal.τ).loc Cert.AdamwFf1Ideal.main_arg1) = m ((c.tc : Thread Cert.AdamwFf1Ideal.nD Cert.AdamwFf1Ideal.τ).loc Cert.AdamwFf1Ideal.main_arg1)
          ∧ r.2.mem ((c.tc : Thread Cert.AdamwFf1Ideal.nD Cert.AdamwFf1Ideal.τ).loc Cert.AdamwFf1Ideal.main_arg2) = m ((c.tc : Thread Cert.AdamwFf1Ideal.nD Cert.AdamwFf1Ideal.τ).loc Cert.AdamwFf1Ideal.main_arg2)
          ∧ r.2.mem ((c.tc : Thread Cert.AdamwFf1Ideal.nD Cert.AdamwFf1Ideal.τ).loc Cert.AdamwFf1Ideal.main_arg3) = m ((c.tc : Thread Cert.AdamwFf1Ideal.nD Cert.AdamwFf1Ideal.τ).loc Cert.AdamwFf1Ideal.main_arg3))
      ∧ θ_run (Cert.AdamwFf1ReferenceIdeal.defs (F := Ideal)) (onTc (τ := Cert.AdamwFf1ReferenceIdeal.τ) (Cert.AdamwFf1ReferenceIdeal.main (F := Ideal))) ⟨m', fun _ => 0, g'⟩ (fun r => ∀ c : Dev Cert.AdamwFf1ReferenceIdeal.nD,
          r.2.mem ((c.tc : Thread Cert.AdamwFf1ReferenceIdeal.nD Cert.AdamwFf1ReferenceIdeal.τ).loc Cert.AdamwFf1ReferenceIdeal.main_v1) = v0 c
          ∧ r.2.mem ((c.tc : Thread Cert.AdamwFf1ReferenceIdeal.nD Cert.AdamwFf1ReferenceIdeal.τ).loc Cert.AdamwFf1ReferenceIdeal.main_v25) = v1 c
          ∧ r.2.mem ((c.tc : Thread Cert.AdamwFf1ReferenceIdeal.nD Cert.AdamwFf1ReferenceIdeal.τ).loc Cert.AdamwFf1ReferenceIdeal.main_v6) = v2 c
          ∧ r.2.mem ((c.tc : Thread Cert.AdamwFf1ReferenceIdeal.nD Cert.AdamwFf1ReferenceIdeal.τ).loc Cert.AdamwFf1ReferenceIdeal.main_v12) = v3 c
          ∧ r.2.mem ((c.tc : Thread Cert.AdamwFf1ReferenceIdeal.nD Cert.AdamwFf1ReferenceIdeal.τ).loc Cert.AdamwFf1ReferenceIdeal.main_arg0) = m' ((c.tc : Thread Cert.AdamwFf1ReferenceIdeal.nD Cert.AdamwFf1ReferenceIdeal.τ).loc Cert.AdamwFf1ReferenceIdeal.main_arg0)
          ∧ r.2.mem ((c.tc : Thread Cert.AdamwFf1ReferenceIdeal.nD Cert.AdamwFf1ReferenceIdeal.τ).loc Cert.AdamwFf1ReferenceIdeal.main_arg1) = m' ((c.tc : Thread Cert.AdamwFf1ReferenceIdeal.nD Cert.AdamwFf1ReferenceIdeal.τ).loc Cert.AdamwFf1ReferenceIdeal.main_arg1)
          ∧ r.2.mem ((c.tc : Thread Cert.AdamwFf1ReferenceIdeal.nD Cert.AdamwFf1ReferenceIdeal.τ).loc Cert.AdamwFf1ReferenceIdeal.main_arg2) = m' ((c.tc : Thread Cert.AdamwFf1ReferenceIdeal.nD Cert.AdamwFf1ReferenceIdeal.τ).loc Cert.AdamwFf1ReferenceIdeal.main_arg2)
          ∧ r.2.mem ((c.tc : Thread Cert.AdamwFf1ReferenceIdeal.nD Cert.AdamwFf1ReferenceIdeal.τ).loc Cert.AdamwFf1ReferenceIdeal.main_arg3) = m' ((c.tc : Thread Cert.AdamwFf1ReferenceIdeal.nD Cert.AdamwFf1ReferenceIdeal.τ).loc Cert.AdamwFf1ReferenceIdeal.main_arg3))

def Claim : Prop :=
  ∃ (hSiluBwd : Cert.SiluBwd.Facts) (hSiluBwdIdeal : Cert.SiluBwdIdeal.Facts) (hSiluBwdReferenceIdeal : Cert.SiluBwdReferenceIdeal.Facts) (hMlaBwd : Cert.MlaBwd.Facts) (hMlaBwdIdeal : Cert.MlaBwdIdeal.Facts) (hMlaBwdReferenceIdeal : Cert.MlaBwdReferenceIdeal.Facts) (hModBwd : Cert.ModBwd.Facts) (hModBwdIdeal : Cert.ModBwdIdeal.Facts) (hModBwdReferenceIdeal : Cert.ModBwdReferenceIdeal.Facts) (hFinalLoss : Cert.FinalLoss.Facts) (hFinalLossIdeal : Cert.FinalLossIdeal.Facts) (hFinalLossReferenceIdeal : Cert.FinalLossReferenceIdeal.Facts) (hFfnBwd : Cert.FfnBwd.Facts) (hFfnBwdIdeal : Cert.FfnBwdIdeal.Facts) (hFfnBwdReferenceIdeal : Cert.FfnBwdReferenceIdeal.Facts) (hOutBwd : Cert.OutBwd.Facts) (hOutBwdIdeal : Cert.OutBwdIdeal.Facts) (hOutBwdReferenceIdeal : Cert.OutBwdReferenceIdeal.Facts) (hModFwd : Cert.ModFwd.Facts) (hModFwdIdeal : Cert.ModFwdIdeal.Facts) (hModFwdReferenceIdeal : Cert.ModFwdReferenceIdeal.Facts) (hOutFfnFwd : Cert.OutFfnFwd.Facts) (hOutFfnFwdIdeal : Cert.OutFfnFwdIdeal.Facts) (hOutFfnFwdReferenceIdeal : Cert.OutFfnFwdReferenceIdeal.Facts) (hAdamwMod : Cert.AdamwMod.Facts) (hAdamwModIdeal : Cert.AdamwModIdeal.Facts) (hAdamwModReferenceIdeal : Cert.AdamwModReferenceIdeal.Facts) (hAdamwFf1 : Cert.AdamwFf1.Facts) (hAdamwFf1Ideal : Cert.AdamwFf1Ideal.Facts) (hAdamwFf1ReferenceIdeal : Cert.AdamwFf1ReferenceIdeal.Facts) (hPre_silu_bwd_finite : Cert.Pre_silu_bwd_finite.Facts) (hPre_mla_bwd_finite : Cert.Pre_mla_bwd_finite.Facts) (hPre_out_bwd_finite : Cert.Pre_out_bwd_finite.Facts),
    quiescent_SiluBwd (hSiluBwd := hSiluBwd)
    ∧ quiescent_SiluBwdIdeal (hSiluBwdIdeal := hSiluBwdIdeal)
    ∧ quiescent_SiluBwdIdeal_pre_silu_bwd_finite (hSiluBwdIdeal := hSiluBwdIdeal) (hPre_silu_bwd_finite := hPre_silu_bwd_finite)
    ∧ quiescent_SiluBwdReferenceIdeal (hSiluBwdReferenceIdeal := hSiluBwdReferenceIdeal)
    ∧ quiescent_SiluBwdReferenceIdeal_pre_silu_bwd_finite (hSiluBwdReferenceIdeal := hSiluBwdReferenceIdeal) (hPre_silu_bwd_finite := hPre_silu_bwd_finite)
    ∧ quiescent_MlaBwd (hMlaBwd := hMlaBwd)
    ∧ quiescent_MlaBwdIdeal (hMlaBwdIdeal := hMlaBwdIdeal)
    ∧ quiescent_MlaBwdIdeal_pre_mla_bwd_finite (hMlaBwdIdeal := hMlaBwdIdeal) (hPre_mla_bwd_finite := hPre_mla_bwd_finite)
    ∧ quiescent_MlaBwdReferenceIdeal (hMlaBwdReferenceIdeal := hMlaBwdReferenceIdeal)
    ∧ quiescent_MlaBwdReferenceIdeal_pre_mla_bwd_finite (hMlaBwdReferenceIdeal := hMlaBwdReferenceIdeal) (hPre_mla_bwd_finite := hPre_mla_bwd_finite)
    ∧ quiescent_ModBwd (hModBwd := hModBwd)
    ∧ quiescent_ModBwdIdeal (hModBwdIdeal := hModBwdIdeal)
    ∧ quiescent_ModBwdReferenceIdeal (hModBwdReferenceIdeal := hModBwdReferenceIdeal)
    ∧ quiescent_FinalLoss (hFinalLoss := hFinalLoss)
    ∧ quiescent_FinalLossIdeal (hFinalLossIdeal := hFinalLossIdeal)
    ∧ quiescent_FinalLossReferenceIdeal (hFinalLossReferenceIdeal := hFinalLossReferenceIdeal)
    ∧ quiescent_FfnBwd (hFfnBwd := hFfnBwd)
    ∧ quiescent_FfnBwdIdeal (hFfnBwdIdeal := hFfnBwdIdeal)
    ∧ quiescent_FfnBwdReferenceIdeal (hFfnBwdReferenceIdeal := hFfnBwdReferenceIdeal)
    ∧ quiescent_OutBwd (hOutBwd := hOutBwd)
    ∧ quiescent_OutBwdIdeal (hOutBwdIdeal := hOutBwdIdeal)
    ∧ quiescent_OutBwdIdeal_pre_out_bwd_finite (hOutBwdIdeal := hOutBwdIdeal) (hPre_out_bwd_finite := hPre_out_bwd_finite)
    ∧ quiescent_OutBwdReferenceIdeal (hOutBwdReferenceIdeal := hOutBwdReferenceIdeal)
    ∧ quiescent_OutBwdReferenceIdeal_pre_out_bwd_finite (hOutBwdReferenceIdeal := hOutBwdReferenceIdeal) (hPre_out_bwd_finite := hPre_out_bwd_finite)
    ∧ quiescent_ModFwd (hModFwd := hModFwd)
    ∧ quiescent_ModFwdIdeal (hModFwdIdeal := hModFwdIdeal)
    ∧ quiescent_ModFwdReferenceIdeal (hModFwdReferenceIdeal := hModFwdReferenceIdeal)
    ∧ quiescent_OutFfnFwd (hOutFfnFwd := hOutFfnFwd)
    ∧ quiescent_OutFfnFwdIdeal (hOutFfnFwdIdeal := hOutFfnFwdIdeal)
    ∧ quiescent_OutFfnFwdReferenceIdeal (hOutFfnFwdReferenceIdeal := hOutFfnFwdReferenceIdeal)
    ∧ quiescent_AdamwMod (hAdamwMod := hAdamwMod)
    ∧ quiescent_AdamwModIdeal (hAdamwModIdeal := hAdamwModIdeal)
    ∧ quiescent_AdamwModReferenceIdeal (hAdamwModReferenceIdeal := hAdamwModReferenceIdeal)
    ∧ quiescent_AdamwFf1 (hAdamwFf1 := hAdamwFf1)
    ∧ quiescent_AdamwFf1Ideal (hAdamwFf1Ideal := hAdamwFf1Ideal)
    ∧ quiescent_AdamwFf1ReferenceIdeal (hAdamwFf1ReferenceIdeal := hAdamwFf1ReferenceIdeal)
    ∧ preserves_SiluBwd_SiluBwdIdeal
    ∧ algebraic_SiluBwdIdeal_SiluBwdReferenceIdeal_pre_silu_bwd_finite (hSiluBwdIdeal := hSiluBwdIdeal) (hSiluBwdReferenceIdeal := hSiluBwdReferenceIdeal) (hPre_silu_bwd_finite := hPre_silu_bwd_finite)
    ∧ preserves_MlaBwd_MlaBwdIdeal
    ∧ algebraic_MlaBwdIdeal_MlaBwdReferenceIdeal_pre_mla_bwd_finite (hMlaBwdIdeal := hMlaBwdIdeal) (hMlaBwdReferenceIdeal := hMlaBwdReferenceIdeal) (hPre_mla_bwd_finite := hPre_mla_bwd_finite)
    ∧ preserves_ModBwd_ModBwdIdeal
    ∧ algebraic_ModBwdIdeal_ModBwdReferenceIdeal (hModBwdIdeal := hModBwdIdeal) (hModBwdReferenceIdeal := hModBwdReferenceIdeal)
    ∧ preserves_FinalLoss_FinalLossIdeal
    ∧ algebraic_FinalLossIdeal_FinalLossReferenceIdeal (hFinalLossIdeal := hFinalLossIdeal) (hFinalLossReferenceIdeal := hFinalLossReferenceIdeal)
    ∧ preserves_FfnBwd_FfnBwdIdeal
    ∧ algebraic_FfnBwdIdeal_FfnBwdReferenceIdeal (hFfnBwdIdeal := hFfnBwdIdeal) (hFfnBwdReferenceIdeal := hFfnBwdReferenceIdeal)
    ∧ preserves_OutBwd_OutBwdIdeal
    ∧ algebraic_OutBwdIdeal_OutBwdReferenceIdeal_pre_out_bwd_finite (hOutBwdIdeal := hOutBwdIdeal) (hOutBwdReferenceIdeal := hOutBwdReferenceIdeal) (hPre_out_bwd_finite := hPre_out_bwd_finite)
    ∧ preserves_ModFwd_ModFwdIdeal
    ∧ algebraic_ModFwdIdeal_ModFwdReferenceIdeal (hModFwdIdeal := hModFwdIdeal) (hModFwdReferenceIdeal := hModFwdReferenceIdeal)
    ∧ preserves_OutFfnFwd_OutFfnFwdIdeal
    ∧ algebraic_OutFfnFwdIdeal_OutFfnFwdReferenceIdeal (hOutFfnFwdIdeal := hOutFfnFwdIdeal) (hOutFfnFwdReferenceIdeal := hOutFfnFwdReferenceIdeal)
    ∧ preserves_AdamwMod_AdamwModIdeal
    ∧ algebraic_AdamwModIdeal_AdamwModReferenceIdeal (hAdamwModIdeal := hAdamwModIdeal) (hAdamwModReferenceIdeal := hAdamwModReferenceIdeal)
    ∧ preserves_AdamwFf1_AdamwFf1Ideal
    ∧ algebraic_AdamwFf1Ideal_AdamwFf1ReferenceIdeal (hAdamwFf1Ideal := hAdamwFf1Ideal) (hAdamwFf1ReferenceIdeal := hAdamwFf1ReferenceIdeal)
-- ==== Pre_mla_bwd_finite.lean ====
abbrev S8448x4x128 : Shape := ⟨3, ![8448, 4, 128]⟩
abbrev S8448x4x64 : Shape := ⟨3, ![8448, 4, 64]⟩
abbrev S8448x64 : Shape := ⟨2, ![8448, 64]⟩
abbrev S8448x512 : Shape := ⟨2, ![8448, 512]⟩
abbrev S_ : Shape := ⟨0, ![]⟩

class Facts : Prop where
  bcast_S_S8448x4x128 : S_.BroadcastsInDim S8448x4x128 (![] : Fin 0 → Fin S8448x4x128.rank)
  bcast_S_S8448x4x64 : S_.BroadcastsInDim S8448x4x64 (![] : Fin 0 → Fin S8448x4x64.rank)
  bcast_S_S8448x64 : S_.BroadcastsInDim S8448x64 (![] : Fin 0 → Fin S8448x64.rank)
  bcast_S_S8448x512 : S_.BroadcastsInDim S8448x512 (![] : Fin 0 → Fin S8448x512.rank)

variable [Facts]

def fn {F : FTy → Type} [FloatOps F] (main_arg0 : FVec F S8448x4x128 .f32) (main_arg1 : FVec F S8448x4x64 .f32) (main_arg2 : FVec F S8448x4x128 .f32) (main_arg3 : FVec F S8448x64 .f32) (main_arg4 : FVec F S8448x4x128 .f32) (main_arg5 : FVec F S8448x512 .f32) : IVec S8448x4x128 1 × IVec S8448x4x64 1 × IVec S8448x4x128 1 × IVec S8448x64 1 × IVec S8448x4x128 1 × IVec S8448x512 1 :=
  let main_v0 : FVec F S8448x4x128 .f32 := Host.absf main_arg0
  let main_cst : FVec F S_ .f32 := constant S_ .f32 0x7F800000#32
  let main_v1 : FVec F S8448x4x128 .f32 := broadcastInDim S8448x4x128 ![] bcast_S_S8448x4x128 main_cst
  let main_v2 : IVec S8448x4x128 1 := cmpf .olt main_v0 main_v1
  let main_v3 : FVec F S8448x4x64 .f32 := Host.absf main_arg1
  let main_cst_0 : FVec F S_ .f32 := constant S_ .f32 0x7F800000#32
  let main_v4 : FVec F S8448x4x64 .f32 := broadcastInDim S8448x4x64 ![] bcast_S_S8448x4x64 main_cst_0
  let main_v5 : IVec S8448x4x64 1 := cmpf .olt main_v3 main_v4
  let main_v6 : FVec F S8448x4x128 .f32 := Host.absf main_arg2
  let main_cst_1 : FVec F S_ .f32 := constant S_ .f32 0x7F800000#32
  let main_v7 : FVec F S8448x4x128 .f32 := broadcastInDim S8448x4x128 ![] bcast_S_S8448x4x128 main_cst_1
  let main_v8 : IVec S8448x4x128 1 := cmpf .olt main_v6 main_v7
  let main_v9 : FVec F S8448x64 .f32 := Host.absf main_arg3
  let main_cst_2 : FVec F S_ .f32 := constant S_ .f32 0x7F800000#32
  let main_v10 : FVec F S8448x64 .f32 := broadcastInDim S8448x64 ![] bcast_S_S8448x64 main_cst_2
  let main_v11 : IVec S8448x64 1 := cmpf .olt main_v9 main_v10
  let main_v12 : FVec F S8448x4x128 .f32 := Host.absf main_arg4
  let main_cst_3 : FVec F S_ .f32 := constant S_ .f32 0x7F800000#32
  let main_v13 : FVec F S8448x4x128 .f32 := broadcastInDim S8448x4x128 ![] bcast_S_S8448x4x128 main_cst_3
  let main_v14 : IVec S8448x4x128 1 := cmpf .olt main_v12 main_v13
  let main_v15 : FVec F S8448x512 .f32 := Host.absf main_arg5
  let main_cst_4 : FVec F S_ .f32 := constant S_ .f32 0x7F800000#32
  let main_v16 : FVec F S8448x512 .f32 := broadcastInDim S8448x512 ![] bcast_S_S8448x512 main_cst_4
  let main_v17 : IVec S8448x512 1 := cmpf .olt main_v15 main_v16
  (main_v2, main_v5, main_v8, main_v11, main_v14, main_v17)
-- ==== Pre_out_bwd_finite.lean ====
abbrev S8448x1024 : Shape := ⟨2, ![8448, 1024]⟩
abbrev S6144 : Shape := ⟨1, ![6144]⟩
abbrev S8448x256 : Shape := ⟨2, ![8448, 256]⟩
abbrev S8448x512 : Shape := ⟨2, ![8448, 512]⟩
abbrev S64 : Shape := ⟨1, ![64]⟩
abbrev S1024x1024 : Shape := ⟨2, ![1024, 1024]⟩
abbrev S_ : Shape := ⟨0, ![]⟩

class Facts : Prop where
  bcast_S_S6144 : S_.BroadcastsInDim S6144 (![] : Fin 0 → Fin S6144.rank)
  bcast_S_S8448x256 : S_.BroadcastsInDim S8448x256 (![] : Fin 0 → Fin S8448x256.rank)
  bcast_S_S64 : S_.BroadcastsInDim S64 (![] : Fin 0 → Fin S64.rank)
  bcast_S_S1024x1024 : S_.BroadcastsInDim S1024x1024 (![] : Fin 0 → Fin S1024x1024.rank)
  bcast_S_S8448x1024 : S_.BroadcastsInDim S8448x1024 (![] : Fin 0 → Fin S8448x1024.rank)

variable [Facts]

def fn_part1 {F : FTy → Type} [FloatOps F] (main_arg9 : FVec F S1024x1024 .f32) (main_arg10 : FVec F S8448x1024 .f32) (main_v2 : IVec S6144 1) (main_v5 : IVec S6144 1) (main_v8 : IVec S8448x256 1) (main_v11 : IVec S8448x256 1) (main_v14 : IVec S8448x256 1) (main_v17 : IVec S64 1) : IVec S6144 1 × IVec S6144 1 × IVec S8448x256 1 × IVec S8448x256 1 × IVec S8448x256 1 × IVec S64 1 × IVec S1024x1024 1 × IVec S8448x1024 1 :=
  let main_v18 : FVec F S1024x1024 .f32 := Host.absf main_arg9
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S8448x1024 .f32 := Host.absf main_arg10
  let main_cst_6 : FVec F S_ .f32 := constant S_ .f32 0x7F800000#32
  let main_v22 : FVec F S8448x1024 .f32 := broadcastInDim S8448x1024 ![] bcast_S_S8448x1024 main_cst_6
  let main_v23 : IVec S8448x1024 1 := cmpf .olt main_v21 main_v22
  (main_v2, main_v5, main_v8, main_v11, main_v14, main_v17, main_v20, main_v23)

def fn {F : FTy → Type} [FloatOps F] (main_arg0 : FVec F S8448x1024 .f32) (main_arg1 : FVec F S6144 .f32) (main_arg2 : FVec F S6144 .f32) (main_arg3 : FVec F S8448x256 .f32) (main_arg4 : FVec F S8448x256 .f32) (main_arg5 : FVec F S8448x256 .f32) (main_arg6 : FVec F S8448x256 .f32) (main_arg7 : FVec F S8448x512 .f32) (main_arg8 : FVec F S64 .f32) (main_arg9 : FVec F S1024x1024 .f32) (main_arg10 : FVec F S8448x1024 .f32) : IVec S6144 1 × IVec S6144 1 × IVec S8448x256 1 × IVec S8448x256 1 × IVec S8448x256 1 × IVec S64 1 × IVec S1024x1024 1 × IVec S8448x1024 1 :=
  let main_v0 : FVec F S6144 .f32 := Host.absf main_arg1
  let main_cst : FVec F S_ .f32 := constant S_ .f32 0x7F800000#32
  let main_v1 : FVec F S6144 .f32 := broadcastInDim S6144 ![] bcast_S_S6144 main_cst
  let main_v2 : IVec S6144 1 := cmpf .olt main_v0 main_v1
  let main_v3 : FVec F S6144 .f32 := Host.absf main_arg2
  let main_cst_0 : FVec F S_ .f32 := constant S_ .f32 0x7F800000#32
  let main_v4 : FVec F S6144 .f32 := broadcastInDim S6144 ![] bcast_S_S6144 main_cst_0
  let main_v5 : IVec S6144 1 := cmpf .olt main_v3 main_v4
  let main_v6 : FVec F S8448x256 .f32 := Host.absf main_arg4
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  let main_v9 : FVec F S8448x256 .f32 := Host.absf main_arg5
  let main_cst_2 : FVec F S_ .f32 := constant S_ .f32 0x7F800000#32
  let main_v10 : FVec F S8448x256 .f32 := broadcastInDim S8448x256 ![] bcast_S_S8448x256 main_cst_2
  let main_v11 : IVec S8448x256 1 := cmpf .olt main_v9 main_v10
  let main_v12 : FVec F S8448x256 .f32 := Host.absf main_arg6
  let main_cst_3 : FVec F S_ .f32 := constant S_ .f32 0x7F800000#32
  let main_v13 : FVec F S8448x256 .f32 := broadcastInDim S8448x256 ![] bcast_S_S8448x256 main_cst_3
  let main_v14 : IVec S8448x256 1 := cmpf .olt main_v12 main_v13
  let main_v15 : FVec F S64 .f32 := Host.absf main_arg8
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg9 main_arg10 main_v2 main_v5 main_v8 main_v11 main_v14 main_v17
-- ==== Pre_silu_bwd_finite.lean ====
abbrev S1x1024 : Shape := ⟨2, ![1, 1024]⟩
abbrev S2x8x1024 : Shape := ⟨3, ![2, 8, 1024]⟩
abbrev S_ : Shape := ⟨0, ![]⟩

class Facts : Prop where
  bcast_S_S2x8x1024 : S_.BroadcastsInDim S2x8x1024 (![] : Fin 0 → Fin S2x8x1024.rank)

variable [Facts]

def fn {F : FTy → Type} [FloatOps F] (main_arg0 : FVec F S1x1024 .f32) (main_arg1 : FVec F S2x8x1024 .f32) : IVec S2x8x1024 1 :=
  let main_v0 : FVec F S2x8x1024 .f32 := Host.absf main_arg1
  let main_cst : FVec F S_ .f32 := constant S_ .f32 0x7F800000#32
  let main_v1 : FVec F S2x8x1024 .f32 := broadcastInDim S2x8x1024 ![] bcast_S_S2x8x1024 main_cst
  let main_v2 : IVec S2x8x1024 1 := cmpf .olt main_v0 main_v1
  main_v2
-- ==== SiluBwd.lean ====
abbrev S1x1024 : Shape := ⟨2, ![1, 1024]⟩
abbrev S2x8x1024 : Shape := ⟨3, ![2, 8, 1024]⟩
abbrev S1x8x1024 : Shape := ⟨3, ![1, 8, 1024]⟩
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x1024, .f32⟩
  | .hbm, ⟨1, _⟩ => ⟨S2x8x1024, .f32⟩
  | .hbm, ⟨2, _⟩ => ⟨S1x1024, .f32⟩
  | .local _ .vmem, ⟨0, _⟩ => ⟨S1x1024, .f32⟩
  | .local _ .vmem, ⟨1, _⟩ => ⟨S2x8x1024, .f32⟩
  | .local _ .vmem, ⟨2, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SiluBwdReferenceIdeal.lean ====
abbrev S1x1024 : Shape := ⟨2, ![1, 1024]⟩
abbrev S2x8x1024 : Shape := ⟨3, ![2, 8, 1024]⟩
abbrev S_ : Shape := ⟨0, ![]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S2x8x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1x1024, .f32⟩
  | .hbm, ⟨16, _⟩ => ⟨S1x1024, .f32⟩
  | .hbm, ⟨17, _⟩ => ⟨S1x1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩

abbrev nD : Nat := 1
abbrev τ : Topo := Topo.v7x

variable {F : FTy → Type} [FloatOps F]
-- ==== MlaBwd.lean ====
abbrev S8448x4x128 : Shape := ⟨3, ![8448, 4, 128]⟩
abbrev S8448x4x64 : Shape := ⟨3, ![8448, 4, 64]⟩
abbrev S8448x64 : Shape := ⟨2, ![8448, 64]⟩
abbrev S8448x512 : Shape := ⟨2, ![8448, 512]⟩
abbrev S_ : Shape := ⟨0, ![]⟩
abbrev S8448x4x256 : Shape := ⟨3, ![8448, 4, 256]⟩
abbrev S8448x1x64 : Shape := ⟨3, ![8448, 1, 64]⟩
abbrev S256x4x256 : Shape := ⟨3, ![256, 4, 256]⟩
abbrev S256x4x128 : Shape := ⟨3, ![256, 4, 128]⟩
abbrev S4x256x256 : Shape := ⟨3, ![4, 256, 256]⟩
abbrev S4x256 : Shape := ⟨2, ![4, 256]⟩
abbrev S4x256x1 : Shape := ⟨3, ![4, 256, 1]⟩
abbrev S4x256x128 : Shape := ⟨3, ![4, 256, 128]⟩
abbrev S8192x4x256 : Shape := ⟨3, ![8192, 4, 256]⟩
abbrev S4x8192x8448 : Shape := ⟨3, ![4, 8192, 8448]⟩
abbrev S4x8192 : Shape := ⟨2, ![4, 8192]⟩
abbrev S4x8192x1 : Shape := ⟨3, ![4, 8192, 1]⟩
abbrev S4x8192x128 : Shape := ⟨3, ![4, 8192, 128]⟩
abbrev S4x8448x128 : Shape := ⟨3, ![4, 8448, 128]⟩
abbrev S4x8448 : Shape := ⟨2, ![4, 8448]⟩
abbrev S8448x1024 : Shape := ⟨2, ![8448, 1024]⟩
abbrev S8x8448 : Shape := ⟨2, ![8, 8448]⟩
abbrev S768x256 : Shape := ⟨2, ![768, 256]⟩
abbrev S768x128 : Shape := ⟨2, ![768, 128]⟩
abbrev S8448x256 : Shape := ⟨2, ![8448, 256]⟩
abbrev S8448x128 : Shape := ⟨2, ![8448, 128]⟩
abbrev S2 : Shape := ⟨1, ![2]⟩
abbrev S1 : Shape := ⟨1, ![1]⟩
abbrev S256x256 : Shape := ⟨2, ![256, 256]⟩
abbrev S256x128 : Shape := ⟨2, ![256, 128]⟩
abbrev S1x256 : Shape := ⟨2, ![1, 256]⟩
abbrev S768x1 : Shape := ⟨2, ![768, 1]⟩
abbrev S1024x256 : Shape := ⟨2, ![1024, 256]⟩
abbrev S1024x128 : Shape := ⟨2, ![1024, 128]⟩
abbrev S768x1024 : Shape := ⟨2, ![768, 1024]⟩
abbrev S1x1024 : Shape := ⟨2, ![1, 1024]⟩

abbrev nBuf : Space → Nat
  | .hbm => 96
  | .vmem => 16
  | .smem => 0
  | _ => 0

abbrev bufTy : (tb : Table) → Fin (tcTables nBuf tb) → BufTy
  | .hbm, ⟨0, _⟩ => ⟨S8448x4x128, .f32⟩
  | .hbm, ⟨1, _⟩ => ⟨S8448x4x64, .f32⟩
  | .hbm, ⟨2, _⟩ => ⟨S8448x4x128, .f32⟩
  | .hbm, ⟨3, _⟩ => ⟨S8448x64, .f32⟩
  | .hbm, ⟨4, _⟩ => ⟨S8448x4x128, .f32⟩
  | .hbm, ⟨5, _⟩ => ⟨S8448x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8448x4x64, .f32⟩
  | .hbm, ⟨12, _⟩ => ⟨S8448x4x256, .f32⟩
  | .hbm, ⟨13, _⟩ => ⟨S8448x4x256, .f32⟩
  | .hbm, ⟨14, _⟩ => ⟨S8448x4x256, .f32⟩
  | .hbm, ⟨15, _⟩ => ⟨S8448x1x64, .f32⟩
  | .hbm, ⟨16, _⟩ => ⟨S8448x4x64, .f32⟩
  | .hbm, ⟨17, _⟩ => ⟨S8448x4x256, .f32⟩
  | .hbm, ⟨18, _⟩ => ⟨S256x4x256, .f32⟩
  | .hbm, ⟨19, _⟩ => ⟨S256x4x256, .f32⟩
  | .hbm, ⟨20, _⟩ => ⟨S256x4x128, .f32⟩
  | .hbm, ⟨21, _⟩ => ⟨S4x256x256, .f32⟩
  | .hbm, ⟨22, _⟩ => ⟨S_, .f32⟩
  | .hbm, ⟨23, _⟩ => ⟨S4x256, .f32⟩
  | .hbm, ⟨24, _⟩ => ⟨S4x256x1, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256, .f32⟩
  | .hbm, ⟨32, _⟩ => ⟨S4x256x1, .f32⟩
  | .hbm, ⟨33, _⟩ => ⟨S4x256x128, .f32⟩
  | .hbm, ⟨34, _⟩ => ⟨S4x256x128, .f32⟩
  | .hbm, ⟨35, _⟩ => ⟨S4x256x128, .f32⟩
  | .hbm, ⟨36, _⟩ => ⟨S4x256, .f32⟩
  | .hbm, ⟨37, _⟩ => ⟨S4x256, .f32⟩
  | .hbm, ⟨38, _⟩ => ⟨S4x256, .f32⟩
  | .hbm, ⟨39, _⟩ => ⟨S4x256, .f32⟩
  | .hbm, ⟨40, _⟩ => ⟨S4x256, .f32⟩
  | .hbm, ⟨41, _⟩ => ⟨S4x256, .f32⟩
  | .hbm, ⟨42, _⟩ => ⟨S8192x4x256, .f32⟩
  | .hbm, ⟨43, _⟩ => ⟨S4x8192x8448, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x8448, .f32⟩
  | .hbm, ⟨48, _⟩ => ⟨S4x8192x8448, .f32⟩
  | .hbm, ⟨49, _⟩ => ⟨S4x8192x8448, .f32⟩
  | .hbm, ⟨50, _⟩ => ⟨S4x8192x8448, .f32⟩
  | .hbm, ⟨51, _⟩ => ⟨S4x8192x8448, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S4x8192x128, .f32⟩
  | .hbm, ⟨56, _⟩ => ⟨S4x8192x128, .f32⟩
  | .hbm, ⟨57, _⟩ => ⟨S4x8192x128, .f32⟩
  | .hbm, ⟨58, _⟩ => ⟨S4x8192, .f32⟩
  | .hbm, ⟨59, _⟩ => ⟨S4x8192, .f32⟩
  | .hbm, ⟨60, _⟩ => ⟨S4x8192, .f32⟩
  | .hbm, ⟨61, _⟩ => ⟨S4x8192, .f32⟩
  | .hbm, ⟨62, _⟩ => ⟨S4x8192, .f32⟩
  | .hbm, ⟨63, _⟩ => ⟨S4x8192, .f32⟩
  | .hbm, ⟨64, _⟩ => ⟨S4x8448x128, .f32⟩
  | .hbm, ⟨65, _⟩ => ⟨S4x8448, .f32⟩
  | .hbm, ⟨66, _⟩ => ⟨S8448x4x128, .f32⟩
  | .hbm, ⟨67, _⟩ => ⟨S4x8448x128, .f32⟩
  | .hbm, ⟨68, _⟩ => ⟨S4x8448x128, .f32⟩
  | .hbm, ⟨69, _⟩ => ⟨S_, .f32⟩
  | .hbm, ⟨70, _⟩ => ⟨S4x8448, .f32⟩
  | .hbm, ⟨71, _⟩ => ⟨S_, .f32⟩
  | .hbm, ⟨72, _⟩ => ⟨S4x8448, .f32⟩
  | .hbm, ⟨73, _⟩ => ⟨S8448x1024, .f32⟩
  | .hbm, ⟨74, _⟩ => ⟨S8448x1024, .bf16⟩
  | .hbm, ⟨75, _⟩ => ⟨S8448x1024, .f32⟩
  | .hbm, ⟨76, _⟩ => ⟨S8448x1024, .bf16⟩
  | .hbm, ⟨77, _⟩ => ⟨S8448x512, .f32⟩
  | .hbm, ⟨78, _⟩ => ⟨S8448x512, .bf16⟩
  | .hbm, ⟨79, _⟩ => ⟨S8x8448, .f32⟩
  | .hbm, ⟨80, _⟩ => ⟨S8x8448, .f32⟩
  | .hbm, ⟨81, _⟩ => ⟨S8448x512, .bf16⟩
  | .hbm, ⟨82, _⟩ => ⟨S8448x1024, .f32⟩
  | .hbm, ⟨83, _⟩ => ⟨S8448x1024, .f32⟩
  | .hbm, ⟨84, _⟩ => ⟨S8448x512, .f32⟩
  | .hbm, ⟨85, _⟩ => ⟨S8448x4x256, .f32⟩
  | .hbm, ⟨86, _⟩ => ⟨S8448x4x256, .f32⟩
  | .hbm, ⟨87, _⟩ => ⟨S8448x4x256, .f32⟩
  | .hbm, ⟨88, _⟩ => ⟨S8448x4x256, .f32⟩
  | .hbm, ⟨89, _⟩ => ⟨S8448x4x128, .f32⟩
  | .hbm, ⟨90, _⟩ => ⟨S8448x4x64, .f32⟩
  | .hbm, ⟨91, _⟩ => ⟨S8448x4x128, .f32⟩
  | .hbm, ⟨92, _⟩ => ⟨S8448x4x64, .f32⟩
  | .hbm, ⟨93, _⟩ => ⟨S_, .f32⟩
  | .hbm, ⟨94, _⟩ => ⟨S8448x64, .f32⟩
  | .hbm, ⟨95, _⟩ => ⟨S8448x4x128, .f32⟩
  | .local _ .vmem, ⟨0, _⟩ => ⟨S768x256, .bf16⟩
  | .local _ .vmem, ⟨1, _⟩ => ⟨S768x256, .bf16⟩
  | .local _ .vmem, ⟨2, _⟩ => ⟨S768x128, .bf16⟩
  | .local _ .vmem, ⟨3, _⟩ => ⟨S768x128, .bf16⟩
  | .local _ .vmem, ⟨4, _⟩ => ⟨S8x8448, .f32⟩
  | .local _ .vmem, ⟨5, _⟩ => ⟨S8x8448, .f32⟩
  | .local _ .vmem, ⟨6, _⟩ => ⟨S8448x256, .f32⟩
  | .local _ .vmem, ⟨7, _⟩ => ⟨S8448x256, .f32⟩
  | .local _ .vmem, ⟨8, _⟩ => ⟨S768x256, .f32⟩
  | .local _ .vmem, ⟨9, _⟩ => ⟨S768x256, .f32⟩
  | .local _ .vmem, ⟨10, _⟩ => ⟨S768x128, .f32⟩
  | .local _ .vmem, ⟨11, _⟩ => ⟨S768x128, .f32⟩
  | .local _ .vmem, ⟨12, _⟩ => ⟨S8448x256, .bf16⟩
  | .local _ .vmem, ⟨13, _⟩ => ⟨S8448x128, .bf16⟩
  | .local _ .vmem, ⟨14, _⟩ => ⟨S768x256, .f32⟩
  | .local _ .vmem, ⟨15, _⟩ => ⟨S768x128, .f32⟩
  | _, _ => ⟨S8448x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67_0 : Ref sig .tc := ⟨.hbm, 82, rfl⟩
abbrev main_v67_1 : Ref sig .tc := ⟨.hbm, 83, rfl⟩
abbrev main_v67_2 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32 : BitVec 32 := 256#32
  let v28 : BitVec 32 := Scalar.muli arg0 c256_i32
  v28
def k0_off1 (i : grid0.Coords) : Fin 2 → Nat :=
  let c0_i32_24 : BitVec 32 := 0#32
  let arg0 : BitVec 32 := BitVec.ofNat 32 (i 0).val
  let c256_i32 : BitVec 32 := 256#32
  let v28 : BitVec 32 := Scalar.muli arg0 c256_i32
  let v29 : BitVec 32 := v28
  ![0, v29.toNat]
def k0_mult2 (i : grid0.Coords) : BitVec 32 :=
  let arg0 : BitVec 32 := BitVec.ofNat 32 (i 0).val
  let c128_i32 : BitVec 32 := 128#32
  let v36 : BitVec 32 := Scalar.muli arg0 c128_i32
  v36
def k0_off2 (i : grid0.Coords) : Fin 2 → Nat :=
  let c0_i32_28 : BitVec 32 := 0#32
  let arg0 : BitVec 32 := BitVec.ofNat 32 (i 0).val
  let c128_i32 : BitVec 32 := 128#32
  let v36 : BitVec 32 := Scalar.muli arg0 c128_i32
  let v37 : BitVec 32 := v36
  ![0, v37.toNat]
def k0_cond2 (i : grid0.Coords) : BitVec 1 :=
  let arg1 : BitVec 32 := BitVec.ofNat 32 (i 1).val
  let c0_i32_9 : BitVec 32 := 0#32
  let v15 : BitVec 1 := Scalar.cmpi .eq arg1 c0_i32_9
  let v16 : BitVec 32 := Scalar.extui v15
  let c0_i32_10 : BitVec 32 := 0#32
  let v17 : BitVec 1 := Scalar.cmpi .ne v16 c0_i32_10
  v17

def k0_off3 (i : grid0.Coords) : Fin 2 → Nat :=
  let arg0 : BitVec 32 := BitVec.ofNat 32 (i 0).val
  let v31 : Index := Scalar.indexCast arg0
  let c0_28 : Index := 0#32
  ![v31.toNat, 0]
@[reducible] def k0_t1_loop : Scf.Loop 32 :=
  let c0_i32_11 : BitVec 32 := 0#32
  let c8_i32 : BitVec 32 := 8#32
  let v18 : BitVec 32 := Scalar.addi c0_i32_11 c8_i32
  let c1_i32 : BitVec 32 := 1#32
  ⟨c0_i32_11, v18, c1_i32⟩
def k0_mult3 (k0_t1 : Fin k0_t1_loop.trips) : BitVec 32 :=
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  v29
def k0_off4 (k0_t1 : Fin k0_t1_loop.trips) : Fin 2 → Nat :=
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  let v30 : BitVec 32 := v29
  let v31 : Index := Scalar.indexCast v30
  let c0_23 : Index := 0#32
  ![v31.toNat, 0]
def k0_off5 (k0_t1 : Fin k0_t1_loop.trips) : Fin 2 → Nat :=
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  let v30 : BitVec 32 := v29
  let v33 : Index := Scalar.indexCast v30
  let c0_24 : Index := 0#32
  ![v33.toNat, 0]
def k0_off6 (i : grid0.Coords) (k0_t1 : Fin k0_t1_loop.trips) : Fin 2 → Nat :=
  let arg0 : BitVec 32 := BitVec.ofNat 32 (i 0).val
  let v36 : Index := Scalar.indexCast arg0
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  let v30 : BitVec 32 := v29
  let v37 : Index := Scalar.indexCast v30
  ![v36.toNat, v37.toNat]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x8448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x8448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8448x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlaBwdIdeal.lean ====
variable {F : FTy → Type} [FloatOps F] [Named F]
def κ : String → Option EReal := fun
  | "ln2" => some ((Real.log 2 : ℝ) : EReal)
  | _ => none
-- ==== MlaBwdReferenceIdeal.lean ====
abbrev S8448x4x128 : Shape := ⟨3, ![8448, 4, 128]⟩
abbrev S8448x4x64 : Shape := ⟨3, ![8448, 4, 64]⟩
abbrev S8448x64 : Shape := ⟨2, ![8448, 64]⟩
abbrev S8448x512 : Shape := ⟨2, ![8448, 512]⟩
abbrev S256x4x128 : Shape := ⟨3, ![256, 4, 128]⟩
abbrev S256x4x64 : Shape := ⟨3, ![256, 4, 64]⟩
abbrev S256x64 : Shape := ⟨2, ![256, 64]⟩
abbrev S4x256x256 : Shape := ⟨3, ![4, 256, 256]⟩
abbrev S256x256x4 : Shape := ⟨3, ![256, 256, 4]⟩
abbrev S_ : Shape := ⟨0, ![]⟩
abbrev S4x256 : Shape := ⟨2, ![4, 256]⟩
abbrev S4x256x1 : Shape := ⟨3, ![4, 256, 1]⟩
abbrev S4x128x256 : Shape := ⟨3, ![4, 128, 256]⟩
abbrev S8192x4x128 : Shape := ⟨3, ![8192, 4, 128]⟩
abbrev S8192x4x64 : Shape := ⟨3, ![8192, 4, 64]⟩
abbrev S4x8192x8448 : Shape := ⟨3, ![4, 8192, 8448]⟩
abbrev S8448x8192x4 : Shape := ⟨3, ![8448, 8192, 4]⟩
abbrev S4x8192 : Shape := ⟨2, ![4, 8192]⟩
abbrev S4x8192x1 : Shape := ⟨3, ![4, 8192, 1]⟩
abbrev S4x128x8192 : Shape := ⟨3, ![4, 128, 8192]⟩
abbrev S4x128x8448 : Shape := ⟨3, ![4, 128, 8448]⟩
abbrev S4x8448x128 : Shape := ⟨3, ![4, 8448, 128]⟩
abbrev S4x8192x128 : Shape := ⟨3, ![4, 8192, 128]⟩
abbrev S4x256x128 : Shape := ⟨3, ![4, 256, 128]⟩

abbrev nBuf : Space → Nat
  | .hbm => 187
  | .vmem => 0
  | .smem => 0
  | _ => 0

abbrev hbmTy0_0 (i : Nat) : BufTy := match i % 128 with
  | 0 => ⟨S8448x4x128, .f32⟩
  | 1 => ⟨S8448x4x64, .f32⟩
  | 2 => ⟨S8448x4x128, .f32⟩
  | 3 => ⟨S8448x64, .f32⟩
  | 4 => ⟨S8448x4x128, .f32⟩
  | 5 => ⟨S8448x512, .f32⟩
  | 6 => ⟨S256x4x128, .f32⟩
  | 7 => ⟨S256x4x64, .f32⟩
  | 8 => ⟨S256x4x128, .f32⟩
  | 9 => ⟨S256x64, .f32⟩
  | 10 => ⟨S256x4x128, .f32⟩
  | 11 => ⟨S4x256x256, .f32⟩
  | 12 => ⟨S256x256x4, .f32⟩
  | 13 => ⟨S4x256x256, .f32⟩
  | 14 => ⟨S4x256x256, .f32⟩
  | 15 => ⟨S_, .f32⟩
  | 16 => ⟨S4x256x256, .f32⟩
  | 17 => ⟨S4x256x256, .f32⟩
  | 18 => ⟨S_, .f32⟩
  | 19 => ⟨S4x256, .f32⟩
  | 20 => ⟨S4x256x1, .f32⟩
  | 21 => ⟨S4x256x256, .f32⟩
  | 22 => ⟨S4x256x256, .i1⟩
  | 23 => ⟨S4x256x256, .f32⟩
  | 24 => ⟨S_, .f32⟩
  | 25 => ⟨S4x256, .f32⟩
  | 26 => ⟨S_, .f32⟩
  | 27 => ⟨S4x256, .f32⟩
  | 28 => ⟨S4x256, .f32⟩
  | 29 => ⟨S_, .f32⟩
  | 30 => ⟨S4x256, .f32⟩
  | 31 => ⟨S4x256, .i1⟩
  | 32 => ⟨S_, .f32⟩
  | 33 => ⟨S4x256, .f32⟩
  | 34 => ⟨S4x256, .i1⟩
  | 35 => ⟨S_, .f32⟩
  | 36 => ⟨S4x256, .f32⟩
  | 37 => ⟨S_, .f32⟩
  | 38 => ⟨S4x256, .f32⟩
  | 39 => ⟨S_, .f32⟩
  | 40 => ⟨S4x256, .f32⟩
  | 41 => ⟨S4x256, .f32⟩
  | 42 => ⟨S4x256, .f32⟩
  | 43 => ⟨S4x256x1, .f32⟩
  | 44 => ⟨S4x256x256, .f32⟩
  | 45 => ⟨S4x256x256, .f32⟩
  | 46 => ⟨S4x256x256, .f32⟩
  | 47 => ⟨S_, .f32⟩
  | 48 => ⟨S4x256, .f32⟩
  | 49 => ⟨S4x256x1, .f32⟩
  | 50 => ⟨S4x256x256, .f32⟩
  | 51 => ⟨S4x256x256, .f32⟩
  | 52 => ⟨S4x256x1, .f32⟩
  | 53 => ⟨S_, .f32⟩
  | 54 => ⟨S4x256x1, .f32⟩
  | 55 => ⟨S4x256x1, .f32⟩
  | 56 => ⟨S4x128x256, .f32⟩
  | 57 => ⟨S256x4x128, .f32⟩
  | 58 => ⟨S8192x4x128, .f32⟩
  | 59 => ⟨S8192x4x64, .f32⟩
  | 60 => ⟨S4x8192x8448, .f32⟩
  | 61 => ⟨S8448x8192x4, .f32⟩
  | 62 => ⟨S4x8192x8448, .f32⟩
  | 63 => ⟨S4x8192x8448, .f32⟩
  | 64 => ⟨S_, .f32⟩
  | 65 => ⟨S4x8192x8448, .f32⟩
  | 66 => ⟨S4x8192x8448, .f32⟩
  | 67 => ⟨S_, .f32⟩
  | 68 => ⟨S4x8192, .f32⟩
  | 69 => ⟨S4x8192x1, .f32⟩
  | 70 => ⟨S4x8192x8448, .f32⟩
  | 71 => ⟨S4x8192x8448, .i1⟩
  | 72 => ⟨S4x8192x8448, .f32⟩
  | 73 => ⟨S_, .f32⟩
  | 74 => ⟨S4x8192, .f32⟩
  | 75 => ⟨S_, .f32⟩
  | 76 => ⟨S4x8192, .f32⟩
  | 77 => ⟨S4x8192, .f32⟩
  | 78 => ⟨S_, .f32⟩
  | 79 => ⟨S4x8192, .f32⟩
  | 80 => ⟨S4x8192, .i1⟩
  | 81 => ⟨S_, .f32⟩
  | 82 => ⟨S4x8192, .f32⟩
  | 83 => ⟨S4x8192, .i1⟩
  | 84 => ⟨S_, .f32⟩
  | 85 => ⟨S4x8192, .f32⟩
  | 86 => ⟨S_, .f32⟩
  | 87 => ⟨S4x8192, .f32⟩
  | 88 => ⟨S_, .f32⟩
  | 89 => ⟨S4x8192, .f32⟩
  | 90 => ⟨S4x8192, .f32⟩
  | 91 => ⟨S4x8192, .f32⟩
  | 92 => ⟨S4x8192x1, .f32⟩
  | 93 => ⟨S4x8192x8448, .f32⟩
  | 94 => ⟨S4x8192x8448, .f32⟩
  | 95 => ⟨S4x8192x8448, .f32⟩
  | 96 => ⟨S_, .f32⟩
  | 97 => ⟨S4x8192, .f32⟩
  | 98 => ⟨S4x8192x1, .f32⟩
  | 99 => ⟨S4x8192x8448, .f32⟩
  | 100 => ⟨S4x8192x8448, .f32⟩
  | 101 => ⟨S4x8192x1, .f32⟩
  | 102 => ⟨S_, .f32⟩
  | 103 => ⟨S4x8192x1, .f32⟩
  | 104 => ⟨S4x8192x1, .f32⟩
  | 105 => ⟨S4x128x8192, .f32⟩
  | 106 => ⟨S8192x4x128, .f32⟩
  | 107 => ⟨S8448x4x128, .f32⟩
  | 108 => ⟨S8448x512, .f32⟩
  | 109 => ⟨S8448x4x128, .f32⟩
  | 110 => ⟨S256x4x128, .f32⟩
  | 111 => ⟨S8192x4x128, .f32⟩
  | 112 => ⟨S4x128x8192, .f32⟩
  | 113 => ⟨S4x8192x8448, .f32⟩
  | 114 => ⟨S4x128x8448, .f32⟩
  | 115 => ⟨S8448x4x128, .f32⟩
  | 116 => ⟨S4x8192x8448, .f32⟩
  | 117 => ⟨S4x8192x8448, .f32⟩
  | 118 => ⟨S4x8192x8448, .f32⟩
  | 119 => ⟨S_, .f32⟩
  | 120 => ⟨S4x8192, .f32⟩
  | 121 => ⟨S4x8192x1, .f32⟩
  | 122 => ⟨S4x8192x1, .f32⟩
  | 123 => ⟨S4x8192x8448, .f32⟩
  | 124 => ⟨S4x8192x8448, .f32⟩
  | 125 => ⟨S_, .f32⟩
  | 126 => ⟨S4x8192, .f32⟩
  | 127 => ⟨S4x8192x8448, .f32⟩
  | _ => ⟨S8448x4x128, .f32⟩

abbrev hbmTy0_1 (i : Nat) : BufTy := match i % 128 with
  | 0 => ⟨S4x8192x8448, .f32⟩
  | 1 => ⟨S4x8192x8448, .f32⟩
  | 2 => ⟨S_, .f32⟩
  | 3 => ⟨S4x8192x8448, .f32⟩
  | 4 => ⟨S4x8192x8448, .f32⟩
  | 5 => ⟨S8448x8192x4, .f32⟩
  | 6 => ⟨S8192x4x64, .f32⟩
  | 7 => ⟨S8448x64, .f32⟩
  | 8 => ⟨S4x8448x128, .f32⟩
  | 9 => ⟨S8448x4x128, .f32⟩
  | 10 => ⟨S4x8192x128, .f32⟩
  | 11 => ⟨S8192x4x128, .f32⟩
  | 12 => ⟨S_, .f32⟩
  | 13 => ⟨S8448x4x64, .f32⟩
  | 14 => ⟨S_, .f32⟩
  | 15 => ⟨S8448x4x128, .f32⟩
  | 16 => ⟨S4x128x256, .f32⟩
  | 17 => ⟨S4x256x256, .f32⟩
  | 18 => ⟨S4x128x256, .f32⟩
  | 19 => ⟨S256x4x128, .f32⟩
  | 20 => ⟨S4x256x256, .f32⟩
  | 21 => ⟨S4x256x256, .f32⟩
  | 22 => ⟨S4x256x256, .f32⟩
  | 23 => ⟨S_, .f32⟩
  | 24 => ⟨S4x256, .f32⟩
  | 25 => ⟨S4x256x1, .f32⟩
  | 26 => ⟨S4x256x1, .f32⟩
  | 27 => ⟨S4x256x256, .f32⟩
  | 28 => ⟨S4x256x256, .f32⟩
  | 29 => ⟨S_, .f32⟩
  | 30 => ⟨S4x256, .f32⟩
  | 31 => ⟨S4x256x256, .f32⟩
  | 32 => ⟨S4x256x256, .f32⟩
  | 33 => ⟨S4x256x256, .f32⟩
  | 34 => ⟨S_, .f32⟩
  | 35 => ⟨S4x256x256, .f32⟩
  | 36 => ⟨S4x256x256, .f32⟩
  | 37 => ⟨S256x256x4, .f32⟩
  | 38 => ⟨S256x4x64, .f32⟩
  | 39 => ⟨S256x64, .f32⟩
  | 40 => ⟨S4x256x128, .f32⟩
  | 41 => ⟨S256x4x128, .f32⟩
  | 42 => ⟨S4x256x128, .f32⟩
  | 43 => ⟨S256x4x128, .f32⟩
  | 44 => ⟨S_, .f32⟩
  | 45 => ⟨S8448x4x128, .f32⟩
  | 46 => ⟨S8448x4x128, .f32⟩
  | 47 => ⟨S_, .f32⟩
  | 48 => ⟨S8448x64, .f32⟩
  | 49 => ⟨S8448x64, .f32⟩
  | 50 => ⟨S_, .f32⟩
  | 51 => ⟨S8448x4x128, .f32⟩
  | 52 => ⟨S8448x4x128, .f32⟩
  | 53 => ⟨S_, .f32⟩
  | 54 => ⟨S8448x4x64, .f32⟩
  | 55 => ⟨S8448x4x64, .f32⟩
  | 56 => ⟨S_, .f32⟩
  | 57 => ⟨S8448x4x128, .f32⟩
  | 58 => ⟨S8448x4x128, .f32⟩
  | _ => ⟨S8448x4x128, .f32⟩

abbrev hbmTy (i : Nat) : BufTy := match i / 128 with
  | 0 => hbmTy0_0 i
  | 1 => hbmTy0_1 i
  | _ => ⟨S8448x4x128, .f32⟩

abbrev bufTy : (tb : Table) → Fin (tcTables nBuf tb) → BufTy
  | .hbm, ⟨i, _⟩ => hbmTy i
  | _, _ => ⟨S8448x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_22 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_23 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_24 : Ref sig .tc := ⟨.hbm, 140, rfl⟩
abbrev main_v109 : Ref sig .tc := ⟨.hbm, 141, rfl⟩
abbrev main_cst_25 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_26 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_27 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_28 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_29 : Ref sig .tc := ⟨.hbm, 172, rfl⟩
abbrev main_v136 : Ref sig .tc := ⟨.hbm, 173, rfl⟩
abbrev main_v137 : Ref sig .tc := ⟨.hbm, 174, rfl⟩
abbrev main_cst_30 : Ref sig .tc := ⟨.hbm, 175, rfl⟩
abbrev main_v138 : Ref sig .tc := ⟨.hbm, 176, rfl⟩
abbrev main_v139 : Ref sig .tc := ⟨.hbm, 177, rfl⟩
abbrev main_cst_31 : Ref sig .tc := ⟨.hbm, 178, rfl⟩
abbrev main_v140 : Ref sig .tc := ⟨.hbm, 179, rfl⟩
abbrev main_v141 : Ref sig .tc := ⟨.hbm, 180, rfl⟩
abbrev main_cst_32 : Ref sig .tc := ⟨.hbm, 181, rfl⟩
abbrev main_v142 : Ref sig .tc := ⟨.hbm, 182, rfl⟩
abbrev main_v143 : Ref sig .tc := ⟨.hbm, 183, rfl⟩
abbrev main_cst_33 : Ref sig .tc := ⟨.hbm, 184, rfl⟩
abbrev main_v144 : Ref sig .tc := ⟨.hbm, 185, rfl⟩
abbrev main_v145 : Ref sig .tc := ⟨.hbm, 186, rfl⟩

abbrev nD : Nat := 1
abbrev τ : Topo := Topo.v7x

variable {F : FTy → Type} [FloatOps F]
-- ==== ModBwd.lean ====
abbrev S8x1024 : Shape := ⟨2, ![8, 1024]⟩
abbrev S1024 : Shape := ⟨1, ![1024]⟩
abbrev S2x1024x768 : Shape := ⟨3, ![2, 1024, 768]⟩
abbrev S2x8x768 : Shape := ⟨3, ![2, 8, 768]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x8x1024 : Shape := ⟨3, ![2, 8, 1024]⟩
abbrev S1x1024x768 : Shape := ⟨3, ![1, 1024, 768]⟩
abbrev S1x8x768 : Shape := ⟨3, ![1, 8, 768]⟩
abbrev S1x8x1024 : Shape := ⟨3, ![1, 8, 1024]⟩
abbrev S8x768 : Shape := ⟨2, ![8, 768]⟩
abbrev S1x768 : Shape := ⟨2, ![1, 768]⟩
abbrev S16x768 : Shape := ⟨2, ![16, 768]⟩
abbrev S1024x768 : Shape := ⟨2, ![1024, 768]⟩

abbrev nBuf : Space → Nat
  | .hbm => 11
  | .vmem => 11
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x8x768, .f32⟩
  | .hbm, ⟨4, _⟩ => ⟨S2x8x768, .f32⟩
  | .hbm, ⟨5, _⟩ => ⟨S1x1024, .f32⟩
  | .hbm, ⟨6, _⟩ => ⟨S_, .f32⟩
  | .hbm, ⟨7, _⟩ => ⟨S7x1024, .f32⟩
  | .hbm, ⟨8, _⟩ => ⟨S16x1024, .f32⟩
  | .hbm, ⟨9, _⟩ => ⟨S2x1024x768, .f32⟩
  | .hbm, ⟨10, _⟩ => ⟨S2x8x1024, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S1x8x768, .f32⟩
  | .local _ .vmem, ⟨7, _⟩ => ⟨S1x1024x768, .f32⟩
  | .local _ .vmem, ⟨8, _⟩ => ⟨S1x1024x768, .f32⟩
  | .local _ .vmem, ⟨9, _⟩ => ⟨S1x8x1024, .f32⟩
  | .local _ .vmem, ⟨10, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModBwdReferenceIdeal.lean ====
abbrev S8x1024 : Shape := ⟨2, ![8, 1024]⟩
abbrev S1024 : Shape := ⟨1, ![1024]⟩
abbrev S2x1024x768 : Shape := ⟨3, ![2, 1024, 768]⟩
abbrev S2x8x768 : Shape := ⟨3, ![2, 8, 768]⟩
abbrev S_ : Shape := ⟨0, ![]⟩
abbrev S1x1024 : Shape := ⟨2, ![1, 1024]⟩
abbrev S2x1024 : Shape := ⟨2, ![2, 1024]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩
abbrev S1x768 : Shape := ⟨2, ![1, 768]⟩
abbrev S768 : Shape := ⟨1, ![768]⟩
abbrev S768x1024 : Shape := ⟨2, ![768, 1024]⟩
abbrev S2x1x1024 : Shape := ⟨3, ![2, 1, 1024]⟩
abbrev S2x8x1024 : Shape := ⟨3, ![2, 8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x8x768, .f32⟩
  | .hbm, ⟨4, _⟩ => ⟨S2x8x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S2x1024, .f32⟩
  | .hbm, ⟨26, _⟩ => ⟨S1x1024x768, .f32⟩
  | .hbm, ⟨27, _⟩ => ⟨S1024x768, .f32⟩
  | .hbm, ⟨28, _⟩ => ⟨S8x768, .f32⟩
  | .hbm, ⟨29, _⟩ => ⟨S1x1024x768, .f32⟩
  | .hbm, ⟨30, _⟩ => ⟨S1024x768, .f32⟩
  | .hbm, ⟨31, _⟩ => ⟨S8x768, .f32⟩
  | .hbm, ⟨32, _⟩ => ⟨S1x8x768, .f32⟩
  | .hbm, ⟨33, _⟩ => ⟨S1x8x768, .f32⟩
  | .hbm, ⟨34, _⟩ => ⟨S2x8x768, .f32⟩
  | .hbm, ⟨35, _⟩ => ⟨S1x1024, .f32⟩
  | .hbm, ⟨36, _⟩ => ⟨S1x1024x768, .f32⟩
  | .hbm, ⟨37, _⟩ => ⟨S1024x768, .f32⟩
  | .hbm, ⟨38, _⟩ => ⟨S1x768, .f32⟩
  | .hbm, ⟨39, _⟩ => ⟨S8x768, .f32⟩
  | .hbm, ⟨40, _⟩ => ⟨S1x1024, .f32⟩
  | .hbm, ⟨41, _⟩ => ⟨S1x1024x768, .f32⟩
  | .hbm, ⟨42, _⟩ => ⟨S1024x768, .f32⟩
  | .hbm, ⟨43, _⟩ => ⟨S1x768, .f32⟩
  | .hbm, ⟨44, _⟩ => ⟨S8x768, .f32⟩
  | .hbm, ⟨45, _⟩ => ⟨S1x8x768, .f32⟩
  | .hbm, ⟨46, _⟩ => ⟨S1x8x768, .f32⟩
  | .hbm, ⟨47, _⟩ => ⟨S2x8x768, .f32⟩
  | .hbm, ⟨48, _⟩ => ⟨S1x8x768, .f32⟩
  | .hbm, ⟨49, _⟩ => ⟨S8x768, .f32⟩
  | .hbm, ⟨50, _⟩ => ⟨S1x8x768, .f32⟩
  | .hbm, ⟨51, _⟩ => ⟨S8x768, .f32⟩
  | .hbm, ⟨52, _⟩ => ⟨S_, .f32⟩
  | .hbm, ⟨53, _⟩ => ⟨S768, .f32⟩
  | .hbm, ⟨54, _⟩ => ⟨S1x768, .f32⟩
  | .hbm, ⟨55, _⟩ => ⟨S768x1024, .f32⟩
  | .hbm, ⟨56, _⟩ => ⟨S1024x768, .f32⟩
  | .hbm, ⟨57, _⟩ => ⟨S1x1024, .f32⟩
  | .hbm, ⟨58, _⟩ => ⟨S1x1024x768, .f32⟩
  | .hbm, ⟨59, _⟩ => ⟨S_, .f32⟩
  | .hbm, ⟨60, _⟩ => ⟨S2x1024x768, .f32⟩
  | .hbm, ⟨61, _⟩ => ⟨S_, .f32⟩
  | .hbm, ⟨62, _⟩ => ⟨S2x1024, .f32⟩
  | .hbm, ⟨63, _⟩ => ⟨S_, .f32⟩
  | .hbm, ⟨64, _⟩ => ⟨S768, .f32⟩
  | .hbm, ⟨65, _⟩ => ⟨S1x768, .f32⟩
  | .hbm, ⟨66, _⟩ => ⟨S768x1024, .f32⟩
  | .hbm, ⟨67, _⟩ => ⟨S1024x768, .f32⟩
  | .hbm, ⟨68, _⟩ => ⟨S1x1024, .f32⟩
  | .hbm, ⟨69, _⟩ => ⟨S1x1024x768, .f32⟩
  | .hbm, ⟨70, _⟩ => ⟨S_, .f32⟩
  | .hbm, ⟨71, _⟩ => ⟨S2x1024x768, .f32⟩
  | .hbm, ⟨72, _⟩ => ⟨S2x1024x768, .f32⟩
  | .hbm, ⟨73, _⟩ => ⟨S_, .f32⟩
  | .hbm, ⟨74, _⟩ => ⟨S2x1024, .f32⟩
  | .hbm, ⟨75, _⟩ => ⟨S2x1024, .f32⟩
  | .hbm, ⟨76, _⟩ => ⟨S1x8x768, .f32⟩
  | .hbm, ⟨77, _⟩ => ⟨S8x768, .f32⟩
  | .hbm, ⟨78, _⟩ => ⟨S1x8x768, .f32⟩
  | .hbm, ⟨79, _⟩ => ⟨S8x768, .f32⟩
  | .hbm, ⟨80, _⟩ => ⟨S768x1024, .f32⟩
  | .hbm, ⟨81, _⟩ => ⟨S1024x768, .f32⟩
  | .hbm, ⟨82, _⟩ => ⟨S1x1024x768, .f32⟩
  | .hbm, ⟨83, _⟩ => ⟨S_, .f32⟩
  | .hbm, ⟨84, _⟩ => ⟨S2x1024x768, .f32⟩
  | .hbm, ⟨85, _⟩ => ⟨S2x1024x768, .f32⟩
  | .hbm, ⟨86, _⟩ => ⟨S768x1024, .f32⟩
  | .hbm, ⟨87, _⟩ => ⟨S1024x768, .f32⟩
  | .hbm, ⟨88, _⟩ => ⟨S1x1024x768, .f32⟩
  | .hbm, ⟨89, _⟩ => ⟨S_, .f32⟩
  | .hbm, ⟨90, _⟩ => ⟨S2x1024x768, .f32⟩
  | .hbm, ⟨91, _⟩ => ⟨S2x1024x768, .f32⟩
  | .hbm, ⟨92, _⟩ => ⟨S2x1x1024, .f32⟩
  | .hbm, ⟨93, _⟩ => ⟨S2x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_0 : Ref sig .tc := ⟨.hbm, 59, rfl⟩
abbrev main_v37 : Ref sig .tc := ⟨.hbm, 60, rfl⟩
abbrev main_cst_1 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_6 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== FinalLoss.lean ====
abbrev S8448x1024 : Shape := ⟨2, ![8448, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8x128, .f32⟩
  | .hbm, ⟨5, _⟩ => ⟨S8448x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalLossReferenceIdeal.lean ====
abbrev S8448x1024 : Shape := ⟨2, ![8448, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8448x1024, .f32⟩
  | .hbm, ⟨74, _⟩ => ⟨S8x128, .f32⟩
  | .hbm, ⟨75, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== FfnBwd.lean ====
abbrev S8448x1024 : Shape := ⟨2, ![8448, 1024]⟩
abbrev S6144 : Shape := ⟨1, ![6144]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x1024 : Shape := ⟨2, ![2, 1024]⟩
abbrev S6x1024 : Shape := ⟨2, ![6, 1024]⟩
abbrev S8x1024 : Shape := ⟨2, ![8, 1024]⟩
abbrev S1x8x1024 : Shape := ⟨3, ![1, 8, 1024]⟩
abbrev S2x8x1024 : Shape := ⟨3, ![2, 8, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x4096 : Shape := ⟨2, ![256, 4096]⟩
abbrev S8192x1024 : Shape := ⟨2, ![8192, 1024]⟩
abbrev S8192 : Shape := ⟨1, ![8192]⟩
abbrev S8192x1 : Shape := ⟨2, ![8192, 1]⟩
abbrev S8192x4096 : Shape := ⟨2, ![8192, 4096]⟩
abbrev S8448x4096 : Shape := ⟨2, ![8448, 4096]⟩
abbrev S1024x8448 : Shape := ⟨2, ![1024, 8448]⟩
abbrev S1024x256 : Shape := ⟨2, ![1024, 256]⟩
abbrev S1024x1024 : Shape := ⟨2, ![1024, 1024]⟩
abbrev S3x1024 : Shape := ⟨2, ![3, 1024]⟩
abbrev S4x1024 : Shape := ⟨2, ![4, 1024]⟩
abbrev S5x1024 : Shape := ⟨2, ![5, 1024]⟩

abbrev nBuf : Space → Nat
  | .hbm => 95
  | .vmem => 24
  | .smem => 0
  | _ => 0

abbrev bufTy : (tb : Table) → Fin (tcTables nBuf tb) → BufTy
  | .hbm, ⟨0, _⟩ => ⟨S8448x1024, .f32⟩
  | .hbm, ⟨1, _⟩ => ⟨S6144, .f32⟩
  | .hbm, ⟨2, _⟩ => ⟨S6144, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8448x1024, .f32⟩
  | .hbm, ⟨7, _⟩ => ⟨S_, .f32⟩
  | .hbm, ⟨8, _⟩ => ⟨S2x1024, .f32⟩
  | .hbm, ⟨9, _⟩ => ⟨S6x1024, .f32⟩
  | .hbm, ⟨10, _⟩ => ⟨S8x1024, .f32⟩
  | .hbm, ⟨11, _⟩ => ⟨S6x1024, .f32⟩
  | .hbm, ⟨12, _⟩ => ⟨S8x1024, .f32⟩
  | .hbm, ⟨13, _⟩ => ⟨S1x8x1024, .f32⟩
  | .hbm, ⟨14, _⟩ => ⟨S1x8x1024, .f32⟩
  | .hbm, ⟨15, _⟩ => ⟨S2x8x1024, .f32⟩
  | .hbm, ⟨16, _⟩ => ⟨S256x1024, .f32⟩
  | .hbm, ⟨17, _⟩ => ⟨S1x8x1024, .f32⟩
  | .hbm, ⟨18, _⟩ => ⟨S8x1024, .f32⟩
  | .hbm, ⟨19, _⟩ => ⟨S1x1024, .f32⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S1x1024, .f32⟩
  | .hbm, ⟨42, _⟩ => ⟨S256x1024, .f32⟩
  | .hbm, ⟨43, _⟩ => ⟨S256x1024, .f32⟩
  | .hbm, ⟨44, _⟩ => ⟨S256x4096, .f32⟩
  | .hbm, ⟨45, _⟩ => ⟨S_, .f32⟩
  | .hbm, ⟨46, _⟩ => ⟨S256x4096, .f32⟩
  | .hbm, ⟨47, _⟩ => ⟨S256x4096, .f32⟩
  | .hbm, ⟨48, _⟩ => ⟨S256x4096, .f32⟩
  | .hbm, ⟨49, _⟩ => ⟨S256x1024, .f32⟩
  | .hbm, ⟨50, _⟩ => ⟨S8192x1024, .f32⟩
  | .hbm, ⟨51, _⟩ => ⟨S1x8x1024, .f32⟩
  | .hbm, ⟨52, _⟩ => ⟨S8x1024, .f32⟩
  | .hbm, ⟨53, _⟩ => ⟨S1x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x1024, .f32⟩
  | .hbm, ⟨84, _⟩ => ⟨S8448x1024, .f32⟩
  | .hbm, ⟨85, _⟩ => ⟨S1x1024, .f32⟩
  | .hbm, ⟨86, _⟩ => ⟨S1024x4096, .bf16⟩
  | .hbm, ⟨87, _⟩ => ⟨S4096x1024, .bf16⟩
  | .hbm, ⟨88, _⟩ => ⟨S8448x1024, .f32⟩
  | .hbm, ⟨89, _⟩ => ⟨S2x8x1024, .f32⟩
  | .hbm, ⟨90, _⟩ => ⟨S1x1024, .f32⟩
  | .hbm, ⟨91, _⟩ => ⟨S8448x4096, .bf16⟩
  | .hbm, ⟨92, _⟩ => ⟨S1024x8448, .bf16⟩
  | .hbm, ⟨93, _⟩ => ⟨S1024x8448, .bf16⟩
  | .hbm, ⟨94, _⟩ => ⟨S8448x4096, .bf16⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x1024, .f32⟩
  | .local _ .vmem, ⟨16, _⟩ => ⟨S256x4096, .bf16⟩
  | .local _ .vmem, ⟨17, _⟩ => ⟨S256x4096, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S256x4096, .bf16⟩
  | .local _ .vmem, ⟨23, _⟩ => ⟨S256x4096, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70_0 : Ref sig .tc := ⟨.hbm, 88, rfl⟩
abbrev main_v70_1 : Ref sig .tc := ⟨.hbm, 89, rfl⟩
abbrev main_v70_2 : Ref sig .tc := ⟨.hbm, 90, rfl⟩
abbrev main_v70_3 : Ref sig .tc := ⟨.hbm, 91, rfl⟩
abbrev main_v70_4 : Ref sig .tc := ⟨.hbm, 92, rfl⟩
abbrev main_v70_5 : Ref sig .tc := ⟨.hbm, 93, rfl⟩
abbrev main_v70_6 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v175 : BitVec 1 := Scalar.cmpi .eq arg0 c0_i32
  let c1_i32 : BitVec 32 := 1#32
  let v176 : BitVec 1 := Scalar.cmpi .eq arg0 c1_i32
  let v177 : BitVec 1 := Scalar.ori v175 v176
  let v178 : BitVec 32 := Scalar.extui v177
  let c0_i32_88 : BitVec 32 := 0#32
  let v179 : BitVec 1 := Scalar.cmpi .ne v178 c0_i32_88
  v179

def k0_cond2 (i : grid0.Coords) : BitVec 1 :=
  let arg0 : BitVec 32 := BitVec.ofNat 32 (i 0).val
  let c0_i32 : BitVec 32 := 0#32
  let v175 : BitVec 1 := Scalar.cmpi .eq arg0 c0_i32
  let c1_i32 : BitVec 32 := 1#32
  let v176 : BitVec 1 := Scalar.cmpi .eq arg0 c1_i32
  let v177 : BitVec 1 := Scalar.ori v175 v176
  let v_true : BitVec 1 := 1#1
  let v180 : BitVec 1 := Scalar.xori v177 v_true
  let v181 : BitVec 32 := Scalar.extui v180
  let c0_i32_89 : BitVec 32 := 0#32
  let v182 : BitVec 1 := Scalar.cmpi .ne v181 c0_i32_89
  v182

def k0_cond3 (i : grid0.Coords) : BitVec 1 :=
  let arg0 : BitVec 32 := BitVec.ofNat 32 (i 0).val
  let c0_i32_90 : BitVec 32 := 0#32
  let v183 : BitVec 1 := Scalar.cmpi .eq arg0 c0_i32_90
  let v184 : BitVec 32 := Scalar.extui v183
  let c0_i32_91 : BitVec 32 := 0#32
  let v185 : BitVec 1 := Scalar.cmpi .ne v184 c0_i32_91
  v185

def k0_cond4 (i : grid0.Coords) : BitVec 1 :=
  let arg0 : BitVec 32 := BitVec.ofNat 32 (i 0).val
  let c0_i32_92 : BitVec 32 := 0#32
  let v186 : BitVec 1 := Scalar.cmpi .sgt arg0 c0_i32_92
  let v187 : BitVec 32 := Scalar.extui v186
  let c0_i32_93 : BitVec 32 := 0#32
  let v188 : BitVec 1 := Scalar.cmpi .ne v187 c0_i32_93
  v188

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnBwdReferenceIdeal.lean ====
abbrev S8448x1024 : Shape := ⟨2, ![8448, 1024]⟩
abbrev S6144 : Shape := ⟨1, ![6144]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8448x4096 : Shape := ⟨2, ![8448, 4096]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S8192x1024 : Shape := ⟨2, ![8192, 1024]⟩
abbrev S8192 : Shape := ⟨1, ![8192]⟩
abbrev S8192x1 : Shape := ⟨2, ![8192, 1]⟩
abbrev S6x1024 : Shape := ⟨2, ![6, 1024]⟩
abbrev S1x6x1024 : Shape := ⟨3, ![1, 6, 1024]⟩
abbrev S2x6x1024 : Shape := ⟨3, ![2, 6, 1024]⟩
abbrev S2x8x1024 : Shape := ⟨3, ![2, 8, 1024]⟩
abbrev S1024x8448 : Shape := ⟨2, ![1024, 8448]⟩

abbrev nBuf : Space → Nat
  | .hbm => 261
  | .vmem => 0
  | .smem => 0
  | _ => 0

abbrev hbmTy0_0 (i : Nat) : BufTy := match i % 128 with
  | 0 => ⟨S8448x1024, .f32⟩
  | 1 => ⟨S6144, .f32⟩
  | 2 => ⟨S6144, .f32⟩
  | 3 => ⟨S1024, .f32⟩
  | 4 => ⟨S1024x4096, .f32⟩
  | 5 => ⟨S4096x1024, .f32⟩
  | 6 => ⟨S8448x1024, .f32⟩
  | 7 => ⟨S_, .f32⟩
  | 8 => ⟨S8448x4096, .f32⟩
  | 9 => ⟨S_, .f32⟩
  | 10 => ⟨S8448x1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S256x1024, .f32⟩
  | 24 => ⟨S256x1024, .f32⟩
  | 25 => ⟨S_, .f32⟩
  | 26 => ⟨S256, .f32⟩
  | 27 => ⟨S256x1, .f32⟩
  | 28 => ⟨S_, .f32⟩
  | 29 => ⟨S256x1, .f32⟩
  | 30 => ⟨S256x1, .f32⟩
  | 31 => ⟨S_, .f32⟩
  | 32 => ⟨S256x1, .f32⟩
  | 33 => ⟨S256x1, .f32⟩
  | 34 => ⟨S256x1, .f32⟩
  | 35 => ⟨S256x1, .f32⟩
  | 36 => ⟨S_, .f32⟩
  | 37 => ⟨S256x1, .f32⟩
  | 38 => ⟨S256x1, .f32⟩
  | 39 => ⟨S256x1024, .f32⟩
  | 40 => ⟨S256x1024, .f32⟩
  | 41 => ⟨S1x1024, .f32⟩
  | 42 => ⟨S256x1024, .f32⟩
  | 43 => ⟨S256x1024, .f32⟩
  | 44 => ⟨S_, .f32⟩
  | 45 => ⟨S1024, .f32⟩
  | 46 => ⟨S1024, .f32⟩
  | 47 => ⟨S1x1024, .f32⟩
  | 48 => ⟨S256x1024, .f32⟩
  | 49 => ⟨S256x1024, .f32⟩
  | 50 => ⟨S1x1024, .f32⟩
  | 51 => ⟨S256x1024, .f32⟩
  | 52 => ⟨S256x1024, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S_, .f32⟩
  | 75 => ⟨S1024, .f32⟩
  | 76 => ⟨S1024, .f32⟩
  | 77 => ⟨S1x1024, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S8448x1024, .f32⟩
  | 84 => ⟨S8448x4096, .f32⟩
  | 85 => ⟨S8448x4096, .f32⟩
  | 86 => ⟨S_, .f32⟩
  | 87 => ⟨S8448x4096, .f32⟩
  | 88 => ⟨S8448x4096, .f32⟩
  | 89 => ⟨S_, .f32⟩
  | 90 => ⟨S8448x4096, .f32⟩
  | 91 => ⟨S8448x4096, .i1⟩
  | 92 => ⟨S_, .f32⟩
  | 93 => ⟨S8448x4096, .f32⟩
  | 94 => ⟨S8448x4096, .f32⟩
  | 95 => ⟨S8448x1024, .f32⟩
  | 96 => ⟨S8448x1024, .f32⟩
  | 97 => ⟨S256x1024, .f32⟩
  | 98 => ⟨S256x1024, .f32⟩
  | 99 => ⟨S1x1024, .f32⟩
  | 100 => ⟨S256x1024, .f32⟩
  | 101 => ⟨S256x1024, .f32⟩
  | 102 => ⟨S256x1024, .f32⟩
  | 103 => ⟨S8192x1024, .f32⟩
  | 104 => ⟨S8192x1024, .f32⟩
  | 105 => ⟨S1x1024, .f32⟩
  | 106 => ⟨S8192x1024, .f32⟩
  | 107 => ⟨S8192x1024, .f32⟩
  | 108 => ⟨S8192x1024, .f32⟩
  | 109 => ⟨S8448x1024, .f32⟩
  | 110 => ⟨S8448x4096, .f32⟩
  | 111 => ⟨S256x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S_, .f32⟩
  | 122 => ⟨S8448x1024, .f32⟩
  | 123 => ⟨S_, .f32⟩
  | 124 => ⟨S8448x1024, .f32⟩
  | 125 => ⟨S256x1024, .f32⟩
  | 126 => ⟨S256x1024, .f32⟩
  | 127 => ⟨S256x1024, .f32⟩
  | _ => ⟨S8448x1024, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S_, .f32⟩
  | 6 => ⟨S8448x1024, .f32⟩
  | 7 => ⟨S8448x1024, .f32⟩
  | 8 => ⟨S_, .f32⟩
  | 9 => ⟨S8448x1024, .f32⟩
  | 10 => ⟨S8448x1024, .f32⟩
  | 11 => ⟨S8448x4096, .f32⟩
  | 12 => ⟨S8448x4096, .f32⟩
  | 13 => ⟨S8448x4096, .f32⟩
  | 14 => ⟨S8448x4096, .f32⟩
  | 15 => ⟨S_, .f32⟩
  | 16 => ⟨S8448x4096, .f32⟩
  | 17 => ⟨S8448x4096, .f32⟩
  | 18 => ⟨S8448x1024, .f32⟩
  | 19 => ⟨S256x1024, .f32⟩
  | 20 => ⟨S8192x1024, .f32⟩
  | 21 => ⟨S_, .f32⟩
  | 22 => ⟨S1024, .f32⟩
  | 23 => ⟨S1x1024, .f32⟩
  | 24 => ⟨S_, .f32⟩
  | 25 => ⟨S1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S_, .f32⟩
  | 33 => ⟨S1024, .f32⟩
  | 34 => ⟨S8192x1024, .f32⟩
  | 35 => ⟨S_, .f32⟩
  | 36 => ⟨S1024, .f32⟩
  | 37 => ⟨S1x1024, .f32⟩
  | 38 => ⟨S8192x1024, .f32⟩
  | 39 => ⟨S8192x1024, .f32⟩
  | 40 => ⟨S_, .f32⟩
  | 41 => ⟨S1024, .f32⟩
  | 42 => ⟨S8192x1024, .f32⟩
  | 43 => ⟨S_, .f32⟩
  | 44 => ⟨S8192, .f32⟩
  | 45 => ⟨S8192x1, .f32⟩
  | 46 => ⟨S8192x1024, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S8448x1024, .f32⟩
  | 61 => ⟨S8448x1024, .f32⟩
  | 62 => ⟨S_, .f32⟩
  | 63 => ⟨S1024, .f32⟩
  | 64 => ⟨S1x1024, .f32⟩
  | 65 => ⟨S_, .f32⟩
  | 66 => ⟨S1024, .f32⟩
  | 67 => ⟨S256x1024, .f32⟩
  | 68 => ⟨S_, .f32⟩
  | 69 => ⟨S1024, .f32⟩
  | 70 => ⟨S1x1024, .f32⟩
  | 71 => ⟨S256x1024, .f32⟩
  | 72 => ⟨S256x1024, .f32⟩
  | 73 => ⟨S_, .f32⟩
  | 74 => ⟨S1024, .f32⟩
  | 75 => ⟨S256x1024, .f32⟩
  | 76 => ⟨S_, .f32⟩
  | 77 => ⟨S1024, .f32⟩
  | 78 => ⟨S1x1024, .f32⟩
  | 79 => ⟨S256x1024, .f32⟩
  | 80 => ⟨S256x1024, .f32⟩
  | 81 => ⟨S_, .f32⟩
  | 82 => ⟨S1024, .f32⟩
  | 83 => ⟨S1024, .f32⟩
  | 84 => ⟨S256x1024, .f32⟩
  | 85 => ⟨S_, .f32⟩
  | 86 => ⟨S256, .f32⟩
  | 87 => ⟨S256x1, .f32⟩
  | 88 => ⟨S256x1024, .f32⟩
  | 89 => ⟨S256x1024, .f32⟩
  | 90 => ⟨S256x1, .f32⟩
  | 91 => ⟨S_, .f32⟩
  | 92 => ⟨S256x1, .f32⟩
  | 93 => ⟨S256x1, .f32⟩
  | 94 => ⟨S_, .f32⟩
  | 95 => ⟨S256, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S_, .f32⟩
  | 102 => ⟨S8448x1024, .f32⟩
  | 103 => ⟨S8448x1024, .f32⟩
  | 104 => ⟨S_, .f32⟩
  | 105 => ⟨S1024, .f32⟩
  | 106 => ⟨S_, .f32⟩
  | 107 => ⟨S1024, .f32⟩
  | 108 => ⟨S_, .f32⟩
  | 109 => ⟨S1024, .f32⟩
  | 110 => ⟨S6144, .f32⟩
  | 111 => ⟨S_, .f32⟩
  | 112 => ⟨S1024, .f32⟩
  | 113 => ⟨S_, .f32⟩
  | 114 => ⟨S1024, .f32⟩
  | 115 => ⟨S_, .f32⟩
  | 116 => ⟨S1024, .f32⟩
  | 117 => ⟨S6144, .f32⟩
  | 118 => ⟨S6x1024, .f32⟩
  | 119 => ⟨S6x1024, .f32⟩
  | 120 => ⟨S1x6x1024, .f32⟩
  | 121 => ⟨S1x6x1024, .f32⟩
  | 122 => ⟨S2x6x1024, .f32⟩
  | 123 => ⟨S_, .i32⟩
  | 124 => ⟨S_, .f32⟩
  | 125 => ⟨S2x8x1024, .f32⟩
  | 126 => ⟨S1x1024, .f32⟩
  | 127 => ⟨S8448x4096, .bf16⟩
  | _ => ⟨S8448x1024, .f32⟩

abbrev hbmTy0_2 (i : Nat) : BufTy := match i % 128 with
  | 0 => ⟨S1024x8448, .f32⟩
  | 1 => ⟨S1024x8448, .bf16⟩
  | 2 => ⟨S1024x8448, .f32⟩
  | 3 => ⟨S1024x8448, .bf16⟩
  | 4 => ⟨S8448x4096, .bf16⟩
  | _ => ⟨S8448x1024, .f32⟩

abbrev hbmTy (i : Nat) : BufTy := match i / 128 with
  | 0 => hbmTy0_0 i
  | 1 => hbmTy0_1 i
  | 2 => hbmTy0_2 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_call0_cst : Ref sig .tc := ⟨.hbm, 86, rfl⟩
abbrev main_call0_v0 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_v94 : Ref sig .tc := ⟨.hbm, 118, rfl⟩
abbrev main_cst_14 : Ref sig .tc := ⟨.hbm, 119, rfl⟩
abbrev main_v95 : Ref sig .tc := ⟨.hbm, 120, rfl⟩
abbrev main_cst_15 : Ref sig .tc := ⟨.hbm, 121, rfl⟩
abbrev main_v96 : Ref sig .tc := ⟨.hbm, 122, rfl⟩
abbrev main_cst_16 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_17 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_v105 : Ref sig .tc := ⟨.hbm, 135, rfl⟩
abbrev main_cst_20 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_21 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_22 : Ref sig .tc := ⟨.hbm, 149, rfl⟩
abbrev main_v117 : Ref sig .tc := ⟨.hbm, 150, rfl⟩
abbrev main_v118 : Ref sig .tc := ⟨.hbm, 151, rfl⟩
abbrev main_cst_23 : Ref sig .tc := ⟨.hbm, 152, rfl⟩
abbrev main_v119 : Ref sig .tc := ⟨.hbm, 153, rfl⟩
abbrev main_v120 : Ref sig .tc := ⟨.hbm, 154, rfl⟩
abbrev main_cst_24 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_25 : Ref sig .tc := ⟨.hbm, 160, rfl⟩
abbrev main_v125 : Ref sig .tc := ⟨.hbm, 161, rfl⟩
abbrev main_v126 : Ref sig .tc := ⟨.hbm, 162, rfl⟩
abbrev main_cst_26 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_27 : Ref sig .tc := ⟨.hbm, 168, rfl⟩
abbrev main_v131 : Ref sig .tc := ⟨.hbm, 169, rfl⟩
abbrev main_v132 : Ref sig .tc := ⟨.hbm, 170, rfl⟩
abbrev main_cst_28 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_29 : Ref sig .tc := ⟨.hbm, 177, rfl⟩
abbrev main_v138 : Ref sig .tc := ⟨.hbm, 178, rfl⟩
abbrev main_v139 : Ref sig .tc := ⟨.hbm, 179, rfl⟩
abbrev main_cst_30 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_31 : Ref sig .tc := ⟨.hbm, 187, rfl⟩
abbrev main_v146 : Ref sig .tc := ⟨.hbm, 188, rfl⟩
abbrev main_v147 : Ref sig .tc := ⟨.hbm, 189, rfl⟩
abbrev main_cst_32 : Ref sig .tc := ⟨.hbm, 190, rfl⟩
abbrev main_v148 : Ref sig .tc := ⟨.hbm, 191, rfl⟩
abbrev main_v149 : Ref sig .tc := ⟨.hbm, 192, rfl⟩
abbrev main_cst_33 : Ref sig .tc := ⟨.hbm, 193, rfl⟩
abbrev main_v150 : Ref sig .tc := ⟨.hbm, 194, rfl⟩
abbrev main_v151 : Ref sig .tc := ⟨.hbm, 195, rfl⟩
abbrev main_cst_34 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_35 : Ref sig .tc := ⟨.hbm, 201, rfl⟩
abbrev main_v156 : Ref sig .tc := ⟨.hbm, 202, rfl⟩
abbrev main_v157 : Ref sig .tc := ⟨.hbm, 203, rfl⟩
abbrev main_cst_36 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_37 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_38 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_39 : Ref sig .tc := ⟨.hbm, 219, rfl⟩
abbrev main_v170 : Ref sig .tc := ⟨.hbm, 220, rfl⟩
abbrev main_v171 : Ref sig .tc := ⟨.hbm, 221, rfl⟩
abbrev main_cst_40 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_41 : Ref sig .tc := ⟨.hbm, 229, rfl⟩
abbrev main_v178 : Ref sig .tc := ⟨.hbm, 230, rfl⟩
abbrev main_v179 : Ref sig .tc := ⟨.hbm, 231, rfl⟩
abbrev main_cst_42 : Ref sig .tc := ⟨.hbm, 232, rfl⟩
abbrev main_v180 : Ref sig .tc := ⟨.hbm, 233, rfl⟩
abbrev main_cst_43 : Ref sig .tc := ⟨.hbm, 234, rfl⟩
abbrev main_v181 : Ref sig .tc := ⟨.hbm, 235, rfl⟩
abbrev main_cst_44 : Ref sig .tc := ⟨.hbm, 236, rfl⟩
abbrev main_v182 : Ref sig .tc := ⟨.hbm, 237, rfl⟩
abbrev main_v183 : Ref sig .tc := ⟨.hbm, 238, rfl⟩
abbrev main_cst_45 : Ref sig .tc := ⟨.hbm, 239, rfl⟩
abbrev main_v184 : Ref sig .tc := ⟨.hbm, 240, rfl⟩
abbrev main_cst_46 : Ref sig .tc := ⟨.hbm, 241, rfl⟩
abbrev main_v185 : Ref sig .tc := ⟨.hbm, 242, rfl⟩
abbrev main_cst_47 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_c : Ref sig .tc := ⟨.hbm, 251, rfl⟩
abbrev main_call1_v0 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩

abbrev nD : Nat := 1
abbrev τ : Topo := Topo.v7x

variable {F : FTy → Type} [FloatOps F]
-- ==== OutBwd.lean ====
abbrev S8448x1024 : Shape := ⟨2, ![8448, 1024]⟩
abbrev S6144 : Shape := ⟨1, ![6144]⟩
abbrev S8448x256 : Shape := ⟨2, ![8448, 256]⟩
abbrev S8448x512 : Shape := ⟨2, ![8448, 512]⟩
abbrev S64 : Shape := ⟨1, ![64]⟩
abbrev S1024x1024 : Shape := ⟨2, ![1024, 1024]⟩
abbrev S_ : Shape := ⟨0, ![]⟩
abbrev S2x1024 : Shape := ⟨2, ![2, 1024]⟩
abbrev S6x1024 : Shape := ⟨2, ![6, 1024]⟩
abbrev S8x1024 : Shape := ⟨2, ![8, 1024]⟩
abbrev S1x8x1024 : Shape := ⟨3, ![1, 8, 1024]⟩
abbrev S2x8x1024 : Shape := ⟨3, ![2, 8, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1024x8448 : Shape := ⟨2, ![1024, 8448]⟩
abbrev S8x8448 : Shape := ⟨2, ![8, 8448]⟩
abbrev S256x1024 : Shape := ⟨2, ![256, 1024]⟩
abbrev S256x256 : Shape := ⟨2, ![256, 256]⟩
abbrev S256x512 : Shape := ⟨2, ![256, 512]⟩
abbrev S1024x256 : Shape := ⟨2, ![1024, 256]⟩
abbrev S8x256 : Shape := ⟨2, ![8, 256]⟩
abbrev S256x1 : Shape := ⟨2, ![256, 1]⟩
abbrev S1x1024 : Shape := ⟨2, ![1, 1024]⟩
abbrev S1024 : Shape := ⟨1, ![1024]⟩
abbrev S3x1024 : Shape := ⟨2, ![3, 1024]⟩
abbrev S5x1024 : Shape := ⟨2, ![5, 1024]⟩
abbrev S256x128 : Shape := ⟨2, ![256, 128]⟩
abbrev S256x124 : Shape := ⟨2, ![256, 124]⟩
abbrev S128x256 : Shape := ⟨2, ![128, 256]⟩

abbrev nBuf : Space → Nat
  | .hbm => 36
  | .vmem => 39
  | .smem => 0
  | _ => 0

abbrev bufTy : (tb : Table) → Fin (tcTables nBuf tb) → BufTy
  | .hbm, ⟨0, _⟩ => ⟨S8448x1024, .f32⟩
  | .hbm, ⟨1, _⟩ => ⟨S6144, .f32⟩
  | .hbm, ⟨2, _⟩ => ⟨S6144, .f32⟩
  | .hbm, ⟨3, _⟩ => ⟨S8448x256, .f32⟩
  | .hbm, ⟨4, _⟩ => ⟨S8448x256, .f32⟩
  | .hbm, ⟨5, _⟩ => ⟨S8448x256, .f32⟩
  | .hbm, ⟨6, _⟩ => ⟨S8448x256, .f32⟩
  | .hbm, ⟨7, _⟩ => ⟨S8448x512, .f32⟩
  | .hbm, ⟨8, _⟩ => ⟨S64, .f32⟩
  | .hbm, ⟨9, _⟩ => ⟨S1024x1024, .f32⟩
  | .hbm, ⟨10, _⟩ => ⟨S8448x1024, .f32⟩
  | .hbm, ⟨11, _⟩ => ⟨S_, .f32⟩
  | .hbm, ⟨12, _⟩ => ⟨S2x1024, .f32⟩
  | .hbm, ⟨13, _⟩ => ⟨S6x1024, .f32⟩
  | .hbm, ⟨14, _⟩ => ⟨S8x1024, .f32⟩
  | .hbm, ⟨15, _⟩ => ⟨S6x1024, .f32⟩
  | .hbm, ⟨16, _⟩ => ⟨S8x1024, .f32⟩
  | .hbm, ⟨17, _⟩ => ⟨S1x8x1024, .f32⟩
  | .hbm, ⟨18, _⟩ => ⟨S1x8x1024, .f32⟩
  | .hbm, ⟨19, _⟩ => ⟨S2x8x1024, .f32⟩
  | .hbm, ⟨20, _⟩ => ⟨S1x64, .f32⟩
  | .hbm, ⟨21, _⟩ => ⟨S4x64, .f32⟩
  | .hbm, ⟨22, _⟩ => ⟨S256, .f32⟩
  | .hbm, ⟨23, _⟩ => ⟨S1x256, .f32⟩
  | .hbm, ⟨24, _⟩ => ⟨S1024x1024, .bf16⟩
  | .hbm, ⟨25, _⟩ => ⟨S8448x1024, .f32⟩
  | .hbm, ⟨26, _⟩ => ⟨S2x8x1024, .f32⟩
  | .hbm, ⟨27, _⟩ => ⟨S8448x256, .f32⟩
  | .hbm, ⟨28, _⟩ => ⟨S8448x256, .f32⟩
  | .hbm, ⟨29, _⟩ => ⟨S8448x256, .f32⟩
  | .hbm, ⟨30, _⟩ => ⟨S8448x512, .f32⟩
  | .hbm, ⟨31, _⟩ => ⟨S1x256, .f32⟩
  | .hbm, ⟨32, _⟩ => ⟨S8448x1024, .bf16⟩
  | .hbm, ⟨33, _⟩ => ⟨S1024x8448, .bf16⟩
  | .hbm, ⟨34, _⟩ => ⟨S8x8448, .f32⟩
  | .hbm, ⟨35, _⟩ => ⟨S8448x512, .bf16⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S1x256, .f32⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x8x1024, .f32⟩
  | .local _ .vmem, ⟨21, _⟩ => ⟨S1x8x1024, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x512, .f32⟩
  | .local _ .vmem, ⟨29, _⟩ => ⟨S256x512, .f32⟩
  | .local _ .vmem, ⟨30, _⟩ => ⟨S1x256, .f32⟩
  | .local _ .vmem, ⟨31, _⟩ => ⟨S256x1024, .bf16⟩
  | .local _ .vmem, ⟨32, _⟩ => ⟨S256x1024, .bf16⟩
  | .local _ .vmem, ⟨33, _⟩ => ⟨S1024x256, .bf16⟩
  | .local _ .vmem, ⟨34, _⟩ => ⟨S1024x256, .bf16⟩
  | .local _ .vmem, ⟨35, _⟩ => ⟨S8x256, .f32⟩
  | .local _ .vmem, ⟨36, _⟩ => ⟨S8x256, .f32⟩
  | .local _ .vmem, ⟨37, _⟩ => ⟨S256x512, .bf16⟩
  | .local _ .vmem, ⟨38, _⟩ => ⟨S256x512, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev main_v13_6 : Ref sig .tc := ⟨.hbm, 31, rfl⟩
abbrev main_v13_7 : Ref sig .tc := ⟨.hbm, 32, rfl⟩
abbrev main_v13_8 : Ref sig .tc := ⟨.hbm, 33, rfl⟩
abbrev main_v13_9 : Ref sig .tc := ⟨.hbm, 34, rfl⟩
abbrev main_v13_10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_52 : BitVec 32 := 0#32
  let v201 : BitVec 1 := Scalar.cmpi .eq arg0 c0_i32_52
  let c1_i32 : BitVec 32 := 1#32
  let v202 : BitVec 1 := Scalar.cmpi .eq arg0 c1_i32
  let v203 : BitVec 1 := Scalar.ori v201 v202
  let v205 : BitVec 32 := Scalar.extui v203
  let c0_i32_53 : BitVec 32 := 0#32
  let v206 : BitVec 1 := Scalar.cmpi .ne v205 c0_i32_53
  v206

def k0_cond2 (i : grid0.Coords) : BitVec 1 :=
  let arg0 : BitVec 32 := BitVec.ofNat 32 (i 0).val
  let c0_i32_52 : BitVec 32 := 0#32
  let v201 : BitVec 1 := Scalar.cmpi .eq arg0 c0_i32_52
  let c1_i32 : BitVec 32 := 1#32
  let v202 : BitVec 1 := Scalar.cmpi .eq arg0 c1_i32
  let v203 : BitVec 1 := Scalar.ori v201 v202
  let v_true : BitVec 1 := 1#1
  let v207 : BitVec 1 := Scalar.xori v203 v_true
  let v208 : BitVec 32 := Scalar.extui v207
  let c0_i32_54 : BitVec 32 := 0#32
  let v209 : BitVec 1 := Scalar.cmpi .ne v208 c0_i32_54
  v209

def k0_cond3 (i : grid0.Coords) : BitVec 1 :=
  let arg0 : BitVec 32 := BitVec.ofNat 32 (i 0).val
  let c0_i32_63 : BitVec 32 := 0#32
  let v214 : BitVec 1 := Scalar.cmpi .eq arg0 c0_i32_63
  let v215 : BitVec 32 := Scalar.extui v214
  let c0_i32_64 : BitVec 32 := 0#32
  let v216 : BitVec 1 := Scalar.cmpi .ne v215 c0_i32_64
  v216

def k0_cond4 (i : grid0.Coords) : BitVec 1 :=
  let arg0 : BitVec 32 := BitVec.ofNat 32 (i 0).val
  let c0_i32_63 : BitVec 32 := 0#32
  let v214 : BitVec 1 := Scalar.cmpi .eq arg0 c0_i32_63
  let true_65 : BitVec 1 := 1#1
  let v217 : BitVec 1 := Scalar.xori v214 true_65
  let v218 : BitVec 32 := Scalar.extui v217
  let c0_i32_66 : BitVec 32 := 0#32
  let v219 : BitVec 1 := Scalar.cmpi .ne v218 c0_i32_66
  v219

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== OutBwdReferenceIdeal.lean ====
abbrev S8448x1024 : Shape := ⟨2, ![8448, 1024]⟩
abbrev S6144 : Shape := ⟨1, ![6144]⟩
abbrev S8448x256 : Shape := ⟨2, ![8448, 256]⟩
abbrev S8448x512 : Shape := ⟨2, ![8448, 512]⟩
abbrev S64 : Shape := ⟨1, ![64]⟩
abbrev S1024x1024 : Shape := ⟨2, ![1024, 1024]⟩
abbrev S4x64 : Shape := ⟨2, ![4, 64]⟩
abbrev S_ : Shape := ⟨0, ![]⟩
abbrev S1024 : Shape := ⟨1, ![1024]⟩
abbrev S8448x4x64 : Shape := ⟨3, ![8448, 4, 64]⟩
abbrev S8448x4 : Shape := ⟨2, ![8448, 4]⟩
abbrev S8448x4x1 : Shape := ⟨3, ![8448, 4, 1]⟩
abbrev S1x4x64 : Shape := ⟨3, ![1, 4, 64]⟩
abbrev S256x1024 : Shape := ⟨2, ![256, 1024]⟩
abbrev S1x1024 : Shape := ⟨2, ![1, 1024]⟩
abbrev S8192x1024 : Shape := ⟨2, ![8192, 1024]⟩
abbrev S6x1024 : Shape := ⟨2, ![6, 1024]⟩
abbrev S1x6x1024 : Shape := ⟨3, ![1, 6, 1024]⟩
abbrev S2x6x1024 : Shape := ⟨3, ![2, 6, 1024]⟩
abbrev S2x8x1024 : Shape := ⟨3, ![2, 8, 1024]⟩
abbrev S8448x4x128 : Shape := ⟨3, ![8448, 4, 128]⟩
abbrev S1x256 : Shape := ⟨2, ![1, 256]⟩
abbrev S1024x8448 : Shape := ⟨2, ![1024, 8448]⟩
abbrev S4x8448 : Shape := ⟨2, ![4, 8448]⟩
abbrev S8x8448 : Shape := ⟨2, ![8, 8448]⟩

abbrev nBuf : Space → Nat
  | .hbm => 189
  | .vmem => 0
  | .smem => 0
  | _ => 0

abbrev hbmTy0_0 (i : Nat) : BufTy := match i % 128 with
  | 0 => ⟨S8448x1024, .f32⟩
  | 1 => ⟨S6144, .f32⟩
  | 2 => ⟨S6144, .f32⟩
  | 3 => ⟨S8448x256, .f32⟩
  | 4 => ⟨S8448x256, .f32⟩
  | 5 => ⟨S8448x256, .f32⟩
  | 6 => ⟨S8448x256, .f32⟩
  | 7 => ⟨S8448x512, .f32⟩
  | 8 => ⟨S64, .f32⟩
  | 9 => ⟨S1024x1024, .f32⟩
  | 10 => ⟨S8448x1024, .f32⟩
  | 11 => ⟨S4x64, .f32⟩
  | 12 => ⟨S_, .f32⟩
  | 13 => ⟨S8448x1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S8448x256, .f32⟩
  | 27 => ⟨S8448x4x64, .f32⟩
  | 28 => ⟨S8448x4x64, .f32⟩
  | 29 => ⟨S_, .f32⟩
  | 30 => ⟨S8448x4, .f32⟩
  | 31 => ⟨S8448x4x1, .f32⟩
  | 32 => ⟨S_, .f32⟩
  | 33 => ⟨S8448x4x1, .f32⟩
  | 34 => ⟨S8448x4x1, .f32⟩
  | 35 => ⟨S_, .f32⟩
  | 36 => ⟨S8448x4x1, .f32⟩
  | 37 => ⟨S8448x4x1, .f32⟩
  | 38 => ⟨S8448x4x1, .f32⟩
  | 39 => ⟨S8448x4x1, .f32⟩
  | 40 => ⟨S_, .f32⟩
  | 41 => ⟨S8448x4x1, .f32⟩
  | 42 => ⟨S8448x4x1, .f32⟩
  | 43 => ⟨S8448x4x64, .f32⟩
  | 44 => ⟨S8448x4x64, .f32⟩
  | 45 => ⟨S1x4x64, .f32⟩
  | 46 => ⟨S8448x4x64, .f32⟩
  | 47 => ⟨S8448x4x64, .f32⟩
  | 48 => ⟨S8448x4x64, .f32⟩
  | 49 => ⟨S8448x4x64, .f32⟩
  | 50 => ⟨S8448x4x64, .f32⟩
  | 51 => ⟨S_, .f32⟩
  | 52 => ⟨S8448x4x64, .f32⟩
  | 53 => ⟨S8448x4x64, .f32⟩
  | 54 => ⟨S_, .f32⟩
  | 55 => ⟨S8448x4x64, .f32⟩
  | 56 => ⟨S8448x4x64, .f32⟩
  | 57 => ⟨S_, .f32⟩
  | 58 => ⟨S8448x4x64, .f32⟩
  | 59 => ⟨S8448x4x64, .f32⟩
  | 60 => ⟨S8448x4x64, .f32⟩
  | 61 => ⟨S8448x4x64, .f32⟩
  | 62 => ⟨S8448x4x64, .f32⟩
  | 63 => ⟨S8448x256, .f32⟩
  | 64 => ⟨S8448x1024, .f32⟩
  | 65 => ⟨S8448x1024, .f32⟩
  | 66 => ⟨S8448x1024, .f32⟩
  | 67 => ⟨S256x1024, .f32⟩
  | 68 => ⟨S256x1024, .f32⟩
  | 69 => ⟨S1x1024, .f32⟩
  | 70 => ⟨S256x1024, .f32⟩
  | 71 => ⟨S256x1024, .f32⟩
  | 72 => ⟨S256x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8448x1024, .f32⟩
  | 80 => ⟨S256x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S_, .f32⟩
  | 91 => ⟨S8448x1024, .f32⟩
  | 92 => ⟨S_, .f32⟩
  | 93 => ⟨S8448x1024, .f32⟩
  | 94 => ⟨S256x1024, .f32⟩
  | 95 => ⟨S256x1024, .f32⟩
  | 96 => ⟨S256x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S_, .f32⟩
  | 103 => ⟨S8448x1024, .f32⟩
  | 104 => ⟨S8448x1024, .f32⟩
  | 105 => ⟨S_, .f32⟩
  | 106 => ⟨S8448x1024, .f32⟩
  | 107 => ⟨S8448x1024, .f32⟩
  | 108 => ⟨S8448x1024, .f32⟩
  | 109 => ⟨S8448x256, .f32⟩
  | 110 => ⟨S8448x256, .f32⟩
  | 111 => ⟨S8448x512, .f32⟩
  | 112 => ⟨S8448x4x64, .f32⟩
  | 113 => ⟨S8448x4x64, .f32⟩
  | 114 => ⟨S8448x4x64, .f32⟩
  | 115 => ⟨S8448x4x64, .f32⟩
  | 116 => ⟨S8448x4x64, .f32⟩
  | 117 => ⟨S8448x4x64, .f32⟩
  | 118 => ⟨S8448x4x64, .f32⟩
  | 119 => ⟨S8448x256, .f32⟩
  | 120 => ⟨S8448x4x64, .f32⟩
  | 121 => ⟨S_, .f32⟩
  | 122 => ⟨S4x64, .f32⟩
  | 123 => ⟨S1x4x64, .f32⟩
  | 124 => ⟨S8448x4x64, .f32⟩
  | 125 => ⟨S8448x4x64, .f32⟩
  | 126 => ⟨S_, .f32⟩
  | 127 => ⟨S4x64, .f32⟩
  | _ => ⟨S8448x1024, .f32⟩

abbrev hbmTy0_1 (i : Nat) : BufTy := match i % 128 with
  | 0 => ⟨S8448x4x64, .f32⟩
  | 1 => ⟨S_, .f32⟩
  | 2 => ⟨S8448x4, .f32⟩
  | 3 => ⟨S8448x4x1, .f32⟩
  | 4 => ⟨S8448x4x64, .f32⟩
  | 5 => ⟨S8448x4x64, .f32⟩
  | 6 => ⟨S8448x4x1, .f32⟩
  | 7 => ⟨S_, .f32⟩
  | 8 => ⟨S8448x4x1, .f32⟩
  | 9 => ⟨S8448x4x1, .f32⟩
  | 10 => ⟨S_, .f32⟩
  | 11 => ⟨S8448x4, .f32⟩
  | 12 => ⟨S8448x4x64, .f32⟩
  | 13 => ⟨S8448x4x64, .f32⟩
  | 14 => ⟨S8448x4x64, .f32⟩
  | 15 => ⟨S8448x4x64, .f32⟩
  | 16 => ⟨S8448x4x64, .f32⟩
  | 17 => ⟨S8448x256, .f32⟩
  | 18 => ⟨S_, .f32⟩
  | 19 => ⟨S1024, .f32⟩
  | 20 => ⟨S_, .f32⟩
  | 21 => ⟨S1024, .f32⟩
  | 22 => ⟨S_, .f32⟩
  | 23 => ⟨S1024, .f32⟩
  | 24 => ⟨S_, .f32⟩
  | 25 => ⟨S1024, .f32⟩
  | 26 => ⟨S_, .f32⟩
  | 27 => ⟨S1024, .f32⟩
  | 28 => ⟨S6144, .f32⟩
  | 29 => ⟨S_, .f32⟩
  | 30 => ⟨S1024, .f32⟩
  | 31 => ⟨S_, .f32⟩
  | 32 => ⟨S1024, .f32⟩
  | 33 => ⟨S_, .f32⟩
  | 34 => ⟨S1024, .f32⟩
  | 35 => ⟨S_, .f32⟩
  | 36 => ⟨S1024, .f32⟩
  | 37 => ⟨S_, .f32⟩
  | 38 => ⟨S1024, .f32⟩
  | 39 => ⟨S6144, .f32⟩
  | 40 => ⟨S6x1024, .f32⟩
  | 41 => ⟨S6x1024, .f32⟩
  | 42 => ⟨S1x6x1024, .f32⟩
  | 43 => ⟨S1x6x1024, .f32⟩
  | 44 => ⟨S2x6x1024, .f32⟩
  | 45 => ⟨S_, .i32⟩
  | 46 => ⟨S_, .f32⟩
  | 47 => ⟨S2x8x1024, .f32⟩
  | 48 => ⟨S8448x512, .f32⟩
  | 49 => ⟨S8448x4x128, .f32⟩
  | 50 => ⟨S_, .f32⟩
  | 51 => ⟨S8448x4, .f32⟩
  | 52 => ⟨S1x256, .f32⟩
  | 53 => ⟨S8448x1024, .bf16⟩
  | 54 => ⟨S1024x8448, .f32⟩
  | 55 => ⟨S1024x8448, .bf16⟩
  | 56 => ⟨S4x8448, .f32⟩
  | 57 => ⟨S_, .i32⟩
  | 58 => ⟨S_, .f32⟩
  | 59 => ⟨S8x8448, .f32⟩
  | 60 => ⟨S8448x512, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v33_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v33_1 : Ref sig .tc := ⟨.hbm, 60, rfl⟩
abbrev main_v33_0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_4 : Ref sig .tc := ⟨.hbm, 85, rfl⟩
abbrev main_v57 : Ref sig .tc := ⟨.hbm, 86, rfl⟩
abbrev main_v58 : Ref sig .tc := ⟨.hbm, 87, rfl⟩
abbrev main_cst_5 : Ref sig .tc := ⟨.hbm, 88, rfl⟩
abbrev main_v59 : Ref sig .tc := ⟨.hbm, 89, rfl⟩
abbrev main_cst_6 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_8 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_cst_11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_12 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_13 : Ref sig .tc := ⟨.hbm, 126, rfl⟩
abbrev main_v86 : Ref sig .tc := ⟨.hbm, 127, rfl⟩
abbrev main_v87 : Ref sig .tc := ⟨.hbm, 128, rfl⟩
abbrev main_cst_14 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_15 : Ref sig .tc := ⟨.hbm, 135, rfl⟩
abbrev main_v93 : Ref sig .tc := ⟨.hbm, 136, rfl⟩
abbrev main_v94 : Ref sig .tc := ⟨.hbm, 137, rfl⟩
abbrev main_cst_16 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_17 : Ref sig .tc := ⟨.hbm, 146, rfl⟩
abbrev main_v102 : Ref sig .tc := ⟨.hbm, 147, rfl⟩
abbrev main_cst_18 : Ref sig .tc := ⟨.hbm, 148, rfl⟩
abbrev main_v103 : Ref sig .tc := ⟨.hbm, 149, rfl⟩
abbrev main_cst_19 : Ref sig .tc := ⟨.hbm, 150, rfl⟩
abbrev main_v104 : Ref sig .tc := ⟨.hbm, 151, rfl⟩
abbrev main_cst_20 : Ref sig .tc := ⟨.hbm, 152, rfl⟩
abbrev main_v105 : Ref sig .tc := ⟨.hbm, 153, rfl⟩
abbrev main_cst_21 : Ref sig .tc := ⟨.hbm, 154, rfl⟩
abbrev main_v106 : Ref sig .tc := ⟨.hbm, 155, rfl⟩
abbrev main_v107 : Ref sig .tc := ⟨.hbm, 156, rfl⟩
abbrev main_cst_22 : Ref sig .tc := ⟨.hbm, 157, rfl⟩
abbrev main_v108 : Ref sig .tc := ⟨.hbm, 158, rfl⟩
abbrev main_cst_23 : Ref sig .tc := ⟨.hbm, 159, rfl⟩
abbrev main_v109 : Ref sig .tc := ⟨.hbm, 160, rfl⟩
abbrev main_cst_24 : Ref sig .tc := ⟨.hbm, 161, rfl⟩
abbrev main_v110 : Ref sig .tc := ⟨.hbm, 162, rfl⟩
abbrev main_cst_25 : Ref sig .tc := ⟨.hbm, 163, rfl⟩
abbrev main_v111 : Ref sig .tc := ⟨.hbm, 164, rfl⟩
abbrev main_cst_26 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c : Ref sig .tc := ⟨.hbm, 173, rfl⟩
abbrev main_call2_v0 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_27 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_c_28 : Ref sig .tc := ⟨.hbm, 185, rfl⟩
abbrev main_call3_v0 : Ref sig .tc := ⟨.hbm, 186, rfl⟩
abbrev main_v128 : Ref sig .tc := ⟨.hbm, 187, rfl⟩
abbrev main_v129 : Ref sig .tc := ⟨.hbm, 188, rfl⟩

abbrev nD : Nat := 1
abbrev τ : Topo := Topo.v7x

variable {F : FTy → Type} [FloatOps F]
-- ==== ModFwd.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x768 : Shape := ⟨3, ![2, 1, 768]⟩
abbrev S2x16x768 : Shape := ⟨3, ![2, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x768, .f32⟩
  | .hbm, ⟨9, _⟩ => ⟨S2x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModFwdReferenceIdeal.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S7x768 : Shape := ⟨2, ![7, 768]⟩
abbrev S16x768 : Shape := ⟨2, ![16, 768]⟩
abbrev S1x16x768 : Shape := ⟨3, ![1, 16, 768]⟩
abbrev S2x16x768 : Shape := ⟨3, ![2, 16, 768]⟩

abbrev nBuf : Space → Nat
  | .hbm => 63
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x768, .f32⟩
  | .hbm, ⟨23, _⟩ => ⟨S1024x768, .f32⟩
  | .hbm, ⟨24, _⟩ => ⟨S8x768, .f32⟩
  | .hbm, ⟨25, _⟩ => ⟨S1x768, .f32⟩
  | .hbm, ⟨26, _⟩ => ⟨S768, .f32⟩
  | .hbm, ⟨27, _⟩ => ⟨S1x768, .f32⟩
  | .hbm, ⟨28, _⟩ => ⟨S8x768, .f32⟩
  | .hbm, ⟨29, _⟩ => ⟨S8x768, .f32⟩
  | .hbm, ⟨30, _⟩ => ⟨S1x1024x768, .f32⟩
  | .hbm, ⟨31, _⟩ => ⟨S1024x768, .f32⟩
  | .hbm, ⟨32, _⟩ => ⟨S768, .f32⟩
  | .hbm, ⟨33, _⟩ => ⟨S1x768, .f32⟩
  | .hbm, ⟨34, _⟩ => ⟨S768, .f32⟩
  | .hbm, ⟨35, _⟩ => ⟨S768, .f32⟩
  | .hbm, ⟨36, _⟩ => ⟨S1x768, .f32⟩
  | .hbm, ⟨37, _⟩ => ⟨S1x768, .f32⟩
  | .hbm, ⟨38, _⟩ => ⟨S768, .f32⟩
  | .hbm, ⟨39, _⟩ => ⟨S7x768, .f32⟩
  | .hbm, ⟨40, _⟩ => ⟨S16x768, .f32⟩
  | .hbm, ⟨41, _⟩ => ⟨S1x1024x768, .f32⟩
  | .hbm, ⟨42, _⟩ => ⟨S1024x768, .f32⟩
  | .hbm, ⟨43, _⟩ => ⟨S8x768, .f32⟩
  | .hbm, ⟨44, _⟩ => ⟨S1x768, .f32⟩
  | .hbm, ⟨45, _⟩ => ⟨S768, .f32⟩
  | .hbm, ⟨46, _⟩ => ⟨S1x768, .f32⟩
  | .hbm, ⟨47, _⟩ => ⟨S8x768, .f32⟩
  | .hbm, ⟨48, _⟩ => ⟨S8x768, .f32⟩
  | .hbm, ⟨49, _⟩ => ⟨S1x1024x768, .f32⟩
  | .hbm, ⟨50, _⟩ => ⟨S1024x768, .f32⟩
  | .hbm, ⟨51, _⟩ => ⟨S768, .f32⟩
  | .hbm, ⟨52, _⟩ => ⟨S1x768, .f32⟩
  | .hbm, ⟨53, _⟩ => ⟨S768, .f32⟩
  | .hbm, ⟨54, _⟩ => ⟨S768, .f32⟩
  | .hbm, ⟨55, _⟩ => ⟨S1x768, .f32⟩
  | .hbm, ⟨56, _⟩ => ⟨S1x768, .f32⟩
  | .hbm, ⟨57, _⟩ => ⟨S768, .f32⟩
  | .hbm, ⟨58, _⟩ => ⟨S7x768, .f32⟩
  | .hbm, ⟨59, _⟩ => ⟨S16x768, .f32⟩
  | .hbm, ⟨60, _⟩ => ⟨S1x16x768, .f32⟩
  | .hbm, ⟨61, _⟩ => ⟨S1x16x768, .f32⟩
  | .hbm, ⟨62, _⟩ => ⟨S2x16x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== OutFfnFwd.lean ====
abbrev S8448x1024 : Shape := ⟨2, ![8448, 1024]⟩
abbrev S6144 : Shape := ⟨1, ![6144]⟩
abbrev S8448x256 : Shape := ⟨2, ![8448, 256]⟩
abbrev S8448x512 : Shape := ⟨2, ![8448, 512]⟩
abbrev S64 : Shape := ⟨1, ![64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x1024 : Shape := ⟨2, ![2, 1024]⟩
abbrev S6x1024 : Shape := ⟨2, ![6, 1024]⟩
abbrev S8x1024 : Shape := ⟨2, ![8, 1024]⟩
abbrev S1x8x1024 : Shape := ⟨3, ![1, 8, 1024]⟩
abbrev S2x8x1024 : Shape := ⟨3, ![2, 8, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x1024 : Shape := ⟨2, ![1, 1024]⟩
abbrev S256x1024 : Shape := ⟨2, ![256, 1024]⟩
abbrev S256x256 : Shape := ⟨2, ![256, 256]⟩
abbrev S256x512 : Shape := ⟨2, ![256, 512]⟩
abbrev S256x1 : Shape := ⟨2, ![256, 1]⟩

abbrev nBuf : Space → Nat
  | .hbm => 33
  | .vmem => 25
  | .smem => 0
  | _ => 0

abbrev bufTy : (tb : Table) → Fin (tcTables nBuf tb) → BufTy
  | .hbm, ⟨0, _⟩ => ⟨S8448x1024, .f32⟩
  | .hbm, ⟨1, _⟩ => ⟨S6144, .f32⟩
  | .hbm, ⟨2, _⟩ => ⟨S6144, .f32⟩
  | .hbm, ⟨3, _⟩ => ⟨S8448x256, .f32⟩
  | .hbm, ⟨4, _⟩ => ⟨S8448x256, .f32⟩
  | .hbm, ⟨5, _⟩ => ⟨S8448x256, .f32⟩
  | .hbm, ⟨6, _⟩ => ⟨S8448x256, .f32⟩
  | .hbm, ⟨7, _⟩ => ⟨S8448x512, .f32⟩
  | .hbm, ⟨8, _⟩ => ⟨S64, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S_, .f32⟩
  | .hbm, ⟨14, _⟩ => ⟨S2x1024, .f32⟩
  | .hbm, ⟨15, _⟩ => ⟨S6x1024, .f32⟩
  | .hbm, ⟨16, _⟩ => ⟨S8x1024, .f32⟩
  | .hbm, ⟨17, _⟩ => ⟨S6x1024, .f32⟩
  | .hbm, ⟨18, _⟩ => ⟨S8x1024, .f32⟩
  | .hbm, ⟨19, _⟩ => ⟨S1x8x1024, .f32⟩
  | .hbm, ⟨20, _⟩ => ⟨S1x8x1024, .f32⟩
  | .hbm, ⟨21, _⟩ => ⟨S2x8x1024, .f32⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S1024x1024, .bf16⟩
  | .hbm, ⟨27, _⟩ => ⟨S1x1024, .f32⟩
  | .hbm, ⟨28, _⟩ => ⟨S1024x4096, .bf16⟩
  | .hbm, ⟨29, _⟩ => ⟨S4096x1024, .bf16⟩
  | .hbm, ⟨30, _⟩ => ⟨S8448x1024, .f32⟩
  | .hbm, ⟨31, _⟩ => ⟨S8448x1024, .f32⟩
  | .hbm, ⟨32, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S1x256, .f32⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutFfnFwdReferenceIdeal.lean ====
abbrev S8448x1024 : Shape := ⟨2, ![8448, 1024]⟩
abbrev S6144 : Shape := ⟨1, ![6144]⟩
abbrev S8448x256 : Shape := ⟨2, ![8448, 256]⟩
abbrev S8448x512 : Shape := ⟨2, ![8448, 512]⟩
abbrev S64 : Shape := ⟨1, ![64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8448x4x64 : Shape := ⟨3, ![8448, 4, 64]⟩
abbrev S_ : Shape := ⟨0, ![]⟩
abbrev S8448x4 : Shape := ⟨2, ![8448, 4]⟩
abbrev S8448x4x1 : Shape := ⟨3, ![8448, 4, 1]⟩
abbrev S1x1x64 : Shape := ⟨3, ![1, 1, 64]⟩
abbrev S256x1024 : Shape := ⟨2, ![256, 1024]⟩
abbrev S1x1024 : Shape := ⟨2, ![1, 1024]⟩
abbrev S8192x1024 : Shape := ⟨2, ![8192, 1024]⟩
abbrev S256 : Shape := ⟨1, ![256]⟩
abbrev S256x1 : Shape := ⟨2, ![256, 1]⟩
abbrev S8192 : Shape := ⟨1, ![8192]⟩
abbrev S8192x1 : Shape := ⟨2, ![8192, 1]⟩
abbrev S8448x4096 : Shape := ⟨2, ![8448, 4096]⟩

abbrev nBuf : Space → Nat
  | .hbm => 142
  | .vmem => 0
  | .smem => 0
  | _ => 0

abbrev hbmTy0_0 (i : Nat) : BufTy := match i % 128 with
  | 0 => ⟨S8448x1024, .f32⟩
  | 1 => ⟨S6144, .f32⟩
  | 2 => ⟨S6144, .f32⟩
  | 3 => ⟨S8448x256, .f32⟩
  | 4 => ⟨S8448x256, .f32⟩
  | 5 => ⟨S8448x256, .f32⟩
  | 6 => ⟨S8448x256, .f32⟩
  | 7 => ⟨S8448x512, .f32⟩
  | 8 => ⟨S64, .f32⟩
  | 9 => ⟨S1024x1024, .f32⟩
  | 10 => ⟨S1024, .f32⟩
  | 11 => ⟨S1024x4096, .f32⟩
  | 12 => ⟨S4096x1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S8448x256, .f32⟩
  | 26 => ⟨S8448x4x64, .f32⟩
  | 27 => ⟨S8448x4x64, .f32⟩
  | 28 => ⟨S_, .f32⟩
  | 29 => ⟨S8448x4, .f32⟩
  | 30 => ⟨S8448x4x1, .f32⟩
  | 31 => ⟨S_, .f32⟩
  | 32 => ⟨S8448x4x1, .f32⟩
  | 33 => ⟨S8448x4x1, .f32⟩
  | 34 => ⟨S_, .f32⟩
  | 35 => ⟨S8448x4x1, .f32⟩
  | 36 => ⟨S8448x4x1, .f32⟩
  | 37 => ⟨S8448x4x1, .f32⟩
  | 38 => ⟨S8448x4x64, .f32⟩
  | 39 => ⟨S8448x4x64, .f32⟩
  | 40 => ⟨S1x1x64, .f32⟩
  | 41 => ⟨S8448x4x64, .f32⟩
  | 42 => ⟨S8448x4x64, .f32⟩
  | 43 => ⟨S8448x4x64, .f32⟩
  | 44 => ⟨S8448x4x64, .f32⟩
  | 45 => ⟨S8448x4x64, .f32⟩
  | 46 => ⟨S_, .f32⟩
  | 47 => ⟨S8448x4x64, .f32⟩
  | 48 => ⟨S8448x4x64, .f32⟩
  | 49 => ⟨S_, .f32⟩
  | 50 => ⟨S8448x4x64, .f32⟩
  | 51 => ⟨S8448x4x64, .f32⟩
  | 52 => ⟨S8448x4x64, .f32⟩
  | 53 => ⟨S8448x4x64, .f32⟩
  | 54 => ⟨S8448x256, .f32⟩
  | 55 => ⟨S8448x1024, .f32⟩
  | 56 => ⟨S8448x1024, .f32⟩
  | 57 => ⟨S256x1024, .f32⟩
  | 58 => ⟨S256x1024, .f32⟩
  | 59 => ⟨S1x1024, .f32⟩
  | 60 => ⟨S256x1024, .f32⟩
  | 61 => ⟨S256x1024, .f32⟩
  | 62 => ⟨S256x1024, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8448x1024, .f32⟩
  | 70 => ⟨S256x1024, .f32⟩
  | 71 => ⟨S256x1024, .f32⟩
  | 72 => ⟨S_, .f32⟩
  | 73 => ⟨S256, .f32⟩
  | 74 => ⟨S256x1, .f32⟩
  | 75 => ⟨S_, .f32⟩
  | 76 => ⟨S256x1, .f32⟩
  | 77 => ⟨S256x1, .f32⟩
  | 78 => ⟨S_, .f32⟩
  | 79 => ⟨S256x1, .f32⟩
  | 80 => ⟨S256x1, .f32⟩
  | 81 => ⟨S256x1, .f32⟩
  | 82 => ⟨S256x1024, .f32⟩
  | 83 => ⟨S256x1024, .f32⟩
  | 84 => ⟨S1x1024, .f32⟩
  | 85 => ⟨S256x1024, .f32⟩
  | 86 => ⟨S256x1024, .f32⟩
  | 87 => ⟨S_, .f32⟩
  | 88 => ⟨S1024, .f32⟩
  | 89 => ⟨S1024, .f32⟩
  | 90 => ⟨S1x1024, .f32⟩
  | 91 => ⟨S256x1024, .f32⟩
  | 92 => ⟨S256x1024, .f32⟩
  | 93 => ⟨S1x1024, .f32⟩
  | 94 => ⟨S256x1024, .f32⟩
  | 95 => ⟨S256x1024, .f32⟩
  | 96 => ⟨S8192x1024, .f32⟩
  | 97 => ⟨S8192x1024, .f32⟩
  | 98 => ⟨S_, .f32⟩
  | 99 => ⟨S8192, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x1, .f32⟩
  | 108 => ⟨S8192x1024, .f32⟩
  | 109 => ⟨S8192x1024, .f32⟩
  | 110 => ⟨S1x1024, .f32⟩
  | 111 => ⟨S8192x1024, .f32⟩
  | 112 => ⟨S8192x1024, .f32⟩
  | 113 => ⟨S_, .f32⟩
  | 114 => ⟨S1024, .f32⟩
  | 115 => ⟨S1024, .f32⟩
  | 116 => ⟨S1x1024, .f32⟩
  | 117 => ⟨S8192x1024, .f32⟩
  | 118 => ⟨S8192x1024, .f32⟩
  | 119 => ⟨S1x1024, .f32⟩
  | 120 => ⟨S8192x1024, .f32⟩
  | 121 => ⟨S8192x1024, .f32⟩
  | 122 => ⟨S8448x1024, .f32⟩
  | 123 => ⟨S8448x4096, .f32⟩
  | 124 => ⟨S_, .f32⟩
  | 125 => ⟨S8448x4096, .f32⟩
  | 126 => ⟨S8448x4096, .f32⟩
  | 127 => ⟨S8448x4096, .f32⟩
  | _ => ⟨S8448x1024, .f32⟩

abbrev hbmTy0_1 (i : Nat) : BufTy := match i % 128 with
  | 0 => ⟨S8448x1024, .f32⟩
  | 1 => ⟨S256x1024, .f32⟩
  | 2 => ⟨S256x1024, .f32⟩
  | 3 => ⟨S1x1024, .f32⟩
  | 4 => ⟨S256x1024, .f32⟩
  | 5 => ⟨S256x1024, .f32⟩
  | 6 => ⟨S256x1024, .f32⟩
  | 7 => ⟨S8192x1024, .f32⟩
  | 8 => ⟨S8192x1024, .f32⟩
  | 9 => ⟨S1x1024, .f32⟩
  | 10 => ⟨S8192x1024, .f32⟩
  | 11 => ⟨S8192x1024, .f32⟩
  | 12 => ⟨S8192x1024, .f32⟩
  | 13 => ⟨S8448x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_2 : Ref sig .tc := ⟨.hbm, 72, rfl⟩
abbrev main_v48 : Ref sig .tc := ⟨.hbm, 73, rfl⟩
abbrev main_v49 : Ref sig .tc := ⟨.hbm, 74, rfl⟩
abbrev main_cst_3 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_6 : Ref sig .tc := ⟨.hbm, 98, rfl⟩
abbrev main_v70 : Ref sig .tc := ⟨.hbm, 99, rfl⟩
abbrev main_v71 : Ref sig .tc := ⟨.hbm, 100, rfl⟩
abbrev main_cst_7 : Ref sig .tc := ⟨.hbm, 101, rfl⟩
abbrev main_v72 : Ref sig .tc := ⟨.hbm, 102, rfl⟩
abbrev main_v73 : Ref sig .tc := ⟨.hbm, 103, rfl⟩
abbrev main_cst_8 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call1_cst : Ref sig .tc := ⟨.hbm, 124, rfl⟩
abbrev main_call1_v0 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩

abbrev nD : Nat := 1
abbrev τ : Topo := Topo.v7x

variable {F : FTy → Type} [FloatOps F]
-- ==== AdamwMod.lean ====
abbrev S2048x768 : Shape := ⟨2, ![2048, 768]⟩
abbrev S1x2048x768 : Shape := ⟨3, ![1, 2048, 768]⟩
abbrev S1x256x768 : Shape := ⟨3, ![1, 256, 768]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S1x2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwModReferenceIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFf1.lean ====
abbrev S4x2048x512 : Shape := ⟨3, ![4, 2048, 512]⟩
abbrev S2048x512 : Shape := ⟨2, ![2048, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwFf1ReferenceIdeal.lean ====
abbrev S4x2048x512 : Shape := ⟨3, ![4, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Base.lean ====
/- Facts about extended reals that every value claim of this directory uses: what the precondition "finite" gives. -/
module

public import Idealize.ShloMosaic.PureOps.Ideal
public import Idealize.ShloMosaic.PureOps.Ideal.Laws
public import Idealize.ShloMosaic.Lib.IdealHost

@[expose] public section

noncomputable section

namespace Cert.Base

open Idealize.ShloMosaic

/-- The word of `inf` is the top element. -/
theorem ofBits_inf : Ideal.ofBits .f32 0x7F800000#32 = ⊤ := by simp [Ideal.ofBits, Ideal.ieee]

/-- An extended real whose absolute value is below infinity is a real. -/
theorem real_of_abs_lt (a : EReal) (h : Ideal.cmp .olt (max a (-a)) (Ideal.ofBits .f32 0x7F800000#32) = 1#1) :
    ∃ r : ℝ, a = (r : EReal) := by
  rw [ofBits_inf] at h
  induction a with
  | bot => simp [Ideal.cmp] at h
  | top => simp [Ideal.cmp] at h
  | coe r => exact ⟨r, rfl⟩

end Cert.Base

end
-- ==== Proof.Silu.lean ====
/- The gradient of the context's modulation vector: the derivative of `silu` written by hand in the call against the
   derivative of `x * logistic x` by the product rule. -/
module

public import proofs.«01_k».proof.Proof.Base

@[expose] public section

noncomputable section

namespace Cert.Silu

open Idealize.ShloMosaic

/-- For a finite cotangent `a + b` and any `c`, infinite or not, `(a + b)·(s·(1 + c·(1 − s)))` with `s = logistic c` is
    `(a + b)·s + (c·(a + b))·(s·(1 − s))`. -/
theorem grad_eq (a b : ℝ) (c : EReal) :
    ((a : EReal) + b) * (Ideal.logistic c * (1 + c * (1 - Ideal.logistic c)))
      = ((a : EReal) + b) * Ideal.logistic c + c * ((a : EReal) + b) * (Ideal.logistic c * (1 - Ideal.logistic c)) := by
  rw [← EReal.coe_add]
  induction c with
  | bot => simp
  | top =>
    rw [Ideal.logistic_top, ← EReal.coe_one, ← EReal.coe_sub, sub_self, EReal.coe_zero]
    simp
  | coe r =>
    rw [Ideal.logistic_coe]
    generalize (1 + Real.exp (-r))⁻¹ = s
    rw [← EReal.coe_one]
    simp only [← EReal.coe_add, ← EReal.coe_sub, ← EReal.coe_mul]
    congr 1
    ring

end Cert.Silu

end
-- ==== Proof.SiluClaim.lean ====
/- The claims of `silu_bwd`: the run of its plain reference, and the equality of the results under finite cotangents. -/
module

public import proofs.«01_k».proof.Defs
public import proofs.«01_k».proof.Proof.Gen.Pre_silu_bwd_finite
public import proofs.«01_k».proof.Proof.Gen.SiluBwdIdeal.Value
public import proofs.«01_k».proof.Proof.Gen.SiluBwdReferenceIdeal.Run
public import proofs.«01_k».proof.Proof.Silu
public import Idealize.ShloMosaic.Adequacy
public import Idealize.ShloMosaic.Init
public import Idealize.ShloMosaic.Lib.Quiescent
public import Idealize.ShloMosaic.Lib.Tactic.ValueTie

@[expose] public section

noncomputable section

namespace Cert.Silu

open Idealize.ShloMosaic Idealize.SL.Sem

/-- The reference ends with its arguments unchanged and no counter raised. -/
theorem quiescent_reference : Cert.quiescent_SiluBwdReferenceIdeal := fun m ρ _ =>
  (θ_run Cert.SiluBwdReferenceIdeal.defs _ _).mono (fun r h => ⟨fun c => (h c).2, sem_eq_zero_of_no_sems (by decide) r.2⟩)
    (Cert.SiluBwdReferenceIdeal.Value.run (F := Ideal) m ρ)

/-- Where every element of the cotangents passes the precondition, it is a real. -/
theorem real_ds (a0 : FVec Ideal Cert.Pre_silu_bwd_finite.S1x1024 .f32) (a1 : FVec Ideal Cert.Pre_silu_bwd_finite.S2x8x1024 .f32)
    (h : Cert.Pre_silu_bwd_finite.fn a0 a1 = fun _ => 1#1) (i : Cert.Pre_silu_bwd_finite.S2x8x1024.Idx) :
    ∃ r : ℝ, a1 i = (r : EReal) :=
  Base.real_of_abs_lt _ (congrFun h i)

/-- The call's gradient of the context's modulation vector is the derivative of `silu`, over the extended reals. -/
theorem algebraic : Cert.algebraic_SiluBwdIdeal_SiluBwdReferenceIdeal_pre_silu_bwd_finite := by
  intro m ρ m' ρ' hpre hagree
  refine ⟨_, Cert.SiluBwdIdeal.Value.run (F := Ideal) m ρ, ?_⟩
  refine (θ_run Cert.SiluBwdReferenceIdeal.defs _ _).mono (fun _ h c => ⟨?_, (h c).2⟩) (Cert.SiluBwdReferenceIdeal.Value.run (F := Ideal) m' ρ')
  rw [(h c).1]
  simp only [hagree c]
  have hf := real_ds _ _ (hpre c)
  clear h
  generalize (m ((c.tc : Thread Cert.SiluBwdIdeal.nD Cert.SiluBwdIdeal.τ).loc Cert.SiluBwdIdeal.main_arg0)) = a0 at *
  generalize (m ((c.tc : Thread Cert.SiluBwdIdeal.nD Cert.SiluBwdIdeal.τ).loc Cert.SiluBwdIdeal.main_arg1)) = a1 at *
  funext j
  pointwise [Cert.SiluBwdIdeal.Gen.k0_pay1]
  obtain ⟨a, ha⟩ := hf (ix3 0 0 (j 1))
  obtain ⟨b, hb⟩ := hf (ix3 1 0 (j 1))
  rw [ha, hb]
  exact (grad_eq a b (a0 j)).symm

end Cert.Silu

end
-- ==== Proof.MlaStep.lean ====
/- What one grid point of the attention's gradient does, as functions of vectors

The kernel visits (head, block of 768 keys). It holds the head's queries `q` and cotangents `d`, the rows' logarithms of sums `l` and the
rows' dot products `δ`, and adds up three arrays: the queries' gradient (all rows), the block's key gradient, the block's value gradient.
-/
module

public import proofs.«01_k».proof.Proof.Gen.MlaBwdIdeal.Skeleton
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open VecWindow (window put)

variable {F : FTy → Type} [FloatOps F] [Named F]

/-- The three running sums: the queries' gradient, the block's key gradient, the block's value gradient. -/
abbrev St (F : FTy → Type) : Type := Vec F S8448x256 .f32 × Vec F S768x256 .f32 × Vec F S768x128 .f32

section Chunk

variable (i : grid0.Coords) (K : Vec F S768x256 .bf16) (V : Vec F S768x128 .bf16) (q : Vec F S8448x256 .bf16) (d : Vec F S8448x128 .bf16)
  (l δ : Vec F S8x8448 .f32)

/-- The 1024 query rows of a chunk. -/
abbrev qRows (k : Fin k0_t1_loop.trips) : Vec F S1024x256 .bf16 := window q (k0_off4 k) S1024x256.size (k0_off4_inb k)

/-- The 1024 cotangent rows of a chunk. -/
abbrev dRows (k : Fin k0_t1_loop.trips) : Vec F S1024x128 .bf16 := window d (k0_off5 k) S1024x128.size (k0_off5_inb k)

/-- A row statistic of the head, at the 1024 rows of a chunk. -/
abbrev stat (x : Vec F S8x8448 .f32) (k : Fin k0_t1_loop.trips) : Vec F S1x1024 .f32 := window x (k0_off6 i k) S1x1024.size (k0_off6_inb i k)

/-- One chunk of 1024 query rows: the block's gradients gain the chunk's products, and the chunk's rows of the queries' gradient gain the block's. -/
def trip (k : Fin k0_t1_loop.trips) (s : St F) : St F :=
  (put s.1 (k0_off4 k) S1024x256.size (k0_pay17 K (k0_pay7 (k0_pay14 K) (k0_pay15 V) (qRows q k) (dRows d k) (stat i l k) (stat i δ k))
      (k0_pay10 (window s.1 (k0_off4 k) S1024x256.size (k0_off4_inb k)))),
   k0_pay9 (k0_pay14 K) (k0_pay15 V) (qRows q k) (dRows d k) (stat i l k) (stat i δ k) s.2.1,
   k0_pay8 (k0_pay14 K) (qRows q k) (dRows d k) (stat i l k) s.2.2)

/-- The sums after the first `n` chunks. -/
def trips (s : St F) : ℕ → St F
  | 0 => s
  | n + 1 => if h : n < k0_t1_loop.trips then trip i K V q d l δ ⟨n, h⟩ (trips s n) else trips s n

theorem trips_succ (s : St F) (k : Fin k0_t1_loop.trips) :
    trips i K V q d l δ s (k.val + 1) = trip i K V q d l δ k (trips i K V q d l δ s k.val) := dif_pos k.isLt

/-- All eight chunks. -/
abbrev allTrips (s : St F) : St F := trips i K V q d l δ s k0_t1_loop.trips

/-- The first 256 query rows, the context's, which see only the keys of the first 256 rows: done at the first block of keys, whose sums start at zero. -/
def ctxSt (h2 : k0_cond2 i = 1#1) : St F :=
  let qc : Vec F S256x256 .bf16 := window q ![0, 0] S256x256.size inb_S8448x256_S256x256_0_0
  let dc : Vec F S256x128 .bf16 := window d ![0, 0] S256x128.size inb_S8448x128_S256x128_0_0
  let lc : Vec F S1x256 .f32 := window l (k0_off3 i) S1x256.size (k0_off3_inb i h2)
  let δc : Vec F S1x256 .f32 := window δ (k0_off3 i) S1x256.size (k0_off3_inb i h2)
  (put k0_pay11 ![0, 0] S256x256.size (k0_pay16 K (k0_pay3 (k0_pay14 K) (k0_pay15 V) qc dc lc δc)
      (window (k0_pay11 (F := F)) ![0, 0] S256x256.size inb_S8448x256_S256x256_0_0)),
   k0_pay5 (k0_pay14 K) (k0_pay15 V) qc dc lc δc k0_pay12,
   k0_pay4 (k0_pay14 K) qc dc lc k0_pay13)

end Chunk

end Cert.Mla

end
-- ==== Proof.MlaPay.lean ====
/- # What the kernel's stored vectors are over the reals

Each payload of the attention's gradient, given matrices of reals, is a matrix of reals. `weight` is a key's share of a row's softmax, from
the row's logarithm of the sum of powers of two; `slope` is the weight times (cotangent · value − the row's own dot product).
-/
module

public import proofs.«01_k».proof.Proof.MlaStep
public import Idealize.ShloMosaic.Lib.Pointwise
public import Idealize.ShloMosaic.Lib.WordCmp
public import Idealize.ShloMosaic.PureOps.Ideal.Laws

@[expose] public section

set_option maxRecDepth 16384

noncomputable section

namespace Cert.Mla

open Idealize.ShloMosaic Idealize.ShloMosaic.TcCoe
open Cert.MlaBwdIdeal Cert.MlaBwdIdeal.Gen
open VecWindow (window put)

/-- A matrix of reals as a vector of two axes. -/
def mat (φ : FTy) {a b : ℕ} (f : Fin a → Fin b → ℝ) : FVec Ideal ⟨2, ![a, b]⟩ φ := fun x => ((f (x 0) (x 1) : ℝ) : EReal)

theorem coe_sum {ι : Type} [Fintype ι] (f : ι → ℝ) : (∑ k, ((f k : ℝ) : EReal)) = ((∑ k, f k : ℝ) : EReal) :=
  (map_sum (⟨⟨fun r : ℝ => (r : EReal), rfl⟩, EReal.coe_add⟩ : ℝ →+ EReal) f Finset.univ).symm

theorem exp2_real (r : ℝ) : FloatOps.exp2 (F := Ideal) (φ := .f32) ((r : ℝ) : EReal) = (((2 : ℝ) ^ r : ℝ) : EReal) := rfl

section
variable {ρ κ : Type}

/-- A key's share of a row. -/
def weight (K : κ → Fin 256 → ℝ) (q : ρ → Fin 256 → ℝ) (l : ρ → ℝ) (k : κ) (r : ρ) : ℝ := (2 : ℝ) ^ (∑ c, K k c * q r c - l r)

/-- The derivative by a score. -/
def slope (K : κ → Fin 256 → ℝ) (V : κ → Fin 128 → ℝ) (q : ρ → Fin 256 → ℝ) (d : ρ → Fin 128 → ℝ) (l δ : ρ → ℝ) (k : κ) (r : ρ) : ℝ :=
  weight K q l k r * (∑ e, V k e * d r e - δ r)

end

section Latent
variable (K : Fin 768 → Fin 256 → ℝ) (V : Fin 768 → Fin 128 → ℝ) (q : Fin 1024 → Fin 256 → ℝ) (d : Fin 1024 → Fin 128 → ℝ) (l δ : Fin 1024 → ℝ)

theorem pay14 : k0_pay14 (F := Ideal) (mat .bf16 K) = mat .bf16 K := by
  funext j; pointwise [k0_pay14, mat]
theorem pay15 : k0_pay15 (F := Ideal) (mat .bf16 V) = mat .bf16 V := by
  funext j; pointwise [k0_pay15, mat]
theorem pay10 (s : Fin 1024 → Fin 256 → ℝ) : k0_pay10 (F := Ideal) (mat .f32 s) = mat .f32 s := by
  funext j; pointwise [k0_pay10, mat]

theorem pay6 : k0_pay6 (F := Ideal) (mat .bf16 K) (mat .bf16 q) (mat .f32 fun _ => l) = mat .f32 (weight K q l) := by
  funext j
  pointwise [k0_pay6, mat]
  simp only [← EReal.coe_mul, ← EReal.coe_sub, coe_sum, exp2_real, weight]

theorem pay7 : k0_pay7 (F := Ideal) (mat .bf16 K) (mat .bf16 V) (mat .bf16 q) (mat .bf16 d) (mat .f32 fun _ => l) (mat .f32 fun _ => δ)
    = mat .bf16 (slope K V q d l δ) := by
  unfold k0_pay7; rw [pay6]
  funext j
  pointwise [mat]
  simp only [← EReal.coe_mul, ← EReal.coe_sub, coe_sum, slope]

theorem pay8 (s : Fin 768 → Fin 128 → ℝ) : k0_pay8 (F := Ideal) (mat .bf16 K) (mat .bf16 q) (mat .bf16 d) (mat .f32 fun _ => l) (mat .f32 s)
    = mat .f32 fun k e => s k e + ∑ r, weight K q l k r * d r e := by
  unfold k0_pay8; rw [pay6]
  funext j
  pointwise [mat]
  simp only [← EReal.coe_mul, ← EReal.coe_add, coe_sum]

theorem pay9 (s : Fin 768 → Fin 256 → ℝ) : k0_pay9 (F := Ideal) (mat .bf16 K) (mat .bf16 V) (mat .bf16 q) (mat .bf16 d) (mat .f32 fun _ => l)
    (mat .f32 fun _ => δ) (mat .f32 s) = mat .f32 fun k c => s k c + ∑ r, slope K V q d l δ k r * q r c := by
  unfold k0_pay9; rw [pay7]
  funext j
  pointwise [mat]
  simp only [← EReal.coe_mul, ← EReal.coe_add, coe_sum]

theorem pay17 (g : Fin 768 → Fin 1024 → ℝ) (s : Fin 1024 → Fin 256 → ℝ) : k0_pay17 (F := Ideal) (mat .bf16 K) (mat .bf16 g) (mat .f32 s)
    = mat .f32 fun r c => s r c + ∑ k, g k r * K k c := by
  unfold k0_pay17; rw [pay14]
  funext j
  pointwise [mat]
  simp only [← EReal.coe_mul, ← EReal.coe_add, coe_sum]

end Latent

section Context
variable (K : Fin 768 → Fin 256 → ℝ) (V : Fin 768 → Fin 128 → ℝ) (q : Fin 256 → Fin 256 → ℝ) (d : Fin 256 → Fin 128 → ℝ) (l δ : Fin 256 → ℝ)

/-- The context's keys are the first 256. -/
theorem pay2 : k0_pay2 (F := Ideal) (mat .bf16 K) (mat .bf16 q) (mat .f32 fun _ => l)
    = mat .f32 fun k r => if k.val < 256 then weight K q l k r else 0 := by
  funext j
  pointwise [k0_pay2, mat]
  word_cmp
  split
  · simp only [← EReal.coe_mul, ← EReal.coe_sub, coe_sum, exp2_real, weight]
  · exact EReal.coe_zero.symm

theorem pay3 : k0_pay3 (F := Ideal) (mat .bf16 K) (mat .bf16 V) (mat .bf16 q) (mat .bf16 d) (mat .f32 fun _ => l) (mat .f32 fun _ => δ)
    = mat .bf16 fun k r => if k.val < 256 then slope K V q d l δ k r else 0 := by
  unfold k0_pay3; rw [pay2]
  funext j
  pointwise [mat]
  simp only [← EReal.coe_mul, ← EReal.coe_sub, coe_sum, slope, ite_mul, zero_mul]

theorem pay4 (s : Fin 768 → Fin 128 → ℝ) : k0_pay4 (F := Ideal) (mat .bf16 K) (mat .bf16 q) (mat .bf16 d) (mat .f32 fun _ => l) (mat .f32 s)
    = mat .f32 fun k e => s k e + ∑ r, (if k.val < 256 then weight K q l k r else 0) * d r e := by
  unfold k0_pay4; rw [pay2]
  funext j
  pointwise [mat]
  simp only [← EReal.coe_mul, ← EReal.coe_add, coe_sum]

theorem pay5 (s : Fin 768 → Fin 256 → ℝ) : k0_pay5 (F := Ideal) (mat .bf16 K) (mat .bf16 V) (mat .bf16 q) (mat .bf16 d) (mat .f32 fun _ => l)
    (mat .f32 fun _ => δ) (mat .f32 s) = mat .f32 fun k c => s k c + ∑ r, (if k.val < 256 then slope K V q d l δ k r else 0) * q r c := by
  unfold k0_pay5; rw [pay3]
  funext j
  pointwise [mat]
  simp only [← EReal.coe_mul, ← EReal.coe_add, coe_sum]

theorem pay16 (g : Fin 768 → Fin 256 → ℝ) (s : Fin 256 → Fin 256 → ℝ) : k0_pay16 (F := Ideal) (mat .bf16 K) (mat .bf16 g) (mat .f32 s)
    = mat .f32 fun r c => s r c + ∑ k, g k r * K k c := by
  unfold k0_pay16; rw [pay14]
  funext j
  pointwise [mat]
  simp only [← EReal.coe_mul, ← EReal.coe_add, coe_sum]

end Context

theorem pay11 : k0_pay11 (F := Ideal) = mat .f32 fun _ _ => 0 := by
  funext j; pointwise [k0_pay11, mat]; exact EReal.coe_zero.symm
theorem pay12 : k0_pay12 (F := Ideal) = mat .f32 fun _ _ => 0 := by
  funext j; pointwise [k0_pay12, mat]; exact EReal.coe_zero.symm
theorem pay13 : k0_pay13 (F := Ideal) = mat .f32 fun _ _ => 0 := by
  funext j; pointwise [k0_pay13, mat]; exact EReal.coe_zero.symm

theorem named_ln2 : Named.named (F := Ideal) κ "ln2" (φ := .f32) 0x3F317218#32 = ((Real.log 2 : ℝ) : EReal) :=
  IdealRules.named_const.ideal_named_scalar _ _ _ _ rfl

theorem pay1 (s : Fin 8448 → Fin 256 → ℝ) : k0_pay1 (F := Ideal) (mat .f32 s) = mat .f32 fun r c => s r c * Real.log 2 := by
  funext j
  pointwise [k0_pay1, mat]
  rw [named_ln2, EReal.coe_mul]
theorem pay18 (s : Fin 768 → Fin 256 → ℝ) : k0_pay18 (F := Ideal) (mat .f32 s) = mat .f32 fun r c => s r c * Real.log 2 := by
  funext j
  pointwise [k0_pay18, mat]
  rw [named_ln2, EReal.coe_mul]

end Cert.Mla

end
-- ==== Proof.MlaTrip.lean ====
/- # One block of keys over the reals

The eight chunks of query rows, one after another, add every row's products to the block's gradients, and the block's products to each
row of the queries' gradient.
-/
module

public import proofs.«01_k».proof.Proof.MlaPay

@[expose] public section

set_option maxRecDepth 16384

noncomputable section

namespace Cert.Mla

open Idealize.ShloMosaic Idealize.ShloMosaic.TcCoe
open Cert.MlaBwdIdeal Cert.MlaBwdIdeal.Gen
open VecWindow (window put)

/-- A sum over a stretch of `w` rows from row `a`. -/
theorem sum_stretch {N : ℕ} (a w : ℕ) (h : a + w ≤ N) (f : Fin N → ℝ) :
    (∑ r : Fin N, if a ≤ r.val ∧ r.val < a + w then f r else 0) = ∑ r : Fin w, f ⟨a + r.val, by omega⟩ := by
  symm
  refine Fintype.sum_of_injective (fun r : Fin w => (⟨a + r.val, by omega⟩ : Fin N)) (fun r r' e => ?_) _ _ (fun i hi => ?_) (fun r => ?_)
  · exact Fin.ext (by have := congrArg Fin.val e; simp only at this; omega)
  · refine if_neg fun hb => hi ⟨⟨i.val - a, by omega⟩, Fin.ext ?_⟩
    show a + (i.val - a) = i.val
    omega
  · exact (if_pos ⟨by show a ≤ a + r.val; omega, by show a + r.val < a + w; omega⟩).symm

/-- A stretch grows by the next one. -/
theorem sum_grow {N : ℕ} (a b w : ℕ) (hab : a ≤ b) (h : b + w ≤ N) (f : Fin N → ℝ) :
    (∑ r : Fin N, if a ≤ r.val ∧ r.val < b + w then f r else 0)
      = (∑ r : Fin N, if a ≤ r.val ∧ r.val < b then f r else 0) + ∑ r : Fin w, f ⟨b + r.val, by omega⟩ := by
  rw [← sum_stretch b w h f, ← Finset.sum_add_distrib]
  refine Finset.sum_congr rfl fun r _ => ?_
  by_cases h1 : a ≤ r.val ∧ r.val < b
  · rw [if_pos h1, if_pos ⟨h1.1, by omega⟩, if_neg (by omega), add_zero]
  · rw [if_neg h1, zero_add]
    by_cases h2 : b ≤ r.val ∧ r.val < b + w
    · rw [if_pos h2, if_pos ⟨by omega, h2.2⟩]
    · rw [if_neg h2, if_neg (by omega)]

/-- A window of a matrix. -/
theorem window_mat (φ : FTy) {a b a' b' : ℕ} (f : Fin a → Fin b → ℝ) (off : Fin 2 → ℕ) (e0 : Fin a' → Fin a) (e1 : Fin b' → Fin b) (p)
    (h0 : ∀ r, (e0 r).val = off 0 + r.val) (h1 : ∀ r, (e1 r).val = off 1 + r.val) :
    (window (mat φ f) off (⟨2, ![a', b']⟩ : Shape).size p : FVec Ideal ⟨2, ![a', b']⟩ φ) = mat φ fun r c => f (e0 r) (e1 c) := by
  funext x
  refine congrArg (fun v : ℝ => (v : EReal)) (congrArg₂ f (Fin.ext ?_) (Fin.ext ?_))
  · exact Eq.trans (show off 0 + 1 * (x 0).val = off 0 + (x 0).val by omega) (h0 (x 0)).symm
  · exact Eq.trans (show off 1 + 1 * (x 1).val = off 1 + (x 1).val by omega) (h1 (x 1)).symm

/-- Rows put into a matrix. -/
theorem put_mat (φ : FTy) {a b a' : ℕ} (f g : Fin a → Fin b → ℝ) (off : Fin 2 → ℕ) (o : ℕ) (e0 : Fin a' → Fin a) (ho : off = ![o, 0])
    (h0 : ∀ r, (e0 r).val = o + r.val) :
    (put (mat φ f) off (⟨2, ![a', b]⟩ : Shape).size (mat φ fun r c => g (e0 r) c) : FVec Ideal ⟨2, ![a, b]⟩ φ)
      = mat φ fun r c => if o ≤ r.val ∧ r.val < o + a' then g r c else f r c := by
  subst ho
  funext x
  have hx : (x 1).val < b := (x 1).isLt
  unfold put
  by_cases h : o ≤ (x 0).val ∧ (x 0).val < o + a'
  · have hm : ∀ i : Fin 2, (![o, 0] : Fin 2 → ℕ) i ≤ (x i).val ∧ (x i).val < (![o, 0] : Fin 2 → ℕ) i + (⟨2, ![a', b]⟩ : Shape).size i := fun i => by
      match i with
      | ⟨0, _⟩ => exact h
      | ⟨1, _⟩ => exact ⟨Nat.zero_le _, by show (x 1).val < 0 + b; omega⟩
    rw [dif_pos hm]
    refine congrArg (fun v : ℝ => (v : EReal)) (Eq.trans (congrArg₂ g (Fin.ext ?_) (Fin.ext ?_)) (if_pos h).symm)
    · exact (h0 _).trans (show o + ((x 0).val - o) = (x 0).val by omega)
    · show (x 1).val - 0 = _; omega
  · rw [dif_neg (fun hm => h (hm 0))]
    exact congrArg (fun v : ℝ => (v : EReal)) (if_neg h).symm

/-- Three matrices, entry by entry. -/
theorem mats_ext {a b a' b' a'' b'' : ℕ} {f f' : Fin a → Fin b → ℝ} {g g' : Fin a' → Fin b' → ℝ} {h h' : Fin a'' → Fin b'' → ℝ}
    (hf : ∀ r c, f r c = f' r c) (hg : ∀ r c, g r c = g' r c) (hh : ∀ r c, h r c = h' r c) :
    (mat .f32 f, mat .f32 g, mat .f32 h) = (mat .f32 f', mat .f32 g', mat .f32 h') := by
  rw [show f = f' from funext fun r => funext (hf r), show g = g' from funext fun r => funext (hg r), show h = h' from funext fun r => funext (hh r)]

/-- A chunk's row among all rows. -/
def row (k : Fin k0_t1_loop.trips) (r : Fin 1024) : Fin 8448 :=
  ⟨1024 * k.val + 256 + r.val, by have : k.val < 8 := k.isLt; omega⟩

section
variable (i : grid0.Coords) (K : Fin 768 → Fin 256 → ℝ) (V : Fin 768 → Fin 128 → ℝ) (q : Fin 8448 → Fin 256 → ℝ) (d : Fin 8448 → Fin 128 → ℝ)
  (l δ : Fin 8 → Fin 8448 → ℝ)

/-- The head of a grid point, among the eight rows of the statistics. -/
def head (i : grid0.Coords) : Fin 8 := ⟨(i 0).val, by have : (i 0).val < 4 := (i 0).isLt; omega⟩

theorem qRows_real (k : Fin k0_t1_loop.trips) : qRows (F := Ideal) (mat .bf16 q) k = mat .bf16 fun r c => q (row k r) c :=
  window_mat .bf16 q _ (row k) id _ (fun r => by rw [k0_off4_eq]; rfl) (fun r => by rw [k0_off4_eq]; exact (Nat.zero_add _).symm)
theorem dRows_real (k : Fin k0_t1_loop.trips) : dRows (F := Ideal) (mat .bf16 d) k = mat .bf16 fun r c => d (row k r) c :=
  window_mat .bf16 d _ (row k) id _ (fun r => by rw [k0_off5_eq]; rfl) (fun r => by rw [k0_off5_eq]; exact (Nat.zero_add _).symm)
theorem stat_real (k : Fin k0_t1_loop.trips) : stat (F := Ideal) i (mat .f32 l) k = mat .f32 fun _ r => l (head i) (row k r) :=
  window_mat .f32 l _ (fun _ => head i) (row k) _ (fun r => by have := r.isLt; rw [k0_off6_eq]; show (i 0).val = (i 0).val + r.val; omega)
    (fun r => by rw [k0_off6_eq]; rfl)

/-- One chunk. -/
theorem trip_real (k : Fin k0_t1_loop.trips) (s1 : Fin 8448 → Fin 256 → ℝ) (s2 : Fin 768 → Fin 256 → ℝ) (s3 : Fin 768 → Fin 128 → ℝ) :
    trip (F := Ideal) i (mat .bf16 K) (mat .bf16 V) (mat .bf16 q) (mat .bf16 d) (mat .f32 l) (mat .f32 δ) k (mat .f32 s1, mat .f32 s2, mat .f32 s3)
      = (mat .f32 fun r c => if 1024 * k.val + 256 ≤ r.val ∧ r.val < 1024 * k.val + 256 + 1024 then
            s1 r c + ∑ n, slope K V q d (l (head i)) (δ (head i)) n r * K n c else s1 r c,
         mat .f32 fun n c => s2 n c + ∑ r, slope K V q d (l (head i)) (δ (head i)) n (row k r) * q (row k r) c,
         mat .f32 fun n e => s3 n e + ∑ r, weight K q (l (head i)) n (row k r) * d (row k r) e) := by
  have hw : (window (mat .f32 s1) (k0_off4 k) S1024x256.size (k0_off4_inb k) : FVec Ideal S1024x256 .f32) = mat .f32 fun r c => s1 (row k r) c :=
    window_mat .f32 s1 _ (row k) id _ (fun r => by rw [k0_off4_eq]; rfl) (fun r => by rw [k0_off4_eq]; exact (Nat.zero_add _).symm)
  unfold trip
  dsimp only
  rw [hw, pay14, pay15, qRows_real, dRows_real, stat_real, stat_real, pay7, pay8, pay9, pay10, pay17]
  exact congrArg₂ Prod.mk (put_mat .f32 s1 (fun r c => s1 r c + ∑ n, slope K V q d (l (head i)) (δ (head i)) n r * K n c) _ _ (row k)
    (k0_off4_eq k) (fun r => rfl)) rfl

/-- The chunks so far. -/
theorem trips_real (s1 : Fin 8448 → Fin 256 → ℝ) (s2 : Fin 768 → Fin 256 → ℝ) (s3 : Fin 768 → Fin 128 → ℝ) (n : ℕ) (hn : n ≤ 8) :
    trips (F := Ideal) i (mat .bf16 K) (mat .bf16 V) (mat .bf16 q) (mat .bf16 d) (mat .f32 l) (mat .f32 δ) (mat .f32 s1, mat .f32 s2, mat .f32 s3) n
      = (mat .f32 fun r c => s1 r c + if 256 ≤ r.val ∧ r.val < 1024 * n + 256 then ∑ n, slope K V q d (l (head i)) (δ (head i)) n r * K n c else 0,
         mat .f32 fun k c => s2 k c + ∑ r : Fin 8448, if 256 ≤ r.val ∧ r.val < 1024 * n + 256 then
            slope K V q d (l (head i)) (δ (head i)) k r * q r c else 0,
         mat .f32 fun k e => s3 k e + ∑ r : Fin 8448, if 256 ≤ r.val ∧ r.val < 1024 * n + 256 then weight K q (l (head i)) k r * d r e else 0) := by
  induction n with
  | zero =>
    have h (r : Fin 8448) : ¬(256 ≤ r.val ∧ r.val < 1024 * 0 + 256) := by omega
    simp only [trips, h, if_false, add_zero, Finset.sum_const_zero]
  | succ n ih =>
    refine (trips_succ i _ _ _ _ _ _ _ ⟨n, by show n < 8; omega⟩).trans ?_
    rw [ih (by omega), trip_real]
    have e : 1024 * (n + 1) + 256 = 1024 * n + 256 + 1024 := by omega
    refine mats_ext (fun r c => ?_) (fun k c => ?_) (fun k c => ?_)
    · by_cases h1 : 1024 * n + 256 ≤ r.val ∧ r.val < 1024 * n + 256 + 1024
      · rw [if_pos h1, if_neg (by omega), if_pos (by omega), add_zero]
      · rw [if_neg h1]
        by_cases h2 : 256 ≤ r.val ∧ r.val < 1024 * n + 256
        · rw [if_pos h2, if_pos (by omega)]
        · rw [if_neg h2, if_neg (by omega)]
    · rw [e, sum_grow 256 (1024 * n + 256) 1024 (by omega) (by omega), ← add_assoc]
      rfl
    · rw [e, sum_grow 256 (1024 * n + 256) 1024 (by omega) (by omega), ← add_assoc]
      rfl

/-- All the latent rows. -/
theorem allTrips_real (s1 : Fin 8448 → Fin 256 → ℝ) (s2 : Fin 768 → Fin 256 → ℝ) (s3 : Fin 768 → Fin 128 → ℝ) :
    allTrips (F := Ideal) i (mat .bf16 K) (mat .bf16 V) (mat .bf16 q) (mat .bf16 d) (mat .f32 l) (mat .f32 δ) (mat .f32 s1, mat .f32 s2, mat .f32 s3)
      = (mat .f32 fun r c => s1 r c + ∑ n, (if 256 ≤ r.val then slope K V q d (l (head i)) (δ (head i)) n r else 0) * K n c,
         mat .f32 fun k c => s2 k c + ∑ r : Fin 8448, (if 256 ≤ r.val then slope K V q d (l (head i)) (δ (head i)) k r else 0) * q r c,
         mat .f32 fun k e => s3 k e + ∑ r : Fin 8448, (if 256 ≤ r.val then weight K q (l (head i)) k r else 0) * d r e) := by
  refine (trips_real i K V q d l δ s1 s2 s3 8 (le_refl 8)).trans ?_
  have h (r : Fin 8448) : (256 ≤ r.val ∧ r.val < 1024 * 8 + 256) ↔ 256 ≤ r.val := by have := r.isLt; omega
  simp only [h, ite_mul, zero_mul]
  refine mats_ext (fun r c => ?_) (fun _ _ => rfl) (fun _ _ => rfl)
  by_cases hr : 256 ≤ r.val
  · simp only [if_pos hr]
  · simp only [if_neg hr, Finset.sum_const_zero]

/-- The context rows with the first block of keys, and then all rows. -/
theorem first_real (h2 : k0_cond2 i = 1#1) :
    allTrips (F := Ideal) i (mat .bf16 K) (mat .bf16 V) (mat .bf16 q) (mat .bf16 d) (mat .f32 l) (mat .f32 δ)
        (ctxSt i (mat .bf16 K) (mat .bf16 V) (mat .bf16 q) (mat .bf16 d) (mat .f32 l) (mat .f32 δ) h2)
      = (mat .f32 fun r c => ∑ n, (if 256 ≤ r.val ∨ n.val < 256 then slope K V q d (l (head i)) (δ (head i)) n r else 0) * K n c,
         mat .f32 fun k c => ∑ r : Fin 8448, (if 256 ≤ r.val ∨ k.val < 256 then slope K V q d (l (head i)) (δ (head i)) k r else 0) * q r c,
         mat .f32 fun k e => ∑ r : Fin 8448, (if 256 ≤ r.val ∨ k.val < 256 then weight K q (l (head i)) k r else 0) * d r e) := by
  let top : Fin 256 → Fin 8448 := fun r => ⟨r.val, by omega⟩
  have hq : (window (mat .bf16 q) ![0, 0] S256x256.size inb_S8448x256_S256x256_0_0 : FVec Ideal S256x256 .bf16) = mat .bf16 fun r c => q (top r) c :=
    window_mat .bf16 q _ top id _ (fun r => (Nat.zero_add _).symm) (fun r => (Nat.zero_add _).symm)
  have hd : (window (mat .bf16 d) ![0, 0] S256x128.size inb_S8448x128_S256x128_0_0 : FVec Ideal S256x128 .bf16) = mat .bf16 fun r c => d (top r) c :=
    window_mat .bf16 d _ top id _ (fun r => (Nat.zero_add _).symm) (fun r => (Nat.zero_add _).symm)
  have hs (x : Fin 8 → Fin 8448 → ℝ) : (window (mat .f32 x) (k0_off3 i) S1x256.size (k0_off3_inb i h2) : FVec Ideal S1x256 .f32)
      = mat .f32 fun _ r => x (head i) (top r) :=
    window_mat .f32 x _ (fun _ => head i) top _ (fun r => by have := r.isLt; rw [k0_off3_eq]; show (i 0).val = (i 0).val + r.val; omega)
      (fun r => by rw [k0_off3_eq]; exact (Nat.zero_add _).symm)
  have hz : (window (mat .f32 fun (_ : Fin 8448) (_ : Fin 256) => (0 : ℝ)) ![0, 0] S256x256.size inb_S8448x256_S256x256_0_0 : FVec Ideal S256x256 .f32)
      = mat .f32 fun _ _ => 0 :=
    window_mat .f32 _ _ top id _ (fun r => (Nat.zero_add _).symm) (fun r => (Nat.zero_add _).symm)
  have hc : ctxSt (F := Ideal) i (mat .bf16 K) (mat .bf16 V) (mat .bf16 q) (mat .bf16 d) (mat .f32 l) (mat .f32 δ) h2
      = (mat .f32 fun r c => if 0 ≤ r.val ∧ r.val < 0 + 256 then
            ∑ n : Fin 768, (if n.val < 256 then slope K V q d (l (head i)) (δ (head i)) n r else 0) * K n c else 0,
         mat .f32 fun k c => ∑ r, (if k.val < 256 then slope K V q d (l (head i)) (δ (head i)) k (top r) else 0) * q (top r) c,
         mat .f32 fun k e => ∑ r, (if k.val < 256 then weight K q (l (head i)) k (top r) else 0) * d (top r) e) := by
    unfold ctxSt
    simp only [pay11, pay12, pay13]
    rw [pay14, pay15, hq, hd, hs, hs, hz, pay3, pay4, pay5, pay16]
    simp only [zero_add]
    refine Prod.ext ?_ rfl
    exact put_mat .f32 (fun _ _ => 0) (fun r c => ∑ n : Fin 768, (if n.val < 256 then slope K V q d (l (head i)) (δ (head i)) n r else 0) * K n c)
      _ 0 top rfl (fun r => (Nat.zero_add _).symm)
  rw [hc, allTrips_real]
  have hsum (f : Fin 8448 → ℝ) : (∑ r, f (top r)) = ∑ r : Fin 8448, if r.val < 256 then f r else 0 := by
    have := sum_stretch (N := 8448) 0 256 (by omega) f
    simp only [Nat.zero_le, true_and, Nat.zero_add] at this
    exact this.symm
  refine mats_ext (fun r c => ?_) (fun k c => ?_) (fun k c => ?_)
  · by_cases hr : 256 ≤ r.val
    · rw [if_neg (by omega), zero_add]
      simp only [hr, true_or, if_true]
    · rw [if_pos (by omega)]
      simp only [hr, false_or, if_false, zero_mul, Finset.sum_const_zero, add_zero]
  · rw [hsum (fun r => (if k.val < 256 then slope K V q d (l (head i)) (δ (head i)) k r else 0) * q r c), ← Finset.sum_add_distrib]
    refine Finset.sum_congr rfl fun r _ => ?_
    by_cases hr : 256 ≤ r.val
    · rw [if_neg (by omega), zero_add]
      simp only [hr, true_or, if_true]
    · rw [if_pos (by omega)]
      simp only [hr, false_or, if_false, zero_mul, add_zero]
  · rw [hsum (fun r => (if k.val < 256 then weight K q (l (head i)) k r else 0) * d r c), ← Finset.sum_add_distrib]
    refine Finset.sum_congr rfl fun r _ => ?_
    by_cases hr : 256 ≤ r.val
    · rw [if_neg (by omega), zero_add]
      simp only [hr, true_or, if_true]
    · rw [if_pos (by omega)]
      simp only [hr, false_or, if_false, zero_mul, add_zero]

end

end Cert.Mla

end
-- ==== Proof.MlaSpec.lean ====
/- # Attention's gradient over the reals

The probabilities of masked attention (one of the first 256 rows sees the first 256 keys, a later row sees every key), the derivative
by each score, and the five gradients, as plain sums over rows and keys. The kernel and the reference are each shown to compute these.
-/
module

public import proofs.«01_k».proof.Proof.MlaTrip

@[expose] public section

noncomputable section

namespace Cert.Mla

/-- A head's column among the columns of all heads. -/
def colQ (h : Fin 4) (c : Fin 256) : Fin 1024 := ⟨256 * h.val + c.val, by omega⟩
def colV (h : Fin 4) (e : Fin 128) : Fin 512 := ⟨128 * h.val + e.val, by omega⟩

/-- The first 256 rows, and the rows after them. -/
def ctx (k : Fin 256) : Fin 8448 := ⟨k.val, by omega⟩
def lat (k : Fin 8192) : Fin 8448 := ⟨256 + k.val, by omega⟩

/-- The scale of the scores, as the rational that its float word is. -/
def scale : ℝ := 9686330 / 134217728

section
variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)

/-- A scaled score. -/
def score (h : Fin 4) (r n : Fin 8448) : ℝ := (∑ x, A0 r h x * A2 n h x + ∑ y, A1 r h y * A3 n y) * scale
/-- Its exponential, where the row sees the key. -/
def expo (h : Fin 4) (r n : Fin 8448) : ℝ := if 256 ≤ r.val ∨ n.val < 256 then Real.exp (score A0 A1 A2 A3 h r n) else 0
/-- The share of a row that goes to a key. -/
def prob (h : Fin 4) (r n : Fin 8448) : ℝ := expo A0 A1 A2 A3 h r n / ∑ k, expo A0 A1 A2 A3 h r k
/-- The derivative by a share, -/
def dprob (h : Fin 4) (r n : Fin 8448) : ℝ := ∑ e, A4 n h e * A5 r (colV h e)
/-- and by a scaled score. -/
def dscore (h : Fin 4) (r n : Fin 8448) : ℝ :=
  prob A0 A1 A2 A3 h r n * (dprob A4 A5 h r n - ∑ k, prob A0 A1 A2 A3 h r k * dprob A4 A5 h r k)

/-- The gradients of the queries (the part without and the part with a rotary embedding), -/
def gradQn (r : Fin 8448) (h : Fin 4) (x : Fin 128) : ℝ := scale * ∑ n, dscore A0 A1 A2 A3 A4 A5 h r n * A2 n h x
def gradQr (r : Fin 8448) (h : Fin 4) (y : Fin 64) : ℝ := scale * ∑ n, dscore A0 A1 A2 A3 A4 A5 h r n * A3 n y
/-- of the keys, the rotary part being one for all heads, -/
def gradKn (n : Fin 8448) (h : Fin 4) (x : Fin 128) : ℝ := scale * ∑ r, dscore A0 A1 A2 A3 A4 A5 h r n * A0 r h x
def gradKr (n : Fin 8448) (y : Fin 64) : ℝ := scale * ∑ h, ∑ r, dscore A0 A1 A2 A3 A4 A5 h r n * A1 r h y
/-- and of the values. -/
def gradV (n : Fin 8448) (h : Fin 4) (e : Fin 128) : ℝ := ∑ r, prob A0 A1 A2 A3 h r n * A5 r (colV h e)
end

/-! ## Sums over the two kinds of rows and keys -/

theorem sum_ctx (f : Fin 8448 → ℝ) : (∑ n, if n.val < 256 then f n else 0) = ∑ k, f (ctx k) := by
  have h := sum_stretch 0 256 (by norm_num) f
  simp only [Nat.zero_le, true_and, Nat.zero_add] at h
  exact h
theorem sum_lat (f : Fin 8448 → ℝ) : (∑ n, if 256 ≤ n.val then f n else 0) = ∑ k, f (lat k) := by
  have h := sum_stretch 256 8192 (by norm_num) f
  refine Eq.trans (Finset.sum_congr rfl fun n _ => ?_) h
  by_cases h1 : 256 ≤ n.val
  · rw [if_pos h1, if_pos ⟨h1, n.isLt⟩]
  · rw [if_neg h1, if_neg fun h => h1 h.1]
/-- A sum over all rows is the sum over the first and the sum over the later ones. -/
theorem sum_rows (f : Fin 8448 → ℝ) : ∑ n, f n = ∑ k, f (ctx k) + ∑ k, f (lat k) := by
  rw [← sum_ctx, ← sum_lat, ← Finset.sum_add_distrib]
  refine Finset.sum_congr rfl fun n _ => ?_
  by_cases h1 : 256 ≤ n.val
  · rw [if_pos h1, if_neg (by omega), zero_add]
  · rw [if_neg h1, if_pos (by omega), add_zero]

/-- A row is one of the first or a later one. -/
theorem row_cases (r : Fin 8448) : (∃ k, r = ctx k) ∨ ∃ k, r = lat k := by
  by_cases h : r.val < 256
  · exact .inl ⟨⟨r.val, h⟩, rfl⟩
  · exact .inr ⟨⟨r.val - 256, by omega⟩, Fin.ext (by show r.val = 256 + (r.val - 256); omega)⟩

/-! ## The softmax of one row, from any shift -/

section
variable {N : ℕ}

/-- A row's log-sum in base two, taken with the scores shifted by `M`. -/
def logSum (f : Fin N → ℝ) (M : ℝ) : ℝ := M + Real.log (∑ k, Real.exp ((f k - M) * Real.log 2)) / Real.log 2

theorem log_two_ne : Real.log 2 ≠ 0 := (Real.log_pos (by norm_num)).ne'

variable [NeZero N] (f : Fin N → ℝ) (M : ℝ)

theorem sum_exp_pos (g : Fin N → ℝ) : 0 < ∑ k, Real.exp (g k) :=
  Finset.sum_pos (fun _ _ => Real.exp_pos _) ⟨⟨0, Nat.pos_of_ne_zero (NeZero.ne N)⟩, Finset.mem_univ _⟩

/-- Shifting every score leaves the shares as they are. -/
theorem softmax_shift (g : Fin N → ℝ) (M : ℝ) (n : Fin N) :
    Real.exp (g n - M) / ∑ k, Real.exp (g k - M) = Real.exp (g n) / ∑ k, Real.exp (g k) := by
  simp only [Real.exp_sub]
  rw [← Finset.sum_div, div_div_div_cancel_right₀ (Real.exp_ne_zero M)]

/-- The power of two of a score less the log-sum is the score's share. -/
theorem two_pow_logSum (n : Fin N) :
    (2 : ℝ) ^ (f n - logSum f M) = Real.exp (f n * Real.log 2) / ∑ k, Real.exp (f k * Real.log 2) := by
  have hp : 0 < ∑ k, Real.exp ((f k - M) * Real.log 2) := sum_exp_pos _
  rw [Real.rpow_def_of_pos (by norm_num), logSum]
  have e : Real.log 2 * (f n - (M + Real.log (∑ k, Real.exp ((f k - M) * Real.log 2)) / Real.log 2))
      = (f n * Real.log 2 - M * Real.log 2) - Real.log (∑ k, Real.exp ((f k - M) * Real.log 2)) := by
    have := log_two_ne
    field_simp
    ring
  rw [e, Real.exp_sub, Real.exp_log hp]
  simp only [sub_mul]
  exact softmax_shift (fun k => f k * Real.log 2) _ n
end

/-! ## The shares of the two kinds of rows -/

section
variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)

theorem sum_expo_ctx (h : Fin 4) (r : Fin 256) :
    ∑ k, expo A0 A1 A2 A3 h (ctx r) k = ∑ k : Fin 256, Real.exp (score A0 A1 A2 A3 h (ctx r) (ctx k)) := by
  rw [← sum_ctx fun k => Real.exp (score A0 A1 A2 A3 h (ctx r) k)]
  refine Finset.sum_congr rfl fun k _ => ?_
  have hr : ¬256 ≤ (ctx r).val := not_le.mpr r.isLt
  simp only [expo, hr, false_or]
theorem sum_expo_lat (h : Fin 4) (r : Fin 8192) :
    ∑ k, expo A0 A1 A2 A3 h (lat r) k = ∑ k, Real.exp (score A0 A1 A2 A3 h (lat r) k) :=
  Finset.sum_congr rfl fun _ _ => if_pos (.inl (Nat.le_add_right 256 r.val))

theorem prob_ctx (h : Fin 4) (r n : Fin 256) : prob A0 A1 A2 A3 h (ctx r) (ctx n)
    = Real.exp (score A0 A1 A2 A3 h (ctx r) (ctx n)) / ∑ k : Fin 256, Real.exp (score A0 A1 A2 A3 h (ctx r) (ctx k)) := by
  rw [prob, sum_expo_ctx, expo, if_pos (.inr n.isLt)]
theorem prob_unseen (h : Fin 4) (r : Fin 256) (n : Fin 8192) : prob A0 A1 A2 A3 h (ctx r) (lat n) = 0 := by
  have hr : ¬256 ≤ (ctx r).val := not_le.mpr r.isLt
  have hn : ¬(lat n).val < 256 := not_lt.mpr (Nat.le_add_right 256 n.val)
  rw [prob, expo, if_neg (not_or.mpr ⟨hr, hn⟩), zero_div]
theorem prob_lat (h : Fin 4) (r : Fin 8192) (n : Fin 8448) : prob A0 A1 A2 A3 h (lat r) n
    = Real.exp (score A0 A1 A2 A3 h (lat r) n) / ∑ k, Real.exp (score A0 A1 A2 A3 h (lat r) k) := by
  rw [prob, sum_expo_lat, expo, if_pos (.inl (Nat.le_add_right 256 r.val))]

/-- What one of the first rows sums over all keys, it sums over the first. -/
theorem sum_prob_ctx (h : Fin 4) (r : Fin 256) (f : Fin 8448 → ℝ) :
    ∑ n, prob A0 A1 A2 A3 h (ctx r) n * f n = ∑ n : Fin 256, prob A0 A1 A2 A3 h (ctx r) (ctx n) * f (ctx n) := by
  rw [sum_rows]
  simp only [prob_unseen, zero_mul, Finset.sum_const_zero, add_zero]

/-- The row sum of output times cotangent is the row sum of share times its derivative. -/
theorem sum_out (h : Fin 4) (r : Fin 8448) :
    ∑ e, A5 r (colV h e) * ∑ n, prob A0 A1 A2 A3 h r n * A4 n h e = ∑ n, prob A0 A1 A2 A3 h r n * dprob A4 A5 h r n := by
  simp only [dprob, Finset.mul_sum]
  rw [Finset.sum_comm]
  exact Finset.sum_congr rfl fun n _ => Finset.sum_congr rfl fun e _ => by ring
end

/-! ## The largest of finitely many reals -/

/-- The greatest of finitely many reals, taken from below every real, is a real. -/
theorem fold_max_real {ι : Type} (f : ι → ℝ) (s : Finset ι) (hs : s.Nonempty) :
    ∃ M : ℝ, s.fold max (⊥ : EReal) (fun k => ((f k : ℝ) : EReal)) = M := by
  induction hs using Finset.Nonempty.cons_induction with
  | singleton a => exact ⟨f a, by simp⟩
  | cons a s ha _ ih =>
    obtain ⟨M, hM⟩ := ih
    exact ⟨max (f a) M, by rw [Finset.fold_cons, hM]; exact (EReal.coe_strictMono.monotone.map_max).symm⟩

end Cert.Mla

end
-- ==== Proof.MlaEntry.lean ====
/- # The host lines before the call, one operation at a time

What each buffer holds when the call starts, from what its operands hold.
-/
module

public import proofs.«01_k».proof.Proof.Gen.MlaBwdIdeal.Frame
public import Idealize.ShloMosaic.Lib.StableHlo.RunRead

@[expose] public section

set_option maxRecDepth 16384

noncomputable section

namespace Cert.Mla.Entry

open Idealize.ShloMosaic Idealize.ShloMosaic.TcCoe Idealize.SL.Sem
open Cert.MlaBwdIdeal Cert.MlaBwdIdeal.Gen

variable (m : (ℓ : Loc nD τ sig) → Buf (Elt Ideal) ℓ) (c : Dev nD)

theorem cst : @Eq (FVec Ideal S_ .f32) (V m c main_cst)
    (constant (F := Ideal) S_ .f32 0x40000000#32) := by
  unfold V V0; simp only [List.flatten_cons, List.flatten_nil, List.append_nil]; after_reads_simp
  all_goals try rfl
theorem v0 : @Eq (FVec Ideal S_ .f32) (V m c main_v0)
    (Host.log (V m c main_cst : FVec Ideal S_ .f32)) := by
  unfold V V0; simp only [List.flatten_cons, List.flatten_nil, List.append_nil]; after_reads_simp
  all_goals try rfl
theorem cst_0 : @Eq (FVec Ideal S_ .f32) (V m c main_cst_0)
    (constant (F := Ideal) S_ .f32 0x3D93CD3A#32) := by
  unfold V V0; simp only [List.flatten_cons, List.flatten_nil, List.append_nil]; after_reads_simp
  all_goals try rfl
theorem v1 : @Eq (FVec Ideal S_ .f32) (V m c main_v1)
    (Host.divf (V m c main_cst_0 : FVec Ideal S_ .f32) (V m c main_v0 : FVec Ideal S_ .f32)) := by
  unfold V V0; simp only [List.flatten_cons, List.flatten_nil, List.append_nil]; after_reads_simp
  all_goals try rfl
theorem cst_1 : @Eq (FVec Ideal S_ .f32) (V m c main_cst_1)
    (constant (F := Ideal) S_ .f32 0x00000000#32) := by
  unfold V V0; simp only [List.flatten_cons, List.flatten_nil, List.append_nil]; after_reads_simp
  all_goals try rfl
theorem v2 : @Eq (FVec Ideal S8448x4x64 .f32) (V m c main_v2)
    (broadcastInDim S8448x4x64 ![] bcast_S_S8448x4x64 (V m c main_cst_1 : FVec Ideal S_ .f32)) := by
  unfold V V0; simp only [List.flatten_cons, List.flatten_nil, List.append_nil]; after_reads_simp
  all_goals try rfl
theorem v3 : @Eq (FVec Ideal S8448x4x256 .f32) (V m c main_v3)
    (concatenate S8448x4x256 2 [⟨S8448x4x128, (V m c main_arg0 : FVec Ideal S8448x4x128 .f32)⟩, ⟨S8448x4x64, (V m c main_arg1 : FVec Ideal S8448x4x64 .f32)⟩, ⟨S8448x4x64, (V m c main_v2 : FVec Ideal S8448x4x64 .f32)⟩] concatenates_S8448x4x128_S8448x4x64_S8448x4x64_S8448x4x256_d2) := by
  unfold V V0; simp only [List.flatten_cons, List.flatten_nil, List.append_nil]; after_reads_simp
  all_goals try rfl
theorem v4 : @Eq (FVec Ideal S8448x4x256 .f32) (V m c main_v4)
    (broadcastInDim S8448x4x256 ![] bcast_S_S8448x4x256 (V m c main_v1 : FVec Ideal S_ .f32)) := by
  unfold V V0; simp only [List.flatten_cons, List.flatten_nil, List.append_nil]; after_reads_simp
  all_goals try rfl
theorem v5 : @Eq (FVec Ideal S8448x4x256 .f32) (V m c main_v5)
    (mulf (V m c main_v3 : FVec Ideal S8448x4x256 .f32) (V m c main_v4 : FVec Ideal S8448x4x256 .f32)) := by
  unfold V V0; simp only [List.flatten_cons, List.flatten_nil, List.append_nil]; after_reads_simp
  all_goals try rfl
theorem v6 : @Eq (FVec Ideal S8448x1x64 .f32) (V m c main_v6)
    (broadcastInDim S8448x1x64 ![0, 2] bcast_S8448x64_S8448x1x64_0_2 (V m c main_arg3 : FVec Ideal S8448x64 .f32)) := by
  unfold V V0; simp only [List.flatten_cons, List.flatten_nil, List.append_nil]; after_reads_simp
  all_goals try rfl
theorem v7 : @Eq (FVec Ideal S8448x4x64 .f32) (V m c main_v7)
    (broadcastInDim S8448x4x64 ![0, 1, 2] bcast_S8448x1x64_S8448x4x64_0_1_2 (V m c main_v6 : FVec Ideal S8448x1x64 .f32)) := by
  unfold V V0; simp only [List.flatten_cons, List.flatten_nil, List.append_nil]; after_reads_simp
  all_goals try rfl
theorem v8 : @Eq (FVec Ideal S8448x4x256 .f32) (V m c main_v8)
    (concatenate S8448x4x256 2 [⟨S8448x4x128, (V m c main_arg2 : FVec Ideal S8448x4x128 .f32)⟩, ⟨S8448x4x64, (V m c main_v7 : FVec Ideal S8448x4x64 .f32)⟩, ⟨S8448x4x64, (V m c main_v2 : FVec Ideal S8448x4x64 .f32)⟩] concatenates_S8448x4x128_S8448x4x64_S8448x4x64_S8448x4x256_d2) := by
  unfold V V0; simp only [List.flatten_cons, List.flatten_nil, List.append_nil]; after_reads_simp
  all_goals try rfl
theorem v9 : @Eq (FVec Ideal S256x4x256 .f32) (V m c main_v9)
    (extractStridedSlice S256x4x256 ![0, 0, 0] (V m c main_v5 : FVec Ideal S8448x4x256 .f32) slices_S8448x4x256_S256x4x256_0_0_0) := by
  unfold V V0; simp only [List.flatten_cons, List.flatten_nil, List.append_nil]; after_reads_simp
  all_goals try rfl
theorem v10 : @Eq (FVec Ideal S256x4x256 .f32) (V m c main_v10)
    (extractStridedSlice S256x4x256 ![0, 0, 0] (V m c main_v8 : FVec Ideal S8448x4x256 .f32) slices_S8448x4x256_S256x4x256_0_0_0) := by
  unfold V V0; simp only [List.flatten_cons, List.flatten_nil, List.append_nil]; after_reads_simp
  all_goals try rfl
theorem v11 : @Eq (FVec Ideal S256x4x128 .f32) (V m c main_v11)
    (extractStridedSlice S256x4x128 ![0, 0, 0] (V m c main_arg4 : FVec Ideal S8448x4x128 .f32) slices_S8448x4x128_S256x4x128_0_0_0) := by
  unfold V V0; simp only [List.flatten_cons, List.flatten_nil, List.append_nil]; after_reads_simp
  all_goals try rfl
theorem v12 : @Eq (FVec Ideal S4x256x256 .f32) (V m c main_v12)
    (Host.dotGeneral (φ₁ := .f32) (φ₂ := .f32) dot_S256x4x256_S256x4x256_S4x256x256_2_2_0_0_1_1 none (V m c main_v9 : FVec Ideal S256x4x256 .f32) (V m c main_v10 : FVec Ideal S256x4x256 .f32)) := by
  unfold V V0; simp only [List.flatten_cons, List.flatten_nil, List.append_nil]; after_reads_simp
  all_goals try rfl
theorem cst_2 : @Eq (FVec Ideal S_ .f32) (V m c main_cst_2)
    (constant (F := Ideal) S_ .f32 0xFF800000#32) := by
  unfold V V0; simp only [List.flatten_cons, List.flatten_nil, List.append_nil]; after_reads_simp
  all_goals try rfl
theorem v13 : @Eq (FVec Ideal S4x256 .f32) (V m c main_v13)
    (Host.reduce FloatOps.maximumf (V m c main_v12 : FVec Ideal S4x256x256 .f32) (V m c main_cst_2 : FVec Ideal S_ .f32) reducesTo_S4x256x256_S4x256_d2 h_S_) := by
  unfold V V0; simp only [List.flatten_cons, List.flatten_nil, List.append_nil]; after_reads_simp
  all_goals try rfl
theorem v14 : @Eq (FVec Ideal S4x256x1 .f32) (V m c main_v14)
    (broadcastInDim S4x256x1 ![0, 1] bcast_S4x256_S4x256x1_0_1 (V m c main_v13 : FVec Ideal S4x256 .f32)) := by
  unfold V V0; simp only [List.flatten_cons, List.flatten_nil, List.append_nil]; after_reads_simp
  all_goals try rfl
theorem v15 : @Eq (FVec Ideal S4x256x256 .f32) (V m c main_v15)
    (broadcastInDim S4x256x256 ![0, 1, 2] bcast_S4x256x1_S4x256x256_0_1_2 (V m c main_v14 : FVec Ideal S4x256x1 .f32)) := by
  unfold V V0; simp only [List.flatten_cons, List.flatten_nil, List.append_nil]; after_reads_simp
  all_goals try rfl
theorem v16 : @Eq (FVec Ideal S4x256x256 .f32) (V m c main_v16)
    (subf (V m c main_v12 : FVec Ideal S4x256x256 .f32) (V m c main_v15 : FVec Ideal S4x256x256 .f32)) := by
  unfold V V0; simp only [List.flatten_cons, List.flatten_nil, List.append_nil]; after_reads_simp
  all_goals try rfl
theorem v17 : @Eq (FVec Ideal S4x256x256 .f32) (V m c main_v17)
    (broadcastInDim S4x256x256 ![] bcast_S_S4x256x256 (V m c main_v0 : FVec Ideal S_ .f32)) := by
  unfold V V0; simp only [List.flatten_cons, List.flatten_nil, List.append_nil]; after_reads_simp
  all_goals try rfl
theorem v18 : @Eq (FVec Ideal S4x256x256 .f32) (V m c main_v18)
    (mulf (V m c main_v16 : FVec Ideal S4x256x256 .f32) (V m c main_v17 : FVec Ideal S4x256x256 .f32)) := by
  unfold V V0; simp only [List.flatten_cons, List.flatten_nil, List.append_nil]; after_reads_simp
  all_goals try rfl
theorem v19 : @Eq (FVec Ideal S4x256x256 .f32) (V m c main_v19)
    (Host.exp (V m c main_v18 : FVec Ideal S4x256x256 .f32)) := by
  unfold V V0; simp only [List.flatten_cons, List.flatten_nil, List.append_nil]; after_reads_simp
  all_goals try rfl
theorem cst_3 : @Eq (FVec Ideal S_ .f32) (V m c main_cst_3)
    (constant (F := Ideal) S_ .f32 0x00000000#32) := by
  unfold V V0; simp only [List.flatten_cons, List.flatten_nil, List.append_nil]; after_reads_simp
  all_goals try rfl
theorem v20 : @Eq (FVec Ideal S4x256 .f32) (V m c main_v20)
    (Host.reduceAdd (V m c main_v19 : FVec Ideal S4x256x256 .f32) (V m c main_cst_3 : FVec Ideal S_ .f32) reducesTo_S4x256x256_S4x256_d2 h_S_) := by
  unfold V V0; simp only [List.flatten_cons, List.flatten_nil, List.append_nil]; after_reads_simp
  all_goals try rfl
theorem v21 : @Eq (FVec Ideal S4x256x1 .f32) (V m c main_v21)
    (broadcastInDim S4x256x1 ![0, 1] bcast_S4x256_S4x256x1_0_1 (V m c main_v20 : FVec Ideal S4x256 .f32)) := by
  unfold V V0; simp only [List.flatten_cons, List.flatten_nil, List.append_nil]; after_reads_simp
  all_goals try rfl
theorem v22 : @Eq (FVec Ideal S4x256x128 .f32) (V m c main_v22)
    (Host.dotGeneral (φ₁ := .f32) (φ₂ := .f32) dot_S4x256x256_S256x4x128_S4x256x128_2_0_1_2_0_1 none (V m c main_v19 : FVec Ideal S4x256x256 .f32) (V m c main_v11 : FVec Ideal S256x4x128 .f32)) := by
  unfold V V0; simp only [List.flatten_cons, List.flatten_nil, List.append_nil]; after_reads_simp
  all_goals try rfl
theorem v23 : @Eq (FVec Ideal S4x256x128 .f32) (V m c main_v23)
    (broadcastInDim S4x256x128 ![0, 1, 2] bcast_S4x256x1_S4x256x128_0_1_2 (V m c main_v21 : FVec Ideal S4x256x1 .f32)) := by
  unfold V V0; simp only [List.flatten_cons, List.flatten_nil, List.append_nil]; after_reads_simp
  all_goals try rfl
theorem v24 : @Eq (FVec Ideal S4x256x128 .f32) (V m c main_v24)
    (Host.divf (V m c main_v22 : FVec Ideal S4x256x128 .f32) (V m c main_v23 : FVec Ideal S4x256x128 .f32)) := by
  unfold V V0; simp only [List.flatten_cons, List.flatten_nil, List.append_nil]; after_reads_simp
  all_goals try rfl
theorem v25 : @Eq (FVec Ideal S4x256 .f32) (V m c main_v25)
    (shapeCast S4x256 (V m c main_v14 : FVec Ideal S4x256x1 .f32) shapeCasts_S4x256x1_S4x256) := by
  unfold V V0; simp only [List.flatten_cons, List.flatten_nil, List.append_nil]; after_reads_simp
  all_goals try rfl
theorem v26 : @Eq (FVec Ideal S4x256 .f32) (V m c main_v26)
    (shapeCast S4x256 (V m c main_v21 : FVec Ideal S4x256x1 .f32) shapeCasts_S4x256x1_S4x256) := by
  unfold V V0; simp only [List.flatten_cons, List.flatten_nil, List.append_nil]; after_reads_simp
  all_goals try rfl
theorem v27 : @Eq (FVec Ideal S4x256 .f32) (V m c main_v27)
    (Host.log (V m c main_v26 : FVec Ideal S4x256 .f32)) := by
  unfold V V0; simp only [List.flatten_cons, List.flatten_nil, List.append_nil]; after_reads_simp
  all_goals try rfl
theorem v28 : @Eq (FVec Ideal S4x256 .f32) (V m c main_v28)
    (broadcastInDim S4x256 ![] bcast_S_S4x256 (V m c main_v0 : FVec Ideal S_ .f32)) := by
  unfold V V0; simp only [List.flatten_cons, List.flatten_nil, List.append_nil]; after_reads_simp
  all_goals try rfl
theorem v29 : @Eq (FVec Ideal S4x256 .f32) (V m c main_v29)
    (Host.divf (V m c main_v27 : FVec Ideal S4x256 .f32) (V m c main_v28 : FVec Ideal S4x256 .f32)) := by
  unfold V V0; simp only [List.flatten_cons, List.flatten_nil, List.append_nil]; after_reads_simp
  all_goals try rfl
theorem v30 : @Eq (FVec Ideal S4x256 .f32) (V m c main_v30)
    (addf (V m c main_v25 : FVec Ideal S4x256 .f32) (V m c main_v29 : FVec Ideal S4x256 .f32)) := by
  unfold V V0; simp only [List.flatten_cons, List.flatten_nil, List.append_nil]; after_reads_simp
  all_goals try rfl
theorem v31 : @Eq (FVec Ideal S8192x4x256 .f32) (V m c main_v31)
    (extractStridedSlice S8192x4x256 ![256, 0, 0] (V m c main_v5 : FVec Ideal S8448x4x256 .f32) slices_S8448x4x256_S8192x4x256_256_0_0) := by
  unfold V V0; simp only [List.flatten_cons, List.flatten_nil, List.append_nil]; after_reads_simp
  all_goals try rfl
theorem v32 : @Eq (FVec Ideal S4x8192x8448 .f32) (V m c main_v32)
    (Host.dotGeneral (φ₁ := .f32) (φ₂ := .f32) dot_S8192x4x256_S8448x4x256_S4x8192x8448_2_2_0_0_1_1 none (V m c main_v31 : FVec Ideal S8192x4x256 .f32) (V m c main_v8 : FVec Ideal S8448x4x256 .f32)) := by
  unfold V V0; simp only [List.flatten_cons, List.flatten_nil, List.append_nil]; after_reads_simp
  all_goals try rfl
theorem cst_4 : @Eq (FVec Ideal S_ .f32) (V m c main_cst_4)
    (constant (F := Ideal) S_ .f32 0xFF800000#32) := by
  unfold V V0; simp only [List.flatten_cons, List.flatten_nil, List.append_nil]; after_reads_simp
  all_goals try rfl
theorem v33 : @Eq (FVec Ideal S4x8192 .f32) (V m c main_v33)
    (Host.reduce FloatOps.maximumf (V m c main_v32 : FVec Ideal S4x8192x8448 .f32) (V m c main_cst_4 : FVec Ideal S_ .f32) reducesTo_S4x8192x8448_S4x8192_d2 h_S_) := by
  unfold V V0; simp only [List.flatten_cons, List.flatten_nil, List.append_nil]; after_reads_simp
  all_goals try rfl
theorem v34 : @Eq (FVec Ideal S4x8192x1 .f32) (V m c main_v34)
    (broadcastInDim S4x8192x1 ![0, 1] bcast_S4x8192_S4x8192x1_0_1 (V m c main_v33 : FVec Ideal S4x8192 .f32)) := by
  unfold V V0; simp only [List.flatten_cons, List.flatten_nil, List.append_nil]; after_reads_simp
  all_goals try rfl
theorem v35 : @Eq (FVec Ideal S4x8192x8448 .f32) (V m c main_v35)
    (broadcastInDim S4x8192x8448 ![0, 1, 2] bcast_S4x8192x1_S4x8192x8448_0_1_2 (V m c main_v34 : FVec Ideal S4x8192x1 .f32)) := by
  unfold V V0; simp only [List.flatten_cons, List.flatten_nil, List.append_nil]; after_reads_simp
  all_goals try rfl
theorem v36 : @Eq (FVec Ideal S4x8192x8448 .f32) (V m c main_v36)
    (subf (V m c main_v32 : FVec Ideal S4x8192x8448 .f32) (V m c main_v35 : FVec Ideal S4x8192x8448 .f32)) := by
  unfold V V0; simp only [List.flatten_cons, List.flatten_nil, List.append_nil]; after_reads_simp
  all_goals try rfl
theorem v37 : @Eq (FVec Ideal S4x8192x8448 .f32) (V m c main_v37)
    (broadcastInDim S4x8192x8448 ![] bcast_S_S4x8192x8448 (V m c main_v0 : FVec Ideal S_ .f32)) := by
  unfold V V0; simp only [List.flatten_cons, List.flatten_nil, List.append_nil]; after_reads_simp
  all_goals try rfl
theorem v38 : @Eq (FVec Ideal S4x8192x8448 .f32) (V m c main_v38)
    (mulf (V m c main_v36 : FVec Ideal S4x8192x8448 .f32) (V m c main_v37 : FVec Ideal S4x8192x8448 .f32)) := by
  unfold V V0; simp only [List.flatten_cons, List.flatten_nil, List.append_nil]; after_reads_simp
  all_goals try rfl
theorem v39 : @Eq (FVec Ideal S4x8192x8448 .f32) (V m c main_v39)
    (Host.exp (V m c main_v38 : FVec Ideal S4x8192x8448 .f32)) := by
  unfold V V0; simp only [List.flatten_cons, List.flatten_nil, List.append_nil]; after_reads_simp
  all_goals try rfl
theorem cst_5 : @Eq (FVec Ideal S_ .f32) (V m c main_cst_5)
    (constant (F := Ideal) S_ .f32 0x00000000#32) := by
  unfold V V0; simp only [List.flatten_cons, List.flatten_nil, List.append_nil]; after_reads_simp
  all_goals try rfl
theorem v40 : @Eq (FVec Ideal S4x8192 .f32) (V m c main_v40)
    (Host.reduceAdd (V m c main_v39 : FVec Ideal S4x8192x8448 .f32) (V m c main_cst_5 : FVec Ideal S_ .f32) reducesTo_S4x8192x8448_S4x8192_d2 h_S_) := by
  unfold V V0; simp only [List.flatten_cons, List.flatten_nil, List.append_nil]; after_reads_simp
  all_goals try rfl
theorem v41 : @Eq (FVec Ideal S4x8192x1 .f32) (V m c main_v41)
    (broadcastInDim S4x8192x1 ![0, 1] bcast_S4x8192_S4x8192x1_0_1 (V m c main_v40 : FVec Ideal S4x8192 .f32)) := by
  unfold V V0; simp only [List.flatten_cons, List.flatten_nil, List.append_nil]; after_reads_simp
  all_goals try rfl
theorem v42 : @Eq (FVec Ideal S4x8192x128 .f32) (V m c main_v42)
    (Host.dotGeneral (φ₁ := .f32) (φ₂ := .f32) dot_S4x8192x8448_S8448x4x128_S4x8192x128_2_0_1_2_0_1 none (V m c main_v39 : FVec Ideal S4x8192x8448 .f32) (V m c main_arg4 : FVec Ideal S8448x4x128 .f32)) := by
  unfold V V0; simp only [List.flatten_cons, List.flatten_nil, List.append_nil]; after_reads_simp
  all_goals try rfl
theorem v43 : @Eq (FVec Ideal S4x8192x128 .f32) (V m c main_v43)
    (broadcastInDim S4x8192x128 ![0, 1, 2] bcast_S4x8192x1_S4x8192x128_0_1_2 (V m c main_v41 : FVec Ideal S4x8192x1 .f32)) := by
  unfold V V0; simp only [List.flatten_cons, List.flatten_nil, List.append_nil]; after_reads_simp
  all_goals try rfl
theorem v44 : @Eq (FVec Ideal S4x8192x128 .f32) (V m c main_v44)
    (Host.divf (V m c main_v42 : FVec Ideal S4x8192x128 .f32) (V m c main_v43 : FVec Ideal S4x8192x128 .f32)) := by
  unfold V V0; simp only [List.flatten_cons, List.flatten_nil, List.append_nil]; after_reads_simp
  all_goals try rfl
theorem v45 : @Eq (FVec Ideal S4x8192 .f32) (V m c main_v45)
    (shapeCast S4x8192 (V m c main_v34 : FVec Ideal S4x8192x1 .f32) shapeCasts_S4x8192x1_S4x8192) := by
  unfold V V0; simp only [List.flatten_cons, List.flatten_nil, List.append_nil]; after_reads_simp
  all_goals try rfl
theorem v46 : @Eq (FVec Ideal S4x8192 .f32) (V m c main_v46)
    (shapeCast S4x8192 (V m c main_v41 : FVec Ideal S4x8192x1 .f32) shapeCasts_S4x8192x1_S4x8192) := by
  unfold V V0; simp only [List.flatten_cons, List.flatten_nil, List.append_nil]; after_reads_simp
  all_goals try rfl
theorem v47 : @Eq (FVec Ideal S4x8192 .f32) (V m c main_v47)
    (Host.log (V m c main_v46 : FVec Ideal S4x8192 .f32)) := by
  unfold V V0; simp only [List.flatten_cons, List.flatten_nil, List.append_nil]; after_reads_simp
  all_goals try rfl
theorem v48 : @Eq (FVec Ideal S4x8192 .f32) (V m c main_v48)
    (broadcastInDim S4x8192 ![] bcast_S_S4x8192 (V m c main_v0 : FVec Ideal S_ .f32)) := by
  unfold V V0; simp only [List.flatten_cons, List.flatten_nil, List.append_nil]; after_reads_simp
  all_goals try rfl
theorem v49 : @Eq (FVec Ideal S4x8192 .f32) (V m c main_v49)
    (Host.divf (V m c main_v47 : FVec Ideal S4x8192 .f32) (V m c main_v48 : FVec Ideal S4x8192 .f32)) := by
  unfold V V0; simp only [List.flatten_cons, List.flatten_nil, List.append_nil]; after_reads_simp
  all_goals try rfl
theorem v50 : @Eq (FVec Ideal S4x8192 .f32) (V m c main_v50)
    (addf (V m c main_v45 : FVec Ideal S4x8192 .f32) (V m c main_v49 : FVec Ideal S4x8192 .f32)) := by
  unfold V V0; simp only [List.flatten_cons, List.flatten_nil, List.append_nil]; after_reads_simp
  all_goals try rfl
theorem v51 : @Eq (FVec Ideal S4x8448x128 .f32) (V m c main_v51)
    (concatenate S4x8448x128 1 [⟨S4x256x128, (V m c main_v24 : FVec Ideal S4x256x128 .f32)⟩, ⟨S4x8192x128, (V m c main_v44 : FVec Ideal S4x8192x128 .f32)⟩] concatenates_S4x256x128_S4x8192x128_S4x8448x128_d1) := by
  unfold V V0; simp only [List.flatten_cons, List.flatten_nil, List.append_nil]; after_reads_simp
  all_goals try rfl
theorem v52 : @Eq (FVec Ideal S4x8448 .f32) (V m c main_v52)
    (concatenate S4x8448 1 [⟨S4x256, (V m c main_v30 : FVec Ideal S4x256 .f32)⟩, ⟨S4x8192, (V m c main_v50 : FVec Ideal S4x8192 .f32)⟩] concatenates_S4x256_S4x8192_S4x8448_d1) := by
  unfold V V0; simp only [List.flatten_cons, List.flatten_nil, List.append_nil]; after_reads_simp
  all_goals try rfl
theorem v53 : @Eq (FVec Ideal S8448x4x128 .f32) (V m c main_v53)
    (shapeCast S8448x4x128 (V m c main_arg5 : FVec Ideal S8448x512 .f32) shapeCasts_S8448x512_S8448x4x128) := by
  unfold V V0; simp only [List.flatten_cons, List.flatten_nil, List.append_nil]; after_reads_simp
  all_goals try rfl
theorem v54 : @Eq (FVec Ideal S4x8448x128 .f32) (V m c main_v54)
    (transpose S4x8448x128 [1, 0, 2] (V m c main_v53 : FVec Ideal S8448x4x128 .f32) transposes_S8448x4x128_S4x8448x128_1_0_2) := by
  unfold V V0; simp only [List.flatten_cons, List.flatten_nil, List.append_nil]; after_reads_simp
  all_goals try rfl
theorem v55 : @Eq (FVec Ideal S4x8448x128 .f32) (V m c main_v55)
    (mulf (V m c main_v54 : FVec Ideal S4x8448x128 .f32) (V m c main_v51 : FVec Ideal S4x8448x128 .f32)) := by
  unfold V V0; simp only [List.flatten_cons, List.flatten_nil, List.append_nil]; after_reads_simp
  all_goals try rfl
theorem cst_6 : @Eq (FVec Ideal S_ .f32) (V m c main_cst_6)
    (constant (F := Ideal) S_ .f32 0x00000000#32) := by
  unfold V V0; simp only [List.flatten_cons, List.flatten_nil, List.append_nil]; after_reads_simp
  all_goals try rfl
theorem v56 : @Eq (FVec Ideal S4x8448 .f32) (V m c main_v56)
    (Host.reduceAdd (V m c main_v55 : FVec Ideal S4x8448x128 .f32) (V m c main_cst_6 : FVec Ideal S_ .f32) reducesTo_S4x8448x128_S4x8448_d2 h_S_) := by
  unfold V V0; simp only [List.flatten_cons, List.flatten_nil, List.append_nil]; after_reads_simp
  all_goals try rfl
theorem cst_7 : @Eq (FVec Ideal S_ .f32) (V m c main_cst_7)
    (constant (F := Ideal) S_ .f32 0x00000000#32) := by
  unfold V V0; simp only [List.flatten_cons, List.flatten_nil, List.append_nil]; after_reads_simp
  all_goals try rfl
theorem v57 : @Eq (FVec Ideal S4x8448 .f32) (V m c main_v57)
    (broadcastInDim S4x8448 ![] bcast_S_S4x8448 (V m c main_cst_7 : FVec Ideal S_ .f32)) := by
  unfold V V0; simp only [List.flatten_cons, List.flatten_nil, List.append_nil]; after_reads_simp
  all_goals try rfl
theorem v58 : @Eq (FVec Ideal S8448x1024 .f32) (V m c main_v58)
    (shapeCast S8448x1024 (V m c main_v5 : FVec Ideal S8448x4x256 .f32) shapeCasts_S8448x4x256_S8448x1024) := by
  unfold V V0; simp only [List.flatten_cons, List.flatten_nil, List.append_nil]; after_reads_simp
  all_goals try rfl
theorem v59 : @Eq (FVec Ideal S8448x1024 .bf16) (V m c main_v59)
    (truncf .bf16 (V m c main_v58 : FVec Ideal S8448x1024 .f32) bitsLt_bf16_f32) := by
  unfold V V0; simp only [List.flatten_cons, List.flatten_nil, List.append_nil]; after_reads_simp
  all_goals try rfl
theorem v60 : @Eq (FVec Ideal S8448x1024 .f32) (V m c main_v60)
    (shapeCast S8448x1024 (V m c main_v8 : FVec Ideal S8448x4x256 .f32) shapeCasts_S8448x4x256_S8448x1024) := by
  unfold V V0; simp only [List.flatten_cons, List.flatten_nil, List.append_nil]; after_reads_simp
  all_goals try rfl
theorem v61 : @Eq (FVec Ideal S8448x1024 .bf16) (V m c main_v61)
    (truncf .bf16 (V m c main_v60 : FVec Ideal S8448x1024 .f32) bitsLt_bf16_f32) := by
  unfold V V0; simp only [List.flatten_cons, List.flatten_nil, List.append_nil]; after_reads_simp
  all_goals try rfl
theorem v62 : @Eq (FVec Ideal S8448x512 .f32) (V m c main_v62)
    (shapeCast S8448x512 (V m c main_arg4 : FVec Ideal S8448x4x128 .f32) shapeCasts_S8448x4x128_S8448x512) := by
  unfold V V0; simp only [List.flatten_cons, List.flatten_nil, List.append_nil]; after_reads_simp
  all_goals try rfl
theorem v63 : @Eq (FVec Ideal S8448x512 .bf16) (V m c main_v63)
    (truncf .bf16 (V m c main_v62 : FVec Ideal S8448x512 .f32) bitsLt_bf16_f32) := by
  unfold V V0; simp only [List.flatten_cons, List.flatten_nil, List.append_nil]; after_reads_simp
  all_goals try rfl
theorem v64 : @Eq (FVec Ideal S8x8448 .f32) (V m c main_v64)
    (concatenate S8x8448 0 [⟨S4x8448, (V m c main_v52 : FVec Ideal S4x8448 .f32)⟩, ⟨S4x8448, (V m c main_v57 : FVec Ideal S4x8448 .f32)⟩] concatenates_S4x8448_S4x8448_S8x8448_d0) := by
  unfold V V0; simp only [List.flatten_cons, List.flatten_nil, List.append_nil]; after_reads_simp
  all_goals try rfl
theorem v65 : @Eq (FVec Ideal S8x8448 .f32) (V m c main_v65)
    (concatenate S8x8448 0 [⟨S4x8448, (V m c main_v56 : FVec Ideal S4x8448 .f32)⟩, ⟨S4x8448, (V m c main_v57 : FVec Ideal S4x8448 .f32)⟩] concatenates_S4x8448_S4x8448_S8x8448_d0) := by
  unfold V V0; simp only [List.flatten_cons, List.flatten_nil, List.append_nil]; after_reads_simp
  all_goals try rfl
theorem v66 : @Eq (FVec Ideal S8448x512 .bf16) (V m c main_v66)
    (truncf .bf16 (V m c main_arg5 : FVec Ideal S8448x512 .f32) bitsLt_bf16_f32) := by
  unfold V V0; simp only [List.flatten_cons, List.flatten_nil, List.append_nil]; after_reads_simp
  all_goals try rfl

end Cert.Mla.Entry

end
-- ==== Proof.MlaHost.lean ====
/- # The host lines before the call, over the reals

Given the arguments as arrays of reals, the six operands of the call as matrices of reals.
-/
module

public import proofs.«01_k».proof.Proof.MlaSpec
public import proofs.«01_k».proof.Proof.MlaEntry
public import Idealize.ShloMosaic.Lib.Pointwise

@[expose] public section

set_option maxRecDepth 16384

noncomputable section

namespace Cert.Mla

open Idealize.ShloMosaic Idealize.ShloMosaic.TcCoe Idealize.SL.Sem
open Cert.MlaBwdIdeal Cert.MlaBwdIdeal.Gen

/-- An array of three axes of reals. -/
def arr {a b d : ℕ} (f : Fin a → Fin b → Fin d → ℝ) : FVec Ideal ⟨3, ![a, b, d]⟩ .f32 := fun x => ((f (x 0) (x 1) (x 2) : ℝ) : EReal)

theorem real_two : Ideal.ofBits .f32 0x40000000#32 = ((2 : ℝ) : EReal) := by
  simp [Ideal.ofBits, Ideal.ieee, -EReal.coe_mul]; norm_num
theorem real_scale : Ideal.ofBits .f32 0x3D93CD3A#32 = ((scale : ℝ) : EReal) := by
  simp [Ideal.ofBits, Ideal.ieee, scale, -EReal.coe_mul]; norm_num
theorem bot_f32 : Ideal.ofBits .f32 0xFF800000#32 = ⊥ := by simp [Ideal.ofBits, Ideal.ieee]

theorem div_real (x y : ℝ) (h : y ≠ 0) : Ideal.div (x : EReal) (y : EReal) = ((x / y : ℝ) : EReal) := by
  rw [Ideal.div_coe h, ← EReal.coe_mul, mul_one_div]
theorem log_real (x : ℝ) (h : 0 < x) : Ideal.log (x : EReal) = ((Real.log x : ℝ) : EReal) := by
  rw [Ideal.log_coe, if_neg (not_le.mpr h)]

/-- The greatest of each row of reals is a real. -/
theorem max_arr {a b d : ℕ} [NeZero d] (h : (⟨3, ![a, b, d]⟩ : Shape).ReducesTo [2] ⟨2, ![a, b]⟩) (hu : 0 < S_.numel) (f : Fin a → Fin b → Fin d → ℝ) :
    ∃ M : Fin a → Fin b → ℝ, Host.reduce FloatOps.maximumf (arr f) (constant (F := Ideal) S_ .f32 0xFF800000#32) h hu = mat .f32 M := by
  have e : ∀ x : (⟨2, ![a, b]⟩ : Shape).Idx, ∃ M : ℝ,
      Host.reduce FloatOps.maximumf (arr f) (constant (F := Ideal) S_ .f32 0xFF800000#32) h hu x = (M : EReal) := by
    intro x
    have hr : (⟨3, ![a, b, d]⟩ : Shape).Reduces [2] ⟨2, ![a, b]⟩ := ⟨h.1, Nat.two_pos, h.2⟩
    obtain ⟨M, hM⟩ := fold_max_real (fun i : (⟨3, ![a, b, d]⟩ : Shape).Idx => f (i 0) (i 1) (i 2)) {i | h.drop i = x}
      ⟨hr.lift x (0 : Fin d), Finset.mem_filter.mpr ⟨Finset.mem_univ _, hr.drop_lift x _⟩⟩
    refine ⟨M, Eq.trans ?_ hM⟩
    rw [← bot_f32]
    pointwise [arr]
  choose M hM using e
  refine ⟨fun p q => M (ix2 p q), funext fun x => (hM x).trans ?_⟩
  have e : ix2 (x 0) (x 1) = x := funext fun k => by fin_cases k <;> rfl
  exact congrArg (fun i => ((M i : ℝ) : EReal)) e.symm

section
variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)

/-- The columns of a head's query: the part without a rotary embedding, the part with one, and zeros. -/
def cat (a : Fin 128 → ℝ) (b : Fin 64 → ℝ) (x : Fin 256) : ℝ :=
  if h : x.val < 128 then a ⟨x.val, h⟩ else if h2 : x.val < 192 then b ⟨x.val - 128, by omega⟩ else 0
/-- The packed queries and keys. -/
def q4 (r : Fin 8448) (h : Fin 4) (x : Fin 256) : ℝ := cat (A0 r h) (A1 r h) x * (scale / Real.log 2)
def k4 (n : Fin 8448) (h : Fin 4) (x : Fin 256) : ℝ := cat (A2 n h) (A3 n) x

variable (m : (ℓ : Loc nD τ sig) → Buf (Elt Ideal) ℓ) (c : Dev nD)

theorem R_v0 : @Eq (FVec Ideal S_ .f32) (V m c main_v0) fun _ => ((Real.log 2 : ℝ) : EReal) := by
  rw [Entry.v0, Entry.cst]
  funext x
  show Ideal.log (Ideal.ofBits .f32 0x40000000#32) = _
  rw [real_two, log_real _ (by norm_num)]
theorem R_v1 : @Eq (FVec Ideal S_ .f32) (V m c main_v1) fun _ => ((scale / Real.log 2 : ℝ) : EReal) := by
  rw [Entry.v1, Entry.cst_0, R_v0]
  funext x
  show Ideal.div (Ideal.ofBits .f32 0x3D93CD3A#32) _ = _
  rw [real_scale, div_real _ _ log_two_ne]

variable (h0 : @Eq (FVec Ideal S8448x4x128 .f32) (m (c.tc.loc main_arg0)) (arr A0)) (h1 : @Eq (FVec Ideal S8448x4x64 .f32) (m (c.tc.loc main_arg1)) (arr A1))
  (h2 : @Eq (FVec Ideal S8448x4x128 .f32) (m (c.tc.loc main_arg2)) (arr A2)) (h3 : @Eq (FVec Ideal S8448x64 .f32) (m (c.tc.loc main_arg3)) (mat .f32 A3))
  (h4 : @Eq (FVec Ideal S8448x4x128 .f32) (m (c.tc.loc main_arg4)) (arr A4)) (h5 : @Eq (FVec Ideal S8448x512 .f32) (m (c.tc.loc main_arg5)) (mat .f32 A5))

/-- A score in base two. -/
def score2 (h : Fin 4) (r n : Fin 8448) : ℝ := ∑ x, q4 A0 A1 r h x * k4 A2 A3 n h x

include h0 h1 in
theorem R_v5 : @Eq (FVec Ideal S8448x4x256 .f32) (V m c main_v5) (arr (q4 A0 A1)) := by
  rw [Entry.v5, Entry.v3, Entry.v4, R_v1, Entry.v2, Entry.cst_1, V_main_arg0, V_main_arg1]
  funext x
  erw [h0, h1]
  pointwise [arr]
  unfold q4 cat
  rw [EReal.coe_mul]
  refine congrArg (· * _) ?_
  by_cases e : (x 2).val < 128
  · rw [dif_pos e, dif_pos e]
  · rw [dif_neg e, dif_neg e]
    by_cases e2 : (x 2).val < 192
    · rw [dif_pos e2, dif_pos (by omega)]
    · rw [dif_neg e2, dif_neg (by omega)]; exact EReal.coe_zero.symm
include h2 h3 in
theorem R_v8 : @Eq (FVec Ideal S8448x4x256 .f32) (V m c main_v8) (arr (k4 A2 A3)) := by
  rw [Entry.v8, Entry.v7, Entry.v6, Entry.v2, Entry.cst_1, V_main_arg2, V_main_arg3]
  funext x
  erw [h2, h3]
  pointwise [arr, mat]
  unfold k4 cat
  by_cases e : (x 2).val < 128
  · rw [dif_pos e, dif_pos e]
  · rw [dif_neg e, dif_neg e]
    by_cases e2 : (x 2).val < 192
    · rw [dif_pos e2, dif_pos (by omega)]
    · rw [dif_neg e2, dif_neg (by omega)]; exact EReal.coe_zero.symm

/-! ## The forward pass of the first 256 rows -/

include h0 h1 h2 h3
theorem R_v12 : @Eq (FVec Ideal S4x256x256 .f32) (V m c main_v12) (arr fun h r n => score2 A0 A1 A2 A3 h (ctx r) (ctx n)) := by
  rw [Entry.v12, Entry.v9, Entry.v10, R_v5 A0 A1 m c h0 h1, R_v8 A2 A3 m c h2 h3]
  funext x
  pointwise [arr]
  simp only [← EReal.coe_mul, coe_sum]
  rfl
theorem R_v13 : ∃ M : Fin 4 → Fin 256 → ℝ, @Eq (FVec Ideal S4x256 .f32) (V m c main_v13) (mat .f32 M) := by
  rw [Entry.v13, Entry.cst_2, R_v12 A0 A1 A2 A3 m c h0 h1 h2 h3]
  exact max_arr _ _ _

variable (M : Fin 4 → Fin 256 → ℝ) (hM : @Eq (FVec Ideal S4x256 .f32) (V m c main_v13) (mat .f32 M))
include hM
theorem R_v19 : @Eq (FVec Ideal S4x256x256 .f32) (V m c main_v19)
    (arr fun h r n => Real.exp ((score2 A0 A1 A2 A3 h (ctx r) (ctx n) - M h r) * Real.log 2)) := by
  rw [Entry.v19, Entry.v18, Entry.v17, Entry.v16, Entry.v15, Entry.v14, hM, R_v12 A0 A1 A2 A3 m c h0 h1 h2 h3, R_v0]
  funext x
  pointwise [arr, mat]
  rw [← EReal.coe_sub, ← EReal.coe_mul]
  exact Ideal.exp_coe _
theorem R_v20 : @Eq (FVec Ideal S4x256 .f32) (V m c main_v20)
    (mat .f32 fun h r => ∑ n, Real.exp ((score2 A0 A1 A2 A3 h (ctx r) (ctx n) - M h r) * Real.log 2)) := by
  rw [Entry.v20, Entry.cst_3, R_v19 A0 A1 A2 A3 m c h0 h1 h2 h3 M hM]
  funext x
  pointwise [arr, mat]
  exact coe_sum _
theorem R_v30 : @Eq (FVec Ideal S4x256 .f32) (V m c main_v30)
    (mat .f32 fun h r => logSum (fun n => score2 A0 A1 A2 A3 h (ctx r) (ctx n)) (M h r)) := by
  rw [Entry.v30, Entry.v29, Entry.v28, Entry.v27, Entry.v26, Entry.v25, Entry.v21, Entry.v14, hM, R_v20 A0 A1 A2 A3 m c h0 h1 h2 h3 M hM, R_v0]
  funext x
  pointwise [mat]
  rw [log_real _ (sum_exp_pos _), div_real _ _ log_two_ne, ← EReal.coe_add]
  rfl
include h4 in
theorem R_v24 : @Eq (FVec Ideal S4x256x128 .f32) (V m c main_v24)
    (arr fun h r e => (∑ n, Real.exp ((score2 A0 A1 A2 A3 h (ctx r) (ctx n) - M h r) * Real.log 2) * A4 (ctx n) h e)
      / ∑ n, Real.exp ((score2 A0 A1 A2 A3 h (ctx r) (ctx n) - M h r) * Real.log 2)) := by
  rw [Entry.v24, Entry.v23, Entry.v22, Entry.v21, Entry.v11, V_main_arg4, R_v20 A0 A1 A2 A3 m c h0 h1 h2 h3 M hM, R_v19 A0 A1 A2 A3 m c h0 h1 h2 h3 M hM]
  funext x
  erw [h4]
  pointwise [arr, mat]
  simp only [← EReal.coe_mul, coe_sum]
  exact div_real _ _ (sum_exp_pos _).ne'
omit hM

/-! ## The forward pass of the later rows -/

theorem R_v32 : @Eq (FVec Ideal S4x8192x8448 .f32) (V m c main_v32) (arr fun h r n => score2 A0 A1 A2 A3 h (lat r) n) := by
  rw [Entry.v32, Entry.v31, R_v5 A0 A1 m c h0 h1, R_v8 A2 A3 m c h2 h3]
  funext x
  pointwise [arr]
  simp only [← EReal.coe_mul, coe_sum]
  rfl
theorem R_v33 : ∃ M' : Fin 4 → Fin 8192 → ℝ, @Eq (FVec Ideal S4x8192 .f32) (V m c main_v33) (mat .f32 M') := by
  rw [Entry.v33, Entry.cst_4, R_v32 A0 A1 A2 A3 m c h0 h1 h2 h3]
  exact max_arr _ _ _

variable (M' : Fin 4 → Fin 8192 → ℝ) (hM' : @Eq (FVec Ideal S4x8192 .f32) (V m c main_v33) (mat .f32 M'))
include hM'
theorem R_v39 : @Eq (FVec Ideal S4x8192x8448 .f32) (V m c main_v39)
    (arr fun h r n => Real.exp ((score2 A0 A1 A2 A3 h (lat r) n - M' h r) * Real.log 2)) := by
  rw [Entry.v39, Entry.v38, Entry.v37, Entry.v36, Entry.v35, Entry.v34, hM', R_v32 A0 A1 A2 A3 m c h0 h1 h2 h3, R_v0]
  funext x
  pointwise [arr, mat]
  rw [← EReal.coe_sub, ← EReal.coe_mul]
  exact Ideal.exp_coe _
theorem R_v40 : @Eq (FVec Ideal S4x8192 .f32) (V m c main_v40)
    (mat .f32 fun h r => ∑ n, Real.exp ((score2 A0 A1 A2 A3 h (lat r) n - M' h r) * Real.log 2)) := by
  rw [Entry.v40, Entry.cst_5, R_v39 A0 A1 A2 A3 m c h0 h1 h2 h3 M' hM']
  funext x
  pointwise [arr, mat]
  exact coe_sum _
theorem R_v50 : @Eq (FVec Ideal S4x8192 .f32) (V m c main_v50)
    (mat .f32 fun h r => logSum (fun n => score2 A0 A1 A2 A3 h (lat r) n) (M' h r)) := by
  rw [Entry.v50, Entry.v49, Entry.v48, Entry.v47, Entry.v46, Entry.v45, Entry.v41, Entry.v34, hM', R_v40 A0 A1 A2 A3 m c h0 h1 h2 h3 M' hM', R_v0]
  funext x
  pointwise [mat]
  rw [log_real _ (sum_exp_pos _), div_real _ _ log_two_ne, ← EReal.coe_add]
  rfl
include h4 in
theorem R_v44 : @Eq (FVec Ideal S4x8192x128 .f32) (V m c main_v44)
    (arr fun h r e => (∑ n, Real.exp ((score2 A0 A1 A2 A3 h (lat r) n - M' h r) * Real.log 2) * A4 n h e)
      / ∑ n, Real.exp ((score2 A0 A1 A2 A3 h (lat r) n - M' h r) * Real.log 2)) := by
  rw [Entry.v44, Entry.v43, Entry.v42, Entry.v41, V_main_arg4, R_v40 A0 A1 A2 A3 m c h0 h1 h2 h3 M' hM', R_v39 A0 A1 A2 A3 m c h0 h1 h2 h3 M' hM']
  funext x
  erw [h4]
  pointwise [arr, mat]
  simp only [← EReal.coe_mul, coe_sum]
  exact div_real _ _ (sum_exp_pos _).ne'
end

end Cert.Mla

end
-- ==== Proof.MlaLoop.lean ====
/- The loop over the chunks of query rows

Each trip changes the three running sums as `trip` says; the loop's invariant names their contents before every trip.
-/
module

public import proofs.«01_k».proof.Proof.MlaStep
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open VecWindow (window put)

variable {F : FTy → Type} [FloatOps F] [Named F]

local notation "𝕄" => MT nD τ sig Unit (Elt F) ℕ (Pipeline.UD sig nD τ) ℕ

/-- What a trip holds: the statistics, the head's queries and cotangents as they are, the three running sums at given contents. -/
abbrev Held (c : Dev nD) (arg6 arg7 : Memref sig .tc .vmem S8x8448 .f32) (arg8 : Memref sig .tc .vmem S8448x256 .f32) (arg11 : Memref sig .tc .vmem S8448x256 .bf16)
    (arg12 : Memref sig .tc .vmem S8448x128 .bf16) (arg13 : Memref sig .tc .vmem S768x256 .f32) (arg14 : Memref sig .tc .vmem S768x128 .f32)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (f_arg8 : BufTy.Contents (Elt F) arg8.view.ty) (f_arg13 : BufTy.Contents (Elt F) arg13.view.ty) (f_arg14 : BufTy.Contents (Elt F) arg14.view.ty) : sProp 𝕄 :=
  iprop((arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg12.view.loc (c : Thread nD τ) ↦[arg12.view.set]{fullShare} X_arg12) ∗ (arg8.view.loc (c : Thread nD τ) ↦[arg8.view.set]{fullShare} f_arg8) ∗ (arg13.view.loc (c : Thread nD τ) ↦[arg13.view.set]{fullShare} f_arg13) ∗ (arg14.view.loc (c : Thread nD τ) ↦[arg14.view.set]{fullShare} f_arg14))

/-- The same with the three running sums given as vectors. -/
abbrev HeldSt (c : Dev nD) (arg6 arg7 : Memref sig .tc .vmem S8x8448 .f32) (arg8 : Memref sig .tc .vmem S8448x256 .f32) (harg8 : arg8.IsWhole) (arg11 : Memref sig .tc .vmem S8448x256 .bf16) (arg12 : Memref sig .tc .vmem S8448x128 .bf16) (arg13 : Memref sig .tc .vmem S768x256 .f32) (harg13 : arg13.IsWhole) (arg14 : Memref sig .tc .vmem S768x128 .f32) (harg14 : arg14.IsWhole)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (s : St F) : sProp 𝕄 :=
  Held (F := F) c arg6 arg7 arg8 arg11 arg12 arg13 arg14 X_arg6 X_arg7 X_arg11 X_arg12 (harg8.unread s.1) (harg13.unread s.2.1) (harg14.unread s.2.2)

/-- The memory's contents of the three sums before trip `n`, from those at entry. -/
def conts (i : grid0.Coords) (K : Vec F S768x256 .bf16) (V : Vec F S768x128 .bf16) (arg6 arg7 : Memref sig .tc .vmem S8x8448 .f32) (arg8 : Memref sig .tc .vmem S8448x256 .f32) (harg8 : arg8.IsWhole) (arg11 : Memref sig .tc .vmem S8448x256 .bf16) (arg12 : Memref sig .tc .vmem S8448x128 .bf16) (arg13 : Memref sig .tc .vmem S768x256 .f32) (harg13 : arg13.IsWhole) (arg14 : Memref sig .tc .vmem S768x128 .f32) (harg14 : arg14.IsWhole)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (G_arg8 : BufTy.Contents (Elt F) arg8.view.ty) (G_arg13 : BufTy.Contents (Elt F) arg13.view.ty) (G_arg14 : BufTy.Contents (Elt F) arg14.view.ty) :
    ℕ → BufTy.Contents (Elt F) arg8.view.ty × BufTy.Contents (Elt F) arg13.view.ty × BufTy.Contents (Elt F) arg14.view.ty
  | 0 => (G_arg8, G_arg13, G_arg14)
  | n + 1 =>
    let p := conts i K V arg6 arg7 arg8 harg8 arg11 arg12 arg13 harg13 arg14 harg14 X_arg6 X_arg7 X_arg11 X_arg12 G_arg8 G_arg13 G_arg14 n
    if h : n < k0_t1_loop.trips then
      let s := trip i K V (arg11.view.read (Elt F) X_arg11) (arg12.view.read (Elt F) X_arg12) (arg6.view.read (Elt F) X_arg6) (arg7.view.read (Elt F) X_arg7) ⟨n, h⟩
        (arg8.view.read (Elt F) p.1, arg13.view.read (Elt F) p.2.1, arg14.view.read (Elt F) p.2.2)
      (harg8.unread s.1, harg13.unread s.2.1, harg14.unread s.2.2)
    else p

theorem conts_succ (i : grid0.Coords) (K : Vec F S768x256 .bf16) (V : Vec F S768x128 .bf16) (arg6 arg7 : Memref sig .tc .vmem S8x8448 .f32) (arg8 : Memref sig .tc .vmem S8448x256 .f32) (harg8 : arg8.IsWhole) (arg11 : Memref sig .tc .vmem S8448x256 .bf16) (arg12 : Memref sig .tc .vmem S8448x128 .bf16) (arg13 : Memref sig .tc .vmem S768x256 .f32) (harg13 : arg13.IsWhole) (arg14 : Memref sig .tc .vmem S768x128 .f32) (harg14 : arg14.IsWhole)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (G_arg8 : BufTy.Contents (Elt F) arg8.view.ty) (G_arg13 : BufTy.Contents (Elt F) arg13.view.ty) (G_arg14 : BufTy.Contents (Elt F) arg14.view.ty) (k : Fin k0_t1_loop.trips) :
    conts i K V arg6 arg7 arg8 harg8 arg11 arg12 arg13 harg13 arg14 harg14 X_arg6 X_arg7 X_arg11 X_arg12 G_arg8 G_arg13 G_arg14 (k.val + 1)
      = (let p := conts i K V arg6 arg7 arg8 harg8 arg11 arg12 arg13 harg13 arg14 harg14 X_arg6 X_arg7 X_arg11 X_arg12 G_arg8 G_arg13 G_arg14 k.val
         let s := trip i K V (arg11.view.read (Elt F) X_arg11) (arg12.view.read (Elt F) X_arg12) (arg6.view.read (Elt F) X_arg6) (arg7.view.read (Elt F) X_arg7) k
           (arg8.view.read (Elt F) p.1, arg13.view.read (Elt F) p.2.1, arg14.view.read (Elt F) p.2.2)
         (harg8.unread s.1, harg13.unread s.2.1, harg14.unread s.2.2)) := dif_pos k.isLt

/-- The contents read as the sums of `trips`. -/
theorem conts_read (i : grid0.Coords) (K : Vec F S768x256 .bf16) (V : Vec F S768x128 .bf16) (arg6 arg7 : Memref sig .tc .vmem S8x8448 .f32) (arg8 : Memref sig .tc .vmem S8448x256 .f32) (harg8 : arg8.IsWhole) (arg11 : Memref sig .tc .vmem S8448x256 .bf16) (arg12 : Memref sig .tc .vmem S8448x128 .bf16) (arg13 : Memref sig .tc .vmem S768x256 .f32) (harg13 : arg13.IsWhole) (arg14 : Memref sig .tc .vmem S768x128 .f32) (harg14 : arg14.IsWhole)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (G_arg8 : BufTy.Contents (Elt F) arg8.view.ty) (G_arg13 : BufTy.Contents (Elt F) arg13.view.ty) (G_arg14 : BufTy.Contents (Elt F) arg14.view.ty) (n : ℕ) :
    (arg8.view.read (Elt F) (conts i K V arg6 arg7 arg8 harg8 arg11 arg12 arg13 harg13 arg14 harg14 X_arg6 X_arg7 X_arg11 X_arg12 G_arg8 G_arg13 G_arg14 n).1,
     arg13.view.read (Elt F) (conts i K V arg6 arg7 arg8 harg8 arg11 arg12 arg13 harg13 arg14 harg14 X_arg6 X_arg7 X_arg11 X_arg12 G_arg8 G_arg13 G_arg14 n).2.1,
     arg14.view.read (Elt F) (conts i K V arg6 arg7 arg8 harg8 arg11 arg12 arg13 harg13 arg14 harg14 X_arg6 X_arg7 X_arg11 X_arg12 G_arg8 G_arg13 G_arg14 n).2.2)
      = trips i K V (arg11.view.read (Elt F) X_arg11) (arg12.view.read (Elt F) X_arg12) (arg6.view.read (Elt F) X_arg6) (arg7.view.read (Elt F) X_arg7)
          (arg8.view.read (Elt F) G_arg8, arg13.view.read (Elt F) G_arg13, arg14.view.read (Elt F) G_arg14) n := by
  induction n with
  | zero => rfl
  | succ n ih =>
    by_cases h : n < k0_t1_loop.trips
    · have e := conts_succ i K V arg6 arg7 arg8 harg8 arg11 arg12 arg13 harg13 arg14 harg14 X_arg6 X_arg7 X_arg11 X_arg12 G_arg8 G_arg13 G_arg14 ⟨n, h⟩
      have e' := trips_succ i K V (arg11.view.read (Elt F) X_arg11) (arg12.view.read (Elt F) X_arg12) (arg6.view.read (Elt F) X_arg6) (arg7.view.read (Elt F) X_arg7)
          (arg8.view.read (Elt F) G_arg8, arg13.view.read (Elt F) G_arg13, arg14.view.read (Elt F) G_arg14) ⟨n, h⟩
      rw [e', ← ih, e]
      simp only [harg8.read_unread, harg13.read_unread, harg14.read_unread]
    · have e : conts i K V arg6 arg7 arg8 harg8 arg11 arg12 arg13 harg13 arg14 harg14 X_arg6 X_arg7 X_arg11 X_arg12 G_arg8 G_arg13 G_arg14 (n + 1) = conts i K V arg6 arg7 arg8 harg8 arg11 arg12 arg13 harg13 arg14 harg14 X_arg6 X_arg7 X_arg11 X_arg12 G_arg8 G_arg13 G_arg14 n := dif_neg h
      have e' : trips i K V (arg11.view.read (Elt F) X_arg11) (arg12.view.read (Elt F) X_arg12) (arg6.view.read (Elt F) X_arg6) (arg7.view.read (Elt F) X_arg7)
          (arg8.view.read (Elt F) G_arg8, arg13.view.read (Elt F) G_arg13, arg14.view.read (Elt F) G_arg14) (n + 1)
          = trips i K V (arg11.view.read (Elt F) X_arg11) (arg12.view.read (Elt F) X_arg12) (arg6.view.read (Elt F) X_arg6) (arg7.view.read (Elt F) X_arg7)
          (arg8.view.read (Elt F) G_arg8, arg13.view.read (Elt F) G_arg13, arg14.view.read (Elt F) G_arg14) n := dif_neg h
      rw [e', ← ih, e]

/-- One trip at contents given by name. -/
theorem trip_run (𝒱 : Variants) (c : Dev nD) (bd : Option 𝒱.V) (i : grid0.Coords) (arg2 : Memref sig .tc .hbm S8448x1024 .bf16) (harg2 : arg2.IsWhole) (arg3 : Memref sig .tc .hbm S8448x512 .bf16) (harg3 : arg3.IsWhole) (arg4 : Memref sig .tc .vmem S768x256 .bf16) (harg4 : arg4.IsWhole) (arg5 : Memref sig .tc .vmem S768x128 .bf16) (harg5 : arg5.IsWhole) (arg6 : Memref sig .tc .vmem S8x8448 .f32) (harg6 : arg6.IsWhole) (arg7 : Memref sig .tc .vmem S8x8448 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (arg11 : Memref sig .tc .vmem S8448x256 .bf16) (harg11 : arg11.IsWhole) (arg12 : Memref sig .tc .vmem S8448x128 .bf16) (harg12 : arg12.IsWhole) (arg13 : Memref sig .tc .vmem S768x256 .f32) (harg13 : arg13.IsWhole) (arg14 : Memref sig .tc .vmem S768x128 .f32) (harg14 : arg14.IsWhole) (arg15 : DmaSems sig S2) (arg0 : BitVec 32) (K : Vec F S768x256 .bf16) (V : Vec F S768x128 .bf16)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (f_arg8 : BufTy.Contents (Elt F) arg8.view.ty) (f_arg13 : BufTy.Contents (Elt F) arg13.view.ty) (f_arg14 : BufTy.Contents (Elt F) arg14.view.ty) (k : Fin k0_t1_loop.trips) (E : Set ℕ) :
    Held (F := F) c arg6 arg7 arg8 arg11 arg12 arg13 arg14 X_arg6 X_arg7 X_arg11 X_arg12 f_arg8 f_arg13 f_arg14
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 K V k PUnit.unit)
          (fun _ => HeldSt (F := F) c arg6 arg7 arg8 harg8 arg11 arg12 arg13 harg13 arg14 harg14 X_arg6 X_arg7 X_arg11 X_arg12 (trip i K V (arg11.view.read (Elt F) X_arg11) (arg12.view.read (Elt F) X_arg12) (arg6.view.read (Elt F) X_arg6) (arg7.view.read (Elt F) X_arg7) k
              (arg8.view.read (Elt F) f_arg8, arg13.view.read (Elt F) f_arg13, arg14.view.read (Elt F) f_arg14))) := by
  have hk : k.val < 8 := Nat.lt_of_lt_of_le k.isLt k0_t1_abs.2.1
  unfold k0_t1_body
  iintro ⟨HR_arg6, HR_arg7, HR_arg11, HR_arg12, HW_arg8, HW_arg13, HW_arg14⟩
  sl_exec
  sl_step
  have e8 : ∀ w, arg8.view.writes (Elt F) f_arg8 [⟨Rect.unit (k0_off4 k) S1024x256.size (k0_off4_inb k), w⟩]
      = harg8.unread (put (arg8.view.read (Elt F) f_arg8) (k0_off4 k) S1024x256.size w) :=
    fun w => harg8.eq_unread (View.read_writes_cons_put arg8.view f_arg8 (k0_off4_inb k) w [] rfl)
  have e13 : ∀ w, arg13.view.writes (Elt F) f_arg13 [⟨Rect.unit ![0, 0] S768x256.size inb_S768x256_S768x256_0_0, w⟩] = harg13.unread w :=
    fun w => harg13.eq_unread (View.read_writes_full arg13.view f_arg13 inb_S768x256_S768x256_0_0 w [])
  have e14 : ∀ w, arg14.view.writes (Elt F) f_arg14 [⟨Rect.unit ![0, 0] S768x128.size inb_S768x128_S768x128_0_0, w⟩] = harg14.unread w :=
    fun w => harg14.eq_unread (View.read_writes_full arg14.view f_arg14 inb_S768x128_S768x128_0_0 w [])
  have r13 := View.readAt_full arg13.view f_arg13 inb_S768x256_S768x256_0_0
  have r14 := View.readAt_full arg14.view f_arg14 inb_S768x128_S768x128_0_0
  have q13 : trip_run.sl.v64 i arg6 arg7 arg11 arg12 arg13 K V X_arg6 X_arg7 X_arg11 X_arg12 f_arg13 k = _ :=
    congrArg (k0_pay9 (k0_pay14 K) (k0_pay15 V) (qRows (arg11.view.read (Elt F) X_arg11) k) (dRows (arg12.view.read (Elt F) X_arg12) k)
      (stat i (arg6.view.read (Elt F) X_arg6) k) (stat i (arg7.view.read (Elt F) X_arg7) k)) r13
  have q14 : trip_run.sl.v58 i arg6 arg11 arg12 arg14 K X_arg6 X_arg11 X_arg12 f_arg14 k = _ :=
    congrArg (k0_pay8 (k0_pay14 K) (qRows (arg11.view.read (Elt F) X_arg11) k) (dRows (arg12.view.read (Elt F) X_arg12) k)
      (stat i (arg6.view.read (Elt F) X_arg6) k)) r14
  rw [e8, e13, e14, q13, q14]
  isplitl [HR_arg6]; · iexact HR_arg6
  isplitl [HR_arg7]; · iexact HR_arg7
  isplitl [HR_arg11]; · iexact HR_arg11
  isplitl [HR_arg12]; · iexact HR_arg12
  isplitl [HW_arg8]; · iexact HW_arg8
  isplitl [HW_arg13]; · iexact HW_arg13
  iexact HW_arg14

/-- A sequence whose first term is known, spelt with that term in front, is the sequence. -/
theorem rec_eq {α : Type} (x : ℕ → α) (a : α) (h : a = x 0) (n : ℕ) : Nat.rec (motive := fun _ => α) a (fun j _ => x (j + 1)) n = x n := by
  cases n with
  | zero => exact h
  | succ n => rfl

/-- The loop's invariant: the three sums hold the contents of `conts`. -/
abbrev inv (c : Dev nD) (i : grid0.Coords) (K : Vec F S768x256 .bf16) (V : Vec F S768x128 .bf16) (arg6 arg7 : Memref sig .tc .vmem S8x8448 .f32) (arg8 : Memref sig .tc .vmem S8448x256 .f32) (harg8 : arg8.IsWhole) (arg11 : Memref sig .tc .vmem S8448x256 .bf16) (arg12 : Memref sig .tc .vmem S8448x128 .bf16) (arg13 : Memref sig .tc .vmem S768x256 .f32) (harg13 : arg13.IsWhole) (arg14 : Memref sig .tc .vmem S768x128 .f32) (harg14 : arg14.IsWhole)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (G_arg8 : BufTy.Contents (Elt F) arg8.view.ty) (G_arg13 : BufTy.Contents (Elt F) arg13.view.ty) (G_arg14 : BufTy.Contents (Elt F) arg14.view.ty) (n : ℕ) (_u : PUnit) : sProp 𝕄 :=
  iprop((arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg12.view.loc (c : Thread nD τ) ↦[arg12.view.set]{fullShare} X_arg12)
    ∗ (∃ f, (arg8.view.loc (c : Thread nD τ) ↦[arg8.view.set]{fullShare} f) ∗ ⌜f = Nat.rec (motive := fun _ => BufTy.Contents (Elt F) arg8.view.ty) G_arg8 (fun j _ => (conts i K V arg6 arg7 arg8 harg8 arg11 arg12 arg13 harg13 arg14 harg14 X_arg6 X_arg7 X_arg11 X_arg12 G_arg8 G_arg13 G_arg14 (j + 1)).1) n⌝) ∗ (∃ f, (arg13.view.loc (c : Thread nD τ) ↦[arg13.view.set]{fullShare} f) ∗ ⌜f = Nat.rec (motive := fun _ => BufTy.Contents (Elt F) arg13.view.ty) G_arg13 (fun j _ => (conts i K V arg6 arg7 arg8 harg8 arg11 arg12 arg13 harg13 arg14 harg14 X_arg6 X_arg7 X_arg11 X_arg12 G_arg8 G_arg13 G_arg14 (j + 1)).2.1) n⌝) ∗ (∃ f, (arg14.view.loc (c : Thread nD τ) ↦[arg14.view.set]{fullShare} f) ∗ ⌜f = Nat.rec (motive := fun _ => BufTy.Contents (Elt F) arg14.view.ty) G_arg14 (fun j _ => (conts i K V arg6 arg7 arg8 harg8 arg11 arg12 arg13 harg13 arg14 harg14 X_arg6 X_arg7 X_arg11 X_arg12 G_arg8 G_arg13 G_arg14 (j + 1)).2.2) n⌝))

set_option warn.classDefReducibility false in
/-- The loop by its invariant, every trip by `trip_run`. -/
@[sl_loop] def loopInv (𝒱 : Variants) (c : Dev nD) (bd : Option 𝒱.V) (E : Set ℕ) (i : grid0.Coords) (arg2 : Memref sig .tc .hbm S8448x1024 .bf16) (harg2 : arg2.IsWhole) (arg3 : Memref sig .tc .hbm S8448x512 .bf16) (harg3 : arg3.IsWhole) (arg4 : Memref sig .tc .vmem S768x256 .bf16) (harg4 : arg4.IsWhole) (arg5 : Memref sig .tc .vmem S768x128 .bf16) (harg5 : arg5.IsWhole) (arg6 : Memref sig .tc .vmem S8x8448 .f32) (harg6 : arg6.IsWhole) (arg7 : Memref sig .tc .vmem S8x8448 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (arg11 : Memref sig .tc .vmem S8448x256 .bf16) (harg11 : arg11.IsWhole) (arg12 : Memref sig .tc .vmem S8448x128 .bf16) (harg12 : arg12.IsWhole) (arg13 : Memref sig .tc .vmem S768x256 .f32) (harg13 : arg13.IsWhole) (arg14 : Memref sig .tc .vmem S768x128 .f32) (harg14 : arg14.IsWhole) (arg15 : DmaSems sig S2) (arg0 : BitVec 32) (K : Vec F S768x256 .bf16) (V : Vec F S768x128 .bf16)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (G_arg8 : BufTy.Contents (Elt F) arg8.view.ty) (G_arg13 : BufTy.Contents (Elt F) arg13.view.ty) (G_arg14 : BufTy.Contents (Elt F) arg14.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 K V) where
  inv := inv (F := F) c i K V arg6 arg7 arg8 harg8 arg11 arg12 arg13 harg13 arg14 harg14 X_arg6 X_arg7 X_arg11 X_arg12 G_arg8 G_arg13 G_arg14
  step k acc := by
    iintro ⟨HR_arg6, HR_arg7, HR_arg11, HR_arg12, ⟨%f_arg8, HW_arg8, %h_arg8⟩, ⟨%f_arg13, HW_arg13, %h_arg13⟩, ⟨%f_arg14, HW_arg14, %h_arg14⟩⟩
    iapply (wp_wand_r Idealize.ShloMosaic.frame (wpE (defs₀ (F := F)) 𝒱 (c : Thread nD τ) bd) E)
    isplitl [HR_arg6 HR_arg7 HR_arg11 HR_arg12 HW_arg8 HW_arg13 HW_arg14]
    · iapply (trip_run (F := F) 𝒱 c bd i arg2 harg2 arg3 harg3 arg4 harg4 arg5 harg5 arg6 harg6 arg7 harg7 arg8 harg8 arg9 harg9 arg10 harg10 arg11 harg11 arg12 harg12 arg13 harg13 arg14 harg14 arg15 arg0 K V X_arg6 X_arg7 X_arg11 X_arg12 f_arg8 f_arg13 f_arg14 k E)
      isplitl [HR_arg6]; · iexact HR_arg6
      isplitl [HR_arg7]; · iexact HR_arg7
      isplitl [HR_arg11]; · iexact HR_arg11
      isplitl [HR_arg12]; · iexact HR_arg12
      isplitl [HW_arg8]; · iexact HW_arg8
      isplitl [HW_arg13]; · iexact HW_arg13
      iexact HW_arg14
    · iintro %_ ⟨HR_arg6, HR_arg7, HR_arg11, HR_arg12, HW_arg8, HW_arg13, HW_arg14⟩
      isplitl [HR_arg6]; · iexact HR_arg6
      isplitl [HR_arg7]; · iexact HR_arg7
      isplitl [HR_arg11]; · iexact HR_arg11
      isplitl [HR_arg12]; · iexact HR_arg12
      have q_arg8 := rec_eq (fun n => (conts i K V arg6 arg7 arg8 harg8 arg11 arg12 arg13 harg13 arg14 harg14 X_arg6 X_arg7 X_arg11 X_arg12 G_arg8 G_arg13 G_arg14 n).1) G_arg8 rfl k.val
      have q_arg13 := rec_eq (fun n => (conts i K V arg6 arg7 arg8 harg8 arg11 arg12 arg13 harg13 arg14 harg14 X_arg6 X_arg7 X_arg11 X_arg12 G_arg8 G_arg13 G_arg14 n).2.1) G_arg13 rfl k.val
      have q_arg14 := rec_eq (fun n => (conts i K V arg6 arg7 arg8 harg8 arg11 arg12 arg13 harg13 arg14 harg14 X_arg6 X_arg7 X_arg11 X_arg12 G_arg8 G_arg13 G_arg14 n).2.2) G_arg14 rfl k.val
      rw [q_arg8] at h_arg8; rw [q_arg13] at h_arg13; rw [q_arg14] at h_arg14
      isplitl [HW_arg8]
      · iexists _; isplitl [HW_arg8]; · iexact HW_arg8
        ipureintro; show _ = (conts i K V arg6 arg7 arg8 harg8 arg11 arg12 arg13 harg13 arg14 harg14 X_arg6 X_arg7 X_arg11 X_arg12 G_arg8 G_arg13 G_arg14 (k.val + 1)).1; rw [conts_succ, h_arg8, h_arg13, h_arg14]
      isplitl [HW_arg13]
      · iexists _; isplitl [HW_arg13]; · iexact HW_arg13
        ipureintro; show _ = (conts i K V arg6 arg7 arg8 harg8 arg11 arg12 arg13 harg13 arg14 harg14 X_arg6 X_arg7 X_arg11 X_arg12 G_arg8 G_arg13 G_arg14 (k.val + 1)).2.1; rw [conts_succ, h_arg8, h_arg13, h_arg14]
      iexists _; isplitl [HW_arg14]; · iexact HW_arg14
      ipureintro; show _ = (conts i K V arg6 arg7 arg8 harg8 arg11 arg12 arg13 harg13 arg14 harg14 X_arg6 X_arg7 X_arg11 X_arg12 G_arg8 G_arg13 G_arg14 (k.val + 1)).2.2; rw [conts_succ, h_arg8, h_arg13, h_arg14]

/-- What the sums hold after the loop, from what is read in the operands and in the sums at entry. -/
theorem exit_read (i : grid0.Coords) {K' K : Vec F S768x256 .bf16} {V' V : Vec F S768x128 .bf16} (arg6 arg7 : Memref sig .tc .vmem S8x8448 .f32) (arg8 : Memref sig .tc .vmem S8448x256 .f32) (harg8 : arg8.IsWhole) (arg11 : Memref sig .tc .vmem S8448x256 .bf16) (arg12 : Memref sig .tc .vmem S8448x128 .bf16) (arg13 : Memref sig .tc .vmem S768x256 .f32) (harg13 : arg13.IsWhole) (arg14 : Memref sig .tc .vmem S768x128 .f32) (harg14 : arg14.IsWhole)
    (X_arg6 : BufTy.Contents (Elt F) arg6.view.ty) (X_arg7 : BufTy.Contents (Elt F) arg7.view.ty) (X_arg11 : BufTy.Contents (Elt F) arg11.view.ty) (X_arg12 : BufTy.Contents (Elt F) arg12.view.ty)
    (G_arg8 : BufTy.Contents (Elt F) arg8.view.ty) (G_arg13 : BufTy.Contents (Elt F) arg13.view.ty) (G_arg14 : BufTy.Contents (Elt F) arg14.view.ty)
    {q : Vec F S8448x256 .bf16} {d : Vec F S8448x128 .bf16} {l δ : Vec F S8x8448 .f32} {s : St F} (hK : K' = K) (hV : V' = V)
    (hq : arg11.view.read (Elt F) X_arg11 = q) (hd : arg12.view.read (Elt F) X_arg12 = d)
    (hl : arg6.view.read (Elt F) X_arg6 = l) (hδ : arg7.view.read (Elt F) X_arg7 = δ)
    (h8 : arg8.view.read (Elt F) G_arg8 = s.1) (h13 : arg13.view.read (Elt F) G_arg13 = s.2.1) (h14 : arg14.view.read (Elt F) G_arg14 = s.2.2) :
    arg8.view.read (Elt F) (Nat.rec (motive := fun _ => BufTy.Contents (Elt F) arg8.view.ty) G_arg8 (fun j _ => (conts i K' V' arg6 arg7 arg8 harg8 arg11 arg12 arg13 harg13 arg14 harg14 X_arg6 X_arg7 X_arg11 X_arg12 G_arg8 G_arg13 G_arg14 (j + 1)).1) (Scf.trips k0_t1_loop.lb k0_t1_loop.ub k0_t1_loop.st)) = (allTrips i K V q d l δ s).1
    ∧ arg13.view.read (Elt F) (Nat.rec (motive := fun _ => BufTy.Contents (Elt F) arg13.view.ty) G_arg13 (fun j _ => (conts i K' V' arg6 arg7 arg8 harg8 arg11 arg12 arg13 harg13 arg14 harg14 X_arg6 X_arg7 X_arg11 X_arg12 G_arg8 G_arg13 G_arg14 (j + 1)).2.1) (Scf.trips k0_t1_loop.lb k0_t1_loop.ub k0_t1_loop.st)) = (allTrips i K V q d l δ s).2.1
    ∧ arg14.view.read (Elt F) (Nat.rec (motive := fun _ => BufTy.Contents (Elt F) arg14.view.ty) G_arg14 (fun j _ => (conts i K' V' arg6 arg7 arg8 harg8 arg11 arg12 arg13 harg13 arg14 harg14 X_arg6 X_arg7 X_arg11 X_arg12 G_arg8 G_arg13 G_arg14 (j + 1)).2.2) (Scf.trips k0_t1_loop.lb k0_t1_loop.ub k0_t1_loop.st)) = (allTrips i K V q d l δ s).2.2 := by
  subst hK hV hq hd hl hδ
  have e := conts_read i K' V' arg6 arg7 arg8 harg8 arg11 arg12 arg13 harg13 arg14 harg14 X_arg6 X_arg7 X_arg11 X_arg12 G_arg8 G_arg13 G_arg14 k0_t1_loop.trips
  rw [h8, h13, h14] at e
  have q8 := rec_eq (fun n => (conts i K' V' arg6 arg7 arg8 harg8 arg11 arg12 arg13 harg13 arg14 harg14 X_arg6 X_arg7 X_arg11 X_arg12 G_arg8 G_arg13 G_arg14 n).1) G_arg8 rfl k0_t1_loop.trips
  have q13 := rec_eq (fun n => (conts i K' V' arg6 arg7 arg8 harg8 arg11 arg12 arg13 harg13 arg14 harg14 X_arg6 X_arg7 X_arg11 X_arg12 G_arg8 G_arg13 G_arg14 n).2.1) G_arg13 rfl k0_t1_loop.trips
  have q14 := rec_eq (fun n => (conts i K' V' arg6 arg7 arg8 harg8 arg11 arg12 arg13 harg13 arg14 harg14 X_arg6 X_arg7 X_arg11 X_arg12 G_arg8 G_arg13 G_arg14 n).2.2) G_arg14 rfl k0_t1_loop.trips
  exact ⟨(congrArg (arg8.view.read (Elt F)) q8).trans (congrArg (fun s : St F => s.1) e),
    (congrArg (arg13.view.read (Elt F)) q13).trans (congrArg (fun s : St F => s.2.1) e),
    (congrArg (arg14.view.read (Elt F)) q14).trans (congrArg (fun s : St F => s.2.2) e)⟩

end Cert.Mla

end
-- ==== Proof.MlaKit.lean ====
/- # The kernel's operands around a grid point

The two arrays the kernel copies a head's columns out of, its own two semaphores, and the head's columns themselves.
-/
module

public import proofs.«01_k».proof.Proof.MlaLoop
public import proofs.«01_k».proof.Proof.Gen.MlaBwdIdeal.Frame
public import Idealize.ShloMosaic.Lib.WordCmp
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open Idealize.ShloMosaic.Pipeline (Dat Cfg Window cellOf)
open VecWindow (window put)

variable {F : FTy → Type} [FloatOps F] [Named F]

local notation "𝕄" => MT nD τ sig Unit (Elt F) ℕ (Pipeline.UD sig nD τ) ℕ

/-- The two operands the kernel copies from itself: the queries and the cotangents, heads side by side. -/
abbrev hbQ : Memref sig .tc .hbm S8448x1024 .bf16 := Memref.whole main_v59
abbrev hbD : Memref sig .tc .hbm S8448x512 .bf16 := Memref.whole main_v66

/-- A whole operand at given contents. -/
abbrev hbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : hbBuf (F := F) c M) : sProp 𝕄 :=
  M.view.loc (c : Thread nD τ) ↦{fullShare} f

theorem qInb (i : grid0.Coords) : ∀ a, (![0, 256 * (i 0).val] : Fin 2 → ℕ) a + S8448x256.size a ≤ S8448x1024.size a := by
  have : (i 0).val < 4 := (i 0).isLt
  intro a
  match a with
  | ⟨0, _⟩ => show 0 + 8448 ≤ 8448; omega
  | ⟨1, _⟩ => show 256 * (i 0).val + 256 ≤ 1024; omega
theorem dInb (i : grid0.Coords) : ∀ a, (![0, 128 * (i 0).val] : Fin 2 → ℕ) a + S8448x128.size a ≤ S8448x512.size a := by
  have : (i 0).val < 4 := (i 0).isLt
  intro a
  match a with
  | ⟨0, _⟩ => show 0 + 8448 ≤ 8448; omega
  | ⟨1, _⟩ => show 128 * (i 0).val + 128 ≤ 512; omega

/-- A head's queries: its 256 columns. -/
abbrev qHead (i : grid0.Coords) (X : Vec F S8448x1024 .bf16) : Vec F S8448x256 .bf16 := window X ![0, 256 * (i 0).val] S8448x256.size (qInb i)
/-- A head's cotangents: its 128 columns. -/
abbrev dHead (i : grid0.Coords) (X : Vec F S8448x512 .bf16) : Vec F S8448x128 .bf16 := window X ![0, 128 * (i 0).val] S8448x128.size (dInb i)

/-- The last block of keys of a head: the queries' gradient takes its factor there. -/
abbrev isLast (i : grid0.Coords) : Prop := (Scalar.cmpi .ne (Scalar.extui (Scalar.cmpi .eq (BitVec.ofNat 32 (i 1).val) 10#32)) 0#32) = 1#1

theorem cond1_iff (t : Fin cfg0.N) : k0_cond1 (grid0.coords t) = 1#1 ↔ t.val % 11 = 0 :=
  (show ∀ t : Fin grid0.N, k0_cond1 (grid0.coords t) = 1#1 ↔ t.val % 11 = 0 from fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond1, e0, e1]
    word_cmp) t
theorem cond2_iff (t : Fin cfg0.N) : k0_cond2 (grid0.coords t) = 1#1 ↔ t.val % 11 = 0 :=
  (show ∀ t : Fin grid0.N, k0_cond2 (grid0.coords t) = 1#1 ↔ t.val % 11 = 0 from fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond2, e0, e1]
    word_cmp) t
theorem isLast_iff (t : Fin cfg0.N) : isLast (grid0.coords t) ↔ t.val % 11 = 10 :=
  (show ∀ t : Fin grid0.N, isLast (grid0.coords t) ↔ t.val % 11 = 10 from fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [isLast, e0, e1]
    word_cmp) t

end Cert.Mla

end
-- ==== Proof.MlaData.lean ====
/- # The pipeline's data: what every window holds after every grid point

The grid is (head, block of 768 keys). Within a head the queries' gradient goes on from point to point; the keys' and values'
gradients are a point's own.
-/
module

public import proofs.«01_k».proof.Proof.MlaKit
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open Idealize.ShloMosaic.Pipeline (Dat Cfg Window BodyObligation cellOf)
open VecWindow (window put)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The operands the kernel copies itself, when the region is entered. -/
abbrev valQ (c : Dev nD) : Vec F S8448x1024 .bf16 := hbQ.view.read (Elt F) (V m c main_v59)
abbrev valD (c : Dev nD) : Vec F S8448x512 .bf16 := hbD.view.read (Elt F) (V m c main_v66)

/-- The head's queries and cotangents at a point. -/
def qAt (c : Dev nD) (t : Fin cfg0.N) : Vec F S8448x256 .bf16 := qHead (grid0.coords t) (valQ m c)
def dAt (c : Dev nD) (t : Fin cfg0.N) : Vec F S8448x128 .bf16 := dHead (grid0.coords t) (valD m c)

/-- The sums after a point, from the queries' gradient `p` of the point before: a head's first point starts at zero with the context rows. -/
def step (c : Dev nD) (t : Fin cfg0.N) (p : Vec F S8448x256 .f32) : St F :=
  if h : t.val % 11 = 0 then
    allTrips (grid0.coords t) (iblk m c 0 t) (iblk m c 1 t) (qAt m c t) (dAt m c t) (iblk m c 2 t) (iblk m c 3 t)
      (ctxSt (grid0.coords t) (iblk m c 0 t) (iblk m c 1 t) (qAt m c t) (dAt m c t) (iblk m c 2 t) (iblk m c 3 t) ((cond2_iff t).mpr h))
  else
    allTrips (grid0.coords t) (iblk m c 0 t) (iblk m c 1 t) (qAt m c t) (dAt m c t) (iblk m c 2 t) (iblk m c 3 t) (p, k0_pay12, k0_pay13)

/-- The sums after point `n`. -/
def sums (c : Dev nD) : (n : ℕ) → n < cfg0.N → St F
  | 0, h => step m c ⟨0, h⟩ k0_pay11
  | n + 1, h => step m c ⟨n + 1, h⟩ (sums c n (Nat.lt_of_succ_lt h)).1

/-- The queries' gradient as left in its buffer at a point: with its factor at a head's last point. -/
def dqAt (c : Dev nD) (t : Fin cfg0.N) : Vec F S8448x256 .f32 :=
  if t.val % 11 = 10 then k0_pay1 (sums m c t.val t.isLt).1 else (sums m c t.val t.isLt).1

theorem sums_first (c : Dev nD) (t : Fin cfg0.N) (h : t.val % 11 = 0) : sums m c t.val t.isLt =
    allTrips (grid0.coords t) (iblk m c 0 t) (iblk m c 1 t) (qAt m c t) (dAt m c t) (iblk m c 2 t) (iblk m c 3 t)
      (ctxSt (grid0.coords t) (iblk m c 0 t) (iblk m c 1 t) (qAt m c t) (dAt m c t) (iblk m c 2 t) (iblk m c 3 t) ((cond2_iff t).mpr h)) := by
  obtain ⟨n, hn⟩ := t
  cases n with
  | zero => show step m c ⟨0, hn⟩ k0_pay11 = _; unfold step; exact dif_pos h
  | succ n => show step m c ⟨n + 1, hn⟩ _ = _; unfold step; exact dif_pos h

theorem sums_next (c : Dev nD) (t : Fin cfg0.N) (h : ¬t.val % 11 = 0) : sums m c t.val t.isLt =
    allTrips (grid0.coords t) (iblk m c 0 t) (iblk m c 1 t) (qAt m c t) (dAt m c t) (iblk m c 2 t) (iblk m c 3 t)
      ((sums m c (t.val - 1) (Nat.lt_of_le_of_lt (Nat.sub_le _ _) t.isLt)).1, k0_pay12, k0_pay13) := by
  obtain ⟨n, hn⟩ := t
  cases n with
  | zero => exact absurd rfl h
  | succ n => exact dif_neg h

/-- Within a head the copied columns stay. -/
theorem coords0_pred (t : Fin cfg0.N) (h : ¬t.val % 11 = 0) :
    (grid0.coords ⟨t.val - 1, Nat.lt_of_le_of_lt (Nat.sub_le _ _) t.isLt⟩ 0).val = (grid0.coords t 0).val := by
  have e := fun s : Fin grid0.N => (Pipeline.Grid.coords_val s 0 (by decide) rfl : (grid0.coords s 0).val = s.val / 11 % 4)
  refine (e ⟨t.val - 1, Nat.lt_of_le_of_lt (Nat.sub_le _ _) t.isLt⟩).trans (Eq.trans ?_ (e t).symm)
  show (t.val - 1) / 11 % 4 = t.val / 11 % 4
  omega
theorem head_congr {i i' : grid0.Coords} (h : (i 0).val = (i' 0).val) (X : Vec F S8448x1024 .bf16) (Y : Vec F S8448x512 .bf16) :
    qHead i X = qHead i' X ∧ dHead i Y = dHead i' Y := by
  have hq : ∀ {n n' : ℕ} (_ : n = n') (p : ∀ a, (![0, 256 * n] : Fin 2 → ℕ) a + S8448x256.size a ≤ S8448x1024.size a)
      (p' : ∀ a, (![0, 256 * n'] : Fin 2 → ℕ) a + S8448x256.size a ≤ S8448x1024.size a),
      window X ![0, 256 * n] S8448x256.size p = window X ![0, 256 * n'] S8448x256.size p' := by rintro _ _ rfl _ _; rfl
  have hd : ∀ {n n' : ℕ} (_ : n = n') (p : ∀ a, (![0, 128 * n] : Fin 2 → ℕ) a + S8448x128.size a ≤ S8448x512.size a)
      (p' : ∀ a, (![0, 128 * n'] : Fin 2 → ℕ) a + S8448x128.size a ≤ S8448x512.size a),
      window Y ![0, 128 * n] S8448x128.size p = window Y ![0, 128 * n'] S8448x128.size p' := by rintro _ _ rfl _ _; rfl
  exact ⟨hq h _ _, hd h _ _⟩
theorem qAt_pred (c : Dev nD) (t : Fin cfg0.N) (h : ¬t.val % 11 = 0) :
    qAt m c ⟨t.val - 1, Nat.lt_of_le_of_lt (Nat.sub_le _ _) t.isLt⟩ = qAt m c t := (head_congr (coords0_pred t h) _ (valD m c)).1
theorem dAt_pred (c : Dev nD) (t : Fin cfg0.N) (h : ¬t.val % 11 = 0) :
    dAt m c ⟨t.val - 1, Nat.lt_of_le_of_lt (Nat.sub_le _ _) t.isLt⟩ = dAt m c t := (head_congr (coords0_pred t h) (valQ m c) _).2

/-! The scratch, the kernel's own semaphores, its own operands. -/

abbrev scQ : Memref sig .tc .vmem S8448x256 .bf16 := Memref.whole cc0_scratch0
abbrev scD : Memref sig .tc .vmem S8448x128 .bf16 := Memref.whole cc0_scratch1
abbrev scK : Memref sig .tc .vmem S768x256 .f32 := Memref.whole cc0_scratch2
abbrev scV : Memref sig .tc .vmem S768x128 .f32 := Memref.whole cc0_scratch3

abbrev osem0 : Fin 2 → SemLoc sig := fun j => (![SemLoc.dma 12, SemLoc.dma 13] : Fin 2 → SemLoc sig) j
theorem ownSem : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0) := by
  rw [Pipeline.ownSems0_eq_of_list c osem0 [0, 1] (by decide) (by decide)]; rfl
def H0 : Finset (Ref sig .tc) := {main_v59, main_v66}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c hbQ (V m c main_v59) ∗ hbPt c hbD (V m c main_v66)) := by
  rw [BI.bigSep_eq_bigSepL_of_eq [main_v59, main_v66] (by decide) (by decide)]; rfl

/-- What goes through every point unchanged: the register, the semaphores at zero, the two operands. -/
abbrev rest (c : Dev nD) : sProp 𝕄 :=
  iprop((∃ r, prngReg c r) ∗ iprop(semVal ((c : Thread nD τ), SemLoc.dma 12) 0 ∗ semVal ((c : Thread nD τ), SemLoc.dma 13) 0)
    ∗ iprop(hbPt c hbQ (V m c main_v59) ∗ hbPt c hbD (V m c main_v66)))

/-- Any contents of the scratch. -/
abbrev loose (c : Dev nD) : sProp 𝕄 :=
  iprop(iprop((∃ d, owns (c : Thread nD τ) scQ fullShare d) ∗ (∃ d, owns (c : Thread nD τ) scD fullShare d)
    ∗ (∃ d, owns (c : Thread nD τ) scK fullShare d) ∗ (∃ d, owns (c : Thread nD τ) scV fullShare d)) ∗ rest m c)

theorem phi_eq (c : Dev nD) : (Pipeline.ΦD osem0 spec0 H0 (V m) c : sProp 𝕄) = loose m c := by
  rw [Pipeline.ΦD_eq, scopedRest0_eq, ownSems_eq, hbmPts_eq]; simp only [loose, rest, scQ, scD, scK, scV, owns_whole]; try rfl

/-- Before point `n`: after a point the scratch holds that point's head's columns. -/
def inv0 (c : Dev nD) : (n : ℕ) → n ≤ cfg0.N → sProp 𝕄
  | 0, _ => loose m c
  | n + 1, hn => iprop(iprop(owns (c : Thread nD τ) scQ fullShare (qAt m c ⟨n, hn⟩) ∗ owns (c : Thread nD τ) scD fullShare (dAt m c ⟨n, hn⟩)
    ∗ (∃ d, owns (c : Thread nD τ) scK fullShare d) ∗ (∃ d, owns (c : Thread nD τ) scV fullShare d)) ∗ rest m c)

theorem inv0_pos (c : Dev nD) (t : Fin cfg0.N) (hz : t.val ≠ 0) : inv0 m c t.val (Nat.le_of_lt t.isLt) =
    iprop(iprop(owns (c : Thread nD τ) scQ fullShare (qAt m c ⟨t.val - 1, Nat.lt_of_le_of_lt (Nat.sub_le _ _) t.isLt⟩)
    ∗ owns (c : Thread nD τ) scD fullShare (dAt m c ⟨t.val - 1, Nat.lt_of_le_of_lt (Nat.sub_le _ _) t.isLt⟩)
    ∗ (∃ d, owns (c : Thread nD τ) scK fullShare d) ∗ (∃ d, owns (c : Thread nD τ) scV fullShare d)) ∗ rest m c) := by
  obtain ⟨n, hn⟩ := t
  cases n with
  | zero => exact absurd rfl hz
  | succ n => rfl

theorem inv0_loose (c : Dev nD) (n : ℕ) (hn : n ≤ cfg0.N) : inv0 m c n hn ⊢ loose m c := by
  cases n with
  | zero => exact .rfl
  | succ n =>
    unfold inv0
    iintro ⟨⟨HQ, HD, HK, HV⟩, HR⟩
    isplitr [HR]; swap; · iexact HR
    isplitl [HQ]; · iexists _; iexact HQ
    isplitl [HD]; · iexists _; iexact HD
    isplitl [HK]; · iexact HK
    iexact HV

/-- The data: arrays as the region finds them; after a point each input's block and the sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
    | ⟨5, _⟩ => k0_pay18 (sums m c t.val t.isLt).2.1
    | ⟨6, _⟩ => (sums m c t.val t.isLt).2.2
  Φ t := inv0 m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv0 m c t.val (Nat.le_of_lt t.isLt) := by
  dsimp only [dats]; exact Pipeline.Dat.Φ_castSucc (inv0 m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dqAt m c t := by dsimp only [dats]
theorem after_5 (c : Dev nD) (t : Fin cfg0.N) : (dats m 0 c).after 5 t = k0_pay18 (sums m c t.val t.isLt).2.1 := by dsimp only [dats]
theorem after_6 (c : Dev nD) (t : Fin cfg0.N) : (dats m 0 c).after 6 t = (sums m c t.val t.isLt).2.2 := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0 m c]; unfold Dat.blockOf iblk; rw [A_eq m c]; try rfl) t d).trans
    (by unfold Dat.fetched Dat.blockOf iblk; rw [A_eq m c]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1 m c]; unfold Dat.blockOf iblk; rw [A_eq m c]; try rfl) t d).trans
    (by unfold Dat.fetched Dat.blockOf iblk; rw [A_eq m c]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2 m c]; unfold Dat.blockOf iblk; rw [A_eq m c]; try rfl) t d).trans
    (by unfold Dat.fetched Dat.blockOf iblk; rw [A_eq m c]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3 m c]; unfold Dat.blockOf iblk; rw [A_eq m c]; try rfl) t d).trans
    (by unfold Dat.fetched Dat.blockOf iblk; rw [A_eq m c]; try rfl)
/-- Within a head the queries' gradient's buffer holds what the point before left. -/
theorem before_4 (c : Dev nD) (t : Fin cfg0.N) (h : ¬t.val % 11 = 0) (d) :
    (dats m 0 c).before 4 t d = (sums m c (t.val - 1) (Nat.lt_of_le_of_lt (Nat.sub_le _ _) t.isLt)).1 := by
  have hN : t.val < 44 := lt_of_lt_of_eq t.isLt (show cfg0.N = 44 from N_0)
  refine ((dats m 0 c).before_out_kept 4 rfl t (by omega) (Bool.eq_false_iff.mpr fun hf => ?_) (fun _ => rfl) (fun _ _ => rfl) d).trans ?_
  · have : (t.val - 1) % 11 = 10 := (flush0_4 _).mp hf
    omega
  · rw [after_4]
    exact if_neg (show ¬(t.val - 1) % 11 = 10 by omega)

end Cert.Mla

end
-- ==== Proof.MlaArr.lean ====
/- # The gradient's arrays over the reals

Given the operands as matrices of reals, what the call leaves in its three results: the sums over all keys, and over all rows, of the
weights and slopes of the visible pairs. A context row, one of the first 256, sees the first 256 keys; the others see every key.
-/
module

public import proofs.«01_k».proof.Proof.MlaSpec
public import proofs.«01_k».proof.Proof.MlaData
public import Idealize.ShloMosaic.Lib.Pipeline.ValueKit

@[expose] public section

set_option maxRecDepth 16384

noncomputable section

namespace Cert.Mla

open Idealize.ShloMosaic Idealize.ShloMosaic.TcCoe Idealize.SL.Sem
open Cert.MlaBwdIdeal Cert.MlaBwdIdeal.Gen
open Idealize.ShloMosaic.Pipeline (Dat)
open VecWindow (window put)

/-- A block's key among all keys. -/
def key (j : Fin 11) (k : Fin 768) : Fin 8448 := ⟨768 * j.val + k.val, by omega⟩

theorem lt44 (t : Fin cfg0.N) : t.val < 44 := Nat.lt_of_lt_of_eq t.isLt N_0
/-- A point's head and its block of keys. -/
def hd (t : Fin cfg0.N) : Fin 4 := ⟨t.val / 11, by have := lt44 t; omega⟩
def jb (t : Fin cfg0.N) : Fin 11 := ⟨t.val % 11, by omega⟩

theorem idx : ∀ t : Fin cfg0.N, win0_0.index t = ![t.val % 11, t.val / 11] ∧ win0_1.index t = ![t.val % 11, t.val / 11]
    ∧ win0_2.index t = ![0, 0] ∧ win0_3.index t = ![0, 0] ∧ win0_4.index t = ![0, t.val / 11] ∧ win0_5.index t = ![t.val % 11, t.val / 11]
    ∧ win0_6.index t = ![t.val % 11, t.val / 11] := (by decide +kernel : ∀ t : Fin grid0.N, _)
theorem crd : ∀ t : Fin cfg0.N, (grid0.coords t 0).val = t.val / 11 := (by decide +kernel : ∀ t : Fin grid0.N, _)

variable (m : (ℓ : Loc nD τ sig) → Buf (Elt Ideal) ℓ) (c : Dev nD)

section
variable (Q Kk : Fin 8448 → Fin 1024 → ℝ) (O Vv : Fin 8448 → Fin 512 → ℝ) (L D : Fin 8 → Fin 8448 → ℝ)

theorem iblk_K (hK : V m c main_v61 = mat .bf16 Kk) (t : Fin cfg0.N) :
    (iblk m c 0 t : FVec Ideal S768x256 .bf16) = mat .bf16 fun k x => Kk (key (jb t) k) (colQ (hd t) x) := by
  funext y
  have e : iblk m c 0 t y = V m c main_v61 (((cfg0.win 0).blk t).view.emb y) := rfl
  rw [e, hK]
  refine congrArg (fun v : ℝ => (v : EReal)) (congrArg₂ Kk (Fin.ext ?_) (Fin.ext ?_))
  · blk_simp [idx t]
    first | done | (show _ = 768 * (t.val % 11) + (y 0).val; omega)
  · blk_simp [idx t]
    first | done | (show _ = 256 * (t.val / 11) + (y 1).val; omega)
theorem iblk_V (hV : V m c main_v63 = mat .bf16 Vv) (t : Fin cfg0.N) :
    (iblk m c 1 t : FVec Ideal S768x128 .bf16) = mat .bf16 fun k x => Vv (key (jb t) k) (colV (hd t) x) := by
  funext y
  have e : iblk m c 1 t y = V m c main_v63 (((cfg0.win 1).blk t).view.emb y) := rfl
  rw [e, hV]
  refine congrArg (fun v : ℝ => (v : EReal)) (congrArg₂ Vv (Fin.ext ?_) (Fin.ext ?_))
  · blk_simp [idx t]
    first | done | (show _ = 768 * (t.val % 11) + (y 0).val; omega)
  · blk_simp [idx t]
    first | done | (show _ = 128 * (t.val / 11) + (y 1).val; omega)
theorem iblk_L (hL : V m c main_v64 = mat .f32 L) (t : Fin cfg0.N) :
    (iblk m c 2 t : FVec Ideal S8x8448 .f32) = mat .f32 L := by
  funext y
  have e : iblk m c 2 t y = V m c main_v64 (((cfg0.win 2).blk t).view.emb y) := rfl
  rw [e, hL]
  refine congrArg (fun v : ℝ => (v : EReal)) (congrArg₂ L (Fin.ext ?_) (Fin.ext ?_))
  · blk_simp [idx t]
    first | done | (show _ = (y 0).val; omega)
  · blk_simp [idx t]
    first | done | (show _ = (y 1).val; omega)
theorem iblk_D (hD : V m c main_v65 = mat .f32 D) (t : Fin cfg0.N) :
    (iblk m c 3 t : FVec Ideal S8x8448 .f32) = mat .f32 D := by
  funext y
  have e : iblk m c 3 t y = V m c main_v65 (((cfg0.win 3).blk t).view.emb y) := rfl
  rw [e, hD]
  refine congrArg (fun v : ℝ => (v : EReal)) (congrArg₂ D (Fin.ext ?_) (Fin.ext ?_))
  · blk_simp [idx t]
    first | done | (show _ = (y 0).val; omega)
  · blk_simp [idx t]
    first | done | (show _ = (y 1).val; omega)
theorem qAt_real (hQ : V m c main_v59 = mat .bf16 Q) (t : Fin cfg0.N) : qAt m c t = mat .bf16 fun r x => Q r (colQ (hd t) x) := by
  have e : valQ m c = mat .bf16 Q := Eq.trans rfl hQ
  unfold qAt
  rw [e]
  exact window_mat .bf16 Q _ id (colQ (hd t)) _ (fun r => (Nat.zero_add _).symm) (fun r => by
    show 256 * (t.val / 11) + r.val = 256 * (grid0.coords t 0).val + r.val
    rw [crd t])
theorem dAt_real (hO : V m c main_v66 = mat .bf16 O) (t : Fin cfg0.N) : dAt m c t = mat .bf16 fun r x => O r (colV (hd t) x) := by
  have e : valD m c = mat .bf16 O := Eq.trans rfl hO
  unfold dAt
  rw [e]
  exact window_mat .bf16 O _ id (colV (hd t)) _ (fun r => (Nat.zero_add _).symm) (fun r => by
    show 128 * (t.val / 11) + r.val = 128 * (grid0.coords t 0).val + r.val
    rw [crd t])

/-- A head among the eight rows of the statistics. -/
def row8 (h : Fin 4) : Fin 8 := ⟨h.val, by omega⟩
theorem head_coords (t : Fin cfg0.N) : head (grid0.coords t) = row8 (hd t) := Fin.ext (crd t)

/-- The visible pairs' weights. -/
def wt (h : Fin 4) (n r : Fin 8448) : ℝ :=
  if 256 ≤ r.val ∨ n.val < 256 then weight (fun n x => Kk n (colQ h x)) (fun r x => Q r (colQ h x)) (L (row8 h)) n r else 0
/-- The visible pairs' slopes. -/
def sl (h : Fin 4) (n r : Fin 8448) : ℝ :=
  if 256 ≤ r.val ∨ n.val < 256 then
    slope (fun n x => Kk n (colQ h x)) (fun n x => Vv n (colV h x)) (fun r x => Q r (colQ h x)) (fun r x => O r (colV h x)) (L (row8 h)) (D (row8 h)) n r
  else 0

theorem grow_keys (j : Fin 11) (f : Fin 8448 → ℝ) : (∑ n : Fin 8448, if n.val < 768 * (j.val + 1) then f n else 0)
    = (∑ n : Fin 8448, if n.val < 768 * j.val then f n else 0) + ∑ k, f (key j k) := by
  have h := sum_grow (N := 8448) 0 (768 * j.val) 768 (Nat.zero_le _) (by omega) f
  simp only [Nat.zero_le, true_and] at h
  exact h

/-- The sums after a point. -/
theorem sums_real (hQ : V m c main_v59 = mat .bf16 Q) (hK : V m c main_v61 = mat .bf16 Kk) (hV : V m c main_v63 = mat .bf16 Vv)
    (hL : V m c main_v64 = mat .f32 L) (hD : V m c main_v65 = mat .f32 D) (hO : V m c main_v66 = mat .bf16 O) (n : ℕ) (hn : n < cfg0.N) :
    sums m c n hn = (mat .f32 fun r x => ∑ k : Fin 8448, if k.val < 768 * ((jb ⟨n, hn⟩).val + 1) then
        sl Q Kk O Vv L D (hd ⟨n, hn⟩) k r * Kk k (colQ (hd ⟨n, hn⟩) x) else 0,
      mat .f32 fun k x => ∑ r, sl Q Kk O Vv L D (hd ⟨n, hn⟩) (key (jb ⟨n, hn⟩) k) r * Q r (colQ (hd ⟨n, hn⟩) x),
      mat .f32 fun k e => ∑ r, wt Q Kk L (hd ⟨n, hn⟩) (key (jb ⟨n, hn⟩) k) r * O r (colV (hd ⟨n, hn⟩) e)) := by
  have first (t : Fin cfg0.N) (h0 : t.val % 11 = 0) : sums m c t.val t.isLt = (mat .f32 fun r x => ∑ k : Fin 8448, if k.val < 768 * ((jb t).val + 1) then
        sl Q Kk O Vv L D (hd t) k r * Kk k (colQ (hd t) x) else 0,
      mat .f32 fun k x => ∑ r, sl Q Kk O Vv L D (hd t) (key (jb t) k) r * Q r (colQ (hd t) x),
      mat .f32 fun k e => ∑ r, wt Q Kk L (hd t) (key (jb t) k) r * O r (colV (hd t) e)) := by
    have hk (k : Fin 768) : (key (jb t) k).val = k.val := by show 768 * (t.val % 11) + k.val = k.val; omega
    rw [sums_first m c t h0, iblk_K m c Kk hK, iblk_V m c Vv hV, iblk_L m c L hL, iblk_D m c D hD, qAt_real m c Q hQ, dAt_real m c O hO, first_real,
      head_coords]
    refine mats_ext (fun r x => ?_) (fun k x => ?_) (fun k x => ?_)
    · have hz : ∀ k : Fin 8448, ¬k.val < 768 * (jb t).val := fun k => by show ¬k.val < 768 * (t.val % 11); omega
      rw [grow_keys]
      simp only [hz, if_false, Finset.sum_const_zero, zero_add]
      exact Finset.sum_congr rfl fun k _ => by unfold sl; rw [hk]; rfl
    · exact Finset.sum_congr rfl fun r _ => by unfold sl; rw [hk]; rfl
    · exact Finset.sum_congr rfl fun r _ => by unfold wt; rw [hk]; rfl
  have next (t : Fin cfg0.N) (p : Fin 8448 → Fin 256 → ℝ) (h0 : ¬t.val % 11 = 0)
      (hp : (sums m c (t.val - 1) (Nat.lt_of_le_of_lt (Nat.sub_le _ _) t.isLt)).1 = mat .f32 p) :
      sums m c t.val t.isLt = (mat .f32 fun r x => p r x + ∑ k, sl Q Kk O Vv L D (hd t) (key (jb t) k) r * Kk (key (jb t) k) (colQ (hd t) x),
      mat .f32 fun k x => ∑ r, sl Q Kk O Vv L D (hd t) (key (jb t) k) r * Q r (colQ (hd t) x),
      mat .f32 fun k e => ∑ r, wt Q Kk L (hd t) (key (jb t) k) r * O r (colV (hd t) e)) := by
    have hk (r : Fin 8448) (k : Fin 768) : (256 ≤ r.val ∨ (key (jb t) k).val < 256) ↔ 256 ≤ r.val := by
      have : (key (jb t) k).val = 768 * (t.val % 11) + k.val := rfl
      omega
    rw [sums_next m c t h0, hp, pay12, pay13, iblk_K m c Kk hK, iblk_V m c Vv hV, iblk_L m c L hL, iblk_D m c D hD, qAt_real m c Q hQ, dAt_real m c O hO,
      allTrips_real, head_coords]
    refine mats_ext (fun r x => ?_) (fun k x => ?_) (fun k x => ?_)
    · exact congrArg (p r x + ·) (Finset.sum_congr rfl fun k _ => by unfold sl; simp only [hk]; rfl)
    · rw [zero_add]; exact Finset.sum_congr rfl fun r _ => by unfold sl; simp only [hk]; rfl
    · rw [zero_add]; exact Finset.sum_congr rfl fun r _ => by unfold wt; simp only [hk]; rfl
  induction n with
  | zero => exact first ⟨0, hn⟩ rfl
  | succ n ih =>
    by_cases h0 : (n + 1) % 11 = 0
    · exact first ⟨n + 1, hn⟩ h0
    · have ih' := ih (Nat.lt_of_succ_lt hn)
      refine (next ⟨n + 1, hn⟩ (fun r x => ∑ k : Fin 8448, if k.val < 768 * ((jb ⟨n, Nat.lt_of_succ_lt hn⟩).val + 1) then
          sl Q Kk O Vv L D (hd ⟨n, Nat.lt_of_succ_lt hn⟩) k r * Kk k (colQ (hd ⟨n, Nat.lt_of_succ_lt hn⟩) x) else 0) h0
        (show (sums m c n _).1 = _ by rw [ih'])).trans ?_
      have eh : hd ⟨n, Nat.lt_of_succ_lt hn⟩ = hd ⟨n + 1, hn⟩ := Fin.ext (show n / 11 = (n + 1) / 11 by omega)
      have ej : (jb ⟨n, Nat.lt_of_succ_lt hn⟩).val + 1 = (jb ⟨n + 1, hn⟩).val := show n % 11 + 1 = (n + 1) % 11 by omega
      refine mats_ext (fun r x => ?_) (fun _ _ => rfl) (fun _ _ => rfl)
      rw [grow_keys (jb ⟨n + 1, hn⟩), eh, ej]

/-- A column's head and its place within the head. -/
def hdQ (C : Fin 1024) : Fin 4 := ⟨C.val / 256, by omega⟩
def hdV (C : Fin 512) : Fin 4 := ⟨C.val / 128, by omega⟩

variable (hQ : V m c main_v59 = mat .bf16 Q) (hK : V m c main_v61 = mat .bf16 Kk) (hV : V m c main_v63 = mat .bf16 Vv)
  (hL : V m c main_v64 = mat .f32 L) (hD : V m c main_v65 = mat .f32 D) (hO : V m c main_v66 = mat .bf16 O)
include hQ hK hV hL hD hO

/-- The queries' gradient. -/
theorem final_dq : (dats m 0 c).arrAt 4 (cfgs 0).N
    = mat .f32 fun r C => (∑ k, sl Q Kk O Vv L D (hdQ C) k r * Kk k C) * Real.log 2 := by
  refine (dats m 0 c).arrAt_eq_of_covers 4 _ (by decide +kernel) fun t hf y => ?_
  have hf' : t.val % 11 = 10 := (flush0_4 t).mp hf
  have e : (dats m 0 c).after 4 t = mat .f32 fun r x => (∑ k, sl Q Kk O Vv L D (hd t) k r * Kk k (colQ (hd t) x)) * Real.log 2 := by
    have hall (k : Fin 8448) : k.val < 768 * ((jb t).val + 1) := by show k.val < 768 * (t.val % 11 + 1); omega
    rw [after_4]; unfold dqAt
    rw [if_pos hf', sums_real m c Q Kk O Vv L D hQ hK hV hL hD hO, pay1]
    simp only [hall, if_true]
  have core : ∀ (r r' : Fin 8448) (x : Fin 256) (C : Fin 1024), r = r' → hdQ C = hd t → colQ (hd t) x = C →
      (((∑ k, sl Q Kk O Vv L D (hd t) k r * Kk k (colQ (hd t) x)) * Real.log 2 : ℝ) : EReal)
        = (((∑ k, sl Q Kk O Vv L D (hdQ C) k r' * Kk k C) * Real.log 2 : ℝ) : EReal) := by
    rintro r _ x C rfl h1 rfl; rw [h1]
  blk_simp
  rw [e]
  refine core _ _ _ _ (Fin.ext ?_) (Fin.ext ?_) (Fin.ext ?_)
  · blk_simp [idx t]
  · show (((win0_4.blk t).view.emb y) 1).val / 256 = t.val / 11
    have hy : (y 1).val < 256 := (y 1).isLt
    blk_simp [idx t]
    omega
  · show 256 * (t.val / 11) + (y 1).val = (((win0_4.blk t).view.emb y) 1).val
    blk_simp [idx t]
    omega

/-- The keys' gradient. -/
theorem final_dk : (dats m 0 c).arrAt 5 (cfgs 0).N
    = mat .f32 fun n C => (∑ r, sl Q Kk O Vv L D (hdQ C) n r * Q r C) * Real.log 2 := by
  refine (dats m 0 c).arrAt_eq_of_covers 5 _ (by decide +kernel) fun t hf y => ?_
  have e : (dats m 0 c).after 5 t = mat .f32 fun k x => (∑ r, sl Q Kk O Vv L D (hd t) (key (jb t) k) r * Q r (colQ (hd t) x)) * Real.log 2 := by
    rw [after_5, sums_real m c Q Kk O Vv L D hQ hK hV hL hD hO, pay18]
  have core : ∀ (k : Fin 768) (n : Fin 8448) (x : Fin 256) (C : Fin 1024), key (jb t) k = n → hdQ C = hd t → colQ (hd t) x = C →
      (((∑ r, sl Q Kk O Vv L D (hd t) (key (jb t) k) r * Q r (colQ (hd t) x)) * Real.log 2 : ℝ) : EReal)
        = (((∑ r, sl Q Kk O Vv L D (hdQ C) n r * Q r C) * Real.log 2 : ℝ) : EReal) := by
    rintro k _ x C rfl h1 rfl; rw [h1]
  blk_simp
  rw [e]
  refine core _ _ _ _ (Fin.ext ?_) (Fin.ext ?_) (Fin.ext ?_)
  · show 768 * (t.val % 11) + (y 0).val = (((win0_5.blk t).view.emb y) 0).val
    blk_simp [idx t]
    omega
  · show (((win0_5.blk t).view.emb y) 1).val / 256 = t.val / 11
    have hy : (y 1).val < 256 := (y 1).isLt
    blk_simp [idx t]
    omega
  · show 256 * (t.val / 11) + (y 1).val = (((win0_5.blk t).view.emb y) 1).val
    blk_simp [idx t]
    omega

/-- The values' gradient. -/
theorem final_dv : (dats m 0 c).arrAt 6 (cfgs 0).N = mat .f32 fun n C => ∑ r, wt Q Kk L (hdV C) n r * O r C := by
  refine (dats m 0 c).arrAt_eq_of_covers 6 _ (by decide +kernel) fun t hf y => ?_
  have e : (dats m 0 c).after 6 t = mat .f32 fun k x => ∑ r, wt Q Kk L (hd t) (key (jb t) k) r * O r (colV (hd t) x) := by
    rw [after_6, sums_real m c Q Kk O Vv L D hQ hK hV hL hD hO]
  have core : ∀ (k : Fin 768) (n : Fin 8448) (x : Fin 128) (C : Fin 512), key (jb t) k = n → hdV C = hd t → colV (hd t) x = C →
      (((∑ r, wt Q Kk L (hd t) (key (jb t) k) r * O r (colV (hd t) x)) : ℝ) : EReal)
        = (((∑ r, wt Q Kk L (hdV C) n r * O r C) : ℝ) : EReal) := by
    rintro k _ x C rfl h1 rfl; rw [h1]
  blk_simp
  rw [e]
  refine core _ _ _ _ (Fin.ext ?_) (Fin.ext ?_) (Fin.ext ?_)
  · show 768 * (t.val % 11) + (y 0).val = (((win0_6.blk t).view.emb y) 0).val
    blk_simp [idx t]
    omega
  · show (((win0_6.blk t).view.emb y) 1).val / 128 = t.val / 11
    have hy : (y 1).val < 128 := (y 1).isLt
    blk_simp [idx t]
    omega
  · show 128 * (t.val / 11) + (y 1).val = (((win0_6.blk t).view.emb y) 1).val
    blk_simp [idx t]
    omega
end

end Cert.Mla

end
-- ==== Proof.MlaOperands.lean ====
/- # The operands of the call, and the weights and slopes it forms from them

The six operands as matrices of reals; with them the call's weights are attention's probabilities and its slopes the derivatives by the
scaled scores.
-/
module

public import proofs.«01_k».proof.Proof.MlaHost
public import proofs.«01_k».proof.Proof.MlaArr

@[expose] public section

set_option maxRecDepth 16384

noncomputable section

namespace Cert.Mla

open Idealize.ShloMosaic Idealize.ShloMosaic.TcCoe Idealize.SL.Sem
open Cert.MlaBwdIdeal Cert.MlaBwdIdeal.Gen

theorem sum_cat (a a' : Fin 128 → ℝ) (b b' : Fin 64 → ℝ) : ∑ x, cat a b x * cat a' b' x = ∑ x, a x * a' x + ∑ y, b y * b' y := by
  rw [Fin.sum_univ_add (a := 128) (b := 128) (fun x => cat a b x * cat a' b' x),
    Fin.sum_univ_add (a := 64) (b := 64) (fun j => cat a b (Fin.natAdd 128 j) * cat a' b' (Fin.natAdd 128 j))]
  have e1 : ∀ (a : Fin 128 → ℝ) (b : Fin 64 → ℝ) (x : Fin 128), cat a b (Fin.castAdd 128 x) = a x := fun a b x => dif_pos x.isLt
  have e2 : ∀ (a : Fin 128 → ℝ) (b : Fin 64 → ℝ) (y : Fin 64), cat a b (Fin.natAdd 128 (Fin.castAdd 64 y)) = b y := fun a b y => by
    have h1 : ¬(Fin.natAdd 128 (Fin.castAdd 64 y)).val < 128 := by simp
    have h2 : (Fin.natAdd 128 (Fin.castAdd 64 y)).val < 192 := by simp; omega
    rw [cat, dif_neg h1, dif_pos h2]
    exact congrArg b (Fin.ext (by simp))
  have e3 : ∀ (a : Fin 128 → ℝ) (b : Fin 64 → ℝ) (y : Fin 64), cat a b (Fin.natAdd 128 (Fin.natAdd 64 y)) = 0 := fun a b y => by
    have h1 : ¬(Fin.natAdd 128 (Fin.natAdd 64 y)).val < 128 := by simp
    have h2 : ¬(Fin.natAdd 128 (Fin.natAdd 64 y)).val < 192 := not_lt.mpr (show 192 ≤ 128 + (64 + y.val) by omega)
    rw [cat, dif_neg h1, dif_neg h2]
  simp only [e1, e2, e3, mul_zero, Finset.sum_const_zero, add_zero]

section
variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)

/-- The packed scores are the scaled ones in base two. -/
theorem score2_mul (h : Fin 4) (r n : Fin 8448) : score2 A0 A1 A2 A3 h r n * Real.log 2 = score A0 A1 A2 A3 h r n := by
  have e : ∀ x, q4 A0 A1 r h x * k4 A2 A3 n h x = cat (A0 r h) (A1 r h) x * cat (A2 n h) (A3 n) x * (scale / Real.log 2) := fun x => by
    rw [q4, k4]; ring
  rw [score2, score, Finset.sum_congr rfl fun x _ => e x, ← Finset.sum_mul, sum_cat, mul_assoc, div_mul_cancel₀ _ log_two_ne]

/-- The column of a head's packed queries, and of its values. -/
def coQ (C : Fin 1024) : Fin 256 := ⟨C.val % 256, by omega⟩
def coV (C : Fin 512) : Fin 128 := ⟨C.val % 128, by omega⟩
/-- The packed arrays as matrices. -/
def packQ (r : Fin 8448) (C : Fin 1024) : ℝ := q4 A0 A1 r (hdQ C) (coQ C)
def packK (n : Fin 8448) (C : Fin 1024) : ℝ := k4 A2 A3 n (hdQ C) (coQ C)
def packV (n : Fin 8448) (C : Fin 512) : ℝ := A4 n (hdV C) (coV C)

theorem hdQ_col (h : Fin 4) (x : Fin 256) : hdQ (colQ h x) = h := Fin.ext (by show (256 * h.val + x.val) / 256 = h.val; omega)
theorem coQ_col (h : Fin 4) (x : Fin 256) : coQ (colQ h x) = x := Fin.ext (by show (256 * h.val + x.val) % 256 = x.val; omega)
theorem hdV_col (h : Fin 4) (e : Fin 128) : hdV (colV h e) = h := Fin.ext (by show (128 * h.val + e.val) / 128 = h.val; omega)
theorem coV_col (h : Fin 4) (e : Fin 128) : coV (colV h e) = e := Fin.ext (by show (128 * h.val + e.val) % 128 = e.val; omega)

theorem packQ_col (r : Fin 8448) (h : Fin 4) (x : Fin 256) : packQ A0 A1 r (colQ h x) = q4 A0 A1 r h x := by rw [packQ, hdQ_col, coQ_col]
theorem packK_col (n : Fin 8448) (h : Fin 4) (x : Fin 256) : packK A2 A3 n (colQ h x) = k4 A2 A3 n h x := by rw [packK, hdQ_col, coQ_col]
theorem packV_col (n : Fin 8448) (h : Fin 4) (e : Fin 128) : packV A4 n (colV h e) = A4 n h e := by rw [packV, hdV_col, coV_col]

/-- What the rows of the log-sums must give: two to the score less the log-sum is the probability, where the row sees the key. -/
def GivesProb (L : Fin 8 → Fin 8448 → ℝ) : Prop := ∀ (h : Fin 4) (r n : Fin 8448), (256 ≤ r.val ∨ n.val < 256) →
  (2 : ℝ) ^ (score2 A0 A1 A2 A3 h r n - L (row8 h) r) = prob A0 A1 A2 A3 h r n
/-- The rows of the sums of output times cotangent. -/
def GivesDelta (D : Fin 8 → Fin 8448 → ℝ) : Prop := ∀ (h : Fin 4) (r : Fin 8448),
  D (row8 h) r = ∑ n, prob A0 A1 A2 A3 h r n * dprob A4 A5 h r n

variable (L D : Fin 8 → Fin 8448 → ℝ) (hL : GivesProb A0 A1 A2 A3 L) (hD : GivesDelta A0 A1 A2 A3 A4 A5 D)
include hL
theorem wt_eq (h : Fin 4) (n r : Fin 8448) : wt (packQ A0 A1) (packK A2 A3) L h n r = prob A0 A1 A2 A3 h r n := by
  unfold wt
  by_cases hv : 256 ≤ r.val ∨ n.val < 256
  · rw [if_pos hv, ← hL h r n hv, weight, score2]
    simp only [packQ_col, packK_col, mul_comm]
  · rw [if_neg hv, prob, expo, if_neg hv, zero_div]
include hD in
theorem sl_eq (h : Fin 4) (n r : Fin 8448) :
    sl (packQ A0 A1) (packK A2 A3) A5 (packV A4) L D h n r = dscore A0 A1 A2 A3 A4 A5 h r n := by
  have hw := wt_eq A0 A1 A2 A3 L hL h n r
  unfold wt at hw
  unfold sl
  by_cases hv : 256 ≤ r.val ∨ n.val < 256
  · rw [if_pos hv] at hw ⊢
    rw [slope, hw, dscore, dprob, hD h r]
    simp only [packV_col]
  · rw [if_neg hv] at hw ⊢
    rw [dscore, ← hw, zero_mul]
end

section
variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)
variable (m : (ℓ : Loc nD τ sig) → Buf (Elt Ideal) ℓ) (c : Dev nD)
variable (h0 : @Eq (FVec Ideal S8448x4x128 .f32) (m (c.tc.loc main_arg0)) (arr A0)) (h1 : @Eq (FVec Ideal S8448x4x64 .f32) (m (c.tc.loc main_arg1)) (arr A1))
  (h2 : @Eq (FVec Ideal S8448x4x128 .f32) (m (c.tc.loc main_arg2)) (arr A2)) (h3 : @Eq (FVec Ideal S8448x64 .f32) (m (c.tc.loc main_arg3)) (mat .f32 A3))
  (h4 : @Eq (FVec Ideal S8448x4x128 .f32) (m (c.tc.loc main_arg4)) (arr A4)) (h5 : @Eq (FVec Ideal S8448x512 .f32) (m (c.tc.loc main_arg5)) (mat .f32 A5))

include h0 h1 in
theorem R_v59 : @Eq (FVec Ideal S8448x1024 .bf16) (V m c main_v59) (mat .bf16 (packQ A0 A1)) := by
  rw [Entry.v59, Entry.v58, R_v5 A0 A1 m c h0 h1]
  funext x
  pointwise [arr, mat]
  rfl
include h2 h3 in
theorem R_v61 : @Eq (FVec Ideal S8448x1024 .bf16) (V m c main_v61) (mat .bf16 (packK A2 A3)) := by
  rw [Entry.v61, Entry.v60, R_v8 A2 A3 m c h2 h3]
  funext x
  pointwise [arr, mat]
  rfl
include h4 in
theorem R_v63 : @Eq (FVec Ideal S8448x512 .bf16) (V m c main_v63) (mat .bf16 (packV A4)) := by
  rw [Entry.v63, Entry.v62, V_main_arg4]
  funext x
  erw [h4]
  pointwise [arr, mat]
  rfl
include h5 in
theorem R_v66 : @Eq (FVec Ideal S8448x512 .bf16) (V m c main_v66) (mat .bf16 A5) := by
  rw [Entry.v66, V_main_arg5]
  funext x
  erw [h5]
  pointwise [mat]

/-- The shares taken with shifted scores in base two are the probabilities. -/
theorem shift_ctx (h : Fin 4) (r n : Fin 256) (M : ℝ) :
    Real.exp ((score2 A0 A1 A2 A3 h (ctx r) (ctx n) - M) * Real.log 2)
      / ∑ k : Fin 256, Real.exp ((score2 A0 A1 A2 A3 h (ctx r) (ctx k) - M) * Real.log 2) = prob A0 A1 A2 A3 h (ctx r) (ctx n) := by
  simp only [sub_mul, score2_mul]
  rw [softmax_shift (fun k : Fin 256 => score A0 A1 A2 A3 h (ctx r) (ctx k)), prob_ctx]
theorem shift_lat (h : Fin 4) (r : Fin 8192) (n : Fin 8448) (M : ℝ) :
    Real.exp ((score2 A0 A1 A2 A3 h (lat r) n - M) * Real.log 2)
      / ∑ k, Real.exp ((score2 A0 A1 A2 A3 h (lat r) k - M) * Real.log 2) = prob A0 A1 A2 A3 h (lat r) n := by
  simp only [sub_mul, score2_mul]
  rw [softmax_shift (fun k => score A0 A1 A2 A3 h (lat r) k), prob_lat]

/-- A row's output, from shifted scores. -/
theorem out_ctx (h : Fin 4) (r : Fin 256) (e : Fin 128) (M : ℝ) :
    (∑ n : Fin 256, Real.exp ((score2 A0 A1 A2 A3 h (ctx r) (ctx n) - M) * Real.log 2) * A4 (ctx n) h e)
      / ∑ k : Fin 256, Real.exp ((score2 A0 A1 A2 A3 h (ctx r) (ctx k) - M) * Real.log 2) = ∑ n, prob A0 A1 A2 A3 h (ctx r) n * A4 n h e := by
  rw [sum_prob_ctx A0 A1 A2 A3 h r fun n => A4 n h e, Finset.sum_div]
  refine Finset.sum_congr rfl fun n _ => ?_
  rw [mul_div_right_comm, shift_ctx]
theorem out_lat (h : Fin 4) (r : Fin 8448) (hr : ¬r.val < 256) (e : Fin 128) (M : ℝ) :
    (∑ n, Real.exp ((score2 A0 A1 A2 A3 h (lat ⟨r.val - 256, by omega⟩) n - M) * Real.log 2) * A4 n h e)
      / ∑ k, Real.exp ((score2 A0 A1 A2 A3 h (lat ⟨r.val - 256, by omega⟩) k - M) * Real.log 2) = ∑ n, prob A0 A1 A2 A3 h r n * A4 n h e := by
  rw [Finset.sum_div]
  refine Finset.sum_congr rfl fun n _ => ?_
  have hl : lat ⟨r.val - 256, by omega⟩ = r := Fin.ext (by show 256 + (r.val - 256) = r.val; omega)
  rw [mul_div_right_comm, shift_lat, hl]

include h0 h1 h2 h3
/-- The log-sums the call is given. -/
theorem R_v64 : ∃ L : Fin 8 → Fin 8448 → ℝ, @Eq (FVec Ideal S8x8448 .f32) (V m c main_v64) (mat .f32 L) ∧ GivesProb A0 A1 A2 A3 L := by
  obtain ⟨M, hM⟩ := R_v13 A0 A1 A2 A3 m c h0 h1 h2 h3
  obtain ⟨M', hM'⟩ := R_v33 A0 A1 A2 A3 m c h0 h1 h2 h3
  refine ⟨fun g r => if hg : g.val < 4 then if hr : r.val < 256 then
      logSum (fun n : Fin 256 => score2 A0 A1 A2 A3 ⟨g.val, hg⟩ (ctx ⟨r.val, hr⟩) (ctx n)) (M ⟨g.val, hg⟩ ⟨r.val, hr⟩)
    else logSum (fun n => score2 A0 A1 A2 A3 ⟨g.val, hg⟩ (lat ⟨r.val - 256, by omega⟩) n) (M' ⟨g.val, hg⟩ ⟨r.val - 256, by omega⟩) else 0, ?_, ?_⟩
  · rw [Entry.v64, Entry.v57, Entry.cst_7, Entry.v52, R_v30 A0 A1 A2 A3 m c h0 h1 h2 h3 M hM, R_v50 A0 A1 A2 A3 m c h0 h1 h2 h3 M' hM']
    funext x
    pointwise [mat]
    by_cases hg : (x 0).val < 4
    · rw [dif_pos hg, dif_pos hg]
      by_cases hr : (x 1).val < 256
      · rw [dif_pos hr, dif_pos hr]
      · rw [dif_neg hr, dif_neg hr]
    · rw [dif_neg hg, dif_neg hg]; exact EReal.coe_zero.symm
  · intro h r n hv
    have hg : (row8 h).val < 4 := h.isLt
    dsimp only
    rw [dif_pos hg]
    rcases row_cases r with ⟨k, rfl⟩ | ⟨k, rfl⟩
    · have hn : n.val < 256 := hv.resolve_left (not_le.mpr k.isLt)
      rw [dif_pos (show (ctx k).val < 256 from k.isLt)]
      refine (two_pow_logSum (fun n : Fin 256 => score2 A0 A1 A2 A3 h (ctx k) (ctx n)) _ ⟨n.val, hn⟩).trans ?_
      simp only [score2_mul]
      exact (prob_ctx A0 A1 A2 A3 h k ⟨n.val, hn⟩).symm
    · have e : (⟨(lat k).val - 256, by omega⟩ : Fin 8192) = k := Fin.ext (Nat.add_sub_cancel_left 256 k.val)
      have hk : ¬(lat k).val < 256 := not_lt.mpr (Nat.le_add_right 256 k.val)
      rw [dif_neg hk, e]
      refine (two_pow_logSum (fun n => score2 A0 A1 A2 A3 h (lat k) n) _ n).trans ?_
      simp only [score2_mul]
      exact (prob_lat A0 A1 A2 A3 h k n).symm

include h4
/-- The output. -/
theorem R_v51 : @Eq (FVec Ideal S4x8448x128 .f32) (V m c main_v51) (arr fun h r e => ∑ n, prob A0 A1 A2 A3 h r n * A4 n h e) := by
  obtain ⟨M, hM⟩ := R_v13 A0 A1 A2 A3 m c h0 h1 h2 h3
  obtain ⟨M', hM'⟩ := R_v33 A0 A1 A2 A3 m c h0 h1 h2 h3
  rw [Entry.v51, R_v24 A0 A1 A2 A3 A4 m c h0 h1 h2 h3 h4 M hM, R_v44 A0 A1 A2 A3 A4 m c h0 h1 h2 h3 h4 M' hM']
  funext x
  pointwise [arr]
  by_cases hr : (x 1).val < 256
  · exact (dif_pos hr).trans (congrArg (fun r : ℝ => (r : EReal)) (out_ctx A0 A1 A2 A3 A4 (x 0) ⟨(x 1).val, hr⟩ (x 2) _))
  · exact (dif_neg hr).trans (congrArg (fun r : ℝ => (r : EReal)) (out_lat A0 A1 A2 A3 A4 (x 0) (x 1) hr (x 2) _))

include h5
/-- The row sums of output times cotangent the call is given. -/
theorem R_v65 : ∃ D : Fin 8 → Fin 8448 → ℝ, @Eq (FVec Ideal S8x8448 .f32) (V m c main_v65) (mat .f32 D) ∧ GivesDelta A0 A1 A2 A3 A4 A5 D := by
  refine ⟨fun g r => if hg : g.val < 4 then ∑ n, prob A0 A1 A2 A3 ⟨g.val, hg⟩ r n * dprob A4 A5 ⟨g.val, hg⟩ r n else 0, ?_, ?_⟩
  · rw [Entry.v65, Entry.v57, Entry.cst_7, Entry.v56, Entry.cst_6, Entry.v55, Entry.v54, Entry.v53, V_main_arg5,
      R_v51 A0 A1 A2 A3 A4 m c h0 h1 h2 h3 h4]
    funext x
    erw [h5]
    pointwise [arr, mat]
    by_cases hg : (x 0).val < 4
    · rw [dif_pos hg, dif_pos hg]
      simp only [← EReal.coe_mul, coe_sum]
      refine congrArg (fun r : ℝ => (r : EReal)) (Eq.trans (Finset.sum_congr rfl fun e _ => ?_) (sum_out A0 A1 A2 A3 A4 A5 ⟨(x 0).val, hg⟩ (x 1)))
      exact congrArg (fun C => A5 (x 1) C * _) (Fin.ext (by show (x 0).val * 128 + e.val = 128 * (x 0).val + e.val; omega))
    · rw [dif_neg hg, dif_neg hg]; exact EReal.coe_zero.symm
  · intro h r
    exact dif_pos (show (row8 h).val < 4 from h.isLt)
end

end Cert.Mla

end
-- ==== Proof.MlaRunA.lean ====
/- # One grid point, run

The kernel's body at each kind of grid point leaves exactly what the functions of vectors say.
-/
module

public import proofs.«01_k».proof.Proof.MlaKit
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open Idealize.ShloMosaic.Pipeline (Dat Cfg Window cellOf)
open VecWindow (window put)

variable {F : FTy → Type} [FloatOps F] [Named F]

local notation "𝕄" => MT nD τ sig Unit (Elt F) ℕ (Pipeline.UD sig nD τ) ℕ

set_option maxHeartbeats 1000000 in
/-- The first block of keys of a head: the head's columns are copied, the queries' gradient starts at zero, the context rows are done, then the chunks. -/
theorem run_first (c : Dev nD) (i : grid0.Coords) (arg4 : Memref sig .tc .vmem S768x256 .bf16) (harg4 : arg4.IsWhole) (arg5 : Memref sig .tc .vmem S768x128 .bf16) (harg5 : arg5.IsWhole) (arg6 : Memref sig .tc .vmem S8x8448 .f32) (harg6 : arg6.IsWhole) (arg7 : Memref sig .tc .vmem S8x8448 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (arg11 : Memref sig .tc .vmem S8448x256 .bf16) (harg11 : arg11.IsWhole) (arg12 : Memref sig .tc .vmem S8448x128 .bf16) (harg12 : arg12.IsWhole) (arg13 : Memref sig .tc .vmem S768x256 .f32) (harg13 : arg13.IsWhole) (arg14 : Memref sig .tc .vmem S768x128 .f32) (harg14 : arg14.IsWhole) (hc0 : k0_cond1 i = 1#1) (hc1 : k0_cond2 i = 1#1) (hc2 : ¬isLast i)
    (K : Vec F S768x256 .bf16) (V : Vec F S768x128 .bf16) (l δ : Vec F S8x8448 .f32) (fq : hbBuf (F := F) c hbQ) (fd : hbBuf (F := F) c hbD)
    (W : Waits sig Unit) (R : PUnit → sProp 𝕄) :
    iprop(owns (c : Thread nD τ) arg4 fullShare K ∗ owns (c : Thread nD τ) arg5 fullShare V ∗ owns (c : Thread nD τ) arg6 fullShare l ∗ owns (c : Thread nD τ) arg7 fullShare δ ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ hbPt c hbQ fq ∗ hbPt c hbD fd ∗ owes (c : Thread nD τ) 0 W
        ∗ (iprop(owns (c : Thread nD τ) arg4 fullShare K ∗ owns (c : Thread nD τ) arg5 fullShare V ∗ owns (c : Thread nD τ) arg6 fullShare l ∗ owns (c : Thread nD τ) arg7 fullShare δ ∗ owns (c : Thread nD τ) arg8 fullShare ((allTrips i K V (qHead i (hbQ.view.read (Elt F) fq)) (dHead i (hbD.view.read (Elt F) fd)) l δ (ctxSt i K V (qHead i (hbQ.view.read (Elt F) fq)) (dHead i (hbD.view.read (Elt F) fd)) l δ hc1)).1) ∗ owns (c : Thread nD τ) arg9 fullShare (k0_pay18 (allTrips i K V (qHead i (hbQ.view.read (Elt F) fq)) (dHead i (hbD.view.read (Elt F) fd)) l δ (ctxSt i K V (qHead i (hbQ.view.read (Elt F) fq)) (dHead i (hbD.view.read (Elt F) fd)) l δ hc1)).2.1) ∗ owns (c : Thread nD τ) arg10 fullShare (allTrips i K V (qHead i (hbQ.view.read (Elt F) fq)) (dHead i (hbD.view.read (Elt F) fd)) l δ (ctxSt i K V (qHead i (hbQ.view.read (Elt F) fq)) (dHead i (hbD.view.read (Elt F) fd)) l δ hc1)).2.2
            ∗ owns (c : Thread nD τ) arg11 fullShare (qHead i (hbQ.view.read (Elt F) fq)) ∗ owns (c : Thread nD τ) arg12 fullShare (dHead i (hbD.view.read (Elt F) fd)) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ hbPt c hbQ fq ∗ hbPt c hbD fd ∗ (∃ W', owes (c : Thread nD τ) 0 W')) -∗ R ⟨⟩))
      ⊢ wp frame (wpE (defs₀ (F := F)) Variants.none c none) Set.univ (cc0_mla_bwd i hbQ (Memref.isWhole_whole _) hbD (Memref.isWhole_whole _) arg4 harg4 arg5 harg5 arg6 harg6 arg7 harg7 arg8 harg8 arg9 harg9 arg10 harg10 arg11 harg11 arg12 harg12 arg13 harg13 arg14 harg14 cc0_scratch4) R := by
  simp only [cc0_mla_bwd_eq_skeleton]; unfold cc0_mla_bwd_skel
  simp only [k0_part3_eq_skeleton, k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hq0, Hq1, Hh0, Hh1, HW, Hk⟩
  obtain rfl := harg4.eq_unread hf0; obtain rfl := harg5.eq_unread hf1; obtain rfl := harg6.eq_unread hf2; obtain rfl := harg7.eq_unread hf3
  sl_exec (disch := first | sl_exact hc0 | sl_exact hc1 | sl_exact hc2)
  sl_step
  iapply Hk
  have hK := (View.readAt_full arg4.view (harg4.unread K) inb_S768x256_S768x256_0_0).trans (harg4.read_unread K)
  have hV := (View.readAt_full arg5.view (harg5.unread V) inb_S768x128_S768x128_0_0).trans (harg5.read_unread V)
  have hL := harg6.read_unread l
  have hΔ := harg7.read_unread δ
  have rw0 := fun {S : Shape} {e : EltTy} (v : View sig .tc .vmem S e) (f : v.ty.Contents (Elt F)) (w : (Rect.whole S).shape.Idx → Elt F e) =>
    (show v.read (Elt F) (v.writes (Elt F) f [⟨Rect.whole S, w⟩]) = w from by
      funext y
      exact View.read_writes_cons_unit_of_mem v f (fun _ => by simp) w [] y y rfl (fun a => (Nat.zero_add _).symm))
  have hQ : arg11.view.read (Elt F) (arg11.view.writes (Elt F) arg11.view.junk [⟨Rect.whole S8448x256,
      ReadAs.same.apply (View.read (Elt F) (hbQ.slice (Rect.unit (k0_off1 i) S8448x256.size (k0_off1_inb i hc0)) (fun _ => rfl)).view fq)⟩])
      = qHead i (hbQ.view.read (Elt F) fq) := by
    refine (rw0 arg11.view _ _).trans ?_
    funext y
    show hbQ.view.read (Elt F) fq ((Rect.unit (s := S8448x1024) (k0_off1 i) S8448x256.size (k0_off1_inb i hc0)).emb y) = hbQ.view.read (Elt F) fq ((Rect.unit (s := S8448x1024) ![0, 256 * (i 0).val] S8448x256.size (qInb i)).emb y)
    have g : ∀ {o o' : Fin S8448x1024.rank → ℕ} (_ : o = o') (p : ∀ a, o a + S8448x256.size a ≤ S8448x1024.size a) (p' : ∀ a, o' a + S8448x256.size a ≤ S8448x1024.size a),
        (Rect.unit (s := S8448x1024) o S8448x256.size p).emb y = (Rect.unit (s := S8448x1024) o' S8448x256.size p').emb y := by rintro _ _ rfl _ _; rfl
    exact congrArg _ (g (k0_off1_eq i) _ _)
  have hD : arg12.view.read (Elt F) (arg12.view.writes (Elt F) arg12.view.junk [⟨Rect.whole S8448x128,
      ReadAs.same.apply (View.read (Elt F) (hbD.slice (Rect.unit (k0_off2 i) S8448x128.size (k0_off2_inb i hc0)) (fun _ => rfl)).view fd)⟩])
      = dHead i (hbD.view.read (Elt F) fd) := by
    refine (rw0 arg12.view _ _).trans ?_
    funext y
    show hbD.view.read (Elt F) fd ((Rect.unit (s := S8448x512) (k0_off2 i) S8448x128.size (k0_off2_inb i hc0)).emb y) = hbD.view.read (Elt F) fd ((Rect.unit (s := S8448x512) ![0, 128 * (i 0).val] S8448x128.size (dInb i)).emb y)
    have g : ∀ {o o' : Fin S8448x512.rank → ℕ} (_ : o = o') (p : ∀ a, o a + S8448x128.size a ≤ S8448x512.size a) (p' : ∀ a, o' a + S8448x128.size a ≤ S8448x512.size a),
        (Rect.unit (s := S8448x512) o S8448x128.size p).emb y = (Rect.unit (s := S8448x512) o' S8448x128.size p').emb y := by rintro _ _ rfl _ _; rfl
    exact congrArg _ (g (k0_off2_eq i) _ _)
  have eQ := (View.readAt_unit arg11.view (arg11.view.writes (Elt F) arg11.view.junk [⟨Rect.whole S8448x256,
      ReadAs.same.apply (View.read (Elt F) (hbQ.slice (Rect.unit (k0_off1 i) S8448x256.size (k0_off1_inb i hc0)) (fun _ => rfl)).view fq)⟩])
      inb_S8448x256_S256x256_0_0 rfl inb_S8448x256_S256x256_0_0).trans (congrArg (fun x : Vec F S8448x256 .bf16 => window x ![0, 0] S256x256.size inb_S8448x256_S256x256_0_0) hQ)
  have eD := (View.readAt_unit arg12.view (arg12.view.writes (Elt F) arg12.view.junk [⟨Rect.whole S8448x128,
      ReadAs.same.apply (View.read (Elt F) (hbD.slice (Rect.unit (k0_off2 i) S8448x128.size (k0_off2_inb i hc0)) (fun _ => rfl)).view fd)⟩])
      inb_S8448x128_S256x128_0_0 rfl inb_S8448x128_S256x128_0_0).trans (congrArg (fun x : Vec F S8448x128 .bf16 => window x ![0, 0] S256x128.size inb_S8448x128_S256x128_0_0) hD)
  have eL := (View.readAt_unit arg6.view (harg6.unread l) (k0_off3_inb i hc1) rfl (k0_off3_inb i hc1)).trans (congrArg (fun x : Vec F S8x8448 .f32 => window x (k0_off3 i) S1x256.size (k0_off3_inb i hc1)) hL)
  have eΔ := (View.readAt_unit arg7.view (harg7.unread δ) (k0_off3_inb i hc1) rfl (k0_off3_inb i hc1)).trans (congrArg (fun x : Vec F S8x8448 .f32 => window x (k0_off3 i) S1x256.size (k0_off3_inb i hc1)) hΔ)
  have c5 : ∀ {a a' : Vec F S768x256 .bf16} {b b' : Vec F S768x128 .bf16} {x x' : Vec F S256x256 .bf16} {y y' : Vec F S256x128 .bf16} {z z' w w' : Vec F S1x256 .f32},
      a = a' → b = b' → x = x' → y = y' → z = z' → w = w' → k0_pay3 (k0_pay14 a) (k0_pay15 b) x y z w = k0_pay3 (k0_pay14 a') (k0_pay15 b') x' y' z' w' := by
    rintro _ _ _ _ _ _ _ _ _ _ _ _ rfl rfl rfl rfl rfl rfl; rfl
  have c5' : ∀ {a a' : Vec F S768x256 .bf16} {b b' : Vec F S768x128 .bf16} {x x' : Vec F S256x256 .bf16} {y y' : Vec F S256x128 .bf16} {z z' w w' : Vec F S1x256 .f32} {u u' : Vec F S768x256 .f32},
      a = a' → b = b' → x = x' → y = y' → z = z' → w = w' → u = u' → k0_pay5 (k0_pay14 a) (k0_pay15 b) x y z w u = k0_pay5 (k0_pay14 a') (k0_pay15 b') x' y' z' w' u' := by
    rintro _ _ _ _ _ _ _ _ _ _ _ _ _ _ rfl rfl rfl rfl rfl rfl rfl; rfl
  have c4 : ∀ {a a' : Vec F S768x256 .bf16} {x x' : Vec F S256x256 .bf16} {y y' : Vec F S256x128 .bf16} {z z' : Vec F S1x256 .f32} {u u' : Vec F S768x128 .f32},
      a = a' → x = x' → y = y' → z = z' → u = u' → k0_pay4 (k0_pay14 a) x y z u = k0_pay4 (k0_pay14 a') x' y' z' u' := by
    rintro _ _ _ _ _ _ _ _ _ _ rfl rfl rfl rfl rfl; rfl
  have c16 : ∀ {a a' : Vec F S768x256 .bf16} {x x' : Vec F S768x256 .bf16} {y y' : Vec F S256x256 .f32}, a = a' → x = x' → y = y' → k0_pay16 a x y = k0_pay16 a' x' y' := by
    rintro _ _ _ _ _ _ rfl rfl rfl; rfl
  have h8 : arg8.view.read (Elt F) (arg8.view.writes (Elt F) arg8.view.junk
      (run_first.sl.H4_2 c i arg4 harg4 arg5 harg5 arg6 harg6 arg7 harg7 arg8 arg11 arg12 hc0 hc1 K V l δ fq fd))
      = (ctxSt i K V (qHead i (hbQ.view.read (Elt F) fq)) (dHead i (hbD.view.read (Elt F) fd)) l δ hc1).1 := by
    refine (View.read_writes_cons_put arg8.view _ inb_S8448x256_S256x256_0_0 _ _ rfl).trans ?_
    have z : arg8.view.read (Elt F) (arg8.view.writes (Elt F) arg8.view.junk [⟨Rect.unit ![0, 0] S8448x256.size inb_S8448x256_S8448x256_0_0, k0_pay11⟩]) = k0_pay11 :=
      View.read_writes_full arg8.view _ inb_S8448x256_S8448x256_0_0 _ []
    refine congr (congrArg (fun x : Vec F S8448x256 .f32 => put x ![0, 0] S256x256.size) z) ?_
    refine c16 hK (c5 hK hV eQ eD eL eΔ) ?_
    exact (View.readAt_unit arg8.view _ inb_S8448x256_S256x256_0_0 rfl inb_S8448x256_S256x256_0_0).trans (congrArg (fun x : Vec F S8448x256 .f32 => window x ![0, 0] S256x256.size inb_S8448x256_S256x256_0_0) z)
  have h13 : arg13.view.read (Elt F) (arg13.view.writes (Elt F) arg13.view.junk
      (run_first.sl.HS2_2 c i arg4 harg4 arg5 harg5 arg6 harg6 arg7 harg7 arg11 arg12 arg13 hc0 hc1 K V l δ fq fd))
      = (ctxSt i K V (qHead i (hbQ.view.read (Elt F) fq)) (dHead i (hbD.view.read (Elt F) fd)) l δ hc1).2.1 := by
    refine (View.read_writes_full arg13.view _ inb_S768x256_S768x256_0_0 _ _).trans ?_
    exact c5' hK hV eQ eD eL eΔ (View.readAt_writes_full arg13.view _ inb_S768x256_S768x256_0_0 inb_S768x256_S768x256_0_0 _ [])
  have h14 : arg14.view.read (Elt F) (arg14.view.writes (Elt F) arg14.view.junk
      (run_first.sl.HS3_2 c i arg4 harg4 arg6 harg6 arg11 arg12 arg14 hc0 hc1 K l fq fd))
      = (ctxSt i K V (qHead i (hbQ.view.read (Elt F) fq)) (dHead i (hbD.view.read (Elt F) fd)) l δ hc1).2.2 := by
    refine (View.read_writes_full arg14.view _ inb_S768x128_S768x128_0_0 _ _).trans ?_
    exact c4 hK eQ eD eL (View.readAt_writes_full arg14.view _ inb_S768x128_S768x128_0_0 inb_S768x128_S768x128_0_0 _ [])
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact (exit_read i arg6 arg7 arg8 harg8 arg11 arg12 arg13 harg13 arg14 harg14 _ _ _ _ _ _ _ hK hV hQ hD hL hΔ h8 h13 h14).1
  isplitl [H5]
  · iexists _; isplitr; swap; · iexact H5
    ipureintro
    refine (View.read_writes_full arg9.view f5 inb_S768x256_S768x256_0_0 _ []).trans (congrArg k0_pay18 ?_)
    refine (View.readAt_full arg13.view _ inb_S768x256_S768x256_0_0).trans ?_
    exact (exit_read i arg6 arg7 arg8 harg8 arg11 arg12 arg13 harg13 arg14 harg14 _ _ _ _ _ _ _ hK hV hQ hD hL hΔ h8 h13 h14).2.1
  isplitl [H6]
  · iexists _; isplitr; swap; · iexact H6
    ipureintro
    refine (View.read_writes_full arg10.view f6 inb_S768x128_S768x128_0_0 _ []).trans ?_
    refine (View.readAt_full arg14.view _ inb_S768x128_S768x128_0_0).trans ?_
    exact (exit_read i arg6 arg7 arg8 harg8 arg11 arg12 arg13 harg13 arg14 harg14 _ _ _ _ _ _ _ hK hV hQ hD hL hΔ h8 h13 h14).2.2
  isplitl [HS0]
  · iexists _; isplitr; swap; · iexact HS0
    ipureintro; exact hQ
  isplitl [HS1]
  · iexists _; isplitr; swap; · iexact HS1
    ipureintro; exact hD
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hh0]; · iexact Hh0
  isplitl [Hh1]; · iexact Hh1
  iexists _; iexact HW

end Cert.Mla

end
-- ==== Proof.MlaRunB.lean ====
/- # One grid point, run

The kernel's body at each kind of grid point leaves exactly what the functions of vectors say.
-/
module

public import proofs.«01_k».proof.Proof.MlaKit
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open Idealize.ShloMosaic.Pipeline (Dat Cfg Window cellOf)
open VecWindow (window put)

variable {F : FTy → Type} [FloatOps F] [Named F]

local notation "𝕄" => MT nD τ sig Unit (Elt F) ℕ (Pipeline.UD sig nD τ) ℕ

set_option maxHeartbeats 1000000 in
/-- A block of keys between the first and the last: the sums of the block start at zero, the queries' gradient goes on. -/
theorem run_middle (c : Dev nD) (i : grid0.Coords) (arg4 : Memref sig .tc .vmem S768x256 .bf16) (harg4 : arg4.IsWhole) (arg5 : Memref sig .tc .vmem S768x128 .bf16) (harg5 : arg5.IsWhole) (arg6 : Memref sig .tc .vmem S8x8448 .f32) (harg6 : arg6.IsWhole) (arg7 : Memref sig .tc .vmem S8x8448 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (arg11 : Memref sig .tc .vmem S8448x256 .bf16) (harg11 : arg11.IsWhole) (arg12 : Memref sig .tc .vmem S8448x128 .bf16) (harg12 : arg12.IsWhole) (arg13 : Memref sig .tc .vmem S768x256 .f32) (harg13 : arg13.IsWhole) (arg14 : Memref sig .tc .vmem S768x128 .f32) (harg14 : arg14.IsWhole) (hc0 : ¬k0_cond1 i = 1#1) (hc1 : ¬k0_cond2 i = 1#1) (hc2 : ¬isLast i)
    (K : Vec F S768x256 .bf16) (V : Vec F S768x128 .bf16) (l δ : Vec F S8x8448 .f32) (dq : Vec F S8448x256 .f32) (q : Vec F S8448x256 .bf16) (d : Vec F S8448x128 .bf16) (fq : hbBuf (F := F) c hbQ) (fd : hbBuf (F := F) c hbD)
    (W : Waits sig Unit) (R : PUnit → sProp 𝕄) :
    iprop(owns (c : Thread nD τ) arg4 fullShare K ∗ owns (c : Thread nD τ) arg5 fullShare V ∗ owns (c : Thread nD τ) arg6 fullShare l ∗ owns (c : Thread nD τ) arg7 fullShare δ ∗ owns (c : Thread nD τ) arg8 fullShare dq ∗ (∃ d, owns (c : Thread nD τ) arg9 fullShare d) ∗ (∃ d, owns (c : Thread nD τ) arg10 fullShare d) ∗ owns (c : Thread nD τ) arg11 fullShare q ∗ owns (c : Thread nD τ) arg12 fullShare d ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ hbPt c hbQ fq ∗ hbPt c hbD fd ∗ owes (c : Thread nD τ) 0 W
        ∗ (iprop(owns (c : Thread nD τ) arg4 fullShare K ∗ owns (c : Thread nD τ) arg5 fullShare V ∗ owns (c : Thread nD τ) arg6 fullShare l ∗ owns (c : Thread nD τ) arg7 fullShare δ ∗ owns (c : Thread nD τ) arg8 fullShare ((allTrips i K V q d l δ (dq, k0_pay12, k0_pay13)).1) ∗ owns (c : Thread nD τ) arg9 fullShare (k0_pay18 (allTrips i K V q d l δ (dq, k0_pay12, k0_pay13)).2.1) ∗ owns (c : Thread nD τ) arg10 fullShare (allTrips i K V q d l δ (dq, k0_pay12, k0_pay13)).2.2
            ∗ owns (c : Thread nD τ) arg11 fullShare (q) ∗ owns (c : Thread nD τ) arg12 fullShare (d) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ hbPt c hbQ fq ∗ hbPt c hbD fd ∗ (∃ W', owes (c : Thread nD τ) 0 W')) -∗ R ⟨⟩))
      ⊢ wp frame (wpE (defs₀ (F := F)) Variants.none c none) Set.univ (cc0_mla_bwd i hbQ (Memref.isWhole_whole _) hbD (Memref.isWhole_whole _) arg4 harg4 arg5 harg5 arg6 harg6 arg7 harg7 arg8 harg8 arg9 harg9 arg10 harg10 arg11 harg11 arg12 harg12 arg13 harg13 arg14 harg14 cc0_scratch4) R := by
  simp only [cc0_mla_bwd_eq_skeleton]; unfold cc0_mla_bwd_skel
  simp only [k0_part3_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%ds2, %fs2, -, HS2⟩, ⟨%ds3, %fs3, -, HS3⟩, Hq0, Hq1, Hh0, Hh1, HW, Hk⟩
  obtain rfl := harg4.eq_unread hf0; obtain rfl := harg5.eq_unread hf1; obtain rfl := harg6.eq_unread hf2; obtain rfl := harg7.eq_unread hf3; obtain rfl := harg8.eq_unread hf4; obtain rfl := harg11.eq_unread hfs0; obtain rfl := harg12.eq_unread hfs1
  sl_exec (disch := first | sl_exact hc0 | sl_exact hc1 | sl_exact hc2)
  sl_step
  iapply Hk
  have hK := (View.readAt_full arg4.view (harg4.unread K) inb_S768x256_S768x256_0_0).trans (harg4.read_unread K)
  have hV := (View.readAt_full arg5.view (harg5.unread V) inb_S768x128_S768x128_0_0).trans (harg5.read_unread V)
  have hL := harg6.read_unread l
  have hΔ := harg7.read_unread δ
  have hQ := harg11.read_unread q
  have hD := harg12.read_unread d
  have h8 : arg8.view.read (Elt F) (harg8.unread dq) = ((dq, k0_pay12, k0_pay13) : St F).1 := harg8.read_unread dq
  have h13 : arg13.view.read (Elt F) (arg13.view.writes (Elt F) arg13.view.junk [⟨Rect.unit ![0, 0] S768x256.size inb_S768x256_S768x256_0_0, k0_pay12⟩])
      = ((dq, k0_pay12, k0_pay13) : St F).2.1 := View.read_writes_full arg13.view _ inb_S768x256_S768x256_0_0 _ []
  have h14 : arg14.view.read (Elt F) (arg14.view.writes (Elt F) arg14.view.junk [⟨Rect.unit ![0, 0] S768x128.size inb_S768x128_S768x128_0_0, k0_pay13⟩])
      = ((dq, k0_pay12, k0_pay13) : St F).2.2 := View.read_writes_full arg14.view _ inb_S768x128_S768x128_0_0 _ []
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact (exit_read i arg6 arg7 arg8 harg8 arg11 arg12 arg13 harg13 arg14 harg14 _ _ _ _ _ _ _ hK hV hQ hD hL hΔ h8 h13 h14).1
  isplitl [H5]
  · iexists _; isplitr; swap; · iexact H5
    ipureintro
    refine (View.read_writes_full arg9.view f5 inb_S768x256_S768x256_0_0 _ []).trans (congrArg k0_pay18 ?_)
    refine (View.readAt_full arg13.view _ inb_S768x256_S768x256_0_0).trans ?_
    exact (exit_read i arg6 arg7 arg8 harg8 arg11 arg12 arg13 harg13 arg14 harg14 _ _ _ _ _ _ _ hK hV hQ hD hL hΔ h8 h13 h14).2.1
  isplitl [H6]
  · iexists _; isplitr; swap; · iexact H6
    ipureintro
    refine (View.read_writes_full arg10.view f6 inb_S768x128_S768x128_0_0 _ []).trans ?_
    refine (View.readAt_full arg14.view _ inb_S768x128_S768x128_0_0).trans ?_
    exact (exit_read i arg6 arg7 arg8 harg8 arg11 arg12 arg13 harg13 arg14 harg14 _ _ _ _ _ _ _ hK hV hQ hD hL hΔ h8 h13 h14).2.2
  isplitl [HS0]
  · iexists _; isplitr; swap; · iexact HS0
    ipureintro; exact hQ
  isplitl [HS1]
  · iexists _; isplitr; swap; · iexact HS1
    ipureintro; exact hD
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hh0]; · iexact Hh0
  isplitl [Hh1]; · iexact Hh1
  iexists _; iexact HW

end Cert.Mla

end
-- ==== Proof.MlaRunC.lean ====
/- # One grid point, run

The kernel's body at each kind of grid point leaves exactly what the functions of vectors say.
-/
module

public import proofs.«01_k».proof.Proof.MlaKit
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open Idealize.ShloMosaic.Pipeline (Dat Cfg Window cellOf)
open VecWindow (window put)

variable {F : FTy → Type} [FloatOps F] [Named F]

local notation "𝕄" => MT nD τ sig Unit (Elt F) ℕ (Pipeline.UD sig nD τ) ℕ

set_option maxHeartbeats 1000000 in
/-- The last block of keys of a head: the same, and the queries' gradient takes its factor. -/
theorem run_last (c : Dev nD) (i : grid0.Coords) (arg4 : Memref sig .tc .vmem S768x256 .bf16) (harg4 : arg4.IsWhole) (arg5 : Memref sig .tc .vmem S768x128 .bf16) (harg5 : arg5.IsWhole) (arg6 : Memref sig .tc .vmem S8x8448 .f32) (harg6 : arg6.IsWhole) (arg7 : Memref sig .tc .vmem S8x8448 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (arg11 : Memref sig .tc .vmem S8448x256 .bf16) (harg11 : arg11.IsWhole) (arg12 : Memref sig .tc .vmem S8448x128 .bf16) (harg12 : arg12.IsWhole) (arg13 : Memref sig .tc .vmem S768x256 .f32) (harg13 : arg13.IsWhole) (arg14 : Memref sig .tc .vmem S768x128 .f32) (harg14 : arg14.IsWhole) (hc0 : ¬k0_cond1 i = 1#1) (hc1 : ¬k0_cond2 i = 1#1) (hc2 : isLast i)
    (K : Vec F S768x256 .bf16) (V : Vec F S768x128 .bf16) (l δ : Vec F S8x8448 .f32) (dq : Vec F S8448x256 .f32) (q : Vec F S8448x256 .bf16) (d : Vec F S8448x128 .bf16) (fq : hbBuf (F := F) c hbQ) (fd : hbBuf (F := F) c hbD)
    (W : Waits sig Unit) (R : PUnit → sProp 𝕄) :
    iprop(owns (c : Thread nD τ) arg4 fullShare K ∗ owns (c : Thread nD τ) arg5 fullShare V ∗ owns (c : Thread nD τ) arg6 fullShare l ∗ owns (c : Thread nD τ) arg7 fullShare δ ∗ owns (c : Thread nD τ) arg8 fullShare dq ∗ (∃ d, owns (c : Thread nD τ) arg9 fullShare d) ∗ (∃ d, owns (c : Thread nD τ) arg10 fullShare d) ∗ owns (c : Thread nD τ) arg11 fullShare q ∗ owns (c : Thread nD τ) arg12 fullShare d ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ hbPt c hbQ fq ∗ hbPt c hbD fd ∗ owes (c : Thread nD τ) 0 W
        ∗ (iprop(owns (c : Thread nD τ) arg4 fullShare K ∗ owns (c : Thread nD τ) arg5 fullShare V ∗ owns (c : Thread nD τ) arg6 fullShare l ∗ owns (c : Thread nD τ) arg7 fullShare δ ∗ owns (c : Thread nD τ) arg8 fullShare (k0_pay1 (allTrips i K V q d l δ (dq, k0_pay12, k0_pay13)).1) ∗ owns (c : Thread nD τ) arg9 fullShare (k0_pay18 (allTrips i K V q d l δ (dq, k0_pay12, k0_pay13)).2.1) ∗ owns (c : Thread nD τ) arg10 fullShare (allTrips i K V q d l δ (dq, k0_pay12, k0_pay13)).2.2
            ∗ owns (c : Thread nD τ) arg11 fullShare (q) ∗ owns (c : Thread nD τ) arg12 fullShare (d) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ hbPt c hbQ fq ∗ hbPt c hbD fd ∗ (∃ W', owes (c : Thread nD τ) 0 W')) -∗ R ⟨⟩))
      ⊢ wp frame (wpE (defs₀ (F := F)) Variants.none c none) Set.univ (cc0_mla_bwd i hbQ (Memref.isWhole_whole _) hbD (Memref.isWhole_whole _) arg4 harg4 arg5 harg5 arg6 harg6 arg7 harg7 arg8 harg8 arg9 harg9 arg10 harg10 arg11 harg11 arg12 harg12 arg13 harg13 arg14 harg14 cc0_scratch4) R := by
  simp only [cc0_mla_bwd_eq_skeleton]; unfold cc0_mla_bwd_skel
  simp only [k0_part3_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%ds2, %fs2, -, HS2⟩, ⟨%ds3, %fs3, -, HS3⟩, Hq0, Hq1, Hh0, Hh1, HW, Hk⟩
  obtain rfl := harg4.eq_unread hf0; obtain rfl := harg5.eq_unread hf1; obtain rfl := harg6.eq_unread hf2; obtain rfl := harg7.eq_unread hf3; obtain rfl := harg8.eq_unread hf4; obtain rfl := harg11.eq_unread hfs0; obtain rfl := harg12.eq_unread hfs1
  sl_exec (disch := first | sl_exact hc0 | sl_exact hc1 | sl_exact hc2)
  sl_step
  iapply Hk
  have hK := (View.readAt_full arg4.view (harg4.unread K) inb_S768x256_S768x256_0_0).trans (harg4.read_unread K)
  have hV := (View.readAt_full arg5.view (harg5.unread V) inb_S768x128_S768x128_0_0).trans (harg5.read_unread V)
  have hL := harg6.read_unread l
  have hΔ := harg7.read_unread δ
  have hQ := harg11.read_unread q
  have hD := harg12.read_unread d
  have h8 : arg8.view.read (Elt F) (harg8.unread dq) = ((dq, k0_pay12, k0_pay13) : St F).1 := harg8.read_unread dq
  have h13 : arg13.view.read (Elt F) (arg13.view.writes (Elt F) arg13.view.junk [⟨Rect.unit ![0, 0] S768x256.size inb_S768x256_S768x256_0_0, k0_pay12⟩])
      = ((dq, k0_pay12, k0_pay13) : St F).2.1 := View.read_writes_full arg13.view _ inb_S768x256_S768x256_0_0 _ []
  have h14 : arg14.view.read (Elt F) (arg14.view.writes (Elt F) arg14.view.junk [⟨Rect.unit ![0, 0] S768x128.size inb_S768x128_S768x128_0_0, k0_pay13⟩])
      = ((dq, k0_pay12, k0_pay13) : St F).2.2 := View.read_writes_full arg14.view _ inb_S768x128_S768x128_0_0 _ []
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    refine (View.read_writes_full arg8.view _ inb_S8448x256_S8448x256_0_0 _ []).trans (congrArg k0_pay1 ?_)
    refine (View.readAt_full arg8.view _ inb_S8448x256_S8448x256_0_0).trans ?_
    exact (exit_read i arg6 arg7 arg8 harg8 arg11 arg12 arg13 harg13 arg14 harg14 _ _ _ _ _ _ _ hK hV hQ hD hL hΔ h8 h13 h14).1
  isplitl [H5]
  · iexists _; isplitr; swap; · iexact H5
    ipureintro
    refine (View.read_writes_full arg9.view f5 inb_S768x256_S768x256_0_0 _ []).trans (congrArg k0_pay18 ?_)
    refine (View.readAt_full arg13.view _ inb_S768x256_S768x256_0_0).trans ?_
    exact (exit_read i arg6 arg7 arg8 harg8 arg11 arg12 arg13 harg13 arg14 harg14 _ _ _ _ _ _ _ hK hV hQ hD hL hΔ h8 h13 h14).2.1
  isplitl [H6]
  · iexists _; isplitr; swap; · iexact H6
    ipureintro
    refine (View.read_writes_full arg10.view f6 inb_S768x128_S768x128_0_0 _ []).trans ?_
    refine (View.readAt_full arg14.view _ inb_S768x128_S768x128_0_0).trans ?_
    exact (exit_read i arg6 arg7 arg8 harg8 arg11 arg12 arg13 harg13 arg14 harg14 _ _ _ _ _ _ _ hK hV hQ hD hL hΔ h8 h13 h14).2.2
  isplitl [HS0]
  · iexists _; isplitr; swap; · iexact HS0
    ipureintro; exact hQ
  isplitl [HS1]
  · iexists _; isplitr; swap; · iexact HS1
    ipureintro; exact hD
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hh0]; · iexact Hh0
  isplitl [Hh1]; · iexact Hh1
  iexists _; iexact HW

end Cert.Mla

end
-- ==== Proof.MlaFrame.lean ====
/- # The whole program, run

The body keeps the pipeline's data at every grid point, so the program ends with the data's arrays and the host lines after the region
run over them; the arguments end as they began and every semaphore counter is zero.
-/
module

public import proofs.«01_k».proof.Proof.MlaData
public import proofs.«01_k».proof.Proof.MlaRunA
public import proofs.«01_k».proof.Proof.MlaRunB
public import proofs.«01_k».proof.Proof.MlaRunC
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaBwdIdeal Cert.MlaBwdIdeal.Gen
open Idealize.ShloMosaic.Pipeline (Dat Cfg Window BodyObligation cellOf)
open VecWindow (window put)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the body is called with at a point, -/
def before (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
/-- and what it returns. -/
def after (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 2000000 in
/-- The body at any point: by the kind of the point. -/
theorem body (c : Dev nD) (t : Fin cfg0.N) :
    before m c t ⊢ wp frame (wpE (defs₀ (F := F)) Variants.none c none) Set.univ (bodyAt0 t) (fun _ => after m c t) := by
  unfold before after bodyAt0
  simp only [before_0, before_1, before_2, before_3]
  rw [show (dats m 0 c).Φ t.succ = inv0 m c (t.val + 1) t.isLt from rfl, inv_castSucc, after_0, after_1, after_2, after_3, after_4, after_5, after_6]
  unfold Dat.owesAt Pipeline.owesWithin
  rw [show (dats m 0 c).owed t.castSucc = 0 from rfl, show (dats m 0 c).owed t.succ = 0 from rfl]
  rw [show inv0 m c (t.val + 1) t.isLt = iprop(iprop(owns (c : Thread nD τ) scQ fullShare (qAt m c t) ∗ owns (c : Thread nD τ) scD fullShare (dAt m c t)
      ∗ (∃ d, owns (c : Thread nD τ) scK fullShare d) ∗ (∃ d, owns (c : Thread nD τ) scV fullShare d)) ∗ rest m c) from rfl]
  by_cases h0 : t.val % 11 = 0
  · have h2 : ¬t.val % 11 = 10 := by omega
    refine (sep_mono (inv0_loose m c t.val (Nat.le_of_lt t.isLt)) .rfl).trans ?_
    rw [sums_first m c t h0, show dqAt m c t = (sums m c t.val t.isLt).1 from if_neg h2, sums_first m c t h0]
    iintro ⟨⟨⟨HQ, HD, HK, HV⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ _ _ _ _ ((cond1_iff t).mpr h0) ((cond2_iff t).mpr h0) (fun h => h2 ((isLast_iff t).mp h)) (iblk m c 0 t) (iblk m c 1 t) (iblk m c 2 t) (iblk m c 3 t) (V m c main_v59) (V m c main_v66) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HQ]; · iexact HQ
    isplitl [HD]; · iexact HD
    isplitl [HK]; · iexact HK
    isplitl [HV]; · iexact HV
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, HQ, HD, HK, HV, Hq0, Hq1, Hh0, Hh1, ⟨%W', HW'⟩⟩
    isplitl [HQ HD HK HV Hg Hq0 Hq1 Hh0 Hh1]
    · isplitl [HQ HD HK HV]
      · isplitl [HQ]; · iexact HQ
        isplitl [HD]; · iexact HD
        isplitl [HK]; · iexact HK
        iexact HV
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  by_cases h2 : t.val % 11 = 10
  ·
    rw [inv0_pos m c t (by intro e; rw [e] at h0; exact h0 rfl), qAt_pred m c t h0, dAt_pred m c t h0, show dqAt m c t = k0_pay1 (sums m c t.val t.isLt).1 from if_pos h2, sums_next m c t h0]
    simp only [before_4 m c t h0]
    iintro ⟨⟨⟨HQ, HD, HK, HV⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (run_last c (grid0.coords t) _ _ _ _ _ _ _ _ _ _ _ _ _ _ _ _ _ _ _ _ _ _ (fun h => h0 ((cond1_iff t).mp h)) (fun h => h0 ((cond2_iff t).mp h)) ((isLast_iff t).mpr h2) (iblk m c 0 t) (iblk m c 1 t) (iblk m c 2 t) (iblk m c 3 t) _ (qAt m c t) (dAt m c t) (V m c main_v59) (V m c main_v66) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HQ]; · iexact HQ
    isplitl [HD]; · iexact HD
    isplitl [HK]; · iexact HK
    isplitl [HV]; · iexact HV
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, HQ, HD, HK, HV, Hq0, Hq1, Hh0, Hh1, ⟨%W', HW'⟩⟩
    isplitl [HQ HD HK HV Hg Hq0 Hq1 Hh0 Hh1]
    · isplitl [HQ HD HK HV]
      · isplitl [HQ]; · iexact HQ
        isplitl [HD]; · iexact HD
        isplitl [HK]; · iexact HK
        iexact HV
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  ·
    rw [inv0_pos m c t (by intro e; rw [e] at h0; exact h0 rfl), qAt_pred m c t h0, dAt_pred m c t h0, show dqAt m c t = (sums m c t.val t.isLt).1 from if_neg h2, sums_next m c t h0]
    simp only [before_4 m c t h0]
    iintro ⟨⟨⟨HQ, HD, HK, HV⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (run_middle c (grid0.coords t) _ _ _ _ _ _ _ _ _ _ _ _ _ _ _ _ _ _ _ _ _ _ (fun h => h0 ((cond1_iff t).mp h)) (fun h => h0 ((cond2_iff t).mp h)) (fun h => h2 ((isLast_iff t).mp h)) (iblk m c 0 t) (iblk m c 1 t) (iblk m c 2 t) (iblk m c 3 t) _ (qAt m c t) (dAt m c t) (V m c main_v59) (V m c main_v66) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HQ]; · iexact HQ
    isplitl [HD]; · iexact HD
    isplitl [HK]; · iexact HK
    isplitl [HV]; · iexact HV
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, HQ, HD, HK, HV, Hq0, Hq1, Hh0, Hh1, ⟨%W', HW'⟩⟩
    isplitl [HQ HD HK HV Hg Hq0 Hq1 Hh0 Hh1]
    · isplitl [HQ HD HK HV]
      · isplitl [HQ]; · iexact HQ
        isplitl [HD]; · iexact HD
        isplitl [HK]; · iexact HK
        iexact HV
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, defs₀_row]
  exact triple_restated (body m c t) rfl .rfl fun _ => .rfl

/-- The lines after the region touch none of the operands the kernel copies itself. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  have e : ∀ ops' : List (HloOp τ sig (Elt F)), (ops'.Forall fun op => Proc.devRef .tc main_v59 ∉ op.bufs ∧ Proc.devRef .tc main_v66 ∉ op.bufs) →
      ∀ op ∈ ops', ∀ b ∈ H0, Proc.devRef (sig := sig) (τ := τ) .tc b ∉ op.bufs := fun ops' h op ho b hb => by
    have := (List.forall_iff_forall_mem.mp h) op ho
    simp only [H0, Finset.mem_insert, Finset.mem_singleton] at hb
    rcases hb with rfl | rfl
    exacts [this.1, this.2]
  refine e hostOps1 ?_ op hop
  simp only [hostOps1, List.Forall, StableHlo.nullary_bufs, StableHlo.unary_bufs, StableHlo.binary_bufs, StableHlo.reshape_bufs, Finset.mem_insert, Finset.mem_singleton, not_or]
  repeat' apply And.intro
  all_goals exact StableHlo.devRef_ne_of_ne (by decide)

theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
/-- The run: every buffer behind the arrays ends as the host lines after the region leave it, every counter at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSem H0 H0_sub m ρ main
    (hbody := fun c => (obligation m c).loose) (hshare := fun c => (dats m 0 c).share_full fun _ => rfl) (howed := fun _ _ => rfl)
    (V₀ := V0 m) (opss := [hostOps1]) (hsub := tail_sub) (hfresh := sfx_fresh) (hkeep := sfx_keeps) (hmain := main_around m Variants.none)
    (hA := A_eq m)
    (hin := fun c => by
      rw [show (dats m 0 c).Φ 0 = loose m c from rfl]
      exact (phi_eq m c) ▸ .rfl)
    (hout := fun c => by
      refine (inv0_loose m c cfg0.N le_rfl).trans ?_
      exact (phi_eq m c) ▸ .rfl)

/-- An argument ends as launched: no host line writes it and no window stages it. -/
theorem arg_kept (c : Dev nD) (b : Ref sig .tc) (hb : b ∈ [main_arg0, main_arg1, main_arg2, main_arg3, main_arg4, main_arg5]) :
    Pipeline.afterTail₀ cfgs (dats m) 0 (V0 m) [hostOps1] c b = m ((c : Thread nD τ).loc b) := by
  simp only [List.mem_cons, List.mem_nil_iff, or_false] at hb
  unfold Pipeline.afterTail₀
  rcases hb with rfl | rfl | rfl | rfl | rfl | rfl
  all_goals
    rw [StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
      Pipeline.withArrays_of_ne _ c (V0 m c) _ _ (by decide)]
  exacts [V_main_arg0 m c, V_main_arg1 m c, V_main_arg2 m c, V_main_arg3 m c, V_main_arg4 m c, V_main_arg5 m c]

/-- The frame: the arguments end as launched and every counter is zero; the buffers the claim reads are the host lines' after the region. -/
theorem run_full : θ_run defs (onTc (τ := τ) (main (F := F))) ⟨m, fun _ => 0, ρ⟩ (fun r => (∀ c : Dev nD,
      (∀ b ∈ [main_arg0, main_arg1, main_arg2, main_arg3, main_arg4, main_arg5], r.2.mem ((c.tc : Thread nD τ).loc b) = m ((c.tc : Thread nD τ).loc b))
      ∧ ∀ b ∈ Pipeline.restRefs sig spec0, r.2.mem ((c.tc : Thread nD τ).loc b) = Pipeline.afterTail₀ cfgs (dats m) 0 (V0 m) [hostOps1] c b)
      ∧ r.2.sem = fun _ => 0) :=
  (θ_run defs _ _).mono (fun _ h => ⟨fun c => ⟨fun b hb => ((h.1 c).2 b (by
      simp only [List.mem_cons, List.mem_nil_iff, or_false] at hb
      rcases hb with rfl | rfl | rfl | rfl | rfl | rfl <;> exact Pipeline.mem_restRefs_of _ (by decide) (by decide))).trans (arg_kept m c b hb),
    fun b hb => (h.1 c).2 b hb⟩, h.2⟩) (run m ρ)

end Cert.Mla

end
-- ==== Proof.MlaResult.lean ====
/- # The results over the reals

The arrays the call leaves, and the program's five results: attention's gradients.
-/
module

public import proofs.«01_k».proof.Proof.MlaOperands
public import proofs.«01_k».proof.Proof.MlaFrame

@[expose] public section

set_option maxRecDepth 16384

noncomputable section

namespace Cert.Mla

open Idealize.ShloMosaic Idealize.ShloMosaic.TcCoe Idealize.SL.Sem
open Cert.MlaBwdIdeal Cert.MlaBwdIdeal.Gen

variable (m : (ℓ : Loc nD τ sig) → Buf (Elt Ideal) ℓ) (c : Dev nD)

section
variable (W : Valuation τ sig (Elt Ideal))
/-! What the host lines after the call make of its arrays. -/
theorem tail_v72 : @Eq (FVec Ideal S8448x4x128 .f32) (StableHlo.after (hostOps1 (F := Ideal)) W (Proc.devRef .tc main_v72))
    (extractStridedSlice S8448x4x128 ![0, 0, 0] (mulf (shapeCast S8448x4x256 (W (Proc.devRef .tc main_v67_0) : FVec Ideal S8448x1024 .f32) shapeCasts_S8448x1024_S8448x4x256) (broadcastInDim S8448x4x256 ![] bcast_S_S8448x4x256 (W (Proc.devRef .tc main_v1) : FVec Ideal S_ .f32))) slices_S8448x4x256_S8448x4x128_0_0_0) := by
  after_reads_simp
  rfl
theorem tail_v73 : @Eq (FVec Ideal S8448x4x64 .f32) (StableHlo.after (hostOps1 (F := Ideal)) W (Proc.devRef .tc main_v73))
    (extractStridedSlice S8448x4x64 ![0, 0, 128] (mulf (shapeCast S8448x4x256 (W (Proc.devRef .tc main_v67_0) : FVec Ideal S8448x1024 .f32) shapeCasts_S8448x1024_S8448x4x256) (broadcastInDim S8448x4x256 ![] bcast_S_S8448x4x256 (W (Proc.devRef .tc main_v1) : FVec Ideal S_ .f32))) slices_S8448x4x256_S8448x4x64_0_0_128) := by
  after_reads_simp
  rfl
theorem tail_v74 : @Eq (FVec Ideal S8448x4x128 .f32) (StableHlo.after (hostOps1 (F := Ideal)) W (Proc.devRef .tc main_v74))
    (extractStridedSlice S8448x4x128 ![0, 0, 0] (shapeCast S8448x4x256 (W (Proc.devRef .tc main_v67_1) : FVec Ideal S8448x1024 .f32) shapeCasts_S8448x1024_S8448x4x256) slices_S8448x4x256_S8448x4x128_0_0_0) := by
  after_reads_simp
  rfl
theorem tail_v76 : @Eq (FVec Ideal S8448x64 .f32) (StableHlo.after (hostOps1 (F := Ideal)) W (Proc.devRef .tc main_v76))
    (Host.reduceAdd (extractStridedSlice S8448x4x64 ![0, 0, 128] (shapeCast S8448x4x256 (W (Proc.devRef .tc main_v67_1) : FVec Ideal S8448x1024 .f32) shapeCasts_S8448x1024_S8448x4x256) slices_S8448x4x256_S8448x4x64_0_0_128) (constant (F := Ideal) S_ .f32 0x00000000#32) reducesTo_S8448x4x64_S8448x64_d1 h_S_) := by
  after_reads_simp
  rfl
theorem tail_v77 : @Eq (FVec Ideal S8448x4x128 .f32) (StableHlo.after (hostOps1 (F := Ideal)) W (Proc.devRef .tc main_v77))
    (shapeCast S8448x4x128 (W (Proc.devRef .tc main_v67_2) : FVec Ideal S8448x512 .f32) shapeCasts_S8448x512_S8448x4x128) := by
  after_reads_simp
  rfl
end

/-- What a buffer holds at the end. -/
abbrev end_ (b : Ref sig .tc) : Buf (Elt Ideal) ((c : Thread nD τ).loc b) := Pipeline.afterTail₀ cfgs (dats m) 0 (V0 m) [hostOps1] c b
/-- What the buffers hold when the call ends. -/
abbrev mid : Valuation τ sig (Elt Ideal) := Pipeline.withArrays (cfgs 0).spec c (V0 m c) fun w => (dats m 0 c).arrAt w (cfgs 0).N

theorem end_eq (b : Ref sig .tc) : end_ m c b = StableHlo.after (hostOps1 (F := Ideal)) (mid m c) (Proc.devRef .tc b) := rfl
theorem mid_v1 : mid m c (Proc.devRef .tc main_v1) = V m c main_v1 := Pipeline.withArrays_of_ne _ c (V0 m c) _ _ (by decide)
theorem mid_dq : mid m c (Proc.devRef .tc main_v67_0) = (dats m 0 c).arrAt 4 (cfgs 0).N :=
  Pipeline.withArrays_arr (cfgs 0).spec launch0.win.arr_inj c (V0 m c) (fun w => (dats m 0 c).arrAt w (cfgs 0).N) 4
theorem mid_dk : mid m c (Proc.devRef .tc main_v67_1) = (dats m 0 c).arrAt 5 (cfgs 0).N :=
  Pipeline.withArrays_arr (cfgs 0).spec launch0.win.arr_inj c (V0 m c) (fun w => (dats m 0 c).arrAt w (cfgs 0).N) 5
theorem mid_dv : mid m c (Proc.devRef .tc main_v67_2) = (dats m 0 c).arrAt 6 (cfgs 0).N :=
  Pipeline.withArrays_arr (cfgs 0).spec launch0.win.arr_inj c (V0 m c) (fun w => (dats m 0 c).arrAt w (cfgs 0).N) 6

section
variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)

theorem cat_lo (a : Fin 128 → ℝ) (b : Fin 64 → ℝ) (x : Fin 128) : cat a b ⟨x.val, by omega⟩ = a x := dif_pos x.isLt
theorem cat_hi (a : Fin 128 → ℝ) (b : Fin 64 → ℝ) (y : Fin 64) : cat a b ⟨128 + y.val, by omega⟩ = b y := by
  have h1 : ¬(⟨128 + y.val, by omega⟩ : Fin 256).val < 128 := not_lt.mpr (Nat.le_add_right 128 y.val)
  have h2 : (⟨128 + y.val, by omega⟩ : Fin 256).val < 192 := show 128 + y.val < 192 by omega
  rw [cat, dif_neg h1, dif_pos h2]
  exact congrArg b (Fin.ext (Nat.add_sub_cancel_left 128 y.val))

/-- The base of the power cancels the base of the packed scale. -/
theorem dq_real (r : Fin 8448) (h : Fin 4) (x : Fin 256) (C : Fin 1024) (hC : C.val = h.val * 256 + x.val) :
    (∑ n, dscore A0 A1 A2 A3 A4 A5 (hdQ C) r n * packK A2 A3 n C) * Real.log 2 * (scale / Real.log 2)
      = scale * ∑ n, dscore A0 A1 A2 A3 A4 A5 h r n * cat (A2 n h) (A3 n) x := by
  obtain rfl : C = colQ h x := Fin.ext (hC.trans (by rw [mul_comm]; rfl))
  simp only [hdQ_col, packK_col, k4]
  have := log_two_ne
  field_simp
theorem dk_real (n : Fin 8448) (h : Fin 4) (x : Fin 256) (C : Fin 1024) (hC : C.val = h.val * 256 + x.val) :
    (∑ r, dscore A0 A1 A2 A3 A4 A5 (hdQ C) r n * packQ A0 A1 r C) * Real.log 2
      = scale * ∑ r, dscore A0 A1 A2 A3 A4 A5 h r n * cat (A0 r h) (A1 r h) x := by
  obtain rfl : C = colQ h x := Fin.ext (hC.trans (by rw [mul_comm]; rfl))
  simp only [hdQ_col, packQ_col, q4, ← mul_assoc, ← Finset.sum_mul]
  have := log_two_ne
  field_simp
theorem dqn_real (r : Fin 8448) (h : Fin 4) (x : Fin 128) (C : Fin 1024) (hC : C.val = h.val * 256 + x.val) :
    (∑ n, dscore A0 A1 A2 A3 A4 A5 (hdQ C) r n * packK A2 A3 n C) * Real.log 2 * (scale / Real.log 2) = gradQn A0 A1 A2 A3 A4 A5 r h x := by
  rw [dq_real A0 A1 A2 A3 A4 A5 r h ⟨x.val, by omega⟩ C hC, gradQn]
  simp only [cat_lo]
theorem dqr_real (r : Fin 8448) (h : Fin 4) (y : Fin 64) (C : Fin 1024) (hC : C.val = h.val * 256 + (128 + y.val)) :
    (∑ n, dscore A0 A1 A2 A3 A4 A5 (hdQ C) r n * packK A2 A3 n C) * Real.log 2 * (scale / Real.log 2) = gradQr A0 A1 A2 A3 A4 A5 r h y := by
  rw [dq_real A0 A1 A2 A3 A4 A5 r h ⟨128 + y.val, by omega⟩ C hC, gradQr]
  simp only [cat_hi]
theorem dkn_real (n : Fin 8448) (h : Fin 4) (x : Fin 128) (C : Fin 1024) (hC : C.val = h.val * 256 + x.val) :
    (∑ r, dscore A0 A1 A2 A3 A4 A5 (hdQ C) r n * packQ A0 A1 r C) * Real.log 2 = gradKn A0 A1 A2 A3 A4 A5 n h x := by
  rw [dk_real A0 A1 A2 A3 A4 A5 n h ⟨x.val, by omega⟩ C hC, gradKn]
  simp only [cat_lo]
theorem dkr_real (n : Fin 8448) (y : Fin 64) (C : Fin 4 → Fin 1024) (hC : ∀ h, (C h).val = h.val * 256 + (128 + y.val)) :
    ∑ h, (∑ r, dscore A0 A1 A2 A3 A4 A5 (hdQ (C h)) r n * packQ A0 A1 r (C h)) * Real.log 2 = gradKr A0 A1 A2 A3 A4 A5 n y := by
  rw [gradKr, Finset.mul_sum]
  refine Finset.sum_congr rfl fun h _ => ?_
  rw [dk_real A0 A1 A2 A3 A4 A5 n h ⟨128 + y.val, by omega⟩ (C h) (hC h)]
  simp only [cat_hi]
theorem dv_real (n : Fin 8448) (h : Fin 4) (e : Fin 128) (C : Fin 512) (hC : C.val = h.val * 128 + e.val) :
    ∑ r, prob A0 A1 A2 A3 (hdV C) r n * A5 r C = gradV A0 A1 A2 A3 A5 n h e := by
  obtain rfl : C = colV h e := Fin.ext (hC.trans (by rw [mul_comm]; rfl))
  rw [hdV_col, gradV]

variable (h0 : @Eq (FVec Ideal S8448x4x128 .f32) (m (c.tc.loc main_arg0)) (arr A0)) (h1 : @Eq (FVec Ideal S8448x4x64 .f32) (m (c.tc.loc main_arg1)) (arr A1))
  (h2 : @Eq (FVec Ideal S8448x4x128 .f32) (m (c.tc.loc main_arg2)) (arr A2)) (h3 : @Eq (FVec Ideal S8448x64 .f32) (m (c.tc.loc main_arg3)) (mat .f32 A3))
  (h4 : @Eq (FVec Ideal S8448x4x128 .f32) (m (c.tc.loc main_arg4)) (arr A4)) (h5 : @Eq (FVec Ideal S8448x512 .f32) (m (c.tc.loc main_arg5)) (mat .f32 A5))

include h0 h1 h2 h3 h4 h5
/-- The three arrays the call leaves. -/
theorem arrays :
    @Eq (FVec Ideal S8448x1024 .f32) (mid m c (Proc.devRef .tc main_v67_0))
      (mat .f32 fun r C => (∑ n, dscore A0 A1 A2 A3 A4 A5 (hdQ C) r n * packK A2 A3 n C) * Real.log 2)
    ∧ @Eq (FVec Ideal S8448x1024 .f32) (mid m c (Proc.devRef .tc main_v67_1))
      (mat .f32 fun n C => (∑ r, dscore A0 A1 A2 A3 A4 A5 (hdQ C) r n * packQ A0 A1 r C) * Real.log 2)
    ∧ @Eq (FVec Ideal S8448x512 .f32) (mid m c (Proc.devRef .tc main_v67_2))
      (mat .f32 fun n C => ∑ r, prob A0 A1 A2 A3 (hdV C) r n * A5 r C) := by
  obtain ⟨L, hL, gL⟩ := R_v64 A0 A1 A2 A3 m c h0 h1 h2 h3
  obtain ⟨D, hD, gD⟩ := R_v65 A0 A1 A2 A3 A4 A5 m c h0 h1 h2 h3 h4 h5
  have hQ := R_v59 A0 A1 m c h0 h1
  have hK := R_v61 A2 A3 m c h2 h3
  have hV := R_v63 A4 m c h4
  have hO := R_v66 A5 m c h5
  refine ⟨(mid_dq m c).trans ((final_dq m c _ _ _ _ L D hQ hK hV hL hD hO).trans ?_), (mid_dk m c).trans ((final_dk m c _ _ _ _ L D hQ hK hV hL hD hO).trans ?_),
    (mid_dv m c).trans ((final_dv m c _ _ _ _ L D hQ hK hV hL hD hO).trans ?_)⟩
  · simp only [sl_eq A0 A1 A2 A3 A4 A5 L D gL gD]
  · simp only [sl_eq A0 A1 A2 A3 A4 A5 L D gL gD]
  · simp only [wt_eq A0 A1 A2 A3 L gL]

theorem result_v72 : @Eq (FVec Ideal S8448x4x128 .f32) (end_ m c main_v72) (arr (gradQn A0 A1 A2 A3 A4 A5)) := by
  obtain ⟨e, -, -⟩ := arrays m c A0 A1 A2 A3 A4 A5 h0 h1 h2 h3 h4 h5
  rw [end_eq, tail_v72, mid_v1, R_v1, e]
  funext x
  pointwise [arr, mat]
  rw [← EReal.coe_mul]
  exact congrArg (fun r : ℝ => (r : EReal)) (dqn_real A0 A1 A2 A3 A4 A5 (x 0) (x 1) (x 2) _ rfl)
theorem result_v73 : @Eq (FVec Ideal S8448x4x64 .f32) (end_ m c main_v73) (arr (gradQr A0 A1 A2 A3 A4 A5)) := by
  obtain ⟨e, -, -⟩ := arrays m c A0 A1 A2 A3 A4 A5 h0 h1 h2 h3 h4 h5
  rw [end_eq, tail_v73, mid_v1, R_v1, e]
  funext x
  pointwise [arr, mat]
  rw [← EReal.coe_mul]
  exact congrArg (fun r : ℝ => (r : EReal)) (dqr_real A0 A1 A2 A3 A4 A5 (x 0) (x 1) (x 2) _ rfl)
theorem result_v74 : @Eq (FVec Ideal S8448x4x128 .f32) (end_ m c main_v74) (arr (gradKn A0 A1 A2 A3 A4 A5)) := by
  obtain ⟨-, e, -⟩ := arrays m c A0 A1 A2 A3 A4 A5 h0 h1 h2 h3 h4 h5
  rw [end_eq, tail_v74, e]
  funext x
  pointwise [arr, mat]
  exact congrArg (fun r : ℝ => (r : EReal)) (dkn_real A0 A1 A2 A3 A4 A5 (x 0) (x 1) (x 2) _ rfl)
theorem result_v76 : @Eq (FVec Ideal S8448x64 .f32) (end_ m c main_v76) (mat .f32 (gradKr A0 A1 A2 A3 A4 A5)) := by
  obtain ⟨-, e, -⟩ := arrays m c A0 A1 A2 A3 A4 A5 h0 h1 h2 h3 h4 h5
  rw [end_eq, tail_v76, e]
  funext x
  pointwise [arr, mat]
  rw [coe_sum]
  exact congrArg (fun r : ℝ => (r : EReal)) (dkr_real A0 A1 A2 A3 A4 A5 (x 0) (x 1) (fun h => ⟨h.val * 256 + (128 + (x 1).val), _⟩) fun _ => rfl)
theorem result_v77 : @Eq (FVec Ideal S8448x4x128 .f32) (end_ m c main_v77) (arr (gradV A0 A1 A2 A3 A5)) := by
  obtain ⟨-, -, e⟩ := arrays m c A0 A1 A2 A3 A4 A5 h0 h1 h2 h3 h4 h5
  rw [end_eq, tail_v77, e]
  funext x
  pointwise [arr, mat]
  exact congrArg (fun r : ℝ => (r : EReal)) (dv_real A0 A1 A2 A3 A5 (x 0) (x 1) (x 2) _ rfl)
end

end Cert.Mla

end
-- ==== Proof.MlaRef.lean ====
/- # The reference over the reals

Given the arguments as arrays of reals: the scores, the shares and the derivative by the scores, of the first rows and of the later ones.
-/
module

public import proofs.«01_k».proof.Proof.MlaHost
public import proofs.«01_k».proof.Proof.Gen.MlaBwdReferenceIdeal.Read

@[expose] public section

set_option maxRecDepth 16384

noncomputable section

namespace Cert.Mla.Ref

open Idealize.ShloMosaic Idealize.ShloMosaic.TcCoe Idealize.SL.Sem
open Cert.MlaBwdReferenceIdeal Cert.MlaBwdReferenceIdeal.Gen Cert.MlaBwdReferenceIdeal.Read

section
variable {N : ℕ} [NeZero N]
/-- The derivative by a score, as differentiating the softmax writes it, is the share times the derivative's distance from its mean. -/
theorem soft_grad (s d : Fin N → ℝ) (M c : ℝ) (n : Fin N) :
    (d n / (∑ k, Real.exp (s k - M)) + -∑ k, d k * (1 / ((∑ k, Real.exp (s k - M)) * ∑ k, Real.exp (s k - M))) * Real.exp (s k - M)) * Real.exp (s n - M) * c
      = c * (Real.exp (s n) / (∑ k, Real.exp (s k)) * (d n - ∑ k, Real.exp (s k) / (∑ k, Real.exp (s k)) * d k)) := by
  have hl := (sum_exp_pos fun k => s k - M).ne'
  simp only [← softmax_shift s M]
  set l := ∑ k, Real.exp (s k - M)
  have e : ∑ k, d k * (1 / (l * l)) * Real.exp (s k - M) = (∑ k, Real.exp (s k - M) / l * d k) / l := by
    rw [Finset.sum_div]
    refine Finset.sum_congr rfl fun k _ => ?_
    field_simp
  rw [e]
  field_simp
  ring
theorem grad_lift (s d : Fin N → ℝ) (M c : ℝ) (n : Fin N) :
    (Ideal.div ((d n : ℝ) : EReal) ((∑ k, Real.exp (s k - M) : ℝ) : EReal)
        + ∑ _k : Fin 1, -∑ k, ((d k : ℝ) : EReal) * Ideal.div 1 (((∑ k, Real.exp (s k - M) : ℝ) : EReal) * ((∑ k, Real.exp (s k - M) : ℝ) : EReal))
          * ((Real.exp (s k - M) : ℝ) : EReal)) * ((Real.exp (s n - M) : ℝ) : EReal) * (c : EReal)
      = ((c * (Real.exp (s n) / (∑ k, Real.exp (s k)) * (d n - ∑ k, Real.exp (s k) / (∑ k, Real.exp (s k)) * d k)) : ℝ) : EReal) := by
  have hl := (sum_exp_pos fun k => s k - M).ne'
  have h1 : (1 : EReal) = ((1 : ℝ) : EReal) := EReal.coe_one.symm
  rw [h1, ← EReal.coe_mul, div_real _ _ hl, div_real _ _ (mul_ne_zero hl hl), Fin.sum_univ_one]
  simp only [← EReal.coe_mul, coe_sum, ← EReal.coe_neg, ← EReal.coe_add]
  exact congrArg (fun r : ℝ => (r : EReal)) (soft_grad s d M c n)
end

variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)

theorem score_comm (h : Fin 4) (r n : Fin 8448) :
    (∑ x, A0 r h x * A2 n h x + ∑ y, A3 n y * A1 r h y) * scale = score A0 A1 A2 A3 h r n := by
  simp only [score, mul_comm (A3 _ _)]
theorem dprob_comm (h : Fin 4) (r n : Fin 8448) (C : Fin 128 → Fin 512) (hC : ∀ e, (C e).val = h.val * 128 + e.val) :
    ∑ e, A5 r (C e) * A4 n h e = dprob A4 A5 h r n := by
  refine Finset.sum_congr rfl fun e _ => ?_
  rw [mul_comm, show C e = colV h e from Fin.ext ((hC e).trans (by rw [mul_comm]; rfl))]
theorem dscore_ctx (h : Fin 4) (r n : Fin 256) : dscore A0 A1 A2 A3 A4 A5 h (ctx r) (ctx n)
    = Real.exp (score A0 A1 A2 A3 h (ctx r) (ctx n)) / (∑ k : Fin 256, Real.exp (score A0 A1 A2 A3 h (ctx r) (ctx k)))
      * (dprob A4 A5 h (ctx r) (ctx n) - ∑ k : Fin 256, Real.exp (score A0 A1 A2 A3 h (ctx r) (ctx k))
        / (∑ k : Fin 256, Real.exp (score A0 A1 A2 A3 h (ctx r) (ctx k))) * dprob A4 A5 h (ctx r) (ctx k)) := by
  rw [dscore, sum_prob_ctx]
  simp only [prob_ctx]
theorem dscore_lat (h : Fin 4) (r : Fin 8192) (n : Fin 8448) : dscore A0 A1 A2 A3 A4 A5 h (lat r) n
    = Real.exp (score A0 A1 A2 A3 h (lat r) n) / (∑ k, Real.exp (score A0 A1 A2 A3 h (lat r) k))
      * (dprob A4 A5 h (lat r) n - ∑ k, Real.exp (score A0 A1 A2 A3 h (lat r) k)
        / (∑ k, Real.exp (score A0 A1 A2 A3 h (lat r) k)) * dprob A4 A5 h (lat r) k) := by
  rw [dscore]
  simp only [prob_lat]

/-! ## The first rows -/

theorem scores_ctx : @Eq (FVec Ideal S4x256x256 .f32) (val_main_v10 (F := Ideal) (arr A0) (arr A1) (arr A2) (mat .f32 A3)) (arr fun h r n => score A0 A1 A2 A3 h (ctx r) (ctx n)) := by
  unfold val_main_v10 val_main_v9 val_main_v8 val_main_v7 val_main_v6 val_main_v5 val_main_v3 val_main_v2 val_main_v1 val_main_v0 val_main_cst
  funext x
  pointwise [arr, mat]
  rw [real_scale]
  simp only [← EReal.coe_mul, ← EReal.coe_add, coe_sum]
  exact congrArg (fun r : ℝ => (r : EReal)) (score_comm A0 A1 A2 A3 (x 0) (ctx (x 1)) (ctx (x 2)))
theorem max_ctx : ∃ M : Fin 4 → Fin 256 → ℝ, @Eq (FVec Ideal S4x256 .f32) (val_main_v18 (F := Ideal) (arr A0) (arr A1) (arr A2) (mat .f32 A3)) (mat .f32 M) := by
  obtain ⟨M, hM⟩ := max_arr reducesTo_S4x256x256_S4x256_d2 h_S_ fun h r n => score A0 A1 A2 A3 h (ctx r) (ctx n)
  have e : @Eq (FVec Ideal S4x256 .f32) (val_main_v11 (F := Ideal) (arr A0) (arr A1) (arr A2) (mat .f32 A3)) (mat .f32 M) := by
    unfold val_main_v11 val_main_cst_0
    rw [scores_ctx]
    exact hM
  refine ⟨M, ?_⟩
  unfold val_main_v18 val_main_v17 val_main_cst_2
  rw [e]
  funext x
  pointwise [mat]
  rw [bot_f32]
  exact max_eq_right bot_le
theorem expos_ctx (M : Fin 4 → Fin 256 → ℝ) (hM : @Eq (FVec Ideal S4x256 .f32) (val_main_v18 (F := Ideal) (arr A0) (arr A1) (arr A2) (mat .f32 A3)) (mat .f32 M)) :
    @Eq (FVec Ideal S4x256x256 .f32) (val_main_v31 (F := Ideal) (arr A0) (arr A1) (arr A2) (mat .f32 A3)) (arr fun h r n => Real.exp (score A0 A1 A2 A3 h (ctx r) (ctx n) - M h r)) := by
  unfold val_main_v31 val_main_v30 val_main_v29 val_main_v28
  rw [hM, scores_ctx]
  funext x
  pointwise [arr, mat]
  rw [← EReal.coe_sub]
  exact Ideal.exp_coe _
theorem sums_ctx (M : Fin 4 → Fin 256 → ℝ) (hM : @Eq (FVec Ideal S4x256 .f32) (val_main_v18 (F := Ideal) (arr A0) (arr A1) (arr A2) (mat .f32 A3)) (mat .f32 M)) :
    @Eq (FVec Ideal S4x256 .f32) (val_main_v32 (F := Ideal) (arr A0) (arr A1) (arr A2) (mat .f32 A3)) (mat .f32 fun h r => ∑ n : Fin 256, Real.exp (score A0 A1 A2 A3 h (ctx r) (ctx n) - M h r)) := by
  unfold val_main_v32 val_main_cst_8
  rw [expos_ctx A0 A1 A2 A3 M hM]
  funext x
  pointwise [arr, mat]
  exact coe_sum _
/-- The shares, -/
theorem probs_ctx : @Eq (FVec Ideal S4x256x256 .f32) (val_main_v35 (F := Ideal) (arr A0) (arr A1) (arr A2) (mat .f32 A3)) (arr fun h r n => prob A0 A1 A2 A3 h (ctx r) (ctx n)) := by
  obtain ⟨M, hM⟩ := max_ctx A0 A1 A2 A3
  unfold val_main_v35 val_main_v34 val_main_v33
  rw [expos_ctx A0 A1 A2 A3 M hM, sums_ctx A0 A1 A2 A3 M hM]
  funext x
  pointwise [arr, mat]
  rw [div_real _ _ (sum_exp_pos _).ne']
  exact congrArg (fun r : ℝ => (r : EReal)) ((softmax_shift (fun n => score A0 A1 A2 A3 (x 0) (ctx (x 1)) (ctx n)) (M (x 0) (x 1)) (x 2)).trans
    (prob_ctx A0 A1 A2 A3 (x 0) (x 1) (x 2)).symm)
/-- the derivative by the shares, -/
theorem dprobs_ctx : @Eq (FVec Ideal S4x256x256 .f32) (val_main_v112 (F := Ideal) (arr A4) (mat .f32 A5)) (arr fun h r n => dprob A4 A5 h (ctx r) (ctx n)) := by
  unfold val_main_v112 val_main_v111 val_main_v82 val_main_v81 val_main_v4
  funext x
  pointwise [arr, mat]
  simp only [← EReal.coe_mul, coe_sum]
  exact congrArg (fun r : ℝ => (r : EReal)) (dprob_comm A4 A5 (x 0) (ctx (x 1)) (ctx (x 2)) _ fun _ => rfl)
/-- and by the scores. -/
theorem dscores_ctx : @Eq (FVec Ideal S4x256x256 .f32) (val_main_v128 (F := Ideal) (arr A0) (arr A1) (arr A2) (mat .f32 A3) (arr A4) (mat .f32 A5))
    (arr fun h r n => scale * dscore A0 A1 A2 A3 A4 A5 h (ctx r) (ctx n)) := by
  obtain ⟨M, hM⟩ := max_ctx A0 A1 A2 A3
  unfold val_main_v128 val_main_v127 val_main_v126 val_main_v125 val_main_v124 val_main_v123 val_main_v122 val_main_v121 val_main_v120 val_main_v119 val_main_v118 val_main_v117 val_main_v116 val_main_v115 val_main_v38 val_main_v37 val_main_v36 val_main_v33 val_main_cst_28 val_main_cst_27 val_main_cst_26 val_main_cst_9
  rw [dprobs_ctx, expos_ctx A0 A1 A2 A3 M hM, sums_ctx A0 A1 A2 A3 M hM]
  funext x
  pointwise [arr, mat]
  rw [real_scale]
  exact (grad_lift (fun n => score A0 A1 A2 A3 (x 0) (ctx (x 1)) (ctx n)) (fun n => dprob A4 A5 (x 0) (ctx (x 1)) (ctx n)) (M (x 0) (x 1)) scale (x 2)).trans
    (congrArg (fun r : ℝ => ((scale * r : ℝ) : EReal)) (dscore_ctx A0 A1 A2 A3 A4 A5 (x 0) (x 1) (x 2)).symm)

/-! ## The later rows -/

theorem scores_lat : @Eq (FVec Ideal S4x8192x8448 .f32) (val_main_v48 (F := Ideal) (arr A0) (arr A1) (arr A2) (mat .f32 A3)) (arr fun h r n => score A0 A1 A2 A3 h (lat r) n) := by
  unfold val_main_v48 val_main_v47 val_main_v46 val_main_v45 val_main_v44 val_main_v43 val_main_v42 val_main_v41 val_main_cst_10
  funext x
  pointwise [arr, mat]
  rw [real_scale]
  simp only [← EReal.coe_mul, ← EReal.coe_add, coe_sum]
  exact congrArg (fun r : ℝ => (r : EReal)) (score_comm A0 A1 A2 A3 (x 0) (lat (x 1)) (x 2))
theorem max_lat : ∃ M : Fin 4 → Fin 8192 → ℝ, @Eq (FVec Ideal S4x8192 .f32) (val_main_v56 (F := Ideal) (arr A0) (arr A1) (arr A2) (mat .f32 A3)) (mat .f32 M) := by
  obtain ⟨M, hM⟩ := max_arr reducesTo_S4x8192x8448_S4x8192_d2 h_S_ fun h r n => score A0 A1 A2 A3 h (lat r) n
  have e : @Eq (FVec Ideal S4x8192 .f32) (val_main_v49 (F := Ideal) (arr A0) (arr A1) (arr A2) (mat .f32 A3)) (mat .f32 M) := by
    unfold val_main_v49 val_main_cst_11
    rw [scores_lat]
    exact hM
  refine ⟨M, ?_⟩
  unfold val_main_v56 val_main_v55 val_main_cst_13
  rw [e]
  funext x
  pointwise [mat]
  rw [bot_f32]
  exact max_eq_right bot_le
theorem expos_lat (M : Fin 4 → Fin 8192 → ℝ) (hM : @Eq (FVec Ideal S4x8192 .f32) (val_main_v56 (F := Ideal) (arr A0) (arr A1) (arr A2) (mat .f32 A3)) (mat .f32 M)) :
    @Eq (FVec Ideal S4x8192x8448 .f32) (val_main_v69 (F := Ideal) (arr A0) (arr A1) (arr A2) (mat .f32 A3)) (arr fun h r n => Real.exp (score A0 A1 A2 A3 h (lat r) n - M h r)) := by
  unfold val_main_v69 val_main_v68 val_main_v67 val_main_v66
  rw [hM, scores_lat]
  funext x
  pointwise [arr, mat]
  rw [← EReal.coe_sub]
  exact Ideal.exp_coe _
theorem sums_lat (M : Fin 4 → Fin 8192 → ℝ) (hM : @Eq (FVec Ideal S4x8192 .f32) (val_main_v56 (F := Ideal) (arr A0) (arr A1) (arr A2) (mat .f32 A3)) (mat .f32 M)) :
    @Eq (FVec Ideal S4x8192 .f32) (val_main_v70 (F := Ideal) (arr A0) (arr A1) (arr A2) (mat .f32 A3)) (mat .f32 fun h r => ∑ n : Fin 8448, Real.exp (score A0 A1 A2 A3 h (lat r) n - M h r)) := by
  unfold val_main_v70 val_main_cst_19
  rw [expos_lat A0 A1 A2 A3 M hM]
  funext x
  pointwise [arr, mat]
  exact coe_sum _
/-- The shares, -/
theorem probs_lat : @Eq (FVec Ideal S4x8192x8448 .f32) (val_main_v73 (F := Ideal) (arr A0) (arr A1) (arr A2) (mat .f32 A3)) (arr fun h r n => prob A0 A1 A2 A3 h (lat r) n) := by
  obtain ⟨M, hM⟩ := max_lat A0 A1 A2 A3
  unfold val_main_v73 val_main_v72 val_main_v71
  rw [expos_lat A0 A1 A2 A3 M hM, sums_lat A0 A1 A2 A3 M hM]
  funext x
  pointwise [arr, mat]
  rw [div_real _ _ (sum_exp_pos _).ne']
  exact congrArg (fun r : ℝ => (r : EReal)) ((softmax_shift (fun n => score A0 A1 A2 A3 (x 0) (lat (x 1)) n) (M (x 0) (x 1)) (x 2)).trans
    (prob_lat A0 A1 A2 A3 (x 0) (x 1) (x 2)).symm)
/-- the derivative by the shares, -/
theorem dprobs_lat : @Eq (FVec Ideal S4x8192x8448 .f32) (val_main_v85 (F := Ideal) (arr A4) (mat .f32 A5)) (arr fun h r n => dprob A4 A5 h (lat r) n) := by
  unfold val_main_v85 val_main_v84 val_main_v83 val_main_v81
  funext x
  pointwise [arr, mat]
  simp only [← EReal.coe_mul, coe_sum]
  exact congrArg (fun r : ℝ => (r : EReal)) (dprob_comm A4 A5 (x 0) (lat (x 1)) (x 2) _ fun _ => rfl)
/-- and by the scores. -/
theorem dscores_lat : @Eq (FVec Ideal S4x8192x8448 .f32) (val_main_v101 (F := Ideal) (arr A0) (arr A1) (arr A2) (mat .f32 A3) (arr A4) (mat .f32 A5))
    (arr fun h r n => scale * dscore A0 A1 A2 A3 A4 A5 h (lat r) n) := by
  obtain ⟨M, hM⟩ := max_lat A0 A1 A2 A3
  unfold val_main_v101 val_main_v100 val_main_v99 val_main_v98 val_main_v97 val_main_v96 val_main_v95 val_main_v94 val_main_v93 val_main_v92 val_main_v91 val_main_v90 val_main_v89 val_main_v88 val_main_v76 val_main_v75 val_main_v74 val_main_v71 val_main_cst_23 val_main_cst_22 val_main_cst_21 val_main_cst_20
  rw [dprobs_lat, expos_lat A0 A1 A2 A3 M hM, sums_lat A0 A1 A2 A3 M hM]
  funext x
  pointwise [arr, mat]
  rw [real_scale]
  exact (grad_lift (fun n => score A0 A1 A2 A3 (x 0) (lat (x 1)) n) (fun n => dprob A4 A5 (x 0) (lat (x 1)) n) (M (x 0) (x 1)) scale (x 2)).trans
    (congrArg (fun r : ℝ => ((scale * r : ℝ) : EReal)) (dscore_lat A0 A1 A2 A3 A4 A5 (x 0) (x 1) (x 2)).symm)

end Cert.Mla.Ref

end
-- ==== Proof.MlaRefResult.lean ====
/- # The reference's results

The five results of the reference are the five gradients.
-/
module

public import proofs.«01_k».proof.Proof.MlaRef

@[expose] public section

set_option maxRecDepth 16384

noncomputable section

namespace Cert.Mla.Ref

open Idealize.ShloMosaic Idealize.ShloMosaic.TcCoe Idealize.SL.Sem
open Cert.MlaBwdReferenceIdeal Cert.MlaBwdReferenceIdeal.Gen Cert.MlaBwdReferenceIdeal.Read

variable (A0 : Fin 8448 → Fin 4 → Fin 128 → ℝ) (A1 : Fin 8448 → Fin 4 → Fin 64 → ℝ) (A2 : Fin 8448 → Fin 4 → Fin 128 → ℝ)
  (A3 : Fin 8448 → Fin 64 → ℝ) (A4 : Fin 8448 → Fin 4 → Fin 128 → ℝ) (A5 : Fin 8448 → Fin 512 → ℝ)

/-- A sum over the keys, padded from the parts of the later and of the first rows. -/
theorem queries (r : Fin 8448) (f : Fin 8448 → Fin 8448 → ℝ) (hf : ∀ k n, f (ctx k) (lat n) = 0) :
    ((if h : 256 ≤ r.val ∧ r.val - 256 < 8192 then ((∑ k, f (lat ⟨r.val - 256, h.2⟩) k : ℝ) : EReal) else 0)
      + if h : r.val < 256 then ((∑ k, f (ctx ⟨r.val, h⟩) (ctx k) : ℝ) : EReal) else 0) = ((∑ n, f r n : ℝ) : EReal) := by
  by_cases h : r.val < 256
  · rw [dif_neg fun h' => absurd h'.1 (by omega), dif_pos h, zero_add, sum_rows (f r)]
    have e : ∀ k, f r (lat k) = 0 := fun k => hf ⟨r.val, h⟩ k
    simp only [e, Finset.sum_const_zero, add_zero]
    rfl
  · have h2 : 256 ≤ r.val ∧ r.val - 256 < 8192 := ⟨by omega, by omega⟩
    rw [dif_pos h2, dif_neg h, add_zero]
    have e : lat ⟨r.val - 256, h2.2⟩ = r := Fin.ext (by show 256 + (r.val - 256) = r.val; omega)
    rw [e]
/-- A sum over the rows, from the later rows' part and the first rows' padded part. -/
theorem keys (n : Fin 8448) (f : Fin 8448 → Fin 8448 → ℝ) (hf : ∀ k n, f (ctx k) (lat n) = 0) :
    (((∑ k, f (lat k) n : ℝ) : EReal) + if h : n.val < 256 then ((∑ k, f (ctx k) (ctx ⟨n.val, h⟩) : ℝ) : EReal) else 0) = ((∑ r, f r n : ℝ) : EReal) := by
  rw [sum_rows fun r => f r n]
  by_cases h : n.val < 256
  · rw [dif_pos h, add_comm, ← EReal.coe_add]
    rfl
  · obtain ⟨k, rfl⟩ := (row_cases n).resolve_left fun ⟨k, e⟩ => h (e ▸ k.isLt)
    rw [dif_neg h, add_zero]
    simp only [hf, Finset.sum_const_zero, zero_add]
theorem dscore_unseen (h : Fin 4) (r : Fin 256) (n : Fin 8192) : dscore A0 A1 A2 A3 A4 A5 h (ctx r) (lat n) = 0 := by
  rw [dscore, prob_unseen, zero_mul]
theorem sum_scale {ι : Type} [Fintype ι] (d b : ι → ℝ) : ∑ k, scale * d k * b k = scale * ∑ k, d k * b k := by
  simp only [Finset.mul_sum, mul_assoc]

theorem q_real (h : Fin 4) (r : Fin 8448) (b : Fin 8448 → ℝ) :
    ((if h' : 256 ≤ r.val ∧ r.val - 256 < 8192 then ((∑ k, scale * dscore A0 A1 A2 A3 A4 A5 h (lat ⟨r.val - 256, h'.2⟩) k * b k : ℝ) : EReal) else 0)
      + if h' : r.val < 256 then ((∑ k, scale * dscore A0 A1 A2 A3 A4 A5 h (ctx ⟨r.val, h'⟩) (ctx k) * b (ctx k) : ℝ) : EReal) else 0)
      = ((scale * ∑ n, dscore A0 A1 A2 A3 A4 A5 h r n * b n : ℝ) : EReal) := by
  rw [← sum_scale]
  exact queries r (fun r n => scale * dscore A0 A1 A2 A3 A4 A5 h r n * b n) fun k n => by simp only [dscore_unseen, mul_zero, zero_mul]
theorem k_real (h : Fin 4) (n : Fin 8448) (b : Fin 8448 → ℝ) :
    (((∑ k, scale * dscore A0 A1 A2 A3 A4 A5 h (lat k) n * b (lat k) : ℝ) : EReal)
      + if h' : n.val < 256 then ((∑ k, scale * dscore A0 A1 A2 A3 A4 A5 h (ctx k) (ctx ⟨n.val, h'⟩) * b (ctx k) : ℝ) : EReal) else 0)
      = ((scale * ∑ r, dscore A0 A1 A2 A3 A4 A5 h r n * b r : ℝ) : EReal) := by
  rw [← sum_scale]
  exact keys n (fun r n => scale * dscore A0 A1 A2 A3 A4 A5 h r n * b r) fun k n => by simp only [dscore_unseen, mul_zero, zero_mul]
theorem kr_real (n : Fin 8448) (y : Fin 64) :
    (((∑ k, ∑ h, scale * dscore A0 A1 A2 A3 A4 A5 h (lat k) n * A1 (lat k) h y : ℝ) : EReal)
      + if h' : n.val < 256 then ((∑ k, ∑ h, scale * dscore A0 A1 A2 A3 A4 A5 h (ctx k) (ctx ⟨n.val, h'⟩) * A1 (ctx k) h y : ℝ) : EReal) else 0)
      = ((gradKr A0 A1 A2 A3 A4 A5 n y : ℝ) : EReal) := by
  refine (keys n (fun r n => ∑ h, scale * dscore A0 A1 A2 A3 A4 A5 h r n * A1 r h y) fun k n => ?_).trans (congrArg (fun r : ℝ => (r : EReal)) ?_)
  · simp only [dscore_unseen, mul_zero, zero_mul, Finset.sum_const_zero]
  · rw [gradKr, Finset.sum_comm]
    simp only [sum_scale, Finset.mul_sum, mul_assoc]
theorem v_real (h : Fin 4) (e : Fin 128) (n : Fin 8448) (C : Fin 512) (hC : C.val = h.val * 128 + e.val) :
    (((∑ k, A5 (lat k) C * prob A0 A1 A2 A3 h (lat k) n : ℝ) : EReal)
      + if h' : n.val < 256 then ((∑ k, A5 (ctx k) C * prob A0 A1 A2 A3 h (ctx k) (ctx ⟨n.val, h'⟩) : ℝ) : EReal) else 0)
      = ((gradV A0 A1 A2 A3 A5 n h e : ℝ) : EReal) := by
  obtain rfl : C = colV h e := Fin.ext (hC.trans (by rw [mul_comm]; rfl))
  simp only [gradV, mul_comm (prob A0 A1 A2 A3 h _ n)]
  exact keys n (fun r n => A5 r (colV h e) * prob A0 A1 A2 A3 h r n) fun k n => by simp only [prob_unseen, mul_zero]

theorem result_v145 : @Eq (FVec Ideal S8448x4x128 .f32) (val_main_v145 (F := Ideal) (arr A0) (arr A1) (arr A2) (mat .f32 A3) (arr A4) (mat .f32 A5)) (arr (gradQn A0 A1 A2 A3 A4 A5)) := by
  unfold val_main_v145 val_main_v110 val_main_v108 val_main_v107 val_main_v144 val_main_v135 val_main_v134 val_main_v2 val_main_cst_25 val_main_cst_33
  rw [dscores_lat, dscores_ctx]
  funext x
  pointwise [arr, mat]
  simp only [← EReal.coe_mul, ← EReal.coe_add, coe_sum]
  exact q_real A0 A1 A2 A3 A4 A5 (x 1) (x 0) fun n => A2 n (x 1) (x 2)

theorem result_v143 : @Eq (FVec Ideal S8448x4x64 .f32) (val_main_v143 (F := Ideal) (arr A0) (arr A1) (arr A2) (mat .f32 A3) (arr A4) (mat .f32 A5)) (arr (gradQr A0 A1 A2 A3 A4 A5)) := by
  unfold val_main_v143 val_main_v109 val_main_v103 val_main_v102 val_main_v142 val_main_v130 val_main_v129 val_main_v3 val_main_cst_24 val_main_cst_32
  rw [dscores_lat, dscores_ctx]
  funext x
  pointwise [arr, mat]
  simp only [← EReal.coe_mul, ← EReal.coe_add, coe_sum]
  exact q_real A0 A1 A2 A3 A4 A5 (x 1) (x 0) fun n => A3 n (x 2)

theorem result_v141 : @Eq (FVec Ideal S8448x4x128 .f32) (val_main_v141 (F := Ideal) (arr A0) (arr A1) (arr A2) (mat .f32 A3) (arr A4) (mat .f32 A5)) (arr (gradKn A0 A1 A2 A3 A4 A5)) := by
  unfold val_main_v141 val_main_v106 val_main_v105 val_main_v41 val_main_v140 val_main_v133 val_main_v132 val_main_v0 val_main_cst_31
  rw [dscores_lat, dscores_ctx]
  funext x
  pointwise [arr, mat]
  simp only [← EReal.coe_mul, ← EReal.coe_add, coe_sum]
  exact k_real A0 A1 A2 A3 A4 A5 (x 1) (x 0) fun r => A0 r (x 1) (x 2)

theorem result_v139 : @Eq (FVec Ideal S8448x64 .f32) (val_main_v139 (F := Ideal) (arr A0) (arr A1) (arr A2) (mat .f32 A3) (arr A4) (mat .f32 A5)) (mat .f32 (gradKr A0 A1 A2 A3 A4 A5)) := by
  unfold val_main_v139 val_main_v104 val_main_v102 val_main_v42 val_main_v138 val_main_v131 val_main_v129 val_main_v1 val_main_cst_30
  rw [dscores_lat, dscores_ctx]
  funext x
  pointwise [arr, mat]
  simp only [← EReal.coe_mul, ← EReal.coe_add, coe_sum]
  exact kr_real A0 A1 A2 A3 A4 A5 (x 0) (x 1)

theorem result_v137 : @Eq (FVec Ideal S8448x4x128 .f32) (val_main_v137 (F := Ideal) (arr A0) (arr A1) (arr A2) (mat .f32 A3) (mat .f32 A5)) (arr (gradV A0 A1 A2 A3 A5)) := by
  unfold val_main_v137 val_main_v87 val_main_v86 val_main_v84 val_main_v83 val_main_v136 val_main_v114 val_main_v113 val_main_v111 val_main_v82 val_main_v81 val_main_cst_29
  rw [probs_lat, probs_ctx]
  funext x
  pointwise [arr, mat]
  simp only [← EReal.coe_mul, ← EReal.coe_add, coe_sum]
  exact v_real A0 A1 A2 A3 A5 (x 1) (x 2) (x 0) _ rfl

end Cert.Mla.Ref

end
-- ==== Proof.MlaClaim.lean ====
/- # The claims of `mla_backward`

Both programs run, and under finite arguments they end with the same five gradients.
-/
module

public import proofs.«01_k».proof.Defs
public import proofs.«01_k».proof.Proof.Gen.MlaBwd
public import proofs.«01_k».proof.Proof.Gen.Pre_mla_bwd_finite
public import proofs.«01_k».proof.Proof.Gen.MlaBwdReferenceIdeal.Run
public import proofs.«01_k».proof.Proof.Base
public import proofs.«01_k».proof.Proof.MlaResult
public import proofs.«01_k».proof.Proof.MlaRefResult
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Mla

open Idealize.ShloMosaic Idealize.SL.Sem

section
open Cert.MlaBwdIdeal
/-- The kernel ends with its arguments unchanged and no counter raised. -/
theorem run_frame {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => by
    have hc := (h.1 c).1
    exact ⟨hc _ (by simp), hc _ (by simp), hc _ (by simp), hc _ (by simp), hc _ (by simp), hc _ (by simp)⟩, h.2⟩) (run_full (F := F) m ρ)
end
/-- Over words a named constant is what its word denotes. -/
def bitsNamed : Named Bits := ⟨fun _ _ {φ} b => FloatOps.ofBits φ b⟩
theorem quiescent_kernel_bits : Cert.quiescent_MlaBwd := fun m ρ _ => by
  letI := bitsNamed
  exact cast (by sl_kernel_rfl) (run_frame (F := Bits) m ρ)
theorem quiescent_kernel : Cert.quiescent_MlaBwdIdeal := fun m ρ _ => run_frame (F := Ideal) m ρ
/-- So does the reference. -/
theorem quiescent_reference : Cert.quiescent_MlaBwdReferenceIdeal := fun m ρ _ =>
  (θ_run Cert.MlaBwdReferenceIdeal.defs _ _).mono (fun r h => ⟨fun c => (h c).2.2.2.2.2, sem_eq_zero_of_no_sems (by decide) r.2⟩)
    (Cert.MlaBwdReferenceIdeal.Value.run (F := Ideal) m ρ)

/-- An array all of whose elements are reals is an array of reals. -/
theorem exists_arr {a b d : ℕ} (v : FVec Ideal ⟨3, ![a, b, d]⟩ .f32) (h : ∀ i, ∃ r : ℝ, v i = (r : EReal)) : ∃ f, v = arr f := by
  choose g hg using h
  refine ⟨fun p q s => g (ix3 p q s), funext fun x => (hg x).trans ?_⟩
  have e : ix3 (x 0) (x 1) (x 2) = x := funext fun k => by fin_cases k <;> rfl
  exact congrArg (fun i => ((g i : ℝ) : EReal)) e.symm
theorem exists_mat {a b : ℕ} (v : FVec Ideal ⟨2, ![a, b]⟩ .f32) (h : ∀ i, ∃ r : ℝ, v i = (r : EReal)) : ∃ f : Fin a → Fin b → ℝ, v = mat .f32 f := by
  choose g hg using h
  refine ⟨fun p q => g (ix2 p q), funext fun x => (hg x).trans ?_⟩
  have e : ix2 (x 0) (x 1) = x := funext fun k => by fin_cases k <;> rfl
  exact congrArg (fun i => ((g i : ℝ) : EReal)) e.symm

/-- Where the arguments pass the precondition, they are arrays of reals. -/
theorem real_args (a0 : FVec Ideal ⟨3, ![8448, 4, 128]⟩ .f32) (a1 : FVec Ideal ⟨3, ![8448, 4, 64]⟩ .f32) (a2 : FVec Ideal ⟨3, ![8448, 4, 128]⟩ .f32)
    (a3 : FVec Ideal ⟨2, ![8448, 64]⟩ .f32) (a4 : FVec Ideal ⟨3, ![8448, 4, 128]⟩ .f32) (a5 : FVec Ideal ⟨2, ![8448, 512]⟩ .f32)
    (h : (Cert.Pre_mla_bwd_finite.fn a0 a1 a2 a3 a4 a5).1 = (fun _ => 1#1) ∧ (Cert.Pre_mla_bwd_finite.fn a0 a1 a2 a3 a4 a5).2.1 = (fun _ => 1#1)
      ∧ (Cert.Pre_mla_bwd_finite.fn a0 a1 a2 a3 a4 a5).2.2.1 = (fun _ => 1#1) ∧ (Cert.Pre_mla_bwd_finite.fn a0 a1 a2 a3 a4 a5).2.2.2.1 = (fun _ => 1#1)
      ∧ (Cert.Pre_mla_bwd_finite.fn a0 a1 a2 a3 a4 a5).2.2.2.2.1 = (fun _ => 1#1) ∧ (Cert.Pre_mla_bwd_finite.fn a0 a1 a2 a3 a4 a5).2.2.2.2.2 = (fun _ => 1#1)) :
    ∃ A0 A1 A2 A3 A4 A5, a0 = arr A0 ∧ a1 = arr A1 ∧ a2 = arr A2 ∧ a3 = mat .f32 A3 ∧ a4 = arr A4 ∧ a5 = mat .f32 A5 := by
  obtain ⟨h0, h1, h2, h3, h4, h5⟩ := h
  obtain ⟨A0, e0⟩ := exists_arr a0 fun i => Base.real_of_abs_lt _ (congrFun h0 i)
  obtain ⟨A1, e1⟩ := exists_arr a1 fun i => Base.real_of_abs_lt _ (congrFun h1 i)
  obtain ⟨A2, e2⟩ := exists_arr a2 fun i => Base.real_of_abs_lt _ (congrFun h2 i)
  obtain ⟨A3, e3⟩ := exists_mat a3 fun i => Base.real_of_abs_lt _ (congrFun h3 i)
  obtain ⟨A4, e4⟩ := exists_arr a4 fun i => Base.real_of_abs_lt _ (congrFun h4 i)
  obtain ⟨A5, e5⟩ := exists_mat a5 fun i => Base.real_of_abs_lt _ (congrFun h5 i)
  exact ⟨A0, A1, A2, A3, A4, A5, e0, e1, e2, e3, e4, e5⟩

/-- The named constant is the logarithm of two. -/
theorem preserves : Cert.preserves_MlaBwd_MlaBwdIdeal :=
  IdealRules.named_const.statement Cert.MlaBwdIdeal.κ "ln2" .f32 0x3F317218#32 _ rfl

section
open Cert.MlaBwdIdeal
/-- The kernel's five results, and its arguments as they were. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72) = end_ m c main_v72 ∧ r.2.mem ((c.tc : Thread nD τ).loc main_v73) = end_ m c main_v73
      ∧ r.2.mem ((c.tc : Thread nD τ).loc main_v74) = end_ m c main_v74 ∧ r.2.mem ((c.tc : Thread nD τ).loc main_v76) = end_ m c main_v76
      ∧ r.2.mem ((c.tc : Thread nD τ).loc main_v77) = end_ m c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨ha, hr⟩ := h.1 c
    exact ⟨hr _ (Pipeline.mem_restRefs_of _ (by decide) (by decide)), hr _ (Pipeline.mem_restRefs_of _ (by decide) (by decide)),
      hr _ (Pipeline.mem_restRefs_of _ (by decide) (by decide)), hr _ (Pipeline.mem_restRefs_of _ (by decide) (by decide)),
      hr _ (Pipeline.mem_restRefs_of _ (by decide) (by decide)),
      ha _ (by simp), ha _ (by simp), ha _ (by simp), ha _ (by simp), ha _ (by simp), ha _ (by simp)⟩) (run_full (F := Ideal) m ρ)
end

section
open StableHlo Cert.MlaBwdReferenceIdeal Cert.MlaBwdReferenceIdeal.Read
/-- The reference's five results, as functions of its arguments. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v145) = val_main_v145 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v143) = val_main_v143 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v141) = val_main_v141 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v139) = val_main_v139 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v137) = val_main_v137 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨r0, r1, r2, r3, r4, ha⟩ := h c
    exact ⟨r0.trans (val_main_v145_eq (launchContents m c)), r1.trans (val_main_v143_eq (launchContents m c)), r2.trans (val_main_v141_eq (launchContents m c)),
      r3.trans (val_main_v139_eq (launchContents m c)), r4.trans (val_main_v137_eq (launchContents m c)), ha⟩) (Cert.MlaBwdReferenceIdeal.Value.run (F := Ideal) m ρ)
end

/-- The call's five gradients are the derivatives of the attention, over the extended reals. -/
theorem algebraic : Cert.algebraic_MlaBwdIdeal_MlaBwdReferenceIdeal_pre_mla_bwd_finite := by
  intro m ρ m' ρ' hpre hagree
  refine ⟨_, _, _, _, _, run_results m ρ, ?_⟩
  refine (θ_run Cert.MlaBwdReferenceIdeal.defs _ _).mono (fun _ h c => ?_) (run_reference m' ρ')
  obtain ⟨r0, r1, r2, r3, r4, ha⟩ := h c
  obtain ⟨e0, e1, e2, e3, e4, e5⟩ := hagree c
  obtain ⟨A0, A1, A2, A3, A4, A5, h0, h1, h2, h3, h4, h5⟩ := real_args _ _ _ _ _ _ (hpre c)
  refine ⟨r0.trans ?_, r1.trans ?_, r2.trans ?_, r3.trans ?_, r4.trans ?_, ha⟩
  · rw [e0, e1, e2, e3, e4, e5]
    erw [h0, h1, h2, h3, h4, h5]
    exact (Ref.result_v145 A0 A1 A2 A3 A4 A5).trans (result_v72 m c A0 A1 A2 A3 A4 A5 h0 h1 h2 h3 h4 h5).symm
  · rw [e0, e1, e2, e3, e4, e5]
    erw [h0, h1, h2, h3, h4, h5]
    exact (Ref.result_v143 A0 A1 A2 A3 A4 A5).trans (result_v73 m c A0 A1 A2 A3 A4 A5 h0 h1 h2 h3 h4 h5).symm
  · rw [e0, e1, e2, e3, e4, e5]
    erw [h0, h1, h2, h3, h4, h5]
    exact (Ref.result_v141 A0 A1 A2 A3 A4 A5).trans (result_v74 m c A0 A1 A2 A3 A4 A5 h0 h1 h2 h3 h4 h5).symm
  · rw [e0, e1, e2, e3, e4, e5]
    erw [h0, h1, h2, h3, h4, h5]
    exact (Ref.result_v139 A0 A1 A2 A3 A4 A5).trans (result_v76 m c A0 A1 A2 A3 A4 A5 h0 h1 h2 h3 h4 h5).symm
  · rw [e0, e1, e2, e3, e5]
    erw [h0, h1, h2, h3, h5]
    exact (Ref.result_v137 A0 A1 A2 A3 A5).trans (result_v77 m c A0 A1 A2 A3 A4 A5 h0 h1 h2 h3 h4 h5).symm

end Cert.Mla

end
-- ==== Proof.ModValue.lean ====
/- # What the call `mod_bwd` leaves in its two results

The gradient by the weight's columns, from the rows of all sequences and of the context, and the cotangent of the context's `silu`.
-/
module

public import proofs.«01_k».proof.Proof.Gen.ModBwdIdeal.Value
public import Idealize.ShloMosaic.Lib.Pipeline.ValueKit
public import Idealize.ShloMosaic.Lib.StableHlo.RunRead

@[expose] public section

set_option maxRecDepth 16384

noncomputable section

namespace Cert.Mod

open Idealize.ShloMosaic Idealize.ShloMosaic.TcCoe Idealize.SL.Sem

/-- The context's cotangents of all sequences, summed. -/
def dsum (dc : FVec Ideal ⟨3, ![2, 8, 768]⟩ .f32) (l : Fin 2) (x : Fin 768) : EReal := ∑ b : Fin 8, dc (ix3 l b x)
/-- `silu`. -/
def silu (c : EReal) : EReal := c * Ideal.logistic c
/-- The gradient by the weight. -/
def gw (ca : FVec Ideal ⟨2, ![8, 1024]⟩ .f32) (cc : FVec Ideal ⟨1, ![1024]⟩ .f32) (dn dc : FVec Ideal ⟨3, ![2, 8, 768]⟩ .f32) (l : Fin 2)
    (d : Fin 1024) (x : Fin 768) : EReal :=
  (∑ b : Fin 8, silu (ca (ix2 b d)) * dn (ix3 l b x)) + silu (cc (ix1 d)) * dsum dc l x
/-- The cotangent of the context's `silu`. -/
def gs (w : FVec Ideal ⟨3, ![2, 1024, 768]⟩ .f32) (dc : FVec Ideal ⟨3, ![2, 8, 768]⟩ .f32) (l : Fin 2) (d : Fin 1024) : EReal :=
  ∑ x : Fin 768, dsum dc l x * w (ix3 l d x)

open Cert.ModBwdIdeal Cert.ModBwdIdeal.Gen

/-- The two blocks the body stores, from the blocks it loads. -/
theorem pay1 (v0 : Vec Ideal S1x8x768 .f32) (w : Vec Ideal S1x1024x768 .f32) (y : S1x8x1024.Idx) :
    k0_pay1 (k0_pay4 v0) w y = ∑ x : Fin 768, (∑ b : Fin 8, v0 (ix3 0 b x)) * w (ix3 0 (y 2) x) := by
  pointwise [k0_pay1, k0_pay4, k0_pay2]
  simp only [Fin.sum_univ_eight]
theorem pay3 (v0 v18 : Vec Ideal S1x8x768 .f32) (r : Vec Ideal S16x1024 .f32) (y : S1x1024x768.Idx) :
    k0_pay3 v0 v18 r y = (∑ b : Fin 8, silu (r (ix2 ⟨b.val, by omega⟩ (y 1))) * v18 (ix3 0 b (y 2)))
      + silu (r (ix2 8 (y 1))) * ∑ b : Fin 8, v0 (ix3 0 b (y 2)) := by
  pointwise [k0_pay3, k0_pay2]
  refine congrArg₂ (· + ·) rfl ?_
  have h : ∀ x : Fin 8, x ≠ 0 → IntOp.cmpi CmpIPredicate.eq (BitVec.ofNat 32 x.val) 0#32 = 0#1 := by decide
  rw [Finset.sum_eq_single 0 (fun x _ hx => by rw [h x hx]; rfl) (fun h => absurd (Finset.mem_univ _) h)]
  simp only [Fin.sum_univ_eight]
  rfl

variable (m : (ℓ : Loc nD τ sig) → Buf (Elt Ideal) ℓ) (c : Dev nD)

/-- The rows of all sequences, the context's row, and zeros. -/
def rows16 (ca : FVec Ideal S8x1024 .f32) (cc : FVec Ideal S1024 .f32) : FVec Ideal S16x1024 .f32 := fun y =>
  if h : (y 0).val < 8 then ca (ix2 ⟨(y 0).val, h⟩ (y 1)) else if (y 0).val - 8 < 1 then cc (ix1 (y 1)) else (0 : EReal)
theorem crows : @Eq (FVec Ideal S16x1024 .f32) (V m c main_v2)
    (rows16 (m ((c.tc : Thread nD τ).loc main_arg0)) (m ((c.tc : Thread nD τ).loc main_arg1))) := by
  have e : @Eq (FVec Ideal S16x1024 .f32) (V m c main_v2) (concatenate S16x1024 0 [⟨S8x1024, (m ((c.tc : Thread nD τ).loc main_arg0) : FVec Ideal S8x1024 .f32)⟩,
      ⟨S1x1024, (broadcastInDim S1x1024 ![1] bcast_S1024_S1x1024_1 (m ((c.tc : Thread nD τ).loc main_arg1) : FVec Ideal S1024 .f32))⟩,
      ⟨S7x1024, (broadcastInDim S7x1024 ![] bcast_S_S7x1024 (constant (F := Ideal) S_ .f32 0x00000000#32))⟩] concatenates_S8x1024_S1x1024_S7x1024_S16x1024_d0) := by
    unfold V; simp only [List.flatten_cons, List.flatten_nil, List.append_nil]; after_reads_simp
    all_goals try rfl
  rw [e]; funext y
  pointwise
  rfl

/-- A point's layer. -/
def lay (t : Fin cfg0.N) : Fin 2 := ⟨t.val, Nat.lt_of_lt_of_eq t.isLt N_0⟩
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] := (by decide +kernel : ∀ t : Fin grid0.N, _)

/-- The blocks a point loads. -/
theorem blk_c (t : Fin cfg0.N) : (iblk m c 0 t : FVec Ideal S16x1024 .f32)
    = rows16 (m ((c.tc : Thread nD τ).loc main_arg0)) (m ((c.tc : Thread nD τ).loc main_arg1)) := by
  funext y
  have e : iblk m c 0 t y = (V m c main_v2 : FVec Ideal S16x1024 .f32) (((cfg0.win 0).blk t).view.emb y) := rfl
  have e' : ((cfg0.win 0).blk t).view.emb y = y := by
    funext k; apply Fin.ext
    fin_cases k <;> blk_simp [idx t] <;> rfl
  rw [e, e', crows]
theorem blk_w (t : Fin cfg0.N) (y) : iblk m c 1 t y = (m ((c.tc : Thread nD τ).loc main_arg2) : FVec Ideal S2x1024x768 .f32) (ix3 (lay t) (y 1) (y 2)) := by
  have e : iblk m c 1 t y = (V m c main_arg2 : FVec Ideal S2x1024x768 .f32) (((cfg0.win 1).blk t).view.emb y) := rfl
  rw [e, V_main_arg2]
  refine congrArg _ (funext fun k => Fin.ext ?_)
  fin_cases k <;> blk_simp [idx t] <;> rfl
theorem blk_n (t : Fin cfg0.N) (y) : iblk m c 2 t y = (m ((c.tc : Thread nD τ).loc main_arg3) : FVec Ideal S2x8x768 .f32) (ix3 (lay t) (y 1) (y 2)) := by
  have e : iblk m c 2 t y = (V m c main_arg3 : FVec Ideal S2x8x768 .f32) (((cfg0.win 2).blk t).view.emb y) := rfl
  rw [e, V_main_arg3]
  refine congrArg _ (funext fun k => Fin.ext ?_)
  fin_cases k <;> blk_simp [idx t] <;> rfl
theorem blk_d (t : Fin cfg0.N) (y) : iblk m c 3 t y = (m ((c.tc : Thread nD τ).loc main_arg4) : FVec Ideal S2x8x768 .f32) (ix3 (lay t) (y 1) (y 2)) := by
  have e : iblk m c 3 t y = (V m c main_arg4 : FVec Ideal S2x8x768 .f32) (((cfg0.win 3).blk t).view.emb y) := rfl
  rw [e, V_main_arg4]
  refine congrArg _ (funext fun k => Fin.ext ?_)
  fin_cases k <;> blk_simp [idx t] <;> rfl

theorem hz3 : (![0, 0, 0] : Fin 3 → Nat) = fun _ => 0 := funext fun a => by fin_cases a <;> rfl
theorem hz2 : (![0, 0] : Fin 2 → Nat) = fun _ => 0 := funext fun a => by fin_cases a <;> rfl

theorem ld0 (x : Vec Ideal S1x8x768 .f32) : View.ld x r0_0 = x := View.ld_unit_zero hz3 _ _
theorem ld1 (x : Vec Ideal S16x1024 .f32) : View.ld x r0_1 = x := View.ld_unit_zero hz2 _ _
theorem ld2 (x : Vec Ideal S1x1024x768 .f32) : View.ld x r0_2 = x := View.ld_unit_zero hz3 _ _

/-- The two results. -/
theorem final_gw : (dats m 0 c).arrAt 4 (cfgs 0).N = fun y => gw (m ((c.tc : Thread nD τ).loc main_arg0)) (m ((c.tc : Thread nD τ).loc main_arg1))
    (m ((c.tc : Thread nD τ).loc main_arg3)) (m ((c.tc : Thread nD τ).loc main_arg4)) (y 0) (y 1) (y 2) := by
  refine (dats m 0 c).arrAt_eq_of_covers 4 _ (by decide +kernel) fun t hf y => ?_
  have e : ∀ z, (dats m 0 c).after 4 t z = gw (m ((c.tc : Thread nD τ).loc main_arg0)) (m ((c.tc : Thread nD τ).loc main_arg1))
      (m ((c.tc : Thread nD τ).loc main_arg3)) (m ((c.tc : Thread nD τ).loc main_arg4)) (lay t) (z 1) (z 2) := by
    intro z
    rw [after0_4]; unfold out0_4
    rw [View.canon_unit_zero hz3, ld0, ld0, ld1, pay3, blk_c]
    simp only [blk_d, blk_n]
    rfl
  blk_simp
  rw [e]
  have core : ∀ (l l' : Fin 2) (d d' : Fin 1024) (x x' : Fin 768), l = l' → d = d' → x = x' →
      gw (m ((c.tc : Thread nD τ).loc main_arg0)) (m ((c.tc : Thread nD τ).loc main_arg1))
        (m ((c.tc : Thread nD τ).loc main_arg3)) (m ((c.tc : Thread nD τ).loc main_arg4)) l d x
      = gw (m ((c.tc : Thread nD τ).loc main_arg0)) (m ((c.tc : Thread nD τ).loc main_arg1))
        (m ((c.tc : Thread nD τ).loc main_arg3)) (m ((c.tc : Thread nD τ).loc main_arg4)) l' d' x' := by
    rintro l _ d _ x _ rfl rfl rfl; rfl
  refine core _ _ _ _ _ _ (Fin.ext ?_) (Fin.ext ?_) (Fin.ext ?_) <;> blk_simp [idx t] <;> rfl
theorem final_gs : (dats m 0 c).arrAt 5 (cfgs 0).N = fun y => gs (m ((c.tc : Thread nD τ).loc main_arg2))
    (m ((c.tc : Thread nD τ).loc main_arg4)) (y 0) (y 2) := by
  refine (dats m 0 c).arrAt_eq_of_covers 5 _ (by decide +kernel) fun t hf y => ?_
  have e : ∀ z, (dats m 0 c).after 5 t z = gs (m ((c.tc : Thread nD τ).loc main_arg2)) (m ((c.tc : Thread nD τ).loc main_arg4)) (lay t) (z 2) := by
    intro z
    rw [after0_5]; unfold out0_5
    rw [View.canon_unit_zero hz3, ld0, ld2, pay1]
    simp only [blk_w, blk_d]
    rfl
  blk_simp
  rw [e]
  have core : ∀ (l l' : Fin 2) (d d' : Fin 1024), l = l' → d = d' → gs (m ((c.tc : Thread nD τ).loc main_arg2)) (m ((c.tc : Thread nD τ).loc main_arg4)) l d
      = gs (m ((c.tc : Thread nD τ).loc main_arg2)) (m ((c.tc : Thread nD τ).loc main_arg4)) l' d' := by
    rintro l _ d _ rfl rfl; rfl
  refine core _ _ _ _ (Fin.ext ?_) (Fin.ext ?_) <;> blk_simp [idx t] <;> rfl

end Cert.Mod

end
-- ==== Proof.ModClaim.lean ====
/- # The claims of `mod_bwd`

The reference's run and results, and the equality of both programs' results, with no precondition.
-/
module

public import proofs.«01_k».proof.Defs
public import proofs.«01_k».proof.Proof.ModValue
public import proofs.«01_k».proof.Proof.Gen.ModBwd.Frame
public import proofs.«01_k».proof.Proof.Gen.ModBwdReferenceIdeal.Read
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Mod

open Idealize.ShloMosaic Idealize.SL.Sem

/-- The reference ends with its arguments unchanged and no counter raised. -/
theorem quiescent_reference : Cert.quiescent_ModBwdReferenceIdeal := fun m ρ _ =>
  (θ_run Cert.ModBwdReferenceIdeal.defs _ _).mono (fun r h => ⟨fun c => (h c).2.2, sem_eq_zero_of_no_sems (by decide) r.2⟩)
    (Cert.ModBwdReferenceIdeal.Value.run (F := Ideal) m ρ)

section
open StableHlo Cert.ModBwdReferenceIdeal Cert.ModBwdReferenceIdeal.Read
variable (a0 : FVec Ideal S8x1024 .f32) (a1 : FVec Ideal S1024 .f32) (a2 : FVec Ideal S2x1024x768 .f32) (a3 a4 : FVec Ideal S2x8x768 .f32)
theorem ref_gs (y : S2x8x1024.Idx) : val_main_v64 (F := Ideal) a2 a4 y = gs a2 a4 (y 0) (y 2) := by
  pointwise [val_main_v64, val_main_v63, val_main_v48, val_main_v47, val_main_cst_4, val_main_v43, val_main_v40, val_main_v39, val_main_cst_2, val_main_v38, val_main_cst_1, val_main_v35, val_main_v32, val_main_v31, val_main_cst, val_main_v30, val_main_v29, val_main_v28, val_main_v27, val_main_v21, val_main_v20, val_main_v16, val_main_v15]
  have core : ∀ (l : Fin 2) (d : Fin 1024), ((if h : 1 ≤ l.val ∧ l.val - 1 < 1 then gs a2 a4 1 d else 0) + if h : l.val < 1 then gs a2 a4 0 d else 0)
      = gs a2 a4 l d := by
    intro l d; fin_cases l <;> simp
  exact core (y 0) (y 2)
theorem ref_gw (y : S2x1024x768.Idx) : val_main_v62 (F := Ideal) a0 a1 a3 a4 y = gw a0 a1 a3 a4 (y 0) (y 1) (y 2) := by
  pointwise [val_main_v62, val_main_v61, val_main_cst_6, val_main_v60, val_main_v59, val_main_v58, val_main_v57, val_main_v56, val_main_cst_5, val_main_v55, val_main_v54, val_main_v53, val_main_v52, val_main_v51, val_main_v50, val_main_v49, val_main_v46, val_main_v45, val_main_cst_3, val_main_v44, val_main_v42, val_main_v41, val_main_v40, val_main_v39, val_main_cst_2, val_main_v37, val_main_cst_0, val_main_v36, val_main_v34, val_main_v33, val_main_v32, val_main_v31, val_main_cst, val_main_v30, val_main_v29, val_main_v28, val_main_v27, val_main_v19, val_main_v14, val_main_v4, val_main_v3, val_main_v2, val_main_v1, val_main_call1_v5, val_main_call1_v4, val_main_call1_cst_0, val_main_call1_v3, val_main_call1_v2, val_main_call1_cst, val_main_call1_v1, val_main_call1_v0, val_main_v0, val_main_call0_v5, val_main_call0_v4, val_main_call0_cst_0, val_main_call0_v3, val_main_call0_v2, val_main_call0_cst, val_main_call0_v1, val_main_call0_v0]
  have core : ∀ (l : Fin 2) (d : Fin 1024) (x : Fin 768),
      ((((if h : 1 ≤ l.val ∧ l.val - 1 < 1 then ∑ _k : Fin 1, dsum a4 1 x * silu (a1 (ix1 d)) else 0)
        + if h : l.val < 1 then ∑ _k : Fin 1, dsum a4 0 x * silu (a1 (ix1 d)) else 0)
        + if h : 1 ≤ l.val ∧ l.val - 1 < 1 then ∑ b : Fin 8, a3 (ix3 1 b x) * silu (a0 (ix2 b d)) else 0)
        + if h : l.val < 1 then ∑ b : Fin 8, a3 (ix3 0 b x) * silu (a0 (ix2 b d)) else 0) = gw a0 a1 a3 a4 l d x := by
    intro l d x
    fin_cases l <;> simp [gw, add_comm, mul_comm]
  exact core (y 0) (y 1) (y 2)
end

open Cert.ModBwdReferenceIdeal.Read in
/-- The call's two results are the derivatives of the modulation's lines, over the extended reals. -/
theorem algebraic : Cert.algebraic_ModBwdIdeal_ModBwdReferenceIdeal := by
  intro m ρ m' ρ' _ hagree
  refine ⟨_, _, Cert.ModBwdIdeal.Value.run_blocks (F := Ideal) m ρ, ?_⟩
  refine (θ_run Cert.ModBwdReferenceIdeal.defs _ _).mono (fun _ h c => ?_) (Cert.ModBwdReferenceIdeal.Value.run (F := Ideal) m' ρ')
  obtain ⟨r0, r1, ha⟩ := h c
  obtain ⟨e0, e1, e2, e3, e4⟩ := hagree c
  refine ⟨r0.trans ?_, r1.trans ?_, ha⟩
  · rw [val_main_v62_eq, e0, e1, e3, e4]
    exact (funext (ref_gw _ _ _ _)).trans (final_gw m c).symm
  · rw [e2, e4, val_main_v64_eq]
    exact (funext (ref_gs _ _)).trans (final_gs m c).symm

end Cert.Mod

end
-- ==== Proof.LossValue.lean ====
/- # What the call `final_loss` leaves in its three results

The loss, which every point adds to; the gradient by the rows, a block a point; the gradient by the norm's weight, which every point adds to.
Point 0 holds the context's rows, which carry no loss: it writes zeros.
-/
module

public import proofs.«01_k».proof.Proof.Gen.FinalLossIdeal.Value
public import Idealize.ShloMosaic.Lib.Pipeline.ValueKit
public import Idealize.ShloMosaic.Lib.VecWindow
public import Idealize.ShloMosaic.Lib.StableHlo.RunRead

@[expose] public section

set_option maxRecDepth 16384

noncomputable section

namespace Cert.Loss

open Idealize.ShloMosaic Idealize.ShloMosaic.TcCoe Idealize.SL.Sem

/-! ## One row: its elements `x`, its target's `t`, the norm's weight `w` -/

/-- The mean of the squares, and the small constant. -/
def ms (x : Fin 1024 → EReal) : EReal :=
  Ideal.div (∑ k, x k * x k) (Ideal.ofBits .f32 0x44800000#32) + Ideal.ofBits .f32 0x358637BD#32
/-- The normalised row minus its target. -/
def er (x w t : Fin 1024 → EReal) (k : Fin 1024) : EReal := x k * Ideal.rsqrt (ms x) * w k - t k
/-- The cotangent of the normalised row. -/
def ct (x w t : Fin 1024 → EReal) (k : Fin 1024) : EReal := er x w t k * Ideal.ofBits .f32 0x3A800000#32
/-- The mean of the squared errors. -/
def lo (x w t : Fin 1024 → EReal) : EReal := Ideal.div (∑ k, er x w t k * er x w t k) (Ideal.ofBits .f32 0x44800000#32)
/-- What the row adds to the gradient by the weight. -/
def dw (x w t : Fin 1024 → EReal) (k : Fin 1024) : EReal := x k * Ideal.rsqrt (ms x) * ct x w t k
/-- The cotangent of the mean of the squares. -/
def dm (x w t : Fin 1024 → EReal) : EReal :=
  Ideal.div ((∑ k, x k * (ct x w t k * w k)) * (Ideal.ofBits .f32 0xBF000000#32 * Ideal.div (Ideal.rsqrt (ms x)) (ms x)))
    (Ideal.ofBits .f32 0x44800000#32)
/-- The gradient by the row. -/
def dx (x w t : Fin 1024 → EReal) (k : Fin 1024) : EReal :=
  ct x w t k * w k * Ideal.rsqrt (ms x) + x k * dm x w t + dm x w t * x k

open Cert.FinalLossIdeal Cert.FinalLossIdeal.Gen

/-! ## The blocks the body stores, from the blocks it loads -/

/-- A block's row. -/
def brow (v : Vec Ideal S256x1024 .f32) (r : Fin 256) (k : Fin 1024) : EReal := v (ix2 r k)
/-- The weight. -/
def wrow (v : Vec Ideal S1x1024 .f32) (k : Fin 1024) : EReal := v (ix2 0 k)

theorem pay1 (y : S8x128.Idx) : k0_pay1 (F := Ideal) y = 0 := by
  pointwise [k0_pay1]
theorem pay2 (y : S1x1024.Idx) : k0_pay2 (F := Ideal) y = 0 := by
  pointwise [k0_pay2]
theorem pay3 (y : S256x1024.Idx) : k0_pay3 (F := Ideal) y = 0 := by
  pointwise [k0_pay3]
theorem pay12 (x t : Vec Ideal S256x1024 .f32) (w : Vec Ideal S1x1024 .f32) (a : Vec Ideal S8x128 .f32) (y : S8x128.Idx) :
    k0_pay12 x w t a y = a y + Ideal.ofBits .f32 0x3F000000#32 * ∑ r, lo (brow x r) (wrow w) (brow t r) := by
  pointwise [k0_pay12, k0_pay11, k0_pay10, k0_pay8, k0_pay7, k0_pay6]
  simp only [Finset.univ_unique, Finset.sum_singleton]
  rfl
theorem pay5 (x t : Vec Ideal S256x1024 .f32) (w a : Vec Ideal S1x1024 .f32) (y : S1x1024.Idx) :
    k0_pay5 (k0_pay14 x w t) a y = a y + ∑ r, dw (brow x r) (wrow w) (brow t r) (y 1) := by
  pointwise [k0_pay5, k0_pay14, k0_pay13, k0_pay11, k0_pay10, k0_pay8, k0_pay7, k0_pay6]
  rfl
theorem pay4 (x t : Vec Ideal S256x1024 .f32) (w : Vec Ideal S1x1024 .f32) (y : S256x1024.Idx) :
    k0_pay4 x (k0_pay6 w) (k0_pay8 x) (k0_pay9 x) (k0_pay13 x w t) y = dx (brow x (y 0)) (wrow w) (brow t (y 0)) (y 1) := by
  have ht : t y = brow t (y 0) (y 1) := congrArg t (funext fun k => by fin_cases k <;> rfl)
  have hx : x y = brow x (y 0) (y 1) := congrArg x (funext fun k => by fin_cases k <;> rfl)
  pointwise [k0_pay4, k0_pay13, k0_pay11, k0_pay10, k0_pay9, k0_pay8, k0_pay7, k0_pay6]
  simp only [Finset.univ_unique, Finset.sum_singleton]
  rw [ht, hx]
  rfl

/-! ## The outputs' blocks after a point -/

section outs
variable (c : Dev nD) (i : grid0.Coords) (a1 : Memref sig .tc .vmem S256x1024 .f32) (h1 : a1.IsWhole) (a2 : Memref sig .tc .vmem S256x1024 .f32)
  (h2 : a2.IsWhole) (a3 : Memref sig .tc .vmem S1x1024 .f32) (h3 : a3.IsWhole) (a4 : Memref sig .tc .vmem S8x128 .f32) (h4 : a4.IsWhole)
  (a5 : Memref sig .tc .vmem S256x1024 .f32) (h5 : a5.IsWhole) (a6 : Memref sig .tc .vmem S1x1024 .f32) (h6 : a6.IsWhole)
  (x t : Vec Ideal S256x1024 .f32) (w : Vec Ideal S1x1024 .f32) (l : Vec Ideal S8x128 .f32) (g : Vec Ideal S1x1024 .f32)

omit w l g t x h6 a6 h5 a5 h4 a4 h3 a3 h2 a2 h1 a1 i c in
/-- A load of a whole block reads it. -/
theorem rd {s : Shape} {e : EltTy} (a : Memref sig .tc .vmem s e) (h : a.IsWhole) (x : Vec Ideal s e) {off : Fin s.rank → ℕ}
    (inb : ∀ k, off k + s.size k ≤ s.size k) : a.view.readAt (Elt Ideal) (Rect.unit off s.size inb).toLoadRect (h.unread x) = x :=
  (View.readAt_full _ _ _).trans (h.read_unread x)
theorem outA_3 (p q) : out0_A_3 c i a1 h1 a2 h2 a3 h3 a4 h4 a5 h5 a6 h6 p q x t w = fun _ => (0 : EReal) := by
  unfold out0_A_3 kernelRun0_A
  exact (View.read_writes_full _ _ _ _ _).trans (funext pay1)
theorem outA_4 (p q) : out0_A_4 c i a1 h1 a2 h2 a3 h3 a4 h4 a5 h5 a6 h6 p q x t w = fun _ => (0 : EReal) := by
  unfold out0_A_4 kernelRun0_A
  exact (View.read_writes_full _ _ _ _ _).trans (funext pay3)
theorem outA_5 (p q) : out0_A_5 c i a1 h1 a2 h2 a3 h3 a4 h4 a5 h5 a6 h6 p q x t w = fun _ => (0 : EReal) := by
  unfold out0_A_5 kernelRun0_A
  exact (View.read_writes_full _ _ _ _ _).trans (funext pay2)
theorem outB_3 (p q) : out0_B_3 c i a1 h1 a2 h2 a3 h3 a4 h4 a5 h5 a6 h6 p q x t w l g = k0_pay12 x w t l := by
  unfold out0_B_3 kernelRun0_B
  refine (View.read_writes_full _ _ _ _ _).trans ?_
  exact congr (congr (congr (congrArg k0_pay12 (rd a1 h1 x _)) (rd a3 h3 w _)) (rd a2 h2 t _)) (rd a4 h4 l _)
theorem outB_4 (p q) : out0_B_4 c i a1 h1 a2 h2 a3 h3 a4 h4 a5 h5 a6 h6 p q x t w l g
    = k0_pay4 x (k0_pay6 w) (k0_pay8 x) (k0_pay9 x) (k0_pay13 x w t) := by
  unfold out0_B_4 kernelRun0_B
  refine (View.read_writes_full _ _ _ _ _).trans ?_
  unfold kernelRun0_B.sl.r kernelRun0_B.sl.r_1 kernelRun0_B.sl.r_2 kernelRun0_B.sl.r_3 kernelRun0_B.sl.r_4
  have e1 := rd a1 h1 x inb_S256x1024_S256x1024_0_0
  have e2 := rd a2 h2 t inb_S256x1024_S256x1024_0_0
  have e3 := rd a3 h3 w inb_S1x1024_S1x1024_0_0
  exact congr (congr (congr (congr (congrArg k0_pay4 e1) (congrArg k0_pay6 e3)) (congrArg k0_pay8 e1)) (congrArg k0_pay9 e1))
    (congr (congr (congrArg k0_pay13 e1) e3) e2)
theorem outB_5 (p q) : out0_B_5 c i a1 h1 a2 h2 a3 h3 a4 h4 a5 h5 a6 h6 p q x t w l g = k0_pay5 (k0_pay14 x w t) g := by
  unfold out0_B_5 kernelRun0_B
  refine (View.read_writes_full _ _ _ _ _).trans ?_
  unfold kernelRun0_B.sl.r_5
  exact congr (congrArg k0_pay5 (congr (congr (congrArg k0_pay14 (rd a1 h1 x _)) (rd a3 h3 w _)) (rd a2 h2 t _))) (rd a6 h6 g _)

end outs

variable (m : (ℓ : Loc nD τ sig) → Buf (Elt Ideal) ℓ) (c : Dev nD)

/-- The three arguments as rows. -/
def X (x : FVec Ideal S8448x1024 .f32) (i : ℕ) (k : Fin 1024) : EReal := if h : i < 8448 then x (ix2 ⟨i, h⟩ k) else 0
def Tg (t : FVec Ideal S8192x1024 .f32) (i : ℕ) (k : Fin 1024) : EReal := if h : i < 8192 then t (ix2 ⟨i, h⟩ k) else 0
def W (w : FVec Ideal S1024 .f32) (k : Fin 1024) : EReal := w (ix1 k)
/-- The row after the context's, and its target. -/
def xs (m : (ℓ : Loc nD τ sig) → Buf (Elt Ideal) ℓ) (c : Dev nD) (i : ℕ) : Fin 1024 → EReal := X (m ((c.tc : Thread nD τ).loc main_arg0)) (256 + i)
def ts (m : (ℓ : Loc nD τ sig) → Buf (Elt Ideal) ℓ) (c : Dev nD) (i : ℕ) : Fin 1024 → EReal := Tg (m ((c.tc : Thread nD τ).loc main_arg1)) i
def ws (m : (ℓ : Loc nD τ sig) → Buf (Elt Ideal) ℓ) (c : Dev nD) : Fin 1024 → EReal := W (m ((c.tc : Thread nD τ).loc main_arg2))

theorem idx : ∀ t : Fin cfg0.N, win0_0.index t = ![t.val, 0] ∧ win0_1.index t = ![t.val - 1, 0] ∧ win0_2.index t = ![0, 0]
    ∧ win0_3.index t = ![0, 0] ∧ win0_4.index t = ![t.val, 0] ∧ win0_5.index t = ![0, 0] := (by decide +kernel : ∀ t : Fin grid0.N, _)
theorem tlt (t : Fin cfg0.N) : t.val < 33 := Nat.lt_of_lt_of_eq t.isLt N_0

/-- The weight as the region finds it. -/
theorem weight : @Eq (FVec Ideal S1x1024 .f32) (V m c main_v0) (fun y => W (m ((c.tc : Thread nD τ).loc main_arg2)) (y 1)) := by
  have e : @Eq (FVec Ideal S1x1024 .f32) (V m c main_v0)
      (broadcastInDim S1x1024 ![1] bcast_S1024_S1x1024_1 (m ((c.tc : Thread nD τ).loc main_arg2) : FVec Ideal S1024 .f32)) := by
    unfold V; simp only [List.flatten_cons, List.flatten_nil, List.append_nil]; after_reads_simp
    all_goals try rfl
  rw [e]; funext y
  pointwise
  rfl

/-- The blocks a point after the first loads. -/
theorem blk_x (t : Fin cfg0.N) (h : 1 ≤ t.val) (r : Fin 256) : brow (iblk m c 0 t) r = xs m c (256 * (t.val - 1) + r.val) := by
  funext k
  have e : iblk m c 0 t (ix2 r k) = (V m c main_arg0 : FVec Ideal S8448x1024 .f32) (((cfg0.win 0).blk t).view.emb (ix2 r k)) := rfl
  have := tlt t
  unfold brow xs X
  rw [e, V_main_arg0, dif_pos (show 256 + (256 * (t.val - 1) + r.val) < 8448 by omega)]
  refine congrArg _ (funext fun k => Fin.ext ?_)
  fin_cases k <;> blk_simp [idx t] <;> first | rfl | (show _ = _ ; simp only [ix2]; omega)
theorem blk_t (t : Fin cfg0.N) (r : Fin 256) : brow (iblk m c 1 t) r = ts m c (256 * (t.val - 1) + r.val) := by
  funext k
  have e : iblk m c 1 t (ix2 r k) = (V m c main_arg1 : FVec Ideal S8192x1024 .f32) (((cfg0.win 1).blk t).view.emb (ix2 r k)) := rfl
  have := tlt t
  unfold brow ts Tg
  rw [e, V_main_arg1, dif_pos (show 256 * (t.val - 1) + r.val < 8192 by omega)]
  refine congrArg _ (funext fun k => Fin.ext ?_)
  fin_cases k <;> blk_simp [idx t] <;> first | rfl | (show _ = _ ; simp only [ix2]; omega)
theorem blk_w (t : Fin cfg0.N) : wrow (iblk m c 2 t) = ws m c := by
  funext k
  have e : iblk m c 2 t (ix2 0 k) = (V m c main_v0 : FVec Ideal S1x1024 .f32) (((cfg0.win 2).blk t).view.emb (ix2 0 k)) := rfl
  have e' : ((cfg0.win 2).blk t).view.emb (ix2 0 k) = ix2 0 k := by
    funext k; apply Fin.ext
    fin_cases k <;> blk_simp [idx t] <;> rfl
  unfold wrow
  rw [e, e', weight]
  rfl

/-! ## What the points leave -/

/-- A row's part of the loss and of the gradients. -/
def rl (m : (ℓ : Loc nD τ sig) → Buf (Elt Ideal) ℓ) (c : Dev nD) (i : ℕ) : EReal := lo (xs m c i) (ws m c) (ts m c i)
def rw' (m : (ℓ : Loc nD τ sig) → Buf (Elt Ideal) ℓ) (c : Dev nD) (k : Fin 1024) (i : ℕ) : EReal := dw (xs m c i) (ws m c) (ts m c i) k
def rx (m : (ℓ : Loc nD τ sig) → Buf (Elt Ideal) ℓ) (c : Dev nD) (k : Fin 1024) (i : ℕ) : EReal := dx (xs m c i) (ws m c) (ts m c i) k

theorem acc_0 (h : 0 < cfg0.N) : (outsAt0 m c 0 h).1 = (fun _ => (0 : EReal)) ∧ (outsAt0 m c 0 h).2.1 = (fun _ => (0 : EReal))
    ∧ (outsAt0 m c 0 h).2.2 = fun _ => (0 : EReal) := by
  rw [outsAt0_A m c ⟨0, h⟩ rfl (Nat.not_succ_le_zero 0)]
  simp only [outA_3, outA_4, outA_5, and_self]
theorem step (t : Fin cfg0.N) (h : 1 ≤ t.val) (h' : t.val - 1 < cfg0.N) :
    (∀ y, (outsAt0 m c t.val t.isLt).1 y = (outsAt0 m c (t.val - 1) h').1 y
      + Ideal.ofBits .f32 0x3F000000#32 * ∑ r : Fin 256, rl m c (256 * (t.val - 1) + r.val))
    ∧ (∀ y, (outsAt0 m c t.val t.isLt).2.1 y = rx m c (y 1) (256 * (t.val - 1) + (y 0).val))
    ∧ (∀ y, (outsAt0 m c t.val t.isLt).2.2 y = (outsAt0 m c (t.val - 1) h').2.2 y + ∑ r : Fin 256, rw' m c (y 1) (256 * (t.val - 1) + r.val)) := by
  have a1 : ¬ t.val % 33 = 0 := by have := tlt t; omega
  rw [outsAt0_B m c t a1 h]
  simp only [outB_3, outB_4, outB_5]
  generalize (outsAt0 m c (t.val - 1) h') = o
  refine ⟨fun y => ?_, fun y => ?_, fun y => ?_⟩
  · rw [pay12]; simp only [blk_x m c t h, blk_t, blk_w, rl]
  · rw [pay4]
    have core : ∀ (r : Fin 256) (k : Fin 1024), dx (brow (iblk m c 0 t) r) (wrow (iblk m c 2 t)) (brow (iblk m c 1 t) r) k
        = rx m c k (256 * (t.val - 1) + r.val) := fun r k => by rw [blk_x m c t h, blk_t, blk_w]; rfl
    exact core _ _
  · rw [pay5]; simp only [blk_x m c t h, blk_t, blk_w, rw']
theorem acc_s (n : ℕ) (h : n + 1 < cfg0.N) (h' : n < cfg0.N) :
    (∀ y, (outsAt0 m c (n + 1) h).1 y = (outsAt0 m c n h').1 y + Ideal.ofBits .f32 0x3F000000#32 * ∑ r : Fin 256, rl m c (256 * n + r.val))
    ∧ (∀ y, (outsAt0 m c (n + 1) h).2.1 y = rx m c (y 1) (256 * n + (y 0).val))
    ∧ (∀ y, (outsAt0 m c (n + 1) h).2.2 y = (outsAt0 m c n h').2.2 y + ∑ r : Fin 256, rw' m c (y 1) (256 * n + r.val)) :=
  step m c ⟨n + 1, h⟩ (Nat.le_add_left _ _) h'

/-- The two sums after the point `n`. -/
theorem acc_loss (n : ℕ) : ∀ (h : n < cfg0.N) y,
    (outsAt0 m c n h).1 y = ∑ s ∈ Finset.range n, Ideal.ofBits .f32 0x3F000000#32 * ∑ r : Fin 256, rl m c (256 * s + r.val) := by
  induction n with
  | zero => intro h y; rw [(acc_0 m c h).1]; rfl
  | succ n ih => intro h y; rw [(acc_s m c n h (Nat.lt_of_succ_lt h)).1 y, ih, Finset.sum_range_succ]
theorem acc_dw (n : ℕ) : ∀ (h : n < cfg0.N) y,
    (outsAt0 m c n h).2.2 y = ∑ s ∈ Finset.range n, ∑ r : Fin 256, rw' m c (y 1) (256 * s + r.val) := by
  induction n with
  | zero => intro h y; rw [(acc_0 m c h).2.2]; rfl
  | succ n ih => intro h y; rw [(acc_s m c n h (Nat.lt_of_succ_lt h)).2.2 y, ih, Finset.sum_range_succ]

/-! ## The three results -/

theorem last : ∀ t : Fin cfg0.N, ((cfg0.win 3).flush t = true → t.val = 32) ∧ ((cfg0.win 5).flush t = true → t.val = 32) :=
  (by decide +kernel : ∀ t : Fin grid0.N, _)

theorem final_loss : (dats m 0 c).arrAt 3 (cfgs 0).N = fun _ => ∑ s ∈ Finset.range 32, Ideal.ofBits .f32 0x3F000000#32 * ∑ r : Fin 256, rl m c (256 * s + r.val) := by
  refine (dats m 0 c).arrAt_eq_of_covers 3 _ (by decide +kernel) fun t hf y => ?_
  have e : ∀ z, (dats m 0 c).after 3 t z = ∑ s ∈ Finset.range 32, Ideal.ofBits .f32 0x3F000000#32 * ∑ r : Fin 256, rl m c (256 * s + r.val) := by
    intro z
    rw [after0_3, acc_loss, (last t).1 hf]
  blk_simp
  rw [e]
theorem final_dw : (dats m 0 c).arrAt 5 (cfgs 0).N = fun y => ∑ s ∈ Finset.range 32, ∑ r : Fin 256, rw' m c (y 1) (256 * s + r.val) := by
  refine (dats m 0 c).arrAt_eq_of_covers 5 _ (by decide +kernel) fun t hf y => ?_
  have e : ∀ z, (dats m 0 c).after 5 t z = ∑ s ∈ Finset.range 32, ∑ r : Fin 256, rw' m c (z 1) (256 * s + r.val) := by
    intro z
    rw [after0_5, acc_dw, (last t).2 hf]
  blk_simp
  rw [e]
  have core : ∀ k k' : Fin 1024, k = k' → (∑ s ∈ Finset.range 32, ∑ r : Fin 256, rw' m c k (256 * s + r.val))
      = ∑ s ∈ Finset.range 32, ∑ r : Fin 256, rw' m c k' (256 * s + r.val) := by
    rintro k _ rfl; rfl
  refine core _ _ (Fin.ext ?_) <;> blk_simp [idx t] <;> rfl
/-- The gradient by the rows: zero for the context's. -/
def gx (m : (ℓ : Loc nD τ sig) → Buf (Elt Ideal) ℓ) (c : Dev nD) (i : ℕ) (k : Fin 1024) : EReal := if i < 256 then 0 else rx m c k (i - 256)
theorem final_dx : (dats m 0 c).arrAt 4 (cfgs 0).N = fun y => gx m c (y 0).val (y 1) := by
  refine (dats m 0 c).arrAt_eq_of_covers 4 _ (by decide +kernel) fun t hf y => ?_
  have e : ∀ z, (dats m 0 c).after 4 t z = gx m c (256 * t.val + (z 0).val) (z 1) := by
    intro z
    have hz : (z 0).val < 256 := (z 0).isLt
    rw [after0_4]
    obtain ⟨n, hn⟩ := t
    cases n with
    | zero => rw [(acc_0 m c hn).2.1]; unfold gx; rw [if_pos (by simpa using hz)]
    | succ n =>
      rw [(acc_s m c n hn (Nat.lt_of_succ_lt hn)).2.1 z]
      unfold gx
      rw [if_neg (by simp only; omega)]
      exact congrArg _ (by simp only; omega)
  blk_simp
  rw [e]
  have core : ∀ (i i' : ℕ) (k k' : Fin 1024), i = i' → k = k' → gx m c i k = gx m c i' k' := by
    rintro i _ k _ rfl rfl; rfl
  refine core _ _ _ _ ?_ (Fin.ext ?_) <;> blk_simp [idx t] <;> first | rfl | (show _ = _ ; simp only [ix2]; omega)

end Cert.Loss

end
-- ==== Proof.LossClaim.lean ====
/- # The claims of `final_loss`

The reference's run and results, and the equality of both programs' results, with no precondition.
-/
module

public import proofs.«01_k».proof.Defs
public import proofs.«01_k».proof.Proof.LossValue
public import proofs.«01_k».proof.Proof.Gen.FinalLoss.Frame
public import proofs.«01_k».proof.Proof.Gen.FinalLossReferenceIdeal.Read
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Loss

open Idealize.ShloMosaic Idealize.SL.Sem

/-- The reference ends with its arguments unchanged and no counter raised. -/
theorem quiescent_reference : Cert.quiescent_FinalLossReferenceIdeal := fun m ρ _ =>
  (θ_run Cert.FinalLossReferenceIdeal.defs _ _).mono (fun r h => ⟨fun c => (h c).2.2.2, sem_eq_zero_of_no_sems (by decide) r.2⟩)
    (Cert.FinalLossReferenceIdeal.Value.run (F := Ideal) m ρ)

/-! ## The constants -/

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem inv_width : Ideal.ofBits .f32 0x3A800000#32 = ((1 / 1024 : ℝ) : EReal) := by
  simp [Ideal.ofBits, Ideal.ieee, -EReal.coe_mul]; norm_num
/-- Half of a mean's cotangent, times twice the error: the error over the width. -/
theorem half_mean (e : EReal) : Ideal.div (Ideal.ofBits .f32 0x3F000000#32) (Ideal.ofBits .f32 0x44800000#32)
    * (Ideal.ofBits .f32 0x40000000#32 * e) = e * Ideal.ofBits .f32 0x3A800000#32 := by
  rw [half, two, width, inv_width, Ideal.div_coe (by norm_num : (1024 : ℝ) ≠ 0), ← mul_assoc, mul_comm e, ← EReal.coe_mul]
  exact congrArg (fun r : ℝ => (r : EReal) * e) (by norm_num)
/-- The half goes into a sum. -/
theorem half_sum {ι : Type} (s : Finset ι) (f : ι → EReal) : ∑ i ∈ s, Ideal.ofBits .f32 0x3F000000#32 * f i = Ideal.ofBits .f32 0x3F000000#32 * ∑ i ∈ s, f i := by
  classical
  induction s using Finset.induction_on with
  | empty => simp
  | insert a s ha ih =>
    rw [Finset.sum_insert ha, Finset.sum_insert ha, ih, half,
      EReal.left_distrib_of_nonneg_of_ne_top (EReal.coe_nonneg.mpr (by norm_num)) (EReal.coe_ne_top _)]
/-- A sum over all rows, block by block. -/
theorem by_blocks (f : ℕ → EReal) (n : ℕ) : ∑ s ∈ Finset.range n, ∑ r : Fin 256, f (256 * s + r.val) = ∑ i ∈ Finset.range (256 * n), f i := by
  induction n with
  | zero => simp
  | succ n ih => rw [Finset.sum_range_succ, ih, Nat.mul_succ, Finset.sum_range_add, Finset.sum_range (n := 256)]

section
open StableHlo Cert.FinalLossReferenceIdeal Cert.FinalLossReferenceIdeal.Read
variable (a0 : FVec Ideal S8448x1024 .f32) (a1 : FVec Ideal S8192x1024 .f32) (a2 : FVec Ideal S1024 .f32)

theorem X_row (i : ℕ) (h : 256 + i < 8448) : X a0 (256 + i) = fun k => a0 (ix2 ⟨256 + i, h⟩ k) := funext fun _ => dif_pos h
theorem T_row (i : ℕ) (h : i < 8192) : Tg a1 i = fun k => a1 (ix2 ⟨i, h⟩ k) := funext fun _ => dif_pos h

/-- The reference's three results, from its rows. -/
theorem ref_loss (y : S8x128.Idx) : val_main_v53 (F := Ideal) a0 a1 a2 y
    = Ideal.ofBits .f32 0x3F000000#32 * ∑ i : Fin 8192, lo (X a0 (256 + i.val)) (W a2) (Tg a1 i.val) := by
  have e : ∀ i : Fin 8192, lo (X a0 (256 + i.val)) (W a2) (Tg a1 i.val)
      = lo (fun k => a0 (ix2 ⟨256 + i.val, by omega⟩ k)) (fun k => a2 (ix1 k)) (fun k => a1 (ix2 i k)) := fun i => by
    rw [X_row a0 _ (by omega), T_row a1 _ i.isLt]; rfl
  simp only [e]
  pointwise [val_main_v53, val_main_v25, val_main_cst_7, val_main_v24, val_main_cst_6, val_main_v23, val_main_v22, val_main_cst_5, val_main_v21, val_main_cst_4, val_main_v18, val_main_v17, val_main_v16, val_main_v15, val_main_v14, val_main_v13, val_main_v12, val_main_v8, val_main_v7, val_main_v6, val_main_cst_1, val_main_v5, val_main_v4, val_main_cst_0, val_main_v3, val_main_v2, val_main_cst, val_main_v1, val_main_v0]
  try rfl
theorem ref_dw (y : S1x1024.Idx) : val_main_v54 (F := Ideal) a0 a1 a2 y
    = ∑ i : Fin 8192, dw (X a0 (256 + i.val)) (W a2) (Tg a1 i.val) (y 1) := by
  have e : ∀ i : Fin 8192, dw (X a0 (256 + i.val)) (W a2) (Tg a1 i.val) (y 1)
      = dw (fun k => a0 (ix2 ⟨256 + i.val, by omega⟩ k)) (fun k => a2 (ix1 k)) (fun k => a1 (ix2 i k)) (y 1) := fun i => by
    rw [X_row a0 _ (by omega), T_row a1 _ i.isLt]; rfl
  simp only [e]
  pointwise [val_main_v54, val_main_v37, val_main_cst_12, val_main_v34, val_main_v33, val_main_cst_11, val_main_v32, val_main_v31, val_main_v30, val_main_v29, val_main_v28, val_main_cst_10, val_main_v27, val_main_v26, val_main_cst_9, val_main_cst_8, val_main_v20, val_main_v19, val_main_cst_3, val_main_v17, val_main_v16, val_main_v15, val_main_v14, val_main_v13, val_main_v12, val_main_v8, val_main_v7, val_main_v6, val_main_cst_1, val_main_v5, val_main_v4, val_main_cst_0, val_main_v3, val_main_v2, val_main_cst, val_main_v1, val_main_v0]
  simp only [Finset.univ_unique, Finset.sum_singleton, half_mean]
  rfl
theorem ref_dx (y : S8448x1024.Idx) : val_main_v52 (F := Ideal) a0 a1 a2 y
    = if (y 0).val < 256 then 0 else dx (X a0 (256 + ((y 0).val - 256))) (W a2) (Tg a1 ((y 0).val - 256)) (y 1) := by
  have key : ∀ (r : Fin 8448) (k : Fin 1024), (if r.val < 256 then 0 else dx (X a0 (256 + (r.val - 256))) (W a2) (Tg a1 (r.val - 256)) k)
      = if h : 256 ≤ r.val ∧ r.val - 256 < 8192 then dx (fun k => a0 (ix2 ⟨256 + (r.val - 256), by omega⟩ k)) (fun k => a2 (ix1 k))
          (fun k => a1 (ix2 ⟨r.val - 256, h.2⟩ k)) k else 0 := by
    intro r k
    by_cases h : r.val < 256
    · rw [if_pos h, dif_neg (by omega)]
    · rw [if_neg h, dif_pos (by omega), X_row a0 _ (by omega), T_row a1 _ (by omega)]; rfl
  refine Eq.trans ?_ (key (y 0) (y 1)).symm
  pointwise [val_main_v52, val_main_cst_16, val_main_v51, val_main_v50, val_main_v49, val_main_v48, val_main_v47, val_main_v46, val_main_cst_15, val_main_v45, val_main_v44, val_main_cst_14, val_main_v43, val_main_v42, val_main_v41, val_main_v40, val_main_v39, val_main_cst_13, val_main_v38, val_main_v36, val_main_v35, val_main_v31, val_main_v30, val_main_v29, val_main_v28, val_main_cst_10, val_main_v27, val_main_v26, val_main_cst_9, val_main_cst_8, val_main_v20, val_main_v19, val_main_cst_3, val_main_v17, val_main_v16, val_main_v15, val_main_v14, val_main_v13, val_main_v12, val_main_v11, val_main_v10, val_main_cst_2, val_main_v9, val_main_v8, val_main_v7, val_main_v6, val_main_cst_1, val_main_v5, val_main_v4, val_main_cst_0, val_main_v3, val_main_v2, val_main_cst, val_main_v1, val_main_v0]
  simp only [Finset.univ_unique, Finset.sum_singleton, half_mean]
  rfl
end

open Cert.FinalLossReferenceIdeal.Read in
/-- The call's three results are the loss and its derivatives, over the extended reals. -/
theorem algebraic : Cert.algebraic_FinalLossIdeal_FinalLossReferenceIdeal := by
  intro m ρ m' ρ' _ hagree
  refine ⟨_, _, _, Cert.FinalLossIdeal.Value.run_blocks (F := Ideal) m ρ, ?_⟩
  refine (θ_run Cert.FinalLossReferenceIdeal.defs _ _).mono (fun _ h c => ?_) (Cert.FinalLossReferenceIdeal.Value.run (F := Ideal) m' ρ')
  obtain ⟨r0, r1, r2, ha⟩ := h c
  obtain ⟨e0, e1, e2⟩ := hagree c
  refine ⟨r0.trans ?_, r1.trans ?_, r2.trans ?_, ha⟩
  · rw [val_main_v53_eq, e0, e1, e2]
    refine (funext fun y => (ref_loss _ _ _ y).trans ?_).trans (final_loss m c).symm
    rw [half_sum, by_blocks (fun i => rl m c i), Finset.sum_range]
    rfl
  · rw [val_main_v52_eq, e0, e1, e2]
    exact (funext (ref_dx _ _ _)).trans (final_dx m c).symm
  · rw [val_main_v54_eq, e0, e1, e2]
    refine (funext fun y => (ref_dw _ _ _ y).trans ?_).trans (final_dw m c).symm
    exact ((by_blocks (fun i => rw' m c (y 1) i) 32).trans (Finset.sum_range _)).symm

end Cert.Loss

end
-- ==== Proof.FfnEntry.lean ====
/- # The host lines before the call, one operation at a time

What each buffer holds when the call starts, from what its operands hold.
-/
module

public import proofs.«01_k».proof.Proof.Gen.FfnBwdIdeal.Frame
public import Idealize.ShloMosaic.Lib.Pipeline.ValueKit
public import Idealize.ShloMosaic.Lib.StableHlo.RunRead

@[expose] public section

set_option maxRecDepth 16384

noncomputable section

namespace Cert.Ffn.Entry

open Idealize.ShloMosaic Idealize.ShloMosaic.TcCoe Idealize.SL.Sem
open Cert.FfnBwdIdeal Cert.FfnBwdIdeal.Gen

variable (m : (ℓ : Loc nD τ sig) → Buf (Elt Ideal) ℓ) (c : Dev nD)

theorem cst : @Eq (FVec Ideal S_ .f32) (V m c main_cst)
    (constant (F := Ideal) S_ .f32 0x00000000#32) := by
  unfold V; after_reads_simp
  all_goals try rfl
theorem v0 : @Eq (FVec Ideal S2x1024 .f32) (V m c main_v0)
    (broadcastInDim S2x1024 ![] bcast_S_S2x1024 (V m c main_cst : FVec Ideal S_ .f32)) := by
  unfold V; after_reads_simp
  all_goals try rfl
theorem v1 : @Eq (FVec Ideal S6x1024 .f32) (V m c main_v1)
    (shapeCast S6x1024 (V m c main_arg1 : FVec Ideal S6144 .f32) shapeCasts_S6144_S6x1024) := by
  unfold V; after_reads_simp
  all_goals try rfl
theorem v2 : @Eq (FVec Ideal S8x1024 .f32) (V m c main_v2)
    (concatenate S8x1024 0 [⟨S6x1024, (V m c main_v1 : FVec Ideal S6x1024 .f32)⟩, ⟨S2x1024, (V m c main_v0 : FVec Ideal S2x1024 .f32)⟩] concatenates_S6x1024_S2x1024_S8x1024_d0) := by
  unfold V; after_reads_simp
  all_goals try rfl
theorem v3 : @Eq (FVec Ideal S6x1024 .f32) (V m c main_v3)
    (shapeCast S6x1024 (V m c main_arg2 : FVec Ideal S6144 .f32) shapeCasts_S6144_S6x1024) := by
  unfold V; after_reads_simp
  all_goals try rfl
theorem v4 : @Eq (FVec Ideal S8x1024 .f32) (V m c main_v4)
    (concatenate S8x1024 0 [⟨S6x1024, (V m c main_v3 : FVec Ideal S6x1024 .f32)⟩, ⟨S2x1024, (V m c main_v0 : FVec Ideal S2x1024 .f32)⟩] concatenates_S6x1024_S2x1024_S8x1024_d0) := by
  unfold V; after_reads_simp
  all_goals try rfl
theorem v5 : @Eq (FVec Ideal S1x8x1024 .f32) (V m c main_v5)
    (broadcastInDim S1x8x1024 ![1, 2] bcast_S8x1024_S1x8x1024_1_2 (V m c main_v2 : FVec Ideal S8x1024 .f32)) := by
  unfold V; after_reads_simp
  all_goals try rfl
theorem v6 : @Eq (FVec Ideal S1x8x1024 .f32) (V m c main_v6)
    (broadcastInDim S1x8x1024 ![1, 2] bcast_S8x1024_S1x8x1024_1_2 (V m c main_v4 : FVec Ideal S8x1024 .f32)) := by
  unfold V; after_reads_simp
  all_goals try rfl
theorem v7 : @Eq (FVec Ideal S2x8x1024 .f32) (V m c main_v7)
    (concatenate S2x8x1024 0 [⟨S1x8x1024, (V m c main_v5 : FVec Ideal S1x8x1024 .f32)⟩, ⟨S1x8x1024, (V m c main_v6 : FVec Ideal S1x8x1024 .f32)⟩] concatenates_S1x8x1024_S1x8x1024_S2x8x1024_d0) := by
  unfold V; after_reads_simp
  all_goals try rfl
theorem v8 : @Eq (FVec Ideal S256x1024 .f32) (V m c main_v8)
    (extractStridedSlice S256x1024 ![0, 0] (V m c main_arg0 : FVec Ideal S8448x1024 .f32) slices_S8448x1024_S256x1024_0_0) := by
  unfold V; after_reads_simp
  all_goals try rfl
theorem v9 : @Eq (FVec Ideal S1x8x1024 .f32) (V m c main_v9)
    (extractStridedSlice S1x8x1024 ![0, 0, 0] (V m c main_v7 : FVec Ideal S2x8x1024 .f32) slices_S2x8x1024_S1x8x1024_0_0_0) := by
  unfold V; after_reads_simp
  all_goals try rfl
theorem v10 : @Eq (FVec Ideal S8x1024 .f32) (V m c main_v10)
    (shapeCast S8x1024 (V m c main_v9 : FVec Ideal S1x8x1024 .f32) shapeCasts_S1x8x1024_S8x1024) := by
  unfold V; after_reads_simp
  all_goals try rfl
theorem v11 : @Eq (FVec Ideal S1x1024 .f32) (V m c main_v11)
    (broadcastInDim S1x1024 ![1] bcast_S1024_S1x1024_1 (V m c main_arg3 : FVec Ideal S1024 .f32)) := by
  unfold V; after_reads_simp
  all_goals try rfl
theorem v12 : @Eq (FVec Ideal S256x1024 .f32) (V m c main_v12)
    (mulf (V m c main_v8 : FVec Ideal S256x1024 .f32) (V m c main_v8 : FVec Ideal S256x1024 .f32)) := by
  unfold V; after_reads_simp
  all_goals try rfl
theorem cst_0 : @Eq (FVec Ideal S_ .f32) (V m c main_cst_0)
    (constant (F := Ideal) S_ .f32 0x00000000#32) := by
  unfold V; after_reads_simp
  all_goals try rfl
theorem v13 : @Eq (FVec Ideal S256 .f32) (V m c main_v13)
    (Host.reduceAdd (V m c main_v12 : FVec Ideal S256x1024 .f32) (V m c main_cst_0 : FVec Ideal S_ .f32) reducesTo_S256x1024_S256_d1 h_S_) := by
  unfold V; after_reads_simp
  all_goals try rfl
theorem v14 : @Eq (FVec Ideal S256x1 .f32) (V m c main_v14)
    (broadcastInDim S256x1 ![0] bcast_S256_S256x1_0 (V m c main_v13 : FVec Ideal S256 .f32)) := by
  unfold V; after_reads_simp
  all_goals try rfl
theorem cst_1 : @Eq (FVec Ideal S_ .f32) (V m c main_cst_1)
    (constant (F := Ideal) S_ .f32 0x44800000#32) := by
  unfold V; after_reads_simp
  all_goals try rfl
theorem v15 : @Eq (FVec Ideal S256x1 .f32) (V m c main_v15)
    (broadcastInDim S256x1 ![] bcast_S_S256x1 (V m c main_cst_1 : FVec Ideal S_ .f32)) := by
  unfold V; after_reads_simp
  all_goals try rfl
theorem v16 : @Eq (FVec Ideal S256x1 .f32) (V m c main_v16)
    (Host.divf (V m c main_v14 : FVec Ideal S256x1 .f32) (V m c main_v15 : FVec Ideal S256x1 .f32)) := by
  unfold V; after_reads_simp
  all_goals try rfl
theorem cst_2 : @Eq (FVec Ideal S_ .f32) (V m c main_cst_2)
    (constant (F := Ideal) S_ .f32 0x358637BD#32) := by
  unfold V; after_reads_simp
  all_goals try rfl
theorem v17 : @Eq (FVec Ideal S256x1 .f32) (V m c main_v17)
    (broadcastInDim S256x1 ![] bcast_S_S256x1 (V m c main_cst_2 : FVec Ideal S_ .f32)) := by
  unfold V; after_reads_simp
  all_goals try rfl
theorem v18 : @Eq (FVec Ideal S256x1 .f32) (V m c main_v18)
    (addf (V m c main_v16 : FVec Ideal S256x1 .f32) (V m c main_v17 : FVec Ideal S256x1 .f32)) := by
  unfold V; after_reads_simp
  all_goals try rfl
theorem v19 : @Eq (FVec Ideal S256x1 .f32) (V m c main_v19)
    (Host.rsqrt (V m c main_v18 : FVec Ideal S256x1 .f32)) := by
  unfold V; after_reads_simp
  all_goals try rfl
theorem v20 : @Eq (FVec Ideal S256x1024 .f32) (V m c main_v20)
    (broadcastInDim S256x1024 ![0, 1] bcast_S256x1_S256x1024_0_1 (V m c main_v19 : FVec Ideal S256x1 .f32)) := by
  unfold V; after_reads_simp
  all_goals try rfl
theorem v21 : @Eq (FVec Ideal S256x1024 .f32) (V m c main_v21)
    (mulf (V m c main_v8 : FVec Ideal S256x1024 .f32) (V m c main_v20 : FVec Ideal S256x1024 .f32)) := by
  unfold V; after_reads_simp
  all_goals try rfl
theorem v22 : @Eq (FVec Ideal S256x1024 .f32) (V m c main_v22)
    (broadcastInDim S256x1024 ![0, 1] bcast_S1x1024_S256x1024_0_1 (V m c main_v11 : FVec Ideal S1x1024 .f32)) := by
  unfold V; after_reads_simp
  all_goals try rfl
theorem v23 : @Eq (FVec Ideal S256x1024 .f32) (V m c main_v23)
    (mulf (V m c main_v21 : FVec Ideal S256x1024 .f32) (V m c main_v22 : FVec Ideal S256x1024 .f32)) := by
  unfold V; after_reads_simp
  all_goals try rfl
theorem v24 : @Eq (FVec Ideal S1x1024 .f32) (V m c main_v24)
    (extractStridedSlice S1x1024 ![4, 0] (V m c main_v10 : FVec Ideal S8x1024 .f32) slices_S8x1024_S1x1024_4_0) := by
  unfold V; after_reads_simp
  all_goals try rfl
theorem cst_3 : @Eq (FVec Ideal S_ .f32) (V m c main_cst_3)
    (constant (F := Ideal) S_ .f32 0x3F800000#32) := by
  unfold V; after_reads_simp
  all_goals try rfl
theorem v25 : @Eq (FVec Ideal S1x1024 .f32) (V m c main_v25)
    (broadcastInDim S1x1024 ![] bcast_S_S1x1024 (V m c main_cst_3 : FVec Ideal S_ .f32)) := by
  unfold V; after_reads_simp
  all_goals try rfl
theorem v26 : @Eq (FVec Ideal S1x1024 .f32) (V m c main_v26)
    (addf (V m c main_v25 : FVec Ideal S1x1024 .f32) (V m c main_v24 : FVec Ideal S1x1024 .f32)) := by
  unfold V; after_reads_simp
  all_goals try rfl
theorem v27 : @Eq (FVec Ideal S256x1024 .f32) (V m c main_v27)
    (broadcastInDim S256x1024 ![0, 1] bcast_S1x1024_S256x1024_0_1 (V m c main_v26 : FVec Ideal S1x1024 .f32)) := by
  unfold V; after_reads_simp
  all_goals try rfl
theorem v28 : @Eq (FVec Ideal S256x1024 .f32) (V m c main_v28)
    (mulf (V m c main_v23 : FVec Ideal S256x1024 .f32) (V m c main_v27 : FVec Ideal S256x1024 .f32)) := by
  unfold V; after_reads_simp
  all_goals try rfl
theorem v29 : @Eq (FVec Ideal S1x1024 .f32) (V m c main_v29)
    (extractStridedSlice S1x1024 ![3, 0] (V m c main_v10 : FVec Ideal S8x1024 .f32) slices_S8x1024_S1x1024_3_0) := by
  unfold V; after_reads_simp
  all_goals try rfl
theorem v30 : @Eq (FVec Ideal S256x1024 .f32) (V m c main_v30)
    (broadcastInDim S256x1024 ![0, 1] bcast_S1x1024_S256x1024_0_1 (V m c main_v29 : FVec Ideal S1x1024 .f32)) := by
  unfold V; after_reads_simp
  all_goals try rfl
theorem v31 : @Eq (FVec Ideal S256x1024 .f32) (V m c main_v31)
    (addf (V m c main_v28 : FVec Ideal S256x1024 .f32) (V m c main_v30 : FVec Ideal S256x1024 .f32)) := by
  unfold V; after_reads_simp
  all_goals try rfl
theorem v32 : @Eq (FVec Ideal S256x4096 .f32) (V m c main_v32)
    (Host.dotGeneral (φ₁ := .f32) (φ₂ := .f32) dot_S256x1024_S1024x4096_S256x4096_1_0_0_1_n_n none (V m c main_v31 : FVec Ideal S256x1024 .f32) (V m c main_arg4 : FVec Ideal S1024x4096 .f32)) := by
  unfold V; after_reads_simp
  all_goals try rfl
theorem cst_4 : @Eq (FVec Ideal S_ .f32) (V m c main_cst_4)
    (constant (F := Ideal) S_ .f32 0x00000000#32) := by
  unfold V; after_reads_simp
  all_goals try rfl
theorem v33 : @Eq (FVec Ideal S256x4096 .f32) (V m c main_v33)
    (broadcastInDim S256x4096 ![] bcast_S_S256x4096 (V m c main_cst_4 : FVec Ideal S_ .f32)) := by
  unfold V; after_reads_simp
  all_goals try rfl
theorem v34 : @Eq (FVec Ideal S256x4096 .f32) (V m c main_v34)
    (maximumf (V m c main_v32 : FVec Ideal S256x4096 .f32) (V m c main_v33 : FVec Ideal S256x4096 .f32)) := by
  unfold V; after_reads_simp
  all_goals try rfl
theorem v35 : @Eq (FVec Ideal S256x4096 .f32) (V m c main_v35)
    (mulf (V m c main_v34 : FVec Ideal S256x4096 .f32) (V m c main_v34 : FVec Ideal S256x4096 .f32)) := by
  unfold V; after_reads_simp
  all_goals try rfl
theorem v36 : @Eq (FVec Ideal S256x1024 .f32) (V m c main_v36)
    (Host.dotGeneral (φ₁ := .f32) (φ₂ := .f32) dot_S256x4096_S4096x1024_S256x1024_1_0_0_1_n_n none (V m c main_v35 : FVec Ideal S256x4096 .f32) (V m c main_arg5 : FVec Ideal S4096x1024 .f32)) := by
  unfold V; after_reads_simp
  all_goals try rfl
theorem v37 : @Eq (FVec Ideal S8192x1024 .f32) (V m c main_v37)
    (extractStridedSlice S8192x1024 ![256, 0] (V m c main_arg0 : FVec Ideal S8448x1024 .f32) slices_S8448x1024_S8192x1024_256_0) := by
  unfold V; after_reads_simp
  all_goals try rfl
theorem v38 : @Eq (FVec Ideal S1x8x1024 .f32) (V m c main_v38)
    (extractStridedSlice S1x8x1024 ![1, 0, 0] (V m c main_v7 : FVec Ideal S2x8x1024 .f32) slices_S2x8x1024_S1x8x1024_1_0_0) := by
  unfold V; after_reads_simp
  all_goals try rfl
theorem v39 : @Eq (FVec Ideal S8x1024 .f32) (V m c main_v39)
    (shapeCast S8x1024 (V m c main_v38 : FVec Ideal S1x8x1024 .f32) shapeCasts_S1x8x1024_S8x1024) := by
  unfold V; after_reads_simp
  all_goals try rfl
theorem v40 : @Eq (FVec Ideal S1x1024 .f32) (V m c main_v40)
    (broadcastInDim S1x1024 ![1] bcast_S1024_S1x1024_1 (V m c main_arg3 : FVec Ideal S1024 .f32)) := by
  unfold V; after_reads_simp
  all_goals try rfl
theorem v41 : @Eq (FVec Ideal S8192x1024 .f32) (V m c main_v41)
    (mulf (V m c main_v37 : FVec Ideal S8192x1024 .f32) (V m c main_v37 : FVec Ideal S8192x1024 .f32)) := by
  unfold V; after_reads_simp
  all_goals try rfl
theorem cst_5 : @Eq (FVec Ideal S_ .f32) (V m c main_cst_5)
    (constant (F := Ideal) S_ .f32 0x00000000#32) := by
  unfold V; after_reads_simp
  all_goals try rfl
theorem v42 : @Eq (FVec Ideal S8192 .f32) (V m c main_v42)
    (Host.reduceAdd (V m c main_v41 : FVec Ideal S8192x1024 .f32) (V m c main_cst_5 : FVec Ideal S_ .f32) reducesTo_S8192x1024_S8192_d1 h_S_) := by
  unfold V; after_reads_simp
  all_goals try rfl
theorem v43 : @Eq (FVec Ideal S8192x1 .f32) (V m c main_v43)
    (broadcastInDim S8192x1 ![0] bcast_S8192_S8192x1_0 (V m c main_v42 : FVec Ideal S8192 .f32)) := by
  unfold V; after_reads_simp
  all_goals try rfl
theorem cst_6 : @Eq (FVec Ideal S_ .f32) (V m c main_cst_6)
    (constant (F := Ideal) S_ .f32 0x44800000#32) := by
  unfold V; after_reads_simp
  all_goals try rfl
theorem v44 : @Eq (FVec Ideal S8192x1 .f32) (V m c main_v44)
    (broadcastInDim S8192x1 ![] bcast_S_S8192x1 (V m c main_cst_6 : FVec Ideal S_ .f32)) := by
  unfold V; after_reads_simp
  all_goals try rfl
theorem v45 : @Eq (FVec Ideal S8192x1 .f32) (V m c main_v45)
    (Host.divf (V m c main_v43 : FVec Ideal S8192x1 .f32) (V m c main_v44 : FVec Ideal S8192x1 .f32)) := by
  unfold V; after_reads_simp
  all_goals try rfl
theorem cst_7 : @Eq (FVec Ideal S_ .f32) (V m c main_cst_7)
    (constant (F := Ideal) S_ .f32 0x358637BD#32) := by
  unfold V; after_reads_simp
  all_goals try rfl
theorem v46 : @Eq (FVec Ideal S8192x1 .f32) (V m c main_v46)
    (broadcastInDim S8192x1 ![] bcast_S_S8192x1 (V m c main_cst_7 : FVec Ideal S_ .f32)) := by
  unfold V; after_reads_simp
  all_goals try rfl
theorem v47 : @Eq (FVec Ideal S8192x1 .f32) (V m c main_v47)
    (addf (V m c main_v45 : FVec Ideal S8192x1 .f32) (V m c main_v46 : FVec Ideal S8192x1 .f32)) := by
  unfold V; after_reads_simp
  all_goals try rfl
theorem v48 : @Eq (FVec Ideal S8192x1 .f32) (V m c main_v48)
    (Host.rsqrt (V m c main_v47 : FVec Ideal S8192x1 .f32)) := by
  unfold V; after_reads_simp
  all_goals try rfl
theorem v49 : @Eq (FVec Ideal S8192x1024 .f32) (V m c main_v49)
    (broadcastInDim S8192x1024 ![0, 1] bcast_S8192x1_S8192x1024_0_1 (V m c main_v48 : FVec Ideal S8192x1 .f32)) := by
  unfold V; after_reads_simp
  all_goals try rfl
theorem v50 : @Eq (FVec Ideal S8192x1024 .f32) (V m c main_v50)
    (mulf (V m c main_v37 : FVec Ideal S8192x1024 .f32) (V m c main_v49 : FVec Ideal S8192x1024 .f32)) := by
  unfold V; after_reads_simp
  all_goals try rfl
theorem v51 : @Eq (FVec Ideal S8192x1024 .f32) (V m c main_v51)
    (broadcastInDim S8192x1024 ![0, 1] bcast_S1x1024_S8192x1024_0_1 (V m c main_v40 : FVec Ideal S1x1024 .f32)) := by
  unfold V; after_reads_simp
  all_goals try rfl
theorem v52 : @Eq (FVec Ideal S8192x1024 .f32) (V m c main_v52)
    (mulf (V m c main_v50 : FVec Ideal S8192x1024 .f32) (V m c main_v51 : FVec Ideal S8192x1024 .f32)) := by
  unfold V; after_reads_simp
  all_goals try rfl
theorem v53 : @Eq (FVec Ideal S1x1024 .f32) (V m c main_v53)
    (extractStridedSlice S1x1024 ![4, 0] (V m c main_v39 : FVec Ideal S8x1024 .f32) slices_S8x1024_S1x1024_4_0) := by
  unfold V; after_reads_simp
  all_goals try rfl
theorem cst_8 : @Eq (FVec Ideal S_ .f32) (V m c main_cst_8)
    (constant (F := Ideal) S_ .f32 0x3F800000#32) := by
  unfold V; after_reads_simp
  all_goals try rfl
theorem v54 : @Eq (FVec Ideal S1x1024 .f32) (V m c main_v54)
    (broadcastInDim S1x1024 ![] bcast_S_S1x1024 (V m c main_cst_8 : FVec Ideal S_ .f32)) := by
  unfold V; after_reads_simp
  all_goals try rfl
theorem v55 : @Eq (FVec Ideal S1x1024 .f32) (V m c main_v55)
    (addf (V m c main_v54 : FVec Ideal S1x1024 .f32) (V m c main_v53 : FVec Ideal S1x1024 .f32)) := by
  unfold V; after_reads_simp
  all_goals try rfl
theorem v56 : @Eq (FVec Ideal S8192x1024 .f32) (V m c main_v56)
    (broadcastInDim S8192x1024 ![0, 1] bcast_S1x1024_S8192x1024_0_1 (V m c main_v55 : FVec Ideal S1x1024 .f32)) := by
  unfold V; after_reads_simp
  all_goals try rfl
theorem v57 : @Eq (FVec Ideal S8192x1024 .f32) (V m c main_v57)
    (mulf (V m c main_v52 : FVec Ideal S8192x1024 .f32) (V m c main_v56 : FVec Ideal S8192x1024 .f32)) := by
  unfold V; after_reads_simp
  all_goals try rfl
theorem v58 : @Eq (FVec Ideal S1x1024 .f32) (V m c main_v58)
    (extractStridedSlice S1x1024 ![3, 0] (V m c main_v39 : FVec Ideal S8x1024 .f32) slices_S8x1024_S1x1024_3_0) := by
  unfold V; after_reads_simp
  all_goals try rfl
theorem v59 : @Eq (FVec Ideal S8192x1024 .f32) (V m c main_v59)
    (broadcastInDim S8192x1024 ![0, 1] bcast_S1x1024_S8192x1024_0_1 (V m c main_v58 : FVec Ideal S1x1024 .f32)) := by
  unfold V; after_reads_simp
  all_goals try rfl
theorem v60 : @Eq (FVec Ideal S8192x1024 .f32) (V m c main_v60)
    (addf (V m c main_v57 : FVec Ideal S8192x1024 .f32) (V m c main_v59 : FVec Ideal S8192x1024 .f32)) := by
  unfold V; after_reads_simp
  all_goals try rfl
theorem v61 : @Eq (FVec Ideal S8192x4096 .f32) (V m c main_v61)
    (Host.dotGeneral (φ₁ := .f32) (φ₂ := .f32) dot_S8192x1024_S1024x4096_S8192x4096_1_0_0_1_n_n none (V m c main_v60 : FVec Ideal S8192x1024 .f32) (V m c main_arg4 : FVec Ideal S1024x4096 .f32)) := by
  unfold V; after_reads_simp
  all_goals try rfl
theorem cst_9 : @Eq (FVec Ideal S_ .f32) (V m c main_cst_9)
    (constant (F := Ideal) S_ .f32 0x00000000#32) := by
  unfold V; after_reads_simp
  all_goals try rfl
theorem v62 : @Eq (FVec Ideal S8192x4096 .f32) (V m c main_v62)
    (broadcastInDim S8192x4096 ![] bcast_S_S8192x4096 (V m c main_cst_9 : FVec Ideal S_ .f32)) := by
  unfold V; after_reads_simp
  all_goals try rfl
theorem v63 : @Eq (FVec Ideal S8192x4096 .f32) (V m c main_v63)
    (maximumf (V m c main_v61 : FVec Ideal S8192x4096 .f32) (V m c main_v62 : FVec Ideal S8192x4096 .f32)) := by
  unfold V; after_reads_simp
  all_goals try rfl
theorem v64 : @Eq (FVec Ideal S8192x4096 .f32) (V m c main_v64)
    (mulf (V m c main_v63 : FVec Ideal S8192x4096 .f32) (V m c main_v63 : FVec Ideal S8192x4096 .f32)) := by
  unfold V; after_reads_simp
  all_goals try rfl
theorem v65 : @Eq (FVec Ideal S8192x1024 .f32) (V m c main_v65)
    (Host.dotGeneral (φ₁ := .f32) (φ₂ := .f32) dot_S8192x4096_S4096x1024_S8192x1024_1_0_0_1_n_n none (V m c main_v64 : FVec Ideal S8192x4096 .f32) (V m c main_arg5 : FVec Ideal S4096x1024 .f32)) := by
  unfold V; after_reads_simp
  all_goals try rfl
theorem v66 : @Eq (FVec Ideal S8448x1024 .f32) (V m c main_v66)
    (concatenate S8448x1024 0 [⟨S256x1024, (V m c main_v36 : FVec Ideal S256x1024 .f32)⟩, ⟨S8192x1024, (V m c main_v65 : FVec Ideal S8192x1024 .f32)⟩] concatenates_S256x1024_S8192x1024_S8448x1024_d0) := by
  unfold V; after_reads_simp
  all_goals try rfl
theorem v67 : @Eq (FVec Ideal S1x1024 .f32) (V m c main_v67)
    (broadcastInDim S1x1024 ![1] bcast_S1024_S1x1024_1 (V m c main_arg3 : FVec Ideal S1024 .f32)) := by
  unfold V; after_reads_simp
  all_goals try rfl
theorem v68 : @Eq (FVec Ideal S1024x4096 .bf16) (V m c main_v68)
    (truncf .bf16 (V m c main_arg4 : FVec Ideal S1024x4096 .f32) bitsLt_bf16_f32) := by
  unfold V; after_reads_simp
  all_goals try rfl
theorem v69 : @Eq (FVec Ideal S4096x1024 .bf16) (V m c main_v69)
    (truncf .bf16 (V m c main_arg5 : FVec Ideal S4096x1024 .f32) bitsLt_bf16_f32) := by
  unfold V; after_reads_simp
  all_goals try rfl

end Cert.Ffn.Entry

end
-- ==== Proof.FfnStep.lean ====
/- # The feed-forward block's gradient, one block of rows

What the kernel's body leaves in each result's buffer, as functions of the vectors it loads: the row block `x`, the modulation `v`,
the norm's weight `n`, the weights `w`, `z` of the two products, the cotangent `g` and the forward's block `f`.
-/
module

public import proofs.«01_k».proof.Proof.Gen.FfnBwdIdeal.Frame
public import proofs.«01_k».proof.Proof.Gen.FfnBwdIdeal.Skeleton
public import Idealize.ShloMosaic.Lib.VecWindow

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnBwdIdeal Cert.FfnBwdIdeal.Gen
open Idealize.ShloMosaic.Pipeline (Dat Cfg Window BodyObligation cellOf)
open VecWindow (window)

variable {F : FTy → Type} [FloatOps F]

/-- The `k`-th thousand columns of the first weight. -/
def up0 (w : Vec F S1024x4096 .bf16) : Vec F S1024x1024 .bf16 := window w ![0, 0] S1024x1024.size inb_S1024x4096_S1024x1024_0_0
@[inherit_doc up0] def up1 (w : Vec F S1024x4096 .bf16) : Vec F S1024x1024 .bf16 := window w ![0, 1024] S1024x1024.size inb_S1024x4096_S1024x1024_0_1024
@[inherit_doc up0] def up2 (w : Vec F S1024x4096 .bf16) : Vec F S1024x1024 .bf16 := window w ![0, 2048] S1024x1024.size inb_S1024x4096_S1024x1024_0_2048
@[inherit_doc up0] def up3 (w : Vec F S1024x4096 .bf16) : Vec F S1024x1024 .bf16 := window w ![0, 3072] S1024x1024.size inb_S1024x4096_S1024x1024_0_3072
/-- The `k`-th thousand rows of the second weight. -/
def dn0 (z : Vec F S4096x1024 .bf16) : Vec F S1024x1024 .bf16 := window z ![0, 0] S1024x1024.size inb_S4096x1024_S1024x1024_0_0
@[inherit_doc dn0] def dn1 (z : Vec F S4096x1024 .bf16) : Vec F S1024x1024 .bf16 := window z ![1024, 0] S1024x1024.size inb_S4096x1024_S1024x1024_1024_0
@[inherit_doc dn0] def dn2 (z : Vec F S4096x1024 .bf16) : Vec F S1024x1024 .bf16 := window z ![2048, 0] S1024x1024.size inb_S4096x1024_S1024x1024_2048_0
@[inherit_doc dn0] def dn3 (z : Vec F S4096x1024 .bf16) : Vec F S1024x1024 .bf16 := window z ![3072, 0] S1024x1024.size inb_S4096x1024_S1024x1024_3072_0

/-- The zero block the first product adds to. -/
def zeros : FVec F S256x1024 .f32 := constant S256x1024 .f32 0x00000000#32

section
variable (x : Vec F S256x1024 .f32) (v : Vec F S1x8x1024 .f32) (n : Vec F S1x1024 .f32) (w : Vec F S1024x4096 .bf16) (z : Vec F S4096x1024 .bf16)
  (g f : Vec F S256x1024 .f32)

/-- The gradient of the normed rows over the first three chunks of the hidden columns. -/
def part : FVec F S256x1024 .f32 :=
  k0_pay27 (k0_pay11 v x n) (k0_pay12 v g)
    (k0_pay19 (k0_pay11 v x n) (k0_pay12 v g) (k0_pay14 (F := F)) (k0_pay15 (up0 w)) zeros (dn0 z) (up0 w))
    (k0_pay23 (k0_pay11 v x n) (k0_pay12 v g) (up1 w) (dn1 z) (up1 w)) (up2 w) (dn2 z) (up2 w)
/-- The gradient of the block's rows. -/
def rowsOut : FVec F S256x1024 .f32 :=
  k0_pay38 g x (k0_pay3 n) (k0_pay5 x) (k0_pay6 x) (k0_pay34 (k0_pay9 v) (k0_pay12 v g) (part x v n w z g) (k0_pay28 (k0_pay11 v x n) (up3 w)) (dn3 z) (up3 w))
/-- The shift's and scale's rows of the modulation's gradient. -/
def modPart : FVec F S8x1024 .f32 :=
  k0_pay35 (k0_pay8 x n) (k0_pay12 v g) (part x v n w z g) (k0_pay28 (k0_pay11 v x n) (up3 w)) (dn3 z) (up3 w)
/-- The modulation's gradient of the block alone. -/
def modOut : FVec F S1x8x1024 .f32 := k0_pay40 g (k0_pay13 f) (modPart x v n w z g)
/-- The modulation's gradient, added to what the blocks before left. -/
def modStep (o : Vec F S1x8x1024 .f32) : FVec F S1x8x1024 .f32 := k0_pay41 g (k0_pay13 f) (modPart x v n w z g) o
/-- The norm weight's gradient of the block alone. -/
def normOut : FVec F S1x1024 .f32 :=
  k0_pay37 (k0_pay36 (k0_pay7 x) (k0_pay9 v) (k0_pay12 v g) (part x v n w z g) (k0_pay28 (k0_pay11 v x n) (up3 w)) (dn3 z) (up3 w))
/-- The norm weight's gradient, added to what the blocks before left. -/
def normStep (o : Vec F S1x1024 .f32) : FVec F S1x1024 .f32 := k0_pay1 (normOut x v n w z g) o
/-- The gated cotangent, transposed. -/
def gateOut : FVec F S1024x256 .bf16 := k0_pay32 (k0_pay2 v) g
/-- The normed and modulated rows, transposed. -/
def headOut : FVec F S1024x256 .bf16 := k0_pay33 (k0_pay10 v x n)

/-- One staging buffer through which a block of four chunks is stated. -/
abbrev wide : View sig .tc .vmem S256x4096 .bf16 := (Memref.whole cc0_stg10_0 : Memref sig .tc .vmem S256x4096 .bf16).view
/-- Four chunks stored one after the other. -/
def chunks (p0 p1 p2 p3 : FVec F S256x1024 .bf16) : List (View.Piece (Elt F) S256x4096 .bf16) :=
  [⟨Rect.unit ![0, 3072] S256x1024.size inb_S256x4096_S256x1024_0_3072, p3⟩, ⟨Rect.unit ![0, 2048] S256x1024.size inb_S256x4096_S256x1024_0_2048, p2⟩,
   ⟨Rect.unit ![0, 1024] S256x1024.size inb_S256x4096_S256x1024_0_1024, p1⟩, ⟨Rect.unit ![0, 0] S256x1024.size inb_S256x4096_S256x1024_0_0, p0⟩]
/-- Four chunks side by side. -/
def paste (p0 p1 p2 p3 : FVec F S256x1024 .bf16) : Vec F S256x4096 .bf16 := wide.read (Elt F) (wide.writes (Elt F) wide.junk (chunks p0 p1 p2 p3))
/-- The gradient before the activation. -/
def preOut : Vec F S256x4096 .bf16 :=
  paste (k0_pay18 (k0_pay11 v x n) (k0_pay12 v g) (k0_pay15 (up0 w)) zeros (dn0 z)) (k0_pay22 (k0_pay11 v x n) (k0_pay12 v g) (up1 w) (dn1 z))
    (k0_pay26 (k0_pay11 v x n) (k0_pay12 v g) (up2 w) (dn2 z)) (k0_pay30 (k0_pay12 v g) (k0_pay28 (k0_pay11 v x n) (up3 w)) (dn3 z))
/-- The squared activation. -/
def actOut : Vec F S256x4096 .bf16 :=
  paste (k0_pay17 (k0_pay11 v x n) (k0_pay15 (up0 w)) zeros) (k0_pay21 (k0_pay11 v x n) (up1 w)) (k0_pay25 (k0_pay11 v x n) (up2 w)) (k0_pay29 (k0_pay11 v x n) (up3 w))

/-- The modulation's gradient after the body at `i`: stored anew where the block's row changes, else added to. -/
def modNext (i : grid0.Coords) (o : Vec F S1x8x1024 .f32) : FVec F S1x8x1024 .f32 :=
  if k0_cond1 i = 1#1 then modOut x v n w z g f else modStep x v n w z g f o
/-- The norm weight's gradient after the body at `i`: stored anew at the first point, else added to. -/
def normNext (i : grid0.Coords) (o : Vec F S1x1024 .f32) : FVec F S1x1024 .f32 :=
  if k0_cond3 i = 1#1 then normOut x v n w z g else normStep x v n w z g o
end

/-- The four chunks cover the block. -/
theorem paste_eq {κ sp} (m : View sig κ sp S256x4096 .bf16) (d : m.ty.Contents (Elt F)) (p0 p1 p2 p3 : FVec F S256x1024 .bf16) :
    m.read (Elt F) (m.writes (Elt F) d (chunks p0 p1 p2 p3)) = paste p0 p1 p2 p3 :=
  View.read_writes_of_cover _ _ _ _ _ (View.cover_of_tiledL (chunks p0 p1 p2 p3) S256x1024.size (by sl_kernel_rfl))

end Cert.Ffn
-- ==== Proof.FfnRun.lean ====
/- # The feed-forward block's gradient: one grid point, run

The kernel's body leaves exactly what the functions of `FfnStep` say, at every grid point.
-/
module

public import proofs.«01_k».proof.Proof.FfnStep
public import Idealize.ShloMosaic.Lib.Exec
public import Idealize.ShloMosaic.Lib.Tactic
public import Idealize.ShloMosaic.Lib.Pipeline.Kit

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnBwdIdeal Cert.FfnBwdIdeal.Gen
open Idealize.ShloMosaic.Pipeline (Dat Cfg Window BodyObligation cellOf)
open VecWindow (window)

variable {F : FTy → Type} [FloatOps F]

local notation "𝕄" => MT nD τ sig Unit (Elt F) ℕ (UR sig nD τ) ℕ

set_option maxHeartbeats 4000000 in
/-- What the body's stores leave in each result's buffer at the first point, where both sums start, as pieces, with the proof that the body runs to them. -/
def runA (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S256x4096 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S256x4096 .bf16) (harg14 : arg14.IsWhole) (hc1 : k0_cond1 i = 1#1) (hc2 : ¬k0_cond2 i = 1#1) (hc3 : k0_cond3 i = 1#1) (hc4 : ¬k0_cond4 i = 1#1)
    (x : Vec F S256x1024 .f32) (v : Vec F S1x8x1024 .f32) (n : Vec F S1x1024 .f32) (w : Vec F S1024x4096 .bf16) (z : Vec F S4096x1024 .bf16) (g f : Vec F S256x1024 .f32) :
    Σ' (L7 : List (View.Piece (Elt F) S256x1024 .f32)), Σ' (L8 : List (View.Piece (Elt F) S1x8x1024 .f32)), Σ' (L9 : List (View.Piece (Elt F) S1x1024 .f32)), Σ' (L10 : List (View.Piece (Elt F) S256x4096 .bf16)), Σ' (L11 : List (View.Piece (Elt F) S1024x256 .bf16)), Σ' (L12 : List (View.Piece (Elt F) S1024x256 .bf16)), { L13 : List (View.Piece (Elt F) S256x4096 .bf16) //

      ∀ R : PUnit → sProp 𝕄, iprop(owns (c : Thread nD τ) arg1 fullShare x ∗ owns (c : Thread nD τ) arg2 fullShare v ∗ owns (c : Thread nD τ) arg3 fullShare n ∗ owns (c : Thread nD τ) arg4 fullShare w ∗ owns (c : Thread nD τ) arg5 fullShare z ∗ owns (c : Thread nD τ) arg6 fullShare g ∗ owns (c : Thread nD τ) arg7 fullShare f ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x ∗ owns (c : Thread nD τ) arg2 fullShare v ∗ owns (c : Thread nD τ) arg3 fullShare n ∗ owns (c : Thread nD τ) arg4 fullShare w ∗ owns (c : Thread nD τ) arg5 fullShare z ∗ owns (c : Thread nD τ) arg6 fullShare g ∗ owns (c : Thread nD τ) arg7 fullShare f ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ R ⟨⟩))
      ⊢ wp frame (wpE (defs₀ (F := F)) Variants.none c none) Set.univ (cc0_ffn_bwd i arg1 harg1 arg2 harg2 arg3 harg3 arg4 harg4 arg5 harg5 arg6 harg6 arg7 harg7 arg8 harg8 arg9 harg9 arg10 harg10 arg11 harg11 arg12 harg12 arg13 harg13 arg14 harg14) R } := by
  refine ⟨?_, ?_, ?_, ?_, ?_, ?_, ?_, fun R => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

set_option maxHeartbeats 4000000 in
/-- What the body's stores leave in each result's buffer at the second point, where the modulation's gradient starts anew and the norm weight's goes on, as pieces, with the proof that the body runs to them. -/
def runB (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S256x4096 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S256x4096 .bf16) (harg14 : arg14.IsWhole) (hc1 : k0_cond1 i = 1#1) (hc2 : ¬k0_cond2 i = 1#1) (hc3 : ¬k0_cond3 i = 1#1) (hc4 : k0_cond4 i = 1#1)
    (x : Vec F S256x1024 .f32) (v : Vec F S1x8x1024 .f32) (n : Vec F S1x1024 .f32) (w : Vec F S1024x4096 .bf16) (z : Vec F S4096x1024 .bf16) (g f : Vec F S256x1024 .f32) (on : Vec F S1x1024 .f32) :
    Σ' (L7 : List (View.Piece (Elt F) S256x1024 .f32)), Σ' (L8 : List (View.Piece (Elt F) S1x8x1024 .f32)), Σ' (L9 : List (View.Piece (Elt F) S1x1024 .f32)), Σ' (L10 : List (View.Piece (Elt F) S256x4096 .bf16)), Σ' (L11 : List (View.Piece (Elt F) S1024x256 .bf16)), Σ' (L12 : List (View.Piece (Elt F) S1024x256 .bf16)), { L13 : List (View.Piece (Elt F) S256x4096 .bf16) //

      ∀ R : PUnit → sProp 𝕄, iprop(owns (c : Thread nD τ) arg1 fullShare x ∗ owns (c : Thread nD τ) arg2 fullShare v ∗ owns (c : Thread nD τ) arg3 fullShare n ∗ owns (c : Thread nD τ) arg4 fullShare w ∗ owns (c : Thread nD τ) arg5 fullShare z ∗ owns (c : Thread nD τ) arg6 fullShare g ∗ owns (c : Thread nD τ) arg7 fullShare f ∗ (∃ d, owns (c : Thread nD τ) arg8 fullShare d) ∗ (∃ d, owns (c : Thread nD τ) arg9 fullShare d) ∗ owns (c : Thread nD τ) arg10 fullShare on ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x ∗ owns (c : Thread nD τ) arg2 fullShare v ∗ owns (c : Thread nD τ) arg3 fullShare n ∗ owns (c : Thread nD τ) arg4 fullShare w ∗ owns (c : Thread nD τ) arg5 fullShare z ∗ owns (c : Thread nD τ) arg6 fullShare g ∗ owns (c : Thread nD τ) arg7 fullShare f ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ R ⟨⟩))
      ⊢ wp frame (wpE (defs₀ (F := F)) Variants.none c none) Set.univ (cc0_ffn_bwd i arg1 harg1 arg2 harg2 arg3 harg3 arg4 harg4 arg5 harg5 arg6 harg6 arg7 harg7 arg8 harg8 arg9 harg9 arg10 harg10 arg11 harg11 arg12 harg12 arg13 harg13 arg14 harg14) R } := by
  refine ⟨?_, ?_, ?_, ?_, ?_, ?_, ?_, fun R => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

set_option maxHeartbeats 4000000 in
/-- What the body's stores leave in each result's buffer at a later point, where both sums go on, as pieces, with the proof that the body runs to them. -/
def runC (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S256x4096 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S256x4096 .bf16) (harg14 : arg14.IsWhole) (hc1 : ¬k0_cond1 i = 1#1) (hc2 : k0_cond2 i = 1#1) (hc3 : ¬k0_cond3 i = 1#1) (hc4 : k0_cond4 i = 1#1)
    (x : Vec F S256x1024 .f32) (v : Vec F S1x8x1024 .f32) (n : Vec F S1x1024 .f32) (w : Vec F S1024x4096 .bf16) (z : Vec F S4096x1024 .bf16) (g f : Vec F S256x1024 .f32) (om : Vec F S1x8x1024 .f32) (on : Vec F S1x1024 .f32) :
    Σ' (L7 : List (View.Piece (Elt F) S256x1024 .f32)), Σ' (L8 : List (View.Piece (Elt F) S1x8x1024 .f32)), Σ' (L9 : List (View.Piece (Elt F) S1x1024 .f32)), Σ' (L10 : List (View.Piece (Elt F) S256x4096 .bf16)), Σ' (L11 : List (View.Piece (Elt F) S1024x256 .bf16)), Σ' (L12 : List (View.Piece (Elt F) S1024x256 .bf16)), { L13 : List (View.Piece (Elt F) S256x4096 .bf16) //

      ∀ R : PUnit → sProp 𝕄, iprop(owns (c : Thread nD τ) arg1 fullShare x ∗ owns (c : Thread nD τ) arg2 fullShare v ∗ owns (c : Thread nD τ) arg3 fullShare n ∗ owns (c : Thread nD τ) arg4 fullShare w ∗ owns (c : Thread nD τ) arg5 fullShare z ∗ owns (c : Thread nD τ) arg6 fullShare g ∗ owns (c : Thread nD τ) arg7 fullShare f ∗ (∃ d, owns (c : Thread nD τ) arg8 fullShare d) ∗ owns (c : Thread nD τ) arg9 fullShare om ∗ owns (c : Thread nD τ) arg10 fullShare on ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x ∗ owns (c : Thread nD τ) arg2 fullShare v ∗ owns (c : Thread nD τ) arg3 fullShare n ∗ owns (c : Thread nD τ) arg4 fullShare w ∗ owns (c : Thread nD τ) arg5 fullShare z ∗ owns (c : Thread nD τ) arg6 fullShare g ∗ owns (c : Thread nD τ) arg7 fullShare f ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ R ⟨⟩))
      ⊢ wp frame (wpE (defs₀ (F := F)) Variants.none c none) Set.univ (cc0_ffn_bwd i arg1 harg1 arg2 harg2 arg3 harg3 arg4 harg4 arg5 harg5 arg6 harg6 arg7 harg7 arg8 harg8 arg9 harg9 arg10 harg10 arg11 harg11 arg12 harg12 arg13 harg13 arg14 harg14) R } := by
  refine ⟨?_, ?_, ?_, ?_, ?_, ?_, ?_, fun R => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Ffn
-- ==== Proof.FfnRead.lean ====
/- # The feed-forward block's gradient: what the runs leave

The pieces each run leaves, read back, are the functions of `FfnStep`.
-/
module

public import proofs.«01_k».proof.Proof.FfnRun

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnBwdIdeal Cert.FfnBwdIdeal.Gen
open Idealize.ShloMosaic.Pipeline (Dat Cfg Window BodyObligation cellOf)
open VecWindow (window)

variable {F : FTy → Type} [FloatOps F]

/-- A rectangle of a whole buffer loaded is the window of its contents. -/
theorem load_part {s : Shape} {e : EltTy} (a : Memref sig .tc .vmem s e) (h : a.IsWhole) (x : s.Idx → Elt F e) {off size : Fin s.rank → ℕ}
    (inb : ∀ k, off k + size k ≤ s.size k) : a.view.readAt (Elt F) (Rect.unit off size inb).toLoadRect (h.unread x) = window x off size inb :=
  (View.readAt_unit a.view (h.unread x) inb rfl inb).trans (congrArg (fun y => window y off size inb) (h.read_unread x))

/-- The window of a vector at its origin and of its own extents is the vector. -/
theorem window_rows (x : Vec F S256x1024 .f32) (inb) : window x ![0, 0] ![256, 1024] inb = x :=
  funext fun y => congrArg x (funext fun k => Fin.ext (by fin_cases k <;> exact (Nat.zero_add _).trans (Nat.one_mul _)))
@[inherit_doc window_rows]
theorem window_line (x : Vec F S1x1024 .f32) (inb) : window x ![0, 0] ![1, 1024] inb = x :=
  funext fun y => congrArg x (funext fun k => Fin.ext (by fin_cases k <;> exact (Nat.zero_add _).trans (Nat.one_mul _)))
@[inherit_doc window_rows]
theorem window_mod (x : Vec F S1x8x1024 .f32) (inb) : window x ![0, 0, 0] ![1, 8, 1024] inb = x :=
  funext fun y => congrArg x (funext fun k => Fin.ext (by fin_cases k <;> exact (Nat.zero_add _).trans (Nat.one_mul _)))

section
variable (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S256x4096 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S256x4096 .bf16) (harg14 : arg14.IsWhole) (hc1 : k0_cond1 i = 1#1) (hc2 : ¬k0_cond2 i = 1#1) (hc3 : k0_cond3 i = 1#1) (hc4 : ¬k0_cond4 i = 1#1)
  (x : Vec F S256x1024 .f32) (v : Vec F S1x8x1024 .f32) (n : Vec F S1x1024 .f32) (w : Vec F S1024x4096 .bf16) (z : Vec F S4096x1024 .bf16) (g f : Vec F S256x1024 .f32)

set_option maxHeartbeats 20000000 in
theorem runA_reads :
    (∀ d, arg8.view.read (Elt F) (arg8.view.writes (Elt F) d (runA c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f).1) = rowsOut x v n w z g)
    ∧ (∀ d, arg9.view.read (Elt F) (arg9.view.writes (Elt F) d (runA c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f).2.1) = modOut x v n w z g f)
    ∧ (∀ d, arg10.view.read (Elt F) (arg10.view.writes (Elt F) d (runA c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f).2.2.1) = normOut x v n w z g)
    ∧ (∀ d, arg11.view.read (Elt F) (arg11.view.writes (Elt F) d (runA c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f).2.2.2.1) = preOut x v n w z g)
    ∧ (∀ d, arg12.view.read (Elt F) (arg12.view.writes (Elt F) d (runA c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f).2.2.2.2.1) = gateOut v g)
    ∧ (∀ d, arg13.view.read (Elt F) (arg13.view.writes (Elt F) d (runA c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f).2.2.2.2.2.1) = headOut x v n)
    ∧ (∀ d, arg14.view.read (Elt F) (arg14.view.writes (Elt F) d (runA c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f).2.2.2.2.2.2.1) = actOut x v n w) := by
  refine ⟨fun d => ?_, fun d => ?_, fun d => ?_, fun d => ?_, fun d => ?_, fun d => ?_, fun d => ?_⟩
  on_goal 1 => (refine (View.read_writes_full arg8.view d inb_S256x1024_S256x1024_0_0 _ []).trans ?_)
  on_goal 2 => (refine (View.read_writes_full arg9.view d inb_S1x8x1024_S1x8x1024_0_0_0 _ []).trans ?_)
  on_goal 3 => (refine (View.read_writes_full arg10.view d inb_S1x1024_S1x1024_0_0 _ []).trans ?_)
  on_goal 4 => (refine Eq.trans ?_ (paste_eq arg11.view d _ _ _ _); unfold runA chunks)
  on_goal 5 => (refine (View.read_writes_full arg12.view d inb_S1024x256_S1024x256_0_0 _ []).trans ?_)
  on_goal 6 => (refine (View.read_writes_full arg13.view d inb_S1024x256_S1024x256_0_0 _ []).trans ?_)
  on_goal 7 => (refine Eq.trans ?_ (paste_eq arg14.view d _ _ _ _); unfold runA chunks)
  all_goals simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, load_part]
  all_goals (repeat rw [window_rows])
  all_goals (repeat rw [window_line])
  all_goals (repeat rw [window_mod])
  all_goals rfl

end

section
variable (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S256x4096 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S256x4096 .bf16) (harg14 : arg14.IsWhole) (hc1 : k0_cond1 i = 1#1) (hc2 : ¬k0_cond2 i = 1#1) (hc3 : ¬k0_cond3 i = 1#1) (hc4 : k0_cond4 i = 1#1)
  (x : Vec F S256x1024 .f32) (v : Vec F S1x8x1024 .f32) (n : Vec F S1x1024 .f32) (w : Vec F S1024x4096 .bf16) (z : Vec F S4096x1024 .bf16) (g f : Vec F S256x1024 .f32) (on : Vec F S1x1024 .f32)

set_option maxHeartbeats 20000000 in
theorem runB_reads :
    (∀ d, arg8.view.read (Elt F) (arg8.view.writes (Elt F) d (runB c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f on).1) = rowsOut x v n w z g)
    ∧ (∀ d, arg9.view.read (Elt F) (arg9.view.writes (Elt F) d (runB c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f on).2.1) = modOut x v n w z g f)
    ∧ (∀ d, arg10.view.read (Elt F) (arg10.view.writes (Elt F) d (runB c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f on).2.2.1) = normStep x v n w z g on)
    ∧ (∀ d, arg11.view.read (Elt F) (arg11.view.writes (Elt F) d (runB c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f on).2.2.2.1) = preOut x v n w z g)
    ∧ (∀ d, arg12.view.read (Elt F) (arg12.view.writes (Elt F) d (runB c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f on).2.2.2.2.1) = gateOut v g)
    ∧ (∀ d, arg13.view.read (Elt F) (arg13.view.writes (Elt F) d (runB c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f on).2.2.2.2.2.1) = headOut x v n)
    ∧ (∀ d, arg14.view.read (Elt F) (arg14.view.writes (Elt F) d (runB c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f on).2.2.2.2.2.2.1) = actOut x v n w) := by
  refine ⟨fun d => ?_, fun d => ?_, fun d => ?_, fun d => ?_, fun d => ?_, fun d => ?_, fun d => ?_⟩
  on_goal 1 => (refine (View.read_writes_full arg8.view d inb_S256x1024_S256x1024_0_0 _ []).trans ?_)
  on_goal 2 => (refine (View.read_writes_full arg9.view d inb_S1x8x1024_S1x8x1024_0_0_0 _ []).trans ?_)
  on_goal 3 => (refine (View.read_writes_full arg10.view d inb_S1x1024_S1x1024_0_0 _ []).trans ?_)
  on_goal 4 => (refine Eq.trans ?_ (paste_eq arg11.view d _ _ _ _); unfold runB chunks)
  on_goal 5 => (refine (View.read_writes_full arg12.view d inb_S1024x256_S1024x256_0_0 _ []).trans ?_)
  on_goal 6 => (refine (View.read_writes_full arg13.view d inb_S1024x256_S1024x256_0_0 _ []).trans ?_)
  on_goal 7 => (refine Eq.trans ?_ (paste_eq arg14.view d _ _ _ _); unfold runB chunks)
  all_goals simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, load_part]
  all_goals (repeat rw [window_rows])
  all_goals (repeat rw [window_line])
  all_goals (repeat rw [window_mod])
  all_goals rfl

end

section
variable (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S256x4096 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S256x4096 .bf16) (harg14 : arg14.IsWhole) (hc1 : ¬k0_cond1 i = 1#1) (hc2 : k0_cond2 i = 1#1) (hc3 : ¬k0_cond3 i = 1#1) (hc4 : k0_cond4 i = 1#1)
  (x : Vec F S256x1024 .f32) (v : Vec F S1x8x1024 .f32) (n : Vec F S1x1024 .f32) (w : Vec F S1024x4096 .bf16) (z : Vec F S4096x1024 .bf16) (g f : Vec F S256x1024 .f32) (om : Vec F S1x8x1024 .f32) (on : Vec F S1x1024 .f32)

set_option maxHeartbeats 20000000 in
theorem runC_reads :
    (∀ d, arg8.view.read (Elt F) (arg8.view.writes (Elt F) d (runC c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f om on).1) = rowsOut x v n w z g)
    ∧ (∀ d, arg9.view.read (Elt F) (arg9.view.writes (Elt F) d (runC c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f om on).2.1) = modStep x v n w z g f om)
    ∧ (∀ d, arg10.view.read (Elt F) (arg10.view.writes (Elt F) d (runC c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f om on).2.2.1) = normStep x v n w z g on)
    ∧ (∀ d, arg11.view.read (Elt F) (arg11.view.writes (Elt F) d (runC c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f om on).2.2.2.1) = preOut x v n w z g)
    ∧ (∀ d, arg12.view.read (Elt F) (arg12.view.writes (Elt F) d (runC c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f om on).2.2.2.2.1) = gateOut v g)
    ∧ (∀ d, arg13.view.read (Elt F) (arg13.view.writes (Elt F) d (runC c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f om on).2.2.2.2.2.1) = headOut x v n)
    ∧ (∀ d, arg14.view.read (Elt F) (arg14.view.writes (Elt F) d (runC c i arg1 harg1 arg2 harg2 arg3 harg3 arg4 harg4 arg5 harg5 arg6 harg6 arg7 harg7 arg8 harg8 arg9 harg9 arg10 harg10 arg11 harg11 arg12 harg12 arg13 harg13 arg14 harg14 hc1 hc2 hc3 hc4 x v n w z g f om on).2.2.2.2.2.2.1) = actOut x v n w) := by
  refine ⟨fun d => ?_, fun d => ?_, fun d => ?_, fun d => ?_, fun d => ?_, fun d => ?_, fun d => ?_⟩
  on_goal 1 => (refine (View.read_writes_full arg8.view d inb_S256x1024_S256x1024_0_0 _ []).trans ?_)
  on_goal 2 => (refine (View.read_writes_full arg9.view d inb_S1x8x1024_S1x8x1024_0_0_0 _ []).trans ?_)
  on_goal 3 => (refine (View.read_writes_full arg10.view d inb_S1x1024_S1x1024_0_0 _ []).trans ?_)
  on_goal 4 => (refine Eq.trans ?_ (paste_eq arg11.view d _ _ _ _); unfold runC chunks)
  on_goal 5 => (refine (View.read_writes_full arg12.view d inb_S1024x256_S1024x256_0_0 _ []).trans ?_)
  on_goal 6 => (refine (View.read_writes_full arg13.view d inb_S1024x256_S1024x256_0_0 _ []).trans ?_)
  on_goal 7 => (refine Eq.trans ?_ (paste_eq arg14.view d _ _ _ _); unfold runC chunks)
  all_goals simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, load_part]
  all_goals (repeat rw [window_rows])
  all_goals (repeat rw [window_line])
  all_goals (repeat rw [window_mod])
  all_goals rfl

end

end Cert.Ffn
-- ==== Proof.FfnFrame.lean ====
/- # The feed-forward block's gradient: the whole call's run

What every point of the grid leaves in the kernel's buffers, and the run of the call from it: it ends, faults nowhere,
leaves its arguments as they were and every counter at zero.
-/
module

public import proofs.«01_k».proof.Proof.FfnRead
public import proofs.«01_k».proof.Proof.Gen.FfnBwdIdeal.Frame
public import Idealize.ShloMosaic.Lib.Pipeline.TableIdle
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnBwdIdeal Cert.FfnBwdIdeal.Gen
open Idealize.ShloMosaic.Pipeline (Dat Cfg Window BodyObligation cellOf)

variable {F : FTy → Type} [FloatOps F]

local notation "𝕄" => MT nD τ sig Unit (Elt F) ℕ (UR sig nD τ) ℕ

/-- Which of the body's four branches a point takes: the modulation's sum starts at points 0 and 1, the norm weight's at point 0. -/
theorem conds : ∀ t : Fin grid0.N, (k0_cond1 (grid0.coords t) = 1#1 ↔ t.val < 2) ∧ (k0_cond2 (grid0.coords t) = 1#1 ↔ 2 ≤ t.val)
    ∧ (k0_cond3 (grid0.coords t) = 1#1 ↔ t.val = 0) ∧ (k0_cond4 (grid0.coords t) = 1#1 ↔ 1 ≤ t.val) := by decide +kernel

variable (m : (ℓ : Loc nD τ sig) → Buf (Elt F) ℓ) (ρ : Dev nD → PrngReg)

/-- The modulation's sum as the point numbered `k` leaves it. -/
def mods (c : Dev nD) : (k : ℕ) → k < cfg0.N → Vec F S1x8x1024 .f32
  | 0, h => modOut (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)
  | k + 1, h => if k = 0 then modOut (iblk m c 0 ⟨k + 1, h⟩) (iblk m c 1 ⟨k + 1, h⟩) (iblk m c 2 ⟨k + 1, h⟩) (iblk m c 3 ⟨k + 1, h⟩) (iblk m c 4 ⟨k + 1, h⟩) (iblk m c 5 ⟨k + 1, h⟩) (iblk m c 6 ⟨k + 1, h⟩)
      else modStep (iblk m c 0 ⟨k + 1, h⟩) (iblk m c 1 ⟨k + 1, h⟩) (iblk m c 2 ⟨k + 1, h⟩) (iblk m c 3 ⟨k + 1, h⟩) (iblk m c 4 ⟨k + 1, h⟩) (iblk m c 5 ⟨k + 1, h⟩) (iblk m c 6 ⟨k + 1, h⟩) (mods c k (Nat.lt_of_succ_lt h))
/-- The norm weight's sum likewise. -/
def norms (c : Dev nD) : (k : ℕ) → k < cfg0.N → Vec F S1x1024 .f32
  | 0, h => normOut (iblk m c 0 ⟨0, h⟩) (iblk m c 1 ⟨0, h⟩) (iblk m c 2 ⟨0, h⟩) (iblk m c 3 ⟨0, h⟩) (iblk m c 4 ⟨0, h⟩) (iblk m c 5 ⟨0, h⟩)
  | k + 1, h => normStep (iblk m c 0 ⟨k + 1, h⟩) (iblk m c 1 ⟨k + 1, h⟩) (iblk m c 2 ⟨k + 1, h⟩) (iblk m c 3 ⟨k + 1, h⟩) (iblk m c 4 ⟨k + 1, h⟩) (iblk m c 5 ⟨k + 1, h⟩) (norms c k (Nat.lt_of_succ_lt h))

theorem mods_start (c : Dev nD) (t : Fin cfg0.N) (h : t.val < 2) : mods m c t.val t.isLt = modOut (iblk m c 0 t) (iblk m c 1 t) (iblk m c 2 t) (iblk m c 3 t) (iblk m c 4 t) (iblk m c 5 t) (iblk m c 6 t) := by
  obtain ⟨k, hk⟩ := t
  match k, hk, h with
  | 0, hk, _ => rfl
  | 1, hk, _ => exact if_pos rfl
  | k + 2, hk, h => exact absurd h (by simp)
theorem mods_go (c : Dev nD) (t : Fin cfg0.N) (h : 2 ≤ t.val) :
    mods m c t.val t.isLt = modStep (iblk m c 0 t) (iblk m c 1 t) (iblk m c 2 t) (iblk m c 3 t) (iblk m c 4 t) (iblk m c 5 t) (iblk m c 6 t) (mods m c (t.val - 1) (Nat.lt_of_le_of_lt (Nat.sub_le _ _) t.isLt)) := by
  obtain ⟨k, hk⟩ := t
  match k, hk, h with
  | 0, _, h => exact absurd h (by simp)
  | 1, _, h => exact absurd h (by simp)
  | k + 2, hk, _ => exact if_neg (Nat.succ_ne_zero k)
theorem norms_start (c : Dev nD) (t : Fin cfg0.N) (h : t.val = 0) : norms m c t.val t.isLt = normOut (iblk m c 0 t) (iblk m c 1 t) (iblk m c 2 t) (iblk m c 3 t) (iblk m c 4 t) (iblk m c 5 t) := by
  obtain ⟨k, hk⟩ := t
  match k, hk, h with
  | 0, hk, _ => rfl
  | k + 1, hk, h => exact absurd h (by simp)
theorem norms_go (c : Dev nD) (t : Fin cfg0.N) (h : 1 ≤ t.val) :
    norms m c t.val t.isLt = normStep (iblk m c 0 t) (iblk m c 1 t) (iblk m c 2 t) (iblk m c 3 t) (iblk m c 4 t) (iblk m c 5 t) (norms m c (t.val - 1) (Nat.lt_of_le_of_lt (Nat.sub_le _ _) t.isLt)) := by
  obtain ⟨k, hk⟩ := t
  match k, hk, h with
  | 0, _, h => exact absurd h (by simp)
  | k + 1, hk, _ => rfl

/-- What each point leaves in every window's buffer: an input's block as it was, a result's block as the point computes it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowsOut (iblk m c 0 t) (iblk m c 1 t) (iblk m c 2 t) (iblk m c 3 t) (iblk m c 4 t) (iblk m c 5 t)
    | ⟨8, _⟩ => mods m c t.val t.isLt
    | ⟨9, _⟩ => norms m c t.val t.isLt
    | ⟨10, _⟩ => preOut (iblk m c 0 t) (iblk m c 1 t) (iblk m c 2 t) (iblk m c 3 t) (iblk m c 4 t) (iblk m c 5 t)
    | ⟨11, _⟩ => gateOut (iblk m c 1 t) (iblk m c 5 t)
    | ⟨12, _⟩ => headOut (iblk m c 0 t) (iblk m c 1 t) (iblk m c 2 t)
    | ⟨13, _⟩ => actOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rowsOut (iblk m c 0 t) (iblk m c 1 t) (iblk m c 2 t) (iblk m c 3 t) (iblk m c 4 t) (iblk m c 5 t) := by dsimp only [dats]
theorem after_8 (c : Dev nD) (t : Fin cfg0.N) : (dats m 0 c).after 8 t = mods m c t.val t.isLt := by dsimp only [dats]
theorem after_9 (c : Dev nD) (t : Fin cfg0.N) : (dats m 0 c).after 9 t = norms m c t.val t.isLt := by dsimp only [dats]
theorem after_10 (c : Dev nD) (t : Fin cfg0.N) : (dats m 0 c).after 10 t = preOut (iblk m c 0 t) (iblk m c 1 t) (iblk m c 2 t) (iblk m c 3 t) (iblk m c 4 t) (iblk m c 5 t) := by dsimp only [dats]
theorem after_11 (c : Dev nD) (t : Fin cfg0.N) : (dats m 0 c).after 11 t = gateOut (iblk m c 1 t) (iblk m c 5 t) := by dsimp only [dats]
theorem after_12 (c : Dev nD) (t : Fin cfg0.N) : (dats m 0 c).after 12 t = headOut (iblk m c 0 t) (iblk m c 1 t) (iblk m c 2 t) := by dsimp only [dats]
theorem after_13 (c : Dev nD) (t : Fin cfg0.N) : (dats m 0 c).after 13 t = actOut (iblk m c 0 t) (iblk m c 1 t) (iblk m c 2 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Every point stores into both sums. -/
theorem live_8 : ∀ t : Fin cfg0.N, cfg0.idle 8 (cfg0.grid.coords t) = false := by decide +kernel
theorem live_9 : ∀ t : Fin cfg0.N, cfg0.idle 9 (cfg0.grid.coords t) = false := by decide +kernel
/-- The modulation's buffer holds nothing yet at points 0 and 1, and past the last; the norm weight's at point 0. -/
def new_8 (n : ℕ) : Bool := n == 0 || n == 1 || n == 33
@[inherit_doc new_8]
def new_9 (n : ℕ) : Bool := n == 0 || n == 33
theorem new_step_8 : ∀ t : Fin cfg0.N, new_8 (t.val + 1) = ((cfg0.win 8).flush t || (cfg0.idle 8 (cfg0.grid.coords t) && new_8 t.val)) := by decide +kernel
theorem new_step_9 : ∀ t : Fin cfg0.N, new_9 (t.val + 1) = ((cfg0.win 9).flush t || (cfg0.idle 9 (cfg0.grid.coords t) && new_9 t.val)) := by decide +kernel
theorem fresh_8 (t : Fin cfg0.N) : cfg0.fresh 8 t.val = new_8 t.val :=
  Pipeline.Cfg.fresh_tab cfg0 8 new_8 rfl new_step_8 t.val (Nat.le_of_lt t.isLt)
theorem fresh_9 (t : Fin cfg0.N) : cfg0.fresh 9 t.val = new_9 t.val :=
  Pipeline.Cfg.fresh_tab cfg0 9 new_9 rfl new_step_9 t.val (Nat.le_of_lt t.isLt)
/-- From then on the body finds in it what the point before left. -/
theorem before_8 (c : Dev nD) (t : Fin cfg0.N) (h : 2 ≤ t.val) (d) :
    (dats m 0 c).before 8 t d = mods m c (t.val - 1) (Nat.lt_of_le_of_lt (Nat.sub_le _ _) t.isLt) := by
  have hN : t.val < 33 := lt_of_lt_of_eq t.isLt (show cfg0.N = 33 from N_0)
  rw [Dat.before_out_traj _ 8 rfl (fun _ _ => rfl) (fun t _ hi _ => absurd ((live_8 t).symm.trans hi) Bool.false_ne_true) t.val t rfl d,
    if_neg (by rw [fresh_8 t]; simp only [new_8, Bool.or_eq_true, beq_iff_eq]; omega)]
  dsimp only [dats]
@[inherit_doc before_8]
theorem before_9 (c : Dev nD) (t : Fin cfg0.N) (h : 1 ≤ t.val) (d) :
    (dats m 0 c).before 9 t d = norms m c (t.val - 1) (Nat.lt_of_le_of_lt (Nat.sub_le _ _) t.isLt) := by
  have hN : t.val < 33 := lt_of_lt_of_eq t.isLt (show cfg0.N = 33 from N_0)
  rw [Dat.before_out_traj _ 9 rfl (fun _ _ => rfl) (fun t _ hi _ => absurd ((live_9 t).symm.trans hi) Bool.false_ne_true) t.val t rfl d,
    if_neg (by rw [fresh_9 t]; simp only [new_9, Bool.or_eq_true, beq_iff_eq]; omega)]
  dsimp only [dats]

/-- What the body finds at a point, window by window, and what it leaves. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))
@[inherit_doc pre]
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)
theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (win0_7.stage (cfg0.slots t 7)) fullShare (rowsOut (iblk m c 0 t) (iblk m c 1 t) (iblk m c 2 t) (iblk m c 3 t) (iblk m c 4 t) (iblk m c 5 t)) := by
  unfold Dat.leavesExact; rw [show cfg0.idle 7 (cfg0.grid.coords t) = false from rfl, after_7]
theorem leaves_8 (c : Dev nD) (t : Fin cfg0.N) : (dats m 0 c).leavesExact 8 t = owns (c : Thread nD τ) (win0_8.stage (cfg0.slots t 8)) fullShare (mods m c t.val t.isLt) := by
  unfold Dat.leavesExact; rw [live_8 t, after_8]
theorem leaves_9 (c : Dev nD) (t : Fin cfg0.N) : (dats m 0 c).leavesExact 9 t = owns (c : Thread nD τ) (win0_9.stage (cfg0.slots t 9)) fullShare (norms m c t.val t.isLt) := by
  unfold Dat.leavesExact; rw [live_9 t, after_9]
theorem leaves_10 (c : Dev nD) (t : Fin cfg0.N) : (dats m 0 c).leavesExact 10 t = owns (c : Thread nD τ) (win0_10.stage (cfg0.slots t 10)) fullShare (preOut (iblk m c 0 t) (iblk m c 1 t) (iblk m c 2 t) (iblk m c 3 t) (iblk m c 4 t) (iblk m c 5 t)) := by
  unfold Dat.leavesExact; rw [show cfg0.idle 10 (cfg0.grid.coords t) = false from rfl, after_10]
theorem leaves_11 (c : Dev nD) (t : Fin cfg0.N) : (dats m 0 c).leavesExact 11 t = owns (c : Thread nD τ) (win0_11.stage (cfg0.slots t 11)) fullShare (gateOut (iblk m c 1 t) (iblk m c 5 t)) := by
  unfold Dat.leavesExact; rw [show cfg0.idle 11 (cfg0.grid.coords t) = false from rfl, after_11]
theorem leaves_12 (c : Dev nD) (t : Fin cfg0.N) : (dats m 0 c).leavesExact 12 t = owns (c : Thread nD τ) (win0_12.stage (cfg0.slots t 12)) fullShare (headOut (iblk m c 0 t) (iblk m c 1 t) (iblk m c 2 t)) := by
  unfold Dat.leavesExact; rw [show cfg0.idle 12 (cfg0.grid.coords t) = false from rfl, after_12]
theorem leaves_13 (c : Dev nD) (t : Fin cfg0.N) : (dats m 0 c).leavesExact 13 t = owns (c : Thread nD τ) (win0_13.stage (cfg0.slots t 13)) fullShare (actOut (iblk m c 0 t) (iblk m c 1 t) (iblk m c 2 t) (iblk m c 3 t)) := by
  unfold Dat.leavesExact; rw [show cfg0.idle 13 (cfg0.grid.coords t) = false from rfl, after_13]

set_option maxHeartbeats 2000000 in
/-- The body, at every point: one of the three runs. -/
theorem sound (c : Dev nD) (t : Fin cfg0.N) :
    pre m c t ⊢ wp frame (wpE (defs₀ (F := F)) Variants.none c none) Set.univ (bodyAt0 t) (fun _ => post m c t) := by
  obtain ⟨hc1, hc2, hc3, hc4⟩ := conds t
  unfold pre post bodyAt0
  simp only [before_0, before_1, before_2, before_3, before_4, before_5, before_6]
  rw [show (dats m 0 c).Φ t.succ = (dats m 0 c).Φ t.castSucc from rfl, show (dats m 0 c).owesAt () t.succ = (dats m 0 c).owesAt () t.castSucc from rfl]
  rw [leaves_0, leaves_1, leaves_2, leaves_3, leaves_4, leaves_5, leaves_6, leaves_7, leaves_8, leaves_9, leaves_10, leaves_11, leaves_12, leaves_13]
  rcases (show t.val = 0 ∨ t.val = 1 ∨ 2 ≤ t.val by omega) with h | h | h
  · rw [mods_start m c t (by omega), norms_start m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA c (grid0.coords t) _ _ _ _ _ _ _ _ _ _ _ _ _ _ _ _ _ _ _ _ _ _ _ _ _ _ _ _ (hc1.mpr (by omega)) (fun e => absurd (hc2.mp e) (by omega)) (hc3.mpr h) (fun e => absurd (hc4.mp e) (by omega)) (iblk m c 0 t) (iblk m c 1 t) (iblk m c 2 t) (iblk m c 3 t) (iblk m c 4 t) (iblk m c 5 t) (iblk m c 6 t)).2.2.2.2.2.2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; · iexact H7
      ipureintro; exact (runA_reads _ _ _ _ _ _ _ _ _ _ _ _ _ _ _ _ _ _ _ _ _ _ _ _ _ _ _ _ _ _ _ _ _ _ _ _ _ _ _ _ _).1 _
    isplitl [H8]
    · unfold owns; iexists _; isplitr; swap; · iexact H8
      ipureintro; exact (runA_reads _ _ _ _ _ _ _ _ _ _ _ _ _ _ _ _ _ _ _ _ _ _ _ _ _ _ _ _ _ _ _ _ _ _ _ _ _ _ _ _ _).2.1 _
    isplitl [H9]
    · unfold owns; iexists _; isplitr; swap; · iexact H9
      ipureintro; exact (runA_reads _ _ _ _ _ _ _ _ _ _ _ _ _ _ _ _ _ _ _ _ _ _ _ _ _ _ _ _ _ _ _ _ _ _ _ _ _ _ _ _ _).2.2.1 _
    isplitl [H10]
    · unfold owns; iexists _; isplitr; swap; · iexact H10
      ipureintro; exact (runA_reads _ _ _ _ _ _ _ _ _ _ _ _ _ _ _ _ _ _ _ _ _ _ _ _ _ _ _ _ _ _ _ _ _ _ _ _ _ _ _ _ _).2.2.2.1 _
    isplitl [H11]
    · unfold owns; iexists _; isplitr; swap; · iexact H11
      ipureintro; exact (runA_reads _ _ _ _ _ _ _ _ _ _ _ _ _ _ _ _ _ _ _ _ _ _ _ _ _ _ _ _ _ _ _ _ _ _ _ _ _ _ _ _ _).2.2.2.2.1 _
    isplitl [H12]
    · unfold owns; iexists _; isplitr; swap; · iexact H12
      ipureintro; exact (runA_reads _ _ _ _ _ _ _ _ _ _ _ _ _ _ _ _ _ _ _ _ _ _ _ _ _ _ _ _ _ _ _ _ _ _ _ _ _ _ _ _ _).2.2.2.2.2.1 _
    unfold owns; iexists _; isplitr; swap; · iexact H13
    ipureintro; exact (runA_reads _ _ _ _ _ _ _ _ _ _ _ _ _ _ _ _ _ _ _ _ _ _ _ _ _ _ _ _ _ _ _ _ _ _ _ _ _ _ _ _ _).2.2.2.2.2.2 _
  · rw [mods_start m c t (by omega), norms_go m c t (by omega)]
    simp only [before_9 m c t (by omega)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB c (grid0.coords t) _ _ _ _ _ _ _ _ _ _ _ _ _ _ _ _ _ _ _ _ _ _ _ _ _ _ _ _ (hc1.mpr (by omega)) (fun e => absurd (hc2.mp e) (by omega)) (fun e => absurd (hc3.mp e) (by omega)) (hc4.mpr (by omega)) (iblk m c 0 t) (iblk m c 1 t) (iblk m c 2 t) (iblk m c 3 t) (iblk m c 4 t) (iblk m c 5 t) (iblk m c 6 t) (norms m c (t.val - 1) (Nat.lt_of_le_of_lt (Nat.sub_le _ _) t.isLt))).2.2.2.2.2.2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; · iexact H7
      ipureintro; exact (runB_reads _ _ _ _ _ _ _ _ _ _ _ _ _ _ _ _ _ _ _ _ _ _ _ _ _ _ _ _ _ _ _ _ _ _ _ _ _ _ _ _ _ _).1 _
    isplitl [H8]
    · unfold owns; iexists _; isplitr; swap; · iexact H8
      ipureintro; exact (runB_reads _ _ _ _ _ _ _ _ _ _ _ _ _ _ _ _ _ _ _ _ _ _ _ _ _ _ _ _ _ _ _ _ _ _ _ _ _ _ _ _ _ _).2.1 _
    isplitl [H9]
    · unfold owns; iexists _; isplitr; swap; · iexact H9
      ipureintro; exact (runB_reads _ _ _ _ _ _ _ _ _ _ _ _ _ _ _ _ _ _ _ _ _ _ _ _ _ _ _ _ _ _ _ _ _ _ _ _ _ _ _ _ _ _).2.2.1 _
    isplitl [H10]
    · unfold owns; iexists _; isplitr; swap; · iexact H10
      ipureintro; exact (runB_reads _ _ _ _ _ _ _ _ _ _ _ _ _ _ _ _ _ _ _ _ _ _ _ _ _ _ _ _ _ _ _ _ _ _ _ _ _ _ _ _ _ _).2.2.2.1 _
    isplitl [H11]
    · unfold owns; iexists _; isplitr; swap; · iexact H11
      ipureintro; exact (runB_reads _ _ _ _ _ _ _ _ _ _ _ _ _ _ _ _ _ _ _ _ _ _ _ _ _ _ _ _ _ _ _ _ _ _ _ _ _ _ _ _ _ _).2.2.2.2.1 _
    isplitl [H12]
    · unfold owns; iexists _; isplitr; swap; · iexact H12
      ipureintro; exact (runB_reads _ _ _ _ _ _ _ _ _ _ _ _ _ _ _ _ _ _ _ _ _ _ _ _ _ _ _ _ _ _ _ _ _ _ _ _ _ _ _ _ _ _).2.2.2.2.2.1 _
    unfold owns; iexists _; isplitr; swap; · iexact H13
    ipureintro; exact (runB_reads _ _ _ _ _ _ _ _ _ _ _ _ _ _ _ _ _ _ _ _ _ _ _ _ _ _ _ _ _ _ _ _ _ _ _ _ _ _ _ _ _ _).2.2.2.2.2.2 _
  · rw [mods_go m c t h, norms_go m c t (by omega)]
    simp only [before_8 m c t h, before_9 m c t (by omega)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runC c (grid0.coords t) _ _ _ _ _ _ _ _ _ _ _ _ _ _ _ _ _ _ _ _ _ _ _ _ _ _ _ _ (fun e => absurd (hc1.mp e) (by omega)) (hc2.mpr h) (fun e => absurd (hc3.mp e) (by omega)) (hc4.mpr (by omega)) (iblk m c 0 t) (iblk m c 1 t) (iblk m c 2 t) (iblk m c 3 t) (iblk m c 4 t) (iblk m c 5 t) (iblk m c 6 t) (mods m c (t.val - 1) (Nat.lt_of_le_of_lt (Nat.sub_le _ _) t.isLt)) (norms m c (t.val - 1) (Nat.lt_of_le_of_lt (Nat.sub_le _ _) t.isLt))).2.2.2.2.2.2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; · iexact H7
      ipureintro; exact (runC_reads _ _ _ _ _ _ _ _ _ _ _ _ _ _ _ _ _ _ _ _ _ _ _ _ _ _ _ _ _ _ _ _ _ _ _ _ _ _ _ _ _ _ _).1 _
    isplitl [H8]
    · unfold owns; iexists _; isplitr; swap; · iexact H8
      ipureintro; exact (runC_reads _ _ _ _ _ _ _ _ _ _ _ _ _ _ _ _ _ _ _ _ _ _ _ _ _ _ _ _ _ _ _ _ _ _ _ _ _ _ _ _ _ _ _).2.1 _
    isplitl [H9]
    · unfold owns; iexists _; isplitr; swap; · iexact H9
      ipureintro; exact (runC_reads _ _ _ _ _ _ _ _ _ _ _ _ _ _ _ _ _ _ _ _ _ _ _ _ _ _ _ _ _ _ _ _ _ _ _ _ _ _ _ _ _ _ _).2.2.1 _
    isplitl [H10]
    · unfold owns; iexists _; isplitr; swap; · iexact H10
      ipureintro; exact (runC_reads _ _ _ _ _ _ _ _ _ _ _ _ _ _ _ _ _ _ _ _ _ _ _ _ _ _ _ _ _ _ _ _ _ _ _ _ _ _ _ _ _ _ _).2.2.2.1 _
    isplitl [H11]
    · unfold owns; iexists _; isplitr; swap; · iexact H11
      ipureintro; exact (runC_reads _ _ _ _ _ _ _ _ _ _ _ _ _ _ _ _ _ _ _ _ _ _ _ _ _ _ _ _ _ _ _ _ _ _ _ _ _ _ _ _ _ _ _).2.2.2.2.1 _
    isplitl [H12]
    · unfold owns; iexists _; isplitr; swap; · iexact H12
      ipureintro; exact (runC_reads _ _ _ _ _ _ _ _ _ _ _ _ _ _ _ _ _ _ _ _ _ _ _ _ _ _ _ _ _ _ _ _ _ _ _ _ _ _ _ _ _ _ _).2.2.2.2.2.1 _
    unfold owns; iexists _; isplitr; swap; · iexact H13
    ipureintro; exact (runC_reads _ _ _ _ _ _ _ _ _ _ _ _ _ _ _ _ _ _ _ _ _ _ _ _ _ _ _ _ _ _ _ _ _ _ _ _ _ _ _ _ _ _ _).2.2.2.2.2.2 _

theorem body_row (t : Fin cfg0.N) : defs₀ (F := F) .tc cfg0.body (cfg0.bodyArgs t (cfg0.slots t)) = bodyAt0 t := by
  unfold defs₀; rw [Defs.onTc_tc]
/-- The obligation of the body, as the launch asks for it. -/
theorem body_sound (c : Dev nD) : BodyObligation (dats (F := F) m 0 c) (defs₀ (F := F)) Variants.none () Set.univ := fun t => by
  rw [bigSep_W0, bigSep_W0, body_row]
  exact triple_restated (sound m c t) rfl .rfl fun _ => .rfl

set_option backward.isDefEq.respectTransparency.types false in
/-- The call runs to its end: every window's array is what its blocks make it, and every counter is at zero. -/
theorem run_arrays : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_sound m c).loose) (hshare := fun c => (dats m 0 c).share_full fun _ => rfl)
    (howed := fun _ _ => rfl) (V := V m) (hmain := hmain m Variants.none) (hA := A_eq m) (hΦ := fun _ _ => rfl)

/-- The kernel ends with its arguments unchanged and no counter raised. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_arrays m ρ)))
    ((θ_run defs _ _).mono (fun _ h => h.2) (run_arrays m ρ))

end Cert.Ffn

end
-- ==== Proof.FfnRow.lean ====
/- # The feed-forward block's gradient: one row

The row of the block's input `x`, of its output's cotangent `d`, the norm's weight `w`, and the modulation's rows: the scale `s`, the shift
`t`, the gate `g`. The first weight `a` has a column, the second `b` a row, for each hidden element.
-/
module

public import proofs.«01_k».proof.Proof.FfnFrame
public import Idealize.ShloMosaic.Lib.Pipeline.ValueKit
public import Idealize.ShloMosaic.Lib.VecWindow

@[expose] public section

set_option maxRecDepth 16384

noncomputable section

namespace Cert.Ffn

open Idealize.ShloMosaic Idealize.ShloMosaic.TcCoe Idealize.SL.Sem

/-- A row of elements. -/
abbrev Row := Fin 1024 → EReal

/-- The mean of the squares, and the small constant. -/
def ms (x : Row) : EReal := Ideal.div (∑ k, x k * x k) (Ideal.ofBits .f32 0x44800000#32) + Ideal.ofBits .f32 0x358637BD#32
/-- The row over its root mean square. -/
def unit (x : Row) : Row := fun k => x k * Ideal.rsqrt (ms x)
/-- The normed row. -/
def normed (x w : Row) : Row := fun k => unit x k * w k
/-- The normed and modulated row. -/
def head (x w s t : Row) : Row := fun k => normed x w k * (1 + s k) + t k
/-- The gated cotangent. -/
def gated (d g : Row) : Row := fun k => d k * g k
/-- The hidden row after the activation, over any of the hidden columns. -/
def hid {n : ℕ} (h : Row) (a : Fin 1024 → Fin n → EReal) (j : Fin n) : EReal := max (∑ k, h k * a k j) 0
/-- The gradient before the activation. -/
def pre_ {n : ℕ} (h e : Row) (a : Fin 1024 → Fin n → EReal) (b : Fin n → Fin 1024 → EReal) (j : Fin n) : EReal :=
  (∑ k, e k * b j k) * (Ideal.ofBits .f32 0x40000000#32 * hid h a j)
/-- What hidden columns add to the gradient of the modulated row. -/
def back {n : ℕ} (h e : Row) (a : Fin 1024 → Fin n → EReal) (b : Fin n → Fin 1024 → EReal) : Row := fun k => ∑ j, pre_ h e a b j * a k j
/-- From the modulated row's gradient `u`, that of the normed row over its weight, -/
def scaled (s u : Row) : Row := fun k => u k * (1 + s k)
/-- of the row over its root mean square, -/
def weighed (w s u : Row) : Row := fun k => scaled s u k * w k
/-- of the mean of the squares, -/
def meaned (x w s u : Row) : EReal :=
  Ideal.div ((∑ k, x k * weighed w s u k) * (Ideal.ofBits .f32 0xBF000000#32 * Ideal.div (Ideal.rsqrt (ms x)) (ms x))) (Ideal.ofBits .f32 0x44800000#32)
/-- and of the row. -/
def rowed (x w s u d : Row) : Row := fun k =>
  d k + (weighed w s u k * Ideal.rsqrt (ms x) + x k * meaned x w s u + meaned x w s u * x k)

open Cert.FfnBwdIdeal Cert.FfnBwdIdeal.Gen

/-! ## Blocks and their rows -/

/-- A block's row. -/
def brow (x : Vec Ideal S256x1024 .f32) (r : Fin 256) : Row := fun k => x (ix2 r k)
/-- The norm's weight. -/
def wrow (n : Vec Ideal S1x1024 .f32) : Row := fun k => n (ix2 0 k)
/-- A row of the modulation. -/
def mrow (v : Vec Ideal S1x8x1024 .f32) (i : Fin 8) : Row := fun k => v (ix3 0 i k)
/-- A matrix of weights. -/
def mat {p q : ℕ} (u : (⟨2, ![p, q]⟩ : Shape).Idx → EReal) (i : Fin p) (j : Fin q) : EReal := u (ix2 i j)

section
variable (x : Vec Ideal S256x1024 .f32) (v : Vec Ideal S1x8x1024 .f32) (n : Vec Ideal S1x1024 .f32) (w : Vec Ideal S1024x4096 .bf16) (z : Vec Ideal S4096x1024 .bf16)
  (g f : Vec Ideal S256x1024 .f32)

/-- A row of the block, normed and modulated. -/
def bhead (r : Fin 256) : Row := head (brow x r) (wrow n) (mrow v 4) (mrow v 3)
/-- Its gated cotangent. -/
def bgate (r : Fin 256) : Row := gated (brow g r) (mrow v 5)

theorem pay11 (y : S256x1024.Idx) : k0_pay11 (F := Ideal) v x n y = bhead x v n (y 0) (y 1) := by
  have hx : x y = brow x (y 0) (y 1) := congrArg x (funext fun k => by fin_cases k <;> rfl)
  pointwise [k0_pay11, k0_pay10, k0_pay9, k0_pay8, k0_pay7, k0_pay5, k0_pay4, k0_pay3, k0_pay2]
  try rw [hx]
  rfl
theorem pay12 (y : S256x1024.Idx) : k0_pay12 (F := Ideal) v g y = bgate v g (y 0) (y 1) := by
  have hx : g y = brow g (y 0) (y 1) := congrArg g (funext fun k => by fin_cases k <;> rfl)
  pointwise [k0_pay12, k0_pay2]
  try rw [hx]
  rfl
theorem pay10 (y : S256x1024.Idx) : k0_pay10 (F := Ideal) v x n y = bhead x v n (y 0) (y 1) := by
  have hx : x y = brow x (y 0) (y 1) := congrArg x (funext fun k => by fin_cases k <;> rfl)
  pointwise [k0_pay10, k0_pay9, k0_pay8, k0_pay7, k0_pay5, k0_pay4, k0_pay3, k0_pay2]
  try rw [hx]
  rfl
end

section
variable (h e : FVec Ideal S256x1024 .bf16) (u b : FVec Ideal S1024x1024 .bf16) (a : FVec Ideal S256x1024 .f32)
/-- A row of a block in the narrow format. -/
def nrow (h : FVec Ideal S256x1024 .bf16) (r : Fin 256) : Row := fun k => h (ix2 r k)
theorem pay28 (y : S256x1024.Idx) : k0_pay28 h u y = hid (nrow h (y 0)) (mat u) (y 1) := by
  pointwise [k0_pay28]
  rfl
theorem pay29 (y : S256x1024.Idx) : k0_pay29 h u y = hid (nrow h (y 0)) (mat u) (y 1) * hid (nrow h (y 0)) (mat u) (y 1) := by
  pointwise [k0_pay29, k0_pay28]
  rfl
theorem pay30 (y : S256x1024.Idx) : k0_pay30 e (k0_pay28 h u) b y = pre_ (nrow h (y 0)) (nrow e (y 0)) (mat u) (mat b) (y 1) := by
  pointwise [k0_pay30, k0_pay28]
  rfl
theorem pay31 (y : S256x1024.Idx) : k0_pay31 e a (k0_pay28 h u) b u y = a y + back (nrow h (y 0)) (nrow e (y 0)) (mat u) (mat b) (y 1) := by
  pointwise [k0_pay31, k0_pay30, k0_pay28]
  rfl
end

/-! ## The hidden columns, a thousand at a time -/

/-- A sum over all hidden columns, from its four parts. -/
theorem sum4 (f : Fin 4096 → EReal) : ∑ j, f j = ∑ j : Fin 1024, f ⟨j.val, by omega⟩ + ∑ j : Fin 1024, f ⟨1024 + j.val, by omega⟩
    + ∑ j : Fin 1024, f ⟨2048 + j.val, by omega⟩ + ∑ j : Fin 1024, f ⟨3072 + j.val, by omega⟩ := by
  let e : ℕ → EReal := fun i => if h : i < 4096 then f ⟨i, h⟩ else 0
  have he : ∀ i (h : i < 4096), e i = f ⟨i, h⟩ := fun i h => dif_pos h
  have h0 : ∑ j, f j = ∑ i ∈ Finset.range (1024 + 1024 + 1024 + 1024), e i := by
    rw [Finset.sum_range (n := 1024 + 1024 + 1024 + 1024)]; exact Finset.sum_congr rfl fun i _ => (he _ i.isLt).symm
  rw [h0, Finset.sum_range_add, Finset.sum_range_add, Finset.sum_range_add, Finset.sum_range, Finset.sum_range, Finset.sum_range, Finset.sum_range]
  exact congr (congrArg _ (congr (congrArg _ (congr (congrArg _ (Finset.sum_congr rfl fun i _ => he _ _)) (Finset.sum_congr rfl fun i _ => he _ _)))
    (Finset.sum_congr rfl fun i _ => he _ _))) (Finset.sum_congr rfl fun i _ => he _ _)

section
variable (w : Vec Ideal S1024x4096 .bf16) (z : Vec Ideal S4096x1024 .bf16) (k : Fin 1024) (j : Fin 1024)
theorem mat_up0 : mat (up0 w) k j = mat w k ⟨j.val, by omega⟩ :=
  congrArg w (funext fun a => Fin.ext (by fin_cases a <;> (show 0 + 1 * _ = _; rw [Nat.zero_add, Nat.one_mul]; rfl)))
theorem mat_up1 : mat (up1 w) k j = mat w k ⟨1024 + j.val, by omega⟩ :=
  congrArg w (funext fun a => Fin.ext (by fin_cases a <;> [(show 0 + 1 * _ = _; rw [Nat.zero_add, Nat.one_mul]; rfl); (show 1024 + 1 * _ = _; rw [Nat.one_mul]; rfl)]))
theorem mat_up2 : mat (up2 w) k j = mat w k ⟨2048 + j.val, by omega⟩ :=
  congrArg w (funext fun a => Fin.ext (by fin_cases a <;> [(show 0 + 1 * _ = _; rw [Nat.zero_add, Nat.one_mul]; rfl); (show 2048 + 1 * _ = _; rw [Nat.one_mul]; rfl)]))
theorem mat_up3 : mat (up3 w) k j = mat w k ⟨3072 + j.val, by omega⟩ :=
  congrArg w (funext fun a => Fin.ext (by fin_cases a <;> [(show 0 + 1 * _ = _; rw [Nat.zero_add, Nat.one_mul]; rfl); (show 3072 + 1 * _ = _; rw [Nat.one_mul]; rfl)]))
theorem mat_dn0 : mat (dn0 z) j k = mat z ⟨j.val, by omega⟩ k :=
  congrArg z (funext fun a => Fin.ext (by fin_cases a <;> (show 0 + 1 * _ = _; rw [Nat.zero_add, Nat.one_mul]; rfl)))
theorem mat_dn1 : mat (dn1 z) j k = mat z ⟨1024 + j.val, by omega⟩ k :=
  congrArg z (funext fun a => Fin.ext (by fin_cases a <;> [(show 1024 + 1 * _ = _; rw [Nat.one_mul]; rfl); (show 0 + 1 * _ = _; rw [Nat.zero_add, Nat.one_mul]; rfl)]))
theorem mat_dn2 : mat (dn2 z) j k = mat z ⟨2048 + j.val, by omega⟩ k :=
  congrArg z (funext fun a => Fin.ext (by fin_cases a <;> [(show 2048 + 1 * _ = _; rw [Nat.one_mul]; rfl); (show 0 + 1 * _ = _; rw [Nat.zero_add, Nat.one_mul]; rfl)]))
theorem mat_dn3 : mat (dn3 z) j k = mat z ⟨3072 + j.val, by omega⟩ k :=
  congrArg z (funext fun a => Fin.ext (by fin_cases a <;> [(show 3072 + 1 * _ = _; rw [Nat.one_mul]; rfl); (show 0 + 1 * _ = _; rw [Nat.zero_add, Nat.one_mul]; rfl)]))
end

section
variable (h e : FVec Ideal S256x1024 .bf16) (u b : FVec Ideal S1024x1024 .bf16) (a a' : FVec Ideal S256x1024 .f32)
theorem pay17 (y : S256x1024.Idx) : k0_pay17 h (k0_pay15 u) (zeros (F := Ideal)) y = hid (nrow h (y 0)) (mat u) (y 1) * hid (nrow h (y 0)) (mat u) (y 1) := by
  pointwise [k0_pay17, k0_pay16, k0_pay15, zeros]
  rfl
theorem pay18 (y : S256x1024.Idx) : k0_pay18 h e (k0_pay15 u) (zeros (F := Ideal)) b y = pre_ (nrow h (y 0)) (nrow e (y 0)) (mat u) (mat b) (y 1) := by
  pointwise [k0_pay18, k0_pay16, k0_pay15, zeros]
  rfl
theorem pay19 (y : S256x1024.Idx) : k0_pay19 h e (k0_pay14 (F := Ideal)) (k0_pay15 u) (zeros (F := Ideal)) b u y
    = back (nrow h (y 0)) (nrow e (y 0)) (mat u) (mat b) (y 1) := by
  refine Eq.trans ?_ (zero_add _)
  pointwise [k0_pay19, k0_pay18, k0_pay16, k0_pay15, k0_pay14, zeros]
  rfl
theorem pay21 (y : S256x1024.Idx) : k0_pay21 h u y = hid (nrow h (y 0)) (mat u) (y 1) * hid (nrow h (y 0)) (mat u) (y 1) := by
  pointwise [k0_pay21, k0_pay20]
  rfl
theorem pay22 (y : S256x1024.Idx) : k0_pay22 h e u b y = pre_ (nrow h (y 0)) (nrow e (y 0)) (mat u) (mat b) (y 1) := by
  pointwise [k0_pay22, k0_pay20]
  rfl
theorem pay23 (y : S256x1024.Idx) : k0_pay23 h e u b u y = back (nrow h (y 0)) (nrow e (y 0)) (mat u) (mat b) (y 1) := by
  pointwise [k0_pay23, k0_pay22, k0_pay20]
  rfl
theorem pay25 (y : S256x1024.Idx) : k0_pay25 h u y = hid (nrow h (y 0)) (mat u) (y 1) * hid (nrow h (y 0)) (mat u) (y 1) := by
  pointwise [k0_pay25, k0_pay24]
  rfl
theorem pay26 (y : S256x1024.Idx) : k0_pay26 h e u b y = pre_ (nrow h (y 0)) (nrow e (y 0)) (mat u) (mat b) (y 1) := by
  pointwise [k0_pay26, k0_pay24]
  rfl
theorem pay27 (y : S256x1024.Idx) : k0_pay27 h e a a' u b u y = a y + a' y + back (nrow h (y 0)) (nrow e (y 0)) (mat u) (mat b) (y 1) := by
  pointwise [k0_pay27, k0_pay26, k0_pay24]
  rfl
end

/-! ## What a block leaves in each result -/

section
variable (x : Vec Ideal S256x1024 .f32) (v : Vec Ideal S1x8x1024 .f32) (n : Vec Ideal S1x1024 .f32) (w : Vec Ideal S1024x4096 .bf16) (z : Vec Ideal S4096x1024 .bf16)
  (g f : Vec Ideal S256x1024 .f32)

/-- The modulated row's gradient. -/
def bback (r : Fin 256) : Row := back (bhead x v n r) (bgate v g r) (mat w) (mat z)

theorem nrow_head (r : Fin 256) : nrow (k0_pay11 (F := Ideal) v x n) r = bhead x v n r := funext fun k => pay11 x v n (ix2 r k)
theorem nrow_gate (r : Fin 256) : nrow (k0_pay12 (F := Ideal) v g) r = bgate v g r := funext fun k => pay12 v g (ix2 r k)

theorem whole (y : S256x1024.Idx) : k0_pay31 (k0_pay12 v g) (part x v n w z g) (k0_pay28 (k0_pay11 v x n) (up3 w)) (dn3 z) (up3 w) y
    = bback x v n w z g (y 0) (y 1) := by
  have core : ∀ (r : Fin 256) (k : Fin 1024), k0_pay31 (k0_pay12 v g) (part x v n w z g) (k0_pay28 (k0_pay11 v x n) (up3 w)) (dn3 z) (up3 w) (ix2 r k)
      = bback x v n w z g r k := by
    intro r k
    unfold part
    rw [pay31, pay27, pay19, pay23]
    unfold bback back
    rw [sum4]
    simp only [ix2, nrow_head, nrow_gate, pre_, hid, mat_up0, mat_up1, mat_up2, mat_up3, mat_dn0, mat_dn1, mat_dn2, mat_dn3]
  have hy : y = ix2 (y 0) (y 1) := funext fun k => by fin_cases k <;> rfl
  rw [hy]; exact core _ _

theorem rows_out (y : S256x1024.Idx) : rowsOut x v n w z g y
    = rowed (brow x (y 0)) (wrow n) (mrow v 4) (bback x v n w z g (y 0)) (brow g (y 0)) (y 1) := by
  have hx : x y = brow x (y 0) (y 1) := congrArg x (funext fun k => by fin_cases k <;> rfl)
  have hg : g y = brow g (y 0) (y 1) := congrArg g (funext fun k => by fin_cases k <;> rfl)
  have hu := whole x v n w z g
  unfold rowsOut k0_pay34
  generalize k0_pay31 (k0_pay12 v g) (part x v n w z g) (k0_pay28 (k0_pay11 v x n) (up3 w)) (dn3 z) (up3 w) = u at hu ⊢
  obtain rfl : u = fun y => bback x v n w z g (y 0) (y 1) := funext hu
  pointwise [k0_pay38, k0_pay3, k0_pay4, k0_pay5, k0_pay6, k0_pay9, k0_pay2]
  simp only [Finset.univ_unique, Finset.sum_singleton]
  rw [hx, hg]
  rfl

theorem norm_out (y : S1x1024.Idx) : normOut x v n w z g y
    = ∑ r, unit (brow x r) (y 1) * scaled (mrow v 4) (bback x v n w z g r) (y 1) := by
  have hu := whole x v n w z g
  unfold normOut k0_pay36 k0_pay34
  generalize k0_pay31 (k0_pay12 v g) (part x v n w z g) (k0_pay28 (k0_pay11 v x n) (up3 w)) (dn3 z) (up3 w) = u at hu ⊢
  obtain rfl : u = fun y => bback x v n w z g (y 0) (y 1) := funext hu
  pointwise [k0_pay37, k0_pay7, k0_pay4, k0_pay5, k0_pay9, k0_pay2]
  rfl
theorem norm_step (o : Vec Ideal S1x1024 .f32) (y : S1x1024.Idx) : normStep x v n w z g o y = o y + normOut x v n w z g y := by
  unfold normStep
  pointwise [k0_pay1]
theorem gate_out (y : S1024x256.Idx) : gateOut v g y = bgate v g (y 1) (y 0) := by
  unfold gateOut
  pointwise [k0_pay32, k0_pay2]
  rfl
theorem head_out (y : S1024x256.Idx) : headOut x v n y = bhead x v n (y 1) (y 0) := by
  unfold headOut
  pointwise [k0_pay33]
  rw [pay10]
  rfl

/-- The rows 3, 4 and 5 among eight, each laid over zeros. -/
theorem rows_345 (i : ℕ) (hi : i < 8) (A B C : EReal) :
    ((if _ : i < 4 then if _ : i < 3 then 0 else A else 0) + (if _ : i < 5 then if _ : i < 4 then 0 else B else 0))
      + Scalar.select (IntOp.cmpi CmpIPredicate.eq (BitVec.ofNat 32 i) 5#32) C 0 = if i = 3 then A else if i = 4 then B else if i = 5 then C else 0 := by
  interval_cases i <;> simp [Scalar.select, IntOp.cmpi]
/-- The block's part of the modulation's gradient: the shift's row, the scale's, the gate's, and no others. -/
def bmod (i : ℕ) (k : Fin 1024) : EReal :=
  if i = 3 then ∑ r, bback x v n w z g r k else if i = 4 then ∑ r, normed (brow x r) (wrow n) k * bback x v n w z g r k
  else if i = 5 then ∑ r, brow g r k * brow f r k else 0
theorem mod_out (y : S1x8x1024.Idx) : modOut x v n w z g f y = bmod x v n w z g f (y 1).val (y 2) := by
  have hu := whole x v n w z g
  unfold modOut modPart k0_pay35
  generalize k0_pay31 (k0_pay12 v g) (part x v n w z g) (k0_pay28 (k0_pay11 v x n) (up3 w)) (dn3 z) (up3 w) = u at hu ⊢
  obtain rfl : u = fun y => bback x v n w z g (y 0) (y 1) := funext hu
  pointwise [k0_pay40, k0_pay39, k0_pay13, k0_pay8, k0_pay7, k0_pay5, k0_pay4, k0_pay3]
  exact rows_345 _ (y 1).isLt _ _ _
theorem mod_step (o : Vec Ideal S1x8x1024 .f32) (y : S1x8x1024.Idx) : modStep x v n w z g f o y = o y + bmod x v n w z g f (y 1).val (y 2) := by
  have e := mod_out x v n w z g f y
  have ho : o y = o (ix3 0 (y 1) (y 2)) := congrArg o (funext fun k => by
    fin_cases k <;> first | rfl | exact Subsingleton.elim (α := Fin 1) _ _)
  rw [← e]
  unfold modStep modOut
  pointwise [k0_pay41, k0_pay40]

/-- Four chunks side by side are the array whose chunks they are. -/
theorem paste_apply (p0 p1 p2 p3 : FVec Ideal S256x1024 .bf16) (q : Fin 256 → Fin 4096 → EReal)
    (h0 : ∀ (r : Fin 256) (j : Fin 1024), p0 (ix2 r j) = q r ⟨j.val, by omega⟩) (h1 : ∀ (r : Fin 256) (j : Fin 1024), p1 (ix2 r j) = q r ⟨1024 + j.val, by omega⟩)
    (h2 : ∀ (r : Fin 256) (j : Fin 1024), p2 (ix2 r j) = q r ⟨2048 + j.val, by omega⟩) (h3 : ∀ (r : Fin 256) (j : Fin 1024), p3 (ix2 r j) = q r ⟨3072 + j.val, by omega⟩)
    (r : Fin 256) (j : Fin 4096) : paste p0 p1 p2 p3 (ix2 r j) = q r j := by
  unfold paste chunks
  rcases Nat.lt_or_ge j.val 1024 with a | a
  · rw [View.read_writes_cons_unit_of_not_mem _ _ _ _ _ _ rfl 1 (.inl (show j.val < 3072 by omega)),
      View.read_writes_cons_unit_of_not_mem _ _ _ _ _ _ rfl 1 (.inl (show j.val < 2048 by omega)),
      View.read_writes_cons_unit_of_not_mem _ _ _ _ _ _ rfl 1 (.inl (show j.val < 1024 by omega)),
      View.read_writes_cons_unit_of_mem _ _ _ _ _ _ (ix2 r ⟨j.val, a⟩) rfl (fun k => by fin_cases k <;> exact (Nat.zero_add _).symm), h0]
  rcases Nat.lt_or_ge j.val 2048 with b | b
  · rw [View.read_writes_cons_unit_of_not_mem _ _ _ _ _ _ rfl 1 (.inl (show j.val < 3072 by omega)),
      View.read_writes_cons_unit_of_not_mem _ _ _ _ _ _ rfl 1 (.inl (show j.val < 2048 by omega)),
      View.read_writes_cons_unit_of_mem _ _ _ _ _ _ (ix2 r ⟨j.val - 1024, by omega⟩) rfl
        (fun k => by fin_cases k <;> [exact (Nat.zero_add _).symm; (show j.val = 1024 + (j.val - 1024); omega)]), h1]
    exact congrArg (q r) (Fin.ext (by simp only; omega))
  rcases Nat.lt_or_ge j.val 3072 with d | d
  · rw [View.read_writes_cons_unit_of_not_mem _ _ _ _ _ _ rfl 1 (.inl (show j.val < 3072 by omega)),
      View.read_writes_cons_unit_of_mem _ _ _ _ _ _ (ix2 r ⟨j.val - 2048, by omega⟩) rfl
        (fun k => by fin_cases k <;> [exact (Nat.zero_add _).symm; (show j.val = 2048 + (j.val - 2048); omega)]), h2]
    exact congrArg (q r) (Fin.ext (by simp only; omega))
  · rw [View.read_writes_cons_unit_of_mem _ _ _ _ _ _ (ix2 r ⟨j.val - 3072, by omega⟩) rfl
        (fun k => by fin_cases k <;> [exact (Nat.zero_add _).symm; (show j.val = 3072 + (j.val - 3072); omega)]), h3]
    exact congrArg (q r) (Fin.ext (by simp only; omega))

theorem pre_out (y : S256x4096.Idx) : preOut x v n w z g y = pre_ (bhead x v n (y 0)) (bgate v g (y 0)) (mat w) (mat z) (y 1) := by
  have hy : y = ix2 (y 0) (y 1) := funext fun k => by fin_cases k <;> rfl
  rw [hy]
  refine paste_apply _ _ _ _ (fun r j => pre_ (bhead x v n r) (bgate v g r) (mat w) (mat z) j) ?_ ?_ ?_ ?_ _ _ <;> intro r j
  · rw [pay18]; simp only [ix2, nrow_head, nrow_gate, pre_, hid, mat_up0, mat_dn0]
  · rw [pay22]; simp only [ix2, nrow_head, nrow_gate, pre_, hid, mat_up1, mat_dn1]
  · rw [pay26]; simp only [ix2, nrow_head, nrow_gate, pre_, hid, mat_up2, mat_dn2]
  · rw [pay30]; simp only [ix2, nrow_head, nrow_gate, pre_, hid, mat_up3, mat_dn3]
theorem act_out (y : S256x4096.Idx) : actOut x v n w y = hid (bhead x v n (y 0)) (mat w) (y 1) * hid (bhead x v n (y 0)) (mat w) (y 1) := by
  have hy : y = ix2 (y 0) (y 1) := funext fun k => by fin_cases k <;> rfl
  rw [hy]
  refine paste_apply _ _ _ _ (fun r j => hid (bhead x v n r) (mat w) j * hid (bhead x v n r) (mat w) j) ?_ ?_ ?_ ?_ _ _ <;> intro r j
  · rw [pay17]; simp only [ix2, nrow_head, hid, mat_up0]
  · rw [pay21]; simp only [ix2, nrow_head, hid, mat_up1]
  · rw [pay25]; simp only [ix2, nrow_head, hid, mat_up2]
  · rw [pay29]; simp only [ix2, nrow_head, hid, mat_up3]
end

/-! ## The whole arrays, by rows -/

/-- The arguments, a row at a time: the modulation a row is under, the weights. -/
structure Args where
  x : ℕ → Row
  v : ℕ → Fin 6 → Row
  n : Row
  w : Fin 1024 → Fin 4096 → EReal
  z : Fin 4096 → Fin 1024 → EReal
  d : ℕ → Row

namespace Args
variable (A : Args) (i : ℕ)
/-- The row normed and modulated, -/
def h : Row := head (A.x i) A.n (A.v i 4) (A.v i 3)
/-- its gated cotangent, -/
def e : Row := gated (A.d i) (A.v i 5)
/-- its hidden row, -/
def a (j : Fin 4096) : EReal := hid (A.h i) A.w j
/-- the forward's row, -/
def f : Row := fun k => ∑ j, A.a i j * A.a i j * A.z j k
/-- the gradient before the activation -/
def p (j : Fin 4096) : EReal := pre_ (A.h i) (A.e i) A.w A.z j
/-- and that of the modulated row. -/
def u : Row := back (A.h i) (A.e i) A.w A.z
/-- The row's gradient, -/
def dx : Row := rowed (A.x i) A.n (A.v i 4) (A.u i) (A.d i)
/-- its part of the modulation's, -/
def dm (j : ℕ) : Row := fun k =>
  if j = 3 then A.u i k else if j = 4 then normed (A.x i) A.n k * A.u i k else if j = 5 then A.d i k * A.f i k else 0
/-- and of the norm weight's. -/
def dn : Row := fun k => unit (A.x i) k * scaled (A.v i 4) (A.u i) k
/-- The modulation's gradient: the context's rows are the first 256. -/
def mods (q : ℕ) (j : ℕ) : Row := fun k => if q = 0 then ∑ r ∈ Finset.range 256, A.dm r j k else ∑ r ∈ Finset.range 8192, A.dm (256 + r) j k
/-- The norm weight's gradient. -/
def norms : Row := fun k => ∑ r ∈ Finset.range 8448, A.dn r k
end Args

/-- The arguments' arrays by rows. -/
def args (a0 : FVec Ideal S8448x1024 .f32) (a1 a2 : FVec Ideal S6144 .f32) (a3 : FVec Ideal S1024 .f32) (a4 : FVec Ideal S1024x4096 .f32)
    (a5 : FVec Ideal S4096x1024 .f32) (a6 : FVec Ideal S8448x1024 .f32) : Args where
  x i k := if h : i < 8448 then a0 (ix2 ⟨i, h⟩ k) else 0
  v i j k := if i < 256 then a1 (ix1 ⟨1024 * j.val + k.val, by omega⟩) else a2 (ix1 ⟨1024 * j.val + k.val, by omega⟩)
  n k := a3 (ix1 k)
  w := mat a4
  z := mat a5
  d i k := if h : i < 8448 then a6 (ix2 ⟨i, h⟩ k) else 0

end Cert.Ffn

end
-- ==== Proof.FfnValue.lean ====
/- # The feed-forward block's gradient: the kernel's results

The blocks each point loads, and from them what the seven result arrays hold at the end.
-/
module

public import proofs.«01_k».proof.Proof.FfnEntry
public import proofs.«01_k».proof.Proof.FfnRow
public import Idealize.ShloMosaic.Lib.StableHlo.RunRead

@[expose] public section

set_option maxRecDepth 16384

noncomputable section

namespace Cert.Ffn

open Idealize.ShloMosaic Idealize.ShloMosaic.TcCoe Idealize.SL.Sem
open Cert.FfnBwdIdeal Cert.FfnBwdIdeal.Gen

variable (m : (ℓ : Loc nD τ sig) → Buf (Elt Ideal) ℓ) (c : Dev nD)

/-- The kernel's arguments by rows. -/
def K : Args := args (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

/-! ## The arrays the host lines prepare -/

theorem K_x (i : ℕ) (h : i < 8448) : (K m c).x i = fun k => (m ((c.tc : Thread nD τ).loc main_arg0) : FVec Ideal S8448x1024 .f32) (ix2 ⟨i, h⟩ k) := funext fun _ => dif_pos h
theorem K_d (i : ℕ) (h : i < 8448) : (K m c).d i = fun k => (m ((c.tc : Thread nD τ).loc main_arg6) : FVec Ideal S8448x1024 .f32) (ix2 ⟨i, h⟩ k) := funext fun _ => dif_pos h
theorem K_v (i i' : ℕ) (h : i < 256 ↔ i' < 256) : (K m c).v i = (K m c).v i' := by
  unfold K args; simp only [h]
theorem V_n (k : Fin 1024) : (V m c main_v67 : FVec Ideal S1x1024 .f32) (ix2 0 k) = (K m c).n k := by
  rw [Entry.v67, V_main_arg3]
  pointwise
  rfl
theorem V_w (i : Fin 1024) (j : Fin 4096) : (V m c main_v68 : FVec Ideal S1024x4096 .bf16) (ix2 i j) = (K m c).w i j := by
  rw [Entry.v68, V_main_arg4]
  pointwise
  rfl
theorem V_z (i : Fin 4096) (j : Fin 1024) : (V m c main_v69 : FVec Ideal S4096x1024 .bf16) (ix2 i j) = (K m c).z i j := by
  rw [Entry.v69, V_main_arg5]
  pointwise
  rfl
theorem V_v (q : Fin 2) (j : Fin 6) (k : Fin 1024) : (V m c main_v7 : FVec Ideal S2x8x1024 .f32) (ix3 q ⟨j.val, by omega⟩ k) = (K m c).v (256 * q.val) j k := by
  rw [Entry.v7, Entry.v6, Entry.v5, Entry.v4, Entry.v3, Entry.v2, Entry.v1, Entry.v0, Entry.cst, V_main_arg1, V_main_arg2]
  pointwise
  have e : (⟨j.val * 1024 + k.val, by omega⟩ : Fin 6144) = ⟨1024 * j.val + k.val, by omega⟩ := Fin.ext (by simp only; omega)
  unfold K args
  by_cases h : q.val < 1
  · rw [dif_pos h]; exact (congrArg _ (congrArg ix1 e)).trans (if_pos (by omega)).symm
  · rw [dif_neg h]; exact (congrArg _ (congrArg ix1 e)).trans (if_neg (by omega)).symm
theorem V_v0 (j : Fin 6) (k : Fin 1024) : (V m c main_v7 : FVec Ideal S2x8x1024 .f32) (ix3 0 ⟨j.val, by omega⟩ k) = (K m c).v 0 j k :=
  V_v m c 0 j k
theorem scale_at0 (u : FVec Ideal S2x8x1024 .f32) (k : Fin 1024) : addf (broadcastInDim S1x1024 ![] bcast_S_S1x1024 (constant (F := Ideal) S_ .f32 0x3F800000#32))
    (extractStridedSlice S1x1024 ![4, 0] (shapeCast S8x1024 (extractStridedSlice S1x8x1024 ![0, 0, 0] u slices_S2x8x1024_S1x8x1024_0_0_0) shapeCasts_S1x8x1024_S8x1024) slices_S8x1024_S1x1024_4_0) (ix2 0 k) = 1 + u (ix3 0 ⟨(4 : Fin 6).val, by omega⟩ k) := by
  pointwise
theorem shift_at0 (u : FVec Ideal S2x8x1024 .f32) (k : Fin 1024) :
    extractStridedSlice S1x1024 ![3, 0] (shapeCast S8x1024 (extractStridedSlice S1x8x1024 ![0, 0, 0] u slices_S2x8x1024_S1x8x1024_0_0_0) shapeCasts_S1x8x1024_S8x1024) slices_S8x1024_S1x1024_3_0 (ix2 0 k) = u (ix3 0 ⟨(3 : Fin 6).val, by omega⟩ k) := by
  pointwise
theorem V_v1 (j : Fin 6) (k : Fin 1024) : (V m c main_v7 : FVec Ideal S2x8x1024 .f32) (ix3 1 ⟨j.val, by omega⟩ k) = (K m c).v 256 j k :=
  V_v m c 1 j k
theorem scale_at1 (u : FVec Ideal S2x8x1024 .f32) (k : Fin 1024) : addf (broadcastInDim S1x1024 ![] bcast_S_S1x1024 (constant (F := Ideal) S_ .f32 0x3F800000#32))
    (extractStridedSlice S1x1024 ![4, 0] (shapeCast S8x1024 (extractStridedSlice S1x8x1024 ![1, 0, 0] u slices_S2x8x1024_S1x8x1024_1_0_0) shapeCasts_S1x8x1024_S8x1024) slices_S8x1024_S1x1024_4_0) (ix2 0 k) = 1 + u (ix3 1 ⟨(4 : Fin 6).val, by omega⟩ k) := by
  pointwise
theorem shift_at1 (u : FVec Ideal S2x8x1024 .f32) (k : Fin 1024) :
    extractStridedSlice S1x1024 ![3, 0] (shapeCast S8x1024 (extractStridedSlice S1x8x1024 ![1, 0, 0] u slices_S2x8x1024_S1x8x1024_1_0_0) shapeCasts_S1x8x1024_S8x1024) slices_S8x1024_S1x1024_3_0 (ix2 0 k) = u (ix3 1 ⟨(3 : Fin 6).val, by omega⟩ k) := by
  pointwise
theorem V_r0 (r : Fin 256) : (V m c main_v19 : FVec Ideal S256x1 .f32) (ix2 r 0) = Ideal.rsqrt (ms ((K m c).x (r.val))) := by
  rw [K_x m c _ (by omega), Entry.v19, Entry.v18, Entry.v17, Entry.cst_2, Entry.v16, Entry.v15, Entry.cst_1, Entry.v14, Entry.v13, Entry.cst_0, Entry.v12, Entry.v8, V_main_arg0]
  generalize m (c.tc.loc main_arg0) = a
  pointwise
  rfl
theorem V_s0 (k : Fin 1024) : (V m c main_v26 : FVec Ideal S1x1024 .f32) (ix2 0 k) = 1 + (K m c).v 0 4 k := by
  rw [← V_v0 m c 4 k, Entry.v26, Entry.v25, Entry.cst_3, Entry.v24, Entry.v10, Entry.v9]
  exact scale_at0 _ k
theorem V_t0 (k : Fin 1024) : (V m c main_v29 : FVec Ideal S1x1024 .f32) (ix2 0 k) = (K m c).v 0 3 k := by
  rw [← V_v0 m c 3 k, Entry.v29, Entry.v10, Entry.v9]
  exact shift_at0 _ k
theorem V_h0 (r : Fin 256) (k : Fin 1024) : (V m c main_v31 : FVec Ideal S256x1024 .f32) (ix2 r k) = (K m c).h (r.val) k := by
  have hr := V_r0 m c r
  have hs := V_s0 m c k
  have ht := V_t0 m c k
  have hx := congrFun (K_x m c (r.val) (by omega)) k
  unfold Args.h head normed unit
  rw [K_v m c (r.val) 0 (by omega), ← hr, ← hs, ← ht, hx, Entry.v31, Entry.v30, Entry.v28, Entry.v27, Entry.v23, Entry.v22, Entry.v21, Entry.v20, Entry.v11, Entry.v8, V_main_arg0, V_main_arg3]
  generalize V m c main_v19 = u1
  generalize V m c main_v26 = u2
  generalize V m c main_v29 = u3
  pointwise
  rfl
theorem V_r1 (r : Fin 8192) : (V m c main_v48 : FVec Ideal S8192x1 .f32) (ix2 r 0) = Ideal.rsqrt (ms ((K m c).x (256 + r.val))) := by
  rw [K_x m c _ (by omega), Entry.v48, Entry.v47, Entry.v46, Entry.cst_7, Entry.v45, Entry.v44, Entry.cst_6, Entry.v43, Entry.v42, Entry.cst_5, Entry.v41, Entry.v37, V_main_arg0]
  generalize m (c.tc.loc main_arg0) = a
  pointwise
  rfl
theorem V_s1 (k : Fin 1024) : (V m c main_v55 : FVec Ideal S1x1024 .f32) (ix2 0 k) = 1 + (K m c).v 256 4 k := by
  rw [← V_v1 m c 4 k, Entry.v55, Entry.v54, Entry.cst_8, Entry.v53, Entry.v39, Entry.v38]
  exact scale_at1 _ k
theorem V_t1 (k : Fin 1024) : (V m c main_v58 : FVec Ideal S1x1024 .f32) (ix2 0 k) = (K m c).v 256 3 k := by
  rw [← V_v1 m c 3 k, Entry.v58, Entry.v39, Entry.v38]
  exact shift_at1 _ k
theorem V_h1 (r : Fin 8192) (k : Fin 1024) : (V m c main_v60 : FVec Ideal S8192x1024 .f32) (ix2 r k) = (K m c).h (256 + r.val) k := by
  have hr := V_r1 m c r
  have hs := V_s1 m c k
  have ht := V_t1 m c k
  have hx := congrFun (K_x m c (256 + r.val) (by omega)) k
  unfold Args.h head normed unit
  rw [K_v m c (256 + r.val) 256 (by omega), ← hr, ← hs, ← ht, hx, Entry.v60, Entry.v59, Entry.v57, Entry.v56, Entry.v52, Entry.v51, Entry.v50, Entry.v49, Entry.v40, Entry.v37, V_main_arg0, V_main_arg3]
  generalize V m c main_v48 = u1
  generalize V m c main_v55 = u2
  generalize V m c main_v58 = u3
  pointwise
  rfl
theorem V_f (i : Fin 8448) (k : Fin 1024) : (V m c main_v66 : FVec Ideal S8448x1024 .f32) (ix2 i k) = (K m c).f i.val k := by
  have e0 : (V m c main_v31 : FVec Ideal S256x1024 .f32) = fun y => (K m c).h (y 0).val (y 1) := funext fun y =>
    (congrArg (V m c main_v31 : FVec Ideal S256x1024 .f32) (show y = ix2 (y 0) (y 1) from funext fun k => by fin_cases k <;> rfl)).trans (V_h0 m c _ _)
  have e1 : (V m c main_v60 : FVec Ideal S8192x1024 .f32) = fun y => (K m c).h (256 + (y 0).val) (y 1) := funext fun y =>
    (congrArg (V m c main_v60 : FVec Ideal S8192x1024 .f32) (show y = ix2 (y 0) (y 1) from funext fun k => by fin_cases k <;> rfl)).trans (V_h1 m c _ _)
  rw [Entry.v66, Entry.v65, Entry.v64, Entry.v63, Entry.v62, Entry.cst_9, Entry.v61, Entry.v36, Entry.v35, Entry.v34, Entry.v33, Entry.cst_4, Entry.v32, V_main_arg4, V_main_arg5, e0, e1]
  have hf : ∀ i, (K m c).f i k = ∑ j, hid ((K m c).h i) (mat (m (c.tc.loc main_arg4) : FVec Ideal S1024x4096 .f32)) j
    * hid ((K m c).h i) (mat (m (c.tc.loc main_arg4) : FVec Ideal S1024x4096 .f32)) j * mat (m (c.tc.loc main_arg5) : FVec Ideal S4096x1024 .f32) j k := fun i => rfl
  have key : (K m c).f i.val k = if _ : i.val < 256 then (K m c).f i.val k else (K m c).f (256 + (i.val - 256)) k := by
    by_cases h : i.val < 256
    · rw [dif_pos h]
    · rw [dif_neg h]; exact congrArg (fun i => (K m c).f i k) (by omega)
  rw [key, hf, hf]
  generalize (K m c).h = H
  pointwise
  rfl

end Cert.Ffn

end
-- ==== Proof.FfnArr.lean ====
/- # The feed-forward block's gradient: what the kernel leaves

The blocks each point loads, and from them what the seven result arrays hold at the end.
-/
module

public import proofs.«01_k».proof.Proof.FfnValue
public import proofs.«01_k».proof.Proof.LossClaim

@[expose] public section

set_option maxRecDepth 16384

noncomputable section

namespace Cert.Ffn

open Idealize.ShloMosaic Idealize.ShloMosaic.TcCoe Idealize.SL.Sem
open Cert.FfnBwdIdeal Cert.FfnBwdIdeal.Gen

variable (m : (ℓ : Loc nD τ sig) → Buf (Elt Ideal) ℓ) (c : Dev nD)

theorem idx : ∀ t : Fin cfg0.N, win0_0.index t = ![t.val, 0] ∧ win0_1.index t = ![min t.val 1, 0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![min t.val 1, 0, 0] ∧ win0_9.index t = ![0, 0] ∧ win0_10.index t = ![t.val, 0]
    ∧ win0_11.index t = ![0, t.val] ∧ win0_12.index t = ![0, t.val] ∧ win0_13.index t = ![t.val, 0] := (by decide +kernel : ∀ t : Fin grid0.N, _)
theorem tlt (t : Fin cfg0.N) : t.val < 33 := Nat.lt_of_lt_of_eq t.isLt N_0

/-! ## The blocks a point loads -/

theorem blk_x (t : Fin cfg0.N) (r : Fin 256) : brow (iblk m c 0 t) r = (K m c).x (256 * t.val + r.val) := by
  have := tlt t
  rw [K_x m c _ (by omega)]
  funext k
  have e : iblk m c 0 t (ix2 r k) = (V m c main_arg0 : FVec Ideal S8448x1024 .f32) (((cfg0.win 0).blk t).view.emb (ix2 r k)) := rfl
  unfold brow
  rw [e, V_main_arg0]
  refine congrArg _ (funext fun k => Fin.ext ?_)
  fin_cases k <;> blk_simp [idx t] <;> first | rfl | (show _ = _ ; simp only [ix2]; omega)
theorem blk_d (t : Fin cfg0.N) (r : Fin 256) : brow (iblk m c 5 t) r = (K m c).d (256 * t.val + r.val) := by
  have := tlt t
  rw [K_d m c _ (by omega)]
  funext k
  have e : iblk m c 5 t (ix2 r k) = (V m c main_arg6 : FVec Ideal S8448x1024 .f32) (((cfg0.win 5).blk t).view.emb (ix2 r k)) := rfl
  unfold brow
  rw [e, V_main_arg6]
  refine congrArg _ (funext fun k => Fin.ext ?_)
  fin_cases k <;> blk_simp [idx t] <;> first | rfl | (show _ = _ ; simp only [ix2]; omega)
theorem blk_f (t : Fin cfg0.N) (r : Fin 256) : brow (iblk m c 6 t) r = (K m c).f (256 * t.val + r.val) := by
  have := tlt t
  funext k
  have e : iblk m c 6 t (ix2 r k) = (V m c main_v66 : FVec Ideal S8448x1024 .f32) (((cfg0.win 6).blk t).view.emb (ix2 r k)) := rfl
  have e' : ((cfg0.win 6).blk t).view.emb (ix2 r k) = ix2 ⟨256 * t.val + r.val, by omega⟩ k := funext fun k => Fin.ext (by
    fin_cases k <;> blk_simp [idx t] <;> first | rfl | (show _ = _ ; simp only [ix2]; omega))
  unfold brow
  rw [e, e', V_f]
theorem blk_n (t : Fin cfg0.N) : wrow (iblk m c 2 t) = (K m c).n := by
  funext k
  have e : iblk m c 2 t (ix2 0 k) = (V m c main_v67 : FVec Ideal S1x1024 .f32) (((cfg0.win 2).blk t).view.emb (ix2 0 k)) := rfl
  have e' : ((cfg0.win 2).blk t).view.emb (ix2 0 k) = ix2 0 k := funext fun k => Fin.ext (by fin_cases k <;> blk_simp [idx t] <;> rfl)
  unfold wrow
  rw [e, e', V_n]
theorem blk_w (t : Fin cfg0.N) : mat (iblk m c 3 t : Vec Ideal S1024x4096 .bf16) = (K m c).w := by
  funext i j
  have e : iblk m c 3 t (ix2 i j) = (V m c main_v68 : FVec Ideal S1024x4096 .bf16) (((cfg0.win 3).blk t).view.emb (ix2 i j)) := rfl
  have e' : ((cfg0.win 3).blk t).view.emb (ix2 i j) = ix2 i j := funext fun k => Fin.ext (by
    fin_cases k <;> blk_simp [idx t] <;> first | rfl | (show _ = _ ; simp only [ix2]; omega))
  unfold mat
  rw [e, e', V_w]
theorem blk_z (t : Fin cfg0.N) : mat (iblk m c 4 t : Vec Ideal S4096x1024 .bf16) = (K m c).z := by
  funext i j
  have e : iblk m c 4 t (ix2 i j) = (V m c main_v69 : FVec Ideal S4096x1024 .bf16) (((cfg0.win 4).blk t).view.emb (ix2 i j)) := rfl
  have e' : ((cfg0.win 4).blk t).view.emb (ix2 i j) = ix2 i j := funext fun k => Fin.ext (by
    fin_cases k <;> blk_simp [idx t] <;> first | rfl | (show _ = _ ; simp only [ix2]; omega))
  unfold mat
  rw [e, e', V_z]
theorem blk_v (t : Fin cfg0.N) (r : Fin 256) (j : Fin 6) : mrow (iblk m c 1 t) ⟨j.val, by omega⟩ = (K m c).v (256 * t.val + r.val) j := by
  funext k
  have e : iblk m c 1 t (ix3 0 ⟨j.val, by omega⟩ k) = (V m c main_v7 : FVec Ideal S2x8x1024 .f32) (((cfg0.win 1).blk t).view.emb (ix3 0 ⟨j.val, by omega⟩ k)) := rfl
  have e' : ((cfg0.win 1).blk t).view.emb (ix3 0 ⟨j.val, by omega⟩ k) = ix3 ⟨min t.val 1, by omega⟩ ⟨j.val, by omega⟩ k := funext fun k => Fin.ext (by
    fin_cases k <;> blk_simp [idx t] <;> first | rfl | (show _ = _ ; simp only [ix3]; omega))
  unfold mrow
  rw [e, e', V_v, K_v m c (256 * t.val + r.val) (256 * min t.val 1) (by omega)]

/-! ## What a point computes, by rows -/

theorem row_h (t : Fin cfg0.N) (r : Fin 256) : bhead (iblk m c 0 t) (iblk m c 1 t) (iblk m c 2 t) r = (K m c).h (256 * t.val + r.val) := by
  have e3 := blk_v m c t r 3
  have e4 := blk_v m c t r 4
  unfold bhead Args.h
  rw [← e3, ← e4, blk_x, blk_n]
  rfl
theorem row_e (t : Fin cfg0.N) (r : Fin 256) : bgate (iblk m c 1 t) (iblk m c 5 t) r = (K m c).e (256 * t.val + r.val) := by
  have e5 := blk_v m c t r 5
  unfold bgate Args.e
  rw [← e5, blk_d]
  rfl
theorem row_u (t : Fin cfg0.N) (r : Fin 256) :
    bback (iblk m c 0 t) (iblk m c 1 t) (iblk m c 2 t) (iblk m c 3 t) (iblk m c 4 t) (iblk m c 5 t) r = (K m c).u (256 * t.val + r.val) := by
  unfold bback Args.u
  rw [row_h, row_e, blk_w, blk_z]
theorem row_mod (t : Fin cfg0.N) (j : ℕ) (k : Fin 1024) :
    bmod (iblk m c 0 t) (iblk m c 1 t) (iblk m c 2 t) (iblk m c 3 t) (iblk m c 4 t) (iblk m c 5 t) (iblk m c 6 t) j k
      = ∑ r : Fin 256, (K m c).dm (256 * t.val + r.val) j k := by
  unfold bmod Args.dm
  simp only [row_u, blk_x, blk_n, blk_d, blk_f]
  by_cases h3 : j = 3
  · simp only [if_pos h3]
  by_cases h4 : j = 4
  · simp only [if_neg h3, if_pos h4]
  by_cases h5 : j = 5
  · simp only [if_neg h3, if_neg h4, if_pos h5]
  · simp only [if_neg h3, if_neg h4, if_neg h5, Finset.sum_const_zero]
theorem row_norm (t : Fin cfg0.N) (y : S1x1024.Idx) :
    normOut (iblk m c 0 t) (iblk m c 1 t) (iblk m c 2 t) (iblk m c 3 t) (iblk m c 4 t) (iblk m c 5 t) y
      = ∑ r : Fin 256, (K m c).dn (256 * t.val + r.val) (y 1) := by
  rw [norm_out]
  refine Finset.sum_congr rfl fun r _ => ?_
  have e4 := blk_v m c t r 4
  unfold Args.dn
  rw [← e4, row_u, blk_x]
  rfl

theorem row_dx (t : Fin cfg0.N) (r : Fin 256) (k : Fin 1024) : rowed (brow (iblk m c 0 t) r) (wrow (iblk m c 2 t)) (mrow (iblk m c 1 t) 4)
    (bback (iblk m c 0 t) (iblk m c 1 t) (iblk m c 2 t) (iblk m c 3 t) (iblk m c 4 t) (iblk m c 5 t) r) (brow (iblk m c 5 t) r) k
    = (K m c).dx (256 * t.val + r.val) k := by
  have e4 := blk_v m c t r 4
  unfold Args.dx
  rw [← e4, row_u, blk_x, blk_n, blk_d]
  rfl
theorem row_p (t : Fin cfg0.N) (r : Fin 256) (j : Fin 4096) :
    pre_ (bhead (iblk m c 0 t) (iblk m c 1 t) (iblk m c 2 t) r) (bgate (iblk m c 1 t) (iblk m c 5 t) r)
      (mat (iblk m c 3 t : Vec Ideal S1024x4096 .bf16)) (mat (iblk m c 4 t : Vec Ideal S4096x1024 .bf16)) j = (K m c).p (256 * t.val + r.val) j := by
  rw [row_h, row_e, blk_w, blk_z]
  rfl
theorem row_a (t : Fin cfg0.N) (r : Fin 256) (j : Fin 4096) :
    hid (bhead (iblk m c 0 t) (iblk m c 1 t) (iblk m c 2 t) r) (mat (iblk m c 3 t : Vec Ideal S1024x4096 .bf16)) j
      = (K m c).a (256 * t.val + r.val) j := by
  rw [row_h, blk_w]
  rfl

/-! ## The two sums -/

theorem mods_first (h : 0 < cfg0.N) (y : S1x8x1024.Idx) : mods m c 0 h y = ∑ r : Fin 256, (K m c).dm r.val (y 1).val (y 2) := by
  refine (congrFun (mods_start m c ⟨0, h⟩ (by simp)) y).trans ((mod_out _ _ _ _ _ _ _ y).trans ((row_mod m c ⟨0, h⟩ _ _).trans ?_))
  simp only [Nat.mul_zero, Nat.zero_add]
theorem mods_sum (n : ℕ) : ∀ (h : n + 1 < cfg0.N) (y : S1x8x1024.Idx), mods m c (n + 1) h y
    = ∑ s ∈ Finset.range (n + 1), ∑ r : Fin 256, (K m c).dm (256 + (256 * s + r.val)) (y 1).val (y 2) := by
  have at_ : ∀ (h : n + 1 < cfg0.N) (j : ℕ) (k : Fin 1024), ∑ r : Fin 256, (K m c).dm (256 * (n + 1) + r.val) j k
      = ∑ r : Fin 256, (K m c).dm (256 + (256 * n + r.val)) j k := fun h j k =>
    Finset.sum_congr rfl fun r _ => congrArg (fun i => (K m c).dm i j k) (by omega)
  induction n with
  | zero =>
    intro h y
    refine (congrFun (mods_start m c ⟨1, h⟩ (by simp)) y).trans ((mod_out _ _ _ _ _ _ _ y).trans ((row_mod m c ⟨1, h⟩ _ _).trans ?_))
    rw [Finset.sum_range_one]
    exact at_ h _ _
  | succ n ih =>
    intro h y
    refine (congrFun (mods_go m c ⟨n + 2, h⟩ (by simp)) y).trans ((mod_step _ _ _ _ _ _ _ _ y).trans ?_)
    rw [Finset.sum_range_succ]
    exact congr (congrArg _ (ih (fun h j k => Finset.sum_congr rfl fun r _ => congrArg (fun i => (K m c).dm i j k) (by omega)) (Nat.lt_of_succ_lt h) y))
      ((row_mod m c ⟨n + 2, h⟩ _ _).trans (at_ h _ _))
theorem norms_sum (n : ℕ) : ∀ (h : n < cfg0.N) (y : S1x1024.Idx), norms m c n h y
    = ∑ s ∈ Finset.range (n + 1), ∑ r : Fin 256, (K m c).dn (256 * s + r.val) (y 1) := by
  induction n with
  | zero =>
    intro h y
    refine (congrFun (norms_start m c ⟨0, h⟩ rfl) y).trans ((row_norm m c ⟨0, h⟩ y).trans ?_)
    rw [Finset.sum_range_one]
  | succ n ih =>
    intro h y
    refine (congrFun (norms_go m c ⟨n + 1, h⟩ (by simp)) y).trans ((norm_step _ _ _ _ _ _ _ y).trans ?_)
    rw [Finset.sum_range_succ]
    exact congr (congrArg _ (ih (Nat.lt_of_succ_lt h) y)) (row_norm m c ⟨n + 1, h⟩ y)

/-! ## The seven results -/

theorem last : ∀ t : Fin cfg0.N, ((cfg0.win 8).flush t = true → t.val = 0 ∨ t.val = 32) ∧ ((cfg0.win 9).flush t = true → t.val = 32) :=
  (by decide +kernel : ∀ t : Fin grid0.N, _)

theorem final_dx : (dats m 0 c).arrAt 7 (cfgs 0).N = fun y => (K m c).dx (y 0).val (y 1) := by
  refine (dats m 0 c).arrAt_eq_of_covers 7 _ (by decide +kernel) fun t hf y => ?_
  have e : ∀ z, (dats m 0 c).after 7 t z = (K m c).dx (256 * t.val + (z 0).val) (z 1) := by
    intro z
    rw [after_7, rows_out]
    exact row_dx m c t (z 0) (z 1)
  blk_simp
  rw [e]
  have core : ∀ (i i' : ℕ) (k k' : Fin 1024), i = i' → k = k' → (K m c).dx i k = (K m c).dx i' k' := by
    rintro i _ k _ rfl rfl; rfl
  refine core _ _ _ _ ?_ (Fin.ext ?_) <;> blk_simp [idx t] <;> first | rfl | (show _ = _ ; simp only [ix2]; omega)
theorem final_dm : (dats m 0 c).arrAt 8 (cfgs 0).N = fun y : S2x8x1024.Idx => (K m c).mods (y 0).val (y 1).val (y 2) := by
  refine (dats m 0 c).arrAt_eq_of_covers 8 _ (by decide +kernel) fun t hf y => ?_
  have e : ∀ z, (dats m 0 c).after 8 t z = (K m c).mods (min t.val 1) (z 1).val (z 2) := by
    intro z
    rw [after_8]
    obtain ⟨n, hn⟩ := t
    rcases (last ⟨n, hn⟩).1 hf with h | h <;> obtain rfl : n = _ := h
    · exact (mods_first m c hn z).trans ((Finset.sum_range (fun r => (K m c).dm r (z 1).val (z 2))).symm.trans (if_pos rfl).symm)
    · exact (mods_sum m c 31 hn z).trans ((Cert.Loss.by_blocks (fun i => (K m c).dm (256 + i) (z 1).val (z 2)) 32).trans (if_neg (by simp)).symm)
  blk_simp
  rw [e]
  have core : ∀ (q q' i i' : ℕ) (k k' : Fin 1024), q = q' → i = i' → k = k' → (K m c).mods q i k = (K m c).mods q' i' k' := by
    rintro q _ i _ k _ rfl rfl rfl; rfl
  refine core _ _ _ _ _ _ ?_ ?_ (Fin.ext ?_) <;> blk_simp [idx t] <;> first | rfl | (show _ = _ ; simp only [ix3]; omega)
theorem final_dn : (dats m 0 c).arrAt 9 (cfgs 0).N = fun y => (K m c).norms (y 1) := by
  refine (dats m 0 c).arrAt_eq_of_covers 9 _ (by decide +kernel) fun t hf y => ?_
  have e : ∀ z, (dats m 0 c).after 9 t z = (K m c).norms (z 1) := by
    intro z
    rw [after_9, norms_sum, (last t).2 hf]
    exact Cert.Loss.by_blocks (fun i => (K m c).dn i (z 1)) 33
  blk_simp
  rw [e]
  have core : ∀ k k' : Fin 1024, k = k' → (K m c).norms k = (K m c).norms k' := by
    rintro k _ rfl; rfl
  refine core _ _ (Fin.ext ?_) <;> blk_simp [idx t] <;> rfl
theorem final_dp : (dats m 0 c).arrAt 10 (cfgs 0).N = fun y => (K m c).p (y 0).val (y 1) := by
  refine (dats m 0 c).arrAt_eq_of_covers 10 _ (by decide +kernel) fun t hf y => ?_
  have e : ∀ z, (dats m 0 c).after 10 t z = (K m c).p (256 * t.val + (z 0).val) (z 1) := by
    intro z
    rw [after_10, pre_out]
    exact row_p m c t (z 0) (z 1)
  blk_simp
  rw [e]
  have core : ∀ (i i' : ℕ) (k k' : Fin 4096), i = i' → k = k' → (K m c).p i k = (K m c).p i' k' := by
    rintro i _ k _ rfl rfl; rfl
  refine core _ _ _ _ ?_ (Fin.ext ?_) <;> blk_simp [idx t] <;> first | rfl | (show _ = _ ; simp only [ix2]; omega)
theorem final_de : (dats m 0 c).arrAt 11 (cfgs 0).N = fun y => (K m c).e (y 1).val (y 0) := by
  refine (dats m 0 c).arrAt_eq_of_covers 11 _ (by decide +kernel) fun t hf y => ?_
  have e : ∀ z, (dats m 0 c).after 11 t z = (K m c).e (256 * t.val + (z 1).val) (z 0) := by
    intro z
    rw [after_11, gate_out]
    exact congrFun (row_e m c t (z 1)) (z 0)
  blk_simp
  rw [e]
  have core : ∀ (i i' : ℕ) (k k' : Fin 1024), i = i' → k = k' → (K m c).e i k = (K m c).e i' k' := by
    rintro i _ k _ rfl rfl; rfl
  refine core _ _ _ _ ?_ (Fin.ext ?_) <;> blk_simp [idx t] <;> first | rfl | (show _ = _ ; simp only [ix2]; omega)
theorem final_h : (dats m 0 c).arrAt 12 (cfgs 0).N = fun y => (K m c).h (y 1).val (y 0) := by
  refine (dats m 0 c).arrAt_eq_of_covers 12 _ (by decide +kernel) fun t hf y => ?_
  have e : ∀ z, (dats m 0 c).after 12 t z = (K m c).h (256 * t.val + (z 1).val) (z 0) := by
    intro z
    rw [after_12, head_out]
    exact congrFun (row_h m c t (z 1)) (z 0)
  blk_simp
  rw [e]
  have core : ∀ (i i' : ℕ) (k k' : Fin 1024), i = i' → k = k' → (K m c).h i k = (K m c).h i' k' := by
    rintro i _ k _ rfl rfl; rfl
  refine core _ _ _ _ ?_ (Fin.ext ?_) <;> blk_simp [idx t] <;> first | rfl | (show _ = _ ; simp only [ix2]; omega)
theorem final_a : (dats m 0 c).arrAt 13 (cfgs 0).N = fun y => (K m c).a (y 0).val (y 1) * (K m c).a (y 0).val (y 1) := by
  refine (dats m 0 c).arrAt_eq_of_covers 13 _ (by decide +kernel) fun t hf y => ?_
  have e : ∀ z, (dats m 0 c).after 13 t z = (K m c).a (256 * t.val + (z 0).val) (z 1) * (K m c).a (256 * t.val + (z 0).val) (z 1) := by
    intro z
    rw [after_13, act_out]
    exact congr (congrArg _ (row_a m c t (z 0) (z 1))) (row_a m c t (z 0) (z 1))
  blk_simp
  rw [e]
  have core : ∀ (i i' : ℕ) (k k' : Fin 4096), i = i' → k = k' → (K m c).a i k * (K m c).a i k = (K m c).a i' k' * (K m c).a i' k' := by
    rintro i _ k _ rfl rfl; rfl
  refine core _ _ _ _ ?_ (Fin.ext ?_) <;> blk_simp [idx t] <;> first | rfl | (show _ = _ ; simp only [ix2]; omega)

end Cert.Ffn

end
-- ==== Proof.FfnRef.lean ====
/- # The feed-forward block's gradient: the reference's values

The reference's lines read one after the other, over any arguments' arrays, by the same functions of rows as the kernel's blocks. The context's rows
are the first 256, and the tokens' own the 8192 after them.
-/
module

public import proofs.«01_k».proof.Proof.FfnRow
public import proofs.«01_k».proof.Proof.LossClaim
public import proofs.«01_k».proof.Proof.Gen.FfnBwdReferenceIdeal.Read

@[expose] public section

set_option maxRecDepth 16384

noncomputable section

namespace Cert.Ffn

open Idealize.ShloMosaic Idealize.SL.Sem

/-- The derivative of a squared relu, twice the relu, for every extended real. -/
theorem relu_sq (b d : EReal) : (if 0 < b then max b 0 * d + d * max b 0 else 0) = d * (Ideal.ofBits .f32 0x40000000#32 * max b 0) := by
  by_cases h : 0 < b
  · have e : Ideal.ofBits .f32 0x40000000#32 = (1 : EReal) + 1 := by
      rw [Cert.Loss.two, ← EReal.coe_one, ← EReal.coe_add]
      exact congrArg _ (by norm_num)
    rw [if_pos h, e, EReal.right_distrib_of_nonneg zero_le_one zero_le_one, one_mul, mul_comm (max b 0) d,
      EReal.left_distrib_of_nonneg (le_max_right _ _) (le_max_right _ _)]
  · rw [if_neg h, max_eq_right (not_lt.mp h), mul_zero, mul_zero]

section
open StableHlo Cert.FfnBwdReferenceIdeal Cert.FfnBwdReferenceIdeal.Gen Cert.FfnBwdReferenceIdeal.Read
variable (a0 : FVec Ideal S8448x1024 .f32) (a1 a2 : FVec Ideal S6144 .f32) (a3 : FVec Ideal S1024 .f32) (a4 : FVec Ideal S1024x4096 .f32)
  (a5 : FVec Ideal S4096x1024 .f32) (a6 : FVec Ideal S8448x1024 .f32)

/-! ## The arguments' rows -/

theorem arg_x (r : Fin 8448) : (args a0 a1 a2 a3 a4 a5 a6).x r.val = fun k => a0 (ix2 r k) := funext fun _ => dif_pos r.isLt
theorem arg_d (r : Fin 8448) : (args a0 a1 a2 a3 a4 a5 a6).d r.val = fun k => a6 (ix2 r k) := funext fun _ => dif_pos r.isLt
theorem arg_c (r : Fin 256) (j : Fin 6) : (args a0 a1 a2 a3 a4 a5 a6).v r.val j = fun k => a1 (ix1 ⟨1024 * j.val + k.val, by omega⟩) :=
  funext fun _ => if_pos r.isLt
theorem arg_o (r : Fin 8192) (j : Fin 6) : (args a0 a1 a2 a3 a4 a5 a6).v (256 + r.val) j = fun k => a2 (ix1 ⟨1024 * j.val + k.val, by omega⟩) :=
  funext fun _ => if_neg (by omega)
theorem arg_x_c (r : Fin 256) : (args a0 a1 a2 a3 a4 a5 a6).x r.val = fun k => a0 (ix2 ⟨r.val, by omega⟩ k) := arg_x a0 a1 a2 a3 a4 a5 a6 ⟨r.val, by omega⟩
theorem arg_x_o (r : Fin 8192) : (args a0 a1 a2 a3 a4 a5 a6).x (256 + r.val) = fun k => a0 (ix2 ⟨256 + r.val, by omega⟩ k) :=
  arg_x a0 a1 a2 a3 a4 a5 a6 ⟨256 + r.val, by omega⟩
theorem arg_d_c (r : Fin 256) : (args a0 a1 a2 a3 a4 a5 a6).d r.val = fun k => a6 (ix2 ⟨r.val, by omega⟩ k) := arg_d a0 a1 a2 a3 a4 a5 a6 ⟨r.val, by omega⟩
theorem arg_d_o (r : Fin 8192) : (args a0 a1 a2 a3 a4 a5 a6).d (256 + r.val) = fun k => a6 (ix2 ⟨256 + r.val, by omega⟩ k) :=
  arg_d a0 a1 a2 a3 a4 a5 a6 ⟨256 + r.val, by omega⟩

/-! ## The forward's lines -/

/-- The normed rows and the modulated ones, the context's. -/
theorem ref_rs_c (r : Fin 256) : val_main_v22 (F := Ideal) a0 (ix2 r 0) = Ideal.rsqrt (ms ((args a0 a1 a2 a3 a4 a5 a6).x r.val)) := by
  rw [arg_x_c]
  pointwise [val_main_v22, val_main_v21, val_main_v20, val_main_cst_3, val_main_v19, val_main_v18, val_main_cst_2, val_main_v17, val_main_v16, val_main_cst_1, val_main_v15, val_main_v14]
  rfl
theorem ref_unit_c (r : Fin 256) (k : Fin 1024) : val_main_v27 (F := Ideal) a0 (ix2 r k) = unit ((args a0 a1 a2 a3 a4 a5 a6).x r.val) k := by
  rw [arg_x_c]
  pointwise [val_main_v27, val_main_v26, val_main_v22, val_main_v21, val_main_v20, val_main_cst_3, val_main_v19, val_main_v18, val_main_cst_2, val_main_v17, val_main_v16, val_main_cst_1, val_main_v15, val_main_v14]
  rfl
theorem ref_normed_c (r : Fin 256) (k : Fin 1024) : val_main_v30 (F := Ideal) a0 a3 (ix2 r k) = normed ((args a0 a1 a2 a3 a4 a5 a6).x r.val) (args a0 a1 a2 a3 a4 a5 a6).n k := by
  rw [arg_x_c]
  pointwise [val_main_v30, val_main_v29, val_main_v28, val_main_v27, val_main_v26, val_main_v22, val_main_v21, val_main_v20, val_main_cst_3, val_main_v19, val_main_v18, val_main_cst_2, val_main_v17, val_main_v16, val_main_cst_1, val_main_v15, val_main_v14]
  rfl
theorem ref_head_c (r : Fin 256) (k : Fin 1024) : val_main_v38 (F := Ideal) a0 a1 a3 (ix2 r k) = (args a0 a1 a2 a3 a4 a5 a6).h r.val k := by
  unfold Args.h
  rw [arg_x_c, arg_c, arg_c]
  pointwise [val_main_v38, val_main_v37, val_main_v36, val_main_v35, val_main_v34, val_main_v33, val_main_v32, val_main_v31, val_main_cst_5, val_main_v30, val_main_v29, val_main_v28, val_main_v27, val_main_v26, val_main_v22, val_main_v21, val_main_v20, val_main_cst_3, val_main_v19, val_main_v18, val_main_cst_2, val_main_v17, val_main_v16, val_main_cst_1, val_main_v15, val_main_v14, val_main_v6, val_main_v5]
  rfl
/-- The normed rows and the modulated ones, the tokens' own. -/
theorem ref_rs_o (r : Fin 8192) : val_main_v47 (F := Ideal) a0 (ix2 r 0) = Ideal.rsqrt (ms ((args a0 a1 a2 a3 a4 a5 a6).x (256 + r.val))) := by
  rw [arg_x_o]
  pointwise [val_main_v47, val_main_v46, val_main_v45, val_main_cst_8, val_main_v44, val_main_v43, val_main_cst_7, val_main_v42, val_main_v41, val_main_cst_6, val_main_v40, val_main_v39]
  rfl
theorem ref_unit_o (r : Fin 8192) (k : Fin 1024) : val_main_v52 (F := Ideal) a0 (ix2 r k) = unit ((args a0 a1 a2 a3 a4 a5 a6).x (256 + r.val)) k := by
  rw [arg_x_o]
  pointwise [val_main_v52, val_main_v51, val_main_v47, val_main_v46, val_main_v45, val_main_cst_8, val_main_v44, val_main_v43, val_main_cst_7, val_main_v42, val_main_v41, val_main_cst_6, val_main_v40, val_main_v39]
  rfl
theorem ref_normed_o (r : Fin 8192) (k : Fin 1024) : val_main_v55 (F := Ideal) a0 a3 (ix2 r k) = normed ((args a0 a1 a2 a3 a4 a5 a6).x (256 + r.val)) (args a0 a1 a2 a3 a4 a5 a6).n k := by
  rw [arg_x_o]
  pointwise [val_main_v55, val_main_v54, val_main_v53, val_main_v52, val_main_v51, val_main_v47, val_main_v46, val_main_v45, val_main_cst_8, val_main_v44, val_main_v43, val_main_cst_7, val_main_v42, val_main_v41, val_main_cst_6, val_main_v40, val_main_v39]
  rfl
theorem ref_head_o (r : Fin 8192) (k : Fin 1024) : val_main_v63 (F := Ideal) a0 a2 a3 (ix2 r k) = (args a0 a1 a2 a3 a4 a5 a6).h (256 + r.val) k := by
  unfold Args.h
  rw [arg_x_o, arg_o, arg_o]
  pointwise [val_main_v63, val_main_v62, val_main_v61, val_main_v60, val_main_v59, val_main_v58, val_main_v57, val_main_v56, val_main_cst_10, val_main_v55, val_main_v54, val_main_v53, val_main_v52, val_main_v51, val_main_v47, val_main_v46, val_main_v45, val_main_cst_8, val_main_v44, val_main_v43, val_main_cst_7, val_main_v42, val_main_v41, val_main_cst_6, val_main_v40, val_main_v39, val_main_v12, val_main_v11]
  rfl
theorem ref_h (i : Fin 8448) (k : Fin 1024) : val_main_v64 (F := Ideal) a0 a1 a2 a3 (ix2 i k) = (args a0 a1 a2 a3 a4 a5 a6).h i.val k := by
  have key : (args a0 a1 a2 a3 a4 a5 a6).h i.val k = if h : i.val < 256 then val_main_v38 (F := Ideal) a0 a1 a3 (ix2 ⟨i.val, h⟩ k)
      else val_main_v63 (F := Ideal) a0 a2 a3 (ix2 ⟨i.val - 256, by omega⟩ k) := by
    by_cases h : i.val < 256
    · rw [dif_pos h, ref_head_c a0 a1 a2 a3 a4 a5 a6]
    · rw [dif_neg h, ref_head_o a0 a1 a2 a3 a4 a5 a6]
      exact congrArg (fun i => (args a0 a1 a2 a3 a4 a5 a6).h i k) (by simp only []; omega)
  rw [key]
  unfold val_main_v64
  generalize val_main_v38 (F := Ideal) a0 a1 a3 = p
  generalize val_main_v63 (F := Ideal) a0 a2 a3 = q
  pointwise
/-- The product before the activation. -/
theorem ref_pre (i : Fin 8448) (j : Fin 4096) : val_main_v66 (F := Ideal) a0 a1 a2 a3 a4 (ix2 i j) = ∑ k, (args a0 a1 a2 a3 a4 a5 a6).h i.val k * a4 (ix2 k j) := by
  have e := ref_h a0 a1 a2 a3 a4 a5 a6 i
  revert e
  unfold val_main_v66 val_main_v65
  generalize val_main_v64 (F := Ideal) a0 a1 a2 a3 = u
  intro e
  simp only [← e]
  pointwise [val_main_v0, val_main_cst]
/-- The activation. -/
theorem ref_a (i : Fin 8448) (j : Fin 4096) : val_main_v67 (F := Ideal) a0 a1 a2 a3 a4 (ix2 i j) = (args a0 a1 a2 a3 a4 a5 a6).a i.val j := by
  have e := ref_pre a0 a1 a2 a3 a4 a5 a6 i j
  unfold Args.a hid
  refine Eq.trans ?_ (congrArg (max · 0) e)
  unfold val_main_v67
  generalize val_main_v66 (F := Ideal) a0 a1 a2 a3 a4 = u
  pointwise [val_main_call0_v0, val_main_call0_cst]
/-- The forward's rows. -/
theorem ref_f (i : Fin 8448) (k : Fin 1024) : val_main_v73 (F := Ideal) a0 a1 a2 a3 a4 a5 (ix2 i k) = (args a0 a1 a2 a3 a4 a5 a6).f i.val k := by
  have e := ref_a a0 a1 a2 a3 a4 a5 a6 i
  unfold Args.f
  revert e
  unfold val_main_v73 val_main_v72 val_main_v71
  generalize val_main_v67 (F := Ideal) a0 a1 a2 a3 a4 = u
  intro e
  simp only [← e]
  pointwise [val_main_v1, val_main_cst_0]
  try rfl
theorem ref_sq (i : Fin 8448) (j : Fin 4096) : val_main_v87 (F := Ideal) a0 a1 a2 a3 a4 (ix2 i j) = (args a0 a1 a2 a3 a4 a5 a6).a i.val j * (args a0 a1 a2 a3 a4 a5 a6).a i.val j := by
  rw [← ref_a a0 a1 a2 a3 a4 a5 a6]
  rfl

/-! ## The gradient up to the modulated rows -/

theorem ref_e (i : Fin 8448) (k : Fin 1024) : val_main_v105 (F := Ideal) a1 a2 a6 (ix2 i k) = (args a0 a1 a2 a3 a4 a5 a6).e i.val k := by
  have key : (args a0 a1 a2 a3 a4 a5 a6).e i.val k = (if h : 256 ≤ i.val ∧ i.val - 256 < 8192 then a2 (ix1 ⟨5120 + k.val, by omega⟩) * a6 (ix2 ⟨256 + (i.val - 256), by omega⟩ k) else 0)
      + (if h : i.val < 256 then a1 (ix1 ⟨5120 + k.val, by omega⟩) * a6 (ix2 ⟨i.val, by omega⟩ k) else 0) := by
    unfold Args.e gated
    rw [arg_d]
    by_cases h : i.val < 256
    · rw [dif_neg (by omega), dif_pos h, zero_add, mul_comm]
      exact congrArg (· * _) (congrFun (arg_c a0 a1 a2 a3 a4 a5 a6 ⟨i.val, h⟩ 5) k)
    · rw [dif_pos (by omega), dif_neg h, add_zero, mul_comm]
      have ei : 256 + (i.val - 256) = i.val := by omega
      refine congr (congrArg _ ?_) (congrArg a6 (congrArg (ix2 · k) (Fin.ext ei.symm)))
      have := congrFun (arg_o a0 a1 a2 a3 a4 a5 a6 ⟨i.val - 256, by omega⟩ 5) k
      rw [ei] at this
      exact this
  refine Eq.trans ?_ key.symm
  pointwise [val_main_v105, val_main_v104, val_main_cst_19, val_main_v99, val_main_v98, val_main_v96, val_main_cst_15, val_main_v91, val_main_v90, val_main_v89, val_main_v88, val_main_v82, val_main_v76, val_main_v13, val_main_v7]
  try rfl
theorem ref_p (i : Fin 8448) (j : Fin 4096) : val_main_v113 (F := Ideal) a0 a1 a2 a3 a4 a5 a6 (ix2 i j) = (args a0 a1 a2 a3 a4 a5 a6).p i.val j := by
  have eb := ref_pre a0 a1 a2 a3 a4 a5 a6 i j
  have ee := ref_e a0 a1 a2 a3 a4 a5 a6 i
  unfold Args.p pre_ hid
  have key : (args a0 a1 a2 a3 a4 a5 a6).p i.val j = (∑ k, val_main_v105 (F := Ideal) a1 a2 a6 (ix2 i k) * a5 (ix2 j k))
      * (Ideal.ofBits .f32 0x40000000#32 * max (val_main_v66 (F := Ideal) a0 a1 a2 a3 a4 (ix2 i j)) 0) := by
    simp only [ee, eb]
    rfl
  refine Eq.trans ?_ key.symm
  rw [← relu_sq]
  unfold val_main_v113 val_main_v111 val_main_v110 val_main_v109 val_main_v108 val_main_v69 val_main_v67
  generalize val_main_v66 (F := Ideal) a0 a1 a2 a3 a4 = u
  generalize val_main_v105 (F := Ideal) a1 a2 a6 = e
  pointwise [val_main_call0_v0, val_main_call0_cst, val_main_v68, val_main_cst_11, val_main_v112, val_main_cst_21]
  try rfl
theorem ref_u (i : Fin 8448) (k : Fin 1024) : val_main_v114 (F := Ideal) a0 a1 a2 a3 a4 a5 a6 (ix2 i k) = (args a0 a1 a2 a3 a4 a5 a6).u i.val k := by
  have e := ref_p a0 a1 a2 a3 a4 a5 a6 i
  have key : (args a0 a1 a2 a3 a4 a5 a6).u i.val k = ∑ j, val_main_v113 (F := Ideal) a0 a1 a2 a3 a4 a5 a6 (ix2 i j) * a4 (ix2 k j) := by
    simp only [e]
    rfl
  rw [key]
  unfold val_main_v114
  generalize val_main_v113 (F := Ideal) a0 a1 a2 a3 a4 a5 a6 = u
  pointwise

/-! ## Sums over the rows -/

theorem total_c (u : FVec Ideal S256x1024 .f32) (k : Fin 1024) :
    Host.reduceAdd (shapeCast S1x1024 (Host.reduceAdd u (constant (F := Ideal) S_ .f32 0x00000000#32) reducesTo_S256x1024_S1024_d0 h_S_) shapeCasts_S1024_S1x1024)
      (constant (F := Ideal) S_ .f32 0x00000000#32) reducesTo_S1x1024_S1024_d0 h_S_ (ix1 k) = ∑ r : Fin 256, u (ix2 r k) := by
  pointwise
  try simp only [Finset.univ_unique, Finset.sum_singleton]
  try rfl
theorem total_o (u : FVec Ideal S8192x1024 .f32) (k : Fin 1024) :
    Host.reduceAdd (shapeCast S1x1024 (Host.reduceAdd u (constant (F := Ideal) S_ .f32 0x00000000#32) reducesTo_S8192x1024_S1024_d0 h_S_) shapeCasts_S1024_S1x1024)
      (constant (F := Ideal) S_ .f32 0x00000000#32) reducesTo_S1x1024_S1024_d0 h_S_ (ix1 k) = ∑ r : Fin 8192, u (ix2 r k) := by
  pointwise
  try simp only [Finset.univ_unique, Finset.sum_singleton]
  try rfl

/-! ## The gradients of the norm and of the modulation, by rows -/

theorem ref_u_c (r : Fin 256) (k : Fin 1024) : val_main_v115 (F := Ideal) a0 a1 a2 a3 a4 a5 a6 (ix2 r k) = (args a0 a1 a2 a3 a4 a5 a6).u r.val k := by
  refine Eq.trans ?_ (ref_u a0 a1 a2 a3 a4 a5 a6 ⟨r.val, by omega⟩ k)
  unfold val_main_v115
  generalize val_main_v114 (F := Ideal) a0 a1 a2 a3 a4 a5 a6 = u
  pointwise
theorem ref_df_c (r : Fin 256) (k : Fin 1024) : val_main_v100 (F := Ideal) a0 a1 a2 a3 a4 a5 a6 (ix2 r k) = (args a0 a1 a2 a3 a4 a5 a6).dm r.val 5 k := by
  have e : (args a0 a1 a2 a3 a4 a5 a6).dm r.val 5 k = a6 (ix2 ⟨r.val, by omega⟩ k) * val_main_v73 (F := Ideal) a0 a1 a2 a3 a4 a5 (ix2 ⟨r.val, by omega⟩ k) := by
    unfold Args.dm
    rw [if_neg (by decide), if_neg (by decide), if_pos rfl, arg_d_c, ref_f a0 a1 a2 a3 a4 a5 a6]
  rw [e]
  unfold val_main_v100 val_main_v75
  generalize val_main_v73 (F := Ideal) a0 a1 a2 a3 a4 a5 = u
  pointwise [val_main_v88]
theorem ref_nu_c (r : Fin 256) (k : Fin 1024) : val_main_v151 (F := Ideal) a0 a1 a2 a3 a4 a5 a6 (ix2 r k) = (args a0 a1 a2 a3 a4 a5 a6).dm r.val 4 k := by
  unfold Args.dm
  rw [if_neg (by decide), if_pos rfl, ← ref_normed_c, ← ref_u_c]
  rfl
theorem ref_scaled_c (r : Fin 256) (k : Fin 1024) : val_main_v155 (F := Ideal) a0 a1 a2 a3 a4 a5 a6 (ix2 r k) = scaled ((args a0 a1 a2 a3 a4 a5 a6).v r.val 4) ((args a0 a1 a2 a3 a4 a5 a6).u r.val) k := by
  unfold scaled
  rw [arg_c, ← ref_u_c]
  unfold val_main_v155
  generalize val_main_v115 (F := Ideal) a0 a1 a2 a3 a4 a5 a6 = u
  pointwise [val_main_v154, val_main_v33, val_main_v32, val_main_v31, val_main_cst_5, val_main_v6]
  try rfl
theorem ref_dn_c (r : Fin 256) (k : Fin 1024) : val_main_v157 (F := Ideal) a0 a1 a2 a3 a4 a5 a6 (ix2 r k) = (args a0 a1 a2 a3 a4 a5 a6).dn r.val k := by
  unfold Args.dn
  rw [← ref_unit_c, ← ref_scaled_c]
  rfl
theorem ref_weighed_c (r : Fin 256) (k : Fin 1024) : val_main_v161 (F := Ideal) a0 a1 a2 a3 a4 a5 a6 (ix2 r k)
    = weighed (args a0 a1 a2 a3 a4 a5 a6).n ((args a0 a1 a2 a3 a4 a5 a6).v r.val 4) ((args a0 a1 a2 a3 a4 a5 a6).u r.val) k := by
  unfold weighed
  rw [← ref_scaled_c]
  unfold val_main_v161
  generalize val_main_v155 (F := Ideal) a0 a1 a2 a3 a4 a5 a6 = u
  pointwise [val_main_v160, val_main_v28]
  try rfl
theorem ref_dx_c (r : Fin 256) (k : Fin 1024) : val_main_v177 (F := Ideal) a0 a1 a2 a3 a4 a5 a6 (ix2 r k)
    = weighed (args a0 a1 a2 a3 a4 a5 a6).n ((args a0 a1 a2 a3 a4 a5 a6).v r.val 4) ((args a0 a1 a2 a3 a4 a5 a6).u r.val) k * Ideal.rsqrt (ms ((args a0 a1 a2 a3 a4 a5 a6).x r.val))
      + (args a0 a1 a2 a3 a4 a5 a6).x r.val k * meaned ((args a0 a1 a2 a3 a4 a5 a6).x r.val) (args a0 a1 a2 a3 a4 a5 a6).n ((args a0 a1 a2 a3 a4 a5 a6).v r.val 4) ((args a0 a1 a2 a3 a4 a5 a6).u r.val)
      + meaned ((args a0 a1 a2 a3 a4 a5 a6).x r.val) (args a0 a1 a2 a3 a4 a5 a6).n ((args a0 a1 a2 a3 a4 a5 a6).v r.val 4) ((args a0 a1 a2 a3 a4 a5 a6).u r.val) * (args a0 a1 a2 a3 a4 a5 a6).x r.val k := by
  have e := ref_weighed_c a0 a1 a2 a3 a4 a5 a6 r
  unfold meaned
  simp only [← e]
  rw [arg_x_c]
  unfold val_main_v177 val_main_v176 val_main_v175 val_main_v174 val_main_v173 val_main_v172 val_main_v171 val_main_v169 val_main_v168 val_main_v166 val_main_v165 val_main_v164
  generalize val_main_v161 (F := Ideal) a0 a1 a2 a3 a4 a5 a6 = u
  pointwise [val_main_v170, val_main_cst_39, val_main_v25, val_main_v24, val_main_cst_4, val_main_v23, val_main_v22, val_main_v21, val_main_v20, val_main_cst_3, val_main_v19, val_main_v18, val_main_cst_2, val_main_v17, val_main_v16, val_main_cst_1, val_main_v15, val_main_v14, val_main_cst_39, val_main_cst_38, val_main_cst_40, val_main_v167]
  try simp only [Finset.univ_unique, Finset.sum_singleton]
  try rfl
theorem ref_u_o (r : Fin 8192) (k : Fin 1024) : val_main_v116 (F := Ideal) a0 a1 a2 a3 a4 a5 a6 (ix2 r k) = (args a0 a1 a2 a3 a4 a5 a6).u (256 + r.val) k := by
  refine Eq.trans ?_ (ref_u a0 a1 a2 a3 a4 a5 a6 ⟨256 + r.val, by omega⟩ k)
  unfold val_main_v116
  generalize val_main_v114 (F := Ideal) a0 a1 a2 a3 a4 a5 a6 = u
  pointwise
theorem ref_df_o (r : Fin 8192) (k : Fin 1024) : val_main_v92 (F := Ideal) a0 a1 a2 a3 a4 a5 a6 (ix2 r k) = (args a0 a1 a2 a3 a4 a5 a6).dm (256 + r.val) 5 k := by
  have e : (args a0 a1 a2 a3 a4 a5 a6).dm (256 + r.val) 5 k = a6 (ix2 ⟨256 + r.val, by omega⟩ k) * val_main_v73 (F := Ideal) a0 a1 a2 a3 a4 a5 (ix2 ⟨256 + r.val, by omega⟩ k) := by
    unfold Args.dm
    rw [if_neg (by decide), if_neg (by decide), if_pos rfl, arg_d_o, ref_f a0 a1 a2 a3 a4 a5 a6]
  rw [e]
  unfold val_main_v92 val_main_v81
  generalize val_main_v73 (F := Ideal) a0 a1 a2 a3 a4 a5 = u
  pointwise [val_main_v89]
theorem ref_nu_o (r : Fin 8192) (k : Fin 1024) : val_main_v120 (F := Ideal) a0 a1 a2 a3 a4 a5 a6 (ix2 r k) = (args a0 a1 a2 a3 a4 a5 a6).dm (256 + r.val) 4 k := by
  unfold Args.dm
  rw [if_neg (by decide), if_pos rfl, ← ref_normed_o, ← ref_u_o]
  rfl
theorem ref_scaled_o (r : Fin 8192) (k : Fin 1024) : val_main_v124 (F := Ideal) a0 a1 a2 a3 a4 a5 a6 (ix2 r k) = scaled ((args a0 a1 a2 a3 a4 a5 a6).v (256 + r.val) 4) ((args a0 a1 a2 a3 a4 a5 a6).u (256 + r.val)) k := by
  unfold scaled
  rw [arg_o, ← ref_u_o]
  unfold val_main_v124
  generalize val_main_v116 (F := Ideal) a0 a1 a2 a3 a4 a5 a6 = u
  pointwise [val_main_v123, val_main_v58, val_main_v57, val_main_v56, val_main_cst_10, val_main_v12]
  try rfl
theorem ref_dn_o (r : Fin 8192) (k : Fin 1024) : val_main_v126 (F := Ideal) a0 a1 a2 a3 a4 a5 a6 (ix2 r k) = (args a0 a1 a2 a3 a4 a5 a6).dn (256 + r.val) k := by
  unfold Args.dn
  rw [← ref_unit_o, ← ref_scaled_o]
  rfl
theorem ref_weighed_o (r : Fin 8192) (k : Fin 1024) : val_main_v130 (F := Ideal) a0 a1 a2 a3 a4 a5 a6 (ix2 r k)
    = weighed (args a0 a1 a2 a3 a4 a5 a6).n ((args a0 a1 a2 a3 a4 a5 a6).v (256 + r.val) 4) ((args a0 a1 a2 a3 a4 a5 a6).u (256 + r.val)) k := by
  unfold weighed
  rw [← ref_scaled_o]
  unfold val_main_v130
  generalize val_main_v124 (F := Ideal) a0 a1 a2 a3 a4 a5 a6 = u
  pointwise [val_main_v129, val_main_v53]
  try rfl
theorem ref_dx_o (r : Fin 8192) (k : Fin 1024) : val_main_v145 (F := Ideal) a0 a1 a2 a3 a4 a5 a6 (ix2 r k)
    = weighed (args a0 a1 a2 a3 a4 a5 a6).n ((args a0 a1 a2 a3 a4 a5 a6).v (256 + r.val) 4) ((args a0 a1 a2 a3 a4 a5 a6).u (256 + r.val)) k * Ideal.rsqrt (ms ((args a0 a1 a2 a3 a4 a5 a6).x (256 + r.val)))
      + (args a0 a1 a2 a3 a4 a5 a6).x (256 + r.val) k * meaned ((args a0 a1 a2 a3 a4 a5 a6).x (256 + r.val)) (args a0 a1 a2 a3 a4 a5 a6).n ((args a0 a1 a2 a3 a4 a5 a6).v (256 + r.val) 4) ((args a0 a1 a2 a3 a4 a5 a6).u (256 + r.val))
      + meaned ((args a0 a1 a2 a3 a4 a5 a6).x (256 + r.val)) (args a0 a1 a2 a3 a4 a5 a6).n ((args a0 a1 a2 a3 a4 a5 a6).v (256 + r.val) 4) ((args a0 a1 a2 a3 a4 a5 a6).u (256 + r.val)) * (args a0 a1 a2 a3 a4 a5 a6).x (256 + r.val) k := by
  have e := ref_weighed_o a0 a1 a2 a3 a4 a5 a6 r
  unfold meaned
  simp only [← e]
  rw [arg_x_o]
  unfold val_main_v145 val_main_v144 val_main_v143 val_main_v142 val_main_v141 val_main_v140 val_main_v139 val_main_v137 val_main_v136 val_main_v134 val_main_v133 val_main_v132
  generalize val_main_v130 (F := Ideal) a0 a1 a2 a3 a4 a5 a6 = u
  pointwise [val_main_v138, val_main_cst_29, val_main_v50, val_main_v49, val_main_cst_9, val_main_v48, val_main_v47, val_main_v46, val_main_v45, val_main_cst_8, val_main_v44, val_main_v43, val_main_cst_7, val_main_v42, val_main_v41, val_main_cst_6, val_main_v40, val_main_v39, val_main_cst_29, val_main_cst_28, val_main_cst_30, val_main_v135]
  try simp only [Finset.univ_unique, Finset.sum_singleton]
  try rfl

/-! ## The seven results -/

theorem ref_dx (i : Fin 8448) (k : Fin 1024) : val_main_v179 (F := Ideal) a0 a1 a2 a3 a4 a5 a6 (ix2 i k) = (args a0 a1 a2 a3 a4 a5 a6).dx i.val k := by
  have key : (args a0 a1 a2 a3 a4 a5 a6).dx i.val k = (((if h : 256 ≤ i.val ∧ i.val - 256 < 8192 then a6 (ix2 ⟨256 + (i.val - 256), by omega⟩ k) else 0)
      + (if h : i.val < 256 then a6 (ix2 ⟨i.val, by omega⟩ k) else 0))
      + (if h : 256 ≤ i.val ∧ i.val - 256 < 8192 then val_main_v145 (F := Ideal) a0 a1 a2 a3 a4 a5 a6 (ix2 ⟨i.val - 256, h.2⟩ k) else 0))
      + (if h : i.val < 256 then val_main_v177 (F := Ideal) a0 a1 a2 a3 a4 a5 a6 (ix2 ⟨i.val, h⟩ k) else 0) := by
    by_cases h : i.val < 256
    · simp only [dif_pos h, dif_neg (show ¬(256 ≤ i.val ∧ i.val - 256 < 8192) by omega), zero_add, add_zero]
      rw [ref_dx_c]
      unfold Args.dx rowed
      rw [arg_d]
    · obtain ⟨n, hn⟩ := i
      obtain ⟨r, rfl⟩ : ∃ r, n = 256 + r := ⟨n - 256, by simp only [] at h; omega⟩
      simp only [Nat.add_sub_cancel_left, dif_neg h, dif_pos (show 256 ≤ 256 + r ∧ r < 8192 by omega), add_zero, zero_add]
      rw [ref_dx_o]
      unfold Args.dx rowed
      rw [arg_d a0 a1 a2 a3 a4 a5 a6 ⟨256 + r, hn⟩]
  refine Eq.trans ?_ key.symm
  unfold val_main_v179 val_main_v178 val_main_v147 val_main_v146
  generalize val_main_v145 (F := Ideal) a0 a1 a2 a3 a4 a5 a6 = p
  generalize val_main_v177 (F := Ideal) a0 a1 a2 a3 a4 a5 a6 = q
  pointwise [val_main_v107, val_main_v106, val_main_cst_20, val_main_v97, val_main_cst_16, val_main_v89, val_main_v88, val_main_cst_32, val_main_cst_31, val_main_cst_41]
  try rfl
theorem ref_dn (k : Fin 1024) : val_main_v194 (F := Ideal) a0 a1 a2 a3 a4 a5 a6 (ix2 0 k) = (args a0 a1 a2 a3 a4 a5 a6).norms k := by
  have e : (args a0 a1 a2 a3 a4 a5 a6).norms k = val_main_v131 (F := Ideal) a0 a1 a2 a3 a4 a5 a6 (ix1 k) + val_main_v162 (F := Ideal) a0 a1 a2 a3 a4 a5 a6 (ix1 k) := by
    refine Eq.trans ?_ (congr (congrArg _ (total_o (val_main_v126 (F := Ideal) a0 a1 a2 a3 a4 a5 a6) k).symm) (total_c (val_main_v157 (F := Ideal) a0 a1 a2 a3 a4 a5 a6) k).symm)
    simp only [ref_dn_o, ref_dn_c]
    unfold Args.norms
    refine (Finset.sum_range_add (fun r => (args a0 a1 a2 a3 a4 a5 a6).dn r k) 256 8192).trans ?_
    rw [Finset.sum_range, Finset.sum_range, add_comm]
  rw [e]
  unfold val_main_v194 val_main_v163
  generalize val_main_v131 (F := Ideal) a0 a1 a2 a3 a4 a5 a6 = p
  generalize val_main_v162 (F := Ideal) a0 a1 a2 a3 a4 a5 a6 = q
  pointwise
/-- The two modulations' gradients, one below the other, the context's first. -/
theorem ref_parts (q : Fin 2) (j : Fin 8) (k : Fin 1024) : val_main_v193 (F := Ideal) a0 a1 a2 a3 a4 a5 a6 (ix3 q j k)
    = if q.val = 0 then (if j.val = 3 then val_main_v150 (F := Ideal) a0 a1 a2 a3 a4 a5 a6 (ix1 k) else if j.val = 4 then val_main_v156 (F := Ideal) a0 a1 a2 a3 a4 a5 a6 (ix1 k)
        else if j.val = 5 then val_main_v103 (F := Ideal) a0 a1 a2 a3 a4 a5 a6 (ix1 k) else 0)
      else (if j.val = 3 then val_main_v119 (F := Ideal) a0 a1 a2 a3 a4 a5 a6 (ix1 k) else if j.val = 4 then val_main_v125 (F := Ideal) a0 a1 a2 a3 a4 a5 a6 (ix1 k)
        else if j.val = 5 then val_main_v95 (F := Ideal) a0 a1 a2 a3 a4 a5 a6 (ix1 k) else 0) := by
  unfold val_main_v193 val_main_v192 val_main_v191 val_main_v190 val_main_v189 val_main_v188 val_main_v187 val_main_v183
  generalize val_main_v150 (F := Ideal) a0 a1 a2 a3 a4 a5 a6 = b3
  generalize val_main_v156 (F := Ideal) a0 a1 a2 a3 a4 a5 a6 = b4
  generalize val_main_v103 (F := Ideal) a0 a1 a2 a3 a4 a5 a6 = b5
  generalize val_main_v119 (F := Ideal) a0 a1 a2 a3 a4 a5 a6 = c3
  generalize val_main_v125 (F := Ideal) a0 a1 a2 a3 a4 a5 a6 = c4
  generalize val_main_v95 (F := Ideal) a0 a1 a2 a3 a4 a5 a6 = c5
  have zero : (FloatOps.sitofp (F := Ideal) FTy.f32 0#32 : EReal) = 0 := by
    show (((0#32 : BitVec 32).toInt : ℝ) : EReal) = 0
    simp
  fin_cases q <;> fin_cases j <;> pointwise [val_main_v180, val_main_cst_42, val_main_v181, val_main_cst_43, val_main_v182, val_main_cst_44, val_main_v184, val_main_cst_45, val_main_v185, val_main_cst_46, val_main_v186, val_main_cst_47, val_main_call1_v0, val_main_c]
  all_goals first
    | exact zero
    | (split_ifs <;> first | omega | (refine congrArg _ (congrArg ix1 (Fin.ext ?_)) ; dsimp only ; omega) | rfl)
theorem ref_dm (q : Fin 2) (j : Fin 8) (k : Fin 1024) : val_main_v193 (F := Ideal) a0 a1 a2 a3 a4 a5 a6 (ix3 q j k) = (args a0 a1 a2 a3 a4 a5 a6).mods q.val j.val k := by
  rw [ref_parts]
  have eb3 : val_main_v150 (F := Ideal) a0 a1 a2 a3 a4 a5 a6 (ix1 k) = ∑ r : Fin 256, (args a0 a1 a2 a3 a4 a5 a6).u r.val k :=
    (total_c (val_main_v115 (F := Ideal) a0 a1 a2 a3 a4 a5 a6) k).trans (Finset.sum_congr rfl fun r _ => ref_u_c a0 a1 a2 a3 a4 a5 a6 r k)
  have eb4 : val_main_v156 (F := Ideal) a0 a1 a2 a3 a4 a5 a6 (ix1 k) = ∑ r : Fin 256, (args a0 a1 a2 a3 a4 a5 a6).dm r.val 4 k :=
    (total_c (val_main_v151 (F := Ideal) a0 a1 a2 a3 a4 a5 a6) k).trans (Finset.sum_congr rfl fun r _ => ref_nu_c a0 a1 a2 a3 a4 a5 a6 r k)
  have eb5 : val_main_v103 (F := Ideal) a0 a1 a2 a3 a4 a5 a6 (ix1 k) = ∑ r : Fin 256, (args a0 a1 a2 a3 a4 a5 a6).dm r.val 5 k :=
    (total_c (val_main_v100 (F := Ideal) a0 a1 a2 a3 a4 a5 a6) k).trans (Finset.sum_congr rfl fun r _ => ref_df_c a0 a1 a2 a3 a4 a5 a6 r k)
  have ec3 : val_main_v119 (F := Ideal) a0 a1 a2 a3 a4 a5 a6 (ix1 k) = ∑ r : Fin 8192, (args a0 a1 a2 a3 a4 a5 a6).u (256 + r.val) k :=
    (total_o (val_main_v116 (F := Ideal) a0 a1 a2 a3 a4 a5 a6) k).trans (Finset.sum_congr rfl fun r _ => ref_u_o a0 a1 a2 a3 a4 a5 a6 r k)
  have ec4 : val_main_v125 (F := Ideal) a0 a1 a2 a3 a4 a5 a6 (ix1 k) = ∑ r : Fin 8192, (args a0 a1 a2 a3 a4 a5 a6).dm (256 + r.val) 4 k :=
    (total_o (val_main_v120 (F := Ideal) a0 a1 a2 a3 a4 a5 a6) k).trans (Finset.sum_congr rfl fun r _ => ref_nu_o a0 a1 a2 a3 a4 a5 a6 r k)
  have ec5 : val_main_v95 (F := Ideal) a0 a1 a2 a3 a4 a5 a6 (ix1 k) = ∑ r : Fin 8192, (args a0 a1 a2 a3 a4 a5 a6).dm (256 + r.val) 5 k :=
    (total_o (val_main_v92 (F := Ideal) a0 a1 a2 a3 a4 a5 a6) k).trans (Finset.sum_congr rfl fun r _ => ref_df_o a0 a1 a2 a3 a4 a5 a6 r k)
  have zero : ∀ i, j.val ≠ 3 → j.val ≠ 4 → j.val ≠ 5 → (args a0 a1 a2 a3 a4 a5 a6).dm i j.val k = 0 := fun i h3 h4 h5 => by
    unfold Args.dm
    rw [if_neg h3, if_neg h4, if_neg h5]
  have three : ∀ i, (args a0 a1 a2 a3 a4 a5 a6).dm i 3 k = (args a0 a1 a2 a3 a4 a5 a6).u i k := fun i => if_pos rfl
  rw [eb3, eb4, eb5, ec3, ec4, ec5]
  unfold Args.mods
  rw [Finset.sum_range, Finset.sum_range]
  refine if_congr Iff.rfl ?_ ?_
  all_goals
    by_cases h3 : j.val = 3
    · simp only [h3, if_pos, three]
    by_cases h4 : j.val = 4
    · simp only [h4, if_pos, if_neg (show ¬4 = 3 by decide)]
    by_cases h5 : j.val = 5
    · simp only [h5, if_pos, if_neg (show ¬5 = 3 by decide), if_neg (show ¬5 = 4 by decide)]
    · simp only [if_neg h3, if_neg h4, if_neg h5, zero _ h3 h4 h5, Finset.sum_const_zero]
end

end Cert.Ffn

end
-- ==== Proof.FfnClaim.lean ====
/- # The claims of `ffn_bwd`

Both programs' runs and results, and the equality of the results, with no precondition.
-/
module

public import proofs.«01_k».proof.Defs
public import proofs.«01_k».proof.Proof.FfnArr
public import proofs.«01_k».proof.Proof.FfnRef
public import proofs.«01_k».proof.Proof.Gen.FfnBwd
public import Idealize.ShloMosaic.Adequacy
public import Idealize.ShloMosaic.Init
public import Idealize.ShloMosaic.Lib.Quiescent
public import Idealize.ShloMosaic.Lib.Claim
public import Idealize.ShloMosaic.Lib.Tactic.ValueTie

@[expose] public section

set_option maxRecDepth 16384

noncomputable section

namespace Cert.Ffn

open Idealize.ShloMosaic Idealize.SL.Sem

/-- The kernel ends with its arguments unchanged and no counter raised, -/
theorem quiescent_bits : Cert.quiescent_FfnBwd := fun m ρ _ => cast (by sl_kernel_rfl) (run_frame (F := Bits) m ρ)
/-- read over the extended reals too; -/
theorem quiescent_ideal : Cert.quiescent_FfnBwdIdeal := fun m ρ _ => run_frame (F := Ideal) m ρ
/-- and so does the reference. -/
theorem quiescent_reference : Cert.quiescent_FfnBwdReferenceIdeal := fun m ρ _ =>
  (θ_run Cert.FfnBwdReferenceIdeal.defs _ _).mono (fun r h => ⟨fun c => (h c).2.2.2.2.2.2.2, sem_eq_zero_of_no_sems (by decide) r.2⟩)
    (Cert.FfnBwdReferenceIdeal.Value.run (F := Ideal) m ρ)

section
open Cert.FfnBwdIdeal Cert.FfnBwdIdeal.Gen
/-- The kernel's seven results, and its arguments as they were. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70_0) = (dats m 0 c).arrAt 7 (cfgs 0).N
      ∧ r.2.mem ((c.tc : Thread nD τ).loc main_v70_1) = (dats m 0 c).arrAt 8 (cfgs 0).N
      ∧ r.2.mem ((c.tc : Thread nD τ).loc main_v70_2) = (dats m 0 c).arrAt 9 (cfgs 0).N
      ∧ r.2.mem ((c.tc : Thread nD τ).loc main_v70_3) = (dats m 0 c).arrAt 10 (cfgs 0).N
      ∧ r.2.mem ((c.tc : Thread nD τ).loc main_v70_4) = (dats m 0 c).arrAt 11 (cfgs 0).N
      ∧ r.2.mem ((c.tc : Thread nD τ).loc main_v70_5) = (dats m 0 c).arrAt 12 (cfgs 0).N
      ∧ r.2.mem ((c.tc : Thread nD τ).loc main_v70_6) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h.1.1 c).1 7, (h.1.1 c).1 8, (h.1.1 c).1 9, (h.1.1 c).1 10, (h.1.1 c).1 11, (h.1.1 c).1 12, (h.1.1 c).1 13, h.2.1 c⟩)
    (θ_run_and (run_arrays (F := Ideal) m ρ) (run_frame (F := Ideal) m ρ))
end

section
open Cert.FfnBwdReferenceIdeal Cert.FfnBwdReferenceIdeal.Gen
theorem transposed (u : FVec Ideal S8448x1024 .f32) (i : Fin 1024) (k : Fin 8448) :
    truncf .bf16 (transpose S1024x8448 [1, 0] u transposes_S8448x1024_S1024x8448_1_0) bitsLt_bf16_f32 (ix2 i k) = u (ix2 k i) := by
  pointwise
theorem narrowed (u : FVec Ideal S8448x4096 .f32) (i : Fin 8448) (k : Fin 4096) : truncf .bf16 u bitsLt_bf16_f32 (ix2 i k) = u (ix2 i k) := by
  pointwise
end

/-- Functions of pairs, or of triples, that agree at each of them. -/
theorem by_pairs {a b : ℕ} {f g : (⟨2, ![a, b]⟩ : Shape).Idx → EReal} (h : ∀ i k, f (ix2 i k) = g (ix2 i k)) : f = g := by
  refine funext fun y => ?_
  have e : y = ix2 (y 0) (y 1) := funext fun d => by fin_cases d <;> rfl
  rw [e]
  exact h _ _
theorem by_triples {a b c : ℕ} {f g : (⟨3, ![a, b, c]⟩ : Shape).Idx → EReal} (h : ∀ i j k, f (ix3 i j k) = g (ix3 i j k)) : f = g := by
  refine funext fun y => ?_
  have e : y = ix3 (y 0) (y 1) (y 2) := funext fun d => by fin_cases d <;> rfl
  rw [e]
  exact h _ _ _

section
open StableHlo Cert.FfnBwdReferenceIdeal Cert.FfnBwdReferenceIdeal.Read
/-- The reference's seven results, as functions of its arguments. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v179) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v194) = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v195) = val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v197) = val_main_v197 (F := Ideal) (m ((c.tc : Thread nD τ).loc main_arg1)) (m ((c.tc : Thread nD τ).loc main_arg2)) (m ((c.tc : Thread nD τ).loc main_arg6))
      ∧ r.2.mem ((c.tc : Thread nD τ).loc main_v199) = val_main_v199 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v200) = val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨r0, r1, r2, r3, r4, r5, r6, ha⟩ := h c
    refine ⟨?_, ?_, ?_, ?_, ?_, ?_, ?_, ha⟩
    · exact r0.trans (val_main_v179_eq (launchContents m c))
    · exact r1.trans (val_main_v193_eq (launchContents m c))
    · exact r2.trans (val_main_v194_eq (launchContents m c))
    · exact r3.trans (val_main_v195_eq (launchContents m c))
    · exact r4.trans (val_main_v197_eq (launchContents m c))
    · exact r5.trans (val_main_v199_eq (launchContents m c))
    · exact r6.trans (val_main_v200_eq (launchContents m c))) (Value.run (F := Ideal) m ρ)
end

open Cert.FfnBwdReferenceIdeal.Read in
set_option maxHeartbeats 4000000 in
/-- The call's seven results are the derivatives of the feed-forward block, and its saved arrays, over the extended reals. -/
theorem algebraic : Cert.algebraic_FfnBwdIdeal_FfnBwdReferenceIdeal := by
  intro m ρ m' ρ' _ hagree
  refine ⟨_, _, _, _, _, _, _, run_results m ρ, ?_⟩
  refine (θ_run Cert.FfnBwdReferenceIdeal.defs _ _).mono (fun _ h c => ?_) (run_reference m' ρ')
  obtain ⟨r0, r1, r2, r3, r4, r5, r6, ha⟩ := h c
  obtain ⟨e0, e1, e2, e3, e4, e5, e6⟩ := hagree c
  refine ⟨r0.trans ?_, r1.trans ?_, r2.trans ?_, r3.trans ?_, r4.trans ?_, r5.trans ?_, r6.trans ?_, ha⟩
  · rw [e0, e1, e2, e3, e4, e5, e6]
    exact Eq.trans (by_pairs (ref_dx _ _ _ _ _ _ _)) (final_dx m c).symm
  · rw [e0, e1, e2, e3, e4, e5, e6]
    exact Eq.trans (by_triples (ref_dm _ _ _ _ _ _ _)) (final_dm m c).symm
  · rw [e0, e1, e2, e3, e4, e5, e6]
    refine Eq.trans (by_pairs fun i k => ?_) (final_dn m c).symm
    rw [Subsingleton.elim (α := Fin 1) i 0]
    exact ref_dn _ _ _ _ _ _ _ k
  · rw [e0, e1, e2, e3, e4, e5, e6]
    exact Eq.trans (by_pairs fun i k => (narrowed _ _ _).trans (ref_p _ _ _ _ _ _ _ i k)) (final_dp m c).symm
  · rw [e1, e2, e6]
    exact Eq.trans (by_pairs fun i k => (transposed _ _ _).trans (ref_e _ _ _ _ _ _ _ k i)) (final_de m c).symm
  · rw [e0, e1, e2, e3]
    exact Eq.trans (by_pairs fun i k => (transposed _ _ _).trans (ref_h _ _ _ _ _ _ _ k i)) (final_h m c).symm
  · rw [e0, e1, e2, e3, e4]
    exact Eq.trans (by_pairs fun i k => (narrowed _ _ _).trans (ref_sq _ _ _ _ _ _ _ i k)) (final_a m c).symm

end Cert.Ffn

end
-- ==== Proof.OutEntry.lean ====
/- # The host lines before the call, one operation at a time

What each buffer holds when the call starts, from what its operands hold.
-/
module

public import proofs.«01_k».proof.Proof.Gen.OutBwdIdeal.Frame
public import Idealize.ShloMosaic.Lib.Pipeline.ValueKit
public import Idealize.ShloMosaic.Lib.StableHlo.RunRead

@[expose] public section

set_option maxRecDepth 16384

noncomputable section

namespace Cert.Out.Entry

open Idealize.ShloMosaic Idealize.ShloMosaic.TcCoe Idealize.SL.Sem
open Cert.OutBwdIdeal Cert.OutBwdIdeal.Gen

variable (m : (ℓ : Loc nD τ sig) → Buf (Elt Ideal) ℓ) (c : Dev nD)

theorem cst : @Eq (FVec Ideal S_ .f32) (V m c main_cst)
    (constant (F := Ideal) S_ .f32 0x00000000#32) := by
  unfold V; after_reads_simp
  all_goals try rfl
theorem v0 : @Eq (FVec Ideal S2x1024 .f32) (V m c main_v0)
    (broadcastInDim S2x1024 ![] bcast_S_S2x1024 (V m c main_cst : FVec Ideal S_ .f32)) := by
  unfold V; after_reads_simp
  all_goals try rfl
theorem v1 : @Eq (FVec Ideal S6x1024 .f32) (V m c main_v1)
    (shapeCast S6x1024 (V m c main_arg1 : FVec Ideal S6144 .f32) shapeCasts_S6144_S6x1024) := by
  unfold V; after_reads_simp
  all_goals try rfl
theorem v2 : @Eq (FVec Ideal S8x1024 .f32) (V m c main_v2)
    (concatenate S8x1024 0 [⟨S6x1024, (V m c main_v1 : FVec Ideal S6x1024 .f32)⟩, ⟨S2x1024, (V m c main_v0 : FVec Ideal S2x1024 .f32)⟩] concatenates_S6x1024_S2x1024_S8x1024_d0) := by
  unfold V; after_reads_simp
  all_goals try rfl
theorem v3 : @Eq (FVec Ideal S6x1024 .f32) (V m c main_v3)
    (shapeCast S6x1024 (V m c main_arg2 : FVec Ideal S6144 .f32) shapeCasts_S6144_S6x1024) := by
  unfold V; after_reads_simp
  all_goals try rfl
theorem v4 : @Eq (FVec Ideal S8x1024 .f32) (V m c main_v4)
    (concatenate S8x1024 0 [⟨S6x1024, (V m c main_v3 : FVec Ideal S6x1024 .f32)⟩, ⟨S2x1024, (V m c main_v0 : FVec Ideal S2x1024 .f32)⟩] concatenates_S6x1024_S2x1024_S8x1024_d0) := by
  unfold V; after_reads_simp
  all_goals try rfl
theorem v5 : @Eq (FVec Ideal S1x8x1024 .f32) (V m c main_v5)
    (broadcastInDim S1x8x1024 ![1, 2] bcast_S8x1024_S1x8x1024_1_2 (V m c main_v2 : FVec Ideal S8x1024 .f32)) := by
  unfold V; after_reads_simp
  all_goals try rfl
theorem v6 : @Eq (FVec Ideal S1x8x1024 .f32) (V m c main_v6)
    (broadcastInDim S1x8x1024 ![1, 2] bcast_S8x1024_S1x8x1024_1_2 (V m c main_v4 : FVec Ideal S8x1024 .f32)) := by
  unfold V; after_reads_simp
  all_goals try rfl
theorem v7 : @Eq (FVec Ideal S2x8x1024 .f32) (V m c main_v7)
    (concatenate S2x8x1024 0 [⟨S1x8x1024, (V m c main_v5 : FVec Ideal S1x8x1024 .f32)⟩, ⟨S1x8x1024, (V m c main_v6 : FVec Ideal S1x8x1024 .f32)⟩] concatenates_S1x8x1024_S1x8x1024_S2x8x1024_d0) := by
  unfold V; after_reads_simp
  all_goals try rfl
theorem v8 : @Eq (FVec Ideal S1x64 .f32) (V m c main_v8)
    (shapeCast S1x64 (V m c main_arg8 : FVec Ideal S64 .f32) shapeCasts_S64_S1x64) := by
  unfold V; after_reads_simp
  all_goals try rfl
theorem v9 : @Eq (FVec Ideal S4x64 .f32) (V m c main_v9)
    (broadcastInDim S4x64 ![0, 1] bcast_S1x64_S4x64_0_1 (V m c main_v8 : FVec Ideal S1x64 .f32)) := by
  unfold V; after_reads_simp
  all_goals try rfl
theorem v10 : @Eq (FVec Ideal S256 .f32) (V m c main_v10)
    (shapeCast S256 (V m c main_v9 : FVec Ideal S4x64 .f32) shapeCasts_S4x64_S256) := by
  unfold V; after_reads_simp
  all_goals try rfl
theorem v11 : @Eq (FVec Ideal S1x256 .f32) (V m c main_v11)
    (broadcastInDim S1x256 ![1] bcast_S256_S1x256_1 (V m c main_v10 : FVec Ideal S256 .f32)) := by
  unfold V; after_reads_simp
  all_goals try rfl
theorem v12 : @Eq (FVec Ideal S1024x1024 .bf16) (V m c main_v12)
    (truncf .bf16 (V m c main_arg9 : FVec Ideal S1024x1024 .f32) bitsLt_bf16_f32) := by
  unfold V; after_reads_simp
  all_goals try rfl

end Cert.Out.Entry

end
-- ==== Proof.OutStep.lean ====
/- # The projection's gradient, one block of rows

What the kernel's body leaves in each result's buffer, as functions of the blocks it loads: the rows `x`, the modulation `v`, the first head
group's rows `s`, the two directions' `p` and `q`, the gate `r`, the third group's rows `l`, the norm's weight `n`, the projection `w` and the
cotangent `g`.
-/
module

public import proofs.«01_k».proof.Proof.Gen.OutBwdIdeal.Frame
public import proofs.«01_k».proof.Proof.Gen.OutBwdIdeal.Skeleton

@[expose] public section

set_option maxRecDepth 16384

noncomputable section

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.OutBwdIdeal Cert.OutBwdIdeal.Gen
open Idealize.ShloMosaic.Pipeline (Dat Cfg Window BodyObligation cellOf)

variable {F : FTy → Type} [FloatOps F]

/-- The blocks the body loads at a point. -/
structure Blocks (F : FTy → Type) where
  x : Vec F S256x1024 .f32
  v : Vec F S1x8x1024 .f32
  s : Vec F S256x256 .f32
  p : Vec F S256x256 .f32
  q : Vec F S256x256 .f32
  r : Vec F S256x256 .f32
  l : Vec F S256x512 .f32
  n : Vec F S1x256 .f32
  w : Vec F S1024x1024 .bf16
  g : Vec F S256x1024 .f32

namespace Blocks
variable (b : Blocks F)

/-- The sum of the two directions. -/
def o : FVec F S256x256 .f32 := k0_pay10 b.p b.q
/-- The modulation's rows and the two weights, as the body reshapes them. -/
def v1 : FVec F S8x1024 .f32 := k0_pay6 b.v
@[inherit_doc v1] def n1 : FVec F S1x256 .f32 := k0_pay7 b.n
@[inherit_doc v1] def w1 : FVec F S1024x1024 .bf16 := k0_pay8 b.w
/-- The columns' numbers. -/
def cols : IVec S1x256 32 := iota .tc S1x256 32 [1] iota_S1x256_d1_w32
/-- One over a head's width. -/
def inv : F .f32 := Scalar.ofBits .f32 0x3C800000#32
/-- The mean squares of the first three heads. -/
def ms3 : FVec F S256x256 .f32 := k0_pay16 b.o (k0_pay12 b.p b.q) cols k0_pay13
/-- The rows' root mean squares, inverted, and the factor of their derivative. -/
def rs : FVec F S256x256 .f32 := k0_pay20 b.ms3 (k0_pay17 (F := F)) (k0_pay18 b.o) inv
@[inherit_doc rs] def rd : FVec F S256x256 .f32 := k0_pay21 b.ms3 (k0_pay17 (F := F)) (k0_pay18 b.o) inv
/-- The three head groups side by side. -/
def y : FVec F S256x1024 .f32 := k0_pay26 b.s b.r b.l b.n1 b.o b.ms3 (k0_pay17 (F := F)) (k0_pay18 b.o) inv
/-- The gated cotangent. -/
def t : FVec F S256x1024 .f32 := k0_pay28 b.v1 b.g
/-- The modulation's gradient. -/
def m8 : FVec F S8x1024 .f32 := k0_pay29 b.s b.r b.l b.n1 b.w1 (k0_pay9 (F := F)) b.o b.ms3 (k0_pay17 (F := F)) (k0_pay18 b.o) inv b.g
/-- The normed rows' gradient over the weight. -/
def u : FVec F S256x256 .f32 := k0_pay34 b.v1 b.r b.w1 b.g

/-- The gradient of the block's rows. -/
def dx : Vec F S256x1024 .f32 := b.g
/-- The modulation's gradient of the block alone, -/
def dm : FVec F S1x8x1024 .f32 := k0_pay42 b.m8
/-- and added to what the blocks before left. -/
def dmStep (a : Vec F S1x8x1024 .f32) : FVec F S1x8x1024 .f32 := k0_pay43 b.m8 a
/-- The first group's gradient. -/
def ds : FVec F S256x256 .f32 := k0_pay31 b.v1 b.w1 b.g
/-- The two directions' gradient. -/
def dO : FVec F S256x256 .f32 :=
  k0_pay41 b.o (k0_pay11 (F := F)) (k0_pay39 b.n1 b.o b.rd b.u)
    (k0_pay40 b.n1 b.o (k0_pay14 (F := F) cols k0_pay13) (k0_pay15 (F := F)) (k0_pay17 (F := F)) b.rs b.rd b.u)
/-- The gate's gradient. -/
def dr : FVec F S256x256 .f32 := k0_pay35 b.v1 b.r b.n1 b.w1 b.o b.ms3 (k0_pay17 (F := F)) (k0_pay18 b.o) inv b.g
/-- The third group's gradient. -/
def dl : FVec F S256x512 .f32 := k0_pay33 b.v1 b.w1 b.g
/-- The norm weight's gradient of the block alone, -/
def dn : FVec F S1x256 .f32 := k0_pay37 (k0_pay36 b.v1 b.r b.w1 b.o b.ms3 (k0_pay17 (F := F)) (k0_pay18 b.o) inv b.g)
/-- and added to what the blocks before left. -/
def dnStep (a : Vec F S1x256 .f32) : FVec F S1x256 .f32 := k0_pay1 b.dn a
/-- The gated cotangent, narrowed. -/
def zt : FVec F S256x1024 .bf16 := k0_pay2 b.t
/-- The three groups, transposed. -/
def at_ : FVec F S1024x256 .bf16 := k0_pay3 b.y
/-- The row sums the attention's gradient needs. -/
def de : FVec F S8x256 .f32 := k0_pay4 b.l b.dl
/-- The third group's gradient, narrowed. -/
def db : FVec F S256x512 .bf16 := k0_pay5 b.dl
end Blocks

/-- The buffers the body is called with, each whole. -/
structure Bufs where
  a1 : Memref sig .tc .vmem S256x1024 .f32
  h1 : a1.IsWhole
  a2 : Memref sig .tc .vmem S1x8x1024 .f32
  h2 : a2.IsWhole
  a3 : Memref sig .tc .vmem S256x256 .f32
  h3 : a3.IsWhole
  a4 : Memref sig .tc .vmem S256x256 .f32
  h4 : a4.IsWhole
  a5 : Memref sig .tc .vmem S256x256 .f32
  h5 : a5.IsWhole
  a6 : Memref sig .tc .vmem S256x256 .f32
  h6 : a6.IsWhole
  a7 : Memref sig .tc .vmem S256x512 .f32
  h7 : a7.IsWhole
  a8 : Memref sig .tc .vmem S1x256 .f32
  h8 : a8.IsWhole
  a9 : Memref sig .tc .vmem S1024x1024 .bf16
  h9 : a9.IsWhole
  a10 : Memref sig .tc .vmem S256x1024 .f32
  h10 : a10.IsWhole
  a11 : Memref sig .tc .vmem S256x1024 .f32
  h11 : a11.IsWhole
  a12 : Memref sig .tc .vmem S1x8x1024 .f32
  h12 : a12.IsWhole
  a13 : Memref sig .tc .vmem S256x256 .f32
  h13 : a13.IsWhole
  a14 : Memref sig .tc .vmem S256x256 .f32
  h14 : a14.IsWhole
  a15 : Memref sig .tc .vmem S256x256 .f32
  h15 : a15.IsWhole
  a16 : Memref sig .tc .vmem S256x512 .f32
  h16 : a16.IsWhole
  a17 : Memref sig .tc .vmem S1x256 .f32
  h17 : a17.IsWhole
  a18 : Memref sig .tc .vmem S256x1024 .bf16
  h18 : a18.IsWhole
  a19 : Memref sig .tc .vmem S1024x256 .bf16
  h19 : a19.IsWhole
  a20 : Memref sig .tc .vmem S8x256 .f32
  h20 : a20.IsWhole
  a21 : Memref sig .tc .vmem S256x512 .bf16
  h21 : a21.IsWhole

end Cert.Out

end
-- ==== Proof.OutRun.lean ====
/- # The projection's gradient: one grid point, run

What the body's stores leave, at the first point, at the second and at the later ones.
-/
module

public import proofs.«01_k».proof.Proof.OutStep
public import Idealize.ShloMosaic.Lib.Exec
public import Idealize.ShloMosaic.Lib.Tactic
public import Idealize.ShloMosaic.Lib.Pipeline.Kit

@[expose] public section

set_option maxRecDepth 16384

noncomputable section

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.OutBwdIdeal Cert.OutBwdIdeal.Gen
open Idealize.ShloMosaic.Pipeline (Dat Cfg Window BodyObligation cellOf)

variable {F : FTy → Type} [FloatOps F]

local notation "𝕄" => MT nD τ sig Unit (Elt F) ℕ (UR sig nD τ) ℕ

/-- The blocks a point loads, in their buffers. -/
def loaded (c : Dev nD) (b : Bufs) (d : Blocks F) : sProp 𝕄 :=
  iprop(owns (c : Thread nD τ) b.a1 fullShare d.x
    ∗ owns (c : Thread nD τ) b.a2 fullShare d.v
    ∗ owns (c : Thread nD τ) b.a3 fullShare d.s
    ∗ owns (c : Thread nD τ) b.a4 fullShare d.p
    ∗ owns (c : Thread nD τ) b.a5 fullShare d.q
    ∗ owns (c : Thread nD τ) b.a6 fullShare d.r
    ∗ owns (c : Thread nD τ) b.a7 fullShare d.l
    ∗ owns (c : Thread nD τ) b.a8 fullShare d.n
    ∗ owns (c : Thread nD τ) b.a9 fullShare d.w
    ∗ owns (c : Thread nD τ) b.a10 fullShare d.g)

set_option maxHeartbeats 4000000 in
/-- What the body leaves in each result's buffer at the first point, where both sums start, as pieces, with the proof that it runs to them. -/
def runA (c : Dev nD) (i : grid0.Coords) (b : Bufs) (h1 : k0_cond1 i = 1#1) (h2 : ¬k0_cond2 i = 1#1) (h3 : k0_cond3 i = 1#1) (h4 : ¬k0_cond4 i = 1#1)
    (d : Blocks F) :
    Σ' (L10 : List (View.Piece (Elt F) S256x1024 .f32)), Σ' (L11 : List (View.Piece (Elt F) S1x8x1024 .f32)), Σ' (L12 : List (View.Piece (Elt F) S256x256 .f32)), Σ' (L13 : List (View.Piece (Elt F) S256x256 .f32)), Σ' (L14 : List (View.Piece (Elt F) S256x256 .f32)), Σ' (L15 : List (View.Piece (Elt F) S256x512 .f32)), Σ' (L16 : List (View.Piece (Elt F) S1x256 .f32)), Σ' (L17 : List (View.Piece (Elt F) S256x1024 .bf16)), Σ' (L18 : List (View.Piece (Elt F) S1024x256 .bf16)), Σ' (L19 : List (View.Piece (Elt F) S8x256 .f32)),
      { L20 : List (View.Piece (Elt F) S256x512 .bf16) // ∀ R : PUnit → sProp 𝕄,
      iprop(loaded c b d ∗ (∃ d, owns (c : Thread nD τ) b.a11 fullShare d) ∗ (∃ d, owns (c : Thread nD τ) b.a12 fullShare d) ∗ (∃ d, owns (c : Thread nD τ) b.a13 fullShare d) ∗ (∃ d, owns (c : Thread nD τ) b.a14 fullShare d) ∗ (∃ d, owns (c : Thread nD τ) b.a15 fullShare d) ∗ (∃ d, owns (c : Thread nD τ) b.a16 fullShare d) ∗ (∃ d, owns (c : Thread nD τ) b.a17 fullShare d) ∗ (∃ d, owns (c : Thread nD τ) b.a18 fullShare d) ∗ (∃ d, owns (c : Thread nD τ) b.a19 fullShare d) ∗ (∃ d, owns (c : Thread nD τ) b.a20 fullShare d) ∗ (∃ d, owns (c : Thread nD τ) b.a21 fullShare d)
        ∗ (iprop(loaded c b d ∗ (∃ f, b.a11.view.loc (c : Thread nD τ) ↦[b.a11.view.set]{fullShare} b.a11.view.writes (Elt F) f L10) ∗ (∃ f, b.a12.view.loc (c : Thread nD τ) ↦[b.a12.view.set]{fullShare} b.a12.view.writes (Elt F) f L11) ∗ (∃ f, b.a13.view.loc (c : Thread nD τ) ↦[b.a13.view.set]{fullShare} b.a13.view.writes (Elt F) f L12) ∗ (∃ f, b.a14.view.loc (c : Thread nD τ) ↦[b.a14.view.set]{fullShare} b.a14.view.writes (Elt F) f L13) ∗ (∃ f, b.a15.view.loc (c : Thread nD τ) ↦[b.a15.view.set]{fullShare} b.a15.view.writes (Elt F) f L14) ∗ (∃ f, b.a16.view.loc (c : Thread nD τ) ↦[b.a16.view.set]{fullShare} b.a16.view.writes (Elt F) f L15) ∗ (∃ f, b.a17.view.loc (c : Thread nD τ) ↦[b.a17.view.set]{fullShare} b.a17.view.writes (Elt F) f L16) ∗ (∃ f, b.a18.view.loc (c : Thread nD τ) ↦[b.a18.view.set]{fullShare} b.a18.view.writes (Elt F) f L17) ∗ (∃ f, b.a19.view.loc (c : Thread nD τ) ↦[b.a19.view.set]{fullShare} b.a19.view.writes (Elt F) f L18) ∗ (∃ f, b.a20.view.loc (c : Thread nD τ) ↦[b.a20.view.set]{fullShare} b.a20.view.writes (Elt F) f L19) ∗ (∃ f, b.a21.view.loc (c : Thread nD τ) ↦[b.a21.view.set]{fullShare} b.a21.view.writes (Elt F) f L20)) -∗ R ⟨⟩))
      ⊢ wp frame (wpE (defs₀ (F := F)) Variants.none c none) Set.univ (cc0_out_bwd i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21) R } := by
  refine ⟨?_, ?_, ?_, ?_, ?_, ?_, ?_, ?_, ?_, ?_, ?_, fun R => ?run⟩
  case run =>
    simp only [cc0_out_bwd_eq_skeleton]; unfold cc0_out_bwd_skel
    simp only [k0_part1_eq_skeleton, k0_part2_eq_skeleton, k0_part3_eq_skeleton, k0_part4_eq_skeleton, k0_part5_eq_skeleton]
    unfold loaded owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5; obtain rfl := b.h7.eq_unread hf6; obtain rfl := b.h8.eq_unread hf7; obtain rfl := b.h9.eq_unread hf8; obtain rfl := b.h10.eq_unread hf9
    sl_exec (disch := first | sl_exact h1 | sl_exact h2 | sl_exact h3 | sl_exact h4)
    sl_step
    iapply Hk
    isplitl [H0 H1 H2 H3 H4 H5 H6 H7 H8 H9]
    · isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      isplitl [H4]
      · iexists _; isplitr; · ipureintro; exact b.h5.read_unread _
        iexact H4
      isplitl [H5]
      · iexists _; isplitr; · ipureintro; exact b.h6.read_unread _
        iexact H5
      isplitl [H6]
      · iexists _; isplitr; · ipureintro; exact b.h7.read_unread _
        iexact H6
      isplitl [H7]
      · iexists _; isplitr; · ipureintro; exact b.h8.read_unread _
        iexact H7
      isplitl [H8]
      · iexists _; isplitr; · ipureintro; exact b.h9.read_unread _
        iexact H8
      iexists _; isplitr; · ipureintro; exact b.h10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

set_option maxHeartbeats 4000000 in
/-- What the body leaves in each result's buffer at the second, where the modulation's gradient starts anew and the norm weight's goes on, as pieces, with the proof that it runs to them. -/
def runB (c : Dev nD) (i : grid0.Coords) (b : Bufs) (h1 : k0_cond1 i = 1#1) (h2 : ¬k0_cond2 i = 1#1) (h3 : ¬k0_cond3 i = 1#1) (h4 : k0_cond4 i = 1#1)
    (d : Blocks F) (on : Vec F S1x256 .f32) :
    Σ' (L10 : List (View.Piece (Elt F) S256x1024 .f32)), Σ' (L11 : List (View.Piece (Elt F) S1x8x1024 .f32)), Σ' (L12 : List (View.Piece (Elt F) S256x256 .f32)), Σ' (L13 : List (View.Piece (Elt F) S256x256 .f32)), Σ' (L14 : List (View.Piece (Elt F) S256x256 .f32)), Σ' (L15 : List (View.Piece (Elt F) S256x512 .f32)), Σ' (L16 : List (View.Piece (Elt F) S1x256 .f32)), Σ' (L17 : List (View.Piece (Elt F) S256x1024 .bf16)), Σ' (L18 : List (View.Piece (Elt F) S1024x256 .bf16)), Σ' (L19 : List (View.Piece (Elt F) S8x256 .f32)),
      { L20 : List (View.Piece (Elt F) S256x512 .bf16) // ∀ R : PUnit → sProp 𝕄,
      iprop(loaded c b d ∗ (∃ d, owns (c : Thread nD τ) b.a11 fullShare d) ∗ (∃ d, owns (c : Thread nD τ) b.a12 fullShare d) ∗ (∃ d, owns (c : Thread nD τ) b.a13 fullShare d) ∗ (∃ d, owns (c : Thread nD τ) b.a14 fullShare d) ∗ (∃ d, owns (c : Thread nD τ) b.a15 fullShare d) ∗ (∃ d, owns (c : Thread nD τ) b.a16 fullShare d) ∗ owns (c : Thread nD τ) b.a17 fullShare on ∗ (∃ d, owns (c : Thread nD τ) b.a18 fullShare d) ∗ (∃ d, owns (c : Thread nD τ) b.a19 fullShare d) ∗ (∃ d, owns (c : Thread nD τ) b.a20 fullShare d) ∗ (∃ d, owns (c : Thread nD τ) b.a21 fullShare d)
        ∗ (iprop(loaded c b d ∗ (∃ f, b.a11.view.loc (c : Thread nD τ) ↦[b.a11.view.set]{fullShare} b.a11.view.writes (Elt F) f L10) ∗ (∃ f, b.a12.view.loc (c : Thread nD τ) ↦[b.a12.view.set]{fullShare} b.a12.view.writes (Elt F) f L11) ∗ (∃ f, b.a13.view.loc (c : Thread nD τ) ↦[b.a13.view.set]{fullShare} b.a13.view.writes (Elt F) f L12) ∗ (∃ f, b.a14.view.loc (c : Thread nD τ) ↦[b.a14.view.set]{fullShare} b.a14.view.writes (Elt F) f L13) ∗ (∃ f, b.a15.view.loc (c : Thread nD τ) ↦[b.a15.view.set]{fullShare} b.a15.view.writes (Elt F) f L14) ∗ (∃ f, b.a16.view.loc (c : Thread nD τ) ↦[b.a16.view.set]{fullShare} b.a16.view.writes (Elt F) f L15) ∗ (∃ f, b.a17.view.loc (c : Thread nD τ) ↦[b.a17.view.set]{fullShare} b.a17.view.writes (Elt F) f L16) ∗ (∃ f, b.a18.view.loc (c : Thread nD τ) ↦[b.a18.view.set]{fullShare} b.a18.view.writes (Elt F) f L17) ∗ (∃ f, b.a19.view.loc (c : Thread nD τ) ↦[b.a19.view.set]{fullShare} b.a19.view.writes (Elt F) f L18) ∗ (∃ f, b.a20.view.loc (c : Thread nD τ) ↦[b.a20.view.set]{fullShare} b.a20.view.writes (Elt F) f L19) ∗ (∃ f, b.a21.view.loc (c : Thread nD τ) ↦[b.a21.view.set]{fullShare} b.a21.view.writes (Elt F) f L20)) -∗ R ⟨⟩))
      ⊢ wp frame (wpE (defs₀ (F := F)) Variants.none c none) Set.univ (cc0_out_bwd i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21) R } := by
  refine ⟨?_, ?_, ?_, ?_, ?_, ?_, ?_, ?_, ?_, ?_, ?_, fun R => ?run⟩
  case run =>
    simp only [cc0_out_bwd_eq_skeleton]; unfold cc0_out_bwd_skel
    simp only [k0_part1_eq_skeleton, k0_part2_eq_skeleton, k0_part3_eq_skeleton, k0_part4_eq_skeleton, k0_part5_eq_skeleton]
    unfold loaded owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%d17, %f17, -, H17⟩, ⟨%d18, %f18, -, H18⟩, ⟨%d19, %f19, -, H19⟩, ⟨%d20, %f20, -, H20⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5; obtain rfl := b.h7.eq_unread hf6; obtain rfl := b.h8.eq_unread hf7; obtain rfl := b.h9.eq_unread hf8; obtain rfl := b.h10.eq_unread hf9; obtain rfl := b.h17.eq_unread hf16
    sl_exec (disch := first | sl_exact h1 | sl_exact h2 | sl_exact h3 | sl_exact h4)
    sl_step
    iapply Hk
    isplitl [H0 H1 H2 H3 H4 H5 H6 H7 H8 H9]
    · isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      isplitl [H4]
      · iexists _; isplitr; · ipureintro; exact b.h5.read_unread _
        iexact H4
      isplitl [H5]
      · iexists _; isplitr; · ipureintro; exact b.h6.read_unread _
        iexact H5
      isplitl [H6]
      · iexists _; isplitr; · ipureintro; exact b.h7.read_unread _
        iexact H6
      isplitl [H7]
      · iexists _; isplitr; · ipureintro; exact b.h8.read_unread _
        iexact H7
      isplitl [H8]
      · iexists _; isplitr; · ipureintro; exact b.h9.read_unread _
        iexact H8
      iexists _; isplitr; · ipureintro; exact b.h10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

set_option maxHeartbeats 4000000 in
/-- What the body leaves in each result's buffer at a later one, where both sums go on, as pieces, with the proof that it runs to them. -/
def runC (c : Dev nD) (i : grid0.Coords) (b : Bufs) (h1 : ¬k0_cond1 i = 1#1) (h2 : k0_cond2 i = 1#1) (h3 : ¬k0_cond3 i = 1#1) (h4 : k0_cond4 i = 1#1)
    (d : Blocks F) (om : Vec F S1x8x1024 .f32) (on : Vec F S1x256 .f32) :
    Σ' (L10 : List (View.Piece (Elt F) S256x1024 .f32)), Σ' (L11 : List (View.Piece (Elt F) S1x8x1024 .f32)), Σ' (L12 : List (View.Piece (Elt F) S256x256 .f32)), Σ' (L13 : List (View.Piece (Elt F) S256x256 .f32)), Σ' (L14 : List (View.Piece (Elt F) S256x256 .f32)), Σ' (L15 : List (View.Piece (Elt F) S256x512 .f32)), Σ' (L16 : List (View.Piece (Elt F) S1x256 .f32)), Σ' (L17 : List (View.Piece (Elt F) S256x1024 .bf16)), Σ' (L18 : List (View.Piece (Elt F) S1024x256 .bf16)), Σ' (L19 : List (View.Piece (Elt F) S8x256 .f32)),
      { L20 : List (View.Piece (Elt F) S256x512 .bf16) // ∀ R : PUnit → sProp 𝕄,
      iprop(loaded c b d ∗ (∃ d, owns (c : Thread nD τ) b.a11 fullShare d) ∗ owns (c : Thread nD τ) b.a12 fullShare om ∗ (∃ d, owns (c : Thread nD τ) b.a13 fullShare d) ∗ (∃ d, owns (c : Thread nD τ) b.a14 fullShare d) ∗ (∃ d, owns (c : Thread nD τ) b.a15 fullShare d) ∗ (∃ d, owns (c : Thread nD τ) b.a16 fullShare d) ∗ owns (c : Thread nD τ) b.a17 fullShare on ∗ (∃ d, owns (c : Thread nD τ) b.a18 fullShare d) ∗ (∃ d, owns (c : Thread nD τ) b.a19 fullShare d) ∗ (∃ d, owns (c : Thread nD τ) b.a20 fullShare d) ∗ (∃ d, owns (c : Thread nD τ) b.a21 fullShare d)
        ∗ (iprop(loaded c b d ∗ (∃ f, b.a11.view.loc (c : Thread nD τ) ↦[b.a11.view.set]{fullShare} b.a11.view.writes (Elt F) f L10) ∗ (∃ f, b.a12.view.loc (c : Thread nD τ) ↦[b.a12.view.set]{fullShare} b.a12.view.writes (Elt F) f L11) ∗ (∃ f, b.a13.view.loc (c : Thread nD τ) ↦[b.a13.view.set]{fullShare} b.a13.view.writes (Elt F) f L12) ∗ (∃ f, b.a14.view.loc (c : Thread nD τ) ↦[b.a14.view.set]{fullShare} b.a14.view.writes (Elt F) f L13) ∗ (∃ f, b.a15.view.loc (c : Thread nD τ) ↦[b.a15.view.set]{fullShare} b.a15.view.writes (Elt F) f L14) ∗ (∃ f, b.a16.view.loc (c : Thread nD τ) ↦[b.a16.view.set]{fullShare} b.a16.view.writes (Elt F) f L15) ∗ (∃ f, b.a17.view.loc (c : Thread nD τ) ↦[b.a17.view.set]{fullShare} b.a17.view.writes (Elt F) f L16) ∗ (∃ f, b.a18.view.loc (c : Thread nD τ) ↦[b.a18.view.set]{fullShare} b.a18.view.writes (Elt F) f L17) ∗ (∃ f, b.a19.view.loc (c : Thread nD τ) ↦[b.a19.view.set]{fullShare} b.a19.view.writes (Elt F) f L18) ∗ (∃ f, b.a20.view.loc (c : Thread nD τ) ↦[b.a20.view.set]{fullShare} b.a20.view.writes (Elt F) f L19) ∗ (∃ f, b.a21.view.loc (c : Thread nD τ) ↦[b.a21.view.set]{fullShare} b.a21.view.writes (Elt F) f L20)) -∗ R ⟨⟩))
      ⊢ wp frame (wpE (defs₀ (F := F)) Variants.none c none) Set.univ (cc0_out_bwd i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21) R } := by
  refine ⟨?_, ?_, ?_, ?_, ?_, ?_, ?_, ?_, ?_, ?_, ?_, fun R => ?run⟩
  case run =>
    simp only [cc0_out_bwd_eq_skeleton]; unfold cc0_out_bwd_skel
    simp only [k0_part1_eq_skeleton, k0_part2_eq_skeleton, k0_part3_eq_skeleton, k0_part4_eq_skeleton, k0_part5_eq_skeleton]
    unfold loaded owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%d17, %f17, -, H17⟩, ⟨%d18, %f18, -, H18⟩, ⟨%d19, %f19, -, H19⟩, ⟨%d20, %f20, -, H20⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5; obtain rfl := b.h7.eq_unread hf6; obtain rfl := b.h8.eq_unread hf7; obtain rfl := b.h9.eq_unread hf8; obtain rfl := b.h10.eq_unread hf9; obtain rfl := b.h12.eq_unread hf11; obtain rfl := b.h17.eq_unread hf16
    sl_exec (disch := first | sl_exact h1 | sl_exact h2 | sl_exact h3 | sl_exact h4)
    sl_step
    iapply Hk
    isplitl [H0 H1 H2 H3 H4 H5 H6 H7 H8 H9]
    · isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      isplitl [H4]
      · iexists _; isplitr; · ipureintro; exact b.h5.read_unread _
        iexact H4
      isplitl [H5]
      · iexists _; isplitr; · ipureintro; exact b.h6.read_unread _
        iexact H5
      isplitl [H6]
      · iexists _; isplitr; · ipureintro; exact b.h7.read_unread _
        iexact H6
      isplitl [H7]
      · iexists _; isplitr; · ipureintro; exact b.h8.read_unread _
        iexact H7
      isplitl [H8]
      · iexists _; isplitr; · ipureintro; exact b.h9.read_unread _
        iexact H8
      iexists _; isplitr; · ipureintro; exact b.h10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Out

end
-- ==== Proof.OutRead.lean ====
/- # The projection's gradient: what the runs leave

The pieces each run leaves, read back, are the functions of `OutStep`.
-/
module

public import proofs.«01_k».proof.Proof.OutRun
public import Idealize.ShloMosaic.Lib.VecWindow

@[expose] public section

set_option maxRecDepth 16384

noncomputable section

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.OutBwdIdeal Cert.OutBwdIdeal.Gen
open Idealize.ShloMosaic.Pipeline (Dat Cfg Window BodyObligation cellOf)

variable {F : FTy → Type} [FloatOps F]

/-- A whole buffer loaded whole is its contents. -/
theorem load_whole {s : Shape} {e : EltTy} (a : Memref sig .tc .vmem s e) (h : a.IsWhole) (x : s.Idx → Elt F e) {off : Fin s.rank → ℕ}
    (inb : ∀ k, off k + s.size k ≤ s.size k) : a.view.readAt (Elt F) (Rect.unit off s.size inb).toLoadRect (h.unread x) = x :=
  (View.readAt_full _ _ _).trans (h.read_unread x)

/-- That the pieces `L`, stored into a buffer, leave `x` there. -/
def Leaves {s : Shape} {e : EltTy} (a : Memref sig .tc .vmem s e) (L : List (View.Piece (Elt F) s e)) (x : s.Idx → Elt F e) : Prop :=
  ∀ f, a.view.read (Elt F) (a.view.writes (Elt F) f L) = x
/-- One store of a whole block leaves the block. -/
theorem leaves_one {s : Shape} {e : EltTy} (a : Memref sig .tc .vmem s e) {off : Fin s.rank → ℕ} (inb : ∀ k, off k + s.size k ≤ s.size k)
    {u x : s.Idx → Elt F e} (h : u = x) : Leaves (F := F) a [⟨Rect.unit off s.size inb, u⟩] x := fun f =>
  (View.read_writes_full a.view f inb u []).trans h

set_option maxHeartbeats 4000000 in
theorem readA (c : Dev nD) (i : grid0.Coords) (b : Bufs) (h1 : k0_cond1 i = 1#1) (h2 : ¬k0_cond2 i = 1#1) (h3 : k0_cond3 i = 1#1) (h4 : ¬k0_cond4 i = 1#1)
    (d : Blocks F) :
    Leaves b.a11 (runA c i b h1 h2 h3 h4 d).1 (d.dx)
    ∧ Leaves b.a12 (runA c i b h1 h2 h3 h4 d).2.1 (d.dm)
    ∧ Leaves b.a13 (runA c i b h1 h2 h3 h4 d).2.2.1 (d.ds)
    ∧ Leaves b.a14 (runA c i b h1 h2 h3 h4 d).2.2.2.1 (d.dO)
    ∧ Leaves b.a15 (runA c i b h1 h2 h3 h4 d).2.2.2.2.1 (d.dr)
    ∧ Leaves b.a16 (runA c i b h1 h2 h3 h4 d).2.2.2.2.2.1 (d.dl)
    ∧ Leaves b.a17 (runA c i b h1 h2 h3 h4 d).2.2.2.2.2.2.1 (d.dn)
    ∧ Leaves b.a18 (runA c i b h1 h2 h3 h4 d).2.2.2.2.2.2.2.1 (d.zt)
    ∧ Leaves b.a19 (runA c i b h1 h2 h3 h4 d).2.2.2.2.2.2.2.2.1 (d.at_)
    ∧ Leaves b.a20 (runA c i b h1 h2 h3 h4 d).2.2.2.2.2.2.2.2.2.1 (d.de)
    ∧ Leaves b.a21 (runA c i b h1 h2 h3 h4 d).2.2.2.2.2.2.2.2.2.2.1 (d.db) := by
  refine ⟨leaves_one _ inb_S256x1024_S256x1024_0_0 ?_, leaves_one _ inb_S1x8x1024_S1x8x1024_0_0_0 ?_, leaves_one _ inb_S256x256_S256x256_0_0 ?_, leaves_one _ inb_S256x256_S256x256_0_0 ?_, leaves_one _ inb_S256x256_S256x256_0_0 ?_, leaves_one _ inb_S256x512_S256x512_0_0 ?_, leaves_one _ inb_S1x256_S1x256_0_0 ?_, leaves_one _ inb_S256x1024_S256x1024_0_0 ?_, leaves_one _ inb_S1024x256_S1024x256_0_0 ?_, leaves_one _ inb_S8x256_S8x256_0_0 ?_, leaves_one _ inb_S256x512_S256x512_0_0 ?_⟩
  all_goals
    simp only [runA.sl.v33, runA.sl.cst_27, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23]
    repeat rw [load_whole]
    rfl

set_option maxHeartbeats 4000000 in
theorem readB (c : Dev nD) (i : grid0.Coords) (b : Bufs) (h1 : k0_cond1 i = 1#1) (h2 : ¬k0_cond2 i = 1#1) (h3 : ¬k0_cond3 i = 1#1) (h4 : k0_cond4 i = 1#1)
    (d : Blocks F) (on : Vec F S1x256 .f32) :
    Leaves b.a11 (runB c i b h1 h2 h3 h4 d on).1 (d.dx)
    ∧ Leaves b.a12 (runB c i b h1 h2 h3 h4 d on).2.1 (d.dm)
    ∧ Leaves b.a13 (runB c i b h1 h2 h3 h4 d on).2.2.1 (d.ds)
    ∧ Leaves b.a14 (runB c i b h1 h2 h3 h4 d on).2.2.2.1 (d.dO)
    ∧ Leaves b.a15 (runB c i b h1 h2 h3 h4 d on).2.2.2.2.1 (d.dr)
    ∧ Leaves b.a16 (runB c i b h1 h2 h3 h4 d on).2.2.2.2.2.1 (d.dl)
    ∧ Leaves b.a17 (runB c i b h1 h2 h3 h4 d on).2.2.2.2.2.2.1 (d.dnStep on)
    ∧ Leaves b.a18 (runB c i b h1 h2 h3 h4 d on).2.2.2.2.2.2.2.1 (d.zt)
    ∧ Leaves b.a19 (runB c i b h1 h2 h3 h4 d on).2.2.2.2.2.2.2.2.1 (d.at_)
    ∧ Leaves b.a20 (runB c i b h1 h2 h3 h4 d on).2.2.2.2.2.2.2.2.2.1 (d.de)
    ∧ Leaves b.a21 (runB c i b h1 h2 h3 h4 d on).2.2.2.2.2.2.2.2.2.2.1 (d.db) := by
  refine ⟨leaves_one _ inb_S256x1024_S256x1024_0_0 ?_, leaves_one _ inb_S1x8x1024_S1x8x1024_0_0_0 ?_, leaves_one _ inb_S256x256_S256x256_0_0 ?_, leaves_one _ inb_S256x256_S256x256_0_0 ?_, leaves_one _ inb_S256x256_S256x256_0_0 ?_, leaves_one _ inb_S256x512_S256x512_0_0 ?_, leaves_one _ inb_S1x256_S1x256_0_0 ?_, leaves_one _ inb_S256x1024_S256x1024_0_0 ?_, leaves_one _ inb_S1024x256_S1024x256_0_0 ?_, leaves_one _ inb_S8x256_S8x256_0_0 ?_, leaves_one _ inb_S256x512_S256x512_0_0 ?_⟩
  all_goals
    simp only [runB.sl.v33, runB.sl.cst_27, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23]
    repeat rw [load_whole]
    rfl

set_option maxHeartbeats 4000000 in
theorem readC (c : Dev nD) (i : grid0.Coords) (b : Bufs) (h1 : ¬k0_cond1 i = 1#1) (h2 : k0_cond2 i = 1#1) (h3 : ¬k0_cond3 i = 1#1) (h4 : k0_cond4 i = 1#1)
    (d : Blocks F) (om : Vec F S1x8x1024 .f32) (on : Vec F S1x256 .f32) :
    Leaves b.a11 (runC c i b h1 h2 h3 h4 d om on).1 (d.dx)
    ∧ Leaves b.a12 (runC c i b h1 h2 h3 h4 d om on).2.1 (d.dmStep om)
    ∧ Leaves b.a13 (runC c i b h1 h2 h3 h4 d om on).2.2.1 (d.ds)
    ∧ Leaves b.a14 (runC c i b h1 h2 h3 h4 d om on).2.2.2.1 (d.dO)
    ∧ Leaves b.a15 (runC c i b h1 h2 h3 h4 d om on).2.2.2.2.1 (d.dr)
    ∧ Leaves b.a16 (runC c i b h1 h2 h3 h4 d om on).2.2.2.2.2.1 (d.dl)
    ∧ Leaves b.a17 (runC c i b h1 h2 h3 h4 d om on).2.2.2.2.2.2.1 (d.dnStep on)
    ∧ Leaves b.a18 (runC c i b h1 h2 h3 h4 d om on).2.2.2.2.2.2.2.1 (d.zt)
    ∧ Leaves b.a19 (runC c i b h1 h2 h3 h4 d om on).2.2.2.2.2.2.2.2.1 (d.at_)
    ∧ Leaves b.a20 (runC c i b h1 h2 h3 h4 d om on).2.2.2.2.2.2.2.2.2.1 (d.de)
    ∧ Leaves b.a21 (runC c i b h1 h2 h3 h4 d om on).2.2.2.2.2.2.2.2.2.2.1 (d.db) := by
  refine ⟨leaves_one _ inb_S256x1024_S256x1024_0_0 ?_, leaves_one _ inb_S1x8x1024_S1x8x1024_0_0_0 ?_, leaves_one _ inb_S256x256_S256x256_0_0 ?_, leaves_one _ inb_S256x256_S256x256_0_0 ?_, leaves_one _ inb_S256x256_S256x256_0_0 ?_, leaves_one _ inb_S256x512_S256x512_0_0 ?_, leaves_one _ inb_S1x256_S1x256_0_0 ?_, leaves_one _ inb_S256x1024_S256x1024_0_0 ?_, leaves_one _ inb_S1024x256_S1024x256_0_0 ?_, leaves_one _ inb_S8x256_S8x256_0_0 ?_, leaves_one _ inb_S256x512_S256x512_0_0 ?_⟩
  all_goals
    simp only [runC.sl.v33, runC.sl.cst_27, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23]
    repeat rw [load_whole]
    rfl

end Cert.Out

end
-- ==== Proof.OutFrame.lean ====
/- # The projection's gradient: the whole call's run

What every point of the grid leaves in the kernel's buffers, and the run of the call from it: it ends, faults nowhere,
leaves its arguments as they were and every counter at zero.
-/
module

public import proofs.«01_k».proof.Proof.OutRead
public import proofs.«01_k».proof.Proof.Gen.OutBwdIdeal.Frame
public import Idealize.ShloMosaic.Lib.Pipeline.TableIdle
public import Idealize.ShloMosaic.Lib.Claim

@[expose] public section

set_option maxRecDepth 16384

noncomputable section

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutBwdIdeal Cert.OutBwdIdeal.Gen
open Idealize.ShloMosaic.Pipeline (Dat Cfg Window BodyObligation cellOf)

variable {F : FTy → Type} [FloatOps F]

local notation "𝕄" => MT nD τ sig Unit (Elt F) ℕ (UR sig nD τ) ℕ

/-- Which of the body's four branches a point takes: the modulation's sum starts at points 0 and 1, the norm weight's at point 0. -/
theorem conds : ∀ t : Fin grid0.N, (k0_cond1 (grid0.coords t) = 1#1 ↔ t.val < 2) ∧ (k0_cond2 (grid0.coords t) = 1#1 ↔ 2 ≤ t.val)
    ∧ (k0_cond3 (grid0.coords t) = 1#1 ↔ t.val = 0) ∧ (k0_cond4 (grid0.coords t) = 1#1 ↔ 1 ≤ t.val) := by decide +kernel

variable (m : (ℓ : Loc nD τ sig) → Buf (Elt F) ℓ) (ρ : Dev nD → PrngReg)

/-- The blocks the point `t` loads. -/
def blocks (c : Dev nD) (t : Fin cfg0.N) : Blocks F where
  x := iblk m c 0 t
  v := iblk m c 1 t
  s := iblk m c 2 t
  p := iblk m c 3 t
  q := iblk m c 4 t
  r := iblk m c 5 t
  l := iblk m c 6 t
  n := iblk m c 7 t
  w := iblk m c 8 t
  g := iblk m c 9 t
/-- The modulation's sum as the point numbered `k` leaves it. -/
def mods (c : Dev nD) : (k : ℕ) → k < cfg0.N → Vec F S1x8x1024 .f32
  | 0, h => (blocks m c ⟨0, h⟩).dm
  | k + 1, h => if k = 0 then (blocks m c ⟨k + 1, h⟩).dm else (blocks m c ⟨k + 1, h⟩).dmStep (mods c k (Nat.lt_of_succ_lt h))
/-- The norm weight's sum likewise. -/
def norms (c : Dev nD) : (k : ℕ) → k < cfg0.N → Vec F S1x256 .f32
  | 0, h => (blocks m c ⟨0, h⟩).dn
  | k + 1, h => (blocks m c ⟨k + 1, h⟩).dnStep (norms c k (Nat.lt_of_succ_lt h))

/-- The point before. -/
theorem before_lt {c : Cfg sig Λ₀} (t : Fin c.N) : t.val - 1 < c.N := Nat.lt_of_le_of_lt (Nat.sub_le _ _) t.isLt
theorem mods_start (c : Dev nD) (t : Fin cfg0.N) (h : t.val < 2) : mods m c t.val t.isLt = (blocks m c t).dm := by
  obtain ⟨k, hk⟩ := t
  match k, hk, h with
  | 0, hk, _ => rfl
  | 1, hk, _ => exact if_pos rfl
  | k + 2, hk, h => exact absurd h (by simp)
theorem mods_go (c : Dev nD) (t : Fin cfg0.N) (h : 2 ≤ t.val) :
    mods m c t.val t.isLt = (blocks m c t).dmStep (mods m c (t.val - 1) (before_lt t)) := by
  obtain ⟨k, hk⟩ := t
  match k, hk, h with
  | 0, _, h => exact absurd h (by simp)
  | 1, _, h => exact absurd h (by simp)
  | k + 2, hk, _ => exact if_neg (Nat.succ_ne_zero k)
theorem norms_start (c : Dev nD) (t : Fin cfg0.N) (h : t.val = 0) : norms m c t.val t.isLt = (blocks m c t).dn := by
  obtain ⟨k, hk⟩ := t
  match k, hk, h with
  | 0, hk, _ => rfl
  | k + 1, hk, h => exact absurd h (by simp)
theorem norms_go (c : Dev nD) (t : Fin cfg0.N) (h : 1 ≤ t.val) :
    norms m c t.val t.isLt = (blocks m c t).dnStep (norms m c (t.val - 1) (before_lt t)) := by
  obtain ⟨k, hk⟩ := t
  match k, hk, h with
  | 0, _, h => exact absurd h (by simp)
  | k + 1, hk, _ => rfl

/-- What each point leaves in every window's buffer: an input's block as it was, a result's block as the point computes it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (blocks m c t).dx
    | ⟨11, _⟩ => mods m c t.val t.isLt
    | ⟨12, _⟩ => (blocks m c t).ds
    | ⟨13, _⟩ => (blocks m c t).dO
    | ⟨14, _⟩ => (blocks m c t).dr
    | ⟨15, _⟩ => (blocks m c t).dl
    | ⟨16, _⟩ => norms m c t.val t.isLt
    | ⟨17, _⟩ => (blocks m c t).zt
    | ⟨18, _⟩ => (blocks m c t).at_
    | ⟨19, _⟩ => (blocks m c t).de
    | ⟨20, _⟩ => (blocks m c t).db
    | ⟨k + 21, h⟩ => absurd h (Nat.not_lt.mpr (Nat.le_add_left 21 k))
  Φ _ := Pipeline.ΦA spec0 c
  q _ := fullShare
  owed _ := 0

theorem A_eq (c : Dev nD) (w : Fin cfg0.W) : (dats m 0 c).A w = V m c (Pipeline.arrRef spec0 w) := by dsimp only [dats]

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = (blocks m c t).dx := by dsimp only [dats]
theorem after_11 : (dats m 0 c).after 11 t = mods m c t.val t.isLt := by dsimp only [dats]
theorem after_12 : (dats m 0 c).after 12 t = (blocks m c t).ds := by dsimp only [dats]
theorem after_13 : (dats m 0 c).after 13 t = (blocks m c t).dO := by dsimp only [dats]
theorem after_14 : (dats m 0 c).after 14 t = (blocks m c t).dr := by dsimp only [dats]
theorem after_15 : (dats m 0 c).after 15 t = (blocks m c t).dl := by dsimp only [dats]
theorem after_16 : (dats m 0 c).after 16 t = norms m c t.val t.isLt := by dsimp only [dats]
theorem after_17 : (dats m 0 c).after 17 t = (blocks m c t).zt := by dsimp only [dats]
theorem after_18 : (dats m 0 c).after 18 t = (blocks m c t).at_ := by dsimp only [dats]
theorem after_19 : (dats m 0 c).after 19 t = (blocks m c t).de := by dsimp only [dats]
theorem after_20 : (dats m 0 c).after 20 t = (blocks m c t).db := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d
end

/-- Every point stores into both sums. -/
theorem live_11 : ∀ t : Fin cfg0.N, cfg0.idle 11 (cfg0.grid.coords t) = false := by decide +kernel
theorem live_16 : ∀ t : Fin cfg0.N, cfg0.idle 16 (cfg0.grid.coords t) = false := by decide +kernel
/-- The modulation's buffer holds nothing yet at points 0 and 1, and past the last; the norm weight's at point 0. -/
def new_11 (n : ℕ) : Bool := n == 0 || n == 1 || n == 33
@[inherit_doc new_11]
def new_16 (n : ℕ) : Bool := n == 0 || n == 33
theorem new_step_11 : ∀ t : Fin cfg0.N, new_11 (t.val + 1) = ((cfg0.win 11).flush t || (cfg0.idle 11 (cfg0.grid.coords t) && new_11 t.val)) := by decide +kernel
theorem new_step_16 : ∀ t : Fin cfg0.N, new_16 (t.val + 1) = ((cfg0.win 16).flush t || (cfg0.idle 16 (cfg0.grid.coords t) && new_16 t.val)) := by decide +kernel
theorem fresh_11 (t : Fin cfg0.N) : cfg0.fresh 11 t.val = new_11 t.val :=
  Pipeline.Cfg.fresh_tab cfg0 11 new_11 rfl new_step_11 t.val (Nat.le_of_lt t.isLt)
theorem fresh_16 (t : Fin cfg0.N) : cfg0.fresh 16 t.val = new_16 t.val :=
  Pipeline.Cfg.fresh_tab cfg0 16 new_16 rfl new_step_16 t.val (Nat.le_of_lt t.isLt)
/-- From then on the body finds in it what the point before left. -/
theorem before_11 (c : Dev nD) (t : Fin cfg0.N) (h : 2 ≤ t.val) (d) :
    (dats m 0 c).before 11 t d = mods m c (t.val - 1) (before_lt t) := by
  have hN : t.val < 33 := lt_of_lt_of_eq t.isLt (show cfg0.N = 33 from N_0)
  rw [Dat.before_out_traj _ 11 rfl (fun _ _ => rfl) (fun t _ hi _ => absurd ((live_11 t).symm.trans hi) Bool.false_ne_true) t.val t rfl d,
    if_neg (by rw [fresh_11 t]; simp only [new_11, Bool.or_eq_true, beq_iff_eq]; omega)]
  dsimp only [dats]
@[inherit_doc before_11]
theorem before_16 (c : Dev nD) (t : Fin cfg0.N) (h : 1 ≤ t.val) (d) :
    (dats m 0 c).before 16 t d = norms m c (t.val - 1) (before_lt t) := by
  have hN : t.val < 33 := lt_of_lt_of_eq t.isLt (show cfg0.N = 33 from N_0)
  rw [Dat.before_out_traj _ 16 rfl (fun _ _ => rfl) (fun t _ hi _ => absurd ((live_16 t).symm.trans hi) Bool.false_ne_true) t.val t rfl d,
    if_neg (by rw [fresh_16 t]; simp only [new_16, Bool.or_eq_true, beq_iff_eq]; omega)]
  dsimp only [dats]

/-- The buffers of a point. -/
def bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := win0_20.stage (cfg0.slots t 20)
  h21 := hstage0_20 ((cfg0.slots t 20).cast nbuf0_20)
/-- What the body finds at a point, window by window, and what it leaves. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d)))
@[inherit_doc pre]
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)
section
variable (c : Dev nD) (t : Fin cfg0.N)
theorem leaves_0 : (dats m 0 c).leavesExact 0 t = owns (c : Thread nD τ) (win0_0.stage (cfg0.slots t 0)) fullShare (iblk m c 0 t) := by
  unfold Dat.leavesExact; rw [show cfg0.idle 0 (cfg0.grid.coords t) = false from rfl, after_0]
theorem leaves_1 : (dats m 0 c).leavesExact 1 t = owns (c : Thread nD τ) (win0_1.stage (cfg0.slots t 1)) fullShare (iblk m c 1 t) := by
  unfold Dat.leavesExact; rw [show cfg0.idle 1 (cfg0.grid.coords t) = false from rfl, after_1]
theorem leaves_2 : (dats m 0 c).leavesExact 2 t = owns (c : Thread nD τ) (win0_2.stage (cfg0.slots t 2)) fullShare (iblk m c 2 t) := by
  unfold Dat.leavesExact; rw [show cfg0.idle 2 (cfg0.grid.coords t) = false from rfl, after_2]
theorem leaves_3 : (dats m 0 c).leavesExact 3 t = owns (c : Thread nD τ) (win0_3.stage (cfg0.slots t 3)) fullShare (iblk m c 3 t) := by
  unfold Dat.leavesExact; rw [show cfg0.idle 3 (cfg0.grid.coords t) = false from rfl, after_3]
theorem leaves_4 : (dats m 0 c).leavesExact 4 t = owns (c : Thread nD τ) (win0_4.stage (cfg0.slots t 4)) fullShare (iblk m c 4 t) := by
  unfold Dat.leavesExact; rw [show cfg0.idle 4 (cfg0.grid.coords t) = false from rfl, after_4]
theorem leaves_5 : (dats m 0 c).leavesExact 5 t = owns (c : Thread nD τ) (win0_5.stage (cfg0.slots t 5)) fullShare (iblk m c 5 t) := by
  unfold Dat.leavesExact; rw [show cfg0.idle 5 (cfg0.grid.coords t) = false from rfl, after_5]
theorem leaves_6 : (dats m 0 c).leavesExact 6 t = owns (c : Thread nD τ) (win0_6.stage (cfg0.slots t 6)) fullShare (iblk m c 6 t) := by
  unfold Dat.leavesExact; rw [show cfg0.idle 6 (cfg0.grid.coords t) = false from rfl, after_6]
theorem leaves_7 : (dats m 0 c).leavesExact 7 t = owns (c : Thread nD τ) (win0_7.stage (cfg0.slots t 7)) fullShare (iblk m c 7 t) := by
  unfold Dat.leavesExact; rw [show cfg0.idle 7 (cfg0.grid.coords t) = false from rfl, after_7]
theorem leaves_8 : (dats m 0 c).leavesExact 8 t = owns (c : Thread nD τ) (win0_8.stage (cfg0.slots t 8)) fullShare (iblk m c 8 t) := by
  unfold Dat.leavesExact; rw [show cfg0.idle 8 (cfg0.grid.coords t) = false from rfl, after_8]
theorem leaves_9 : (dats m 0 c).leavesExact 9 t = owns (c : Thread nD τ) (win0_9.stage (cfg0.slots t 9)) fullShare (iblk m c 9 t) := by
  unfold Dat.leavesExact; rw [show cfg0.idle 9 (cfg0.grid.coords t) = false from rfl, after_9]
theorem leaves_10 : (dats m 0 c).leavesExact 10 t = owns (c : Thread nD τ) (win0_10.stage (cfg0.slots t 10)) fullShare ((blocks m c t).dx) := by
  unfold Dat.leavesExact; rw [show cfg0.idle 10 (cfg0.grid.coords t) = false from rfl, after_10]
theorem leaves_11 : (dats m 0 c).leavesExact 11 t = owns (c : Thread nD τ) (win0_11.stage (cfg0.slots t 11)) fullShare (mods m c t.val t.isLt) := by
  unfold Dat.leavesExact; rw [live_11 t, after_11]
theorem leaves_12 : (dats m 0 c).leavesExact 12 t = owns (c : Thread nD τ) (win0_12.stage (cfg0.slots t 12)) fullShare ((blocks m c t).ds) := by
  unfold Dat.leavesExact; rw [show cfg0.idle 12 (cfg0.grid.coords t) = false from rfl, after_12]
theorem leaves_13 : (dats m 0 c).leavesExact 13 t = owns (c : Thread nD τ) (win0_13.stage (cfg0.slots t 13)) fullShare ((blocks m c t).dO) := by
  unfold Dat.leavesExact; rw [show cfg0.idle 13 (cfg0.grid.coords t) = false from rfl, after_13]
theorem leaves_14 : (dats m 0 c).leavesExact 14 t = owns (c : Thread nD τ) (win0_14.stage (cfg0.slots t 14)) fullShare ((blocks m c t).dr) := by
  unfold Dat.leavesExact; rw [show cfg0.idle 14 (cfg0.grid.coords t) = false from rfl, after_14]
theorem leaves_15 : (dats m 0 c).leavesExact 15 t = owns (c : Thread nD τ) (win0_15.stage (cfg0.slots t 15)) fullShare ((blocks m c t).dl) := by
  unfold Dat.leavesExact; rw [show cfg0.idle 15 (cfg0.grid.coords t) = false from rfl, after_15]
theorem leaves_16 : (dats m 0 c).leavesExact 16 t = owns (c : Thread nD τ) (win0_16.stage (cfg0.slots t 16)) fullShare (norms m c t.val t.isLt) := by
  unfold Dat.leavesExact; rw [live_16 t, after_16]
theorem leaves_17 : (dats m 0 c).leavesExact 17 t = owns (c : Thread nD τ) (win0_17.stage (cfg0.slots t 17)) fullShare ((blocks m c t).zt) := by
  unfold Dat.leavesExact; rw [show cfg0.idle 17 (cfg0.grid.coords t) = false from rfl, after_17]
theorem leaves_18 : (dats m 0 c).leavesExact 18 t = owns (c : Thread nD τ) (win0_18.stage (cfg0.slots t 18)) fullShare ((blocks m c t).at_) := by
  unfold Dat.leavesExact; rw [show cfg0.idle 18 (cfg0.grid.coords t) = false from rfl, after_18]
theorem leaves_19 : (dats m 0 c).leavesExact 19 t = owns (c : Thread nD τ) (win0_19.stage (cfg0.slots t 19)) fullShare ((blocks m c t).de) := by
  unfold Dat.leavesExact; rw [show cfg0.idle 19 (cfg0.grid.coords t) = false from rfl, after_19]
theorem leaves_20 : (dats m 0 c).leavesExact 20 t = owns (c : Thread nD τ) (win0_20.stage (cfg0.slots t 20)) fullShare ((blocks m c t).db) := by
  unfold Dat.leavesExact; rw [show cfg0.idle 20 (cfg0.grid.coords t) = false from rfl, after_20]
end

/-- Pieces that leave `x` in a buffer, stored there, make it hold `x`. -/
theorem leaves_owns (c : Dev nD) {s : Shape} {e : EltTy} (a : Memref sig .tc .vmem s e) (L : List (View.Piece (Elt F) s e)) (x : s.Idx → Elt F e)
    (h : Leaves a L x) : iprop(∃ f, a.view.loc (c : Thread nD τ) ↦[a.view.set]{fullShare} a.view.writes (Elt F) f L) ⊢ (owns (c : Thread nD τ) a fullShare x : sProp 𝕄) := by
  iintro ⟨%f, H⟩
  unfold owns; iexists _; isplitr; swap; · iexact H
  ipureintro; exact h f

set_option maxHeartbeats 4000000 in
/-- The body, at every point: one of the three runs. -/
theorem sound (c : Dev nD) (t : Fin cfg0.N) :
    pre m c t ⊢ wp frame (wpE (defs₀ (F := F)) Variants.none c none) Set.univ (bodyAt0 t) (fun _ => post m c t) := by
  obtain ⟨hc1, hc2, hc3, hc4⟩ := conds t
  unfold pre post bodyAt0
  simp only [before_0, before_1, before_2, before_3, before_4, before_5, before_6, before_7, before_8, before_9]
  rw [show (dats m 0 c).Φ t.succ = (dats m 0 c).Φ t.castSucc from rfl, show (dats m 0 c).owesAt () t.succ = (dats m 0 c).owesAt () t.castSucc from rfl]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20]
  rcases (show t.val = 0 ∨ t.val = 1 ∨ 2 ≤ t.val by omega) with h | h | h
  · rw [mods_start m c t (by omega), norms_start m c t h]
    obtain ⟨e10, e11, e12, e13, e14, e15, e16, e17, e18, e19, e20⟩ := readA c (grid0.coords t) (bufs t) (hc1.mpr (by omega)) (fun e => absurd (hc2.mp e) (by omega)) (hc3.mpr h) (fun e => absurd (hc4.mp e) (by omega)) (blocks m c t)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runA c (grid0.coords t) (bufs t) (hc1.mpr (by omega)) (fun e => absurd (hc2.mp e) (by omega)) (hc3.mpr h) (fun e => absurd (hc4.mp e) (by omega)) (blocks m c t)).2.2.2.2.2.2.2.2.2.2.2 _)
    isplitl [H0 H1 H2 H3 H4 H5 H6 H7 H8 H9]
    · unfold loaded
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    unfold loaded
    iintro ⟨⟨H0, H1, H2, H3, H4, H5, H6, H7, H8, H9⟩, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_owns c _ _ _ e10); iexact H10
    isplitl [H11]; · iapply (leaves_owns c _ _ _ e11); iexact H11
    isplitl [H12]; · iapply (leaves_owns c _ _ _ e12); iexact H12
    isplitl [H13]; · iapply (leaves_owns c _ _ _ e13); iexact H13
    isplitl [H14]; · iapply (leaves_owns c _ _ _ e14); iexact H14
    isplitl [H15]; · iapply (leaves_owns c _ _ _ e15); iexact H15
    isplitl [H16]; · iapply (leaves_owns c _ _ _ e16); iexact H16
    isplitl [H17]; · iapply (leaves_owns c _ _ _ e17); iexact H17
    isplitl [H18]; · iapply (leaves_owns c _ _ _ e18); iexact H18
    isplitl [H19]; · iapply (leaves_owns c _ _ _ e19); iexact H19
    iapply (leaves_owns c _ _ _ e20); iexact H20
  · rw [mods_start m c t (by omega), norms_go m c t (by omega)]
    simp only [before_16 m c t (by omega)]
    obtain ⟨e10, e11, e12, e13, e14, e15, e16, e17, e18, e19, e20⟩ := readB c (grid0.coords t) (bufs t) (hc1.mpr (by omega)) (fun e => absurd (hc2.mp e) (by omega)) (fun e => absurd (hc3.mp e) (by omega)) (hc4.mpr (by omega)) (blocks m c t) (norms m c (t.val - 1) (before_lt t))
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runB c (grid0.coords t) (bufs t) (hc1.mpr (by omega)) (fun e => absurd (hc2.mp e) (by omega)) (fun e => absurd (hc3.mp e) (by omega)) (hc4.mpr (by omega)) (blocks m c t) (norms m c (t.val - 1) (before_lt t))).2.2.2.2.2.2.2.2.2.2.2 _)
    isplitl [H0 H1 H2 H3 H4 H5 H6 H7 H8 H9]
    · unfold loaded
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexact H16
    isplitl [H17]; · iexists _; iexact H17
    isplitl [H18]; · iexists _; iexact H18
    isplitl [H19]; · iexists _; iexact H19
    isplitl [H20]; · iexists _; iexact H20
    unfold loaded
    iintro ⟨⟨H0, H1, H2, H3, H4, H5, H6, H7, H8, H9⟩, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_owns c _ _ _ e10); iexact H10
    isplitl [H11]; · iapply (leaves_owns c _ _ _ e11); iexact H11
    isplitl [H12]; · iapply (leaves_owns c _ _ _ e12); iexact H12
    isplitl [H13]; · iapply (leaves_owns c _ _ _ e13); iexact H13
    isplitl [H14]; · iapply (leaves_owns c _ _ _ e14); iexact H14
    isplitl [H15]; · iapply (leaves_owns c _ _ _ e15); iexact H15
    isplitl [H16]; · iapply (leaves_owns c _ _ _ e16); iexact H16
    isplitl [H17]; · iapply (leaves_owns c _ _ _ e17); iexact H17
    isplitl [H18]; · iapply (leaves_owns c _ _ _ e18); iexact H18
    isplitl [H19]; · iapply (leaves_owns c _ _ _ e19); iexact H19
    iapply (leaves_owns c _ _ _ e20); iexact H20
  · rw [mods_go m c t h, norms_go m c t (by omega)]
    simp only [before_11 m c t h, before_16 m c t (by omega)]
    obtain ⟨e10, e11, e12, e13, e14, e15, e16, e17, e18, e19, e20⟩ := readC c (grid0.coords t) (bufs t) (fun e => absurd (hc1.mp e) (by omega)) (hc2.mpr h) (fun e => absurd (hc3.mp e) (by omega)) (hc4.mpr (by omega)) (blocks m c t) (mods m c (t.val - 1) (before_lt t)) (norms m c (t.val - 1) (before_lt t))
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runC c (grid0.coords t) (bufs t) (fun e => absurd (hc1.mp e) (by omega)) (hc2.mpr h) (fun e => absurd (hc3.mp e) (by omega)) (hc4.mpr (by omega)) (blocks m c t) (mods m c (t.val - 1) (before_lt t)) (norms m c (t.val - 1) (before_lt t))).2.2.2.2.2.2.2.2.2.2.2 _)
    isplitl [H0 H1 H2 H3 H4 H5 H6 H7 H8 H9]
    · unfold loaded
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexact H11
    isplitl [H12]; · iexists _; iexact H12
    isplitl [H13]; · iexists _; iexact H13
    isplitl [H14]; · iexists _; iexact H14
    isplitl [H15]; · iexists _; iexact H15
    isplitl [H16]; · iexact H16
    isplitl [H17]; · iexists _; iexact H17
    isplitl [H18]; · iexists _; iexact H18
    isplitl [H19]; · iexists _; iexact H19
    isplitl [H20]; · iexists _; iexact H20
    unfold loaded
    iintro ⟨⟨H0, H1, H2, H3, H4, H5, H6, H7, H8, H9⟩, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_owns c _ _ _ e10); iexact H10
    isplitl [H11]; · iapply (leaves_owns c _ _ _ e11); iexact H11
    isplitl [H12]; · iapply (leaves_owns c _ _ _ e12); iexact H12
    isplitl [H13]; · iapply (leaves_owns c _ _ _ e13); iexact H13
    isplitl [H14]; · iapply (leaves_owns c _ _ _ e14); iexact H14
    isplitl [H15]; · iapply (leaves_owns c _ _ _ e15); iexact H15
    isplitl [H16]; · iapply (leaves_owns c _ _ _ e16); iexact H16
    isplitl [H17]; · iapply (leaves_owns c _ _ _ e17); iexact H17
    isplitl [H18]; · iapply (leaves_owns c _ _ _ e18); iexact H18
    isplitl [H19]; · iapply (leaves_owns c _ _ _ e19); iexact H19
    iapply (leaves_owns c _ _ _ e20); iexact H20

theorem body_row (t : Fin cfg0.N) : defs₀ (F := F) .tc cfg0.body (cfg0.bodyArgs t (cfg0.slots t)) = bodyAt0 t := by
  unfold defs₀; rw [Defs.onTc_tc]
/-- The obligation of the body, as the launch asks for it. -/
theorem body_sound (c : Dev nD) : BodyObligation (dats (F := F) m 0 c) (defs₀ (F := F)) Variants.none () Set.univ := fun t => by
  rw [bigSep_W0, bigSep_W0, body_row]
  exact triple_restated (sound m c t) rfl .rfl fun _ => .rfl

set_option backward.isDefEq.respectTransparency.types false in
/-- The call runs to its end: every window's array is what its blocks make it, and every counter is at zero. -/
theorem run_arrays : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_sound m c).loose) (hshare := fun c => (dats m 0 c).share_full fun _ => rfl)
    (howed := fun _ _ => rfl) (V := V m) (hmain := hmain m Variants.none) (hA := A_eq m) (hΦ := fun _ _ => rfl)

/-- The kernel ends with its arguments unchanged and no counter raised. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_arrays m ρ)))
    ((θ_run defs _ _).mono (fun _ h => h.2) (run_arrays m ρ))

end Cert.Out

end
-- ==== Proof.OutRow.lean ====
/- # The projection's gradient: one row

The row `o` of the two directions' sum, four heads of 64 lanes, is normed head by head with the weight `n`, gated by `r`, laid between the first
group's row `s` and the third group's row `l`, and multiplied by the projection `w`; `d` is the row of the output's cotangent and `g` the
modulation's gate.
-/
module

public import proofs.«01_k».proof.Proof.OutFrame
public import Idealize.ShloMosaic.Lib.Pipeline.ValueKit
public import Idealize.ShloMosaic.Lib.VecWindow

@[expose] public section

set_option maxRecDepth 16384

noncomputable section

namespace Cert.Out

open Idealize.ShloMosaic Idealize.ShloMosaic.TcCoe Idealize.SL.Sem

/-- Rows: of the normed group, of the third group, and of all three. -/
abbrev Lane := Fin 256 → EReal
@[inherit_doc Lane] abbrev Wide := Fin 512 → EReal
@[inherit_doc Lane] abbrev Row := Fin 1024 → EReal

/-- The head of a lane, and a head's lanes. -/
def hd (j : Fin 256) : Fin 4 := ⟨j.val / 64, by omega⟩
@[inherit_doc hd] def lane (h : Fin 4) (k : Fin 64) : Fin 256 := ⟨64 * h.val + k.val, by omega⟩
/-- The sum over one head. -/
def hsum (f : Lane) (h : Fin 4) : EReal := ∑ k, f (lane h k)
/-- The mean of the squares over a head, and the small constant. -/
def ms (o : Lane) (h : Fin 4) : EReal := Ideal.div (hsum (fun k => o k * o k) h) (Ideal.ofBits .f32 0x42800000#32) + Ideal.ofBits .f32 0x358637BD#32
/-- The root mean square, inverted, and the factor of its derivative. -/
def rms (o : Lane) (h : Fin 4) : EReal := Ideal.rsqrt (ms o h)
@[inherit_doc rms] def rmsd (o : Lane) (h : Fin 4) : EReal := Ideal.ofBits .f32 0xBF000000#32 * Ideal.div (rms o h) (ms o h)
/-- The normed row over its weight, and with it. -/
def unit (o : Lane) : Lane := fun j => o j * rms o (hd j)
@[inherit_doc unit] def normed (o n : Lane) : Lane := fun j => unit o j * n j
/-- The gate. -/
def silu (r : Lane) : Lane := fun j => r j * Ideal.logistic (r j)
/-- The three groups side by side. -/
def groups (s o r n : Lane) (l : Wide) : Row := fun j =>
  if h : j.val < 256 then s ⟨j.val, h⟩
  else if h' : j.val - 256 < 256 then normed o n ⟨j.val - 256, h'⟩ * silu r ⟨j.val - 256, h'⟩
  else l ⟨j.val - 256 - 256, by omega⟩
/-- Their product with the projection. -/
def proj (y : Row) (w : Fin 1024 → Row) : Row := fun k => ∑ i, y i * w i k
/-- The gated cotangent, -/
def gated (g d : Row) : Row := fun k => g k * d k
/-- the three groups' gradient, -/
def back (c : Row) (w : Fin 1024 → Row) : Row := fun i => ∑ k, c k * w i k
/-- its parts of the three groups, -/
def fst (e : Row) : Lane := fun j => e ⟨j.val, by omega⟩
@[inherit_doc fst] def mid (e : Row) : Lane := fun j => e ⟨256 + j.val, by omega⟩
@[inherit_doc fst] def low (e : Row) : Wide := fun j => e ⟨512 + j.val, by omega⟩
/-- the gate's, -/
def dgate (o n r e : Lane) : Lane := fun j =>
  normed o n j * e j * Ideal.logistic (r j) + r j * (normed o n j * e j) * (Ideal.logistic (r j) * (1 - Ideal.logistic (r j)))
/-- the normed row's, -/
def dnormed (r e : Lane) : Lane := fun j => e j * silu r j
/-- that over the weight, -/
def dunit (n u : Lane) : Lane := fun j => u j * n j
/-- the mean square's, -/
def dmean (o v : Lane) (h : Fin 4) : EReal := Ideal.div (hsum (fun k => o k * v k) h * rmsd o h) (Ideal.ofBits .f32 0x42800000#32)
/-- and the row's. -/
def drow (o v : Lane) : Lane := fun j => v j * rms o (hd j) + o j * dmean o v (hd j) + dmean o v (hd j) * o j

/-- The sum over one of the third group's heads of 128 lanes. -/
def wsum (f : Wide) (h : ℕ) : EReal := if h' : h < 4 then ∑ k : Fin 128, f ⟨128 * h + k.val, by omega⟩ else 0

/-! ## Heads as masks over the lanes -/

/-- One on a head's lanes, zero on the others. -/
def mask (h : Fin 4) (j : Fin 256) : EReal := if hd j = h then 1 else 0
theorem mask_sum (f : Lane) (h : Fin 4) : ∑ k, f k * mask h k = hsum f h := by
  have e : ∀ (a : Fin 4) (b : Fin 64), (finProdFinEquiv (a, b) : Fin (4 * 64)) = lane a b := fun a b => Fin.ext (by
    show b.val + 64 * a.val = 64 * a.val + b.val
    omega)
  have hh : ∀ (a : Fin 4) (b : Fin 64), hd (lane a b) = a := fun a b => Fin.ext (by simp only [hd, lane]; omega)
  rw [← (finProdFinEquiv (m := 4) (n := 64)).sum_comp (fun k : Fin 256 => f k * mask h k), Fintype.sum_prod_type,
    Finset.sum_eq_single h]
  · refine Finset.sum_congr rfl fun b _ => ?_
    rw [e, mask, if_pos (hh h b), mul_one]
  · intro a _ ha
    refine Finset.sum_eq_zero fun b _ => ?_
    rw [e, mask, if_neg (by rw [hh]; exact ha), mul_zero]
  · exact fun h' => absurd (Finset.mem_univ h) h'
theorem sum_mask (f : Lane) (h : Fin 4) : ∑ k, mask h k * f k = hsum f h := by
  rw [← mask_sum]; exact Finset.sum_congr rfl fun _ _ => mul_comm _ _
/-- A head's value picked by the masks. -/
theorem pick (j : Fin 256) (f : Fin 4 → EReal) : 0 + mask 0 j * f 0 + mask 1 j * f 1 + mask 2 j * f 2 + mask 3 j * f 3 = f (hd j) := by
  unfold mask
  generalize hd j = h
  fin_cases h <;> simp
theorem pick_row (j : Fin 256) (f : Fin 4 → EReal) (a o : EReal) :
    a + o * (f 3 * mask 3 j) + f 3 * mask 3 j * o + o * (f 2 * mask 2 j) + f 2 * mask 2 j * o + o * (f 1 * mask 1 j) + f 1 * mask 1 j * o
      + o * (f 0 * mask 0 j) + f 0 * mask 0 j * o = a + o * f (hd j) + f (hd j) * o := by
  unfold mask
  generalize hd j = h
  fin_cases h <;> simp
/-- Sixty-four, and one over it. -/
theorem width : Ideal.ofBits .f32 0x42800000#32 = ((64 : ℝ) : EReal) := by
  simp [Ideal.ofBits, Ideal.ieee, -EReal.coe_mul]; norm_num
theorem inv_width : Ideal.ofBits .f32 0x3C800000#32 = ((64⁻¹ : ℝ) : EReal) := by
  simp [Ideal.ofBits, Ideal.ieee, -EReal.coe_mul]; norm_num
/-- Functions of pairs, from their values at each of them. -/
theorem of_pairs {a b : ℕ} {f : (⟨2, ![a, b]⟩ : Shape).Idx → EReal} {g : Fin a → Fin b → EReal} (h : ∀ i k, f (ix2 i k) = g i k) :
    f = fun y => g (y 0) (y 1) := funext fun y =>
  (congrArg f (show y = ix2 (y 0) (y 1) from funext fun d => by fin_cases d <;> rfl)).trans (h _ _)
theorem over_width (x : EReal) : Ideal.div x (Ideal.ofBits .f32 0x42800000#32) = x * Ideal.ofBits .f32 0x3C800000#32 := by
  rw [width, inv_width, Ideal.div, if_neg (by norm_num), EReal.coe_inv]

open Cert.OutBwdIdeal Cert.OutBwdIdeal.Gen

/-- Zero or one from one bit. -/
theorem bit_value (b : BitVec 1) : (FloatOps.sitofp (F := Ideal) FTy.f32 (b.setWidth 32) : EReal) = if b = 1#1 then 1 else 0 := by
  show ((((b.setWidth 32 : BitVec 32)).toInt : ℝ) : EReal) = _
  rcases (show b = 0#1 ∨ b = 1#1 by revert b; decide) with rfl | rfl <;> simp
theorem lane_bits : ∀ j : Fin 256,
    (IntOp.andi (IntOp.cmpi .sge (BitVec.ofNat 32 j.val) 0#32) (IntOp.cmpi .slt (BitVec.ofNat 32 j.val) 64#32) = 1#1 ↔ hd j = 0)
    ∧ (IntOp.andi (IntOp.cmpi .sge (BitVec.ofNat 32 j.val) 64#32) (IntOp.cmpi .slt (BitVec.ofNat 32 j.val) 128#32) = 1#1 ↔ hd j = 1)
    ∧ (IntOp.andi (IntOp.cmpi .sge (BitVec.ofNat 32 j.val) 128#32) (IntOp.cmpi .slt (BitVec.ofNat 32 j.val) 192#32) = 1#1 ↔ hd j = 2)
    ∧ (IntOp.andi (IntOp.cmpi .sge (BitVec.ofNat 32 j.val) 192#32) (IntOp.cmpi .slt (BitVec.ofNat 32 j.val) 256#32) = 1#1 ↔ hd j = 3) := by
  decide +kernel
theorem mask0 (j : Fin 256) : (k0_pay11 (F := Ideal)) (ix2 0 j) = mask 0 j := by
  pointwise [k0_pay11]
  exact (bit_value _).trans (if_congr (lane_bits j).1 rfl rfl)
theorem mask1 (j : Fin 256) : (k0_pay14 (F := Ideal) Blocks.cols k0_pay13) (ix2 0 j) = mask 1 j := by
  pointwise [k0_pay14, k0_pay13, Blocks.cols]
  exact (bit_value _).trans (if_congr (lane_bits j).2.1 rfl rfl)
theorem mask2 (j : Fin 256) : (k0_pay15 (F := Ideal)) (ix2 0 j) = mask 2 j := by
  pointwise [k0_pay15]
  exact (bit_value _).trans (if_congr (lane_bits j).2.2.1 rfl rfl)
theorem mask3 (j : Fin 256) : (k0_pay17 (F := Ideal)) (ix2 0 j) = mask 3 j := by
  pointwise [k0_pay17]
  exact (bit_value _).trans (if_congr (lane_bits j).2.2.2 rfl rfl)

/-! ## A block's rows -/

namespace Blocks
variable (b : Blocks Ideal)

/-- The rows of the blocks. -/
def O (r : Fin 256) : Lane := fun k => b.p (ix2 r k) + b.q (ix2 r k)
@[inherit_doc O] def S (r : Fin 256) : Lane := fun k => b.s (ix2 r k)
@[inherit_doc O] def R (r : Fin 256) : Lane := fun k => b.r (ix2 r k)
@[inherit_doc O] def L (r : Fin 256) : Wide := fun k => b.l (ix2 r k)
@[inherit_doc O] def N : Lane := fun k => b.n (ix2 0 k)
@[inherit_doc O] def W (i : Fin 1024) : Row := fun k => b.w (ix2 i k)
@[inherit_doc O] def G : Row := fun k => b.v (ix3 0 2 k)
@[inherit_doc O] def D (r : Fin 256) : Row := fun k => b.g (ix2 r k)
/-- Their gated cotangent, and the three groups' gradient. -/
def C (r : Fin 256) : Row := gated b.G (b.D r)
@[inherit_doc C] def E (r : Fin 256) : Row := back (b.C r) b.W

theorem o_eq : b.o = fun y : S256x256.Idx => b.O (y 0) (y 1) := of_pairs (g := fun r j => b.O r j) fun r j => by
  beta_reduce
  pointwise [o, k0_pay10]
  rfl
theorem ms_eq : k0_pay19 b.ms3 (k0_pay17 (F := Ideal)) (k0_pay18 b.o) inv = fun y : S256x256.Idx => ms (b.O (y 0)) (hd (y 1)) := of_pairs (g := fun r j => ms (b.O r) (hd j)) fun r j => by
  beta_reduce
  have h0 := mask0
  have h1 := mask1
  have h2 := mask2
  have h3 := mask3
  unfold ms ms3 k0_pay16 k0_pay18 k0_pay12
  rw [show k0_pay10 b.p b.q = b.o from rfl, o_eq]
  generalize b.O = O
  revert h0 h1 h2 h3
  generalize k0_pay11 (F := Ideal) = m0
  generalize k0_pay14 (F := Ideal) cols k0_pay13 = m1
  generalize k0_pay15 (F := Ideal) = m2
  generalize k0_pay17 (F := Ideal) = m3
  intro h0 h1 h2 h3
  rw [over_width, ← pick j (fun h => hsum (fun k => O r k * O r k) h * Ideal.ofBits .f32 0x3C800000#32)]
  simp only [← mask_sum, ← h0, ← h1, ← h2, ← h3]
  pointwise [k0_pay19, inv]
theorem rs_eq : k0_pay20 b.ms3 (k0_pay17 (F := Ideal)) (k0_pay18 b.o) inv = fun y : S256x256.Idx => rms (b.O (y 0)) (hd (y 1)) := by
  unfold k0_pay20
  rw [ms_eq]
  rfl
theorem rs_eq' : b.rs = fun y : S256x256.Idx => rms (b.O (y 0)) (hd (y 1)) := rs_eq b
theorem rd_eq : b.rd = fun y : S256x256.Idx => rmsd (b.O (y 0)) (hd (y 1)) := by
  unfold Blocks.rd k0_pay21
  rw [rs_eq, ms_eq]
  rfl
/-- The normed rows. -/
theorem unit_eq : k0_pay22 b.o b.ms3 (k0_pay17 (F := Ideal)) (k0_pay18 b.o) inv = fun y : S256x256.Idx => unit (b.O (y 0)) (y 1) := by
  unfold k0_pay22
  rw [rs_eq, o_eq]
  rfl
theorem normed_eq : k0_pay23 b.n1 b.o b.ms3 (k0_pay17 (F := Ideal)) (k0_pay18 b.o) inv = fun y : S256x256.Idx => normed (b.O (y 0)) b.N (y 1) := of_pairs (g := fun r j => normed (b.O r) b.N j) fun r j => by
  beta_reduce
  unfold k0_pay23
  rw [unit_eq]
  generalize b.O = O
  pointwise [n1, k0_pay7]
  rfl
theorem y_at (r : Fin 256) (j : Fin 1024) : b.y (ix2 r j) = groups (b.S r) (b.O r) (b.R r) b.N (b.L r) j := by
  unfold y k0_pay26
  rw [normed_eq]
  generalize b.O = O
  generalize b.N = N
  pointwise [k0_pay25, k0_pay24]
  rfl
theorem y_eq : b.y = fun y : S256x1024.Idx => groups (b.S (y 0)) (b.O (y 0)) (b.R (y 0)) b.N (b.L (y 0)) (y 1) := of_pairs (y_at b)
theorem t_eq : b.t = fun y : S256x1024.Idx => b.C (y 0) (y 1) := of_pairs (g := fun r j => b.C r j) fun r j => by
  beta_reduce
  pointwise [t, k0_pay28, k0_pay27, v1, k0_pay6]
  rfl
theorem e_eq : k0_pay30 b.v1 b.w1 b.g = fun y : S256x1024.Idx => b.E (y 0) (y 1) := of_pairs (g := fun r j => b.E r j) fun r j => by
  beta_reduce
  unfold k0_pay30
  rw [show k0_pay28 b.v1 b.g = b.t from rfl, t_eq]
  unfold E back
  generalize b.C = C
  pointwise [w1, k0_pay8]
  rfl
theorem ds_at (r j : Fin 256) : b.ds (ix2 r j) = fst (b.E r) j := by
  unfold ds k0_pay31
  rw [e_eq]
  generalize b.E = E
  pointwise
  rfl
theorem mid_eq : k0_pay32 b.v1 b.w1 b.g = fun y : S256x256.Idx => mid (b.E (y 0)) (y 1) := of_pairs (g := fun r j => mid (b.E r) j) fun r j => by
  beta_reduce
  unfold k0_pay32
  rw [e_eq]
  generalize b.E = E
  pointwise
  rfl
theorem dl_eq : b.dl = fun y : S256x512.Idx => low (b.E (y 0)) (y 1) := of_pairs (g := fun r j => low (b.E r) j) fun r j => by
  beta_reduce
  unfold dl k0_pay33
  rw [e_eq]
  generalize b.E = E
  pointwise
  rfl
theorem u_eq : b.u = fun y : S256x256.Idx => dnormed (b.R (y 0)) (mid (b.E (y 0))) (y 1) := of_pairs (g := fun r j => dnormed (b.R r) (mid (b.E r)) j) fun r j => by
  beta_reduce
  unfold u k0_pay34
  rw [mid_eq]
  generalize b.E = E
  pointwise [k0_pay25, k0_pay24]
  rfl
theorem dr_at (r j : Fin 256) : b.dr (ix2 r j) = dgate (b.O r) b.N (b.R r) (mid (b.E r)) j := by
  unfold dr k0_pay35
  rw [mid_eq, normed_eq]
  generalize b.E = E
  generalize b.O = O
  generalize b.N = N
  pointwise [k0_pay24]
  rfl
theorem dn_at (j : Fin 256) : b.dn (ix2 0 j) = ∑ r, unit (b.O r) j * dnormed (b.R r) (mid (b.E r)) j := by
  unfold dn k0_pay36
  rw [unit_eq, show k0_pay34 b.v1 b.r b.w1 b.g = b.u from rfl, u_eq]
  generalize b.E = E
  generalize b.O = O
  generalize b.R = R
  pointwise [k0_pay37]
theorem dn_step (a : Vec Ideal S1x256 .f32) (j : Fin 256) : b.dnStep a (ix2 0 j) = a (ix2 0 j) + b.dn (ix2 0 j) := by
  unfold dnStep
  generalize b.dn = u
  pointwise [k0_pay1]
/-- The gradient of a head's mean square, its factor inside the sum. -/
def dmeanIn (o v : Lane) (h : Fin 4) : EReal := hsum (fun k => o k * v k * rmsd o (hd k)) h * Ideal.ofBits .f32 0x3C800000#32
theorem dO_at (r j : Fin 256) : b.dO (ix2 r j) = dunit b.N (dnormed (b.R r) (mid (b.E r))) j * rms (b.O r) (hd j)
    + b.O r j * dmeanIn (b.O r) (dunit b.N (dnormed (b.R r) (mid (b.E r)))) (hd j)
    + dmeanIn (b.O r) (dunit b.N (dnormed (b.R r) (mid (b.E r)))) (hd j) * b.O r j := by
  have hn : ∀ j : Fin 256, b.n1 (ix2 0 j) = b.N j := fun j => by pointwise [n1, k0_pay7]; rfl
  have h0 := mask0
  have h1 := mask1
  have h2 := mask2
  have h3 := mask3
  unfold dO k0_pay41 k0_pay40 k0_pay39 k0_pay38
  rw [rs_eq', rd_eq, o_eq, u_eq]
  revert hn
  generalize b.E = E
  generalize b.O = O
  generalize b.R = R
  generalize b.N = N
  generalize b.n1 = n
  intro hn
  revert h0 h1 h2 h3
  generalize k0_pay11 (F := Ideal) = m0
  generalize k0_pay14 (F := Ideal) cols k0_pay13 = m1
  generalize k0_pay15 (F := Ideal) = m2
  generalize k0_pay17 (F := Ideal) = m3
  intro h0 h1 h2 h3
  rw [← pick_row j (dmeanIn (O r) (dunit N (dnormed (R r) (mid (E r)))))]
  unfold dmeanIn
  simp only [← sum_mask, ← h0, ← h1, ← h2, ← h3, dunit, ← hn]
  pointwise
  try simp only [Finset.univ_unique, Finset.sum_singleton]
  try rfl
/-- The modulation's gradient: the gate's row, and no others. -/
theorem m8_at (i : Fin 8) (k : Fin 1024) : b.m8 (ix2 i k)
    = if i.val = 2 then ∑ r, b.D r k * proj (groups (b.S r) (b.O r) (b.R r) b.N (b.L r)) b.W k else 0 := by
  unfold m8 k0_pay29
  rw [show k0_pay26 b.s b.r b.l b.n1 b.o b.ms3 (k0_pay17 (F := Ideal)) (k0_pay18 b.o) inv = b.y from rfl, y_eq]
  generalize (fun r => groups (b.S r) (b.O r) (b.R r) b.N (b.L r)) = Y
  unfold proj
  fin_cases i <;> pointwise [k0_pay9, k0_pay27, w1, k0_pay8] <;> rfl
theorem dm_at (i : Fin 8) (k : Fin 1024) : b.dm (ix3 0 i k) = b.m8 (ix2 i k) := by
  unfold dm
  generalize b.m8 = u
  pointwise [k0_pay42]
theorem dm_step (a : Vec Ideal S1x8x1024 .f32) (i : Fin 8) (k : Fin 1024) : b.dmStep a (ix3 0 i k) = a (ix3 0 i k) + b.dm (ix3 0 i k) := by
  unfold dmStep dm
  generalize b.m8 = u
  pointwise [k0_pay43, k0_pay42]
theorem zt_at (r : Fin 256) (k : Fin 1024) : b.zt (ix2 r k) = b.C r k := by
  unfold zt
  rw [t_eq]
  generalize b.C = C
  pointwise [k0_pay2]
theorem at_at (i : Fin 1024) (r : Fin 256) : b.at_ (ix2 i r) = groups (b.S r) (b.O r) (b.R r) b.N (b.L r) i := by
  rw [← y_at]
  unfold at_
  generalize b.y = u
  pointwise [k0_pay3]
theorem db_at (r : Fin 256) (k : Fin 512) : b.db (ix2 r k) = low (b.E r) k := by
  unfold db
  rw [dl_eq]
  generalize b.E = E
  pointwise [k0_pay5]
theorem de_at (h : Fin 8) (r : Fin 256) : b.de (ix2 h r) = wsum (fun k => low (b.E r) k * b.L r k) h.val := by
  unfold de
  rw [dl_eq]
  generalize b.E = E
  unfold wsum
  fin_cases h <;> pointwise [k0_pay4] <;> rfl
end Blocks

end Cert.Out

end
-- ==== Proof.OutValue.lean ====
/- # The projection's gradient: its arguments by rows

The kernel's arguments by rows, what the host lines prepare from them, and every row's results as functions of them.
-/
module

public import proofs.«01_k».proof.Proof.OutEntry
public import proofs.«01_k».proof.Proof.OutRow
public import proofs.«01_k».proof.Proof.MlaPay
public import Idealize.ShloMosaic.Lib.StableHlo.RunRead

@[expose] public section

set_option maxRecDepth 16384

noncomputable section

namespace Cert.Out

open Idealize.ShloMosaic Idealize.ShloMosaic.TcCoe Idealize.SL.Sem
open Cert.OutBwdIdeal Cert.OutBwdIdeal.Gen

/-- The arguments by rows: the gate of the modulation, the three groups, the gate, the cotangent, and the two weights. -/
structure Args where
  g : ℕ → Row
  s : ℕ → Lane
  o : ℕ → Lane
  r : ℕ → Lane
  l : ℕ → Wide
  d : ℕ → Row
  n : Lane
  w : Fin 1024 → Row

namespace Args
variable (A : Args) (i : ℕ)
/-- The row of the three groups, -/
def y : Row := groups (A.s i) (A.o i) (A.r i) A.n (A.l i)
/-- its gated cotangent, -/
def c : Row := gated (A.g i) (A.d i)
/-- the three groups' gradient, -/
def e : Row := back (A.c i) A.w
/-- the normed row's, -/
def u : Lane := dnormed (A.r i) (mid (A.e i))
/-- that over the weight, -/
def v : Lane := dunit A.n (A.u i)
/-- and the gate's. -/
def dr : Lane := dgate (A.o i) A.n (A.r i) (mid (A.e i))
/-- The row's part of the modulation's gradient, -/
def dm : Row := fun k => A.d i k * proj (A.y i) A.w k
/-- and of the norm weight's. -/
def dn : Lane := fun j => unit (A.o i) j * A.u i j
/-- The row's gradient. -/
def dO : Lane := drow (A.o i) (A.v i)
/-- The row sums of the third group with its gradient. -/
def de : ℕ → EReal := wsum (fun k => low (A.e i) k * A.l i k)
/-- The modulation's gradient: the context's rows are the first 256. -/
def mods (q : ℕ) (j : ℕ) : Row := fun k =>
  if j = 2 then if q = 0 then ∑ r ∈ Finset.range 256, A.dm r k else ∑ r ∈ Finset.range 8192, A.dm (256 + r) k else 0
/-- The norm weight's gradient. -/
def norms : Lane := fun j => ∑ r ∈ Finset.range 8448, A.dn r j
end Args

/-- The arguments' arrays by rows. -/
def args (a1 a2 : FVec Ideal S6144 .f32) (a3 a4 a5 a6 : FVec Ideal S8448x256 .f32) (a7 : FVec Ideal S8448x512 .f32) (a8 : FVec Ideal S64 .f32)
    (a9 : FVec Ideal S1024x1024 .f32) (a10 : FVec Ideal S8448x1024 .f32) : Args where
  g i k := if i < 256 then a1 (ix1 ⟨2048 + k.val, by omega⟩) else a2 (ix1 ⟨2048 + k.val, by omega⟩)
  s i k := if h : i < 8448 then a3 (ix2 ⟨i, h⟩ k) else 0
  o i k := if h : i < 8448 then a4 (ix2 ⟨i, h⟩ k) + a5 (ix2 ⟨i, h⟩ k) else 0
  r i k := if h : i < 8448 then a6 (ix2 ⟨i, h⟩ k) else 0
  l i k := if h : i < 8448 then a7 (ix2 ⟨i, h⟩ k) else 0
  d i k := if h : i < 8448 then a10 (ix2 ⟨i, h⟩ k) else 0
  n k := a8 (ix1 ⟨k.val % 64, Nat.mod_lt _ (by omega)⟩)
  w i k := a9 (ix2 i k)

section
variable {a1 a2 : FVec Ideal S6144 .f32} {a3 a4 a5 a6 : FVec Ideal S8448x256 .f32} {a7 : FVec Ideal S8448x512 .f32} {a8 : FVec Ideal S64 .f32}
  {a9 : FVec Ideal S1024x1024 .f32} {a10 : FVec Ideal S8448x1024 .f32} {i : ℕ} (h : i < 8448)
theorem arg_s (k : Fin 256) : (args a1 a2 a3 a4 a5 a6 a7 a8 a9 a10).s i k = a3 (ix2 ⟨i, h⟩ k) := dif_pos h
theorem arg_o (k : Fin 256) : (args a1 a2 a3 a4 a5 a6 a7 a8 a9 a10).o i k = a4 (ix2 ⟨i, h⟩ k) + a5 (ix2 ⟨i, h⟩ k) := dif_pos h
theorem arg_r (k : Fin 256) : (args a1 a2 a3 a4 a5 a6 a7 a8 a9 a10).r i k = a6 (ix2 ⟨i, h⟩ k) := dif_pos h
theorem arg_l (k : Fin 512) : (args a1 a2 a3 a4 a5 a6 a7 a8 a9 a10).l i k = a7 (ix2 ⟨i, h⟩ k) := dif_pos h
theorem arg_d (k : Fin 1024) : (args a1 a2 a3 a4 a5 a6 a7 a8 a9 a10).d i k = a10 (ix2 ⟨i, h⟩ k) := dif_pos h
end

variable (m : (ℓ : Loc nD τ sig) → Buf (Elt Ideal) ℓ) (c : Dev nD)

/-- The kernel's arguments by rows. -/
def K : Args := args (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-! ## The arrays the host lines prepare -/

theorem K_g (i i' : ℕ) (h : i < 256 ↔ i' < 256) : (K m c).g i = (K m c).g i' := by
  unfold K args; simp only [h]
theorem V_n (k : Fin 256) : (V m c main_v11 : FVec Ideal S1x256 .f32) (ix2 0 k) = (K m c).n k := by
  rw [Entry.v11, Entry.v10, Entry.v9, Entry.v8, V_main_arg8]
  pointwise
  rfl
theorem V_w (i k : Fin 1024) : (V m c main_v12 : FVec Ideal S1024x1024 .bf16) (ix2 i k) = (K m c).w i k := by
  rw [Entry.v12, V_main_arg9]
  pointwise
  rfl
theorem V_g (q : Fin 2) (k : Fin 1024) : (V m c main_v7 : FVec Ideal S2x8x1024 .f32) (ix3 q 2 k) = (K m c).g (256 * q.val) k := by
  rw [Entry.v7, Entry.v6, Entry.v5, Entry.v4, Entry.v3, Entry.v2, Entry.v1, Entry.v0, Entry.cst, V_main_arg1, V_main_arg2]
  unfold K args
  fin_cases q
  · pointwise
  · pointwise

/-! ## The blocks a point loads -/

theorem idx : ∀ t : Fin cfg0.N, win0_0.index t = ![t.val, 0] ∧ win0_1.index t = ![min t.val 1, 0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0]
    ∧ win0_11.index t = ![min t.val 1, 0, 0] ∧ win0_12.index t = ![t.val, 0] ∧ win0_13.index t = ![t.val, 0] ∧ win0_14.index t = ![t.val, 0]
    ∧ win0_15.index t = ![t.val, 0] ∧ win0_16.index t = ![0, 0] ∧ win0_17.index t = ![t.val, 0] ∧ win0_18.index t = ![0, t.val]
    ∧ win0_19.index t = ![0, t.val] ∧ win0_20.index t = ![t.val, 0] := (by decide +kernel : ∀ t : Fin grid0.N, _)
theorem tlt (t : Fin cfg0.N) : t.val < 33 := Nat.lt_of_lt_of_eq t.isLt N_0

section
variable (t : Fin cfg0.N) (r : Fin 256)
theorem blk_2 (k : Fin 256) : (iblk m c 2 t : Vec Ideal S256x256 .f32) (ix2 r k)
    = (m ((c.tc : Thread nD τ).loc main_arg3) : FVec Ideal S8448x256 .f32) (ix2 ⟨256 * t.val + r.val, by have := tlt t; omega⟩ k) := by
  have e : (iblk m c 2 t : Vec Ideal S256x256 .f32) (ix2 r k) = (V m c main_arg3 : FVec Ideal S8448x256 .f32) (((cfg0.win 2).blk t).view.emb (ix2 r k)) := rfl
  rw [e, V_main_arg3]
  refine congrArg _ (funext fun k => Fin.ext ?_)
  fin_cases k <;> blk_simp [idx t] <;> first | rfl | (show _ = _ ; simp only [ix2]; omega)
theorem blk_3 (k : Fin 256) : (iblk m c 3 t : Vec Ideal S256x256 .f32) (ix2 r k)
    = (m ((c.tc : Thread nD τ).loc main_arg4) : FVec Ideal S8448x256 .f32) (ix2 ⟨256 * t.val + r.val, by have := tlt t; omega⟩ k) := by
  have e : (iblk m c 3 t : Vec Ideal S256x256 .f32) (ix2 r k) = (V m c main_arg4 : FVec Ideal S8448x256 .f32) (((cfg0.win 3).blk t).view.emb (ix2 r k)) := rfl
  rw [e, V_main_arg4]
  refine congrArg _ (funext fun k => Fin.ext ?_)
  fin_cases k <;> blk_simp [idx t] <;> first | rfl | (show _ = _ ; simp only [ix2]; omega)
theorem blk_4 (k : Fin 256) : (iblk m c 4 t : Vec Ideal S256x256 .f32) (ix2 r k)
    = (m ((c.tc : Thread nD τ).loc main_arg5) : FVec Ideal S8448x256 .f32) (ix2 ⟨256 * t.val + r.val, by have := tlt t; omega⟩ k) := by
  have e : (iblk m c 4 t : Vec Ideal S256x256 .f32) (ix2 r k) = (V m c main_arg5 : FVec Ideal S8448x256 .f32) (((cfg0.win 4).blk t).view.emb (ix2 r k)) := rfl
  rw [e, V_main_arg5]
  refine congrArg _ (funext fun k => Fin.ext ?_)
  fin_cases k <;> blk_simp [idx t] <;> first | rfl | (show _ = _ ; simp only [ix2]; omega)
theorem blk_5 (k : Fin 256) : (iblk m c 5 t : Vec Ideal S256x256 .f32) (ix2 r k)
    = (m ((c.tc : Thread nD τ).loc main_arg6) : FVec Ideal S8448x256 .f32) (ix2 ⟨256 * t.val + r.val, by have := tlt t; omega⟩ k) := by
  have e : (iblk m c 5 t : Vec Ideal S256x256 .f32) (ix2 r k) = (V m c main_arg6 : FVec Ideal S8448x256 .f32) (((cfg0.win 5).blk t).view.emb (ix2 r k)) := rfl
  rw [e, V_main_arg6]
  refine congrArg _ (funext fun k => Fin.ext ?_)
  fin_cases k <;> blk_simp [idx t] <;> first | rfl | (show _ = _ ; simp only [ix2]; omega)
theorem blk_6 (k : Fin 512) : (iblk m c 6 t : Vec Ideal S256x512 .f32) (ix2 r k)
    = (m ((c.tc : Thread nD τ).loc main_arg7) : FVec Ideal S8448x512 .f32) (ix2 ⟨256 * t.val + r.val, by have := tlt t; omega⟩ k) := by
  have e : (iblk m c 6 t : Vec Ideal S256x512 .f32) (ix2 r k) = (V m c main_arg7 : FVec Ideal S8448x512 .f32) (((cfg0.win 6).blk t).view.emb (ix2 r k)) := rfl
  rw [e, V_main_arg7]
  refine congrArg _ (funext fun k => Fin.ext ?_)
  fin_cases k <;> blk_simp [idx t] <;> first | rfl | (show _ = _ ; simp only [ix2]; omega)
theorem blk_9 (k : Fin 1024) : (iblk m c 9 t : Vec Ideal S256x1024 .f32) (ix2 r k)
    = (m ((c.tc : Thread nD τ).loc main_arg10) : FVec Ideal S8448x1024 .f32) (ix2 ⟨256 * t.val + r.val, by have := tlt t; omega⟩ k) := by
  have e : (iblk m c 9 t : Vec Ideal S256x1024 .f32) (ix2 r k) = (V m c main_arg10 : FVec Ideal S8448x1024 .f32) (((cfg0.win 9).blk t).view.emb (ix2 r k)) := rfl
  rw [e, V_main_arg10]
  refine congrArg _ (funext fun k => Fin.ext ?_)
  fin_cases k <;> blk_simp [idx t] <;> first | rfl | (show _ = _ ; simp only [ix2]; omega)
theorem row_s : (blocks m c t).S r = (K m c).s (256 * t.val + r.val) := funext fun k =>
  (blk_2 m c t r k).trans (arg_s (by have := tlt t; omega) k).symm
theorem row_r : (blocks m c t).R r = (K m c).r (256 * t.val + r.val) := funext fun k =>
  (blk_5 m c t r k).trans (arg_r (by have := tlt t; omega) k).symm
theorem row_l : (blocks m c t).L r = (K m c).l (256 * t.val + r.val) := funext fun k =>
  (blk_6 m c t r k).trans (arg_l (by have := tlt t; omega) k).symm
theorem row_d : (blocks m c t).D r = (K m c).d (256 * t.val + r.val) := funext fun k =>
  (blk_9 m c t r k).trans (arg_d (by have := tlt t; omega) k).symm
theorem row_o : (blocks m c t).O r = (K m c).o (256 * t.val + r.val) := funext fun k =>
  (congr (congrArg _ (blk_3 m c t r k)) (blk_4 m c t r k)).trans (arg_o (by have := tlt t; omega) k).symm
theorem row_n : (blocks m c t).N = (K m c).n := by
  funext k
  have e : (iblk m c 7 t : Vec Ideal S1x256 .f32) (ix2 0 k) = (V m c main_v11 : FVec Ideal S1x256 .f32) (((cfg0.win 7).blk t).view.emb (ix2 0 k)) := rfl
  have e' : ((cfg0.win 7).blk t).view.emb (ix2 0 k) = ix2 0 k := funext fun k => Fin.ext (by fin_cases k <;> blk_simp [idx t] <;> rfl)
  show (iblk m c 7 t : Vec Ideal S1x256 .f32) (ix2 0 k) = _
  rw [e, e', V_n]
theorem row_w : (blocks m c t).W = (K m c).w := by
  funext i k
  have e : (iblk m c 8 t : Vec Ideal S1024x1024 .bf16) (ix2 i k) = (V m c main_v12 : FVec Ideal S1024x1024 .bf16) (((cfg0.win 8).blk t).view.emb (ix2 i k)) := rfl
  have e' : ((cfg0.win 8).blk t).view.emb (ix2 i k) = ix2 i k := funext fun k => Fin.ext (by
    fin_cases k <;> blk_simp [idx t] <;> first | rfl | (show _ = _ ; simp only [ix2]; omega))
  show (iblk m c 8 t : Vec Ideal S1024x1024 .bf16) (ix2 i k) = _
  rw [e, e', V_w]
theorem row_g : (blocks m c t).G = (K m c).g (256 * t.val + r.val) := by
  funext k
  have e : (iblk m c 1 t : Vec Ideal S1x8x1024 .f32) (ix3 0 2 k) = (V m c main_v7 : FVec Ideal S2x8x1024 .f32) (((cfg0.win 1).blk t).view.emb (ix3 0 2 k)) := rfl
  have e' : ((cfg0.win 1).blk t).view.emb (ix3 0 2 k) = ix3 ⟨min t.val 1, by omega⟩ 2 k := funext fun k => Fin.ext (by
    fin_cases k <;> blk_simp [idx t] <;> first | rfl | (show _ = _ ; simp only [ix3]; omega))
  show (iblk m c 1 t : Vec Ideal S1x8x1024 .f32) (ix3 0 2 k) = _
  rw [e, e', V_g, K_g m c (256 * t.val + r.val) (256 * min t.val 1) (by omega)]

/-! ## What a point computes, by rows -/

theorem row_c : (blocks m c t).C r = (K m c).c (256 * t.val + r.val) := by
  unfold Blocks.C Args.c
  rw [row_d, ← row_g]
theorem row_e : (blocks m c t).E r = (K m c).e (256 * t.val + r.val) := by
  unfold Blocks.E Args.e
  rw [row_c, row_w]
theorem row_y : groups ((blocks m c t).S r) ((blocks m c t).O r) ((blocks m c t).R r) (blocks m c t).N ((blocks m c t).L r)
    = (K m c).y (256 * t.val + r.val) := by
  rw [row_s, row_o, row_r, row_n, row_l]
  rfl
theorem row_u : dnormed ((blocks m c t).R r) (mid ((blocks m c t).E r)) = (K m c).u (256 * t.val + r.val) := by
  rw [row_r, row_e]
  rfl
theorem row_dr (j : Fin 256) : (blocks m c t).dr (ix2 r j) = (K m c).dr (256 * t.val + r.val) j := by
  rw [Blocks.dr_at, row_o, row_n, row_r, row_e]
  rfl
theorem row_de (h : Fin 8) : (blocks m c t).de (ix2 h r) = (K m c).de (256 * t.val + r.val) h.val := by
  rw [Blocks.de_at, row_e, row_l]
  rfl
end

theorem row_dm (t : Fin cfg0.N) (j : Fin 8) (k : Fin 1024) :
    (blocks m c t).dm (ix3 0 j k) = if j.val = 2 then ∑ r : Fin 256, (K m c).dm (256 * t.val + r.val) k else 0 := by
  rw [Blocks.dm_at, Blocks.m8_at]
  simp only [row_y, row_w, row_d]
  rfl
theorem row_dn (t : Fin cfg0.N) (j : Fin 256) : (blocks m c t).dn (ix2 0 j) = ∑ r : Fin 256, (K m c).dn (256 * t.val + r.val) j := by
  rw [Blocks.dn_at]
  simp only [row_u, row_o]
  rfl

/-! ## The factor of a head's mean -/

/-- An extended real that is a real. -/
def Real (x : EReal) : Prop := ∃ r : ℝ, x = (r : EReal)
theorem Real.mul {x y : EReal} : Real x → Real y → Real (x * y) := by
  rintro ⟨a, rfl⟩ ⟨b, rfl⟩; exact ⟨a * b, (EReal.coe_mul _ _).symm⟩
theorem Real.add {x y : EReal} : Real x → Real y → Real (x + y) := by
  rintro ⟨a, rfl⟩ ⟨b, rfl⟩; exact ⟨a + b, (EReal.coe_add _ _).symm⟩
theorem Real.sum {n : ℕ} {f : Fin n → EReal} (h : ∀ k, Real (f k)) : Real (∑ k, f k) := by
  choose g hg using h
  exact ⟨∑ k, g k, (Finset.sum_congr rfl fun k _ => hg k).trans (Cert.Mla.coe_sum g)⟩
theorem Real.logistic {x : EReal} : Real x → Real (Ideal.logistic x) := by
  rintro ⟨a, rfl⟩; exact ⟨_, Ideal.logistic_coe _⟩
/-- The small constant is a positive real. -/
theorem small : ∃ e : ℝ, 0 < e ∧ Ideal.ofBits .f32 0x358637BD#32 = (e : EReal) :=
  ⟨(8796093 : ℝ) * 2 ^ (-43 : ℤ), by positivity, by simp [Ideal.ofBits, Ideal.ieee, -EReal.coe_mul]⟩
theorem minus_half : Real (Ideal.ofBits .f32 0xBF000000#32) :=
  ⟨-(1 / 2), by simp [Ideal.ofBits, Ideal.ieee, -EReal.coe_mul]; norm_num⟩
/-- A real row's factor is real. -/
theorem rmsd_real {o : Lane} (h : ∀ k, Real (o k)) (a : Fin 4) : Real (rmsd o a) := by
  choose g hg using h
  obtain ⟨e, he, hs⟩ := small
  obtain rfl : o = fun k => (g k : EReal) := funext hg
  have hm : ms (fun k => (g k : EReal)) a = ((∑ k, g (lane a k) * g (lane a k)) / 64 + e : ℝ) := by
    unfold ms hsum
    simp only [← EReal.coe_mul, Cert.Mla.coe_sum]
    rw [width, hs, Ideal.div_coe (by norm_num), ← EReal.coe_mul, ← EReal.coe_add]
    exact congrArg _ (by ring)
  have hp : 0 < (∑ k, g (lane a k) * g (lane a k)) / 64 + e :=
    add_pos_of_nonneg_of_pos (div_nonneg (Finset.sum_nonneg fun k _ => mul_self_nonneg _) (by norm_num)) he
  refine minus_half.mul ?_
  rw [rms, hm, Ideal.rsqrt_coe, if_neg (not_lt.mpr hp.le), if_neg hp.ne', Ideal.div_coe hp.ne']
  exact ⟨_, rfl⟩
/-- For real rows the factor may stand inside a head's sum. -/
theorem dmean_eq {o v : Lane} (ho : ∀ k, Real (o k)) (hv : ∀ k, Real (v k)) (a : Fin 4) : Blocks.dmeanIn o v a = dmean o v a := by
  have hh : ∀ b : Fin 64, hd (lane a b) = a := fun b => Fin.ext (by simp only [hd, lane]; omega)
  obtain ⟨q, hq⟩ := rmsd_real ho a
  choose f hf using fun k => (ho k).mul (hv k)
  unfold Blocks.dmeanIn dmean hsum
  rw [over_width]
  refine congrArg (· * _) ?_
  simp only [hh, hq, hf, ← EReal.coe_mul, Cert.Mla.coe_sum]
  rw [Finset.sum_mul]
/-- The arguments the gradient of the row needs to be real. -/
structure Args.IsReal (A : Args) : Prop where
  g : ∀ i k, Real (A.g i k)
  o : ∀ i k, Real (A.o i k)
  r : ∀ i k, Real (A.r i k)
  d : ∀ i k, Real (A.d i k)
  n : ∀ k, Real (A.n k)
  w : ∀ i k, Real (A.w i k)
theorem Args.IsReal.v {A : Args} (h : A.IsReal) (i : ℕ) (k : Fin 256) : Real (A.v i k) :=
  ((Real.sum fun j => ((h.g i j).mul (h.d i j)).mul (h.w _ j)).mul ((h.r i k).mul (h.r i k).logistic)).mul (h.n k)
theorem row_do (hr : (K m c).IsReal) (t : Fin cfg0.N) (r j : Fin 256) : (blocks m c t).dO (ix2 r j) = (K m c).dO (256 * t.val + r.val) j := by
  rw [Blocks.dO_at, row_u, row_o, row_n, show dunit (K m c).n ((K m c).u (256 * t.val + r.val)) = (K m c).v (256 * t.val + r.val) from rfl,
    dmean_eq (hr.o _) (hr.v _)]
  rfl

end Cert.Out

end
-- ==== Proof.OutArr.lean ====
/- # The projection's gradient: what the kernel leaves

From what every point leaves, what the eleven result arrays hold at the end.
-/
module

public import proofs.«01_k».proof.Proof.OutValue
public import proofs.«01_k».proof.Proof.LossClaim

@[expose] public section

set_option maxRecDepth 16384

noncomputable section

namespace Cert.Out

open Idealize.ShloMosaic Idealize.ShloMosaic.TcCoe Idealize.SL.Sem
open Cert.OutBwdIdeal Cert.OutBwdIdeal.Gen

variable (m : (ℓ : Loc nD τ sig) → Buf (Elt Ideal) ℓ) (c : Dev nD)

/-! ## The two sums -/

theorem mods_first (h : 0 < cfg0.N) (j : Fin 8) (k : Fin 1024) : mods m c 0 h (ix3 0 j k) = (K m c).mods 0 j.val k := by
  refine (congrFun (mods_start m c ⟨0, h⟩ (by simp)) _).trans ((row_dm m c ⟨0, h⟩ j k).trans ?_)
  unfold Args.mods
  rw [if_pos rfl, Finset.sum_range]
  simp only [Nat.mul_zero, Nat.zero_add]
theorem mods_sum (n : ℕ) : ∀ (h : n + 1 < cfg0.N) (j : Fin 8) (k : Fin 1024), mods m c (n + 1) h (ix3 0 j k)
    = if j.val = 2 then ∑ s ∈ Finset.range (n + 1), ∑ r : Fin 256, (K m c).dm (256 + (256 * s + r.val)) k else 0 := by
  have at_ : ∀ (n : ℕ) (k : Fin 1024), ∑ r : Fin 256, (K m c).dm (256 * (n + 1) + r.val) k
      = ∑ r : Fin 256, (K m c).dm (256 + (256 * n + r.val)) k := fun n k =>
    Finset.sum_congr rfl fun r _ => congrArg (fun i => (K m c).dm i k) (by omega)
  induction n with
  | zero =>
    intro h j k
    refine (congrFun (mods_start m c ⟨1, h⟩ (by simp)) _).trans ((row_dm m c ⟨1, h⟩ j k).trans ?_)
    rw [Finset.sum_range_one]
    exact if_congr Iff.rfl (at_ 0 k) rfl
  | succ n ih =>
    intro h j k
    refine (congrFun (mods_go m c ⟨n + 2, h⟩ (by simp)) _).trans ((Blocks.dm_step _ _ _ _).trans ?_)
    rw [Finset.sum_range_succ]
    refine (congr (congrArg _ (ih (Nat.lt_of_succ_lt h) j k)) (row_dm m c ⟨n + 2, h⟩ j k)).trans ?_
    by_cases hj : j.val = 2
    · simp only [if_pos hj]
      exact congrArg _ (at_ (n + 1) k)
    · simp only [if_neg hj, add_zero]
theorem norms_sum (n : ℕ) : ∀ (h : n < cfg0.N) (j : Fin 256), norms m c n h (ix2 0 j)
    = ∑ s ∈ Finset.range (n + 1), ∑ r : Fin 256, (K m c).dn (256 * s + r.val) j := by
  induction n with
  | zero =>
    intro h j
    refine (congrFun (norms_start m c ⟨0, h⟩ rfl) _).trans ((row_dn m c ⟨0, h⟩ j).trans ?_)
    rw [Finset.sum_range_one]
  | succ n ih =>
    intro h j
    refine (congrFun (norms_go m c ⟨n + 1, h⟩ (by simp)) _).trans ((Blocks.dn_step _ _ _).trans ?_)
    rw [Finset.sum_range_succ]
    exact congr (congrArg _ (ih (Nat.lt_of_succ_lt h) j)) (row_dn m c ⟨n + 1, h⟩ j)

/-! ## The eleven results -/

theorem last : ∀ t : Fin cfg0.N, ((cfg0.win 11).flush t = true → t.val = 0 ∨ t.val = 32) ∧ ((cfg0.win 16).flush t = true → t.val = 32) :=
  (by decide +kernel : ∀ t : Fin grid0.N, _)

theorem final_dx : (dats m 0 c).arrAt 10 (cfgs 0).N = fun y => (K m c).d (y 0).val (y 1) := by
  refine (dats m 0 c).arrAt_eq_of_covers 10 _ (by decide +kernel) fun t hf y => ?_
  have e : ∀ z, (dats m 0 c).after 10 t z = (K m c).d (256 * t.val + (z 0).val) (z 1) := by
    intro z
    rw [after_10]
    exact (congrArg (blocks m c t).dx (show z = ix2 (z 0) (z 1) from funext fun d => by fin_cases d <;> rfl)).trans (congrFun (row_d m c t (z 0)) (z 1))
  blk_simp
  rw [e]
  have core : ∀ (i i' : ℕ) (k k' : Fin 1024), i = i' → k = k' → (K m c).d i k = (K m c).d i' k' := by
    rintro i _ k _ rfl rfl; rfl
  refine core _ _ _ _ ?_ (Fin.ext ?_) <;> blk_simp [idx t] <;> first | rfl | (show _ = _ ; simp only [ix2]; omega)
theorem final_ds : (dats m 0 c).arrAt 12 (cfgs 0).N = fun y => (fun i => fst ((K m c).e i)) (y 0).val (y 1) := by
  refine (dats m 0 c).arrAt_eq_of_covers 12 _ (by decide +kernel) fun t hf y => ?_
  have e : ∀ z, (dats m 0 c).after 12 t z = (fun i => fst ((K m c).e i)) (256 * t.val + (z 0).val) (z 1) := by
    intro z
    rw [after_12]
    exact (congrArg (blocks m c t).ds (show z = ix2 (z 0) (z 1) from funext fun d => by fin_cases d <;> rfl)).trans ((Blocks.ds_at _ _ _).trans (congrArg (fun e => fst e (z 1)) (row_e m c t (z 0))))
  blk_simp
  rw [e]
  have core : ∀ (i i' : ℕ) (k k' : Fin 256), i = i' → k = k' → (fun i => fst ((K m c).e i)) i k = (fun i => fst ((K m c).e i)) i' k' := by
    rintro i _ k _ rfl rfl; rfl
  refine core _ _ _ _ ?_ (Fin.ext ?_) <;> blk_simp [idx t] <;> first | rfl | (show _ = _ ; simp only [ix2]; omega)
theorem final_do (hr : (K m c).IsReal) : (dats m 0 c).arrAt 13 (cfgs 0).N = fun y => (K m c).dO (y 0).val (y 1) := by
  refine (dats m 0 c).arrAt_eq_of_covers 13 _ (by decide +kernel) fun t hf y => ?_
  have e : ∀ z, (dats m 0 c).after 13 t z = (K m c).dO (256 * t.val + (z 0).val) (z 1) := by
    intro z
    rw [after_13]
    exact (congrArg (blocks m c t).dO (show z = ix2 (z 0) (z 1) from funext fun d => by fin_cases d <;> rfl)).trans (row_do m c hr t (z 0) (z 1))
  blk_simp
  rw [e]
  have core : ∀ (i i' : ℕ) (k k' : Fin 256), i = i' → k = k' → (K m c).dO i k = (K m c).dO i' k' := by
    rintro i _ k _ rfl rfl; rfl
  refine core _ _ _ _ ?_ (Fin.ext ?_) <;> blk_simp [idx t] <;> first | rfl | (show _ = _ ; simp only [ix2]; omega)
theorem final_dr : (dats m 0 c).arrAt 14 (cfgs 0).N = fun y => (K m c).dr (y 0).val (y 1) := by
  refine (dats m 0 c).arrAt_eq_of_covers 14 _ (by decide +kernel) fun t hf y => ?_
  have e : ∀ z, (dats m 0 c).after 14 t z = (K m c).dr (256 * t.val + (z 0).val) (z 1) := by
    intro z
    rw [after_14]
    exact (congrArg (blocks m c t).dr (show z = ix2 (z 0) (z 1) from funext fun d => by fin_cases d <;> rfl)).trans (row_dr m c t (z 0) (z 1))
  blk_simp
  rw [e]
  have core : ∀ (i i' : ℕ) (k k' : Fin 256), i = i' → k = k' → (K m c).dr i k = (K m c).dr i' k' := by
    rintro i _ k _ rfl rfl; rfl
  refine core _ _ _ _ ?_ (Fin.ext ?_) <;> blk_simp [idx t] <;> first | rfl | (show _ = _ ; simp only [ix2]; omega)
theorem final_dl : (dats m 0 c).arrAt 15 (cfgs 0).N = fun y => (fun i => low ((K m c).e i)) (y 0).val (y 1) := by
  refine (dats m 0 c).arrAt_eq_of_covers 15 _ (by decide +kernel) fun t hf y => ?_
  have e : ∀ z, (dats m 0 c).after 15 t z = (fun i => low ((K m c).e i)) (256 * t.val + (z 0).val) (z 1) := by
    intro z
    rw [after_15]
    exact (congrFun (Blocks.dl_eq _) z).trans (congrArg (fun e => low e (z 1)) (row_e m c t (z 0)))
  blk_simp
  rw [e]
  have core : ∀ (i i' : ℕ) (k k' : Fin 512), i = i' → k = k' → (fun i => low ((K m c).e i)) i k = (fun i => low ((K m c).e i)) i' k' := by
    rintro i _ k _ rfl rfl; rfl
  refine core _ _ _ _ ?_ (Fin.ext ?_) <;> blk_simp [idx t] <;> first | rfl | (show _ = _ ; simp only [ix2]; omega)
theorem final_zt : (dats m 0 c).arrAt 17 (cfgs 0).N = fun y => (K m c).c (y 0).val (y 1) := by
  refine (dats m 0 c).arrAt_eq_of_covers 17 _ (by decide +kernel) fun t hf y => ?_
  have e : ∀ z, (dats m 0 c).after 17 t z = (K m c).c (256 * t.val + (z 0).val) (z 1) := by
    intro z
    rw [after_17]
    exact (congrArg (blocks m c t).zt (show z = ix2 (z 0) (z 1) from funext fun d => by fin_cases d <;> rfl)).trans ((Blocks.zt_at _ _ _).trans (congrFun (row_c m c t (z 0)) (z 1)))
  blk_simp
  rw [e]
  have core : ∀ (i i' : ℕ) (k k' : Fin 1024), i = i' → k = k' → (K m c).c i k = (K m c).c i' k' := by
    rintro i _ k _ rfl rfl; rfl
  refine core _ _ _ _ ?_ (Fin.ext ?_) <;> blk_simp [idx t] <;> first | rfl | (show _ = _ ; simp only [ix2]; omega)
theorem final_at : (dats m 0 c).arrAt 18 (cfgs 0).N = fun y => (K m c).y (y 1).val (y 0) := by
  refine (dats m 0 c).arrAt_eq_of_covers 18 _ (by decide +kernel) fun t hf y => ?_
  have e : ∀ z, (dats m 0 c).after 18 t z = (K m c).y (256 * t.val + (z 1).val) (z 0) := by
    intro z
    rw [after_18]
    exact (congrArg (blocks m c t).at_ (show z = ix2 (z 0) (z 1) from funext fun d => by fin_cases d <;> rfl)).trans ((Blocks.at_at _ _ _).trans (congrFun (row_y m c t (z 1)) (z 0)))
  blk_simp
  rw [e]
  have core : ∀ (i i' : ℕ) (k k' : Fin 1024), i = i' → k = k' → (K m c).y i k = (K m c).y i' k' := by
    rintro i _ k _ rfl rfl; rfl
  refine core _ _ _ _ ?_ (Fin.ext ?_) <;> blk_simp [idx t] <;> first | rfl | (show _ = _ ; simp only [ix2]; omega)
theorem final_de : (dats m 0 c).arrAt 19 (cfgs 0).N = fun y => (K m c).de (y 1).val (y 0).val := by
  refine (dats m 0 c).arrAt_eq_of_covers 19 _ (by decide +kernel) fun t hf y => ?_
  have e : ∀ z, (dats m 0 c).after 19 t z = (K m c).de (256 * t.val + (z 1).val) (z 0).val := by
    intro z
    rw [after_19]
    exact (congrArg (blocks m c t).de (show z = ix2 (z 0) (z 1) from funext fun d => by fin_cases d <;> rfl)).trans (row_de m c t (z 1) (z 0))
  blk_simp
  rw [e]
  have core : ∀ (i i' k k' : ℕ), i = i' → k = k' → (K m c).de i k = (K m c).de i' k' := by
    rintro i _ k _ rfl rfl; rfl
  refine core _ _ _ _ ?_ ?_ <;> blk_simp [idx t] <;> first | rfl | (show _ = _ ; simp only [ix2]; omega)
theorem final_db : (dats m 0 c).arrAt 20 (cfgs 0).N = fun y => (fun i => low ((K m c).e i)) (y 0).val (y 1) := by
  refine (dats m 0 c).arrAt_eq_of_covers 20 _ (by decide +kernel) fun t hf y => ?_
  have e : ∀ z, (dats m 0 c).after 20 t z = (fun i => low ((K m c).e i)) (256 * t.val + (z 0).val) (z 1) := by
    intro z
    rw [after_20]
    exact (congrArg (blocks m c t).db (show z = ix2 (z 0) (z 1) from funext fun d => by fin_cases d <;> rfl)).trans ((Blocks.db_at _ _ _).trans (congrArg (fun e => low e (z 1)) (row_e m c t (z 0))))
  blk_simp
  rw [e]
  have core : ∀ (i i' : ℕ) (k k' : Fin 512), i = i' → k = k' → (fun i => low ((K m c).e i)) i k = (fun i => low ((K m c).e i)) i' k' := by
    rintro i _ k _ rfl rfl; rfl
  refine core _ _ _ _ ?_ (Fin.ext ?_) <;> blk_simp [idx t] <;> first | rfl | (show _ = _ ; simp only [ix2]; omega)
theorem final_dm : (dats m 0 c).arrAt 11 (cfgs 0).N = fun y : S2x8x1024.Idx => (K m c).mods (y 0).val (y 1).val (y 2) := by
  refine (dats m 0 c).arrAt_eq_of_covers 11 _ (by decide +kernel) fun t hf y => ?_
  have e : ∀ z : S1x8x1024.Idx, (dats m 0 c).after 11 t z = (K m c).mods (min t.val 1) (z 1).val (z 2) := by
    intro z
    have hz : z = ix3 0 (z 1) (z 2) := funext fun d => by
      fin_cases d
      · exact Subsingleton.elim (α := Fin 1) _ _
      all_goals rfl
    rw [after_11]
    obtain ⟨n, hn⟩ := t
    rcases (last ⟨n, hn⟩).1 hf with h | h <;> obtain rfl : n = _ := h
    · exact (congrArg _ hz).trans (mods_first m c hn (z 1) (z 2))
    · exact (congrArg _ hz).trans ((mods_sum m c 31 hn (z 1) (z 2)).trans
        (if_congr Iff.rfl ((Cert.Loss.by_blocks (fun i => (K m c).dm (256 + i) (z 2)) 32).trans (if_neg (by simp)).symm) rfl))
  blk_simp
  rw [e]
  have core : ∀ (q q' i i' : ℕ) (k k' : Fin 1024), q = q' → i = i' → k = k' → (K m c).mods q i k = (K m c).mods q' i' k' := by
    rintro q _ i _ k _ rfl rfl rfl; rfl
  refine core _ _ _ _ _ _ ?_ ?_ (Fin.ext ?_) <;> blk_simp [idx t] <;> first | rfl | (show _ = _ ; simp only [ix3]; omega)
theorem final_dn : (dats m 0 c).arrAt 16 (cfgs 0).N = fun y => (K m c).norms (y 1) := by
  refine (dats m 0 c).arrAt_eq_of_covers 16 _ (by decide +kernel) fun t hf y => ?_
  have e : ∀ z : S1x256.Idx, (dats m 0 c).after 16 t z = (K m c).norms (z 1) := by
    intro z
    have hz : z = ix2 0 (z 1) := funext fun d => by
      fin_cases d
      · exact Subsingleton.elim (α := Fin 1) _ _
      all_goals rfl
    rw [after_16]
    refine (congrArg _ hz).trans ((norms_sum m c _ _ (z 1)).trans ?_)
    rw [(last t).2 hf]
    exact Cert.Loss.by_blocks (fun i => (K m c).dn i (z 1)) 33
  blk_simp
  rw [e]
  have core : ∀ k k' : Fin 256, k = k' → (K m c).norms k = (K m c).norms k' := by
    rintro k _ rfl; rfl
  refine core _ _ (Fin.ext ?_) <;> blk_simp [idx t] <;> rfl

end Cert.Out

end
-- ==== Proof.OutRef.lean ====
/- # The projection's gradient: the reference's values

The reference's lines read one after the other, over any arguments' arrays, by the same functions of rows as the kernel's blocks.
-/
module

public import proofs.«01_k».proof.Proof.OutValue
public import proofs.«01_k».proof.Proof.LossClaim
public import proofs.«01_k».proof.Proof.Gen.OutBwdReferenceIdeal.Read

@[expose] public section

set_option maxRecDepth 16384

noncomputable section

namespace Cert.Out

open Idealize.ShloMosaic Idealize.SL.Sem

/-- A lane's place in its head. -/
def pos (j : Fin 256) : Fin 64 := ⟨j.val % 64, Nat.mod_lt _ (by omega)⟩
theorem lane_pos (j : Fin 256) : lane (hd j) (pos j) = j := Fin.ext (by simp only [lane, hd, pos]; omega)
theorem hd_lane (h : Fin 4) (k : Fin 64) : hd (lane h k) = h := Fin.ext (by simp only [hd, lane]; omega)
theorem pos_lane (h : Fin 4) (k : Fin 64) : pos (lane h k) = k := Fin.ext (by simp only [pos, lane]; omega)

section
open StableHlo Cert.OutBwdReferenceIdeal Cert.OutBwdReferenceIdeal.Gen Cert.OutBwdReferenceIdeal.Read
variable (a1 a2 : FVec Ideal S6144 .f32) (a3 a4 a5 a6 : FVec Ideal S8448x256 .f32) (a7 : FVec Ideal S8448x512 .f32) (a8 : FVec Ideal S64 .f32)
  (a9 : FVec Ideal S1024x1024 .f32) (a10 : FVec Ideal S8448x1024 .f32)

/-- The heads laid side by side. -/
theorem flat (u : FVec Ideal S8448x4x64 .f32) (i : Fin 8448) (j : Fin 256) :
    shapeCast S8448x256 u shapeCasts_S8448x4x64_S8448x256 (ix2 i j) = u (ix3 i (hd j) (pos j)) := by
  pointwise
  rfl

/-! ## The forward's lines -/

/-- The normed group's rows. -/
theorem ref_o (i : Fin 8448) (h : Fin 4) (k : Fin 64) : val_main_v15 (F := Ideal) a4 a5 (ix3 i h k) = (args a1 a2 a3 a4 a5 a6 a7 a8 a9 a10).o i.val (lane h k) := by
  rw [arg_o i.isLt]
  pointwise [val_main_v15, val_main_v14]
  have q : (⟨h.val * 64 + k.val, by omega⟩ : Fin 256) = lane h k := Fin.ext (by simp only [lane]; omega)
  rw [q]
theorem ref_ms (i : Fin 8448) (h : Fin 4) : val_main_v22 (F := Ideal) a4 a5 (ix3 i h 0) = ms ((args a1 a2 a3 a4 a5 a6 a7 a8 a9 a10).o i.val) h := by
  unfold ms hsum
  simp only [← ref_o a1 a2 a3 a4 a5 a6 a7 a8 a9 a10]
  unfold val_main_v22 val_main_v20 val_main_v18 val_main_v17 val_main_v16
  generalize val_main_v15 (F := Ideal) a4 a5 = u
  pointwise [val_main_v19, val_main_cst_1, val_main_v21, val_main_cst_2, val_main_cst_0]
  try rfl
theorem ref_rms (i : Fin 8448) (h : Fin 4) : val_main_v23 (F := Ideal) a4 a5 (ix3 i h 0) = rms ((args a1 a2 a3 a4 a5 a6 a7 a8 a9 a10).o i.val) h := by
  unfold rms
  rw [← ref_ms a1 a2 a3 a4 a5 a6 a7 a8 a9 a10]
  rfl
theorem ref_rmsd (i : Fin 8448) (h : Fin 4) : val_main_v26 (F := Ideal) a4 a5 (ix3 i h 0) = rmsd ((args a1 a2 a3 a4 a5 a6 a7 a8 a9 a10).o i.val) h := by
  unfold rmsd rms
  rw [← ref_ms a1 a2 a3 a4 a5 a6 a7 a8 a9 a10]
  unfold val_main_v26 val_main_v24 val_main_v23
  generalize val_main_v22 (F := Ideal) a4 a5 = u
  pointwise [val_main_v25, val_main_cst_3]
  try rfl
theorem ref_unit (i : Fin 8448) (h : Fin 4) (k : Fin 64) : val_main_v28 (F := Ideal) a4 a5 (ix3 i h k) = unit ((args a1 a2 a3 a4 a5 a6 a7 a8 a9 a10).o i.val) (lane h k) := by
  unfold unit
  rw [hd_lane, ← ref_o a1 a2 a3 a4 a5 a6 a7 a8 a9 a10, ← ref_rms a1 a2 a3 a4 a5 a6 a7 a8 a9 a10]
  unfold val_main_v28 val_main_v27
  generalize val_main_v15 (F := Ideal) a4 a5 = u
  generalize val_main_v23 (F := Ideal) a4 a5 = w
  pointwise
  try rfl
theorem ref_n (i : Fin 8448) (h : Fin 4) (k : Fin 64) : val_main_v30 (F := Ideal) a8 (ix3 i h k) = (args a1 a2 a3 a4 a5 a6 a7 a8 a9 a10).n (lane h k) := by
  refine Eq.trans ?_ (congrArg (fun k => a8 (ix1 k)) (pos_lane h k).symm)
  pointwise [val_main_v30, val_main_v29, val_main_v0]
  try rfl
theorem ref_n2 (i : Fin 8448) (h : Fin 4) (k : Fin 64) : val_main_v84 (F := Ideal) a8 (ix3 i h k) = (args a1 a2 a3 a4 a5 a6 a7 a8 a9 a10).n (lane h k) := by
  exact ref_n a1 a2 a3 a4 a5 a6 a7 a8 a9 a10 i h k
theorem ref_normed (i : Fin 8448) (h : Fin 4) (k : Fin 64) : val_main_v31 (F := Ideal) a4 a5 a8 (ix3 i h k) = normed ((args a1 a2 a3 a4 a5 a6 a7 a8 a9 a10).o i.val) (args a1 a2 a3 a4 a5 a6 a7 a8 a9 a10).n (lane h k) := by
  unfold normed
  rw [← ref_unit a1 a2 a3 a4 a5 a6 a7 a8 a9 a10, ← ref_n a1 a2 a3 a4 a5 a6 a7 a8 a9 a10]
  rfl
theorem ref_r (i : Fin 8448) (h : Fin 4) (k : Fin 64) : val_main_v32 (F := Ideal) a6 (ix3 i h k) = (args a1 a2 a3 a4 a5 a6 a7 a8 a9 a10).r i.val (lane h k) := by
  rw [arg_r i.isLt]
  pointwise [val_main_v32]
  have q : (⟨h.val * 64 + k.val, by omega⟩ : Fin 256) = lane h k := Fin.ext (by simp only [lane]; omega)
  rw [q]
theorem ref_sig (i : Fin 8448) (h : Fin 4) (k : Fin 64) : val_main_v33_2 (F := Ideal) a6 (ix3 i h k) = Ideal.logistic ((args a1 a2 a3 a4 a5 a6 a7 a8 a9 a10).r i.val (lane h k)) := by
  unfold Ideal.logistic
  rw [← ref_r a1 a2 a3 a4 a5 a6 a7 a8 a9 a10]
  unfold val_main_v33_2 val_main_call0_v3 val_main_call0_v1 val_main_call0_v0
  generalize val_main_v32 (F := Ideal) a6 = u
  pointwise [val_main_call0_v2, val_main_call0_cst, val_main_call0_v4, val_main_call0_cst_0]
  try rfl
theorem ref_dsig (i : Fin 8448) (h : Fin 4) (k : Fin 64) : val_main_v33_1 (F := Ideal) a6 (ix3 i h k) = Ideal.logistic ((args a1 a2 a3 a4 a5 a6 a7 a8 a9 a10).r i.val (lane h k)) * (1 - Ideal.logistic ((args a1 a2 a3 a4 a5 a6 a7 a8 a9 a10).r i.val (lane h k))) := by
  rw [← ref_sig a1 a2 a3 a4 a5 a6 a7 a8 a9 a10]
  unfold val_main_v33_1 val_main_call0_v7
  generalize val_main_v33_2 (F := Ideal) a6 = u
  pointwise [val_main_call0_v6, val_main_call0_cst_1]
  try rfl
theorem ref_silu (i : Fin 8448) (h : Fin 4) (k : Fin 64) : val_main_v33_0 (F := Ideal) a6 (ix3 i h k) = silu ((args a1 a2 a3 a4 a5 a6 a7 a8 a9 a10).r i.val) (lane h k) := by
  unfold silu
  rw [← ref_sig a1 a2 a3 a4 a5 a6 a7 a8 a9 a10, ← ref_r a1 a2 a3 a4 a5 a6 a7 a8 a9 a10]
  rfl
theorem ref_mid (i : Fin 8448) (j : Fin 256) : val_main_v35 (F := Ideal) a4 a5 a6 a8 (ix2 i j) = normed ((args a1 a2 a3 a4 a5 a6 a7 a8 a9 a10).o i.val) (args a1 a2 a3 a4 a5 a6 a7 a8 a9 a10).n j * silu ((args a1 a2 a3 a4 a5 a6 a7 a8 a9 a10).r i.val) j := by
  unfold val_main_v35
  rw [flat]
  unfold val_main_v34
  refine (congr (congrArg _ (ref_normed a1 a2 a3 a4 a5 a6 a7 a8 a9 a10 i (hd j) (pos j))) (ref_silu a1 a2 a3 a4 a5 a6 a7 a8 a9 a10 i (hd j) (pos j))).trans ?_
  rw [lane_pos]
  rfl
theorem ref_y (i : Fin 8448) (k : Fin 1024) : val_main_v36 (F := Ideal) a3 a4 a5 a6 a7 a8 (ix2 i k) = (args a1 a2 a3 a4 a5 a6 a7 a8 a9 a10).y i.val k := by
  unfold Args.y groups
  simp only [← ref_mid a1 a2 a3 a4 a5 a6 a7 a8 a9 a10, arg_s i.isLt, arg_l i.isLt]
  unfold val_main_v36
  generalize val_main_v35 (F := Ideal) a4 a5 a6 a8 = u
  pointwise
  try rfl
theorem ref_proj (i : Fin 8448) (k : Fin 1024) : val_main_v38 (F := Ideal) a3 a4 a5 a6 a7 a8 a9 (ix2 i k) = proj ((args a1 a2 a3 a4 a5 a6 a7 a8 a9 a10).y i.val) (args a1 a2 a3 a4 a5 a6 a7 a8 a9 a10).w k := by
  unfold proj
  simp only [← ref_y a1 a2 a3 a4 a5 a6 a7 a8 a9 a10]
  unfold val_main_v38 val_main_v37
  generalize val_main_v36 (F := Ideal) a3 a4 a5 a6 a7 a8 = u
  pointwise [val_main_v1, val_main_cst]
  try rfl

/-! ## The gradient of the groups -/

theorem arg_c (i : Fin 8448) (h : i.val < 256) (k : Fin 1024) : (args a1 a2 a3 a4 a5 a6 a7 a8 a9 a10).g i.val k = a1 (ix1 ⟨2048 + k.val, by omega⟩) := if_pos h
theorem arg_t (i : Fin 8448) (h : ¬i.val < 256) (k : Fin 1024) : (args a1 a2 a3 a4 a5 a6 a7 a8 a9 a10).g i.val k = a2 (ix1 ⟨2048 + k.val, by omega⟩) := if_neg h
theorem ref_c (i : Fin 8448) (k : Fin 1024) : val_main_v69 (F := Ideal) a1 a2 a10 (ix2 i k) = (args a1 a2 a3 a4 a5 a6 a7 a8 a9 a10).c i.val k := by
  have key : (args a1 a2 a3 a4 a5 a6 a7 a8 a9 a10).c i.val k = (if h : 256 ≤ i.val ∧ i.val - 256 < 8192 then a2 (ix1 ⟨2048 + k.val, by omega⟩) * a10 (ix2 ⟨256 + (i.val - 256), by omega⟩ k) else 0)
      + (if h : i.val < 256 then a1 (ix1 ⟨2048 + k.val, by omega⟩) * a10 (ix2 ⟨i.val, by omega⟩ k) else 0) := by
    unfold Args.c gated
    rw [arg_d i.isLt]
    by_cases h : i.val < 256
    · rw [dif_neg (by omega), dif_pos h, zero_add, arg_c a1 a2 a3 a4 a5 a6 a7 a8 a9 a10 i h]
    · rw [dif_pos (by omega), dif_neg h, add_zero, arg_t a1 a2 a3 a4 a5 a6 a7 a8 a9 a10 i h]
      exact congrArg _ (congrArg a10 (congrArg (ix2 · k) (Fin.ext (by simp only []; omega))))
  refine Eq.trans ?_ key.symm
  pointwise [val_main_v69, val_main_v68, val_main_cst_10, val_main_v63, val_main_v62, val_main_v60, val_main_cst_6, val_main_v55, val_main_v54, val_main_v53, val_main_v52, val_main_v47, val_main_v41, val_main_v10, val_main_v4]
  try rfl
theorem ref_d (i : Fin 8448) (k : Fin 1024) : val_main_v71 (F := Ideal) a10 (ix2 i k) = (args a1 a2 a3 a4 a5 a6 a7 a8 a9 a10).d i.val k := by
  have key : (args a1 a2 a3 a4 a5 a6 a7 a8 a9 a10).d i.val k = (if h : 256 ≤ i.val ∧ i.val - 256 < 8192 then a10 (ix2 ⟨256 + (i.val - 256), by omega⟩ k) else 0)
      + (if h : i.val < 256 then a10 (ix2 ⟨i.val, by omega⟩ k) else 0) := by
    rw [arg_d i.isLt]
    by_cases h : i.val < 256
    · rw [dif_neg (by omega), dif_pos h, zero_add]
    · rw [dif_pos (by omega), dif_neg h, add_zero]
      exact congrArg a10 (congrArg (ix2 · k) (Fin.ext (by simp only []; omega)))
  refine Eq.trans ?_ key.symm
  pointwise [val_main_v71, val_main_v70, val_main_cst_11, val_main_v61, val_main_cst_7, val_main_v53, val_main_v52]
  try rfl
theorem ref_e (i : Fin 8448) (k : Fin 1024) : val_main_v72 (F := Ideal) a1 a2 a9 a10 (ix2 i k) = (args a1 a2 a3 a4 a5 a6 a7 a8 a9 a10).e i.val k := by
  unfold Args.e back
  simp only [← ref_c a1 a2 a3 a4 a5 a6 a7 a8 a9 a10]
  unfold val_main_v72
  generalize val_main_v69 (F := Ideal) a1 a2 a10 = u
  pointwise
  try rfl
theorem ref_fst (i : Fin 8448) (j : Fin 256) : val_main_v73 (F := Ideal) a1 a2 a9 a10 (ix2 i j) = fst ((args a1 a2 a3 a4 a5 a6 a7 a8 a9 a10).e i.val) j := by
  unfold fst
  rw [← ref_e a1 a2 a3 a4 a5 a6 a7 a8 a9 a10]
  unfold val_main_v73
  generalize val_main_v72 (F := Ideal) a1 a2 a9 a10 = u
  pointwise
  try rfl
theorem ref_low (i : Fin 8448) (j : Fin 512) : val_main_v75 (F := Ideal) a1 a2 a9 a10 (ix2 i j) = low ((args a1 a2 a3 a4 a5 a6 a7 a8 a9 a10).e i.val) j := by
  unfold low
  rw [← ref_e a1 a2 a3 a4 a5 a6 a7 a8 a9 a10]
  unfold val_main_v75
  generalize val_main_v72 (F := Ideal) a1 a2 a9 a10 = u
  pointwise
  try rfl
theorem ref_em (i : Fin 8448) (h : Fin 4) (k : Fin 64) : val_main_v76 (F := Ideal) a1 a2 a9 a10 (ix3 i h k) = mid ((args a1 a2 a3 a4 a5 a6 a7 a8 a9 a10).e i.val) (lane h k) := by
  unfold mid
  rw [← ref_e a1 a2 a3 a4 a5 a6 a7 a8 a9 a10]
  unfold val_main_v76 val_main_v74
  generalize val_main_v72 (F := Ideal) a1 a2 a9 a10 = u
  pointwise
  exact congrArg u (congrArg (ix2 i) (Fin.ext (by simp only [lane]; omega)))

/-! ## The gradients of the gate, the norm and the row -/

theorem ref_dr (i : Fin 8448) (j : Fin 256) : val_main_v80 (F := Ideal) a1 a2 a4 a5 a6 a8 a9 a10 (ix2 i j) = (args a1 a2 a3 a4 a5 a6 a7 a8 a9 a10).dr i.val j := by
  refine (flat _ i j).trans ?_
  refine Eq.trans ?_ (congrArg ((args a1 a2 a3 a4 a5 a6 a7 a8 a9 a10).dr i.val) (lane_pos j))
  generalize hd j = h
  generalize pos j = k
  unfold Args.dr dgate
  rw [← ref_dsig a1 a2 a3 a4 a5 a6 a7 a8 a9 a10, ← ref_sig a1 a2 a3 a4 a5 a6 a7 a8 a9 a10, ← ref_em a1 a2 a3 a4 a5 a6 a7 a8 a9 a10, ← ref_normed a1 a2 a3 a4 a5 a6 a7 a8 a9 a10, ← ref_r a1 a2 a3 a4 a5 a6 a7 a8 a9 a10]
  rfl
theorem ref_u (i : Fin 8448) (h : Fin 4) (k : Fin 64) : val_main_v78 (F := Ideal) a1 a2 a6 a9 a10 (ix3 i h k) = (args a1 a2 a3 a4 a5 a6 a7 a8 a9 a10).u i.val (lane h k) := by
  unfold Args.u dnormed
  rw [← ref_em a1 a2 a3 a4 a5 a6 a7 a8 a9 a10, ← ref_silu a1 a2 a3 a4 a5 a6 a7 a8 a9 a10]
  rfl
theorem ref_dn (i : Fin 8448) (h : Fin 4) (k : Fin 64) : val_main_v81 (F := Ideal) a1 a2 a4 a5 a6 a9 a10 (ix3 i h k) = (args a1 a2 a3 a4 a5 a6 a7 a8 a9 a10).dn i.val (lane h k) := by
  unfold Args.dn
  rw [← ref_unit a1 a2 a3 a4 a5 a6 a7 a8 a9 a10, ← ref_u a1 a2 a3 a4 a5 a6 a7 a8 a9 a10]
  rfl
theorem ref_v (i : Fin 8448) (h : Fin 4) (k : Fin 64) : val_main_v85 (F := Ideal) a1 a2 a6 a8 a9 a10 (ix3 i h k) = (args a1 a2 a3 a4 a5 a6 a7 a8 a9 a10).v i.val (lane h k) := by
  unfold Args.v dunit
  rw [← ref_n2 a1 a2 a3 a4 a5 a6 a7 a8 a9 a10, ← ref_u a1 a2 a3 a4 a5 a6 a7 a8 a9 a10]
  rfl
theorem ref_mean (i : Fin 8448) (h : Fin 4) : val_main_v95 (F := Ideal) a1 a2 a4 a5 a6 a8 a9 a10 (ix2 i h) = dmean ((args a1 a2 a3 a4 a5 a6 a7 a8 a9 a10).o i.val) ((args a1 a2 a3 a4 a5 a6 a7 a8 a9 a10).v i.val) h := by
  unfold dmean hsum
  simp only [← ref_o a1 a2 a3 a4 a5 a6 a7 a8 a9 a10, ← ref_v a1 a2 a3 a4 a5 a6 a7 a8 a9 a10, ← ref_rmsd a1 a2 a3 a4 a5 a6 a7 a8 a9 a10]
  unfold val_main_v95 val_main_v94 val_main_v92 val_main_v89 val_main_v88 val_main_v87
  generalize val_main_v15 (F := Ideal) a4 a5 = o
  generalize val_main_v85 (F := Ideal) a1 a2 a6 a8 a9 a10 = w
  generalize val_main_v26 (F := Ideal) a4 a5 = q
  pointwise [val_main_v93, val_main_cst_15, val_main_cst_14, val_main_cst_16]
  try simp only [Finset.univ_unique, Finset.sum_singleton]
  try rfl
theorem ref_do (i : Fin 8448) (j : Fin 256) : val_main_v101 (F := Ideal) a1 a2 a4 a5 a6 a8 a9 a10 (ix2 i j) = (args a1 a2 a3 a4 a5 a6 a7 a8 a9 a10).dO i.val j := by
  refine (flat _ i j).trans ?_
  refine Eq.trans ?_ (congrArg ((args a1 a2 a3 a4 a5 a6 a7 a8 a9 a10).dO i.val) (lane_pos j))
  generalize hd j = h
  generalize pos j = k
  unfold Args.dO drow
  rw [hd_lane, ← ref_mean a1 a2 a3 a4 a5 a6 a7 a8 a9 a10, ← ref_v a1 a2 a3 a4 a5 a6 a7 a8 a9 a10, ← ref_rms a1 a2 a3 a4 a5 a6 a7 a8 a9 a10, ← ref_o a1 a2 a3 a4 a5 a6 a7 a8 a9 a10]
  unfold val_main_v100 val_main_v99 val_main_v98 val_main_v97 val_main_v96 val_main_v91 val_main_v90
  generalize val_main_v15 (F := Ideal) a4 a5 = o
  generalize val_main_v85 (F := Ideal) a1 a2 a6 a8 a9 a10 = w
  generalize val_main_v23 (F := Ideal) a4 a5 = q
  generalize val_main_v95 (F := Ideal) a1 a2 a4 a5 a6 a8 a9 a10 = z
  pointwise
  try rfl

/-! ## Sums over the rows -/

theorem total_n (u : FVec Ideal S8448x4x64 .f32) (j : Fin 256) :
    shapeCast S1x256 (Host.reduceAdd (shapeCast S1x4x64 (Host.reduceAdd u (constant (F := Ideal) S_ .f32 0x00000000#32) reducesTo_S8448x4x64_S4x64_d0 h_S_)
      shapeCasts_S4x64_S1x4x64) (constant (F := Ideal) S_ .f32 0x00000000#32) reducesTo_S1x4x64_S4x64_d0 h_S_) shapeCasts_S4x64_S1x256 (ix2 0 j)
      = ∑ i : Fin 8448, u (ix3 i (hd j) (pos j)) := by
  pointwise
  try simp only [Finset.univ_unique, Finset.sum_singleton]
  try rfl
theorem total_c (u : FVec Ideal S256x1024 .f32) (k : Fin 1024) :
    Host.reduceAdd (shapeCast S1x1024 (Host.reduceAdd u (constant (F := Ideal) S_ .f32 0x00000000#32) reducesTo_S256x1024_S1024_d0 h_S_) shapeCasts_S1024_S1x1024)
      (constant (F := Ideal) S_ .f32 0x00000000#32) reducesTo_S1x1024_S1024_d0 h_S_ (ix1 k) = ∑ r : Fin 256, u (ix2 r k) := by
  pointwise
  try simp only [Finset.univ_unique, Finset.sum_singleton]
  try rfl
theorem total_o (u : FVec Ideal S8192x1024 .f32) (k : Fin 1024) :
    Host.reduceAdd (shapeCast S1x1024 (Host.reduceAdd u (constant (F := Ideal) S_ .f32 0x00000000#32) reducesTo_S8192x1024_S1024_d0 h_S_) shapeCasts_S1024_S1x1024)
      (constant (F := Ideal) S_ .f32 0x00000000#32) reducesTo_S1x1024_S1024_d0 h_S_ (ix1 k) = ∑ r : Fin 8192, u (ix2 r k) := by
  pointwise
  try simp only [Finset.univ_unique, Finset.sum_singleton]
  try rfl
theorem ref_norms (j : Fin 256) : val_main_v123 (F := Ideal) a1 a2 a4 a5 a6 a9 a10 (ix2 0 j) = (args a1 a2 a3 a4 a5 a6 a7 a8 a9 a10).norms j := by
  refine (total_n (val_main_v81 (F := Ideal) a1 a2 a4 a5 a6 a9 a10) j).trans ?_
  simp only [ref_dn a1 a2 a3 a4 a5 a6 a7 a8 a9 a10, lane_pos]
  unfold Args.norms
  rw [Finset.sum_range]
theorem ref_dm_c (r : Fin 256) (k : Fin 1024) : val_main_v64 (F := Ideal) a3 a4 a5 a6 a7 a8 a9 a10 (ix2 r k) = (args a1 a2 a3 a4 a5 a6 a7 a8 a9 a10).dm r.val k := by
  have e : (args a1 a2 a3 a4 a5 a6 a7 a8 a9 a10).dm r.val k = a10 (ix2 ⟨r.val, by omega⟩ k) * val_main_v38 (F := Ideal) a3 a4 a5 a6 a7 a8 a9 (ix2 ⟨r.val, by omega⟩ k) := by
    unfold Args.dm
    rw [arg_d (by omega), ref_proj a1 a2 a3 a4 a5 a6 a7 a8 a9 a10]
  rw [e]
  unfold val_main_v64 val_main_v40
  generalize val_main_v38 (F := Ideal) a3 a4 a5 a6 a7 a8 a9 = u
  pointwise [val_main_v52]
  try rfl
theorem ref_dm_o (r : Fin 8192) (k : Fin 1024) : val_main_v56 (F := Ideal) a3 a4 a5 a6 a7 a8 a9 a10 (ix2 r k) = (args a1 a2 a3 a4 a5 a6 a7 a8 a9 a10).dm (256 + r.val) k := by
  have e : (args a1 a2 a3 a4 a5 a6 a7 a8 a9 a10).dm (256 + r.val) k = a10 (ix2 ⟨256 + r.val, by omega⟩ k) * val_main_v38 (F := Ideal) a3 a4 a5 a6 a7 a8 a9 (ix2 ⟨256 + r.val, by omega⟩ k) := by
    unfold Args.dm
    rw [arg_d (by omega), ref_proj a1 a2 a3 a4 a5 a6 a7 a8 a9 a10]
  rw [e]
  unfold val_main_v56 val_main_v46
  generalize val_main_v38 (F := Ideal) a3 a4 a5 a6 a7 a8 a9 = u
  pointwise [val_main_v53]
  try rfl
/-- The two modulations' gradients, one below the other, the context's first. -/
theorem ref_parts (q : Fin 2) (j : Fin 8) (k : Fin 1024) : val_main_v119 (F := Ideal) a3 a4 a5 a6 a7 a8 a9 a10 (ix3 q j k) = if j.val = 2 then if q.val = 0 then val_main_v67 (F := Ideal) a3 a4 a5 a6 a7 a8 a9 a10 (ix1 k) else val_main_v59 (F := Ideal) a3 a4 a5 a6 a7 a8 a9 a10 (ix1 k) else 0 := by
  unfold val_main_v119 val_main_v118 val_main_v117 val_main_v116 val_main_v115 val_main_v114 val_main_v113 val_main_v107
  generalize val_main_v67 (F := Ideal) a3 a4 a5 a6 a7 a8 a9 a10 = b
  generalize val_main_v59 (F := Ideal) a3 a4 a5 a6 a7 a8 a9 a10 = d
  have zero : (FloatOps.sitofp (F := Ideal) FTy.f32 0#32 : EReal) = 0 := by
    show (((0#32 : BitVec 32).toInt : ℝ) : EReal) = 0
    simp
  fin_cases q <;> fin_cases j <;> pointwise [val_main_v102, val_main_v103, val_main_v104, val_main_v105, val_main_v106, val_main_v108, val_main_v109, val_main_v110, val_main_v111, val_main_v112, val_main_cst_17, val_main_cst_18, val_main_cst_19, val_main_cst_20, val_main_cst_21, val_main_cst_22, val_main_cst_23, val_main_cst_24, val_main_cst_25, val_main_cst_26, val_main_call2_v0, val_main_c]
  all_goals first
    | exact zero
    | (split_ifs <;> first | omega | (refine congrArg _ (congrArg ix1 (Fin.ext ?_)) ; dsimp only ; omega) | rfl)
theorem ref_dm (q : Fin 2) (j : Fin 8) (k : Fin 1024) : val_main_v119 (F := Ideal) a3 a4 a5 a6 a7 a8 a9 a10 (ix3 q j k) = (args a1 a2 a3 a4 a5 a6 a7 a8 a9 a10).mods q.val j.val k := by
  rw [ref_parts a3 a4 a5 a6 a7 a8 a9 a10]
  have eb : val_main_v67 (F := Ideal) a3 a4 a5 a6 a7 a8 a9 a10 (ix1 k) = ∑ r : Fin 256, (args a1 a2 a3 a4 a5 a6 a7 a8 a9 a10).dm r.val k :=
    (total_c (val_main_v64 (F := Ideal) a3 a4 a5 a6 a7 a8 a9 a10) k).trans (Finset.sum_congr rfl fun r _ => ref_dm_c a1 a2 a3 a4 a5 a6 a7 a8 a9 a10 r k)
  have ec : val_main_v59 (F := Ideal) a3 a4 a5 a6 a7 a8 a9 a10 (ix1 k) = ∑ r : Fin 8192, (args a1 a2 a3 a4 a5 a6 a7 a8 a9 a10).dm (256 + r.val) k :=
    (total_o (val_main_v56 (F := Ideal) a3 a4 a5 a6 a7 a8 a9 a10) k).trans (Finset.sum_congr rfl fun r _ => ref_dm_o a1 a2 a3 a4 a5 a6 a7 a8 a9 a10 r k)
  rw [eb, ec]
  unfold Args.mods
  rw [Finset.sum_range, Finset.sum_range]
theorem ref_de (h : Fin 8) (i : Fin 8448) : val_main_v128 (F := Ideal) a1 a2 a7 a9 a10 (ix2 h i) = (args a1 a2 a3 a4 a5 a6 a7 a8 a9 a10).de i.val h.val := by
  unfold Args.de wsum
  simp only [← ref_low a1 a2 a3 a4 a5 a6 a7 a8 a9 a10, arg_l i.isLt]
  unfold val_main_v128 val_main_v127 val_main_v122 val_main_v121 val_main_v120
  generalize val_main_v75 (F := Ideal) a1 a2 a9 a10 = u
  have zero : (FloatOps.sitofp (F := Ideal) FTy.f32 0#32 : EReal) = 0 := by
    show (((0#32 : BitVec 32).toInt : ℝ) : EReal) = 0
    simp
  fin_cases h <;> pointwise [val_main_cst_27, val_main_call3_v0, val_main_c_28]
  all_goals first
    | exact zero
    | rfl
end

end Cert.Out

end
-- ==== Proof.OutClaim.lean ====
/- # The claims of `out_bwd`

Both programs' runs and results, and the equality of the results for finite modulations, rows, gate, norm's weights, projection and cotangent.
-/
module

public import proofs.«01_k».proof.Defs
public import proofs.«01_k».proof.Proof.Base
public import proofs.«01_k».proof.Proof.FfnClaim
public import proofs.«01_k».proof.Proof.OutArr
public import proofs.«01_k».proof.Proof.OutRef
public import proofs.«01_k».proof.Proof.Gen.OutBwd
public import proofs.«01_k».proof.Proof.Gen.Pre_out_bwd_finite
public import Idealize.ShloMosaic.Adequacy
public import Idealize.ShloMosaic.Init
public import Idealize.ShloMosaic.Lib.Quiescent
public import Idealize.ShloMosaic.Lib.Claim
public import Idealize.ShloMosaic.Lib.Tactic.ValueTie

@[expose] public section

set_option maxRecDepth 16384

noncomputable section

namespace Cert.Out

open Idealize.ShloMosaic Idealize.SL.Sem

/-- The kernel ends with its arguments unchanged and no counter raised, -/
theorem quiescent_bits : Cert.quiescent_OutBwd := fun m ρ _ => cast (by sl_kernel_rfl) (run_frame (F := Bits) m ρ)
/-- read over the extended reals too; -/
theorem quiescent_ideal : Cert.quiescent_OutBwdIdeal := fun m ρ _ => run_frame (F := Ideal) m ρ
/-- and so does the reference. -/
theorem quiescent_reference : Cert.quiescent_OutBwdReferenceIdeal := fun m ρ _ =>
  (θ_run Cert.OutBwdReferenceIdeal.defs _ _).mono (fun r h => ⟨fun c => (h c).2.2.2.2.2.2.2.2.2.2.2, sem_eq_zero_of_no_sems (by decide) r.2⟩)
    (Cert.OutBwdReferenceIdeal.Value.run (F := Ideal) m ρ)

/-- Finite arguments make the rows of both programs real. -/
theorem isReal (a0 : FVec Ideal ⟨2, ![8448, 1024]⟩ .f32) (a1 a2 : FVec Ideal ⟨1, ![6144]⟩ .f32) (a3 a4 a5 a6 : FVec Ideal ⟨2, ![8448, 256]⟩ .f32)
    (a7 : FVec Ideal ⟨2, ![8448, 512]⟩ .f32) (a8 : FVec Ideal ⟨1, ![64]⟩ .f32) (a9 : FVec Ideal ⟨2, ![1024, 1024]⟩ .f32) (a10 : FVec Ideal ⟨2, ![8448, 1024]⟩ .f32)
    (h : (Cert.Pre_out_bwd_finite.fn a0 a1 a2 a3 a4 a5 a6 a7 a8 a9 a10).1 = (fun _ => 1#1)
      ∧ (Cert.Pre_out_bwd_finite.fn a0 a1 a2 a3 a4 a5 a6 a7 a8 a9 a10).2.1 = (fun _ => 1#1)
      ∧ (Cert.Pre_out_bwd_finite.fn a0 a1 a2 a3 a4 a5 a6 a7 a8 a9 a10).2.2.1 = (fun _ => 1#1)
      ∧ (Cert.Pre_out_bwd_finite.fn a0 a1 a2 a3 a4 a5 a6 a7 a8 a9 a10).2.2.2.1 = (fun _ => 1#1)
      ∧ (Cert.Pre_out_bwd_finite.fn a0 a1 a2 a3 a4 a5 a6 a7 a8 a9 a10).2.2.2.2.1 = (fun _ => 1#1)
      ∧ (Cert.Pre_out_bwd_finite.fn a0 a1 a2 a3 a4 a5 a6 a7 a8 a9 a10).2.2.2.2.2.1 = (fun _ => 1#1)
      ∧ (Cert.Pre_out_bwd_finite.fn a0 a1 a2 a3 a4 a5 a6 a7 a8 a9 a10).2.2.2.2.2.2.1 = (fun _ => 1#1)
      ∧ (Cert.Pre_out_bwd_finite.fn a0 a1 a2 a3 a4 a5 a6 a7 a8 a9 a10).2.2.2.2.2.2.2 = (fun _ => 1#1)) :
    (args a1 a2 a3 a4 a5 a6 a7 a8 a9 a10).IsReal := by
  obtain ⟨h1, h2, h4, h5, h6, h8, h9, h10⟩ := h
  have zero : Real 0 := ⟨0, rfl⟩
  refine ⟨fun i k => ?_, fun i k => ?_, fun i k => ?_, fun i k => ?_, fun k => Base.real_of_abs_lt _ (congrFun h8 _), fun i k => Base.real_of_abs_lt _ (congrFun h9 _)⟩
  · unfold args
    dsimp only
    split_ifs
    · exact Base.real_of_abs_lt _ (congrFun h1 _)
    · exact Base.real_of_abs_lt _ (congrFun h2 _)
  · unfold args
    dsimp only
    split_ifs
    · exact (show Real _ from Base.real_of_abs_lt _ (congrFun h4 _)).add (Base.real_of_abs_lt _ (congrFun h5 _))
    · exact zero
  · unfold args
    dsimp only
    split_ifs
    · exact Base.real_of_abs_lt _ (congrFun h6 _)
    · exact zero
  · unfold args
    dsimp only
    split_ifs
    · exact Base.real_of_abs_lt _ (congrFun h10 _)
    · exact zero

section
open Cert.OutBwdIdeal Cert.OutBwdIdeal.Gen
/-- The kernel's eleven results, and its arguments as they were. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13_0) = (dats m 0 c).arrAt 10 (cfgs 0).N
      ∧ r.2.mem ((c.tc : Thread nD τ).loc main_v13_1) = (dats m 0 c).arrAt 11 (cfgs 0).N
      ∧ r.2.mem ((c.tc : Thread nD τ).loc main_v13_2) = (dats m 0 c).arrAt 12 (cfgs 0).N
      ∧ r.2.mem ((c.tc : Thread nD τ).loc main_v13_3) = (dats m 0 c).arrAt 13 (cfgs 0).N
      ∧ r.2.mem ((c.tc : Thread nD τ).loc main_v13_4) = (dats m 0 c).arrAt 14 (cfgs 0).N
      ∧ r.2.mem ((c.tc : Thread nD τ).loc main_v13_5) = (dats m 0 c).arrAt 15 (cfgs 0).N
      ∧ r.2.mem ((c.tc : Thread nD τ).loc main_v13_6) = (dats m 0 c).arrAt 16 (cfgs 0).N
      ∧ r.2.mem ((c.tc : Thread nD τ).loc main_v13_7) = (dats m 0 c).arrAt 17 (cfgs 0).N
      ∧ r.2.mem ((c.tc : Thread nD τ).loc main_v13_8) = (dats m 0 c).arrAt 18 (cfgs 0).N
      ∧ r.2.mem ((c.tc : Thread nD τ).loc main_v13_9) = (dats m 0 c).arrAt 19 (cfgs 0).N
      ∧ r.2.mem ((c.tc : Thread nD τ).loc main_v13_10) = (dats m 0 c).arrAt 20 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h.1.1 c).1 10, (h.1.1 c).1 11, (h.1.1 c).1 12, (h.1.1 c).1 13, (h.1.1 c).1 14, (h.1.1 c).1 15, (h.1.1 c).1 16, (h.1.1 c).1 17, (h.1.1 c).1 18, (h.1.1 c).1 19, (h.1.1 c).1 20, h.2.1 c⟩)
    (θ_run_and (run_arrays (F := Ideal) m ρ) (run_frame (F := Ideal) m ρ))
end

section
open Cert.OutBwdReferenceIdeal Cert.OutBwdReferenceIdeal.Gen
theorem transposed (u : FVec Ideal S8448x1024 .f32) (i : Fin 1024) (k : Fin 8448) :
    truncf .bf16 (transpose S1024x8448 [1, 0] u transposes_S8448x1024_S1024x8448_1_0) bitsLt_bf16_f32 (ix2 i k) = u (ix2 k i) := by
  pointwise
theorem narrowed (u : FVec Ideal S8448x1024 .f32) (i : Fin 8448) (k : Fin 1024) : truncf .bf16 u bitsLt_bf16_f32 (ix2 i k) = u (ix2 i k) := by
  pointwise
theorem narrowed_low (u : FVec Ideal S8448x512 .f32) (i : Fin 8448) (k : Fin 512) : truncf .bf16 u bitsLt_bf16_f32 (ix2 i k) = u (ix2 i k) := by
  pointwise
end

section
open StableHlo Cert.OutBwdReferenceIdeal Cert.OutBwdReferenceIdeal.Read
/-- The reference's eleven results, as functions of its arguments. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71) = val_main_v71 (F := Ideal) (m ((c.tc : Thread nD τ).loc main_arg10))
      ∧ r.2.mem ((c.tc : Thread nD τ).loc main_v119) = val_main_v119 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v73) = val_main_v73 (F := Ideal) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_v101) = val_main_v101 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10))
      ∧ r.2.mem ((c.tc : Thread nD τ).loc main_v80) = val_main_v80 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10))
      ∧ r.2.mem ((c.tc : Thread nD τ).loc main_v75) = val_main_v75 (F := Ideal) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_v123) = val_main_v123 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_v124) = val_main_v124 (F := Ideal) (m ((c.tc : Thread nD τ).loc main_arg1)) (m ((c.tc : Thread nD τ).loc main_arg2)) (m ((c.tc : Thread nD τ).loc main_arg10))
      ∧ r.2.mem ((c.tc : Thread nD τ).loc main_v126) = val_main_v126 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v128) = val_main_v128 (F := Ideal) (m ((c.tc : Thread nD τ).loc main_arg1)) (m ((c.tc : Thread nD τ).loc main_arg2)) (m ((c.tc : Thread nD τ).loc main_arg7)) (m ((c.tc : Thread nD τ).loc main_arg9)) (m ((c.tc : Thread nD τ).loc main_arg10))
      ∧ r.2.mem ((c.tc : Thread nD τ).loc main_v129) = val_main_v129 (F := Ideal) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨r0, r1, r2, r3, r4, r5, r6, r7, r8, r9, r10, ha⟩ := h c
    refine ⟨?_, ?_, ?_, ?_, ?_, ?_, ?_, ?_, ?_, ?_, ?_, ha⟩
    · exact r0.trans (val_main_v71_eq _)
    · exact r1.trans (val_main_v119_eq m c)
    · exact r2.trans (val_main_v73_eq _ _ _ _)
    · exact r3.trans (val_main_v101_eq m c)
    · exact r4.trans (val_main_v80_eq m c)
    · exact r5.trans (val_main_v75_eq _ _ _ _)
    · exact r6.trans (val_main_v123_eq _ _ _ _ _ _ _)
    · exact r7.trans (val_main_v124_eq _ _ _)
    · exact r8.trans (val_main_v126_eq _ _ _ _ _ _)
    · exact r9.trans (val_main_v128_eq _ _ _ _ _)
    · exact r10.trans (val_main_v129_eq _ _ _ _)) (Value.run (F := Ideal) m ρ)
end

open Cert.OutBwdReferenceIdeal.Read in
set_option maxHeartbeats 4000000 in
/-- The call's eleven results are the derivatives of the projection, of the gate and of the heads' norm, and its saved arrays, over the extended
    reals. -/
theorem algebraic : Cert.algebraic_OutBwdIdeal_OutBwdReferenceIdeal_pre_out_bwd_finite := by
  intro m ρ m' ρ' hpre hagree
  refine ⟨_, _, _, _, _, _, _, _, _, _, _, run_results m ρ, ?_⟩
  refine (θ_run Cert.OutBwdReferenceIdeal.defs _ _).mono (fun _ h c => ?_) (run_reference m' ρ')
  obtain ⟨r0, r1, r2, r3, r4, r5, r6, r7, r8, r9, r10, ha⟩ := h c
  obtain ⟨e0, e1, e2, e3, e4, e5, e6, e7, e8, e9, e10⟩ := hagree c
  have hr : (K m c).IsReal := isReal _ _ _ _ _ _ _ _ _ _ _ (hpre c)
  refine ⟨r0.trans ?_, r1.trans ?_, r2.trans ?_, r3.trans ?_, r4.trans ?_, r5.trans ?_, r6.trans ?_, r7.trans ?_, r8.trans ?_, r9.trans ?_, r10.trans ?_, ha⟩
  · rw [e10]
    exact Eq.trans (Cert.Ffn.by_pairs (ref_d _ _ _ _ _ _ _ _ _ _)) (final_dx m c).symm
  · rw [e3, e4, e5, e6, e7, e8, e9, e10]
    exact Eq.trans (Cert.Ffn.by_triples (ref_dm _ _ _ _ _ _ _ _ _ _)) (final_dm m c).symm
  · rw [e1, e2, e9, e10]
    exact Eq.trans (Cert.Ffn.by_pairs (ref_fst _ _ _ _ _ _ _ _ _ _)) (final_ds m c).symm
  · rw [e1, e2, e4, e5, e6, e8, e9, e10]
    exact Eq.trans (Cert.Ffn.by_pairs (ref_do _ _ _ _ _ _ _ _ _ _)) (final_do m c hr).symm
  · rw [e1, e2, e4, e5, e6, e8, e9, e10]
    exact Eq.trans (Cert.Ffn.by_pairs (ref_dr _ _ _ _ _ _ _ _ _ _)) (final_dr m c).symm
  · rw [e1, e2, e9, e10]
    exact Eq.trans (Cert.Ffn.by_pairs (ref_low _ _ _ _ _ _ _ _ _ _)) (final_dl m c).symm
  · rw [e1, e2, e4, e5, e6, e9, e10]
    refine Eq.trans (Cert.Ffn.by_pairs fun i k => ?_) (final_dn m c).symm
    rw [Subsingleton.elim (α := Fin 1) i 0]
    exact ref_norms _ _ _ _ _ _ _ _ _ _ k
  · rw [e1, e2, e10]
    exact Eq.trans (Cert.Ffn.by_pairs (fun i k => (narrowed _ _ _).trans (ref_c _ _ _ _ _ _ _ _ _ _ i k))) (final_zt m c).symm
  · rw [e3, e4, e5, e6, e7, e8]
    exact Eq.trans (Cert.Ffn.by_pairs (fun i k => (transposed _ _ _).trans (ref_y _ _ _ _ _ _ _ _ _ _ k i))) (final_at m c).symm
  · rw [e1, e2, e7, e9, e10]
    exact Eq.trans (Cert.Ffn.by_pairs (ref_de _ _ _ _ _ _ _ _ _ _)) (final_de m c).symm
  · rw [e1, e2, e9, e10]
    exact Eq.trans (Cert.Ffn.by_pairs (fun i k => (narrowed_low _ _ _).trans (ref_low _ _ _ _ _ _ _ _ _ _ i k))) (final_db m c).symm

end Cert.Out

end
-- ==== Proof.ModFwdClaim.lean ====
/- # The claims of `mod_fwd`

The modulations `silu(c) · w + b` of all sequences, of the context and of seven rows of zeros, for both layers: the kernel's blocks, the
reference's rows, and the equality of both, with no precondition.
-/
module

public import proofs.«01_k».proof.Defs
public import proofs.«01_k».proof.Proof.ModValue
public import proofs.«01_k».proof.Proof.Gen.ModFwd.Frame
public import proofs.«01_k».proof.Proof.Gen.ModFwdIdeal.Value
public import proofs.«01_k».proof.Proof.Gen.ModFwdReferenceIdeal.Read
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.ModRows

open Idealize.ShloMosaic Idealize.ShloMosaic.TcCoe Idealize.SL.Sem
open Cert.Mod (silu rows16 hz2 hz3)

variable (ca : FVec Ideal ⟨2, ![8, 1024]⟩ .f32) (cc : FVec Ideal ⟨1, ![1024]⟩ .f32) (w : FVec Ideal ⟨3, ![2, 1024, 768]⟩ .f32)
  (b : FVec Ideal ⟨2, ![2, 768]⟩ .f32)

/-- A row's modulations in one layer. -/
def row (c : Fin 1024 → EReal) (l : Fin 2) (x : Fin 768) : EReal := (∑ k, silu (c k) * w (ix3 l k x)) + b (ix2 l x)
/-- All rows: the sequences', the context's, and the bias alone. -/
def rows (l : Fin 2) (r : Fin 16) (x : Fin 768) : EReal :=
  if h : r.val < 8 then row w b (fun k => ca (ix2 ⟨r.val, h⟩ k)) l x else if r.val - 8 < 1 then row w b (fun k => cc (ix1 k)) l x else b (ix2 l x)
/-- The kernel's rows are these. -/
theorem row_rows16 (l : Fin 2) (r : Fin 16) (x : Fin 768) : row w b (fun k => rows16 ca cc (ix2 r k)) l x = rows ca cc w b l r x := by
  have e : ∀ k, rows16 ca cc (ix2 r k) = if h : r.val < 8 then ca (ix2 ⟨r.val, h⟩ k) else if r.val - 8 < 1 then cc (ix1 k) else (0 : EReal) := fun _ => rfl
  simp only [row, rows, e]
  by_cases h : r.val < 8
  · simp only [dif_pos h]
  · by_cases h' : r.val - 8 < 1
    · simp only [dif_neg h, if_pos h']
    · simp only [dif_neg h, if_neg h', silu, zero_mul, Finset.sum_const_zero, zero_add]

section
open Cert.ModFwdIdeal Cert.ModFwdIdeal.Gen

/-- The block the body stores. -/
theorem pay (r : Vec Ideal S16x1024 .f32) (w : Vec Ideal S1x1024x768 .f32) (b : Vec Ideal S1x1x768 .f32) (y : S1x16x768.Idx) :
    k0_pay1 r w b y = (∑ k : Fin 1024, silu (r (ix2 (y 1) k)) * w (ix3 0 k (y 2))) + b (ix3 0 0 (y 2)) := by
  pointwise [k0_pay1]
  rfl

variable (m : (ℓ : Loc nD τ sig) → Buf (Elt Ideal) ℓ) (c : Dev nD)

/-- What the arguments hold. -/
abbrev A0 : FVec Ideal S8x1024 .f32 := m ((c.tc : Thread nD τ).loc main_arg0)
@[inherit_doc A0] abbrev A1 : FVec Ideal S1024 .f32 := m ((c.tc : Thread nD τ).loc main_arg1)
@[inherit_doc A0] abbrev A2 : FVec Ideal S2x1024x768 .f32 := m ((c.tc : Thread nD τ).loc main_arg2)
@[inherit_doc A0] abbrev A3 : FVec Ideal S2x768 .f32 := m ((c.tc : Thread nD τ).loc main_arg3)

theorem crows : @Eq (FVec Ideal S16x1024 .f32) (V m c main_v2) (rows16 (A0 m c) (A1 m c)) := by
  have e : @Eq (FVec Ideal S16x1024 .f32) (V m c main_v2) (concatenate S16x1024 0 [⟨S8x1024, A0 m c⟩,
      ⟨S1x1024, broadcastInDim S1x1024 ![1] bcast_S1024_S1x1024_1 (A1 m c)⟩,
      ⟨S7x1024, broadcastInDim S7x1024 ![] bcast_S_S7x1024 (constant (F := Ideal) S_ .f32 0x00000000#32)⟩] concatenates_S8x1024_S1x1024_S7x1024_S16x1024_d0) := by
    unfold V; simp only [List.flatten_cons, List.flatten_nil, List.append_nil]; after_reads_simp
    all_goals try rfl
  rw [e]; funext y
  pointwise
  rfl
theorem bias : @Eq (FVec Ideal S2x1x768 .f32) (V m c main_v3) (fun y => A3 m c (ix2 (y 0) (y 2))) := by
  have e : @Eq (FVec Ideal S2x1x768 .f32) (V m c main_v3) (broadcastInDim S2x1x768 ![0, 2] bcast_S2x768_S2x1x768_0_2 (A3 m c)) := by
    unfold V; simp only [List.flatten_cons, List.flatten_nil, List.append_nil]; after_reads_simp
    all_goals try rfl
  rw [e]; funext y
  pointwise

/-- A point's layer. -/
def lay (t : Fin cfg0.N) : Fin 2 := ⟨t.val, Nat.lt_of_lt_of_eq t.isLt N_0⟩
theorem idx : ∀ t : Fin cfg0.N, win0_0.index t = ![0, 0] ∧ win0_1.index t = ![t.val, 0, 0] ∧ win0_2.index t = ![t.val, 0, 0]
    ∧ win0_3.index t = ![t.val, 0, 0] := (by decide +kernel : ∀ t : Fin grid0.N, _)

/-- The blocks a point loads. -/
theorem blk_c (t : Fin cfg0.N) : (iblk m c 0 t : FVec Ideal S16x1024 .f32) = rows16 (A0 m c) (A1 m c) := by
  funext y
  have e : iblk m c 0 t y = (V m c main_v2 : FVec Ideal S16x1024 .f32) (((cfg0.win 0).blk t).view.emb y) := rfl
  have e' : ((cfg0.win 0).blk t).view.emb y = y := by
    funext k; apply Fin.ext
    fin_cases k <;> blk_simp [idx t] <;> rfl
  rw [e, e', crows]
theorem blk_w (t : Fin cfg0.N) (y) : iblk m c 1 t y = A2 m c (ix3 (lay t) (y 1) (y 2)) := by
  have e : iblk m c 1 t y = (V m c main_arg2 : FVec Ideal S2x1024x768 .f32) (((cfg0.win 1).blk t).view.emb y) := rfl
  rw [e, V_main_arg2]
  refine congrArg _ (funext fun k => Fin.ext ?_)
  fin_cases k <;> blk_simp [idx t] <;> rfl
theorem blk_b (t : Fin cfg0.N) (y) : iblk m c 2 t y = A3 m c (ix2 (lay t) (y 2)) := by
  have e : iblk m c 2 t y = (V m c main_v3 : FVec Ideal S2x1x768 .f32) (((cfg0.win 2).blk t).view.emb y) := rfl
  rw [e, bias]
  refine congrArg₂ (fun (a : Fin 2) (x : Fin 768) => A3 m c (ix2 a x)) (Fin.ext ?_) (Fin.ext ?_) <;> blk_simp [idx t] <;> rfl

theorem ld0 (x : Vec Ideal S16x1024 .f32) : View.ld x r0_0 = x := View.ld_unit_zero hz2 _ _
theorem ld1 (x : Vec Ideal S1x1024x768 .f32) : View.ld x r0_1 = x := View.ld_unit_zero hz3 _ _
theorem ld2 (x : Vec Ideal S1x1x768 .f32) : View.ld x r0_2 = x := View.ld_unit_zero hz3 _ _

/-- The result. -/
theorem final : (dats m 0 c).arrAt 3 (cfgs 0).N = fun y => rows (A0 m c) (A1 m c) (A2 m c) (A3 m c) (y 0) (y 1) (y 2) := by
  refine (dats m 0 c).arrAt_eq_of_covers 3 _ (by decide +kernel) fun t hf y => ?_
  have e : ∀ z, (dats m 0 c).after 3 t z = rows (A0 m c) (A1 m c) (A2 m c) (A3 m c) (lay t) (z 1) (z 2) := by
    intro z
    rw [after0_3]; unfold out0_3
    rw [View.canon_unit_zero hz3, ld0, ld1, ld2, pay, blk_c]
    refine Eq.trans ?_ (row_rows16 _ _ _ _ _ _ _)
    simp only [blk_w, blk_b]
    rfl
  blk_simp
  rw [e]
  have core : ∀ (l l' : Fin 2) (r r' : Fin 16) (x x' : Fin 768), l = l' → r = r' → x = x' →
      rows (A0 m c) (A1 m c) (A2 m c) (A3 m c) l r x = rows (A0 m c) (A1 m c) (A2 m c) (A3 m c) l' r' x' := by
    rintro l _ r _ x _ rfl rfl rfl; rfl
  refine core _ _ _ _ _ _ (Fin.ext ?_) (Fin.ext ?_) (Fin.ext ?_) <;> blk_simp [idx t] <;> rfl
end

/-- The reference ends with its arguments unchanged and no counter raised. -/
theorem quiescent_reference : Cert.quiescent_ModFwdReferenceIdeal := fun m ρ _ =>
  (θ_run Cert.ModFwdReferenceIdeal.defs _ _).mono (fun r h => ⟨fun c => (h c).2, sem_eq_zero_of_no_sems (by decide) r.2⟩)
    (Cert.ModFwdReferenceIdeal.Value.run (F := Ideal) m ρ)

section
open StableHlo Cert.ModFwdReferenceIdeal Cert.ModFwdReferenceIdeal.Read
theorem ref_rows (y : S2x16x768.Idx) : val_main_v42 (F := Ideal) ca cc w b y = rows ca cc w b (y 0) (y 1) (y 2) := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call1_v5, val_main_call1_v4, val_main_call1_cst_0, val_main_call1_v3, val_main_call1_v2, val_main_call1_cst, val_main_call1_v1, val_main_call1_v0, val_main_call0_v5, val_main_call0_v4, val_main_call0_cst_0, val_main_call0_v3, val_main_call0_v2, val_main_call0_cst, val_main_call0_v1, val_main_call0_v0]
  have core : ∀ (l : Fin 2) (r : Fin 16) (x : Fin 768),
      (if l.val < 1 then rows ca cc w b 0 r x else rows ca cc w b 1 r x) = rows ca cc w b l r x := by
    intro l r x; fin_cases l <;> rfl
  exact core (y 0) (y 1) (y 2)
end

open Cert.ModFwdReferenceIdeal.Read in
/-- The call's result is the modulations, over the extended reals. -/
theorem algebraic : Cert.algebraic_ModFwdIdeal_ModFwdReferenceIdeal := by
  intro m ρ m' ρ' _ hagree
  refine ⟨_, Cert.ModFwdIdeal.Value.run_blocks (F := Ideal) m ρ, ?_⟩
  refine (θ_run Cert.ModFwdReferenceIdeal.defs _ _).mono (fun _ h c => ?_) (Cert.ModFwdReferenceIdeal.Value.run (F := Ideal) m' ρ')
  obtain ⟨r0, ha⟩ := h c
  obtain ⟨e0, e1, e2, e3⟩ := hagree c
  refine ⟨r0.trans ?_, ha⟩
  rw [val_main_v42_eq, e0, e1, e2, e3]
  exact (funext (ref_rows _ _ _ _)).trans (final m c).symm

end Cert.ModRows

end
-- ==== Proof.FwdRow.lean ====
/- # The projection and the feed-forward block: one row

A row of the residual `x` gets the gated product of its three head groups with the projection, is normed and modulated, and passes the squared-relu
feed-forward block, whose gated value is added; `v` holds the modulation's six rows.
-/
module

public import proofs.«01_k».proof.Proof.OutRow
public import proofs.«01_k».proof.Proof.FfnRow
public import proofs.«01_k».proof.Proof.Gen.OutFfnFwdIdeal.Frame

@[expose] public section

set_option maxRecDepth 16384

noncomputable section

namespace Cert.OutRows

open Idealize.ShloMosaic Idealize.ShloMosaic.TcCoe Idealize.SL.Sem
open Cert.Out (Lane Wide Row hd hsum mask mask_sum pick over_width of_pairs bit_value lane_bits groups proj)
open Cert.Ffn (hid mat sum4)

/-- What a row is computed from. -/
@[ext] structure Args where
  x : Row
  v : Fin 6 → Row
  s : Lane
  o : Lane
  r : Lane
  n : Lane
  l : Wide
  w : Fin 1024 → Row
  n2 : Row
  a : Fin 1024 → Fin 4096 → EReal
  b : Fin 4096 → Row
namespace Args
variable (p : Args)
/-- The three groups side by side. -/
def y : Row := groups p.s p.o p.r p.n p.l
/-- The row after the projection, -/
def x1 : Row := fun k => p.x k + p.v 2 k * proj p.y p.w k
/-- normed and modulated, -/
def h : Row := Cert.Ffn.head p.x1 p.n2 (p.v 4) (p.v 3)
/-- the feed-forward block's value, -/
def f : Row := fun k => ∑ j, hid p.h p.a j * hid p.h p.a j * p.b j k
/-- and the row after it. -/
def x2 : Row := fun k => p.x1 k + p.v 5 k * p.f k
end Args

open Cert.OutFfnFwdIdeal Cert.OutFfnFwdIdeal.Gen

/-! ## A head's mean square, by masks over the lanes -/

/-- The lanes from one number on and before another. -/
def bits (lo hi : BitVec 32) : FVec Ideal S1x256 .f32 := sitofp .f32 (extui 32 (andi (cmpi .sge (iota .tc S1x256 32 [1] iota_S1x256_d1_w32) (broadcast S1x256 lo))
  (cmpi .slt (iota .tc S1x256 32 [1] iota_S1x256_d1_w32) (broadcast S1x256 hi))) natLt_1_32)
theorem bits0 (j : Fin 256) : bits 0#32 64#32 (ix2 0 j) = mask 0 j := by
  pointwise [bits]
  exact (bit_value _).trans (if_congr (lane_bits j).1 rfl rfl)
theorem bits1 (j : Fin 256) : bits 64#32 128#32 (ix2 0 j) = mask 1 j := by
  pointwise [bits]
  exact (bit_value _).trans (if_congr (lane_bits j).2.1 rfl rfl)
theorem bits2 (j : Fin 256) : bits 128#32 192#32 (ix2 0 j) = mask 2 j := by
  pointwise [bits]
  exact (bit_value _).trans (if_congr (lane_bits j).2.2.1 rfl rfl)
theorem bits3 (j : Fin 256) : bits 192#32 256#32 (ix2 0 j) = mask 3 j := by
  pointwise [bits]
  exact (bit_value _).trans (if_congr (lane_bits j).2.2.2 rfl rfl)

section
variable (o a M r s : FVec Ideal S256x256 .f32) (q n : FVec Ideal S1x256 .f32) (l : FVec Ideal S256x512 .f32) (v : FVec Ideal S8x1024 .f32)
  (w u b : FVec Ideal S1024x1024 .bf16) (H : FVec Ideal S256x1024 .f32)
/-- One head's part added. -/
def step : FVec Ideal S256x256 .f32 := addf a (mulf (broadcastTo S256x256 q broadcasts_S1x256_S256x256) (broadcastTo S256x256
  (mulf (shapeCast S256x1 (multiReduction .add [1] S256 (mulf (mulf o o) (broadcastTo S256x256 q broadcasts_S1x256_S256x256)) 0x00000000#32 reduces_S256x256_S256 (.inl rfl) rfl) shapeCasts_S256_S256x1)
    (broadcast S256x1 (Scalar.ofBits .f32 0x3C800000#32))) broadcasts_S256x1_S256x256))
theorem step_at (i j : Fin 256) : step o a q (ix2 i j)
    = a (ix2 i j) + q (ix2 0 j) * ((∑ k, o (ix2 i k) * o (ix2 i k) * q (ix2 0 k)) * Ideal.ofBits .f32 0x3C800000#32) := by
  pointwise [step]
/-- The mean square over each lane's head. -/
def means : FVec Ideal S256x256 .f32 :=
  step o (step o (step o (step o (broadcast S256x256 (Scalar.ofBits .f32 0x00000000#32)) (bits 0#32 64#32)) (bits 64#32 128#32)) (bits 128#32 192#32)) (bits 192#32 256#32)
theorem means_at (i j : Fin 256) : means o (ix2 i j) = hsum (fun k => o (ix2 i k) * o (ix2 i k)) (hd j) * Ideal.ofBits .f32 0x3C800000#32 := by
  rw [← pick j (fun h => hsum (fun k => o (ix2 i k) * o (ix2 i k)) h * Ideal.ofBits .f32 0x3C800000#32)]
  simp only [← mask_sum]
  unfold means
  simp only [step_at, bits0, bits1, bits2, bits3]
  have e : (broadcast S256x256 (Scalar.ofBits (F := Ideal) .f32 0x00000000#32) : FVec Ideal S256x256 .f32) (ix2 i j) = 0 := by pointwise
  rw [e]
/-- The normed and gated group. -/
def gatedN : FVec Ideal S256x256 .f32 := mulf (mulf (mulf o (rsqrt (addf M (broadcast S256x256 (Scalar.ofBits .f32 0x358637BD#32)))))
  (broadcastTo S256x256 n broadcasts_S1x256_S256x256)) (mulf r (logistic r))
theorem gatedN_at (i j : Fin 256) : gatedN o (means o) r n (ix2 i j)
    = Cert.Out.normed (fun k => o (ix2 i k)) (fun k => n (ix2 0 k)) j * Cert.Out.silu (fun k => r (ix2 i k)) j := by
  unfold Cert.Out.normed Cert.Out.unit Cert.Out.rms Cert.Out.ms
  rw [over_width, ← means_at]
  generalize means o = M
  pointwise [gatedN]
  rfl
/-- The groups' product with the projection, gated. -/
def projected : FVec Ideal S256x1024 .f32 := mulf (broadcastTo S256x1024 (extractStridedSlice S1x1024 ![2, 0] v slices_S8x1024_o2_0_S1x1024) broadcasts_S1x1024_S256x1024)
  (matmul dot_S256x1024_S1024x1024_S256x1024_1_0_0_1_n_n none (truncf .bf16 (concatenate S256x1024 1 [⟨S256x256, s⟩, ⟨S256x256, a⟩, ⟨S256x512, l⟩]
    concatenates_S256x256_S256x256_S256x512_S256x1024_d1) bitsLt_bf16_f32) w (constant S256x1024 .f32 0x00000000#32))
theorem projected_at (i : Fin 256) (k : Fin 1024) : projected (gatedN o (means o) r n) s l v w (ix2 i k)
    = v (ix2 2 k) * proj (groups (fun k => s (ix2 i k)) (fun k => o (ix2 i k)) (fun k => r (ix2 i k)) (fun k => n (ix2 0 k)) (fun k => l (ix2 i k))) (fun i k => w (ix2 i k)) k := by
  unfold proj groups
  simp only [← gatedN_at]
  generalize gatedN o (means o) r n = g
  pointwise [projected]
/-- What a thousand hidden columns add. -/
def part : FVec Ideal S256x1024 .f32 := matmul dot_S256x1024_S1024x1024_S256x1024_1_0_0_1_n_n none (truncf .bf16 (mulf
    (maximumf (matmul dot_S256x1024_S1024x1024_S256x1024_1_0_0_1_n_n none (truncf .bf16 H bitsLt_bf16_f32) u (constant S256x1024 .f32 0x00000000#32)) (broadcast S256x1024 (Scalar.ofBits .f32 0x00000000#32)))
    (maximumf (matmul dot_S256x1024_S1024x1024_S256x1024_1_0_0_1_n_n none (truncf .bf16 H bitsLt_bf16_f32) u (constant S256x1024 .f32 0x00000000#32)) (broadcast S256x1024 (Scalar.ofBits .f32 0x00000000#32))))
    bitsLt_bf16_f32) b (constant S256x1024 .f32 0x00000000#32)
theorem part_at (i : Fin 256) (k : Fin 1024) : part u b H (ix2 i k) = ∑ j, hid (fun k => H (ix2 i k)) (mat u) j * hid (fun k => H (ix2 i k)) (mat u) j * mat b j k := by
  pointwise [part]
  rfl
end

/-! ## The blocks' rows -/

section
variable (x0 : Vec Ideal S256x1024 .f32) (x1 : Vec Ideal S1x8x1024 .f32) (x2 x3 x4 x5 : Vec Ideal S256x256 .f32) (x6 : Vec Ideal S256x512 .f32)
  (x7 : Vec Ideal S1x256 .f32) (x8 : Vec Ideal S1024x1024 .bf16) (x9 : Vec Ideal S1x1024 .f32) (x10 : Vec Ideal S1024x4096 .bf16) (x11 : Vec Ideal S4096x1024 .bf16)

/-- What a row of the blocks is computed from. -/
def row (i : Fin 256) : Args where
  x k := x0 (ix2 i k)
  v j k := x1 (ix3 0 ⟨j.val, by omega⟩ k)
  s k := x2 (ix2 i k)
  o k := x3 (ix2 i k) + x4 (ix2 i k)
  r k := x5 (ix2 i k)
  n k := x7 (ix2 0 k)
  l k := x6 (ix2 i k)
  w := mat x8
  n2 k := x9 (ix2 0 k)
  a := mat x10
  b := mat x11

theorem hz2 : (![0, 0] : Fin 2 → Nat) = fun _ => 0 := funext fun a => by fin_cases a <;> rfl
theorem hz3 : (![0, 0, 0] : Fin 3 → Nat) = fun _ => 0 := funext fun a => by fin_cases a <;> rfl
theorem ld0 : View.ld x0 r0_0 = x0 := View.ld_unit_zero hz2 _ _
theorem ld1 : View.ld x1 r0_1 = x1 := View.ld_unit_zero hz3 _ _
theorem ld2 : View.ld x2 r0_2 = x2 := View.ld_unit_zero hz2 _ _
theorem ld3 : View.ld x6 r0_3 = x6 := View.ld_unit_zero hz2 _ _
theorem ld4 : View.ld x7 r0_4 = x7 := View.ld_unit_zero hz2 _ _
theorem ld5 : View.ld x8 r0_5 = x8 := View.ld_unit_zero hz2 _ _
theorem ld6 : View.ld x9 r0_6 = x9 := View.ld_unit_zero hz2 _ _

theorem mods (j : Fin 8) (k : Fin 1024) : k0_pay23 x0 x1 x2 x3 x4 x5 x6 x7 x8 x9 x10 x11 (ix2 j k) = x1 (ix3 0 j k) := by
  unfold k0_pay23
  rw [ld1]
  pointwise [k0_pay3]
theorem added (i : Fin 256) (k : Fin 1024) : k0_pay26 x0 x1 x2 x3 x4 x5 x6 x7 x8 x9 x10 x11 (ix2 i k) = (row x0 x1 x2 x3 x4 x5 x6 x7 x8 x9 x10 x11 i).v 2 k * proj (row x0 x1 x2 x3 x4 x5 x6 x7 x8 x9 x10 x11 i).y (row x0 x1 x2 x3 x4 x5 x6 x7 x8 x9 x10 x11 i).w k := by
  have hv := mods x0 x1 x2 x3 x4 x5 x6 x7 x8 x9 x10 x11
  revert hv
  unfold k0_pay26
  generalize k0_pay23 x0 x1 x2 x3 x4 x5 x6 x7 x8 x9 x10 x11 = v
  intro hv
  refine (projected_at (k0_pay15 (View.ld x3 r0_2) (View.ld x4 r0_2)) (View.ld x5 r0_2) (View.ld x2 r0_2) (k0_pay4 (View.ld x7 r0_4)) (View.ld x6 r0_3) v (k0_pay5 (View.ld x8 r0_5)) i k).trans ?_
  rw [hv, ld2, ld2, ld2, ld2, ld3, ld4, ld5]
  pointwise [k0_pay15, k0_pay4, k0_pay5]
  rfl
/-- The rows after the projection. -/
def B1 (i : Fin 256) : Row := (row x0 x1 x2 x3 x4 x5 x6 x7 x8 x9 x10 x11 i).x1
theorem x1_eq : k0_pay27 x0 x1 x2 x3 x4 x5 x6 x7 x8 x9 x10 x11 = fun y : S256x1024.Idx => B1 x0 x1 x2 x3 x4 x5 x6 x7 x8 x9 x10 x11 (y 0) (y 1) := of_pairs (g := fun i k => B1 x0 x1 x2 x3 x4 x5 x6 x7 x8 x9 x10 x11 i k) fun i k => by
  unfold k0_pay27 B1 Args.x1
  rw [← added, ld0]
  generalize k0_pay26 x0 x1 x2 x3 x4 x5 x6 x7 x8 x9 x10 x11 = u
  pointwise [k0_pay19]
  rfl
/-- The rows normed and modulated. -/
def BH (i : Fin 256) : Row := (row x0 x1 x2 x3 x4 x5 x6 x7 x8 x9 x10 x11 i).h
theorem h_eq : k0_pay20 (View.ld x0 r0_0) (k0_pay23 x0 x1 x2 x3 x4 x5 x6 x7 x8 x9 x10 x11) (k0_pay24 x0 x1 x2 x3 x4 x5 x6 x7 x8 x9 x10 x11) (k0_pay26 x0 x1 x2 x3 x4 x5 x6 x7 x8 x9 x10 x11) = fun y : S256x1024.Idx => BH x0 x1 x2 x3 x4 x5 x6 x7 x8 x9 x10 x11 (y 0) (y 1) := of_pairs (g := fun i k => BH x0 x1 x2 x3 x4 x5 x6 x7 x8 x9 x10 x11 i k) fun i k => by
  have h4 : (row x0 x1 x2 x3 x4 x5 x6 x7 x8 x9 x10 x11 i).v 4 k = k0_pay23 x0 x1 x2 x3 x4 x5 x6 x7 x8 x9 x10 x11 (ix2 4 k) := (mods x0 x1 x2 x3 x4 x5 x6 x7 x8 x9 x10 x11 4 k).symm
  have h3 : (row x0 x1 x2 x3 x4 x5 x6 x7 x8 x9 x10 x11 i).v 3 k = k0_pay23 x0 x1 x2 x3 x4 x5 x6 x7 x8 x9 x10 x11 (ix2 3 k) := (mods x0 x1 x2 x3 x4 x5 x6 x7 x8 x9 x10 x11 3 k).symm
  have hn : (row x0 x1 x2 x3 x4 x5 x6 x7 x8 x9 x10 x11 i).n2 k = k0_pay24 x0 x1 x2 x3 x4 x5 x6 x7 x8 x9 x10 x11 (ix2 0 k) := by
    unfold k0_pay24
    rw [ld6]
    pointwise [k0_pay6]
    rfl
  unfold BH Args.h Cert.Ffn.head Cert.Ffn.normed
  rw [h4, h3, hn]
  unfold k0_pay20
  rw [show k0_pay19 (View.ld x0 r0_0) (k0_pay26 x0 x1 x2 x3 x4 x5 x6 x7 x8 x9 x10 x11) = k0_pay27 x0 x1 x2 x3 x4 x5 x6 x7 x8 x9 x10 x11 from rfl, x1_eq]
  show _ = Cert.Ffn.unit (B1 x0 x1 x2 x3 x4 x5 x6 x7 x8 x9 x10 x11 i) k * _ * _ + _
  generalize B1 x0 x1 x2 x3 x4 x5 x6 x7 x8 x9 x10 x11 = X
  generalize k0_pay23 x0 x1 x2 x3 x4 x5 x6 x7 x8 x9 x10 x11 = v
  generalize k0_pay24 x0 x1 x2 x3 x4 x5 x6 x7 x8 x9 x10 x11 = n
  pointwise
  rfl
theorem chunk_up0 (k j : Fin 1024) : mat (k0_pay7 (View.ld x10 r0_7)) k j = mat x10 k ⟨j.val, by omega⟩ := (congrFun (shapeCast_self _ _) (ix2 k j)).trans (Cert.Ffn.mat_up0 x10 k j)
theorem chunk_up1 (k j : Fin 1024) : mat (k0_pay8 (View.ld x10 r0_8)) k j = mat x10 k ⟨1024 + j.val, by omega⟩ := (congrFun (shapeCast_self _ _) (ix2 k j)).trans (Cert.Ffn.mat_up1 x10 k j)
theorem chunk_up2 (k j : Fin 1024) : mat (k0_pay9 (View.ld x10 r0_9)) k j = mat x10 k ⟨2048 + j.val, by omega⟩ := (congrFun (shapeCast_self _ _) (ix2 k j)).trans (Cert.Ffn.mat_up2 x10 k j)
theorem chunk_up3 (k j : Fin 1024) : mat (k0_pay10 (View.ld x10 r0_10)) k j = mat x10 k ⟨3072 + j.val, by omega⟩ := (congrFun (shapeCast_self _ _) (ix2 k j)).trans (Cert.Ffn.mat_up3 x10 k j)
theorem chunk_dn0 (j k : Fin 1024) : mat (k0_pay11 (View.ld x11 r0_11)) j k = mat x11 ⟨j.val, by omega⟩ k := (congrFun (shapeCast_self _ _) (ix2 j k)).trans (Cert.Ffn.mat_dn0 x11 k j)
theorem chunk_dn1 (j k : Fin 1024) : mat (k0_pay12 (View.ld x11 r0_12)) j k = mat x11 ⟨1024 + j.val, by omega⟩ k := (congrFun (shapeCast_self _ _) (ix2 j k)).trans (Cert.Ffn.mat_dn1 x11 k j)
theorem chunk_dn2 (j k : Fin 1024) : mat (k0_pay13 (View.ld x11 r0_13)) j k = mat x11 ⟨2048 + j.val, by omega⟩ k := (congrFun (shapeCast_self _ _) (ix2 j k)).trans (Cert.Ffn.mat_dn2 x11 k j)
theorem chunk_dn3 (j k : Fin 1024) : mat (k0_pay25 x0 x1 x2 x3 x4 x5 x6 x7 x8 x9 x10 x11) j k = mat x11 ⟨3072 + j.val, by omega⟩ k := (congrFun (shapeCast_self _ _) (ix2 j k)).trans (Cert.Ffn.mat_dn3 x11 k j)
/-- The feed-forward block's rows. -/
theorem f_at (i : Fin 256) (k : Fin 1024) : k0_pay1 (k0_pay25 x0 x1 x2 x3 x4 x5 x6 x7 x8 x9 x10 x11) (k0_pay28 x0 x1 x2 x3 x4 x5 x6 x7 x8 x9 x10 x11) (k0_pay29 x0 x1 x2 x3 x4 x5 x6 x7 x8 x9 x10 x11) (ix2 i k) = (row x0 x1 x2 x3 x4 x5 x6 x7 x8 x9 x10 x11 i).f k := by
  have e : ∀ H, k0_pay20 (View.ld x0 r0_0) (k0_pay23 x0 x1 x2 x3 x4 x5 x6 x7 x8 x9 x10 x11) (k0_pay24 x0 x1 x2 x3 x4 x5 x6 x7 x8 x9 x10 x11) (k0_pay26 x0 x1 x2 x3 x4 x5 x6 x7 x8 x9 x10 x11) = H → k0_pay1 (k0_pay25 x0 x1 x2 x3 x4 x5 x6 x7 x8 x9 x10 x11) (k0_pay28 x0 x1 x2 x3 x4 x5 x6 x7 x8 x9 x10 x11) (k0_pay29 x0 x1 x2 x3 x4 x5 x6 x7 x8 x9 x10 x11)
      = addf (addf (addf (part (k0_pay7 (View.ld x10 r0_7)) (k0_pay11 (View.ld x11 r0_11)) H) (part (k0_pay8 (View.ld x10 r0_8)) (k0_pay12 (View.ld x11 r0_12)) H))
        (part (k0_pay9 (View.ld x10 r0_9)) (k0_pay13 (View.ld x11 r0_13)) H)) (part (k0_pay10 (View.ld x10 r0_10)) (k0_pay25 x0 x1 x2 x3 x4 x5 x6 x7 x8 x9 x10 x11) H) := by
    rintro _ rfl; rfl
  rw [e _ (h_eq x0 x1 x2 x3 x4 x5 x6 x7 x8 x9 x10 x11)]
  unfold Args.f
  rw [sum4]
  show part _ _ _ (ix2 i k) + part _ _ _ (ix2 i k) + part _ _ _ (ix2 i k) + part _ _ _ (ix2 i k) = _
  simp only [part_at, hid, chunk_up0, chunk_up1, chunk_up2, chunk_up3, chunk_dn0, chunk_dn1, chunk_dn2, chunk_dn3]
  rfl
/-- The three results of a block, by rows. -/
theorem out_x1 (y : S256x1024.Idx) : out0_12 x0 x1 x2 x3 x4 x5 x6 x7 x8 x9 x10 x11 y = (row x0 x1 x2 x3 x4 x5 x6 x7 x8 x9 x10 x11 (y 0)).x1 (y 1) := by
  unfold out0_12
  rw [View.canon_unit_zero hz2, x1_eq]
  rfl
theorem out_f : out0_14 x0 x1 x2 x3 x4 x5 x6 x7 x8 x9 x10 x11 = fun y : S256x1024.Idx => (row x0 x1 x2 x3 x4 x5 x6 x7 x8 x9 x10 x11 (y 0)).f (y 1) := by
  unfold out0_14
  rw [View.canon_unit_zero hz2]
  exact of_pairs (f_at x0 x1 x2 x3 x4 x5 x6 x7 x8 x9 x10 x11)
theorem out_x2 : out0_13 x0 x1 x2 x3 x4 x5 x6 x7 x8 x9 x10 x11 = fun y : S256x1024.Idx => (row x0 x1 x2 x3 x4 x5 x6 x7 x8 x9 x10 x11 (y 0)).x2 (y 1) := by
  unfold out0_13
  rw [View.canon_unit_zero hz2]
  refine of_pairs (g := fun i k => (row x0 x1 x2 x3 x4 x5 x6 x7 x8 x9 x10 x11 i).x2 k) fun i k => ?_
  have h5 : (row x0 x1 x2 x3 x4 x5 x6 x7 x8 x9 x10 x11 i).v 5 k = k0_pay23 x0 x1 x2 x3 x4 x5 x6 x7 x8 x9 x10 x11 (ix2 5 k) := (mods x0 x1 x2 x3 x4 x5 x6 x7 x8 x9 x10 x11 5 k).symm
  have h1 : (row x0 x1 x2 x3 x4 x5 x6 x7 x8 x9 x10 x11 i).x1 k = k0_pay27 x0 x1 x2 x3 x4 x5 x6 x7 x8 x9 x10 x11 (ix2 i k) := (congrFun (x1_eq x0 x1 x2 x3 x4 x5 x6 x7 x8 x9 x10 x11) (ix2 i k)).symm
  unfold Args.x2
  rw [h5, h1, ← f_at]
  generalize k0_pay23 x0 x1 x2 x3 x4 x5 x6 x7 x8 x9 x10 x11 = v
  generalize k0_pay27 x0 x1 x2 x3 x4 x5 x6 x7 x8 x9 x10 x11 = u
  unfold k0_pay2
  generalize k0_pay1 (F := Ideal) (k0_pay25 x0 x1 x2 x3 x4 x5 x6 x7 x8 x9 x10 x11) (k0_pay28 x0 x1 x2 x3 x4 x5 x6 x7 x8 x9 x10 x11) (k0_pay29 x0 x1 x2 x3 x4 x5 x6 x7 x8 x9 x10 x11) = w
  pointwise
end

end Cert.OutRows

end
-- ==== Proof.FwdRef.lean ====
/- # The projection and the feed-forward block: the reference's values

The reference's lines read one after the other, over any arguments' arrays, by the same functions of rows as the kernel's blocks. The context's rows
are the first 256, and the tokens' own the 8192 after them.
-/
module

public import proofs.«01_k».proof.Proof.FwdRow
public import proofs.«01_k».proof.Proof.OutRef
public import proofs.«01_k».proof.Proof.Gen.OutFfnFwdReferenceIdeal.Read

@[expose] public section

set_option maxRecDepth 16384

noncomputable section

namespace Cert.OutRows

open Idealize.ShloMosaic Idealize.SL.Sem
open StableHlo Cert.OutFfnFwdReferenceIdeal Cert.OutFfnFwdReferenceIdeal.Gen Cert.OutFfnFwdReferenceIdeal.Read
open Cert.Out (Lane Row hd pos lane lane_pos hd_lane pos_lane ms rms unit normed silu groups proj hsum)

variable (a0 : FVec Ideal S8448x1024 .f32) (a1 a2 : FVec Ideal S6144 .f32) (a3 a4 a5 a6 : FVec Ideal S8448x256 .f32) (a7 : FVec Ideal S8448x512 .f32)
  (a8 : FVec Ideal S64 .f32) (a9 : FVec Ideal S1024x1024 .f32) (a10 : FVec Ideal S1024 .f32) (a11 : FVec Ideal S1024x4096 .f32) (a12 : FVec Ideal S4096x1024 .f32)

/-- What a row of the arguments is computed from. -/
def args (i : Fin 8448) : Args where
  x k := a0 (ix2 i k)
  v j k := if i.val < 256 then a1 (ix1 ⟨1024 * j.val + k.val, by omega⟩) else a2 (ix1 ⟨1024 * j.val + k.val, by omega⟩)
  s k := a3 (ix2 i k)
  o k := a4 (ix2 i k) + a5 (ix2 i k)
  r k := a6 (ix2 i k)
  n k := a8 (ix1 (pos k))
  l k := a7 (ix2 i k)
  w i k := a9 (ix2 i k)
  n2 k := a10 (ix1 k)
  a k j := a11 (ix2 k j)
  b j k := a12 (ix2 j k)

/-! ## The three groups and their product -/

/-- The heads laid side by side. -/
theorem flat (u : FVec Ideal S8448x4x64 .f32) (i : Fin 8448) (j : Fin 256) : shapeCast S8448x256 u shapeCasts_S8448x4x64_S8448x256 (ix2 i j) = u (ix3 i (hd j) (pos j)) := by
  pointwise
  rfl
theorem heads (u : FVec Ideal S8448x256 .f32) (i : Fin 8448) (h : Fin 4) (k : Fin 64) :
    shapeCast S8448x4x64 u shapeCasts_S8448x256_S8448x4x64 (ix3 i h k) = u (ix2 i (lane h k)) := by
  pointwise
  exact congrArg u (congrArg (ix2 i) (Fin.ext (by simp only [lane]; omega)))
/-- The normed group's rows. -/
def summed (i : Fin 8448) : Lane := fun k => a4 (ix2 i k) + a5 (ix2 i k)
theorem ref_o (i : Fin 8448) (h : Fin 4) (k : Fin 64) : val_main_v13 (F := Ideal) a4 a5 (ix3 i h k) = summed a4 a5 i (lane h k) := heads _ i h k
theorem ref_ms (i : Fin 8448) (h : Fin 4) : val_main_v20 (F := Ideal) a4 a5 (ix3 i h 0) = ms (summed a4 a5 i) h := by
  unfold ms hsum
  simp only [← ref_o]
  unfold val_main_v20 val_main_v18 val_main_v16 val_main_v15 val_main_v14
  generalize val_main_v13 (F := Ideal) a4 a5 = u
  pointwise [val_main_v19, val_main_cst_1, val_main_v17, val_main_cst_0, val_main_cst]
  try rfl
theorem ref_normed (i : Fin 8448) (h : Fin 4) (k : Fin 64) : val_main_v26 (F := Ideal) a4 a5 a8 (ix3 i h k)
    = normed (summed a4 a5 i) (fun k => a8 (ix1 (pos k))) (lane h k) := by
  unfold normed unit rms
  rw [hd_lane, ← ref_o, ← ref_ms]
  show _ = _ * _ * a8 (ix1 (pos (lane h k)))
  rw [pos_lane]
  unfold val_main_v26 val_main_v23 val_main_v22 val_main_v21
  generalize val_main_v13 (F := Ideal) a4 a5 = u
  generalize val_main_v20 (F := Ideal) a4 a5 = w
  pointwise [val_main_v25, val_main_v24]
  try rfl
theorem ref_silu (i : Fin 8448) (h : Fin 4) (k : Fin 64) : val_main_v28 (F := Ideal) a6 (ix3 i h k) = silu (fun k => a6 (ix2 i k)) (lane h k) := by
  unfold silu Ideal.logistic
  simp only [← heads]
  unfold val_main_v28 val_main_call0_v5 val_main_call0_v3 val_main_call0_v1 val_main_call0_v0 val_main_v27
  generalize shapeCast S8448x4x64 a6 shapeCasts_S8448x256_S8448x4x64 = u
  pointwise [val_main_call0_v2, val_main_call0_cst, val_main_call0_v4, val_main_call0_cst_0]
  try rfl
theorem ref_mid (i : Fin 8448) (j : Fin 256) : val_main_v30 (F := Ideal) a4 a5 a6 a8 (ix2 i j)
    = normed (summed a4 a5 i) (fun k => a8 (ix1 (pos k))) j * silu (fun k => a6 (ix2 i k)) j := by
  unfold val_main_v30
  rw [flat]
  refine (congr (congrArg _ (ref_normed a4 a5 a8 i (hd j) (pos j))) (ref_silu a6 i (hd j) (pos j))).trans ?_
  rw [lane_pos]
  rfl
theorem ref_y (i : Fin 8448) (k : Fin 1024) : val_main_v31 (F := Ideal) a3 a4 a5 a6 a7 a8 (ix2 i k) = (args a0 a1 a2 a3 a4 a5 a6 a7 a8 a9 a10 a11 a12 i).y k := by
  unfold Args.y groups
  refine Eq.trans ?_ (show (if h : k.val < 256 then a3 (ix2 i ⟨k.val, h⟩) else if h' : k.val - 256 < 256 then val_main_v30 (F := Ideal) a4 a5 a6 a8 (ix2 i ⟨k.val - 256, h'⟩)
    else a7 (ix2 i ⟨k.val - 256 - 256, by omega⟩)) = _ from ?_)
  · unfold val_main_v31
    generalize val_main_v30 (F := Ideal) a4 a5 a6 a8 = u
    pointwise
  · simp only [ref_mid]
    rfl
theorem ref_proj (i : Fin 8448) (k : Fin 1024) : val_main_v32 (F := Ideal) a3 a4 a5 a6 a7 a8 a9 (ix2 i k) = proj (args a0 a1 a2 a3 a4 a5 a6 a7 a8 a9 a10 a11 a12 i).y (args a0 a1 a2 a3 a4 a5 a6 a7 a8 a9 a10 a11 a12 i).w k := by
  unfold proj
  simp only [← ref_y]
  unfold val_main_v32
  generalize val_main_v31 (F := Ideal) a3 a4 a5 a6 a7 a8 = u
  pointwise
  try rfl

/-! ## The gated sums, the norm and the block -/

/-- A gated value added, the gate the context's for the first rows. -/
theorem gate (a u : FVec Ideal S8448x1024 .f32) (g g' : FVec Ideal S1024 .f32) (i : Fin 8448) (k : Fin 1024) :
    concatenate S8448x1024 0 [⟨S256x1024, addf (extractStridedSlice S256x1024 ![0, 0] a slices_S8448x1024_S256x1024_0_0)
        (mulf (broadcastInDim S256x1024 ![0, 1] bcast_S1x1024_S256x1024_0_1 (broadcastInDim S1x1024 ![1] bcast_S1024_S1x1024_1 g)) (extractStridedSlice S256x1024 ![0, 0] u slices_S8448x1024_S256x1024_0_0))⟩,
      ⟨S8192x1024, addf (extractStridedSlice S8192x1024 ![256, 0] a slices_S8448x1024_S8192x1024_256_0)
        (mulf (broadcastInDim S8192x1024 ![0, 1] bcast_S1x1024_S8192x1024_0_1 (broadcastInDim S1x1024 ![1] bcast_S1024_S1x1024_1 g')) (extractStridedSlice S8192x1024 ![256, 0] u slices_S8448x1024_S8192x1024_256_0))⟩]
      concatenates_S256x1024_S8192x1024_S8448x1024_d0 (ix2 i k) = a (ix2 i k) + (if i.val < 256 then g (ix1 k) else g' (ix1 k)) * u (ix2 i k) := by
  pointwise
  by_cases h : i.val < 256
  · rw [dif_pos h, if_pos h]
  · rw [dif_neg h, if_neg h]
    have e : (⟨256 + (i.val - 256), by omega⟩ : Fin 8448) = i := Fin.ext (by simp only []; omega)
    rw [e]
theorem ref_x1 (i : Fin 8448) (k : Fin 1024) : val_main_v45 (F := Ideal) a0 a1 a2 a3 a4 a5 a6 a7 a8 a9 (ix2 i k) = (args a0 a1 a2 a3 a4 a5 a6 a7 a8 a9 a10 a11 a12 i).x1 k := by
  refine (gate a0 (val_main_v32 (F := Ideal) a3 a4 a5 a6 a7 a8 a9) (val_main_v2 (F := Ideal) a1) (val_main_v8 (F := Ideal) a2) i k).trans ?_
  rw [ref_proj a0 a1 a2 a3 a4 a5 a6 a7 a8 a9 a10 a11 a12]
  pointwise [val_main_v2, val_main_v8]
  rfl
theorem ref_head_c (r : Fin 256) (k : Fin 1024) : val_main_v67 (F := Ideal) a0 a1 a2 a3 a4 a5 a6 a7 a8 a9 a10 (ix2 r k)
    = Cert.Ffn.head (fun k => val_main_v45 (F := Ideal) a0 a1 a2 a3 a4 a5 a6 a7 a8 a9 (ix2 ⟨r.val, by omega⟩ k)) (fun k => a10 (ix1 k)) (fun k => a1 (ix1 ⟨4096 + k.val, by omega⟩)) (fun k => a1 (ix1 ⟨3072 + k.val, by omega⟩)) k := by
  unfold val_main_v67 val_main_v64 val_main_v59 val_main_v56 val_main_v55 val_main_v54 val_main_v53 val_main_v51 val_main_v49 val_main_v48 val_main_v47 val_main_v46
  generalize val_main_v45 (F := Ideal) a0 a1 a2 a3 a4 a5 a6 a7 a8 a9 = u
  pointwise [val_main_v66, val_main_v65, val_main_v3, val_main_v63, val_main_v62, val_main_v61, val_main_v60, val_main_cst_5, val_main_v4, val_main_v58, val_main_v57, val_main_v52, val_main_cst_4, val_main_v50, val_main_cst_3, val_main_cst_2]
  rfl
theorem ref_head_o (r : Fin 8192) (k : Fin 1024) : val_main_v89 (F := Ideal) a0 a1 a2 a3 a4 a5 a6 a7 a8 a9 a10 (ix2 r k)
    = Cert.Ffn.head (fun k => val_main_v45 (F := Ideal) a0 a1 a2 a3 a4 a5 a6 a7 a8 a9 (ix2 ⟨256 + r.val, by omega⟩ k)) (fun k => a10 (ix1 k)) (fun k => a2 (ix1 ⟨4096 + k.val, by omega⟩)) (fun k => a2 (ix1 ⟨3072 + k.val, by omega⟩)) k := by
  unfold val_main_v89 val_main_v86 val_main_v81 val_main_v78 val_main_v77 val_main_v76 val_main_v75 val_main_v73 val_main_v71 val_main_v70 val_main_v69 val_main_v68
  generalize val_main_v45 (F := Ideal) a0 a1 a2 a3 a4 a5 a6 a7 a8 a9 = u
  pointwise [val_main_v88, val_main_v87, val_main_v9, val_main_v85, val_main_v84, val_main_v83, val_main_v82, val_main_cst_9, val_main_v10, val_main_v80, val_main_v79, val_main_v74, val_main_cst_8, val_main_v72, val_main_cst_7, val_main_cst_6]
  rfl
theorem ref_h (i : Fin 8448) (k : Fin 1024) : val_main_v90 (F := Ideal) a0 a1 a2 a3 a4 a5 a6 a7 a8 a9 a10 (ix2 i k) = (args a0 a1 a2 a3 a4 a5 a6 a7 a8 a9 a10 a11 a12 i).h k := by
  have key : (args a0 a1 a2 a3 a4 a5 a6 a7 a8 a9 a10 a11 a12 i).h k = if h : i.val < 256 then val_main_v67 (F := Ideal) a0 a1 a2 a3 a4 a5 a6 a7 a8 a9 a10 (ix2 ⟨i.val, h⟩ k) else val_main_v89 (F := Ideal) a0 a1 a2 a3 a4 a5 a6 a7 a8 a9 a10 (ix2 ⟨i.val - 256, by omega⟩ k) := by
    unfold Args.h
    by_cases h : i.val < 256
    · rw [dif_pos h, ref_head_c]
      simp only [ref_x1 a0 a1 a2 a3 a4 a5 a6 a7 a8 a9 a10 a11 a12, args, if_pos h]
      rfl
    · have e : (⟨256 + (i.val - 256), by omega⟩ : Fin 8448) = i := Fin.ext (by simp only []; omega)
      rw [dif_neg h, ref_head_o]
      simp only [e, ref_x1 a0 a1 a2 a3 a4 a5 a6 a7 a8 a9 a10 a11 a12, args, if_neg h]
      rfl
  rw [key]
  unfold val_main_v90
  generalize val_main_v67 (F := Ideal) a0 a1 a2 a3 a4 a5 a6 a7 a8 a9 a10 = p
  generalize val_main_v89 (F := Ideal) a0 a1 a2 a3 a4 a5 a6 a7 a8 a9 a10 = q
  pointwise
/-- The activation. -/
theorem ref_a (i : Fin 8448) (j : Fin 4096) : val_main_v92 (F := Ideal) a0 a1 a2 a3 a4 a5 a6 a7 a8 a9 a10 a11 (ix2 i j) = Cert.Ffn.hid (args a0 a1 a2 a3 a4 a5 a6 a7 a8 a9 a10 a11 a12 i).h (args a0 a1 a2 a3 a4 a5 a6 a7 a8 a9 a10 a11 a12 i).a j := by
  unfold Cert.Ffn.hid
  simp only [← ref_h]
  unfold val_main_v92 val_main_v91
  generalize val_main_v90 (F := Ideal) a0 a1 a2 a3 a4 a5 a6 a7 a8 a9 a10 = u
  pointwise [val_main_call1_v0, val_main_call1_cst]
  try rfl
theorem ref_f (i : Fin 8448) (k : Fin 1024) : val_main_v94 (F := Ideal) a0 a1 a2 a3 a4 a5 a6 a7 a8 a9 a10 a11 a12 (ix2 i k) = (args a0 a1 a2 a3 a4 a5 a6 a7 a8 a9 a10 a11 a12 i).f k := by
  unfold Args.f
  simp only [← ref_a]
  unfold val_main_v94 val_main_v93
  generalize val_main_v92 (F := Ideal) a0 a1 a2 a3 a4 a5 a6 a7 a8 a9 a10 a11 = u
  pointwise
  try rfl
theorem ref_x2 (i : Fin 8448) (k : Fin 1024) : val_main_v107 (F := Ideal) a0 a1 a2 a3 a4 a5 a6 a7 a8 a9 a10 a11 a12 (ix2 i k) = (args a0 a1 a2 a3 a4 a5 a6 a7 a8 a9 a10 a11 a12 i).x2 k := by
  refine (gate (val_main_v45 (F := Ideal) a0 a1 a2 a3 a4 a5 a6 a7 a8 a9) (val_main_v94 (F := Ideal) a0 a1 a2 a3 a4 a5 a6 a7 a8 a9 a10 a11 a12) (val_main_v5 (F := Ideal) a1) (val_main_v11 (F := Ideal) a2) i k).trans ?_
  rw [ref_f, ref_x1 a0 a1 a2 a3 a4 a5 a6 a7 a8 a9 a10 a11 a12]
  pointwise [val_main_v5, val_main_v11]
  rfl

end Cert.OutRows

end
-- ==== Proof.FwdClaim.lean ====
/- # The claims of `out_ffn_fwd`

The kernel's blocks are the rows of `FwdRow`, the reference's lines the same rows, so the three results are equal, with no precondition.
-/
module

public import proofs.«01_k».proof.Defs
public import proofs.«01_k».proof.Proof.FwdRef
public import proofs.«01_k».proof.Proof.Gen.OutFfnFwd.Frame
public import proofs.«01_k».proof.Proof.Gen.OutFfnFwdIdeal.Value
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.OutRows

open Idealize.ShloMosaic Idealize.ShloMosaic.TcCoe Idealize.SL.Sem
open Cert.Out (pos of_pairs)

section
open Cert.OutFfnFwdIdeal Cert.OutFfnFwdIdeal.Gen

variable (m : (ℓ : Loc nD τ sig) → Buf (Elt Ideal) ℓ) (c : Dev nD)

/-- What the arguments hold. -/
abbrev A0 : FVec Ideal S8448x1024 .f32 := m ((c.tc : Thread nD τ).loc main_arg0)
@[inherit_doc A0] abbrev A1 : FVec Ideal S6144 .f32 := m ((c.tc : Thread nD τ).loc main_arg1)
@[inherit_doc A0] abbrev A2 : FVec Ideal S6144 .f32 := m ((c.tc : Thread nD τ).loc main_arg2)
@[inherit_doc A0] abbrev A3 : FVec Ideal S8448x256 .f32 := m ((c.tc : Thread nD τ).loc main_arg3)
@[inherit_doc A0] abbrev A4 : FVec Ideal S8448x256 .f32 := m ((c.tc : Thread nD τ).loc main_arg4)
@[inherit_doc A0] abbrev A5 : FVec Ideal S8448x256 .f32 := m ((c.tc : Thread nD τ).loc main_arg5)
@[inherit_doc A0] abbrev A6 : FVec Ideal S8448x256 .f32 := m ((c.tc : Thread nD τ).loc main_arg6)
@[inherit_doc A0] abbrev A7 : FVec Ideal S8448x512 .f32 := m ((c.tc : Thread nD τ).loc main_arg7)
@[inherit_doc A0] abbrev A8 : FVec Ideal S64 .f32 := m ((c.tc : Thread nD τ).loc main_arg8)
@[inherit_doc A0] abbrev A9 : FVec Ideal S1024x1024 .f32 := m ((c.tc : Thread nD τ).loc main_arg9)
@[inherit_doc A0] abbrev A10 : FVec Ideal S1024 .f32 := m ((c.tc : Thread nD τ).loc main_arg10)
@[inherit_doc A0] abbrev A11 : FVec Ideal S1024x4096 .f32 := m ((c.tc : Thread nD τ).loc main_arg11)
@[inherit_doc A0] abbrev A12 : FVec Ideal S4096x1024 .f32 := m ((c.tc : Thread nD τ).loc main_arg12)
/-- The kernel's rows. -/
abbrev K (i : Fin 8448) : Args := args (A0 m c) (A1 m c) (A2 m c) (A3 m c) (A4 m c) (A5 m c) (A6 m c) (A7 m c) (A8 m c) (A9 m c) (A10 m c) (A11 m c) (A12 m c) i

/-! ## The arrays the host lines prepare -/

theorem prep_v (q : Fin 2) (j : Fin 6) (k : Fin 1024) : (V m c main_v7 : FVec Ideal S2x8x1024 .f32) (ix3 q ⟨j.val, by omega⟩ k)
    = if q.val < 1 then A1 m c (ix1 ⟨1024 * j.val + k.val, by omega⟩) else A2 m c (ix1 ⟨1024 * j.val + k.val, by omega⟩) := by
  have e : @Eq (FVec Ideal S2x8x1024 .f32) (V m c main_v7) (concatenate S2x8x1024 0 [
      ⟨S1x8x1024, broadcastInDim S1x8x1024 ![1, 2] bcast_S8x1024_S1x8x1024_1_2 (concatenate S8x1024 0 [⟨S6x1024, shapeCast S6x1024 (A1 m c) shapeCasts_S6144_S6x1024⟩,
        ⟨S2x1024, broadcastInDim S2x1024 ![] bcast_S_S2x1024 (constant (F := Ideal) S_ .f32 0x00000000#32)⟩] concatenates_S6x1024_S2x1024_S8x1024_d0)⟩,
      ⟨S1x8x1024, broadcastInDim S1x8x1024 ![1, 2] bcast_S8x1024_S1x8x1024_1_2 (concatenate S8x1024 0 [⟨S6x1024, shapeCast S6x1024 (A2 m c) shapeCasts_S6144_S6x1024⟩,
        ⟨S2x1024, broadcastInDim S2x1024 ![] bcast_S_S2x1024 (constant (F := Ideal) S_ .f32 0x00000000#32)⟩] concatenates_S6x1024_S2x1024_S8x1024_d0)⟩]
      concatenates_S1x8x1024_S1x8x1024_S2x8x1024_d0) := by
    unfold V; simp only [List.flatten_cons, List.flatten_nil, List.append_nil]; after_reads_simp
    all_goals try rfl
  rw [e]
  have e' : (⟨j.val * 1024 + k.val, by omega⟩ : Fin 6144) = ⟨1024 * j.val + k.val, by omega⟩ := Fin.ext (by simp only; omega)
  rw [← e']
  generalize A1 m c = a
  generalize A2 m c = b
  pointwise
  by_cases h : q.val < 1
  · rw [dif_pos h, if_pos h]
  · rw [dif_neg h, if_neg h]
theorem prep_n (k : Fin 256) : (V m c main_v11 : FVec Ideal S1x256 .f32) (ix2 0 k) = A8 m c (ix1 (pos k)) := by
  have e : @Eq (FVec Ideal S1x256 .f32) (V m c main_v11) (broadcastInDim S1x256 ![1] bcast_S256_S1x256_1 (shapeCast S256 (broadcastInDim S4x64 ![0, 1] bcast_S1x64_S4x64_0_1
      (shapeCast S1x64 (A8 m c) shapeCasts_S64_S1x64)) shapeCasts_S4x64_S256)) := by
    unfold V; simp only [List.flatten_cons, List.flatten_nil, List.append_nil]; after_reads_simp
    all_goals try rfl
  rw [e]
  pointwise
  rfl
theorem prep_n2 (k : Fin 1024) : (V m c main_v13 : FVec Ideal S1x1024 .f32) (ix2 0 k) = A10 m c (ix1 k) := by
  have e : @Eq (FVec Ideal S1x1024 .f32) (V m c main_v13) (broadcastInDim S1x1024 ![1] bcast_S1024_S1x1024_1 (A10 m c)) := by
    unfold V; simp only [List.flatten_cons, List.flatten_nil, List.append_nil]; after_reads_simp
    all_goals try rfl
  rw [e]
  pointwise
theorem prep_w (i : Fin 1024) (k : Fin 1024) : (V m c main_v12 : FVec Ideal S1024x1024 .bf16) (ix2 i k) = A9 m c (ix2 i k) := by
  have e : @Eq (FVec Ideal S1024x1024 .bf16) (V m c main_v12) (truncf .bf16 (A9 m c) bitsLt_bf16_f32) := by
    unfold V; after_reads_simp
    all_goals try rfl
  rw [e]
  rfl
theorem prep_a (i : Fin 1024) (k : Fin 4096) : (V m c main_v14 : FVec Ideal S1024x4096 .bf16) (ix2 i k) = A11 m c (ix2 i k) := by
  have e : @Eq (FVec Ideal S1024x4096 .bf16) (V m c main_v14) (truncf .bf16 (A11 m c) bitsLt_bf16_f32) := by
    unfold V; after_reads_simp
    all_goals try rfl
  rw [e]
  rfl
theorem prep_b (i : Fin 4096) (k : Fin 1024) : (V m c main_v15 : FVec Ideal S4096x1024 .bf16) (ix2 i k) = A12 m c (ix2 i k) := by
  have e : @Eq (FVec Ideal S4096x1024 .bf16) (V m c main_v15) (truncf .bf16 (A12 m c) bitsLt_bf16_f32) := by
    unfold V; after_reads_simp
    all_goals try rfl
  rw [e]
  rfl

/-! ## The blocks a point loads -/

/-- A row of blocks, from what its entries are. -/
theorem row_of {x0 : Vec Ideal S256x1024 .f32} {x1 : Vec Ideal S1x8x1024 .f32} {x2 x3 x4 x5 : Vec Ideal S256x256 .f32} {x6 : Vec Ideal S256x512 .f32}
    {x7 : Vec Ideal S1x256 .f32} {x8 : Vec Ideal S1024x1024 .bf16} {x9 : Vec Ideal S1x1024 .f32} {x10 : Vec Ideal S1024x4096 .bf16} {x11 : Vec Ideal S4096x1024 .bf16}
    {r : Fin 256} {p : Args} (h0 : ∀ k, x0 (ix2 r k) = p.x k) (h1 : ∀ (j : Fin 6) k, x1 (ix3 0 ⟨j.val, by omega⟩ k) = p.v j k) (h2 : ∀ k, x2 (ix2 r k) = p.s k)
    (h3 : ∀ k, x3 (ix2 r k) + x4 (ix2 r k) = p.o k) (h5 : ∀ k, x5 (ix2 r k) = p.r k) (h7 : ∀ k, x7 (ix2 0 k) = p.n k) (h6 : ∀ k, x6 (ix2 r k) = p.l k)
    (h8 : ∀ i k, x8 (ix2 i k) = p.w i k) (h9 : ∀ k, x9 (ix2 0 k) = p.n2 k) (h10 : ∀ i k, x10 (ix2 i k) = p.a i k) (h11 : ∀ i k, x11 (ix2 i k) = p.b i k) :
    row x0 x1 x2 x3 x4 x5 x6 x7 x8 x9 x10 x11 r = p :=
  Args.ext (funext h0) (funext fun j => funext (h1 j)) (funext h2) (funext h3) (funext h5) (funext h7) (funext h6) (funext fun i => funext (h8 i)) (funext h9)
    (funext fun i => funext (h10 i)) (funext fun i => funext (h11 i))

theorem idx : ∀ t : Fin cfg0.N, win0_0.index t = ![t.val, 0]
    ∧ win0_1.index t = ![min t.val 1, 0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0]
    ∧ win0_13.index t = ![t.val, 0]
    ∧ win0_14.index t = ![t.val, 0] := (by decide +kernel : ∀ t : Fin grid0.N, _)
theorem tlt (t : Fin cfg0.N) : t.val < 33 := Nat.lt_of_lt_of_eq t.isLt N_0
/-- A point's row among all. -/
def at_ (t : Fin cfg0.N) (r : Fin 256) : Fin 8448 := ⟨256 * t.val + r.val, by have := tlt t; omega⟩

section
variable (t : Fin cfg0.N) (r : Fin 256)
theorem blk_0 (k : Fin 1024) : (iblk m c 0 t : Vec Ideal S256x1024 .f32) (ix2 r k) = A0 m c (ix2 (at_ t r) k) := by
  have e : (iblk m c 0 t : Vec Ideal S256x1024 .f32) (ix2 r k) = (V m c main_arg0 : FVec Ideal S8448x1024 .f32) (((cfg0.win 0).blk t).view.emb (ix2 r k)) := rfl
  rw [e, V_main_arg0]
  refine congrArg _ (funext fun k => Fin.ext ?_)
  fin_cases k <;> blk_simp [idx t] <;> first | rfl | (show _ = _ ; simp only [ix2, at_]; omega)
theorem blk_2 (k : Fin 256) : (iblk m c 2 t : Vec Ideal S256x256 .f32) (ix2 r k) = A3 m c (ix2 (at_ t r) k) := by
  have e : (iblk m c 2 t : Vec Ideal S256x256 .f32) (ix2 r k) = (V m c main_arg3 : FVec Ideal S8448x256 .f32) (((cfg0.win 2).blk t).view.emb (ix2 r k)) := rfl
  rw [e, V_main_arg3]
  refine congrArg _ (funext fun k => Fin.ext ?_)
  fin_cases k <;> blk_simp [idx t] <;> first | rfl | (show _ = _ ; simp only [ix2, at_]; omega)
theorem blk_3 (k : Fin 256) : (iblk m c 3 t : Vec Ideal S256x256 .f32) (ix2 r k) = A4 m c (ix2 (at_ t r) k) := by
  have e : (iblk m c 3 t : Vec Ideal S256x256 .f32) (ix2 r k) = (V m c main_arg4 : FVec Ideal S8448x256 .f32) (((cfg0.win 3).blk t).view.emb (ix2 r k)) := rfl
  rw [e, V_main_arg4]
  refine congrArg _ (funext fun k => Fin.ext ?_)
  fin_cases k <;> blk_simp [idx t] <;> first | rfl | (show _ = _ ; simp only [ix2, at_]; omega)
theorem blk_4 (k : Fin 256) : (iblk m c 4 t : Vec Ideal S256x256 .f32) (ix2 r k) = A5 m c (ix2 (at_ t r) k) := by
  have e : (iblk m c 4 t : Vec Ideal S256x256 .f32) (ix2 r k) = (V m c main_arg5 : FVec Ideal S8448x256 .f32) (((cfg0.win 4).blk t).view.emb (ix2 r k)) := rfl
  rw [e, V_main_arg5]
  refine congrArg _ (funext fun k => Fin.ext ?_)
  fin_cases k <;> blk_simp [idx t] <;> first | rfl | (show _ = _ ; simp only [ix2, at_]; omega)
theorem blk_5 (k : Fin 256) : (iblk m c 5 t : Vec Ideal S256x256 .f32) (ix2 r k) = A6 m c (ix2 (at_ t r) k) := by
  have e : (iblk m c 5 t : Vec Ideal S256x256 .f32) (ix2 r k) = (V m c main_arg6 : FVec Ideal S8448x256 .f32) (((cfg0.win 5).blk t).view.emb (ix2 r k)) := rfl
  rw [e, V_main_arg6]
  refine congrArg _ (funext fun k => Fin.ext ?_)
  fin_cases k <;> blk_simp [idx t] <;> first | rfl | (show _ = _ ; simp only [ix2, at_]; omega)
theorem blk_6 (k : Fin 512) : (iblk m c 6 t : Vec Ideal S256x512 .f32) (ix2 r k) = A7 m c (ix2 (at_ t r) k) := by
  have e : (iblk m c 6 t : Vec Ideal S256x512 .f32) (ix2 r k) = (V m c main_arg7 : FVec Ideal S8448x512 .f32) (((cfg0.win 6).blk t).view.emb (ix2 r k)) := rfl
  rw [e, V_main_arg7]
  refine congrArg _ (funext fun k => Fin.ext ?_)
  fin_cases k <;> blk_simp [idx t] <;> first | rfl | (show _ = _ ; simp only [ix2, at_]; omega)
theorem blk_1 (j : Fin 6) (k : Fin 1024) : (iblk m c 1 t : Vec Ideal S1x8x1024 .f32) (ix3 0 ⟨j.val, by omega⟩ k) = (K m c (at_ t r)).v j k := by
  have e : (iblk m c 1 t : Vec Ideal S1x8x1024 .f32) (ix3 0 ⟨j.val, by omega⟩ k)
    = (V m c main_v7 : FVec Ideal S2x8x1024 .f32) (((cfg0.win 1).blk t).view.emb (ix3 0 ⟨j.val, by omega⟩ k)) := rfl
  have e' : ((cfg0.win 1).blk t).view.emb (ix3 0 ⟨j.val, by omega⟩ k) = ix3 ⟨min t.val 1, by omega⟩ ⟨j.val, by omega⟩ k := funext fun d => Fin.ext (by
    fin_cases d <;> blk_simp [idx t] <;> first | rfl | (show _ = _ ; simp only [ix3]; omega))
  rw [e, e', prep_v]
  refine if_congr ?_ rfl rfl
  show min t.val 1 < 1 ↔ 256 * t.val + r.val < 256
  omega
theorem blk_7 (k : Fin 256) : (iblk m c 7 t : Vec Ideal S1x256 .f32) (ix2 0 k) = A8 m c (ix1 (pos k)) := by
  have e : (iblk m c 7 t : Vec Ideal S1x256 .f32) (ix2 0 k) = (V m c main_v11 : FVec Ideal S1x256 .f32) (((cfg0.win 7).blk t).view.emb (ix2 0 k)) := rfl
  have e' : ((cfg0.win 7).blk t).view.emb (ix2 0 k) = ix2 0 k := funext fun d => Fin.ext (by fin_cases d <;> blk_simp [idx t] <;> rfl)
  rw [e, e', prep_n]
theorem blk_9 (k : Fin 1024) : (iblk m c 9 t : Vec Ideal S1x1024 .f32) (ix2 0 k) = A10 m c (ix1 k) := by
  have e : (iblk m c 9 t : Vec Ideal S1x1024 .f32) (ix2 0 k) = (V m c main_v13 : FVec Ideal S1x1024 .f32) (((cfg0.win 9).blk t).view.emb (ix2 0 k)) := rfl
  have e' : ((cfg0.win 9).blk t).view.emb (ix2 0 k) = ix2 0 k := funext fun d => Fin.ext (by fin_cases d <;> blk_simp [idx t] <;> rfl)
  rw [e, e', prep_n2]
theorem blk_8 (i : Fin 1024) (k : Fin 1024) : (iblk m c 8 t : Vec Ideal S1024x1024 .bf16) (ix2 i k) = A9 m c (ix2 i k) := by
  have e : (iblk m c 8 t : Vec Ideal S1024x1024 .bf16) (ix2 i k) = (V m c main_v12 : FVec Ideal S1024x1024 .bf16) (((cfg0.win 8).blk t).view.emb (ix2 i k)) := rfl
  have e' : ((cfg0.win 8).blk t).view.emb (ix2 i k) = ix2 i k := funext fun d => Fin.ext (by
    fin_cases d <;> blk_simp [idx t] <;> first | rfl | (show _ = _ ; simp only [ix2]; omega))
  rw [e, e', prep_w]
theorem blk_10 (i : Fin 1024) (k : Fin 4096) : (iblk m c 10 t : Vec Ideal S1024x4096 .bf16) (ix2 i k) = A11 m c (ix2 i k) := by
  have e : (iblk m c 10 t : Vec Ideal S1024x4096 .bf16) (ix2 i k) = (V m c main_v14 : FVec Ideal S1024x4096 .bf16) (((cfg0.win 10).blk t).view.emb (ix2 i k)) := rfl
  have e' : ((cfg0.win 10).blk t).view.emb (ix2 i k) = ix2 i k := funext fun d => Fin.ext (by
    fin_cases d <;> blk_simp [idx t] <;> first | rfl | (show _ = _ ; simp only [ix2]; omega))
  rw [e, e', prep_a]
theorem blk_11 (i : Fin 4096) (k : Fin 1024) : (iblk m c 11 t : Vec Ideal S4096x1024 .bf16) (ix2 i k) = A12 m c (ix2 i k) := by
  have e : (iblk m c 11 t : Vec Ideal S4096x1024 .bf16) (ix2 i k) = (V m c main_v15 : FVec Ideal S4096x1024 .bf16) (((cfg0.win 11).blk t).view.emb (ix2 i k)) := rfl
  have e' : ((cfg0.win 11).blk t).view.emb (ix2 i k) = ix2 i k := funext fun d => Fin.ext (by
    fin_cases d <;> blk_simp [idx t] <;> first | rfl | (show _ = _ ; simp only [ix2]; omega))
  rw [e, e', prep_b]
/-- A block's row is the arguments' row. -/
theorem row_eq : row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r = K m c (at_ t r) := row_of (p := K m c (at_ t r)) (blk_0 m c t r) (blk_1 m c t r) (blk_2 m c t r) (fun k => congrArg₂ (fun a b : EReal => a + b) (blk_3 m c t r k) (blk_4 m c t r k))
  (blk_5 m c t r) (blk_7 m c t) (blk_6 m c t r) (blk_8 m c t) (blk_9 m c t) (blk_10 m c t) (blk_11 m c t)
end

/-! ## The results -/

theorem final_x1 : (dats m 0 c).arrAt 12 (cfgs 0).N = fun y : S8448x1024.Idx => (K m c (y 0)).x1 (y 1) := by
  refine (dats m 0 c).arrAt_eq_of_covers 12 _ (by decide +kernel) fun t hf y => ?_
  have e : ∀ z : S256x1024.Idx, (dats m 0 c).after 12 t z = (K m c (at_ t (z 0))).x1 (z 1) := by
    intro z
    rw [after0_12]
    exact (out_x1 _ _ _ _ _ _ _ _ _ _ _ _ z).trans (congrArg (fun p : Args => p.x1 (z 1)) (row_eq m c t (z 0)))
  blk_simp
  rw [e]
  have core : ∀ (i i' : Fin 8448) (k k' : Fin 1024), i = i' → k = k' → (K m c i).x1 k = (K m c i').x1 k' := by
    rintro i _ k _ rfl rfl; rfl
  refine core _ _ _ _ (Fin.ext ?_) (Fin.ext ?_) <;> blk_simp [idx t] <;> first | rfl | (show _ = _ ; simp only [ix2, at_]; omega)
theorem final_x2 : (dats m 0 c).arrAt 13 (cfgs 0).N = fun y : S8448x1024.Idx => (K m c (y 0)).x2 (y 1) := by
  refine (dats m 0 c).arrAt_eq_of_covers 13 _ (by decide +kernel) fun t hf y => ?_
  have e : ∀ z : S256x1024.Idx, (dats m 0 c).after 13 t z = (K m c (at_ t (z 0))).x2 (z 1) := by
    intro z
    rw [after0_13]
    exact (congrFun (out_x2 _ _ _ _ _ _ _ _ _ _ _ _) z).trans (congrArg (fun p : Args => p.x2 (z 1)) (row_eq m c t (z 0)))
  blk_simp
  rw [e]
  have core : ∀ (i i' : Fin 8448) (k k' : Fin 1024), i = i' → k = k' → (K m c i).x2 k = (K m c i').x2 k' := by
    rintro i _ k _ rfl rfl; rfl
  refine core _ _ _ _ (Fin.ext ?_) (Fin.ext ?_) <;> blk_simp [idx t] <;> first | rfl | (show _ = _ ; simp only [ix2, at_]; omega)
theorem final_f : (dats m 0 c).arrAt 14 (cfgs 0).N = fun y : S8448x1024.Idx => (K m c (y 0)).f (y 1) := by
  refine (dats m 0 c).arrAt_eq_of_covers 14 _ (by decide +kernel) fun t hf y => ?_
  have e : ∀ z : S256x1024.Idx, (dats m 0 c).after 14 t z = (K m c (at_ t (z 0))).f (z 1) := by
    intro z
    rw [after0_14]
    exact (congrFun (out_f _ _ _ _ _ _ _ _ _ _ _ _) z).trans (congrArg (fun p : Args => p.f (z 1)) (row_eq m c t (z 0)))
  blk_simp
  rw [e]
  have core : ∀ (i i' : Fin 8448) (k k' : Fin 1024), i = i' → k = k' → (K m c i).f k = (K m c i').f k' := by
    rintro i _ k _ rfl rfl; rfl
  refine core _ _ _ _ (Fin.ext ?_) (Fin.ext ?_) <;> blk_simp [idx t] <;> first | rfl | (show _ = _ ; simp only [ix2, at_]; omega)
end

/-- The reference ends with its arguments unchanged and no counter raised. -/
theorem quiescent_reference : Cert.quiescent_OutFfnFwdReferenceIdeal := fun m ρ _ =>
  (θ_run Cert.OutFfnFwdReferenceIdeal.defs _ _).mono (fun r h => ⟨fun c => (h c).2.2.2, sem_eq_zero_of_no_sems (by decide) r.2⟩)
    (Cert.OutFfnFwdReferenceIdeal.Value.run (F := Ideal) m ρ)

open Cert.OutFfnFwdReferenceIdeal.Read in
/-- The call's three results are the reference's, over the extended reals. -/
theorem algebraic : Cert.algebraic_OutFfnFwdIdeal_OutFfnFwdReferenceIdeal := by
  intro m ρ m' ρ' _ hagree
  refine ⟨_, _, _, Cert.OutFfnFwdIdeal.Value.run_blocks (F := Ideal) m ρ, ?_⟩
  refine (θ_run Cert.OutFfnFwdReferenceIdeal.defs _ _).mono (fun _ h c => ?_) (Cert.OutFfnFwdReferenceIdeal.Value.run (F := Ideal) m' ρ')
  obtain ⟨r0, r1, r2, ha⟩ := h c
  obtain ⟨e0, e1, e2, e3, e4, e5, e6, e7, e8, e9, e10, e11, e12⟩ := hagree c
  refine ⟨r0.trans ?_, r1.trans ?_, r2.trans ?_, ha⟩
  · refine (val_main_v45_eq (F := Ideal) _).trans ?_
    show val_main_v45 (F := Ideal) (m' ((c.tc : Thread Cert.OutFfnFwdReferenceIdeal.nD Cert.OutFfnFwdReferenceIdeal.τ).loc Cert.OutFfnFwdReferenceIdeal.main_arg0)) (m' ((c.tc : Thread Cert.OutFfnFwdReferenceIdeal.nD Cert.OutFfnFwdReferenceIdeal.τ).loc Cert.OutFfnFwdReferenceIdeal.main_arg1)) (m' ((c.tc : Thread Cert.OutFfnFwdReferenceIdeal.nD Cert.OutFfnFwdReferenceIdeal.τ).loc Cert.OutFfnFwdReferenceIdeal.main_arg2)) (m' ((c.tc : Thread Cert.OutFfnFwdReferenceIdeal.nD Cert.OutFfnFwdReferenceIdeal.τ).loc Cert.OutFfnFwdReferenceIdeal.main_arg3)) (m' ((c.tc : Thread Cert.OutFfnFwdReferenceIdeal.nD Cert.OutFfnFwdReferenceIdeal.τ).loc Cert.OutFfnFwdReferenceIdeal.main_arg4)) (m' ((c.tc : Thread Cert.OutFfnFwdReferenceIdeal.nD Cert.OutFfnFwdReferenceIdeal.τ).loc Cert.OutFfnFwdReferenceIdeal.main_arg5)) (m' ((c.tc : Thread Cert.OutFfnFwdReferenceIdeal.nD Cert.OutFfnFwdReferenceIdeal.τ).loc Cert.OutFfnFwdReferenceIdeal.main_arg6)) (m' ((c.tc : Thread Cert.OutFfnFwdReferenceIdeal.nD Cert.OutFfnFwdReferenceIdeal.τ).loc Cert.OutFfnFwdReferenceIdeal.main_arg7)) (m' ((c.tc : Thread Cert.OutFfnFwdReferenceIdeal.nD Cert.OutFfnFwdReferenceIdeal.τ).loc Cert.OutFfnFwdReferenceIdeal.main_arg8)) (m' ((c.tc : Thread Cert.OutFfnFwdReferenceIdeal.nD Cert.OutFfnFwdReferenceIdeal.τ).loc Cert.OutFfnFwdReferenceIdeal.main_arg9)) = _
    rw [e0, e1, e2, e3, e4, e5, e6, e7, e8, e9]
    exact (of_pairs (ref_x1 _ _ _ _ _ _ _ _ _ _ _ _ _)).trans (final_x1 m c).symm
  · refine (val_main_v107_eq (F := Ideal) _).trans ?_
    show val_main_v107 (F := Ideal) (m' ((c.tc : Thread Cert.OutFfnFwdReferenceIdeal.nD Cert.OutFfnFwdReferenceIdeal.τ).loc Cert.OutFfnFwdReferenceIdeal.main_arg0)) (m' ((c.tc : Thread Cert.OutFfnFwdReferenceIdeal.nD Cert.OutFfnFwdReferenceIdeal.τ).loc Cert.OutFfnFwdReferenceIdeal.main_arg1)) (m' ((c.tc : Thread Cert.OutFfnFwdReferenceIdeal.nD Cert.OutFfnFwdReferenceIdeal.τ).loc Cert.OutFfnFwdReferenceIdeal.main_arg2)) (m' ((c.tc : Thread Cert.OutFfnFwdReferenceIdeal.nD Cert.OutFfnFwdReferenceIdeal.τ).loc Cert.OutFfnFwdReferenceIdeal.main_arg3)) (m' ((c.tc : Thread Cert.OutFfnFwdReferenceIdeal.nD Cert.OutFfnFwdReferenceIdeal.τ).loc Cert.OutFfnFwdReferenceIdeal.main_arg4)) (m' ((c.tc : Thread Cert.OutFfnFwdReferenceIdeal.nD Cert.OutFfnFwdReferenceIdeal.τ).loc Cert.OutFfnFwdReferenceIdeal.main_arg5)) (m' ((c.tc : Thread Cert.OutFfnFwdReferenceIdeal.nD Cert.OutFfnFwdReferenceIdeal.τ).loc Cert.OutFfnFwdReferenceIdeal.main_arg6)) (m' ((c.tc : Thread Cert.OutFfnFwdReferenceIdeal.nD Cert.OutFfnFwdReferenceIdeal.τ).loc Cert.OutFfnFwdReferenceIdeal.main_arg7)) (m' ((c.tc : Thread Cert.OutFfnFwdReferenceIdeal.nD Cert.OutFfnFwdReferenceIdeal.τ).loc Cert.OutFfnFwdReferenceIdeal.main_arg8)) (m' ((c.tc : Thread Cert.OutFfnFwdReferenceIdeal.nD Cert.OutFfnFwdReferenceIdeal.τ).loc Cert.OutFfnFwdReferenceIdeal.main_arg9)) (m' ((c.tc : Thread Cert.OutFfnFwdReferenceIdeal.nD Cert.OutFfnFwdReferenceIdeal.τ).loc Cert.OutFfnFwdReferenceIdeal.main_arg10)) (m' ((c.tc : Thread Cert.OutFfnFwdReferenceIdeal.nD Cert.OutFfnFwdReferenceIdeal.τ).loc Cert.OutFfnFwdReferenceIdeal.main_arg11)) (m' ((c.tc : Thread Cert.OutFfnFwdReferenceIdeal.nD Cert.OutFfnFwdReferenceIdeal.τ).loc Cert.OutFfnFwdReferenceIdeal.main_arg12)) = _
    rw [e0, e1, e2, e3, e4, e5, e6, e7, e8, e9, e10, e11, e12]
    exact (of_pairs (ref_x2 _ _ _ _ _ _ _ _ _ _ _ _ _)).trans (final_x2 m c).symm
  · refine (val_main_v94_eq (F := Ideal) _).trans ?_
    show val_main_v94 (F := Ideal) (m' ((c.tc : Thread Cert.OutFfnFwdReferenceIdeal.nD Cert.OutFfnFwdReferenceIdeal.τ).loc Cert.OutFfnFwdReferenceIdeal.main_arg0)) (m' ((c.tc : Thread Cert.OutFfnFwdReferenceIdeal.nD Cert.OutFfnFwdReferenceIdeal.τ).loc Cert.OutFfnFwdReferenceIdeal.main_arg1)) (m' ((c.tc : Thread Cert.OutFfnFwdReferenceIdeal.nD Cert.OutFfnFwdReferenceIdeal.τ).loc Cert.OutFfnFwdReferenceIdeal.main_arg2)) (m' ((c.tc : Thread Cert.OutFfnFwdReferenceIdeal.nD Cert.OutFfnFwdReferenceIdeal.τ).loc Cert.OutFfnFwdReferenceIdeal.main_arg3)) (m' ((c.tc : Thread Cert.OutFfnFwdReferenceIdeal.nD Cert.OutFfnFwdReferenceIdeal.τ).loc Cert.OutFfnFwdReferenceIdeal.main_arg4)) (m' ((c.tc : Thread Cert.OutFfnFwdReferenceIdeal.nD Cert.OutFfnFwdReferenceIdeal.τ).loc Cert.OutFfnFwdReferenceIdeal.main_arg5)) (m' ((c.tc : Thread Cert.OutFfnFwdReferenceIdeal.nD Cert.OutFfnFwdReferenceIdeal.τ).loc Cert.OutFfnFwdReferenceIdeal.main_arg6)) (m' ((c.tc : Thread Cert.OutFfnFwdReferenceIdeal.nD Cert.OutFfnFwdReferenceIdeal.τ).loc Cert.OutFfnFwdReferenceIdeal.main_arg7)) (m' ((c.tc : Thread Cert.OutFfnFwdReferenceIdeal.nD Cert.OutFfnFwdReferenceIdeal.τ).loc Cert.OutFfnFwdReferenceIdeal.main_arg8)) (m' ((c.tc : Thread Cert.OutFfnFwdReferenceIdeal.nD Cert.OutFfnFwdReferenceIdeal.τ).loc Cert.OutFfnFwdReferenceIdeal.main_arg9)) (m' ((c.tc : Thread Cert.OutFfnFwdReferenceIdeal.nD Cert.OutFfnFwdReferenceIdeal.τ).loc Cert.OutFfnFwdReferenceIdeal.main_arg10)) (m' ((c.tc : Thread Cert.OutFfnFwdReferenceIdeal.nD Cert.OutFfnFwdReferenceIdeal.τ).loc Cert.OutFfnFwdReferenceIdeal.main_arg11)) (m' ((c.tc : Thread Cert.OutFfnFwdReferenceIdeal.nD Cert.OutFfnFwdReferenceIdeal.τ).loc Cert.OutFfnFwdReferenceIdeal.main_arg12)) = _
    rw [e0, e1, e2, e3, e4, e5, e6, e7, e8, e9, e10, e11, e12]
    exact (of_pairs (ref_f _ _ _ _ _ _ _ _ _ _ _ _ _)).trans (final_f m c).symm

end Cert.OutRows

end
-- ==== Proof.AdamClaim.lean ====
/- # The claims of `adamw_w_mod` and `adamw_w_ff1`

The optimiser's step for one device's columns of the modulation's weight, and for its columns of `w_ff1` after the sum of the four chips'
gradients: every block of the kernel is the reference's array at that block's elements, with no precondition.
-/
module

public import proofs.«01_k».proof.Defs
public import proofs.«01_k».proof.Proof.Base
public import proofs.«01_k».proof.Proof.Gen.AdamwMod.Frame
public import proofs.«01_k».proof.Proof.Gen.AdamwModIdeal.Value
public import proofs.«01_k».proof.Proof.Gen.AdamwModReferenceIdeal.Read
public import proofs.«01_k».proof.Proof.Gen.AdamwFf1.Frame
public import proofs.«01_k».proof.Proof.Gen.AdamwFf1Ideal.Value
public import proofs.«01_k».proof.Proof.Gen.AdamwFf1ReferenceIdeal.Read
public import Idealize.ShloMosaic.Adequacy
public import Idealize.ShloMosaic.Init
public import Idealize.ShloMosaic.Lib.Pipeline.ValueKit
public import Idealize.ShloMosaic.Lib.StableHlo.RunRead
public import Idealize.ShloMosaic.Lib.Quiescent
public import Idealize.ShloMosaic.Lib.Tactic.ValueTie

@[expose] public section

set_option maxRecDepth 16384

noncomputable section

namespace Cert.Adam

open Idealize.ShloMosaic Idealize.ShloMosaic.TcCoe Idealize.SL.Sem

theorem hz2 : (![0, 0] : Fin 2 → ℕ) = fun _ => 0 := funext fun k => by fin_cases k <;> rfl
theorem pair {a b : ℕ} (x : (⟨2, ![a, b]⟩ : Shape).Idx) : ∃ (r : Fin a) (k : Fin b), x = ix2 r k :=
  ⟨x 0, x 1, funext fun d => by fin_cases d <;> rfl⟩
theorem hz3 : (![0, 0, 0] : Fin 3 → ℕ) = fun _ => 0 := funext fun k => by fin_cases k <;> rfl

/-! ## `adamw_w_mod` -/

namespace AdamwMod
open Cert.AdamwModIdeal Cert.AdamwModIdeal.Gen Cert.AdamwModIdeal.Value
open Cert.AdamwModReferenceIdeal.Read

section
variable (G : FVec Ideal S2048x768 .f32) (W M U : FVec Ideal S2048x768 .f32)
  (g : Vec Ideal S1x256x768 .f32) (w a u : Vec Ideal S256x768 .f32) (x : S256x768.Idx) (i : S2048x768.Idx)
  (hg : g (ix3 0 (x 0) (x 1)) = G i) (hw : w x = W i) (ha : a x = M i) (hu : u x = U i)
include hg
theorem grad_at : k0_pay1 g x = G i := by
  pointwise [k0_pay1]
  exact hg
include ha in
theorem mom_at : k0_pay2 g a x = val_main_v4 (F := Ideal) G M i := by
  pointwise [k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  rw [hg, ha]
include hu in
theorem var_at : k0_pay3 g u x = val_main_v10 (F := Ideal) G U i := by
  pointwise [k0_pay3, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  rw [hg, hu]
include hw ha hu in
theorem step_at : k0_pay4 g a u w x = val_main_v23 (F := Ideal) G W M U i := by
  pointwise [k0_pay4, k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  rw [hg, hw, ha, hu]
end

variable (m : (ℓ : Loc nD τ sig) → Buf (Elt Ideal) ℓ) (c : Dev nD)
/-- What the arguments hold. -/
abbrev A0 : FVec Ideal S2048x768 .f32 := m ((c.tc : Thread nD τ).loc main_arg0)
@[inherit_doc A0] abbrev A1 : FVec Ideal S2048x768 .f32 := m ((c.tc : Thread nD τ).loc main_arg1)
@[inherit_doc A0] abbrev A2 : FVec Ideal S2048x768 .f32 := m ((c.tc : Thread nD τ).loc main_arg2)
@[inherit_doc A0] abbrev A3 : FVec Ideal S2048x768 .f32 := m ((c.tc : Thread nD τ).loc main_arg3)
theorem prep : @Eq (FVec Ideal S1x2048x768 .f32) (V m c main_v0) (fun y => A0 m c (ix2 (y 1) (y 2))) := by
  have e : @Eq (FVec Ideal S1x2048x768 .f32) (V m c main_v0) (broadcastInDim S1x2048x768 ![1, 2] bcast_S2048x768_S1x2048x768_1_2 (A0 m c)) := by
    unfold V; after_reads_simp
    all_goals try rfl
  rw [e]; funext y
  pointwise

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)
theorem tlt (t : Fin cfg0.N) : t.val < 8 := Nat.lt_of_lt_of_eq t.isLt N_0
/-- A block's element among all. -/
def at_ (t : Fin cfg0.N) (x : S256x768.Idx) : S2048x768.Idx :=
  ix2 (⟨256 * t.val + (x 0).val, by have := tlt t; have : (x 0).val < 256 := (x 0).isLt; omega⟩ : Fin 2048) (x 1 : Fin 768)
theorem blk_1 (t : Fin cfg0.N) (x : S256x768.Idx) : (iblk m c 1 t : Vec Ideal S256x768 .f32) x = A1 m c (at_ t x) := by
  obtain ⟨r, k, rfl⟩ := pair x
  have e : (iblk m c 1 t : Vec Ideal S256x768 .f32) (ix2 r k) = (V m c main_arg1 : FVec Ideal S2048x768 .f32) (((cfg0.win 1).blk t).view.emb (ix2 r k)) := rfl
  rw [e, V_main_arg1]
  refine congrArg _ (funext fun k => Fin.ext ?_)
  fin_cases k <;> blk_simp [idx t] <;> first | rfl | (show _ = _ ; simp only [ix2, at_]; omega)
theorem blk_2 (t : Fin cfg0.N) (x : S256x768.Idx) : (iblk m c 2 t : Vec Ideal S256x768 .f32) x = A2 m c (at_ t x) := by
  obtain ⟨r, k, rfl⟩ := pair x
  have e : (iblk m c 2 t : Vec Ideal S256x768 .f32) (ix2 r k) = (V m c main_arg2 : FVec Ideal S2048x768 .f32) (((cfg0.win 2).blk t).view.emb (ix2 r k)) := rfl
  rw [e, V_main_arg2]
  refine congrArg _ (funext fun k => Fin.ext ?_)
  fin_cases k <;> blk_simp [idx t] <;> first | rfl | (show _ = _ ; simp only [ix2, at_]; omega)
theorem blk_3 (t : Fin cfg0.N) (x : S256x768.Idx) : (iblk m c 3 t : Vec Ideal S256x768 .f32) x = A3 m c (at_ t x) := by
  obtain ⟨r, k, rfl⟩ := pair x
  have e : (iblk m c 3 t : Vec Ideal S256x768 .f32) (ix2 r k) = (V m c main_arg3 : FVec Ideal S2048x768 .f32) (((cfg0.win 3).blk t).view.emb (ix2 r k)) := rfl
  rw [e, V_main_arg3]
  refine congrArg _ (funext fun k => Fin.ext ?_)
  fin_cases k <;> blk_simp [idx t] <;> first | rfl | (show _ = _ ; simp only [ix2, at_]; omega)
theorem blk_0 (t : Fin cfg0.N) (x : S256x768.Idx) : (iblk m c 0 t : Vec Ideal S1x256x768 .f32) (ix3 0 (x 0) (x 1)) = A0 m c (at_ t x) := by
  have e : (iblk m c 0 t : Vec Ideal S1x256x768 .f32) (ix3 0 (x 0) (x 1))
    = (V m c main_v0 : FVec Ideal S1x2048x768 .f32) (((cfg0.win 0).blk t).view.emb (ix3 0 (x 0) (x 1))) := rfl
  have e' : ((cfg0.win 0).blk t).view.emb (ix3 0 (x 0) (x 1)) = ix3 0 (at_ t x 0) (at_ t x 1) := funext fun k => Fin.ext (by
    fin_cases k <;> blk_simp [idx t] <;> first | rfl | (show _ = _ ; simp only [ix2, ix3, at_]; omega))
  rw [e, e', prep]
  exact congrArg _ (funext fun k => by fin_cases k <;> rfl)
theorem ld0 (x : Vec Ideal S1x256x768 .f32) : View.ld x r0_0 = x := View.ld_unit_zero hz3 _ _
theorem ld1 (x : Vec Ideal S256x768 .f32) : View.ld x r0_1 = x := View.ld_unit_zero hz2 _ _

/-- The results: the gradient, the step and the two new moments. -/
theorem final_4 : (dats m 0 c).arrAt 4 (cfgs 0).N = A0 m c := by
  refine (dats m 0 c).arrAt_eq_of_covers 4 _ (by decide +kernel) fun t hf y => ?_
  have e : ∀ z : S256x768.Idx, (dats m 0 c).after 4 t z = A0 m c (at_ t z) := by
    intro z
    rw [after0_4]; unfold out0_4
    rw [View.canon_unit_zero hz2]; simp only [ld0]
    exact grad_at _ _ _ _ (blk_0 m c t z)
  blk_simp
  rw [e]
  refine congrArg _ (funext fun k => Fin.ext ?_)
  fin_cases k <;> blk_simp [idx t] <;> first | rfl | exact congrArg (· + (y 0).val) (Nat.mul_comm 256 t.val)
theorem final_5 : (dats m 0 c).arrAt 5 (cfgs 0).N = val_main_v23 (F := Ideal) (A0 m c) (A1 m c) (A2 m c) (A3 m c) := by
  refine (dats m 0 c).arrAt_eq_of_covers 5 _ (by decide +kernel) fun t hf y => ?_
  have e : ∀ z : S256x768.Idx, (dats m 0 c).after 5 t z = (val_main_v23 (F := Ideal) (A0 m c) (A1 m c) (A2 m c) (A3 m c)) (at_ t z) := by
    intro z
    rw [after0_5]; unfold out0_5
    rw [View.canon_unit_zero hz2]; simp only [ld0, ld1]
    exact step_at _ _ _ _ _ _ _ _ _ _ (blk_0 m c t z) (blk_1 m c t z) (blk_2 m c t z) (blk_3 m c t z)
  blk_simp
  rw [e]
  refine congrArg _ (funext fun k => Fin.ext ?_)
  fin_cases k <;> blk_simp [idx t] <;> first | rfl | exact congrArg (· + (y 0).val) (Nat.mul_comm 256 t.val)
theorem final_6 : (dats m 0 c).arrAt 6 (cfgs 0).N = val_main_v4 (F := Ideal) (A0 m c) (A2 m c) := by
  refine (dats m 0 c).arrAt_eq_of_covers 6 _ (by decide +kernel) fun t hf y => ?_
  have e : ∀ z : S256x768.Idx, (dats m 0 c).after 6 t z = (val_main_v4 (F := Ideal) (A0 m c) (A2 m c)) (at_ t z) := by
    intro z
    rw [after0_6]; unfold out0_6
    rw [View.canon_unit_zero hz2]; simp only [ld0, ld1]
    exact mom_at _ _ _ _ _ _ (blk_0 m c t z) (blk_2 m c t z)
  blk_simp
  rw [e]
  refine congrArg _ (funext fun k => Fin.ext ?_)
  fin_cases k <;> blk_simp [idx t] <;> first | rfl | exact congrArg (· + (y 0).val) (Nat.mul_comm 256 t.val)
theorem final_7 : (dats m 0 c).arrAt 7 (cfgs 0).N = val_main_v10 (F := Ideal) (A0 m c) (A3 m c) := by
  refine (dats m 0 c).arrAt_eq_of_covers 7 _ (by decide +kernel) fun t hf y => ?_
  have e : ∀ z : S256x768.Idx, (dats m 0 c).after 7 t z = (val_main_v10 (F := Ideal) (A0 m c) (A3 m c)) (at_ t z) := by
    intro z
    rw [after0_7]; unfold out0_7
    rw [View.canon_unit_zero hz2]; simp only [ld0, ld1]
    exact var_at _ _ _ _ _ _ (blk_0 m c t z) (blk_3 m c t z)
  blk_simp
  rw [e]
  refine congrArg _ (funext fun k => Fin.ext ?_)
  fin_cases k <;> blk_simp [idx t] <;> first | rfl | exact congrArg (· + (y 0).val) (Nat.mul_comm 256 t.val)

/-- The reference ends with its arguments unchanged and no counter raised. -/
theorem quiescent : Cert.quiescent_AdamwModReferenceIdeal := fun m ρ _ =>
  (θ_run Cert.AdamwModReferenceIdeal.defs _ _).mono (fun r h => ⟨fun c => (h c).2.2.2.2, sem_eq_zero_of_no_sems (by decide) r.2⟩)
    (Cert.AdamwModReferenceIdeal.Value.run (F := Ideal) m ρ)

/-- The call's four results are the reference's, over the extended reals. -/
theorem algebraic : Cert.algebraic_AdamwModIdeal_AdamwModReferenceIdeal := by
  intro m ρ m' ρ' _ hagree
  refine ⟨_, _, _, _, Cert.AdamwModIdeal.Value.run_blocks (F := Ideal) m ρ, ?_⟩
  refine (θ_run Cert.AdamwModReferenceIdeal.defs _ _).mono (fun _ h c => ?_) (Cert.AdamwModReferenceIdeal.Value.run (F := Ideal) m' ρ')
  obtain ⟨r0, r1, r2, r3, ha⟩ := h c
  obtain ⟨e0, e1, e2, e3⟩ := hagree c
  refine ⟨r0.trans (e0.trans (final_4 m c).symm), r1.trans ?_, r2.trans ?_, r3.trans ?_, ha⟩
  · exact (Cert.AdamwModReferenceIdeal.Read.val_main_v23_eq (F := Ideal) _ _ _ _).trans
      ((congr (congr (congr (congrArg (val_main_v23 (F := Ideal)) e0) e1) e2) e3).trans (final_5 m c).symm)
  · exact (Cert.AdamwModReferenceIdeal.Read.val_main_v4_eq (F := Ideal) _ _).trans ((congr (congrArg (val_main_v4 (F := Ideal)) e0) e2).trans (final_6 m c).symm)
  · exact (Cert.AdamwModReferenceIdeal.Read.val_main_v10_eq (F := Ideal) _ _).trans ((congr (congrArg (val_main_v10 (F := Ideal)) e0) e3).trans (final_7 m c).symm)

end AdamwMod

/-! ## `adamw_w_ff1` -/

namespace AdamwFf1
open Cert.AdamwFf1Ideal Cert.AdamwFf1Ideal.Gen Cert.AdamwFf1Ideal.Value
open Cert.AdamwFf1ReferenceIdeal.Read

section
variable (G : FVec Ideal S4x2048x512 .bf16) (W M U : FVec Ideal S2048x512 .f32)
  (g h k l : Vec Ideal S1x512x512 .bf16) (w a u : Vec Ideal S512x512 .f32) (x : S512x512.Idx) (i : S2048x512.Idx)
  (h0 : g (ix3 0 (x 0) (x 1)) = G (ix3 0 (i 0) (i 1))) (h1 : h (ix3 0 (x 0) (x 1)) = G (ix3 1 (i 0) (i 1)))
  (h2 : k (ix3 0 (x 0) (x 1)) = G (ix3 2 (i 0) (i 1))) (h3 : l (ix3 0 (x 0) (x 1)) = G (ix3 3 (i 0) (i 1)))
  (hw : w x = W i) (ha : a x = M i) (hu : u x = U i)
include h0 h1 h2 h3
theorem grad_at : k0_pay2 g h k l x = val_main_v1 (F := Ideal) G i := by
  pointwise [k0_pay2, val_main_v1, val_main_v0, val_main_cst]
  rw [h0, h1, h2, h3, Fin.sum_univ_four]
  try rw [zero_add]
include ha in
theorem mom_at : k0_pay3 g h k l a x = val_main_v6 (F := Ideal) G M i := by
  have e := grad_at G g h k l x i h0 h1 h2 h3
  generalize hp : k0_pay2 (F := Ideal) g h k l = p at e
  generalize hq : val_main_v1 (F := Ideal) G = q at e
  pointwise [k0_pay3, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0]
  simp only [hp, hq]
  rw [e, ha]
include hu in
theorem var_at : k0_pay4 g h k l u x = val_main_v12 (F := Ideal) G U i := by
  have e := grad_at G g h k l x i h0 h1 h2 h3
  generalize hp : k0_pay2 (F := Ideal) g h k l = p at e
  generalize hq : val_main_v1 (F := Ideal) G = q at e
  pointwise [k0_pay4, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0]
  simp only [hp, hq]
  rw [e, hu]
include hw ha hu in
theorem step_at : k0_pay1 (k0_pay5 g h k l a) (k0_pay6 g h k l u) w x = val_main_v25 (F := Ideal) G W M U i := by
  have e := mom_at G M g h k l a x i h0 h1 h2 h3 ha
  have e' := var_at G U g h k l u x i h0 h1 h2 h3 hu
  generalize hp : k0_pay3 (F := Ideal) g h k l a = p at e
  generalize hq : val_main_v6 (F := Ideal) G M = q at e
  generalize hp' : k0_pay4 (F := Ideal) g h k l u = p' at e'
  generalize hq' : val_main_v12 (F := Ideal) G U = q' at e'
  pointwise [k0_pay1, k0_pay5, k0_pay6, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v11, val_main_v10, val_main_cst_3, val_main_v9, val_main_v8, val_main_v7, val_main_cst_2, val_main_v5, val_main_v4, val_main_cst_1, val_main_v3, val_main_v2, val_main_cst_0]
  simp only [hp, hq, hp', hq']
  rw [e, e', hw]
end

variable (m : (ℓ : Loc nD τ sig) → Buf (Elt Ideal) ℓ) (c : Dev nD)
/-- What the arguments hold. -/
abbrev A0 : FVec Ideal S4x2048x512 .bf16 := m ((c.tc : Thread nD τ).loc main_arg0)
@[inherit_doc A0] abbrev A1 : FVec Ideal S2048x512 .f32 := m ((c.tc : Thread nD τ).loc main_arg1)
@[inherit_doc A0] abbrev A2 : FVec Ideal S2048x512 .f32 := m ((c.tc : Thread nD τ).loc main_arg2)
@[inherit_doc A0] abbrev A3 : FVec Ideal S2048x512 .f32 := m ((c.tc : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)
theorem tlt (t : Fin cfg0.N) : t.val < 4 := Nat.lt_of_lt_of_eq t.isLt N_0
/-- A block's element among all. -/
def at_ (t : Fin cfg0.N) (x : S512x512.Idx) : S2048x512.Idx :=
  ix2 (⟨512 * t.val + (x 0).val, by have := tlt t; have : (x 0).val < 512 := (x 0).isLt; omega⟩ : Fin 2048) (x 1 : Fin 512)
theorem blk_1 (t : Fin cfg0.N) (x : S512x512.Idx) : (iblk m c 1 t : Vec Ideal S512x512 .f32) x = A1 m c (at_ t x) := by
  obtain ⟨r, k, rfl⟩ := pair x
  have e : (iblk m c 1 t : Vec Ideal S512x512 .f32) (ix2 r k) = (V m c main_arg1 : FVec Ideal S2048x512 .f32) (((cfg0.win 1).blk t).view.emb (ix2 r k)) := rfl
  rw [e, V_main_arg1]
  refine congrArg _ (funext fun k => Fin.ext ?_)
  fin_cases k <;> blk_simp [idx t] <;> first | rfl | (show _ = _ ; simp only [ix2, at_]; omega)
theorem blk_2 (t : Fin cfg0.N) (x : S512x512.Idx) : (iblk m c 2 t : Vec Ideal S512x512 .f32) x = A2 m c (at_ t x) := by
  obtain ⟨r, k, rfl⟩ := pair x
  have e : (iblk m c 2 t : Vec Ideal S512x512 .f32) (ix2 r k) = (V m c main_arg2 : FVec Ideal S2048x512 .f32) (((cfg0.win 2).blk t).view.emb (ix2 r k)) := rfl
  rw [e, V_main_arg2]
  refine congrArg _ (funext fun k => Fin.ext ?_)
  fin_cases k <;> blk_simp [idx t] <;> first | rfl | (show _ = _ ; simp only [ix2, at_]; omega)
theorem blk_3 (t : Fin cfg0.N) (x : S512x512.Idx) : (iblk m c 3 t : Vec Ideal S512x512 .f32) x = A3 m c (at_ t x) := by
  obtain ⟨r, k, rfl⟩ := pair x
  have e : (iblk m c 3 t : Vec Ideal S512x512 .f32) (ix2 r k) = (V m c main_arg3 : FVec Ideal S2048x512 .f32) (((cfg0.win 3).blk t).view.emb (ix2 r k)) := rfl
  rw [e, V_main_arg3]
  refine congrArg _ (funext fun k => Fin.ext ?_)
  fin_cases k <;> blk_simp [idx t] <;> first | rfl | (show _ = _ ; simp only [ix2, at_]; omega)
theorem blk_0 (t : Fin cfg0.N) (n : Fin 4) (x : S512x512.Idx) :
    (iblk m c 0 t : Vec Ideal S4x512x512 .bf16) (ix3 n (x 0) (x 1)) = A0 m c (ix3 n (at_ t x 0) (at_ t x 1)) := by
  have e : (iblk m c 0 t : Vec Ideal S4x512x512 .bf16) (ix3 n (x 0) (x 1))
    = (V m c main_arg0 : FVec Ideal S4x2048x512 .bf16) (((cfg0.win 0).blk t).view.emb (ix3 n (x 0) (x 1))) := rfl
  rw [e, V_main_arg0]
  refine congrArg _ (funext fun k => Fin.ext ?_)
  fin_cases k <;> blk_simp [idx t] <;> first | rfl | (show _ = _ ; simp only [ix2, ix3, at_]; omega)
theorem part_0 (t : Fin cfg0.N) (x : S512x512.Idx) :
    View.ld (iblk m c 0 t : Vec Ideal S4x512x512 .bf16) r0_0 (ix3 0 (x 0) (x 1)) = A0 m c (ix3 0 (at_ t x 0) (at_ t x 1)) := by
  refine Eq.trans (congrArg (iblk m c 0 t : Vec Ideal S4x512x512 .bf16) (funext fun k => Fin.ext ?_)) (blk_0 m c t 0 x)
  fin_cases k <;> first | rfl | exact (Nat.zero_add _).trans (Nat.one_mul _)
theorem part_1 (t : Fin cfg0.N) (x : S512x512.Idx) :
    View.ld (iblk m c 0 t : Vec Ideal S4x512x512 .bf16) r0_1 (ix3 0 (x 0) (x 1)) = A0 m c (ix3 1 (at_ t x 0) (at_ t x 1)) := by
  refine Eq.trans (congrArg (iblk m c 0 t : Vec Ideal S4x512x512 .bf16) (funext fun k => Fin.ext ?_)) (blk_0 m c t 1 x)
  fin_cases k <;> first | rfl | exact (Nat.zero_add _).trans (Nat.one_mul _)
theorem part_2 (t : Fin cfg0.N) (x : S512x512.Idx) :
    View.ld (iblk m c 0 t : Vec Ideal S4x512x512 .bf16) r0_2 (ix3 0 (x 0) (x 1)) = A0 m c (ix3 2 (at_ t x 0) (at_ t x 1)) := by
  refine Eq.trans (congrArg (iblk m c 0 t : Vec Ideal S4x512x512 .bf16) (funext fun k => Fin.ext ?_)) (blk_0 m c t 2 x)
  fin_cases k <;> first | rfl | exact (Nat.zero_add _).trans (Nat.one_mul _)
theorem part_3 (t : Fin cfg0.N) (x : S512x512.Idx) :
    View.ld (iblk m c 0 t : Vec Ideal S4x512x512 .bf16) r0_3 (ix3 0 (x 0) (x 1)) = A0 m c (ix3 3 (at_ t x 0) (at_ t x 1)) := by
  refine Eq.trans (congrArg (iblk m c 0 t : Vec Ideal S4x512x512 .bf16) (funext fun k => Fin.ext ?_)) (blk_0 m c t 3 x)
  fin_cases k <;> first | rfl | exact (Nat.zero_add _).trans (Nat.one_mul _)
theorem ld4 (x : Vec Ideal S512x512 .f32) : View.ld x r0_4 = x := View.ld_unit_zero hz2 _ _

/-- The results: the gradient, the step and the two new moments. -/
theorem final_4 : (dats m 0 c).arrAt 4 (cfgs 0).N = val_main_v1 (F := Ideal) (A0 m c) := by
  refine (dats m 0 c).arrAt_eq_of_covers 4 _ (by decide +kernel) fun t hf y => ?_
  have e : ∀ z : S512x512.Idx, (dats m 0 c).after 4 t z = (val_main_v1 (F := Ideal) (A0 m c)) (at_ t z) := by
    intro z
    rw [after0_4]; unfold out0_4
    rw [View.canon_unit_zero hz2]
    exact grad_at _ _ _ _ _ _ _ (part_0 m c t z) (part_1 m c t z) (part_2 m c t z) (part_3 m c t z)
  blk_simp
  rw [e]
  refine congrArg _ (funext fun k => Fin.ext ?_)
  fin_cases k <;> blk_simp [idx t] <;> first | rfl | exact congrArg (· + (y 0).val) (Nat.mul_comm 512 t.val)
theorem final_5 : (dats m 0 c).arrAt 5 (cfgs 0).N = val_main_v25 (F := Ideal) (A0 m c) (A1 m c) (A2 m c) (A3 m c) := by
  refine (dats m 0 c).arrAt_eq_of_covers 5 _ (by decide +kernel) fun t hf y => ?_
  have e : ∀ z : S512x512.Idx, (dats m 0 c).after 5 t z = (val_main_v25 (F := Ideal) (A0 m c) (A1 m c) (A2 m c) (A3 m c)) (at_ t z) := by
    intro z
    rw [after0_5]; unfold out0_5
    rw [View.canon_unit_zero hz2]; simp only [ld4]
    exact step_at _ _ _ _ _ _ _ _ _ _ _ _ _ (part_0 m c t z) (part_1 m c t z) (part_2 m c t z) (part_3 m c t z) (blk_1 m c t z) (blk_2 m c t z) (blk_3 m c t z)
  blk_simp
  rw [e]
  refine congrArg _ (funext fun k => Fin.ext ?_)
  fin_cases k <;> blk_simp [idx t] <;> first | rfl | exact congrArg (· + (y 0).val) (Nat.mul_comm 512 t.val)
theorem final_6 : (dats m 0 c).arrAt 6 (cfgs 0).N = val_main_v6 (F := Ideal) (A0 m c) (A2 m c) := by
  refine (dats m 0 c).arrAt_eq_of_covers 6 _ (by decide +kernel) fun t hf y => ?_
  have e : ∀ z : S512x512.Idx, (dats m 0 c).after 6 t z = (val_main_v6 (F := Ideal) (A0 m c) (A2 m c)) (at_ t z) := by
    intro z
    rw [after0_6]; unfold out0_6
    rw [View.canon_unit_zero hz2]; simp only [ld4]
    exact mom_at _ _ _ _ _ _ _ _ _ (part_0 m c t z) (part_1 m c t z) (part_2 m c t z) (part_3 m c t z) (blk_2 m c t z)
  blk_simp
  rw [e]
  refine congrArg _ (funext fun k => Fin.ext ?_)
  fin_cases k <;> blk_simp [idx t] <;> first | rfl | exact congrArg (· + (y 0).val) (Nat.mul_comm 512 t.val)
theorem final_7 : (dats m 0 c).arrAt 7 (cfgs 0).N = val_main_v12 (F := Ideal) (A0 m c) (A3 m c) := by
  refine (dats m 0 c).arrAt_eq_of_covers 7 _ (by decide +kernel) fun t hf y => ?_
  have e : ∀ z : S512x512.Idx, (dats m 0 c).after 7 t z = (val_main_v12 (F := Ideal) (A0 m c) (A3 m c)) (at_ t z) := by
    intro z
    rw [after0_7]; unfold out0_7
    rw [View.canon_unit_zero hz2]; simp only [ld4]
    exact var_at _ _ _ _ _ _ _ _ _ (part_0 m c t z) (part_1 m c t z) (part_2 m c t z) (part_3 m c t z) (blk_3 m c t z)
  blk_simp
  rw [e]
  refine congrArg _ (funext fun k => Fin.ext ?_)
  fin_cases k <;> blk_simp [idx t] <;> first | rfl | exact congrArg (· + (y 0).val) (Nat.mul_comm 512 t.val)

/-- The reference ends with its arguments unchanged and no counter raised. -/
theorem quiescent : Cert.quiescent_AdamwFf1ReferenceIdeal := fun m ρ _ =>
  (θ_run Cert.AdamwFf1ReferenceIdeal.defs _ _).mono (fun r h => ⟨fun c => (h c).2.2.2.2, sem_eq_zero_of_no_sems (by decide) r.2⟩)
    (Cert.AdamwFf1ReferenceIdeal.Value.run (F := Ideal) m ρ)

/-- The call's four results are the reference's, over the extended reals. -/
theorem algebraic : Cert.algebraic_AdamwFf1Ideal_AdamwFf1ReferenceIdeal := by
  intro m ρ m' ρ' _ hagree
  refine ⟨_, _, _, _, Cert.AdamwFf1Ideal.Value.run_blocks (F := Ideal) m ρ, ?_⟩
  refine (θ_run Cert.AdamwFf1ReferenceIdeal.defs _ _).mono (fun _ h c => ?_) (Cert.AdamwFf1ReferenceIdeal.Value.run (F := Ideal) m' ρ')
  obtain ⟨r0, r1, r2, r3, ha⟩ := h c
  obtain ⟨e0, e1, e2, e3⟩ := hagree c
  refine ⟨r0.trans ?_, r1.trans ?_, r2.trans ?_, r3.trans ?_, ha⟩
  · exact (Cert.AdamwFf1ReferenceIdeal.Read.val_main_v1_eq (F := Ideal) _).trans ((congrArg (val_main_v1 (F := Ideal)) e0).trans (final_4 m c).symm)
  · exact (Cert.AdamwFf1ReferenceIdeal.Read.val_main_v25_eq (F := Ideal) _ _ _ _).trans
      ((congr (congr (congr (congrArg (val_main_v25 (F := Ideal)) e0) e1) e2) e3).trans (final_5 m c).symm)
  · exact (Cert.AdamwFf1ReferenceIdeal.Read.val_main_v6_eq (F := Ideal) _ _).trans ((congr (congrArg (val_main_v6 (F := Ideal)) e0) e2).trans (final_6 m c).symm)
  · exact (Cert.AdamwFf1ReferenceIdeal.Read.val_main_v12_eq (F := Ideal) _ _).trans ((congr (congrArg (val_main_v12 (F := Ideal)) e0) e3).trans (final_7 m c).symm)

end AdamwFf1

end Cert.Adam

end
-- ==== Proof.lean ====
module

public import proofs.«01_k».proof.Defs
public import proofs.«01_k».proof.Proof.Gen.SiluBwd.Frame
public import proofs.«01_k».proof.Proof.Gen.MlaBwd
public import proofs.«01_k».proof.Proof.SiluClaim
public import proofs.«01_k».proof.Proof.MlaClaim
public import proofs.«01_k».proof.Proof.ModClaim
public import proofs.«01_k».proof.Proof.LossClaim
public import proofs.«01_k».proof.Proof.FfnClaim
public import proofs.«01_k».proof.Proof.OutClaim
public import proofs.«01_k».proof.Proof.Gen.ModFwd.Frame
public import proofs.«01_k».proof.Proof.ModFwdClaim
public import proofs.«01_k».proof.Proof.FwdClaim
public import proofs.«01_k».proof.Proof.AdamClaim
public import proofs.«01_k».proof.Proof.Gen.OutBwd.Frame
public import proofs.«01_k».proof.Proof.Gen.OutBwdIdeal.Frame
public import proofs.«01_k».proof.Proof.Gen.OutBwdIdeal.Skeleton
public import proofs.«01_k».proof.Proof.Gen.OutBwdReferenceIdeal.Run
public import proofs.«01_k».proof.Proof.Gen.OutBwdReferenceIdeal.Read
public import proofs.«01_k».proof.Proof.Gen.Pre_out_bwd_finite

@[expose] public section

noncomputable section

namespace Cert.Proof

open Idealize.ShloMosaic Idealize.SL.Sem

theorem claim : Cert.Claim := ⟨Cert.SiluBwd.Gen.facts, Cert.SiluBwdIdeal.Gen.facts, Cert.SiluBwdReferenceIdeal.Gen.facts,
  Cert.MlaBwd.Gen.facts, Cert.MlaBwdIdeal.Gen.facts, Cert.MlaBwdReferenceIdeal.Gen.facts,
  Cert.ModBwd.Gen.facts, Cert.ModBwdIdeal.Gen.facts, Cert.ModBwdReferenceIdeal.Gen.facts,
  Cert.FinalLoss.Gen.facts, Cert.FinalLossIdeal.Gen.facts, Cert.FinalLossReferenceIdeal.Gen.facts,
  Cert.FfnBwd.Gen.facts, Cert.FfnBwdIdeal.Gen.facts, Cert.FfnBwdReferenceIdeal.Gen.facts,
  Cert.OutBwd.Gen.facts, Cert.OutBwdIdeal.Gen.facts, Cert.OutBwdReferenceIdeal.Gen.facts,
  Cert.ModFwd.Gen.facts, Cert.ModFwdIdeal.Gen.facts, Cert.ModFwdReferenceIdeal.Gen.facts,
  Cert.OutFfnFwd.Gen.facts, Cert.OutFfnFwdIdeal.Gen.facts, Cert.OutFfnFwdReferenceIdeal.Gen.facts,
  Cert.AdamwMod.Gen.facts, Cert.AdamwModIdeal.Gen.facts, Cert.AdamwModReferenceIdeal.Gen.facts,
  Cert.AdamwFf1.Gen.facts, Cert.AdamwFf1Ideal.Gen.facts, Cert.AdamwFf1ReferenceIdeal.Gen.facts,
  Cert.Pre_silu_bwd_finite.Gen.facts, Cert.Pre_mla_bwd_finite.Gen.facts, Cert.Pre_out_bwd_finite.Gen.facts,
  fun m ρ _ => Cert.SiluBwd.Gen.frame m ρ, fun m ρ _ => Cert.SiluBwdIdeal.Gen.frame m ρ, fun m ρ _ => Cert.SiluBwdIdeal.Gen.frame m ρ,
  Cert.Silu.quiescent_reference, fun m ρ _ => Cert.Silu.quiescent_reference m ρ trivial,
  Cert.Mla.quiescent_kernel_bits, Cert.Mla.quiescent_kernel, fun m ρ _ => Cert.Mla.quiescent_kernel m ρ trivial,
  Cert.Mla.quiescent_reference, fun m ρ _ => Cert.Mla.quiescent_reference m ρ trivial,
  fun m ρ _ => Cert.ModBwd.Gen.frame m ρ, fun m ρ _ => Cert.ModBwdIdeal.Gen.frame m ρ, Cert.Mod.quiescent_reference,
  fun m ρ _ => Cert.FinalLoss.Gen.frame m ρ, fun m ρ _ => Cert.FinalLossIdeal.Gen.frame m ρ, Cert.Loss.quiescent_reference,
  Cert.Ffn.quiescent_bits, Cert.Ffn.quiescent_ideal, Cert.Ffn.quiescent_reference,
  Cert.Out.quiescent_bits, Cert.Out.quiescent_ideal, fun m ρ _ => Cert.Out.quiescent_ideal m ρ trivial,
  Cert.Out.quiescent_reference, fun m ρ _ => Cert.Out.quiescent_reference m ρ trivial,
  fun m ρ _ => Cert.ModFwd.Gen.frame m ρ, fun m ρ _ => Cert.ModFwdIdeal.Gen.frame m ρ, Cert.ModRows.quiescent_reference,
  fun m ρ _ => Cert.OutFfnFwd.Gen.frame m ρ, fun m ρ _ => Cert.OutFfnFwdIdeal.Gen.frame m ρ, Cert.OutRows.quiescent_reference,
  fun m ρ _ => Cert.AdamwMod.Gen.frame m ρ, fun m ρ _ => Cert.AdamwModIdeal.Gen.frame m ρ, Cert.Adam.AdamwMod.quiescent,
  fun m ρ _ => Cert.AdamwFf1.Gen.frame m ρ, fun m ρ _ => Cert.AdamwFf1Ideal.Gen.frame m ρ, Cert.Adam.AdamwFf1.quiescent,
  trivial, Cert.Silu.algebraic, Cert.Mla.preserves, Cert.Mla.algebraic, trivial, Cert.Mod.algebraic, trivial, Cert.Loss.algebraic,
  trivial, Cert.Ffn.algebraic, trivial, Cert.Out.algebraic, trivial, Cert.ModRows.algebraic, trivial, Cert.OutRows.algebraic,
  trivial, Cert.Adam.AdamwMod.algebraic, trivial, Cert.Adam.AdamwFf1.algebraic⟩

end Cert.Proof

end
